-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_tame [hPre_tame : Cert.Pre_tame.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tame.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_tame.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_tame.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tame [hPre_tame : Cert.Pre_tame.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tame.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_tame.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_tame.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_tame [hKernel2Ideal : Cert.Kernel2Ideal.Facts] [hPre_tame : Cert.Pre_tame.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_tame m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_tame [hReference2Ideal : Cert.Reference2Ideal.Facts] [hPre_tame : Cert.Pre_tame.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tame m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8)
      ∧ r.2.mem ((c.tc : Thread Cert.Kernel22.nD Cert.Kernel22.τ).loc Cert.Kernel22.main_arg9) = m ((c.tc : Thread Cert.Kernel22.nD Cert.Kernel22.τ).loc Cert.Kernel22.main_arg9)
      ∧ r.2.mem ((c.tc : Thread Cert.Kernel22.nD Cert.Kernel22.τ).loc Cert.Kernel22.main_arg10) = m ((c.tc : Thread Cert.Kernel22.nD Cert.Kernel22.τ).loc Cert.Kernel22.main_arg10)
      ∧ r.2.mem ((c.tc : Thread Cert.Kernel22.nD Cert.Kernel22.τ).loc Cert.Kernel22.main_arg11) = m ((c.tc : Thread Cert.Kernel22.nD Cert.Kernel22.τ).loc Cert.Kernel22.main_arg11)
      ∧ r.2.mem ((c.tc : Thread Cert.Kernel22.nD Cert.Kernel22.τ).loc Cert.Kernel22.main_arg12) = m ((c.tc : Thread Cert.Kernel22.nD Cert.Kernel22.τ).loc Cert.Kernel22.main_arg12)
      ∧ r.2.mem ((c.tc : Thread Cert.Kernel22.nD Cert.Kernel22.τ).loc Cert.Kernel22.main_arg13) = m ((c.tc : Thread Cert.Kernel22.nD Cert.Kernel22.τ).loc Cert.Kernel22.main_arg13)
      ∧ r.2.mem ((c.tc : Thread Cert.Kernel22.nD Cert.Kernel22.τ).loc Cert.Kernel22.main_arg14) = m ((c.tc : Thread Cert.Kernel22.nD Cert.Kernel22.τ).loc Cert.Kernel22.main_arg14)
      ∧ r.2.mem ((c.tc : Thread Cert.Kernel22.nD Cert.Kernel22.τ).loc Cert.Kernel22.main_arg15) = m ((c.tc : Thread Cert.Kernel22.nD Cert.Kernel22.τ).loc Cert.Kernel22.main_arg15)
      ∧ r.2.mem ((c.tc : Thread Cert.Kernel22.nD Cert.Kernel22.τ).loc Cert.Kernel22.main_arg16) = m ((c.tc : Thread Cert.Kernel22.nD Cert.Kernel22.τ).loc Cert.Kernel22.main_arg16)
      ∧ r.2.mem ((c.tc : Thread Cert.Kernel22.nD Cert.Kernel22.τ).loc Cert.Kernel22.main_arg17) = m ((c.tc : Thread Cert.Kernel22.nD Cert.Kernel22.τ).loc Cert.Kernel22.main_arg17)
      ∧ r.2.mem ((c.tc : Thread Cert.Kernel22.nD Cert.Kernel22.τ).loc Cert.Kernel22.main_arg18) = m ((c.tc : Thread Cert.Kernel22.nD Cert.Kernel22.τ).loc Cert.Kernel22.main_arg18)
      ∧ r.2.mem ((c.tc : Thread Cert.Kernel22.nD Cert.Kernel22.τ).loc Cert.Kernel22.main_arg19) = m ((c.tc : Thread Cert.Kernel22.nD Cert.Kernel22.τ).loc Cert.Kernel22.main_arg19)
      ∧ r.2.mem ((c.tc : Thread Cert.Kernel22.nD Cert.Kernel22.τ).loc Cert.Kernel22.main_arg20) = m ((c.tc : Thread Cert.Kernel22.nD Cert.Kernel22.τ).loc Cert.Kernel22.main_arg20)
      ∧ r.2.mem ((c.tc : Thread Cert.Kernel22.nD Cert.Kernel22.τ).loc Cert.Kernel22.main_arg21) = m ((c.tc : Thread Cert.Kernel22.nD Cert.Kernel22.τ).loc Cert.Kernel22.main_arg21)
      ∧ r.2.mem ((c.tc : Thread Cert.Kernel22.nD Cert.Kernel22.τ).loc Cert.Kernel22.main_arg22) = m ((c.tc : Thread Cert.Kernel22.nD Cert.Kernel22.τ).loc Cert.Kernel22.main_arg22)
      ∧ r.2.mem ((c.tc : Thread Cert.Kernel22.nD Cert.Kernel22.τ).loc Cert.Kernel22.main_arg23) = m ((c.tc : Thread Cert.Kernel22.nD Cert.Kernel22.τ).loc Cert.Kernel22.main_arg23)
      ∧ r.2.mem ((c.tc : Thread Cert.Kernel22.nD Cert.Kernel22.τ).loc Cert.Kernel22.main_arg24) = m ((c.tc : Thread Cert.Kernel22.nD Cert.Kernel22.τ).loc Cert.Kernel22.main_arg24)
      ∧ r.2.mem ((c.tc : Thread Cert.Kernel22.nD Cert.Kernel22.τ).loc Cert.Kernel22.main_arg25) = m ((c.tc : Thread Cert.Kernel22.nD Cert.Kernel22.τ).loc Cert.Kernel22.main_arg25)
      ∧ r.2.mem ((c.tc : Thread Cert.Kernel22.nD Cert.Kernel22.τ).loc Cert.Kernel22.main_arg26) = m ((c.tc : Thread Cert.Kernel22.nD Cert.Kernel22.τ).loc Cert.Kernel22.main_arg26)
      ∧ r.2.mem ((c.tc : Thread Cert.Kernel22.nD Cert.Kernel22.τ).loc Cert.Kernel22.main_arg27) = m ((c.tc : Thread Cert.Kernel22.nD Cert.Kernel22.τ).loc Cert.Kernel22.main_arg27)
      ∧ r.2.mem ((c.tc : Thread Cert.Kernel22.nD Cert.Kernel22.τ).loc Cert.Kernel22.main_arg28) = m ((c.tc : Thread Cert.Kernel22.nD Cert.Kernel22.τ).loc Cert.Kernel22.main_arg28)
      ∧ r.2.mem ((c.tc : Thread Cert.Kernel22.nD Cert.Kernel22.τ).loc Cert.Kernel22.main_arg29) = m ((c.tc : Thread Cert.Kernel22.nD Cert.Kernel22.τ).loc Cert.Kernel22.main_arg29)
      ∧ r.2.mem ((c.tc : Thread Cert.Kernel22.nD Cert.Kernel22.τ).loc Cert.Kernel22.main_arg30) = m ((c.tc : Thread Cert.Kernel22.nD Cert.Kernel22.τ).loc Cert.Kernel22.main_arg30)
      ∧ r.2.mem ((c.tc : Thread Cert.Kernel22.nD Cert.Kernel22.τ).loc Cert.Kernel22.main_arg31) = m ((c.tc : Thread Cert.Kernel22.nD Cert.Kernel22.τ).loc Cert.Kernel22.main_arg31)
      ∧ r.2.mem ((c.tc : Thread Cert.Kernel22.nD Cert.Kernel22.τ).loc Cert.Kernel22.main_arg32) = m ((c.tc : Thread Cert.Kernel22.nD Cert.Kernel22.τ).loc Cert.Kernel22.main_arg32)
      ∧ r.2.mem ((c.tc : Thread Cert.Kernel22.nD Cert.Kernel22.τ).loc Cert.Kernel22.main_arg33) = m ((c.tc : Thread Cert.Kernel22.nD Cert.Kernel22.τ).loc Cert.Kernel22.main_arg33)
      ∧ r.2.mem ((c.tc : Thread Cert.Kernel22.nD Cert.Kernel22.τ).loc Cert.Kernel22.main_arg34) = m ((c.tc : Thread Cert.Kernel22.nD Cert.Kernel22.τ).loc Cert.Kernel22.main_arg34)
      ∧ r.2.mem ((c.tc : Thread Cert.Kernel22.nD Cert.Kernel22.τ).loc Cert.Kernel22.main_arg35) = m ((c.tc : Thread Cert.Kernel22.nD Cert.Kernel22.τ).loc Cert.Kernel22.main_arg35)
      ∧ r.2.mem ((c.tc : Thread Cert.Kernel22.nD Cert.Kernel22.τ).loc Cert.Kernel22.main_arg36) = m ((c.tc : Thread Cert.Kernel22.nD Cert.Kernel22.τ).loc Cert.Kernel22.main_arg36)
      ∧ r.2.mem ((c.tc : Thread Cert.Kernel22.nD Cert.Kernel22.τ).loc Cert.Kernel22.main_arg37) = m ((c.tc : Thread Cert.Kernel22.nD Cert.Kernel22.τ).loc Cert.Kernel22.main_arg37)
      ∧ r.2.mem ((c.tc : Thread Cert.Kernel22.nD Cert.Kernel22.τ).loc Cert.Kernel22.main_arg38) = m ((c.tc : Thread Cert.Kernel22.nD Cert.Kernel22.τ).loc Cert.Kernel22.main_arg38)
      ∧ r.2.mem ((c.tc : Thread Cert.Kernel22.nD Cert.Kernel22.τ).loc Cert.Kernel22.main_arg39) = m ((c.tc : Thread Cert.Kernel22.nD Cert.Kernel22.τ).loc Cert.Kernel22.main_arg39)
      ∧ r.2.mem ((c.tc : Thread Cert.Kernel22.nD Cert.Kernel22.τ).loc Cert.Kernel22.main_arg40) = m ((c.tc : Thread Cert.Kernel22.nD Cert.Kernel22.τ).loc Cert.Kernel22.main_arg40)
      ∧ r.2.mem ((c.tc : Thread Cert.Kernel22.nD Cert.Kernel22.τ).loc Cert.Kernel22.main_arg41) = m ((c.tc : Thread Cert.Kernel22.nD Cert.Kernel22.τ).loc Cert.Kernel22.main_arg41)
      ∧ r.2.mem ((c.tc : Thread Cert.Kernel22.nD Cert.Kernel22.τ).loc Cert.Kernel22.main_arg42) = m ((c.tc : Thread Cert.Kernel22.nD Cert.Kernel22.τ).loc Cert.Kernel22.main_arg42)
      ∧ r.2.mem ((c.tc : Thread Cert.Kernel22.nD Cert.Kernel22.τ).loc Cert.Kernel22.main_arg43) = m ((c.tc : Thread Cert.Kernel22.nD Cert.Kernel22.τ).loc Cert.Kernel22.main_arg43)
      ∧ r.2.mem ((c.tc : Thread Cert.Kernel22.nD Cert.Kernel22.τ).loc Cert.Kernel22.main_arg44) = m ((c.tc : Thread Cert.Kernel22.nD Cert.Kernel22.τ).loc Cert.Kernel22.main_arg44)
      ∧ r.2.mem ((c.tc : Thread Cert.Kernel22.nD Cert.Kernel22.τ).loc Cert.Kernel22.main_arg45) = m ((c.tc : Thread Cert.Kernel22.nD Cert.Kernel22.τ).loc Cert.Kernel22.main_arg45)
      ∧ r.2.mem ((c.tc : Thread Cert.Kernel22.nD Cert.Kernel22.τ).loc Cert.Kernel22.main_arg46) = m ((c.tc : Thread Cert.Kernel22.nD Cert.Kernel22.τ).loc Cert.Kernel22.main_arg46)
      ∧ r.2.mem ((c.tc : Thread Cert.Kernel22.nD Cert.Kernel22.τ).loc Cert.Kernel22.main_arg47) = m ((c.tc : Thread Cert.Kernel22.nD Cert.Kernel22.τ).loc Cert.Kernel22.main_arg47)
      ∧ r.2.mem ((c.tc : Thread Cert.Kernel22.nD Cert.Kernel22.τ).loc Cert.Kernel22.main_arg48) = m ((c.tc : Thread Cert.Kernel22.nD Cert.Kernel22.τ).loc Cert.Kernel22.main_arg48)
      ∧ r.2.mem ((c.tc : Thread Cert.Kernel22.nD Cert.Kernel22.τ).loc Cert.Kernel22.main_arg49) = m ((c.tc : Thread Cert.Kernel22.nD Cert.Kernel22.τ).loc Cert.Kernel22.main_arg49)
      ∧ r.2.mem ((c.tc : Thread Cert.Kernel22.nD Cert.Kernel22.τ).loc Cert.Kernel22.main_arg50) = m ((c.tc : Thread Cert.Kernel22.nD Cert.Kernel22.τ).loc Cert.Kernel22.main_arg50)
      ∧ r.2.mem ((c.tc : Thread Cert.Kernel22.nD Cert.Kernel22.τ).loc Cert.Kernel22.main_arg51) = m ((c.tc : Thread Cert.Kernel22.nD Cert.Kernel22.τ).loc Cert.Kernel22.main_arg51)
      ∧ r.2.mem ((c.tc : Thread Cert.Kernel22.nD Cert.Kernel22.τ).loc Cert.Kernel22.main_arg52) = m ((c.tc : Thread Cert.Kernel22.nD Cert.Kernel22.τ).loc Cert.Kernel22.main_arg52)
      ∧ r.2.mem ((c.tc : Thread Cert.Kernel22.nD Cert.Kernel22.τ).loc Cert.Kernel22.main_arg53) = m ((c.tc : Thread Cert.Kernel22.nD Cert.Kernel22.τ).loc Cert.Kernel22.main_arg53)
      ∧ r.2.mem ((c.tc : Thread Cert.Kernel22.nD Cert.Kernel22.τ).loc Cert.Kernel22.main_arg54) = m ((c.tc : Thread Cert.Kernel22.nD Cert.Kernel22.τ).loc Cert.Kernel22.main_arg54)
      ∧ r.2.mem ((c.tc : Thread Cert.Kernel22.nD Cert.Kernel22.τ).loc Cert.Kernel22.main_arg55) = m ((c.tc : Thread Cert.Kernel22.nD Cert.Kernel22.τ).loc Cert.Kernel22.main_arg55)
      ∧ r.2.mem ((c.tc : Thread Cert.Kernel22.nD Cert.Kernel22.τ).loc Cert.Kernel22.main_arg56) = m ((c.tc : Thread Cert.Kernel22.nD Cert.Kernel22.τ).loc Cert.Kernel22.main_arg56)
      ∧ r.2.mem ((c.tc : Thread Cert.Kernel22.nD Cert.Kernel22.τ).loc Cert.Kernel22.main_arg57) = m ((c.tc : Thread Cert.Kernel22.nD Cert.Kernel22.τ).loc Cert.Kernel22.main_arg57)
      ∧ r.2.mem ((c.tc : Thread Cert.Kernel22.nD Cert.Kernel22.τ).loc Cert.Kernel22.main_arg58) = m ((c.tc : Thread Cert.Kernel22.nD Cert.Kernel22.τ).loc Cert.Kernel22.main_arg58)
      ∧ r.2.mem ((c.tc : Thread Cert.Kernel22.nD Cert.Kernel22.τ).loc Cert.Kernel22.main_arg59) = m ((c.tc : Thread Cert.Kernel22.nD Cert.Kernel22.τ).loc Cert.Kernel22.main_arg59)
      ∧ r.2.mem ((c.tc : Thread Cert.Kernel22.nD Cert.Kernel22.τ).loc Cert.Kernel22.main_arg60) = m ((c.tc : Thread Cert.Kernel22.nD Cert.Kernel22.τ).loc Cert.Kernel22.main_arg60)
      ∧ r.2.mem ((c.tc : Thread Cert.Kernel22.nD Cert.Kernel22.τ).loc Cert.Kernel22.main_arg61) = m ((c.tc : Thread Cert.Kernel22.nD Cert.Kernel22.τ).loc Cert.Kernel22.main_arg61)
      ∧ r.2.mem ((c.tc : Thread Cert.Kernel22.nD Cert.Kernel22.τ).loc Cert.Kernel22.main_arg62) = m ((c.tc : Thread Cert.Kernel22.nD Cert.Kernel22.τ).loc Cert.Kernel22.main_arg62)
      ∧ r.2.mem ((c.tc : Thread Cert.Kernel22.nD Cert.Kernel22.τ).loc Cert.Kernel22.main_arg63) = m ((c.tc : Thread Cert.Kernel22.nD Cert.Kernel22.τ).loc Cert.Kernel22.main_arg63)
      ∧ r.2.mem ((c.tc : Thread Cert.Kernel22.nD Cert.Kernel22.τ).loc Cert.Kernel22.main_arg64) = m ((c.tc : Thread Cert.Kernel22.nD Cert.Kernel22.τ).loc Cert.Kernel22.main_arg64)
      ∧ r.2.mem ((c.tc : Thread Cert.Kernel22.nD Cert.Kernel22.τ).loc Cert.Kernel22.main_arg65) = m ((c.tc : Thread Cert.Kernel22.nD Cert.Kernel22.τ).loc Cert.Kernel22.main_arg65)
      ∧ r.2.mem ((c.tc : Thread Cert.Kernel22.nD Cert.Kernel22.τ).loc Cert.Kernel22.main_arg66) = m ((c.tc : Thread Cert.Kernel22.nD Cert.Kernel22.τ).loc Cert.Kernel22.main_arg66)
      ∧ r.2.mem ((c.tc : Thread Cert.Kernel22.nD Cert.Kernel22.τ).loc Cert.Kernel22.main_arg67) = m ((c.tc : Thread Cert.Kernel22.nD Cert.Kernel22.τ).loc Cert.Kernel22.main_arg67)
      ∧ r.2.mem ((c.tc : Thread Cert.Kernel22.nD Cert.Kernel22.τ).loc Cert.Kernel22.main_arg68) = m ((c.tc : Thread Cert.Kernel22.nD Cert.Kernel22.τ).loc Cert.Kernel22.main_arg68)
      ∧ r.2.mem ((c.tc : Thread Cert.Kernel22.nD Cert.Kernel22.τ).loc Cert.Kernel22.main_arg69) = m ((c.tc : Thread Cert.Kernel22.nD Cert.Kernel22.τ).loc Cert.Kernel22.main_arg69)
      ∧ r.2.mem ((c.tc : Thread Cert.Kernel22.nD Cert.Kernel22.τ).loc Cert.Kernel22.main_arg70) = m ((c.tc : Thread Cert.Kernel22.nD Cert.Kernel22.τ).loc Cert.Kernel22.main_arg70)
      ∧ r.2.mem ((c.tc : Thread Cert.Kernel22.nD Cert.Kernel22.τ).loc Cert.Kernel22.main_arg71) = m ((c.tc : Thread Cert.Kernel22.nD Cert.Kernel22.τ).loc Cert.Kernel22.main_arg71))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
      ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
      ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
      ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
      ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
      ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
      ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
      ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
      ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
      ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
      ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
      ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
      ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
      ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
      ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
      ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
      ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
      ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
      ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
      ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
      ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28)
      ∧ r.2.mem ((c.tc : Thread Cert.Kernel22Ideal.nD Cert.Kernel22Ideal.τ).loc Cert.Kernel22Ideal.main_arg29) = m ((c.tc : Thread Cert.Kernel22Ideal.nD Cert.Kernel22Ideal.τ).loc Cert.Kernel22Ideal.main_arg29)
      ∧ r.2.mem ((c.tc : Thread Cert.Kernel22Ideal.nD Cert.Kernel22Ideal.τ).loc Cert.Kernel22Ideal.main_arg30) = m ((c.tc : Thread Cert.Kernel22Ideal.nD Cert.Kernel22Ideal.τ).loc Cert.Kernel22Ideal.main_arg30)
      ∧ r.2.mem ((c.tc : Thread Cert.Kernel22Ideal.nD Cert.Kernel22Ideal.τ).loc Cert.Kernel22Ideal.main_arg31) = m ((c.tc : Thread Cert.Kernel22Ideal.nD Cert.Kernel22Ideal.τ).loc Cert.Kernel22Ideal.main_arg31)
      ∧ r.2.mem ((c.tc : Thread Cert.Kernel22Ideal.nD Cert.Kernel22Ideal.τ).loc Cert.Kernel22Ideal.main_arg32) = m ((c.tc : Thread Cert.Kernel22Ideal.nD Cert.Kernel22Ideal.τ).loc Cert.Kernel22Ideal.main_arg32)
      ∧ r.2.mem ((c.tc : Thread Cert.Kernel22Ideal.nD Cert.Kernel22Ideal.τ).loc Cert.Kernel22Ideal.main_arg33) = m ((c.tc : Thread Cert.Kernel22Ideal.nD Cert.Kernel22Ideal.τ).loc Cert.Kernel22Ideal.main_arg33)
      ∧ r.2.mem ((c.tc : Thread Cert.Kernel22Ideal.nD Cert.Kernel22Ideal.τ).loc Cert.Kernel22Ideal.main_arg34) = m ((c.tc : Thread Cert.Kernel22Ideal.nD Cert.Kernel22Ideal.τ).loc Cert.Kernel22Ideal.main_arg34)
      ∧ r.2.mem ((c.tc : Thread Cert.Kernel22Ideal.nD Cert.Kernel22Ideal.τ).loc Cert.Kernel22Ideal.main_arg35) = m ((c.tc : Thread Cert.Kernel22Ideal.nD Cert.Kernel22Ideal.τ).loc Cert.Kernel22Ideal.main_arg35)
      ∧ r.2.mem ((c.tc : Thread Cert.Kernel22Ideal.nD Cert.Kernel22Ideal.τ).loc Cert.Kernel22Ideal.main_arg36) = m ((c.tc : Thread Cert.Kernel22Ideal.nD Cert.Kernel22Ideal.τ).loc Cert.Kernel22Ideal.main_arg36)
      ∧ r.2.mem ((c.tc : Thread Cert.Kernel22Ideal.nD Cert.Kernel22Ideal.τ).loc Cert.Kernel22Ideal.main_arg37) = m ((c.tc : Thread Cert.Kernel22Ideal.nD Cert.Kernel22Ideal.τ).loc Cert.Kernel22Ideal.main_arg37)
      ∧ r.2.mem ((c.tc : Thread Cert.Kernel22Ideal.nD Cert.Kernel22Ideal.τ).loc Cert.Kernel22Ideal.main_arg38) = m ((c.tc : Thread Cert.Kernel22Ideal.nD Cert.Kernel22Ideal.τ).loc Cert.Kernel22Ideal.main_arg38)
      ∧ r.2.mem ((c.tc : Thread Cert.Kernel22Ideal.nD Cert.Kernel22Ideal.τ).loc Cert.Kernel22Ideal.main_arg39) = m ((c.tc : Thread Cert.Kernel22Ideal.nD Cert.Kernel22Ideal.τ).loc Cert.Kernel22Ideal.main_arg39)
      ∧ r.2.mem ((c.tc : Thread Cert.Kernel22Ideal.nD Cert.Kernel22Ideal.τ).loc Cert.Kernel22Ideal.main_arg40) = m ((c.tc : Thread Cert.Kernel22Ideal.nD Cert.Kernel22Ideal.τ).loc Cert.Kernel22Ideal.main_arg40)
      ∧ r.2.mem ((c.tc : Thread Cert.Kernel22Ideal.nD Cert.Kernel22Ideal.τ).loc Cert.Kernel22Ideal.main_arg41) = m ((c.tc : Thread Cert.Kernel22Ideal.nD Cert.Kernel22Ideal.τ).loc Cert.Kernel22Ideal.main_arg41)
      ∧ r.2.mem ((c.tc : Thread Cert.Kernel22Ideal.nD Cert.Kernel22Ideal.τ).loc Cert.Kernel22Ideal.main_arg42) = m ((c.tc : Thread Cert.Kernel22Ideal.nD Cert.Kernel22Ideal.τ).loc Cert.Kernel22Ideal.main_arg42)
      ∧ r.2.mem ((c.tc : Thread Cert.Kernel22Ideal.nD Cert.Kernel22Ideal.τ).loc Cert.Kernel22Ideal.main_arg43) = m ((c.tc : Thread Cert.Kernel22Ideal.nD Cert.Kernel22Ideal.τ).loc Cert.Kernel22Ideal.main_arg43)
      ∧ r.2.mem ((c.tc : Thread Cert.Kernel22Ideal.nD Cert.Kernel22Ideal.τ).loc Cert.Kernel22Ideal.main_arg44) = m ((c.tc : Thread Cert.Kernel22Ideal.nD Cert.Kernel22Ideal.τ).loc Cert.Kernel22Ideal.main_arg44)
      ∧ r.2.mem ((c.tc : Thread Cert.Kernel22Ideal.nD Cert.Kernel22Ideal.τ).loc Cert.Kernel22Ideal.main_arg45) = m ((c.tc : Thread Cert.Kernel22Ideal.nD Cert.Kernel22Ideal.τ).loc Cert.Kernel22Ideal.main_arg45)
      ∧ r.2.mem ((c.tc : Thread Cert.Kernel22Ideal.nD Cert.Kernel22Ideal.τ).loc Cert.Kernel22Ideal.main_arg46) = m ((c.tc : Thread Cert.Kernel22Ideal.nD Cert.Kernel22Ideal.τ).loc Cert.Kernel22Ideal.main_arg46)
      ∧ r.2.mem ((c.tc : Thread Cert.Kernel22Ideal.nD Cert.Kernel22Ideal.τ).loc Cert.Kernel22Ideal.main_arg47) = m ((c.tc : Thread Cert.Kernel22Ideal.nD Cert.Kernel22Ideal.τ).loc Cert.Kernel22Ideal.main_arg47)
      ∧ r.2.mem ((c.tc : Thread Cert.Kernel22Ideal.nD Cert.Kernel22Ideal.τ).loc Cert.Kernel22Ideal.main_arg48) = m ((c.tc : Thread Cert.Kernel22Ideal.nD Cert.Kernel22Ideal.τ).loc Cert.Kernel22Ideal.main_arg48)
      ∧ r.2.mem ((c.tc : Thread Cert.Kernel22Ideal.nD Cert.Kernel22Ideal.τ).loc Cert.Kernel22Ideal.main_arg49) = m ((c.tc : Thread Cert.Kernel22Ideal.nD Cert.Kernel22Ideal.τ).loc Cert.Kernel22Ideal.main_arg49)
      ∧ r.2.mem ((c.tc : Thread Cert.Kernel22Ideal.nD Cert.Kernel22Ideal.τ).loc Cert.Kernel22Ideal.main_arg50) = m ((c.tc : Thread Cert.Kernel22Ideal.nD Cert.Kernel22Ideal.τ).loc Cert.Kernel22Ideal.main_arg50)
      ∧ r.2.mem ((c.tc : Thread Cert.Kernel22Ideal.nD Cert.Kernel22Ideal.τ).loc Cert.Kernel22Ideal.main_arg51) = m ((c.tc : Thread Cert.Kernel22Ideal.nD Cert.Kernel22Ideal.τ).loc Cert.Kernel22Ideal.main_arg51)
      ∧ r.2.mem ((c.tc : Thread Cert.Kernel22Ideal.nD Cert.Kernel22Ideal.τ).loc Cert.Kernel22Ideal.main_arg52) = m ((c.tc : Thread Cert.Kernel22Ideal.nD Cert.Kernel22Ideal.τ).loc Cert.Kernel22Ideal.main_arg52)
      ∧ r.2.mem ((c.tc : Thread Cert.Kernel22Ideal.nD Cert.Kernel22Ideal.τ).loc Cert.Kernel22Ideal.main_arg53) = m ((c.tc : Thread Cert.Kernel22Ideal.nD Cert.Kernel22Ideal.τ).loc Cert.Kernel22Ideal.main_arg53)
      ∧ r.2.mem ((c.tc : Thread Cert.Kernel22Ideal.nD Cert.Kernel22Ideal.τ).loc Cert.Kernel22Ideal.main_arg54) = m ((c.tc : Thread Cert.Kernel22Ideal.nD Cert.Kernel22Ideal.τ).loc Cert.Kernel22Ideal.main_arg54)
      ∧ r.2.mem ((c.tc : Thread Cert.Kernel22Ideal.nD Cert.Kernel22Ideal.τ).loc Cert.Kernel22Ideal.main_arg55) = m ((c.tc : Thread Cert.Kernel22Ideal.nD Cert.Kernel22Ideal.τ).loc Cert.Kernel22Ideal.main_arg55)
      ∧ r.2.mem ((c.tc : Thread Cert.Kernel22Ideal.nD Cert.Kernel22Ideal.τ).loc Cert.Kernel22Ideal.main_arg56) = m ((c.tc : Thread Cert.Kernel22Ideal.nD Cert.Kernel22Ideal.τ).loc Cert.Kernel22Ideal.main_arg56)
      ∧ r.2.mem ((c.tc : Thread Cert.Kernel22Ideal.nD Cert.Kernel22Ideal.τ).loc Cert.Kernel22Ideal.main_arg57) = m ((c.tc : Thread Cert.Kernel22Ideal.nD Cert.Kernel22Ideal.τ).loc Cert.Kernel22Ideal.main_arg57)
      ∧ r.2.mem ((c.tc : Thread Cert.Kernel22Ideal.nD Cert.Kernel22Ideal.τ).loc Cert.Kernel22Ideal.main_arg58) = m ((c.tc : Thread Cert.Kernel22Ideal.nD Cert.Kernel22Ideal.τ).loc Cert.Kernel22Ideal.main_arg58)
      ∧ r.2.mem ((c.tc : Thread Cert.Kernel22Ideal.nD Cert.Kernel22Ideal.τ).loc Cert.Kernel22Ideal.main_arg59) = m ((c.tc : Thread Cert.Kernel22Ideal.nD Cert.Kernel22Ideal.τ).loc Cert.Kernel22Ideal.main_arg59)
      ∧ r.2.mem ((c.tc : Thread Cert.Kernel22Ideal.nD Cert.Kernel22Ideal.τ).loc Cert.Kernel22Ideal.main_arg60) = m ((c.tc : Thread Cert.Kernel22Ideal.nD Cert.Kernel22Ideal.τ).loc Cert.Kernel22Ideal.main_arg60)
      ∧ r.2.mem ((c.tc : Thread Cert.Kernel22Ideal.nD Cert.Kernel22Ideal.τ).loc Cert.Kernel22Ideal.main_arg61) = m ((c.tc : Thread Cert.Kernel22Ideal.nD Cert.Kernel22Ideal.τ).loc Cert.Kernel22Ideal.main_arg61)
      ∧ r.2.mem ((c.tc : Thread Cert.Kernel22Ideal.nD Cert.Kernel22Ideal.τ).loc Cert.Kernel22Ideal.main_arg62) = m ((c.tc : Thread Cert.Kernel22Ideal.nD Cert.Kernel22Ideal.τ).loc Cert.Kernel22Ideal.main_arg62)
      ∧ r.2.mem ((c.tc : Thread Cert.Kernel22Ideal.nD Cert.Kernel22Ideal.τ).loc Cert.Kernel22Ideal.main_arg63) = m ((c.tc : Thread Cert.Kernel22Ideal.nD Cert.Kernel22Ideal.τ).loc Cert.Kernel22Ideal.main_arg63)
      ∧ r.2.mem ((c.tc : Thread Cert.Kernel22Ideal.nD Cert.Kernel22Ideal.τ).loc Cert.Kernel22Ideal.main_arg64) = m ((c.tc : Thread Cert.Kernel22Ideal.nD Cert.Kernel22Ideal.τ).loc Cert.Kernel22Ideal.main_arg64)
      ∧ r.2.mem ((c.tc : Thread Cert.Kernel22Ideal.nD Cert.Kernel22Ideal.τ).loc Cert.Kernel22Ideal.main_arg65) = m ((c.tc : Thread Cert.Kernel22Ideal.nD Cert.Kernel22Ideal.τ).loc Cert.Kernel22Ideal.main_arg65)
      ∧ r.2.mem ((c.tc : Thread Cert.Kernel22Ideal.nD Cert.Kernel22Ideal.τ).loc Cert.Kernel22Ideal.main_arg66) = m ((c.tc : Thread Cert.Kernel22Ideal.nD Cert.Kernel22Ideal.τ).loc Cert.Kernel22Ideal.main_arg66)
      ∧ r.2.mem ((c.tc : Thread Cert.Kernel22Ideal.nD Cert.Kernel22Ideal.τ).loc Cert.Kernel22Ideal.main_arg67) = m ((c.tc : Thread Cert.Kernel22Ideal.nD Cert.Kernel22Ideal.τ).loc Cert.Kernel22Ideal.main_arg67)
      ∧ r.2.mem ((c.tc : Thread Cert.Kernel22Ideal.nD Cert.Kernel22Ideal.τ).loc Cert.Kernel22Ideal.main_arg68) = m ((c.tc : Thread Cert.Kernel22Ideal.nD Cert.Kernel22Ideal.τ).loc Cert.Kernel22Ideal.main_arg68)
      ∧ r.2.mem ((c.tc : Thread Cert.Kernel22Ideal.nD Cert.Kernel22Ideal.τ).loc Cert.Kernel22Ideal.main_arg69) = m ((c.tc : Thread Cert.Kernel22Ideal.nD Cert.Kernel22Ideal.τ).loc Cert.Kernel22Ideal.main_arg69)
      ∧ r.2.mem ((c.tc : Thread Cert.Kernel22Ideal.nD Cert.Kernel22Ideal.τ).loc Cert.Kernel22Ideal.main_arg70) = m ((c.tc : Thread Cert.Kernel22Ideal.nD Cert.Kernel22Ideal.τ).loc Cert.Kernel22Ideal.main_arg70)
      ∧ r.2.mem ((c.tc : Thread Cert.Kernel22Ideal.nD Cert.Kernel22Ideal.τ).loc Cert.Kernel22Ideal.main_arg71) = m ((c.tc : Thread Cert.Kernel22Ideal.nD Cert.Kernel22Ideal.τ).loc Cert.Kernel22Ideal.main_arg71))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8)
      ∧ r.2.mem ((c.tc : Thread Cert.Reference22Ideal.nD Cert.Reference22Ideal.τ).loc Cert.Reference22Ideal.main_arg9) = m ((c.tc : Thread Cert.Reference22Ideal.nD Cert.Reference22Ideal.τ).loc Cert.Reference22Ideal.main_arg9)
      ∧ r.2.mem ((c.tc : Thread Cert.Reference22Ideal.nD Cert.Reference22Ideal.τ).loc Cert.Reference22Ideal.main_arg10) = m ((c.tc : Thread Cert.Reference22Ideal.nD Cert.Reference22Ideal.τ).loc Cert.Reference22Ideal.main_arg10)
      ∧ r.2.mem ((c.tc : Thread Cert.Reference22Ideal.nD Cert.Reference22Ideal.τ).loc Cert.Reference22Ideal.main_arg11) = m ((c.tc : Thread Cert.Reference22Ideal.nD Cert.Reference22Ideal.τ).loc Cert.Reference22Ideal.main_arg11)
      ∧ r.2.mem ((c.tc : Thread Cert.Reference22Ideal.nD Cert.Reference22Ideal.τ).loc Cert.Reference22Ideal.main_arg12) = m ((c.tc : Thread Cert.Reference22Ideal.nD Cert.Reference22Ideal.τ).loc Cert.Reference22Ideal.main_arg12)
      ∧ r.2.mem ((c.tc : Thread Cert.Reference22Ideal.nD Cert.Reference22Ideal.τ).loc Cert.Reference22Ideal.main_arg13) = m ((c.tc : Thread Cert.Reference22Ideal.nD Cert.Reference22Ideal.τ).loc Cert.Reference22Ideal.main_arg13)
      ∧ r.2.mem ((c.tc : Thread Cert.Reference22Ideal.nD Cert.Reference22Ideal.τ).loc Cert.Reference22Ideal.main_arg14) = m ((c.tc : Thread Cert.Reference22Ideal.nD Cert.Reference22Ideal.τ).loc Cert.Reference22Ideal.main_arg14)
      ∧ r.2.mem ((c.tc : Thread Cert.Reference22Ideal.nD Cert.Reference22Ideal.τ).loc Cert.Reference22Ideal.main_arg15) = m ((c.tc : Thread Cert.Reference22Ideal.nD Cert.Reference22Ideal.τ).loc Cert.Reference22Ideal.main_arg15)
      ∧ r.2.mem ((c.tc : Thread Cert.Reference22Ideal.nD Cert.Reference22Ideal.τ).loc Cert.Reference22Ideal.main_arg16) = m ((c.tc : Thread Cert.Reference22Ideal.nD Cert.Reference22Ideal.τ).loc Cert.Reference22Ideal.main_arg16)
      ∧ r.2.mem ((c.tc : Thread Cert.Reference22Ideal.nD Cert.Reference22Ideal.τ).loc Cert.Reference22Ideal.main_arg17) = m ((c.tc : Thread Cert.Reference22Ideal.nD Cert.Reference22Ideal.τ).loc Cert.Reference22Ideal.main_arg17)
      ∧ r.2.mem ((c.tc : Thread Cert.Reference22Ideal.nD Cert.Reference22Ideal.τ).loc Cert.Reference22Ideal.main_arg18) = m ((c.tc : Thread Cert.Reference22Ideal.nD Cert.Reference22Ideal.τ).loc Cert.Reference22Ideal.main_arg18)
      ∧ r.2.mem ((c.tc : Thread Cert.Reference22Ideal.nD Cert.Reference22Ideal.τ).loc Cert.Reference22Ideal.main_arg19) = m ((c.tc : Thread Cert.Reference22Ideal.nD Cert.Reference22Ideal.τ).loc Cert.Reference22Ideal.main_arg19)
      ∧ r.2.mem ((c.tc : Thread Cert.Reference22Ideal.nD Cert.Reference22Ideal.τ).loc Cert.Reference22Ideal.main_arg20) = m ((c.tc : Thread Cert.Reference22Ideal.nD Cert.Reference22Ideal.τ).loc Cert.Reference22Ideal.main_arg20)
      ∧ r.2.mem ((c.tc : Thread Cert.Reference22Ideal.nD Cert.Reference22Ideal.τ).loc Cert.Reference22Ideal.main_arg21) = m ((c.tc : Thread Cert.Reference22Ideal.nD Cert.Reference22Ideal.τ).loc Cert.Reference22Ideal.main_arg21)
      ∧ r.2.mem ((c.tc : Thread Cert.Reference22Ideal.nD Cert.Reference22Ideal.τ).loc Cert.Reference22Ideal.main_arg22) = m ((c.tc : Thread Cert.Reference22Ideal.nD Cert.Reference22Ideal.τ).loc Cert.Reference22Ideal.main_arg22)
      ∧ r.2.mem ((c.tc : Thread Cert.Reference22Ideal.nD Cert.Reference22Ideal.τ).loc Cert.Reference22Ideal.main_arg23) = m ((c.tc : Thread Cert.Reference22Ideal.nD Cert.Reference22Ideal.τ).loc Cert.Reference22Ideal.main_arg23)
      ∧ r.2.mem ((c.tc : Thread Cert.Reference22Ideal.nD Cert.Reference22Ideal.τ).loc Cert.Reference22Ideal.main_arg24) = m ((c.tc : Thread Cert.Reference22Ideal.nD Cert.Reference22Ideal.τ).loc Cert.Reference22Ideal.main_arg24)
      ∧ r.2.mem ((c.tc : Thread Cert.Reference22Ideal.nD Cert.Reference22Ideal.τ).loc Cert.Reference22Ideal.main_arg25) = m ((c.tc : Thread Cert.Reference22Ideal.nD Cert.Reference22Ideal.τ).loc Cert.Reference22Ideal.main_arg25)
      ∧ r.2.mem ((c.tc : Thread Cert.Reference22Ideal.nD Cert.Reference22Ideal.τ).loc Cert.Reference22Ideal.main_arg26) = m ((c.tc : Thread Cert.Reference22Ideal.nD Cert.Reference22Ideal.τ).loc Cert.Reference22Ideal.main_arg26)
      ∧ r.2.mem ((c.tc : Thread Cert.Reference22Ideal.nD Cert.Reference22Ideal.τ).loc Cert.Reference22Ideal.main_arg27) = m ((c.tc : Thread Cert.Reference22Ideal.nD Cert.Reference22Ideal.τ).loc Cert.Reference22Ideal.main_arg27)
      ∧ r.2.mem ((c.tc : Thread Cert.Reference22Ideal.nD Cert.Reference22Ideal.τ).loc Cert.Reference22Ideal.main_arg28) = m ((c.tc : Thread Cert.Reference22Ideal.nD Cert.Reference22Ideal.τ).loc Cert.Reference22Ideal.main_arg28)
      ∧ r.2.mem ((c.tc : Thread Cert.Reference22Ideal.nD Cert.Reference22Ideal.τ).loc Cert.Reference22Ideal.main_arg29) = m ((c.tc : Thread Cert.Reference22Ideal.nD Cert.Reference22Ideal.τ).loc Cert.Reference22Ideal.main_arg29)
      ∧ r.2.mem ((c.tc : Thread Cert.Reference22Ideal.nD Cert.Reference22Ideal.τ).loc Cert.Reference22Ideal.main_arg30) = m ((c.tc : Thread Cert.Reference22Ideal.nD Cert.Reference22Ideal.τ).loc Cert.Reference22Ideal.main_arg30)
      ∧ r.2.mem ((c.tc : Thread Cert.Reference22Ideal.nD Cert.Reference22Ideal.τ).loc Cert.Reference22Ideal.main_arg31) = m ((c.tc : Thread Cert.Reference22Ideal.nD Cert.Reference22Ideal.τ).loc Cert.Reference22Ideal.main_arg31)
      ∧ r.2.mem ((c.tc : Thread Cert.Reference22Ideal.nD Cert.Reference22Ideal.τ).loc Cert.Reference22Ideal.main_arg32) = m ((c.tc : Thread Cert.Reference22Ideal.nD Cert.Reference22Ideal.τ).loc Cert.Reference22Ideal.main_arg32)
      ∧ r.2.mem ((c.tc : Thread Cert.Reference22Ideal.nD Cert.Reference22Ideal.τ).loc Cert.Reference22Ideal.main_arg33) = m ((c.tc : Thread Cert.Reference22Ideal.nD Cert.Reference22Ideal.τ).loc Cert.Reference22Ideal.main_arg33)
      ∧ r.2.mem ((c.tc : Thread Cert.Reference22Ideal.nD Cert.Reference22Ideal.τ).loc Cert.Reference22Ideal.main_arg34) = m ((c.tc : Thread Cert.Reference22Ideal.nD Cert.Reference22Ideal.τ).loc Cert.Reference22Ideal.main_arg34)
      ∧ r.2.mem ((c.tc : Thread Cert.Reference22Ideal.nD Cert.Reference22Ideal.τ).loc Cert.Reference22Ideal.main_arg35) = m ((c.tc : Thread Cert.Reference22Ideal.nD Cert.Reference22Ideal.τ).loc Cert.Reference22Ideal.main_arg35)
      ∧ r.2.mem ((c.tc : Thread Cert.Reference22Ideal.nD Cert.Reference22Ideal.τ).loc Cert.Reference22Ideal.main_arg36) = m ((c.tc : Thread Cert.Reference22Ideal.nD Cert.Reference22Ideal.τ).loc Cert.Reference22Ideal.main_arg36)
      ∧ r.2.mem ((c.tc : Thread Cert.Reference22Ideal.nD Cert.Reference22Ideal.τ).loc Cert.Reference22Ideal.main_arg37) = m ((c.tc : Thread Cert.Reference22Ideal.nD Cert.Reference22Ideal.τ).loc Cert.Reference22Ideal.main_arg37)
      ∧ r.2.mem ((c.tc : Thread Cert.Reference22Ideal.nD Cert.Reference22Ideal.τ).loc Cert.Reference22Ideal.main_arg38) = m ((c.tc : Thread Cert.Reference22Ideal.nD Cert.Reference22Ideal.τ).loc Cert.Reference22Ideal.main_arg38)
      ∧ r.2.mem ((c.tc : Thread Cert.Reference22Ideal.nD Cert.Reference22Ideal.τ).loc Cert.Reference22Ideal.main_arg39) = m ((c.tc : Thread Cert.Reference22Ideal.nD Cert.Reference22Ideal.τ).loc Cert.Reference22Ideal.main_arg39)
      ∧ r.2.mem ((c.tc : Thread Cert.Reference22Ideal.nD Cert.Reference22Ideal.τ).loc Cert.Reference22Ideal.main_arg40) = m ((c.tc : Thread Cert.Reference22Ideal.nD Cert.Reference22Ideal.τ).loc Cert.Reference22Ideal.main_arg40)
      ∧ r.2.mem ((c.tc : Thread Cert.Reference22Ideal.nD Cert.Reference22Ideal.τ).loc Cert.Reference22Ideal.main_arg41) = m ((c.tc : Thread Cert.Reference22Ideal.nD Cert.Reference22Ideal.τ).loc Cert.Reference22Ideal.main_arg41)
      ∧ r.2.mem ((c.tc : Thread Cert.Reference22Ideal.nD Cert.Reference22Ideal.τ).loc Cert.Reference22Ideal.main_arg42) = m ((c.tc : Thread Cert.Reference22Ideal.nD Cert.Reference22Ideal.τ).loc Cert.Reference22Ideal.main_arg42)
      ∧ r.2.mem ((c.tc : Thread Cert.Reference22Ideal.nD Cert.Reference22Ideal.τ).loc Cert.Reference22Ideal.main_arg43) = m ((c.tc : Thread Cert.Reference22Ideal.nD Cert.Reference22Ideal.τ).loc Cert.Reference22Ideal.main_arg43)
      ∧ r.2.mem ((c.tc : Thread Cert.Reference22Ideal.nD Cert.Reference22Ideal.τ).loc Cert.Reference22Ideal.main_arg44) = m ((c.tc : Thread Cert.Reference22Ideal.nD Cert.Reference22Ideal.τ).loc Cert.Reference22Ideal.main_arg44)
      ∧ r.2.mem ((c.tc : Thread Cert.Reference22Ideal.nD Cert.Reference22Ideal.τ).loc Cert.Reference22Ideal.main_arg45) = m ((c.tc : Thread Cert.Reference22Ideal.nD Cert.Reference22Ideal.τ).loc Cert.Reference22Ideal.main_arg45)
      ∧ r.2.mem ((c.tc : Thread Cert.Reference22Ideal.nD Cert.Reference22Ideal.τ).loc Cert.Reference22Ideal.main_arg46) = m ((c.tc : Thread Cert.Reference22Ideal.nD Cert.Reference22Ideal.τ).loc Cert.Reference22Ideal.main_arg46)
      ∧ r.2.mem ((c.tc : Thread Cert.Reference22Ideal.nD Cert.Reference22Ideal.τ).loc Cert.Reference22Ideal.main_arg47) = m ((c.tc : Thread Cert.Reference22Ideal.nD Cert.Reference22Ideal.τ).loc Cert.Reference22Ideal.main_arg47)
      ∧ r.2.mem ((c.tc : Thread Cert.Reference22Ideal.nD Cert.Reference22Ideal.τ).loc Cert.Reference22Ideal.main_arg48) = m ((c.tc : Thread Cert.Reference22Ideal.nD Cert.Reference22Ideal.τ).loc Cert.Reference22Ideal.main_arg48)
      ∧ r.2.mem ((c.tc : Thread Cert.Reference22Ideal.nD Cert.Reference22Ideal.τ).loc Cert.Reference22Ideal.main_arg49) = m ((c.tc : Thread Cert.Reference22Ideal.nD Cert.Reference22Ideal.τ).loc Cert.Reference22Ideal.main_arg49)
      ∧ r.2.mem ((c.tc : Thread Cert.Reference22Ideal.nD Cert.Reference22Ideal.τ).loc Cert.Reference22Ideal.main_arg50) = m ((c.tc : Thread Cert.Reference22Ideal.nD Cert.Reference22Ideal.τ).loc Cert.Reference22Ideal.main_arg50)
      ∧ r.2.mem ((c.tc : Thread Cert.Reference22Ideal.nD Cert.Reference22Ideal.τ).loc Cert.Reference22Ideal.main_arg51) = m ((c.tc : Thread Cert.Reference22Ideal.nD Cert.Reference22Ideal.τ).loc Cert.Reference22Ideal.main_arg51)
      ∧ r.2.mem ((c.tc : Thread Cert.Reference22Ideal.nD Cert.Reference22Ideal.τ).loc Cert.Reference22Ideal.main_arg52) = m ((c.tc : Thread Cert.Reference22Ideal.nD Cert.Reference22Ideal.τ).loc Cert.Reference22Ideal.main_arg52)
      ∧ r.2.mem ((c.tc : Thread Cert.Reference22Ideal.nD Cert.Reference22Ideal.τ).loc Cert.Reference22Ideal.main_arg53) = m ((c.tc : Thread Cert.Reference22Ideal.nD Cert.Reference22Ideal.τ).loc Cert.Reference22Ideal.main_arg53)
      ∧ r.2.mem ((c.tc : Thread Cert.Reference22Ideal.nD Cert.Reference22Ideal.τ).loc Cert.Reference22Ideal.main_arg54) = m ((c.tc : Thread Cert.Reference22Ideal.nD Cert.Reference22Ideal.τ).loc Cert.Reference22Ideal.main_arg54)
      ∧ r.2.mem ((c.tc : Thread Cert.Reference22Ideal.nD Cert.Reference22Ideal.τ).loc Cert.Reference22Ideal.main_arg55) = m ((c.tc : Thread Cert.Reference22Ideal.nD Cert.Reference22Ideal.τ).loc Cert.Reference22Ideal.main_arg55)
      ∧ r.2.mem ((c.tc : Thread Cert.Reference22Ideal.nD Cert.Reference22Ideal.τ).loc Cert.Reference22Ideal.main_arg56) = m ((c.tc : Thread Cert.Reference22Ideal.nD Cert.Reference22Ideal.τ).loc Cert.Reference22Ideal.main_arg56)
      ∧ r.2.mem ((c.tc : Thread Cert.Reference22Ideal.nD Cert.Reference22Ideal.τ).loc Cert.Reference22Ideal.main_arg57) = m ((c.tc : Thread Cert.Reference22Ideal.nD Cert.Reference22Ideal.τ).loc Cert.Reference22Ideal.main_arg57)
      ∧ r.2.mem ((c.tc : Thread Cert.Reference22Ideal.nD Cert.Reference22Ideal.τ).loc Cert.Reference22Ideal.main_arg58) = m ((c.tc : Thread Cert.Reference22Ideal.nD Cert.Reference22Ideal.τ).loc Cert.Reference22Ideal.main_arg58)
      ∧ r.2.mem ((c.tc : Thread Cert.Reference22Ideal.nD Cert.Reference22Ideal.τ).loc Cert.Reference22Ideal.main_arg59) = m ((c.tc : Thread Cert.Reference22Ideal.nD Cert.Reference22Ideal.τ).loc Cert.Reference22Ideal.main_arg59)
      ∧ r.2.mem ((c.tc : Thread Cert.Reference22Ideal.nD Cert.Reference22Ideal.τ).loc Cert.Reference22Ideal.main_arg60) = m ((c.tc : Thread Cert.Reference22Ideal.nD Cert.Reference22Ideal.τ).loc Cert.Reference22Ideal.main_arg60)
      ∧ r.2.mem ((c.tc : Thread Cert.Reference22Ideal.nD Cert.Reference22Ideal.τ).loc Cert.Reference22Ideal.main_arg61) = m ((c.tc : Thread Cert.Reference22Ideal.nD Cert.Reference22Ideal.τ).loc Cert.Reference22Ideal.main_arg61)
      ∧ r.2.mem ((c.tc : Thread Cert.Reference22Ideal.nD Cert.Reference22Ideal.τ).loc Cert.Reference22Ideal.main_arg62) = m ((c.tc : Thread Cert.Reference22Ideal.nD Cert.Reference22Ideal.τ).loc Cert.Reference22Ideal.main_arg62)
      ∧ r.2.mem ((c.tc : Thread Cert.Reference22Ideal.nD Cert.Reference22Ideal.τ).loc Cert.Reference22Ideal.main_arg63) = m ((c.tc : Thread Cert.Reference22Ideal.nD Cert.Reference22Ideal.τ).loc Cert.Reference22Ideal.main_arg63)
      ∧ r.2.mem ((c.tc : Thread Cert.Reference22Ideal.nD Cert.Reference22Ideal.τ).loc Cert.Reference22Ideal.main_arg64) = m ((c.tc : Thread Cert.Reference22Ideal.nD Cert.Reference22Ideal.τ).loc Cert.Reference22Ideal.main_arg64)
      ∧ r.2.mem ((c.tc : Thread Cert.Reference22Ideal.nD Cert.Reference22Ideal.τ).loc Cert.Reference22Ideal.main_arg65) = m ((c.tc : Thread Cert.Reference22Ideal.nD Cert.Reference22Ideal.τ).loc Cert.Reference22Ideal.main_arg65)
      ∧ r.2.mem ((c.tc : Thread Cert.Reference22Ideal.nD Cert.Reference22Ideal.τ).loc Cert.Reference22Ideal.main_arg66) = m ((c.tc : Thread Cert.Reference22Ideal.nD Cert.Reference22Ideal.τ).loc Cert.Reference22Ideal.main_arg66)
      ∧ r.2.mem ((c.tc : Thread Cert.Reference22Ideal.nD Cert.Reference22Ideal.τ).loc Cert.Reference22Ideal.main_arg67) = m ((c.tc : Thread Cert.Reference22Ideal.nD Cert.Reference22Ideal.τ).loc Cert.Reference22Ideal.main_arg67)
      ∧ r.2.mem ((c.tc : Thread Cert.Reference22Ideal.nD Cert.Reference22Ideal.τ).loc Cert.Reference22Ideal.main_arg68) = m ((c.tc : Thread Cert.Reference22Ideal.nD Cert.Reference22Ideal.τ).loc Cert.Reference22Ideal.main_arg68)
      ∧ r.2.mem ((c.tc : Thread Cert.Reference22Ideal.nD Cert.Reference22Ideal.τ).loc Cert.Reference22Ideal.main_arg69) = m ((c.tc : Thread Cert.Reference22Ideal.nD Cert.Reference22Ideal.τ).loc Cert.Reference22Ideal.main_arg69)
      ∧ r.2.mem ((c.tc : Thread Cert.Reference22Ideal.nD Cert.Reference22Ideal.τ).loc Cert.Reference22Ideal.main_arg70) = m ((c.tc : Thread Cert.Reference22Ideal.nD Cert.Reference22Ideal.τ).loc Cert.Reference22Ideal.main_arg70)
      ∧ r.2.mem ((c.tc : Thread Cert.Reference22Ideal.nD Cert.Reference22Ideal.τ).loc Cert.Reference22Ideal.main_arg71) = m ((c.tc : Thread Cert.Reference22Ideal.nD Cert.Reference22Ideal.τ).loc Cert.Reference22Ideal.main_arg71))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_tame [hKernel2Ideal : Cert.Kernel2Ideal.Facts] [hReference2Ideal : Cert.Reference2Ideal.Facts] [hPre_tame : Cert.Pre_tame.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_tame m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v19) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v2)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v36) = v0 c
          ∧ r.2.mem ((c.tc : Thread Cert.Reference14Ideal.nD Cert.Reference14Ideal.τ).loc Cert.Reference14Ideal.main_v18) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v34) = v0 c
          ∧ r.2.mem ((c.tc : Thread Cert.Reference15Ideal.nD Cert.Reference15Ideal.τ).loc Cert.Reference15Ideal.main_v17) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v5)) (v1 : (c : Dev Cert.Kernel16Ideal.nD) → Buf (Elt Ideal) ((c.tc : Thread Cert.Kernel16Ideal.nD Cert.Kernel16Ideal.τ).loc Cert.Kernel16Ideal.main_v6)) (v2 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_v6) = v1 c
          ∧ r.2.mem ((c.tc : Thread Cert.Kernel16Ideal.nD Cert.Kernel16Ideal.τ).loc Cert.Kernel16Ideal.main_v7) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v5)) (v1 : (c : Dev Cert.Kernel17Ideal.nD) → Buf (Elt Ideal) ((c.tc : Thread Cert.Kernel17Ideal.nD Cert.Kernel17Ideal.τ).loc Cert.Kernel17Ideal.main_v6)) (v2 : (c : Dev Cert.Kernel17Ideal.nD) → Buf (Elt Ideal) ((c.tc : Thread Cert.Kernel17Ideal.nD Cert.Kernel17Ideal.τ).loc Cert.Kernel17Ideal.main_v7)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_v6) = v1 c
          ∧ r.2.mem ((c.tc : Thread Cert.Kernel17Ideal.nD Cert.Kernel17Ideal.τ).loc Cert.Kernel17Ideal.main_v7) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v5)) (v1 : (c : Dev Cert.Kernel18Ideal.nD) → Buf (Elt Ideal) ((c.tc : Thread Cert.Kernel18Ideal.nD Cert.Kernel18Ideal.τ).loc Cert.Kernel18Ideal.main_v6)) (v2 : (c : Dev Cert.Kernel18Ideal.nD) → Buf (Elt Ideal) ((c.tc : Thread Cert.Kernel18Ideal.nD Cert.Kernel18Ideal.τ).loc Cert.Kernel18Ideal.main_v7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5) = v0 c
          ∧ r.2.mem ((c.tc : Thread Cert.Kernel18Ideal.nD Cert.Kernel18Ideal.τ).loc Cert.Kernel18Ideal.main_v6) = v1 c
          ∧ r.2.mem ((c.tc : Thread Cert.Kernel18Ideal.nD Cert.Kernel18Ideal.τ).loc Cert.Kernel18Ideal.main_v7) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v5)) (v1 : (c : Dev Cert.Kernel19Ideal.nD) → Buf (Elt Ideal) ((c.tc : Thread Cert.Kernel19Ideal.nD Cert.Kernel19Ideal.τ).loc Cert.Kernel19Ideal.main_v6)) (v2 : (c : Dev Cert.Kernel19Ideal.nD) → Buf (Elt Ideal) ((c.tc : Thread Cert.Kernel19Ideal.nD Cert.Kernel19Ideal.τ).loc Cert.Kernel19Ideal.main_v7)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_v6) = v1 c
          ∧ r.2.mem ((c.tc : Thread Cert.Kernel19Ideal.nD Cert.Kernel19Ideal.τ).loc Cert.Kernel19Ideal.main_v7) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v5)) (v1 : (c : Dev Cert.Kernel20Ideal.nD) → Buf (Elt Ideal) ((c.tc : Thread Cert.Kernel20Ideal.nD Cert.Kernel20Ideal.τ).loc Cert.Kernel20Ideal.main_v6)) (v2 : (c : Dev Cert.Kernel20Ideal.nD) → Buf (Elt Ideal) ((c.tc : Thread Cert.Kernel20Ideal.nD Cert.Kernel20Ideal.τ).loc Cert.Kernel20Ideal.main_v7)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_v6) = v1 c
          ∧ r.2.mem ((c.tc : Thread Cert.Kernel20Ideal.nD Cert.Kernel20Ideal.τ).loc Cert.Kernel20Ideal.main_v7) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v5)) (v1 : (c : Dev Cert.Kernel21Ideal.nD) → Buf (Elt Ideal) ((c.tc : Thread Cert.Kernel21Ideal.nD Cert.Kernel21Ideal.τ).loc Cert.Kernel21Ideal.main_v6)) (v2 : (c : Dev Cert.Kernel21Ideal.nD) → Buf (Elt Ideal) ((c.tc : Thread Cert.Kernel21Ideal.nD Cert.Kernel21Ideal.τ).loc Cert.Kernel21Ideal.main_v7)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_v6) = v1 c
          ∧ r.2.mem ((c.tc : Thread Cert.Kernel21Ideal.nD Cert.Kernel21Ideal.τ).loc Cert.Kernel21Ideal.main_v7) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)
      ∧ m' ((c.tc : Thread Cert.Reference22Ideal.nD Cert.Reference22Ideal.τ).loc Cert.Reference22Ideal.main_arg9) = m ((c.tc : Thread Cert.Kernel22Ideal.nD Cert.Kernel22Ideal.τ).loc Cert.Kernel22Ideal.main_arg9)
      ∧ m' ((c.tc : Thread Cert.Reference22Ideal.nD Cert.Reference22Ideal.τ).loc Cert.Reference22Ideal.main_arg10) = m ((c.tc : Thread Cert.Kernel22Ideal.nD Cert.Kernel22Ideal.τ).loc Cert.Kernel22Ideal.main_arg10)
      ∧ m' ((c.tc : Thread Cert.Reference22Ideal.nD Cert.Reference22Ideal.τ).loc Cert.Reference22Ideal.main_arg11) = m ((c.tc : Thread Cert.Kernel22Ideal.nD Cert.Kernel22Ideal.τ).loc Cert.Kernel22Ideal.main_arg11)
      ∧ m' ((c.tc : Thread Cert.Reference22Ideal.nD Cert.Reference22Ideal.τ).loc Cert.Reference22Ideal.main_arg12) = m ((c.tc : Thread Cert.Kernel22Ideal.nD Cert.Kernel22Ideal.τ).loc Cert.Kernel22Ideal.main_arg12)
      ∧ m' ((c.tc : Thread Cert.Reference22Ideal.nD Cert.Reference22Ideal.τ).loc Cert.Reference22Ideal.main_arg13) = m ((c.tc : Thread Cert.Kernel22Ideal.nD Cert.Kernel22Ideal.τ).loc Cert.Kernel22Ideal.main_arg13)
      ∧ m' ((c.tc : Thread Cert.Reference22Ideal.nD Cert.Reference22Ideal.τ).loc Cert.Reference22Ideal.main_arg14) = m ((c.tc : Thread Cert.Kernel22Ideal.nD Cert.Kernel22Ideal.τ).loc Cert.Kernel22Ideal.main_arg14)
      ∧ m' ((c.tc : Thread Cert.Reference22Ideal.nD Cert.Reference22Ideal.τ).loc Cert.Reference22Ideal.main_arg15) = m ((c.tc : Thread Cert.Kernel22Ideal.nD Cert.Kernel22Ideal.τ).loc Cert.Kernel22Ideal.main_arg15)
      ∧ m' ((c.tc : Thread Cert.Reference22Ideal.nD Cert.Reference22Ideal.τ).loc Cert.Reference22Ideal.main_arg16) = m ((c.tc : Thread Cert.Kernel22Ideal.nD Cert.Kernel22Ideal.τ).loc Cert.Kernel22Ideal.main_arg16)
      ∧ m' ((c.tc : Thread Cert.Reference22Ideal.nD Cert.Reference22Ideal.τ).loc Cert.Reference22Ideal.main_arg17) = m ((c.tc : Thread Cert.Kernel22Ideal.nD Cert.Kernel22Ideal.τ).loc Cert.Kernel22Ideal.main_arg17)
      ∧ m' ((c.tc : Thread Cert.Reference22Ideal.nD Cert.Reference22Ideal.τ).loc Cert.Reference22Ideal.main_arg18) = m ((c.tc : Thread Cert.Kernel22Ideal.nD Cert.Kernel22Ideal.τ).loc Cert.Kernel22Ideal.main_arg18)
      ∧ m' ((c.tc : Thread Cert.Reference22Ideal.nD Cert.Reference22Ideal.τ).loc Cert.Reference22Ideal.main_arg19) = m ((c.tc : Thread Cert.Kernel22Ideal.nD Cert.Kernel22Ideal.τ).loc Cert.Kernel22Ideal.main_arg19)
      ∧ m' ((c.tc : Thread Cert.Reference22Ideal.nD Cert.Reference22Ideal.τ).loc Cert.Reference22Ideal.main_arg20) = m ((c.tc : Thread Cert.Kernel22Ideal.nD Cert.Kernel22Ideal.τ).loc Cert.Kernel22Ideal.main_arg20)
      ∧ m' ((c.tc : Thread Cert.Reference22Ideal.nD Cert.Reference22Ideal.τ).loc Cert.Reference22Ideal.main_arg21) = m ((c.tc : Thread Cert.Kernel22Ideal.nD Cert.Kernel22Ideal.τ).loc Cert.Kernel22Ideal.main_arg21)
      ∧ m' ((c.tc : Thread Cert.Reference22Ideal.nD Cert.Reference22Ideal.τ).loc Cert.Reference22Ideal.main_arg22) = m ((c.tc : Thread Cert.Kernel22Ideal.nD Cert.Kernel22Ideal.τ).loc Cert.Kernel22Ideal.main_arg22)
      ∧ m' ((c.tc : Thread Cert.Reference22Ideal.nD Cert.Reference22Ideal.τ).loc Cert.Reference22Ideal.main_arg23) = m ((c.tc : Thread Cert.Kernel22Ideal.nD Cert.Kernel22Ideal.τ).loc Cert.Kernel22Ideal.main_arg23)
      ∧ m' ((c.tc : Thread Cert.Reference22Ideal.nD Cert.Reference22Ideal.τ).loc Cert.Reference22Ideal.main_arg24) = m ((c.tc : Thread Cert.Kernel22Ideal.nD Cert.Kernel22Ideal.τ).loc Cert.Kernel22Ideal.main_arg24)
      ∧ m' ((c.tc : Thread Cert.Reference22Ideal.nD Cert.Reference22Ideal.τ).loc Cert.Reference22Ideal.main_arg25) = m ((c.tc : Thread Cert.Kernel22Ideal.nD Cert.Kernel22Ideal.τ).loc Cert.Kernel22Ideal.main_arg25)
      ∧ m' ((c.tc : Thread Cert.Reference22Ideal.nD Cert.Reference22Ideal.τ).loc Cert.Reference22Ideal.main_arg26) = m ((c.tc : Thread Cert.Kernel22Ideal.nD Cert.Kernel22Ideal.τ).loc Cert.Kernel22Ideal.main_arg26)
      ∧ m' ((c.tc : Thread Cert.Reference22Ideal.nD Cert.Reference22Ideal.τ).loc Cert.Reference22Ideal.main_arg27) = m ((c.tc : Thread Cert.Kernel22Ideal.nD Cert.Kernel22Ideal.τ).loc Cert.Kernel22Ideal.main_arg27)
      ∧ m' ((c.tc : Thread Cert.Reference22Ideal.nD Cert.Reference22Ideal.τ).loc Cert.Reference22Ideal.main_arg28) = m ((c.tc : Thread Cert.Kernel22Ideal.nD Cert.Kernel22Ideal.τ).loc Cert.Kernel22Ideal.main_arg28)
      ∧ m' ((c.tc : Thread Cert.Reference22Ideal.nD Cert.Reference22Ideal.τ).loc Cert.Reference22Ideal.main_arg29) = m ((c.tc : Thread Cert.Kernel22Ideal.nD Cert.Kernel22Ideal.τ).loc Cert.Kernel22Ideal.main_arg29)
      ∧ m' ((c.tc : Thread Cert.Reference22Ideal.nD Cert.Reference22Ideal.τ).loc Cert.Reference22Ideal.main_arg30) = m ((c.tc : Thread Cert.Kernel22Ideal.nD Cert.Kernel22Ideal.τ).loc Cert.Kernel22Ideal.main_arg30)
      ∧ m' ((c.tc : Thread Cert.Reference22Ideal.nD Cert.Reference22Ideal.τ).loc Cert.Reference22Ideal.main_arg31) = m ((c.tc : Thread Cert.Kernel22Ideal.nD Cert.Kernel22Ideal.τ).loc Cert.Kernel22Ideal.main_arg31)
      ∧ m' ((c.tc : Thread Cert.Reference22Ideal.nD Cert.Reference22Ideal.τ).loc Cert.Reference22Ideal.main_arg32) = m ((c.tc : Thread Cert.Kernel22Ideal.nD Cert.Kernel22Ideal.τ).loc Cert.Kernel22Ideal.main_arg32)
      ∧ m' ((c.tc : Thread Cert.Reference22Ideal.nD Cert.Reference22Ideal.τ).loc Cert.Reference22Ideal.main_arg33) = m ((c.tc : Thread Cert.Kernel22Ideal.nD Cert.Kernel22Ideal.τ).loc Cert.Kernel22Ideal.main_arg33)
      ∧ m' ((c.tc : Thread Cert.Reference22Ideal.nD Cert.Reference22Ideal.τ).loc Cert.Reference22Ideal.main_arg34) = m ((c.tc : Thread Cert.Kernel22Ideal.nD Cert.Kernel22Ideal.τ).loc Cert.Kernel22Ideal.main_arg34)
      ∧ m' ((c.tc : Thread Cert.Reference22Ideal.nD Cert.Reference22Ideal.τ).loc Cert.Reference22Ideal.main_arg35) = m ((c.tc : Thread Cert.Kernel22Ideal.nD Cert.Kernel22Ideal.τ).loc Cert.Kernel22Ideal.main_arg35)
      ∧ m' ((c.tc : Thread Cert.Reference22Ideal.nD Cert.Reference22Ideal.τ).loc Cert.Reference22Ideal.main_arg36) = m ((c.tc : Thread Cert.Kernel22Ideal.nD Cert.Kernel22Ideal.τ).loc Cert.Kernel22Ideal.main_arg36)
      ∧ m' ((c.tc : Thread Cert.Reference22Ideal.nD Cert.Reference22Ideal.τ).loc Cert.Reference22Ideal.main_arg37) = m ((c.tc : Thread Cert.Kernel22Ideal.nD Cert.Kernel22Ideal.τ).loc Cert.Kernel22Ideal.main_arg37)
      ∧ m' ((c.tc : Thread Cert.Reference22Ideal.nD Cert.Reference22Ideal.τ).loc Cert.Reference22Ideal.main_arg38) = m ((c.tc : Thread Cert.Kernel22Ideal.nD Cert.Kernel22Ideal.τ).loc Cert.Kernel22Ideal.main_arg38)
      ∧ m' ((c.tc : Thread Cert.Reference22Ideal.nD Cert.Reference22Ideal.τ).loc Cert.Reference22Ideal.main_arg39) = m ((c.tc : Thread Cert.Kernel22Ideal.nD Cert.Kernel22Ideal.τ).loc Cert.Kernel22Ideal.main_arg39)
      ∧ m' ((c.tc : Thread Cert.Reference22Ideal.nD Cert.Reference22Ideal.τ).loc Cert.Reference22Ideal.main_arg40) = m ((c.tc : Thread Cert.Kernel22Ideal.nD Cert.Kernel22Ideal.τ).loc Cert.Kernel22Ideal.main_arg40)
      ∧ m' ((c.tc : Thread Cert.Reference22Ideal.nD Cert.Reference22Ideal.τ).loc Cert.Reference22Ideal.main_arg41) = m ((c.tc : Thread Cert.Kernel22Ideal.nD Cert.Kernel22Ideal.τ).loc Cert.Kernel22Ideal.main_arg41)
      ∧ m' ((c.tc : Thread Cert.Reference22Ideal.nD Cert.Reference22Ideal.τ).loc Cert.Reference22Ideal.main_arg42) = m ((c.tc : Thread Cert.Kernel22Ideal.nD Cert.Kernel22Ideal.τ).loc Cert.Kernel22Ideal.main_arg42)
      ∧ m' ((c.tc : Thread Cert.Reference22Ideal.nD Cert.Reference22Ideal.τ).loc Cert.Reference22Ideal.main_arg43) = m ((c.tc : Thread Cert.Kernel22Ideal.nD Cert.Kernel22Ideal.τ).loc Cert.Kernel22Ideal.main_arg43)
      ∧ m' ((c.tc : Thread Cert.Reference22Ideal.nD Cert.Reference22Ideal.τ).loc Cert.Reference22Ideal.main_arg44) = m ((c.tc : Thread Cert.Kernel22Ideal.nD Cert.Kernel22Ideal.τ).loc Cert.Kernel22Ideal.main_arg44)
      ∧ m' ((c.tc : Thread Cert.Reference22Ideal.nD Cert.Reference22Ideal.τ).loc Cert.Reference22Ideal.main_arg45) = m ((c.tc : Thread Cert.Kernel22Ideal.nD Cert.Kernel22Ideal.τ).loc Cert.Kernel22Ideal.main_arg45)
      ∧ m' ((c.tc : Thread Cert.Reference22Ideal.nD Cert.Reference22Ideal.τ).loc Cert.Reference22Ideal.main_arg46) = m ((c.tc : Thread Cert.Kernel22Ideal.nD Cert.Kernel22Ideal.τ).loc Cert.Kernel22Ideal.main_arg46)
      ∧ m' ((c.tc : Thread Cert.Reference22Ideal.nD Cert.Reference22Ideal.τ).loc Cert.Reference22Ideal.main_arg47) = m ((c.tc : Thread Cert.Kernel22Ideal.nD Cert.Kernel22Ideal.τ).loc Cert.Kernel22Ideal.main_arg47)
      ∧ m' ((c.tc : Thread Cert.Reference22Ideal.nD Cert.Reference22Ideal.τ).loc Cert.Reference22Ideal.main_arg48) = m ((c.tc : Thread Cert.Kernel22Ideal.nD Cert.Kernel22Ideal.τ).loc Cert.Kernel22Ideal.main_arg48)
      ∧ m' ((c.tc : Thread Cert.Reference22Ideal.nD Cert.Reference22Ideal.τ).loc Cert.Reference22Ideal.main_arg49) = m ((c.tc : Thread Cert.Kernel22Ideal.nD Cert.Kernel22Ideal.τ).loc Cert.Kernel22Ideal.main_arg49)
      ∧ m' ((c.tc : Thread Cert.Reference22Ideal.nD Cert.Reference22Ideal.τ).loc Cert.Reference22Ideal.main_arg50) = m ((c.tc : Thread Cert.Kernel22Ideal.nD Cert.Kernel22Ideal.τ).loc Cert.Kernel22Ideal.main_arg50)
      ∧ m' ((c.tc : Thread Cert.Reference22Ideal.nD Cert.Reference22Ideal.τ).loc Cert.Reference22Ideal.main_arg51) = m ((c.tc : Thread Cert.Kernel22Ideal.nD Cert.Kernel22Ideal.τ).loc Cert.Kernel22Ideal.main_arg51)
      ∧ m' ((c.tc : Thread Cert.Reference22Ideal.nD Cert.Reference22Ideal.τ).loc Cert.Reference22Ideal.main_arg52) = m ((c.tc : Thread Cert.Kernel22Ideal.nD Cert.Kernel22Ideal.τ).loc Cert.Kernel22Ideal.main_arg52)
      ∧ m' ((c.tc : Thread Cert.Reference22Ideal.nD Cert.Reference22Ideal.τ).loc Cert.Reference22Ideal.main_arg53) = m ((c.tc : Thread Cert.Kernel22Ideal.nD Cert.Kernel22Ideal.τ).loc Cert.Kernel22Ideal.main_arg53)
      ∧ m' ((c.tc : Thread Cert.Reference22Ideal.nD Cert.Reference22Ideal.τ).loc Cert.Reference22Ideal.main_arg54) = m ((c.tc : Thread Cert.Kernel22Ideal.nD Cert.Kernel22Ideal.τ).loc Cert.Kernel22Ideal.main_arg54)
      ∧ m' ((c.tc : Thread Cert.Reference22Ideal.nD Cert.Reference22Ideal.τ).loc Cert.Reference22Ideal.main_arg55) = m ((c.tc : Thread Cert.Kernel22Ideal.nD Cert.Kernel22Ideal.τ).loc Cert.Kernel22Ideal.main_arg55)
      ∧ m' ((c.tc : Thread Cert.Reference22Ideal.nD Cert.Reference22Ideal.τ).loc Cert.Reference22Ideal.main_arg56) = m ((c.tc : Thread Cert.Kernel22Ideal.nD Cert.Kernel22Ideal.τ).loc Cert.Kernel22Ideal.main_arg56)
      ∧ m' ((c.tc : Thread Cert.Reference22Ideal.nD Cert.Reference22Ideal.τ).loc Cert.Reference22Ideal.main_arg57) = m ((c.tc : Thread Cert.Kernel22Ideal.nD Cert.Kernel22Ideal.τ).loc Cert.Kernel22Ideal.main_arg57)
      ∧ m' ((c.tc : Thread Cert.Reference22Ideal.nD Cert.Reference22Ideal.τ).loc Cert.Reference22Ideal.main_arg58) = m ((c.tc : Thread Cert.Kernel22Ideal.nD Cert.Kernel22Ideal.τ).loc Cert.Kernel22Ideal.main_arg58)
      ∧ m' ((c.tc : Thread Cert.Reference22Ideal.nD Cert.Reference22Ideal.τ).loc Cert.Reference22Ideal.main_arg59) = m ((c.tc : Thread Cert.Kernel22Ideal.nD Cert.Kernel22Ideal.τ).loc Cert.Kernel22Ideal.main_arg59)
      ∧ m' ((c.tc : Thread Cert.Reference22Ideal.nD Cert.Reference22Ideal.τ).loc Cert.Reference22Ideal.main_arg60) = m ((c.tc : Thread Cert.Kernel22Ideal.nD Cert.Kernel22Ideal.τ).loc Cert.Kernel22Ideal.main_arg60)
      ∧ m' ((c.tc : Thread Cert.Reference22Ideal.nD Cert.Reference22Ideal.τ).loc Cert.Reference22Ideal.main_arg61) = m ((c.tc : Thread Cert.Kernel22Ideal.nD Cert.Kernel22Ideal.τ).loc Cert.Kernel22Ideal.main_arg61)
      ∧ m' ((c.tc : Thread Cert.Reference22Ideal.nD Cert.Reference22Ideal.τ).loc Cert.Reference22Ideal.main_arg62) = m ((c.tc : Thread Cert.Kernel22Ideal.nD Cert.Kernel22Ideal.τ).loc Cert.Kernel22Ideal.main_arg62)
      ∧ m' ((c.tc : Thread Cert.Reference22Ideal.nD Cert.Reference22Ideal.τ).loc Cert.Reference22Ideal.main_arg63) = m ((c.tc : Thread Cert.Kernel22Ideal.nD Cert.Kernel22Ideal.τ).loc Cert.Kernel22Ideal.main_arg63)
      ∧ m' ((c.tc : Thread Cert.Reference22Ideal.nD Cert.Reference22Ideal.τ).loc Cert.Reference22Ideal.main_arg64) = m ((c.tc : Thread Cert.Kernel22Ideal.nD Cert.Kernel22Ideal.τ).loc Cert.Kernel22Ideal.main_arg64)
      ∧ m' ((c.tc : Thread Cert.Reference22Ideal.nD Cert.Reference22Ideal.τ).loc Cert.Reference22Ideal.main_arg65) = m ((c.tc : Thread Cert.Kernel22Ideal.nD Cert.Kernel22Ideal.τ).loc Cert.Kernel22Ideal.main_arg65)
      ∧ m' ((c.tc : Thread Cert.Reference22Ideal.nD Cert.Reference22Ideal.τ).loc Cert.Reference22Ideal.main_arg66) = m ((c.tc : Thread Cert.Kernel22Ideal.nD Cert.Kernel22Ideal.τ).loc Cert.Kernel22Ideal.main_arg66)
      ∧ m' ((c.tc : Thread Cert.Reference22Ideal.nD Cert.Reference22Ideal.τ).loc Cert.Reference22Ideal.main_arg67) = m ((c.tc : Thread Cert.Kernel22Ideal.nD Cert.Kernel22Ideal.τ).loc Cert.Kernel22Ideal.main_arg67)
      ∧ m' ((c.tc : Thread Cert.Reference22Ideal.nD Cert.Reference22Ideal.τ).loc Cert.Reference22Ideal.main_arg68) = m ((c.tc : Thread Cert.Kernel22Ideal.nD Cert.Kernel22Ideal.τ).loc Cert.Kernel22Ideal.main_arg68)
      ∧ m' ((c.tc : Thread Cert.Reference22Ideal.nD Cert.Reference22Ideal.τ).loc Cert.Reference22Ideal.main_arg69) = m ((c.tc : Thread Cert.Kernel22Ideal.nD Cert.Kernel22Ideal.τ).loc Cert.Kernel22Ideal.main_arg69)
      ∧ m' ((c.tc : Thread Cert.Reference22Ideal.nD Cert.Reference22Ideal.τ).loc Cert.Reference22Ideal.main_arg70) = m ((c.tc : Thread Cert.Kernel22Ideal.nD Cert.Kernel22Ideal.τ).loc Cert.Kernel22Ideal.main_arg70)
      ∧ m' ((c.tc : Thread Cert.Reference22Ideal.nD Cert.Reference22Ideal.τ).loc Cert.Reference22Ideal.main_arg71) = m ((c.tc : Thread Cert.Kernel22Ideal.nD Cert.Kernel22Ideal.τ).loc Cert.Kernel22Ideal.main_arg71)) →
    ∃ (v0 : (c : Dev Cert.Kernel22Ideal.nD) → Buf (Elt Ideal) ((c.tc : Thread Cert.Kernel22Ideal.nD Cert.Kernel22Ideal.τ).loc Cert.Kernel22Ideal.main_v95)) (v1 : (c : Dev Cert.Kernel22Ideal.nD) → Buf (Elt Ideal) ((c.tc : Thread Cert.Kernel22Ideal.nD Cert.Kernel22Ideal.τ).loc Cert.Kernel22Ideal.main_v97)) (v2 : (c : Dev Cert.Kernel22Ideal.nD) → Buf (Elt Ideal) ((c.tc : Thread Cert.Kernel22Ideal.nD Cert.Kernel22Ideal.τ).loc Cert.Kernel22Ideal.main_v99)) (v3 : (c : Dev Cert.Kernel22Ideal.nD) → Buf (Elt Ideal) ((c.tc : Thread Cert.Kernel22Ideal.nD Cert.Kernel22Ideal.τ).loc Cert.Kernel22Ideal.main_v101)) (v4 : (c : Dev Cert.Kernel22Ideal.nD) → Buf (Elt Ideal) ((c.tc : Thread Cert.Kernel22Ideal.nD Cert.Kernel22Ideal.τ).loc Cert.Kernel22Ideal.main_v103)) (v5 : (c : Dev Cert.Kernel22Ideal.nD) → Buf (Elt Ideal) ((c.tc : Thread Cert.Kernel22Ideal.nD Cert.Kernel22Ideal.τ).loc Cert.Kernel22Ideal.main_v105)) (v6 : (c : Dev Cert.Kernel22Ideal.nD) → Buf (Elt Ideal) ((c.tc : Thread Cert.Kernel22Ideal.nD Cert.Kernel22Ideal.τ).loc Cert.Kernel22Ideal.main_v107)) (v7 : (c : Dev Cert.Kernel22Ideal.nD) → Buf (Elt Ideal) ((c.tc : Thread Cert.Kernel22Ideal.nD Cert.Kernel22Ideal.τ).loc Cert.Kernel22Ideal.main_v109)) (v8 : (c : Dev Cert.Kernel22Ideal.nD) → Buf (Elt Ideal) ((c.tc : Thread Cert.Kernel22Ideal.nD Cert.Kernel22Ideal.τ).loc Cert.Kernel22Ideal.main_v111)) (v9 : (c : Dev Cert.Kernel22Ideal.nD) → Buf (Elt Ideal) ((c.tc : Thread Cert.Kernel22Ideal.nD Cert.Kernel22Ideal.τ).loc Cert.Kernel22Ideal.main_v113)) (v10 : (c : Dev Cert.Kernel22Ideal.nD) → Buf (Elt Ideal) ((c.tc : Thread Cert.Kernel22Ideal.nD Cert.Kernel22Ideal.τ).loc Cert.Kernel22Ideal.main_v115)) (v11 : (c : Dev Cert.Kernel22Ideal.nD) → Buf (Elt Ideal) ((c.tc : Thread Cert.Kernel22Ideal.nD Cert.Kernel22Ideal.τ).loc Cert.Kernel22Ideal.main_v117)) (v12 : (c : Dev Cert.Kernel22Ideal.nD) → Buf (Elt Ideal) ((c.tc : Thread Cert.Kernel22Ideal.nD Cert.Kernel22Ideal.τ).loc Cert.Kernel22Ideal.main_v119)) (v13 : (c : Dev Cert.Kernel22Ideal.nD) → Buf (Elt Ideal) ((c.tc : Thread Cert.Kernel22Ideal.nD Cert.Kernel22Ideal.τ).loc Cert.Kernel22Ideal.main_v121)) (v14 : (c : Dev Cert.Kernel22Ideal.nD) → Buf (Elt Ideal) ((c.tc : Thread Cert.Kernel22Ideal.nD Cert.Kernel22Ideal.τ).loc Cert.Kernel22Ideal.main_v123)) (v15 : (c : Dev Cert.Kernel22Ideal.nD) → Buf (Elt Ideal) ((c.tc : Thread Cert.Kernel22Ideal.nD Cert.Kernel22Ideal.τ).loc Cert.Kernel22Ideal.main_v125)) (v16 : (c : Dev Cert.Kernel22Ideal.nD) → Buf (Elt Ideal) ((c.tc : Thread Cert.Kernel22Ideal.nD Cert.Kernel22Ideal.τ).loc Cert.Kernel22Ideal.main_v127)) (v17 : (c : Dev Cert.Kernel22Ideal.nD) → Buf (Elt Ideal) ((c.tc : Thread Cert.Kernel22Ideal.nD Cert.Kernel22Ideal.τ).loc Cert.Kernel22Ideal.main_v129)) (v18 : (c : Dev Cert.Kernel22Ideal.nD) → Buf (Elt Ideal) ((c.tc : Thread Cert.Kernel22Ideal.nD Cert.Kernel22Ideal.τ).loc Cert.Kernel22Ideal.main_v132)) (v19 : (c : Dev Cert.Kernel22Ideal.nD) → Buf (Elt Ideal) ((c.tc : Thread Cert.Kernel22Ideal.nD Cert.Kernel22Ideal.τ).loc Cert.Kernel22Ideal.main_v134)) (v20 : (c : Dev Cert.Kernel22Ideal.nD) → Buf (Elt Ideal) ((c.tc : Thread Cert.Kernel22Ideal.nD Cert.Kernel22Ideal.τ).loc Cert.Kernel22Ideal.main_v136)) (v21 : (c : Dev Cert.Kernel22Ideal.nD) → Buf (Elt Ideal) ((c.tc : Thread Cert.Kernel22Ideal.nD Cert.Kernel22Ideal.τ).loc Cert.Kernel22Ideal.main_v138)) (v22 : (c : Dev Cert.Kernel22Ideal.nD) → Buf (Elt Ideal) ((c.tc : Thread Cert.Kernel22Ideal.nD Cert.Kernel22Ideal.τ).loc Cert.Kernel22Ideal.main_v140)) (v23 : (c : Dev Cert.Kernel22Ideal.nD) → Buf (Elt Ideal) ((c.tc : Thread Cert.Kernel22Ideal.nD Cert.Kernel22Ideal.τ).loc Cert.Kernel22Ideal.main_v142)) (v24 : (c : Dev Cert.Kernel22Ideal.nD) → Buf (Elt Ideal) ((c.tc : Thread Cert.Kernel22Ideal.nD Cert.Kernel22Ideal.τ).loc Cert.Kernel22Ideal.main_v144)) (v25 : (c : Dev Cert.Kernel22Ideal.nD) → Buf (Elt Ideal) ((c.tc : Thread Cert.Kernel22Ideal.nD Cert.Kernel22Ideal.τ).loc Cert.Kernel22Ideal.main_v146)) (v26 : (c : Dev Cert.Kernel22Ideal.nD) → Buf (Elt Ideal) ((c.tc : Thread Cert.Kernel22Ideal.nD Cert.Kernel22Ideal.τ).loc Cert.Kernel22Ideal.main_v148)) (v27 : (c : Dev Cert.Kernel22Ideal.nD) → Buf (Elt Ideal) ((c.tc : Thread Cert.Kernel22Ideal.nD Cert.Kernel22Ideal.τ).loc Cert.Kernel22Ideal.main_v150)) (v28 : (c : Dev Cert.Kernel22Ideal.nD) → Buf (Elt Ideal) ((c.tc : Thread Cert.Kernel22Ideal.nD Cert.Kernel22Ideal.τ).loc Cert.Kernel22Ideal.main_v152)) (v29 : (c : Dev Cert.Kernel22Ideal.nD) → Buf (Elt Ideal) ((c.tc : Thread Cert.Kernel22Ideal.nD Cert.Kernel22Ideal.τ).loc Cert.Kernel22Ideal.main_v154)) (v30 : (c : Dev Cert.Kernel22Ideal.nD) → Buf (Elt Ideal) ((c.tc : Thread Cert.Kernel22Ideal.nD Cert.Kernel22Ideal.τ).loc Cert.Kernel22Ideal.main_v156)) (v31 : (c : Dev Cert.Kernel22Ideal.nD) → Buf (Elt Ideal) ((c.tc : Thread Cert.Kernel22Ideal.nD Cert.Kernel22Ideal.τ).loc Cert.Kernel22Ideal.main_v158)) (v32 : (c : Dev Cert.Kernel22Ideal.nD) → Buf (Elt Ideal) ((c.tc : Thread Cert.Kernel22Ideal.nD Cert.Kernel22Ideal.τ).loc Cert.Kernel22Ideal.main_v160)) (v33 : (c : Dev Cert.Kernel22Ideal.nD) → Buf (Elt Ideal) ((c.tc : Thread Cert.Kernel22Ideal.nD Cert.Kernel22Ideal.τ).loc Cert.Kernel22Ideal.main_v162)) (v34 : (c : Dev Cert.Kernel22Ideal.nD) → Buf (Elt Ideal) ((c.tc : Thread Cert.Kernel22Ideal.nD Cert.Kernel22Ideal.τ).loc Cert.Kernel22Ideal.main_v164)) (v35 : (c : Dev Cert.Kernel22Ideal.nD) → Buf (Elt Ideal) ((c.tc : Thread Cert.Kernel22Ideal.nD Cert.Kernel22Ideal.τ).loc Cert.Kernel22Ideal.main_v166)) (v36 : (c : Dev Cert.Kernel22Ideal.nD) → Buf (Elt Ideal) ((c.tc : Thread Cert.Kernel22Ideal.nD Cert.Kernel22Ideal.τ).loc Cert.Kernel22Ideal.main_v169)) (v37 : (c : Dev Cert.Kernel22Ideal.nD) → Buf (Elt Ideal) ((c.tc : Thread Cert.Kernel22Ideal.nD Cert.Kernel22Ideal.τ).loc Cert.Kernel22Ideal.main_v171)) (v38 : (c : Dev Cert.Kernel22Ideal.nD) → Buf (Elt Ideal) ((c.tc : Thread Cert.Kernel22Ideal.nD Cert.Kernel22Ideal.τ).loc Cert.Kernel22Ideal.main_v173)) (v39 : (c : Dev Cert.Kernel22Ideal.nD) → Buf (Elt Ideal) ((c.tc : Thread Cert.Kernel22Ideal.nD Cert.Kernel22Ideal.τ).loc Cert.Kernel22Ideal.main_v175)) (v40 : (c : Dev Cert.Kernel22Ideal.nD) → Buf (Elt Ideal) ((c.tc : Thread Cert.Kernel22Ideal.nD Cert.Kernel22Ideal.τ).loc Cert.Kernel22Ideal.main_v177)) (v41 : (c : Dev Cert.Kernel22Ideal.nD) → Buf (Elt Ideal) ((c.tc : Thread Cert.Kernel22Ideal.nD Cert.Kernel22Ideal.τ).loc Cert.Kernel22Ideal.main_v179)) (v42 : (c : Dev Cert.Kernel22Ideal.nD) → Buf (Elt Ideal) ((c.tc : Thread Cert.Kernel22Ideal.nD Cert.Kernel22Ideal.τ).loc Cert.Kernel22Ideal.main_v181)) (v43 : (c : Dev Cert.Kernel22Ideal.nD) → Buf (Elt Ideal) ((c.tc : Thread Cert.Kernel22Ideal.nD Cert.Kernel22Ideal.τ).loc Cert.Kernel22Ideal.main_v183)) (v44 : (c : Dev Cert.Kernel22Ideal.nD) → Buf (Elt Ideal) ((c.tc : Thread Cert.Kernel22Ideal.nD Cert.Kernel22Ideal.τ).loc Cert.Kernel22Ideal.main_v185)) (v45 : (c : Dev Cert.Kernel22Ideal.nD) → Buf (Elt Ideal) ((c.tc : Thread Cert.Kernel22Ideal.nD Cert.Kernel22Ideal.τ).loc Cert.Kernel22Ideal.main_v187)) (v46 : (c : Dev Cert.Kernel22Ideal.nD) → Buf (Elt Ideal) ((c.tc : Thread Cert.Kernel22Ideal.nD Cert.Kernel22Ideal.τ).loc Cert.Kernel22Ideal.main_v189)) (v47 : (c : Dev Cert.Kernel22Ideal.nD) → Buf (Elt Ideal) ((c.tc : Thread Cert.Kernel22Ideal.nD Cert.Kernel22Ideal.τ).loc Cert.Kernel22Ideal.main_v191)) (v48 : (c : Dev Cert.Kernel22Ideal.nD) → Buf (Elt Ideal) ((c.tc : Thread Cert.Kernel22Ideal.nD Cert.Kernel22Ideal.τ).loc Cert.Kernel22Ideal.main_v193)) (v49 : (c : Dev Cert.Kernel22Ideal.nD) → Buf (Elt Ideal) ((c.tc : Thread Cert.Kernel22Ideal.nD Cert.Kernel22Ideal.τ).loc Cert.Kernel22Ideal.main_v195)) (v50 : (c : Dev Cert.Kernel22Ideal.nD) → Buf (Elt Ideal) ((c.tc : Thread Cert.Kernel22Ideal.nD Cert.Kernel22Ideal.τ).loc Cert.Kernel22Ideal.main_v197)) (v51 : (c : Dev Cert.Kernel22Ideal.nD) → Buf (Elt Ideal) ((c.tc : Thread Cert.Kernel22Ideal.nD Cert.Kernel22Ideal.τ).loc Cert.Kernel22Ideal.main_v199)) (v52 : (c : Dev Cert.Kernel22Ideal.nD) → Buf (Elt Ideal) ((c.tc : Thread Cert.Kernel22Ideal.nD Cert.Kernel22Ideal.τ).loc Cert.Kernel22Ideal.main_v201)) (v53 : (c : Dev Cert.Kernel22Ideal.nD) → Buf (Elt Ideal) ((c.tc : Thread Cert.Kernel22Ideal.nD Cert.Kernel22Ideal.τ).loc Cert.Kernel22Ideal.main_v203)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v95) = v0 c
          ∧ r.2.mem ((c.tc : Thread Cert.Kernel22Ideal.nD Cert.Kernel22Ideal.τ).loc Cert.Kernel22Ideal.main_v97) = v1 c
          ∧ r.2.mem ((c.tc : Thread Cert.Kernel22Ideal.nD Cert.Kernel22Ideal.τ).loc Cert.Kernel22Ideal.main_v99) = v2 c
          ∧ r.2.mem ((c.tc : Thread Cert.Kernel22Ideal.nD Cert.Kernel22Ideal.τ).loc Cert.Kernel22Ideal.main_v101) = v3 c
          ∧ r.2.mem ((c.tc : Thread Cert.Kernel22Ideal.nD Cert.Kernel22Ideal.τ).loc Cert.Kernel22Ideal.main_v103) = v4 c
          ∧ r.2.mem ((c.tc : Thread Cert.Kernel22Ideal.nD Cert.Kernel22Ideal.τ).loc Cert.Kernel22Ideal.main_v105) = v5 c
          ∧ r.2.mem ((c.tc : Thread Cert.Kernel22Ideal.nD Cert.Kernel22Ideal.τ).loc Cert.Kernel22Ideal.main_v107) = v6 c
          ∧ r.2.mem ((c.tc : Thread Cert.Kernel22Ideal.nD Cert.Kernel22Ideal.τ).loc Cert.Kernel22Ideal.main_v109) = v7 c
          ∧ r.2.mem ((c.tc : Thread Cert.Kernel22Ideal.nD Cert.Kernel22Ideal.τ).loc Cert.Kernel22Ideal.main_v111) = v8 c
          ∧ r.2.mem ((c.tc : Thread Cert.Kernel22Ideal.nD Cert.Kernel22Ideal.τ).loc Cert.Kernel22Ideal.main_v113) = v9 c
          ∧ r.2.mem ((c.tc : Thread Cert.Kernel22Ideal.nD Cert.Kernel22Ideal.τ).loc Cert.Kernel22Ideal.main_v115) = v10 c
          ∧ r.2.mem ((c.tc : Thread Cert.Kernel22Ideal.nD Cert.Kernel22Ideal.τ).loc Cert.Kernel22Ideal.main_v117) = v11 c
          ∧ r.2.mem ((c.tc : Thread Cert.Kernel22Ideal.nD Cert.Kernel22Ideal.τ).loc Cert.Kernel22Ideal.main_v119) = v12 c
          ∧ r.2.mem ((c.tc : Thread Cert.Kernel22Ideal.nD Cert.Kernel22Ideal.τ).loc Cert.Kernel22Ideal.main_v121) = v13 c
          ∧ r.2.mem ((c.tc : Thread Cert.Kernel22Ideal.nD Cert.Kernel22Ideal.τ).loc Cert.Kernel22Ideal.main_v123) = v14 c
          ∧ r.2.mem ((c.tc : Thread Cert.Kernel22Ideal.nD Cert.Kernel22Ideal.τ).loc Cert.Kernel22Ideal.main_v125) = v15 c
          ∧ r.2.mem ((c.tc : Thread Cert.Kernel22Ideal.nD Cert.Kernel22Ideal.τ).loc Cert.Kernel22Ideal.main_v127) = v16 c
          ∧ r.2.mem ((c.tc : Thread Cert.Kernel22Ideal.nD Cert.Kernel22Ideal.τ).loc Cert.Kernel22Ideal.main_v129) = v17 c
          ∧ r.2.mem ((c.tc : Thread Cert.Kernel22Ideal.nD Cert.Kernel22Ideal.τ).loc Cert.Kernel22Ideal.main_v132) = v18 c
          ∧ r.2.mem ((c.tc : Thread Cert.Kernel22Ideal.nD Cert.Kernel22Ideal.τ).loc Cert.Kernel22Ideal.main_v134) = v19 c
          ∧ r.2.mem ((c.tc : Thread Cert.Kernel22Ideal.nD Cert.Kernel22Ideal.τ).loc Cert.Kernel22Ideal.main_v136) = v20 c
          ∧ r.2.mem ((c.tc : Thread Cert.Kernel22Ideal.nD Cert.Kernel22Ideal.τ).loc Cert.Kernel22Ideal.main_v138) = v21 c
          ∧ r.2.mem ((c.tc : Thread Cert.Kernel22Ideal.nD Cert.Kernel22Ideal.τ).loc Cert.Kernel22Ideal.main_v140) = v22 c
          ∧ r.2.mem ((c.tc : Thread Cert.Kernel22Ideal.nD Cert.Kernel22Ideal.τ).loc Cert.Kernel22Ideal.main_v142) = v23 c
          ∧ r.2.mem ((c.tc : Thread Cert.Kernel22Ideal.nD Cert.Kernel22Ideal.τ).loc Cert.Kernel22Ideal.main_v144) = v24 c
          ∧ r.2.mem ((c.tc : Thread Cert.Kernel22Ideal.nD Cert.Kernel22Ideal.τ).loc Cert.Kernel22Ideal.main_v146) = v25 c
          ∧ r.2.mem ((c.tc : Thread Cert.Kernel22Ideal.nD Cert.Kernel22Ideal.τ).loc Cert.Kernel22Ideal.main_v148) = v26 c
          ∧ r.2.mem ((c.tc : Thread Cert.Kernel22Ideal.nD Cert.Kernel22Ideal.τ).loc Cert.Kernel22Ideal.main_v150) = v27 c
          ∧ r.2.mem ((c.tc : Thread Cert.Kernel22Ideal.nD Cert.Kernel22Ideal.τ).loc Cert.Kernel22Ideal.main_v152) = v28 c
          ∧ r.2.mem ((c.tc : Thread Cert.Kernel22Ideal.nD Cert.Kernel22Ideal.τ).loc Cert.Kernel22Ideal.main_v154) = v29 c
          ∧ r.2.mem ((c.tc : Thread Cert.Kernel22Ideal.nD Cert.Kernel22Ideal.τ).loc Cert.Kernel22Ideal.main_v156) = v30 c
          ∧ r.2.mem ((c.tc : Thread Cert.Kernel22Ideal.nD Cert.Kernel22Ideal.τ).loc Cert.Kernel22Ideal.main_v158) = v31 c
          ∧ r.2.mem ((c.tc : Thread Cert.Kernel22Ideal.nD Cert.Kernel22Ideal.τ).loc Cert.Kernel22Ideal.main_v160) = v32 c
          ∧ r.2.mem ((c.tc : Thread Cert.Kernel22Ideal.nD Cert.Kernel22Ideal.τ).loc Cert.Kernel22Ideal.main_v162) = v33 c
          ∧ r.2.mem ((c.tc : Thread Cert.Kernel22Ideal.nD Cert.Kernel22Ideal.τ).loc Cert.Kernel22Ideal.main_v164) = v34 c
          ∧ r.2.mem ((c.tc : Thread Cert.Kernel22Ideal.nD Cert.Kernel22Ideal.τ).loc Cert.Kernel22Ideal.main_v166) = v35 c
          ∧ r.2.mem ((c.tc : Thread Cert.Kernel22Ideal.nD Cert.Kernel22Ideal.τ).loc Cert.Kernel22Ideal.main_v169) = v36 c
          ∧ r.2.mem ((c.tc : Thread Cert.Kernel22Ideal.nD Cert.Kernel22Ideal.τ).loc Cert.Kernel22Ideal.main_v171) = v37 c
          ∧ r.2.mem ((c.tc : Thread Cert.Kernel22Ideal.nD Cert.Kernel22Ideal.τ).loc Cert.Kernel22Ideal.main_v173) = v38 c
          ∧ r.2.mem ((c.tc : Thread Cert.Kernel22Ideal.nD Cert.Kernel22Ideal.τ).loc Cert.Kernel22Ideal.main_v175) = v39 c
          ∧ r.2.mem ((c.tc : Thread Cert.Kernel22Ideal.nD Cert.Kernel22Ideal.τ).loc Cert.Kernel22Ideal.main_v177) = v40 c
          ∧ r.2.mem ((c.tc : Thread Cert.Kernel22Ideal.nD Cert.Kernel22Ideal.τ).loc Cert.Kernel22Ideal.main_v179) = v41 c
          ∧ r.2.mem ((c.tc : Thread Cert.Kernel22Ideal.nD Cert.Kernel22Ideal.τ).loc Cert.Kernel22Ideal.main_v181) = v42 c
          ∧ r.2.mem ((c.tc : Thread Cert.Kernel22Ideal.nD Cert.Kernel22Ideal.τ).loc Cert.Kernel22Ideal.main_v183) = v43 c
          ∧ r.2.mem ((c.tc : Thread Cert.Kernel22Ideal.nD Cert.Kernel22Ideal.τ).loc Cert.Kernel22Ideal.main_v185) = v44 c
          ∧ r.2.mem ((c.tc : Thread Cert.Kernel22Ideal.nD Cert.Kernel22Ideal.τ).loc Cert.Kernel22Ideal.main_v187) = v45 c
          ∧ r.2.mem ((c.tc : Thread Cert.Kernel22Ideal.nD Cert.Kernel22Ideal.τ).loc Cert.Kernel22Ideal.main_v189) = v46 c
          ∧ r.2.mem ((c.tc : Thread Cert.Kernel22Ideal.nD Cert.Kernel22Ideal.τ).loc Cert.Kernel22Ideal.main_v191) = v47 c
          ∧ r.2.mem ((c.tc : Thread Cert.Kernel22Ideal.nD Cert.Kernel22Ideal.τ).loc Cert.Kernel22Ideal.main_v193) = v48 c
          ∧ r.2.mem ((c.tc : Thread Cert.Kernel22Ideal.nD Cert.Kernel22Ideal.τ).loc Cert.Kernel22Ideal.main_v195) = v49 c
          ∧ r.2.mem ((c.tc : Thread Cert.Kernel22Ideal.nD Cert.Kernel22Ideal.τ).loc Cert.Kernel22Ideal.main_v197) = v50 c
          ∧ r.2.mem ((c.tc : Thread Cert.Kernel22Ideal.nD Cert.Kernel22Ideal.τ).loc Cert.Kernel22Ideal.main_v199) = v51 c
          ∧ r.2.mem ((c.tc : Thread Cert.Kernel22Ideal.nD Cert.Kernel22Ideal.τ).loc Cert.Kernel22Ideal.main_v201) = v52 c
          ∧ r.2.mem ((c.tc : Thread Cert.Kernel22Ideal.nD Cert.Kernel22Ideal.τ).loc Cert.Kernel22Ideal.main_v203) = v53 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8)
          ∧ r.2.mem ((c.tc : Thread Cert.Kernel22Ideal.nD Cert.Kernel22Ideal.τ).loc Cert.Kernel22Ideal.main_arg9) = m ((c.tc : Thread Cert.Kernel22Ideal.nD Cert.Kernel22Ideal.τ).loc Cert.Kernel22Ideal.main_arg9)
          ∧ r.2.mem ((c.tc : Thread Cert.Kernel22Ideal.nD Cert.Kernel22Ideal.τ).loc Cert.Kernel22Ideal.main_arg10) = m ((c.tc : Thread Cert.Kernel22Ideal.nD Cert.Kernel22Ideal.τ).loc Cert.Kernel22Ideal.main_arg10)
          ∧ r.2.mem ((c.tc : Thread Cert.Kernel22Ideal.nD Cert.Kernel22Ideal.τ).loc Cert.Kernel22Ideal.main_arg11) = m ((c.tc : Thread Cert.Kernel22Ideal.nD Cert.Kernel22Ideal.τ).loc Cert.Kernel22Ideal.main_arg11)
          ∧ r.2.mem ((c.tc : Thread Cert.Kernel22Ideal.nD Cert.Kernel22Ideal.τ).loc Cert.Kernel22Ideal.main_arg12) = m ((c.tc : Thread Cert.Kernel22Ideal.nD Cert.Kernel22Ideal.τ).loc Cert.Kernel22Ideal.main_arg12)
          ∧ r.2.mem ((c.tc : Thread Cert.Kernel22Ideal.nD Cert.Kernel22Ideal.τ).loc Cert.Kernel22Ideal.main_arg13) = m ((c.tc : Thread Cert.Kernel22Ideal.nD Cert.Kernel22Ideal.τ).loc Cert.Kernel22Ideal.main_arg13)
          ∧ r.2.mem ((c.tc : Thread Cert.Kernel22Ideal.nD Cert.Kernel22Ideal.τ).loc Cert.Kernel22Ideal.main_arg14) = m ((c.tc : Thread Cert.Kernel22Ideal.nD Cert.Kernel22Ideal.τ).loc Cert.Kernel22Ideal.main_arg14)
          ∧ r.2.mem ((c.tc : Thread Cert.Kernel22Ideal.nD Cert.Kernel22Ideal.τ).loc Cert.Kernel22Ideal.main_arg15) = m ((c.tc : Thread Cert.Kernel22Ideal.nD Cert.Kernel22Ideal.τ).loc Cert.Kernel22Ideal.main_arg15)
          ∧ r.2.mem ((c.tc : Thread Cert.Kernel22Ideal.nD Cert.Kernel22Ideal.τ).loc Cert.Kernel22Ideal.main_arg16) = m ((c.tc : Thread Cert.Kernel22Ideal.nD Cert.Kernel22Ideal.τ).loc Cert.Kernel22Ideal.main_arg16)
          ∧ r.2.mem ((c.tc : Thread Cert.Kernel22Ideal.nD Cert.Kernel22Ideal.τ).loc Cert.Kernel22Ideal.main_arg17) = m ((c.tc : Thread Cert.Kernel22Ideal.nD Cert.Kernel22Ideal.τ).loc Cert.Kernel22Ideal.main_arg17)
          ∧ r.2.mem ((c.tc : Thread Cert.Kernel22Ideal.nD Cert.Kernel22Ideal.τ).loc Cert.Kernel22Ideal.main_arg18) = m ((c.tc : Thread Cert.Kernel22Ideal.nD Cert.Kernel22Ideal.τ).loc Cert.Kernel22Ideal.main_arg18)
          ∧ r.2.mem ((c.tc : Thread Cert.Kernel22Ideal.nD Cert.Kernel22Ideal.τ).loc Cert.Kernel22Ideal.main_arg19) = m ((c.tc : Thread Cert.Kernel22Ideal.nD Cert.Kernel22Ideal.τ).loc Cert.Kernel22Ideal.main_arg19)
          ∧ r.2.mem ((c.tc : Thread Cert.Kernel22Ideal.nD Cert.Kernel22Ideal.τ).loc Cert.Kernel22Ideal.main_arg20) = m ((c.tc : Thread Cert.Kernel22Ideal.nD Cert.Kernel22Ideal.τ).loc Cert.Kernel22Ideal.main_arg20)
          ∧ r.2.mem ((c.tc : Thread Cert.Kernel22Ideal.nD Cert.Kernel22Ideal.τ).loc Cert.Kernel22Ideal.main_arg21) = m ((c.tc : Thread Cert.Kernel22Ideal.nD Cert.Kernel22Ideal.τ).loc Cert.Kernel22Ideal.main_arg21)
          ∧ r.2.mem ((c.tc : Thread Cert.Kernel22Ideal.nD Cert.Kernel22Ideal.τ).loc Cert.Kernel22Ideal.main_arg22) = m ((c.tc : Thread Cert.Kernel22Ideal.nD Cert.Kernel22Ideal.τ).loc Cert.Kernel22Ideal.main_arg22)
          ∧ r.2.mem ((c.tc : Thread Cert.Kernel22Ideal.nD Cert.Kernel22Ideal.τ).loc Cert.Kernel22Ideal.main_arg23) = m ((c.tc : Thread Cert.Kernel22Ideal.nD Cert.Kernel22Ideal.τ).loc Cert.Kernel22Ideal.main_arg23)
          ∧ r.2.mem ((c.tc : Thread Cert.Kernel22Ideal.nD Cert.Kernel22Ideal.τ).loc Cert.Kernel22Ideal.main_arg24) = m ((c.tc : Thread Cert.Kernel22Ideal.nD Cert.Kernel22Ideal.τ).loc Cert.Kernel22Ideal.main_arg24)
          ∧ r.2.mem ((c.tc : Thread Cert.Kernel22Ideal.nD Cert.Kernel22Ideal.τ).loc Cert.Kernel22Ideal.main_arg25) = m ((c.tc : Thread Cert.Kernel22Ideal.nD Cert.Kernel22Ideal.τ).loc Cert.Kernel22Ideal.main_arg25)
          ∧ r.2.mem ((c.tc : Thread Cert.Kernel22Ideal.nD Cert.Kernel22Ideal.τ).loc Cert.Kernel22Ideal.main_arg26) = m ((c.tc : Thread Cert.Kernel22Ideal.nD Cert.Kernel22Ideal.τ).loc Cert.Kernel22Ideal.main_arg26)
          ∧ r.2.mem ((c.tc : Thread Cert.Kernel22Ideal.nD Cert.Kernel22Ideal.τ).loc Cert.Kernel22Ideal.main_arg27) = m ((c.tc : Thread Cert.Kernel22Ideal.nD Cert.Kernel22Ideal.τ).loc Cert.Kernel22Ideal.main_arg27)
          ∧ r.2.mem ((c.tc : Thread Cert.Kernel22Ideal.nD Cert.Kernel22Ideal.τ).loc Cert.Kernel22Ideal.main_arg28) = m ((c.tc : Thread Cert.Kernel22Ideal.nD Cert.Kernel22Ideal.τ).loc Cert.Kernel22Ideal.main_arg28)
          ∧ r.2.mem ((c.tc : Thread Cert.Kernel22Ideal.nD Cert.Kernel22Ideal.τ).loc Cert.Kernel22Ideal.main_arg29) = m ((c.tc : Thread Cert.Kernel22Ideal.nD Cert.Kernel22Ideal.τ).loc Cert.Kernel22Ideal.main_arg29)
          ∧ r.2.mem ((c.tc : Thread Cert.Kernel22Ideal.nD Cert.Kernel22Ideal.τ).loc Cert.Kernel22Ideal.main_arg30) = m ((c.tc : Thread Cert.Kernel22Ideal.nD Cert.Kernel22Ideal.τ).loc Cert.Kernel22Ideal.main_arg30)
          ∧ r.2.mem ((c.tc : Thread Cert.Kernel22Ideal.nD Cert.Kernel22Ideal.τ).loc Cert.Kernel22Ideal.main_arg31) = m ((c.tc : Thread Cert.Kernel22Ideal.nD Cert.Kernel22Ideal.τ).loc Cert.Kernel22Ideal.main_arg31)
          ∧ r.2.mem ((c.tc : Thread Cert.Kernel22Ideal.nD Cert.Kernel22Ideal.τ).loc Cert.Kernel22Ideal.main_arg32) = m ((c.tc : Thread Cert.Kernel22Ideal.nD Cert.Kernel22Ideal.τ).loc Cert.Kernel22Ideal.main_arg32)
          ∧ r.2.mem ((c.tc : Thread Cert.Kernel22Ideal.nD Cert.Kernel22Ideal.τ).loc Cert.Kernel22Ideal.main_arg33) = m ((c.tc : Thread Cert.Kernel22Ideal.nD Cert.Kernel22Ideal.τ).loc Cert.Kernel22Ideal.main_arg33)
          ∧ r.2.mem ((c.tc : Thread Cert.Kernel22Ideal.nD Cert.Kernel22Ideal.τ).loc Cert.Kernel22Ideal.main_arg34) = m ((c.tc : Thread Cert.Kernel22Ideal.nD Cert.Kernel22Ideal.τ).loc Cert.Kernel22Ideal.main_arg34)
          ∧ r.2.mem ((c.tc : Thread Cert.Kernel22Ideal.nD Cert.Kernel22Ideal.τ).loc Cert.Kernel22Ideal.main_arg35) = m ((c.tc : Thread Cert.Kernel22Ideal.nD Cert.Kernel22Ideal.τ).loc Cert.Kernel22Ideal.main_arg35)
          ∧ r.2.mem ((c.tc : Thread Cert.Kernel22Ideal.nD Cert.Kernel22Ideal.τ).loc Cert.Kernel22Ideal.main_arg36) = m ((c.tc : Thread Cert.Kernel22Ideal.nD Cert.Kernel22Ideal.τ).loc Cert.Kernel22Ideal.main_arg36)
          ∧ r.2.mem ((c.tc : Thread Cert.Kernel22Ideal.nD Cert.Kernel22Ideal.τ).loc Cert.Kernel22Ideal.main_arg37) = m ((c.tc : Thread Cert.Kernel22Ideal.nD Cert.Kernel22Ideal.τ).loc Cert.Kernel22Ideal.main_arg37)
          ∧ r.2.mem ((c.tc : Thread Cert.Kernel22Ideal.nD Cert.Kernel22Ideal.τ).loc Cert.Kernel22Ideal.main_arg38) = m ((c.tc : Thread Cert.Kernel22Ideal.nD Cert.Kernel22Ideal.τ).loc Cert.Kernel22Ideal.main_arg38)
          ∧ r.2.mem ((c.tc : Thread Cert.Kernel22Ideal.nD Cert.Kernel22Ideal.τ).loc Cert.Kernel22Ideal.main_arg39) = m ((c.tc : Thread Cert.Kernel22Ideal.nD Cert.Kernel22Ideal.τ).loc Cert.Kernel22Ideal.main_arg39)
          ∧ r.2.mem ((c.tc : Thread Cert.Kernel22Ideal.nD Cert.Kernel22Ideal.τ).loc Cert.Kernel22Ideal.main_arg40) = m ((c.tc : Thread Cert.Kernel22Ideal.nD Cert.Kernel22Ideal.τ).loc Cert.Kernel22Ideal.main_arg40)
          ∧ r.2.mem ((c.tc : Thread Cert.Kernel22Ideal.nD Cert.Kernel22Ideal.τ).loc Cert.Kernel22Ideal.main_arg41) = m ((c.tc : Thread Cert.Kernel22Ideal.nD Cert.Kernel22Ideal.τ).loc Cert.Kernel22Ideal.main_arg41)
          ∧ r.2.mem ((c.tc : Thread Cert.Kernel22Ideal.nD Cert.Kernel22Ideal.τ).loc Cert.Kernel22Ideal.main_arg42) = m ((c.tc : Thread Cert.Kernel22Ideal.nD Cert.Kernel22Ideal.τ).loc Cert.Kernel22Ideal.main_arg42)
          ∧ r.2.mem ((c.tc : Thread Cert.Kernel22Ideal.nD Cert.Kernel22Ideal.τ).loc Cert.Kernel22Ideal.main_arg43) = m ((c.tc : Thread Cert.Kernel22Ideal.nD Cert.Kernel22Ideal.τ).loc Cert.Kernel22Ideal.main_arg43)
          ∧ r.2.mem ((c.tc : Thread Cert.Kernel22Ideal.nD Cert.Kernel22Ideal.τ).loc Cert.Kernel22Ideal.main_arg44) = m ((c.tc : Thread Cert.Kernel22Ideal.nD Cert.Kernel22Ideal.τ).loc Cert.Kernel22Ideal.main_arg44)
          ∧ r.2.mem ((c.tc : Thread Cert.Kernel22Ideal.nD Cert.Kernel22Ideal.τ).loc Cert.Kernel22Ideal.main_arg45) = m ((c.tc : Thread Cert.Kernel22Ideal.nD Cert.Kernel22Ideal.τ).loc Cert.Kernel22Ideal.main_arg45)
          ∧ r.2.mem ((c.tc : Thread Cert.Kernel22Ideal.nD Cert.Kernel22Ideal.τ).loc Cert.Kernel22Ideal.main_arg46) = m ((c.tc : Thread Cert.Kernel22Ideal.nD Cert.Kernel22Ideal.τ).loc Cert.Kernel22Ideal.main_arg46)
          ∧ r.2.mem ((c.tc : Thread Cert.Kernel22Ideal.nD Cert.Kernel22Ideal.τ).loc Cert.Kernel22Ideal.main_arg47) = m ((c.tc : Thread Cert.Kernel22Ideal.nD Cert.Kernel22Ideal.τ).loc Cert.Kernel22Ideal.main_arg47)
          ∧ r.2.mem ((c.tc : Thread Cert.Kernel22Ideal.nD Cert.Kernel22Ideal.τ).loc Cert.Kernel22Ideal.main_arg48) = m ((c.tc : Thread Cert.Kernel22Ideal.nD Cert.Kernel22Ideal.τ).loc Cert.Kernel22Ideal.main_arg48)
          ∧ r.2.mem ((c.tc : Thread Cert.Kernel22Ideal.nD Cert.Kernel22Ideal.τ).loc Cert.Kernel22Ideal.main_arg49) = m ((c.tc : Thread Cert.Kernel22Ideal.nD Cert.Kernel22Ideal.τ).loc Cert.Kernel22Ideal.main_arg49)
          ∧ r.2.mem ((c.tc : Thread Cert.Kernel22Ideal.nD Cert.Kernel22Ideal.τ).loc Cert.Kernel22Ideal.main_arg50) = m ((c.tc : Thread Cert.Kernel22Ideal.nD Cert.Kernel22Ideal.τ).loc Cert.Kernel22Ideal.main_arg50)
          ∧ r.2.mem ((c.tc : Thread Cert.Kernel22Ideal.nD Cert.Kernel22Ideal.τ).loc Cert.Kernel22Ideal.main_arg51) = m ((c.tc : Thread Cert.Kernel22Ideal.nD Cert.Kernel22Ideal.τ).loc Cert.Kernel22Ideal.main_arg51)
          ∧ r.2.mem ((c.tc : Thread Cert.Kernel22Ideal.nD Cert.Kernel22Ideal.τ).loc Cert.Kernel22Ideal.main_arg52) = m ((c.tc : Thread Cert.Kernel22Ideal.nD Cert.Kernel22Ideal.τ).loc Cert.Kernel22Ideal.main_arg52)
          ∧ r.2.mem ((c.tc : Thread Cert.Kernel22Ideal.nD Cert.Kernel22Ideal.τ).loc Cert.Kernel22Ideal.main_arg53) = m ((c.tc : Thread Cert.Kernel22Ideal.nD Cert.Kernel22Ideal.τ).loc Cert.Kernel22Ideal.main_arg53)
          ∧ r.2.mem ((c.tc : Thread Cert.Kernel22Ideal.nD Cert.Kernel22Ideal.τ).loc Cert.Kernel22Ideal.main_arg54) = m ((c.tc : Thread Cert.Kernel22Ideal.nD Cert.Kernel22Ideal.τ).loc Cert.Kernel22Ideal.main_arg54)
          ∧ r.2.mem ((c.tc : Thread Cert.Kernel22Ideal.nD Cert.Kernel22Ideal.τ).loc Cert.Kernel22Ideal.main_arg55) = m ((c.tc : Thread Cert.Kernel22Ideal.nD Cert.Kernel22Ideal.τ).loc Cert.Kernel22Ideal.main_arg55)
          ∧ r.2.mem ((c.tc : Thread Cert.Kernel22Ideal.nD Cert.Kernel22Ideal.τ).loc Cert.Kernel22Ideal.main_arg56) = m ((c.tc : Thread Cert.Kernel22Ideal.nD Cert.Kernel22Ideal.τ).loc Cert.Kernel22Ideal.main_arg56)
          ∧ r.2.mem ((c.tc : Thread Cert.Kernel22Ideal.nD Cert.Kernel22Ideal.τ).loc Cert.Kernel22Ideal.main_arg57) = m ((c.tc : Thread Cert.Kernel22Ideal.nD Cert.Kernel22Ideal.τ).loc Cert.Kernel22Ideal.main_arg57)
          ∧ r.2.mem ((c.tc : Thread Cert.Kernel22Ideal.nD Cert.Kernel22Ideal.τ).loc Cert.Kernel22Ideal.main_arg58) = m ((c.tc : Thread Cert.Kernel22Ideal.nD Cert.Kernel22Ideal.τ).loc Cert.Kernel22Ideal.main_arg58)
          ∧ r.2.mem ((c.tc : Thread Cert.Kernel22Ideal.nD Cert.Kernel22Ideal.τ).loc Cert.Kernel22Ideal.main_arg59) = m ((c.tc : Thread Cert.Kernel22Ideal.nD Cert.Kernel22Ideal.τ).loc Cert.Kernel22Ideal.main_arg59)
          ∧ r.2.mem ((c.tc : Thread Cert.Kernel22Ideal.nD Cert.Kernel22Ideal.τ).loc Cert.Kernel22Ideal.main_arg60) = m ((c.tc : Thread Cert.Kernel22Ideal.nD Cert.Kernel22Ideal.τ).loc Cert.Kernel22Ideal.main_arg60)
          ∧ r.2.mem ((c.tc : Thread Cert.Kernel22Ideal.nD Cert.Kernel22Ideal.τ).loc Cert.Kernel22Ideal.main_arg61) = m ((c.tc : Thread Cert.Kernel22Ideal.nD Cert.Kernel22Ideal.τ).loc Cert.Kernel22Ideal.main_arg61)
          ∧ r.2.mem ((c.tc : Thread Cert.Kernel22Ideal.nD Cert.Kernel22Ideal.τ).loc Cert.Kernel22Ideal.main_arg62) = m ((c.tc : Thread Cert.Kernel22Ideal.nD Cert.Kernel22Ideal.τ).loc Cert.Kernel22Ideal.main_arg62)
          ∧ r.2.mem ((c.tc : Thread Cert.Kernel22Ideal.nD Cert.Kernel22Ideal.τ).loc Cert.Kernel22Ideal.main_arg63) = m ((c.tc : Thread Cert.Kernel22Ideal.nD Cert.Kernel22Ideal.τ).loc Cert.Kernel22Ideal.main_arg63)
          ∧ r.2.mem ((c.tc : Thread Cert.Kernel22Ideal.nD Cert.Kernel22Ideal.τ).loc Cert.Kernel22Ideal.main_arg64) = m ((c.tc : Thread Cert.Kernel22Ideal.nD Cert.Kernel22Ideal.τ).loc Cert.Kernel22Ideal.main_arg64)
          ∧ r.2.mem ((c.tc : Thread Cert.Kernel22Ideal.nD Cert.Kernel22Ideal.τ).loc Cert.Kernel22Ideal.main_arg65) = m ((c.tc : Thread Cert.Kernel22Ideal.nD Cert.Kernel22Ideal.τ).loc Cert.Kernel22Ideal.main_arg65)
          ∧ r.2.mem ((c.tc : Thread Cert.Kernel22Ideal.nD Cert.Kernel22Ideal.τ).loc Cert.Kernel22Ideal.main_arg66) = m ((c.tc : Thread Cert.Kernel22Ideal.nD Cert.Kernel22Ideal.τ).loc Cert.Kernel22Ideal.main_arg66)
          ∧ r.2.mem ((c.tc : Thread Cert.Kernel22Ideal.nD Cert.Kernel22Ideal.τ).loc Cert.Kernel22Ideal.main_arg67) = m ((c.tc : Thread Cert.Kernel22Ideal.nD Cert.Kernel22Ideal.τ).loc Cert.Kernel22Ideal.main_arg67)
          ∧ r.2.mem ((c.tc : Thread Cert.Kernel22Ideal.nD Cert.Kernel22Ideal.τ).loc Cert.Kernel22Ideal.main_arg68) = m ((c.tc : Thread Cert.Kernel22Ideal.nD Cert.Kernel22Ideal.τ).loc Cert.Kernel22Ideal.main_arg68)
          ∧ r.2.mem ((c.tc : Thread Cert.Kernel22Ideal.nD Cert.Kernel22Ideal.τ).loc Cert.Kernel22Ideal.main_arg69) = m ((c.tc : Thread Cert.Kernel22Ideal.nD Cert.Kernel22Ideal.τ).loc Cert.Kernel22Ideal.main_arg69)
          ∧ r.2.mem ((c.tc : Thread Cert.Kernel22Ideal.nD Cert.Kernel22Ideal.τ).loc Cert.Kernel22Ideal.main_arg70) = m ((c.tc : Thread Cert.Kernel22Ideal.nD Cert.Kernel22Ideal.τ).loc Cert.Kernel22Ideal.main_arg70)
          ∧ r.2.mem ((c.tc : Thread Cert.Kernel22Ideal.nD Cert.Kernel22Ideal.τ).loc Cert.Kernel22Ideal.main_arg71) = m ((c.tc : Thread Cert.Kernel22Ideal.nD Cert.Kernel22Ideal.τ).loc Cert.Kernel22Ideal.main_arg71))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v47) = v1 c
          ∧ r.2.mem ((c.tc : Thread Cert.Reference22Ideal.nD Cert.Reference22Ideal.τ).loc Cert.Reference22Ideal.main_v71) = v2 c
          ∧ r.2.mem ((c.tc : Thread Cert.Reference22Ideal.nD Cert.Reference22Ideal.τ).loc Cert.Reference22Ideal.main_v95) = v3 c
          ∧ r.2.mem ((c.tc : Thread Cert.Reference22Ideal.nD Cert.Reference22Ideal.τ).loc Cert.Reference22Ideal.main_v119) = v4 c
          ∧ r.2.mem ((c.tc : Thread Cert.Reference22Ideal.nD Cert.Reference22Ideal.τ).loc Cert.Reference22Ideal.main_v143) = v5 c
          ∧ r.2.mem ((c.tc : Thread Cert.Reference22Ideal.nD Cert.Reference22Ideal.τ).loc Cert.Reference22Ideal.main_v167) = v6 c
          ∧ r.2.mem ((c.tc : Thread Cert.Reference22Ideal.nD Cert.Reference22Ideal.τ).loc Cert.Reference22Ideal.main_v191) = v7 c
          ∧ r.2.mem ((c.tc : Thread Cert.Reference22Ideal.nD Cert.Reference22Ideal.τ).loc Cert.Reference22Ideal.main_v215) = v8 c
          ∧ r.2.mem ((c.tc : Thread Cert.Reference22Ideal.nD Cert.Reference22Ideal.τ).loc Cert.Reference22Ideal.main_v239) = v9 c
          ∧ r.2.mem ((c.tc : Thread Cert.Reference22Ideal.nD Cert.Reference22Ideal.τ).loc Cert.Reference22Ideal.main_v263) = v10 c
          ∧ r.2.mem ((c.tc : Thread Cert.Reference22Ideal.nD Cert.Reference22Ideal.τ).loc Cert.Reference22Ideal.main_v287) = v11 c
          ∧ r.2.mem ((c.tc : Thread Cert.Reference22Ideal.nD Cert.Reference22Ideal.τ).loc Cert.Reference22Ideal.main_v311) = v12 c
          ∧ r.2.mem ((c.tc : Thread Cert.Reference22Ideal.nD Cert.Reference22Ideal.τ).loc Cert.Reference22Ideal.main_v335) = v13 c
          ∧ r.2.mem ((c.tc : Thread Cert.Reference22Ideal.nD Cert.Reference22Ideal.τ).loc Cert.Reference22Ideal.main_v359) = v14 c
          ∧ r.2.mem ((c.tc : Thread Cert.Reference22Ideal.nD Cert.Reference22Ideal.τ).loc Cert.Reference22Ideal.main_v383) = v15 c
          ∧ r.2.mem ((c.tc : Thread Cert.Reference22Ideal.nD Cert.Reference22Ideal.τ).loc Cert.Reference22Ideal.main_v407) = v16 c
          ∧ r.2.mem ((c.tc : Thread Cert.Reference22Ideal.nD Cert.Reference22Ideal.τ).loc Cert.Reference22Ideal.main_v431) = v17 c
          ∧ r.2.mem ((c.tc : Thread Cert.Reference22Ideal.nD Cert.Reference22Ideal.τ).loc Cert.Reference22Ideal.main_v4) = v18 c
          ∧ r.2.mem ((c.tc : Thread Cert.Reference22Ideal.nD Cert.Reference22Ideal.τ).loc Cert.Reference22Ideal.main_v28) = v19 c
          ∧ r.2.mem ((c.tc : Thread Cert.Reference22Ideal.nD Cert.Reference22Ideal.τ).loc Cert.Reference22Ideal.main_v52) = v20 c
          ∧ r.2.mem ((c.tc : Thread Cert.Reference22Ideal.nD Cert.Reference22Ideal.τ).loc Cert.Reference22Ideal.main_v76) = v21 c
          ∧ r.2.mem ((c.tc : Thread Cert.Reference22Ideal.nD Cert.Reference22Ideal.τ).loc Cert.Reference22Ideal.main_v100) = v22 c
          ∧ r.2.mem ((c.tc : Thread Cert.Reference22Ideal.nD Cert.Reference22Ideal.τ).loc Cert.Reference22Ideal.main_v124) = v23 c
          ∧ r.2.mem ((c.tc : Thread Cert.Reference22Ideal.nD Cert.Reference22Ideal.τ).loc Cert.Reference22Ideal.main_v148) = v24 c
          ∧ r.2.mem ((c.tc : Thread Cert.Reference22Ideal.nD Cert.Reference22Ideal.τ).loc Cert.Reference22Ideal.main_v172) = v25 c
          ∧ r.2.mem ((c.tc : Thread Cert.Reference22Ideal.nD Cert.Reference22Ideal.τ).loc Cert.Reference22Ideal.main_v196) = v26 c
          ∧ r.2.mem ((c.tc : Thread Cert.Reference22Ideal.nD Cert.Reference22Ideal.τ).loc Cert.Reference22Ideal.main_v220) = v27 c
          ∧ r.2.mem ((c.tc : Thread Cert.Reference22Ideal.nD Cert.Reference22Ideal.τ).loc Cert.Reference22Ideal.main_v244) = v28 c
          ∧ r.2.mem ((c.tc : Thread Cert.Reference22Ideal.nD Cert.Reference22Ideal.τ).loc Cert.Reference22Ideal.main_v268) = v29 c
          ∧ r.2.mem ((c.tc : Thread Cert.Reference22Ideal.nD Cert.Reference22Ideal.τ).loc Cert.Reference22Ideal.main_v292) = v30 c
          ∧ r.2.mem ((c.tc : Thread Cert.Reference22Ideal.nD Cert.Reference22Ideal.τ).loc Cert.Reference22Ideal.main_v316) = v31 c
          ∧ r.2.mem ((c.tc : Thread Cert.Reference22Ideal.nD Cert.Reference22Ideal.τ).loc Cert.Reference22Ideal.main_v340) = v32 c
          ∧ r.2.mem ((c.tc : Thread Cert.Reference22Ideal.nD Cert.Reference22Ideal.τ).loc Cert.Reference22Ideal.main_v364) = v33 c
          ∧ r.2.mem ((c.tc : Thread Cert.Reference22Ideal.nD Cert.Reference22Ideal.τ).loc Cert.Reference22Ideal.main_v388) = v34 c
          ∧ r.2.mem ((c.tc : Thread Cert.Reference22Ideal.nD Cert.Reference22Ideal.τ).loc Cert.Reference22Ideal.main_v412) = v35 c
          ∧ r.2.mem ((c.tc : Thread Cert.Reference22Ideal.nD Cert.Reference22Ideal.τ).loc Cert.Reference22Ideal.main_v10) = v36 c
          ∧ r.2.mem ((c.tc : Thread Cert.Reference22Ideal.nD Cert.Reference22Ideal.τ).loc Cert.Reference22Ideal.main_v34) = v37 c
          ∧ r.2.mem ((c.tc : Thread Cert.Reference22Ideal.nD Cert.Reference22Ideal.τ).loc Cert.Reference22Ideal.main_v58) = v38 c
          ∧ r.2.mem ((c.tc : Thread Cert.Reference22Ideal.nD Cert.Reference22Ideal.τ).loc Cert.Reference22Ideal.main_v82) = v39 c
          ∧ r.2.mem ((c.tc : Thread Cert.Reference22Ideal.nD Cert.Reference22Ideal.τ).loc Cert.Reference22Ideal.main_v106) = v40 c
          ∧ r.2.mem ((c.tc : Thread Cert.Reference22Ideal.nD Cert.Reference22Ideal.τ).loc Cert.Reference22Ideal.main_v130) = v41 c
          ∧ r.2.mem ((c.tc : Thread Cert.Reference22Ideal.nD Cert.Reference22Ideal.τ).loc Cert.Reference22Ideal.main_v154) = v42 c
          ∧ r.2.mem ((c.tc : Thread Cert.Reference22Ideal.nD Cert.Reference22Ideal.τ).loc Cert.Reference22Ideal.main_v178) = v43 c
          ∧ r.2.mem ((c.tc : Thread Cert.Reference22Ideal.nD Cert.Reference22Ideal.τ).loc Cert.Reference22Ideal.main_v202) = v44 c
          ∧ r.2.mem ((c.tc : Thread Cert.Reference22Ideal.nD Cert.Reference22Ideal.τ).loc Cert.Reference22Ideal.main_v226) = v45 c
          ∧ r.2.mem ((c.tc : Thread Cert.Reference22Ideal.nD Cert.Reference22Ideal.τ).loc Cert.Reference22Ideal.main_v250) = v46 c
          ∧ r.2.mem ((c.tc : Thread Cert.Reference22Ideal.nD Cert.Reference22Ideal.τ).loc Cert.Reference22Ideal.main_v274) = v47 c
          ∧ r.2.mem ((c.tc : Thread Cert.Reference22Ideal.nD Cert.Reference22Ideal.τ).loc Cert.Reference22Ideal.main_v298) = v48 c
          ∧ r.2.mem ((c.tc : Thread Cert.Reference22Ideal.nD Cert.Reference22Ideal.τ).loc Cert.Reference22Ideal.main_v322) = v49 c
          ∧ r.2.mem ((c.tc : Thread Cert.Reference22Ideal.nD Cert.Reference22Ideal.τ).loc Cert.Reference22Ideal.main_v346) = v50 c
          ∧ r.2.mem ((c.tc : Thread Cert.Reference22Ideal.nD Cert.Reference22Ideal.τ).loc Cert.Reference22Ideal.main_v370) = v51 c
          ∧ r.2.mem ((c.tc : Thread Cert.Reference22Ideal.nD Cert.Reference22Ideal.τ).loc Cert.Reference22Ideal.main_v394) = v52 c
          ∧ r.2.mem ((c.tc : Thread Cert.Reference22Ideal.nD Cert.Reference22Ideal.τ).loc Cert.Reference22Ideal.main_v418) = v53 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8)
          ∧ r.2.mem ((c.tc : Thread Cert.Reference22Ideal.nD Cert.Reference22Ideal.τ).loc Cert.Reference22Ideal.main_arg9) = m' ((c.tc : Thread Cert.Reference22Ideal.nD Cert.Reference22Ideal.τ).loc Cert.Reference22Ideal.main_arg9)
          ∧ r.2.mem ((c.tc : Thread Cert.Reference22Ideal.nD Cert.Reference22Ideal.τ).loc Cert.Reference22Ideal.main_arg10) = m' ((c.tc : Thread Cert.Reference22Ideal.nD Cert.Reference22Ideal.τ).loc Cert.Reference22Ideal.main_arg10)
          ∧ r.2.mem ((c.tc : Thread Cert.Reference22Ideal.nD Cert.Reference22Ideal.τ).loc Cert.Reference22Ideal.main_arg11) = m' ((c.tc : Thread Cert.Reference22Ideal.nD Cert.Reference22Ideal.τ).loc Cert.Reference22Ideal.main_arg11)
          ∧ r.2.mem ((c.tc : Thread Cert.Reference22Ideal.nD Cert.Reference22Ideal.τ).loc Cert.Reference22Ideal.main_arg12) = m' ((c.tc : Thread Cert.Reference22Ideal.nD Cert.Reference22Ideal.τ).loc Cert.Reference22Ideal.main_arg12)
          ∧ r.2.mem ((c.tc : Thread Cert.Reference22Ideal.nD Cert.Reference22Ideal.τ).loc Cert.Reference22Ideal.main_arg13) = m' ((c.tc : Thread Cert.Reference22Ideal.nD Cert.Reference22Ideal.τ).loc Cert.Reference22Ideal.main_arg13)
          ∧ r.2.mem ((c.tc : Thread Cert.Reference22Ideal.nD Cert.Reference22Ideal.τ).loc Cert.Reference22Ideal.main_arg14) = m' ((c.tc : Thread Cert.Reference22Ideal.nD Cert.Reference22Ideal.τ).loc Cert.Reference22Ideal.main_arg14)
          ∧ r.2.mem ((c.tc : Thread Cert.Reference22Ideal.nD Cert.Reference22Ideal.τ).loc Cert.Reference22Ideal.main_arg15) = m' ((c.tc : Thread Cert.Reference22Ideal.nD Cert.Reference22Ideal.τ).loc Cert.Reference22Ideal.main_arg15)
          ∧ r.2.mem ((c.tc : Thread Cert.Reference22Ideal.nD Cert.Reference22Ideal.τ).loc Cert.Reference22Ideal.main_arg16) = m' ((c.tc : Thread Cert.Reference22Ideal.nD Cert.Reference22Ideal.τ).loc Cert.Reference22Ideal.main_arg16)
          ∧ r.2.mem ((c.tc : Thread Cert.Reference22Ideal.nD Cert.Reference22Ideal.τ).loc Cert.Reference22Ideal.main_arg17) = m' ((c.tc : Thread Cert.Reference22Ideal.nD Cert.Reference22Ideal.τ).loc Cert.Reference22Ideal.main_arg17)
          ∧ r.2.mem ((c.tc : Thread Cert.Reference22Ideal.nD Cert.Reference22Ideal.τ).loc Cert.Reference22Ideal.main_arg18) = m' ((c.tc : Thread Cert.Reference22Ideal.nD Cert.Reference22Ideal.τ).loc Cert.Reference22Ideal.main_arg18)
          ∧ r.2.mem ((c.tc : Thread Cert.Reference22Ideal.nD Cert.Reference22Ideal.τ).loc Cert.Reference22Ideal.main_arg19) = m' ((c.tc : Thread Cert.Reference22Ideal.nD Cert.Reference22Ideal.τ).loc Cert.Reference22Ideal.main_arg19)
          ∧ r.2.mem ((c.tc : Thread Cert.Reference22Ideal.nD Cert.Reference22Ideal.τ).loc Cert.Reference22Ideal.main_arg20) = m' ((c.tc : Thread Cert.Reference22Ideal.nD Cert.Reference22Ideal.τ).loc Cert.Reference22Ideal.main_arg20)
          ∧ r.2.mem ((c.tc : Thread Cert.Reference22Ideal.nD Cert.Reference22Ideal.τ).loc Cert.Reference22Ideal.main_arg21) = m' ((c.tc : Thread Cert.Reference22Ideal.nD Cert.Reference22Ideal.τ).loc Cert.Reference22Ideal.main_arg21)
          ∧ r.2.mem ((c.tc : Thread Cert.Reference22Ideal.nD Cert.Reference22Ideal.τ).loc Cert.Reference22Ideal.main_arg22) = m' ((c.tc : Thread Cert.Reference22Ideal.nD Cert.Reference22Ideal.τ).loc Cert.Reference22Ideal.main_arg22)
          ∧ r.2.mem ((c.tc : Thread Cert.Reference22Ideal.nD Cert.Reference22Ideal.τ).loc Cert.Reference22Ideal.main_arg23) = m' ((c.tc : Thread Cert.Reference22Ideal.nD Cert.Reference22Ideal.τ).loc Cert.Reference22Ideal.main_arg23)
          ∧ r.2.mem ((c.tc : Thread Cert.Reference22Ideal.nD Cert.Reference22Ideal.τ).loc Cert.Reference22Ideal.main_arg24) = m' ((c.tc : Thread Cert.Reference22Ideal.nD Cert.Reference22Ideal.τ).loc Cert.Reference22Ideal.main_arg24)
          ∧ r.2.mem ((c.tc : Thread Cert.Reference22Ideal.nD Cert.Reference22Ideal.τ).loc Cert.Reference22Ideal.main_arg25) = m' ((c.tc : Thread Cert.Reference22Ideal.nD Cert.Reference22Ideal.τ).loc Cert.Reference22Ideal.main_arg25)
          ∧ r.2.mem ((c.tc : Thread Cert.Reference22Ideal.nD Cert.Reference22Ideal.τ).loc Cert.Reference22Ideal.main_arg26) = m' ((c.tc : Thread Cert.Reference22Ideal.nD Cert.Reference22Ideal.τ).loc Cert.Reference22Ideal.main_arg26)
          ∧ r.2.mem ((c.tc : Thread Cert.Reference22Ideal.nD Cert.Reference22Ideal.τ).loc Cert.Reference22Ideal.main_arg27) = m' ((c.tc : Thread Cert.Reference22Ideal.nD Cert.Reference22Ideal.τ).loc Cert.Reference22Ideal.main_arg27)
          ∧ r.2.mem ((c.tc : Thread Cert.Reference22Ideal.nD Cert.Reference22Ideal.τ).loc Cert.Reference22Ideal.main_arg28) = m' ((c.tc : Thread Cert.Reference22Ideal.nD Cert.Reference22Ideal.τ).loc Cert.Reference22Ideal.main_arg28)
          ∧ r.2.mem ((c.tc : Thread Cert.Reference22Ideal.nD Cert.Reference22Ideal.τ).loc Cert.Reference22Ideal.main_arg29) = m' ((c.tc : Thread Cert.Reference22Ideal.nD Cert.Reference22Ideal.τ).loc Cert.Reference22Ideal.main_arg29)
          ∧ r.2.mem ((c.tc : Thread Cert.Reference22Ideal.nD Cert.Reference22Ideal.τ).loc Cert.Reference22Ideal.main_arg30) = m' ((c.tc : Thread Cert.Reference22Ideal.nD Cert.Reference22Ideal.τ).loc Cert.Reference22Ideal.main_arg30)
          ∧ r.2.mem ((c.tc : Thread Cert.Reference22Ideal.nD Cert.Reference22Ideal.τ).loc Cert.Reference22Ideal.main_arg31) = m' ((c.tc : Thread Cert.Reference22Ideal.nD Cert.Reference22Ideal.τ).loc Cert.Reference22Ideal.main_arg31)
          ∧ r.2.mem ((c.tc : Thread Cert.Reference22Ideal.nD Cert.Reference22Ideal.τ).loc Cert.Reference22Ideal.main_arg32) = m' ((c.tc : Thread Cert.Reference22Ideal.nD Cert.Reference22Ideal.τ).loc Cert.Reference22Ideal.main_arg32)
          ∧ r.2.mem ((c.tc : Thread Cert.Reference22Ideal.nD Cert.Reference22Ideal.τ).loc Cert.Reference22Ideal.main_arg33) = m' ((c.tc : Thread Cert.Reference22Ideal.nD Cert.Reference22Ideal.τ).loc Cert.Reference22Ideal.main_arg33)
          ∧ r.2.mem ((c.tc : Thread Cert.Reference22Ideal.nD Cert.Reference22Ideal.τ).loc Cert.Reference22Ideal.main_arg34) = m' ((c.tc : Thread Cert.Reference22Ideal.nD Cert.Reference22Ideal.τ).loc Cert.Reference22Ideal.main_arg34)
          ∧ r.2.mem ((c.tc : Thread Cert.Reference22Ideal.nD Cert.Reference22Ideal.τ).loc Cert.Reference22Ideal.main_arg35) = m' ((c.tc : Thread Cert.Reference22Ideal.nD Cert.Reference22Ideal.τ).loc Cert.Reference22Ideal.main_arg35)
          ∧ r.2.mem ((c.tc : Thread Cert.Reference22Ideal.nD Cert.Reference22Ideal.τ).loc Cert.Reference22Ideal.main_arg36) = m' ((c.tc : Thread Cert.Reference22Ideal.nD Cert.Reference22Ideal.τ).loc Cert.Reference22Ideal.main_arg36)
          ∧ r.2.mem ((c.tc : Thread Cert.Reference22Ideal.nD Cert.Reference22Ideal.τ).loc Cert.Reference22Ideal.main_arg37) = m' ((c.tc : Thread Cert.Reference22Ideal.nD Cert.Reference22Ideal.τ).loc Cert.Reference22Ideal.main_arg37)
          ∧ r.2.mem ((c.tc : Thread Cert.Reference22Ideal.nD Cert.Reference22Ideal.τ).loc Cert.Reference22Ideal.main_arg38) = m' ((c.tc : Thread Cert.Reference22Ideal.nD Cert.Reference22Ideal.τ).loc Cert.Reference22Ideal.main_arg38)
          ∧ r.2.mem ((c.tc : Thread Cert.Reference22Ideal.nD Cert.Reference22Ideal.τ).loc Cert.Reference22Ideal.main_arg39) = m' ((c.tc : Thread Cert.Reference22Ideal.nD Cert.Reference22Ideal.τ).loc Cert.Reference22Ideal.main_arg39)
          ∧ r.2.mem ((c.tc : Thread Cert.Reference22Ideal.nD Cert.Reference22Ideal.τ).loc Cert.Reference22Ideal.main_arg40) = m' ((c.tc : Thread Cert.Reference22Ideal.nD Cert.Reference22Ideal.τ).loc Cert.Reference22Ideal.main_arg40)
          ∧ r.2.mem ((c.tc : Thread Cert.Reference22Ideal.nD Cert.Reference22Ideal.τ).loc Cert.Reference22Ideal.main_arg41) = m' ((c.tc : Thread Cert.Reference22Ideal.nD Cert.Reference22Ideal.τ).loc Cert.Reference22Ideal.main_arg41)
          ∧ r.2.mem ((c.tc : Thread Cert.Reference22Ideal.nD Cert.Reference22Ideal.τ).loc Cert.Reference22Ideal.main_arg42) = m' ((c.tc : Thread Cert.Reference22Ideal.nD Cert.Reference22Ideal.τ).loc Cert.Reference22Ideal.main_arg42)
          ∧ r.2.mem ((c.tc : Thread Cert.Reference22Ideal.nD Cert.Reference22Ideal.τ).loc Cert.Reference22Ideal.main_arg43) = m' ((c.tc : Thread Cert.Reference22Ideal.nD Cert.Reference22Ideal.τ).loc Cert.Reference22Ideal.main_arg43)
          ∧ r.2.mem ((c.tc : Thread Cert.Reference22Ideal.nD Cert.Reference22Ideal.τ).loc Cert.Reference22Ideal.main_arg44) = m' ((c.tc : Thread Cert.Reference22Ideal.nD Cert.Reference22Ideal.τ).loc Cert.Reference22Ideal.main_arg44)
          ∧ r.2.mem ((c.tc : Thread Cert.Reference22Ideal.nD Cert.Reference22Ideal.τ).loc Cert.Reference22Ideal.main_arg45) = m' ((c.tc : Thread Cert.Reference22Ideal.nD Cert.Reference22Ideal.τ).loc Cert.Reference22Ideal.main_arg45)
          ∧ r.2.mem ((c.tc : Thread Cert.Reference22Ideal.nD Cert.Reference22Ideal.τ).loc Cert.Reference22Ideal.main_arg46) = m' ((c.tc : Thread Cert.Reference22Ideal.nD Cert.Reference22Ideal.τ).loc Cert.Reference22Ideal.main_arg46)
          ∧ r.2.mem ((c.tc : Thread Cert.Reference22Ideal.nD Cert.Reference22Ideal.τ).loc Cert.Reference22Ideal.main_arg47) = m' ((c.tc : Thread Cert.Reference22Ideal.nD Cert.Reference22Ideal.τ).loc Cert.Reference22Ideal.main_arg47)
          ∧ r.2.mem ((c.tc : Thread Cert.Reference22Ideal.nD Cert.Reference22Ideal.τ).loc Cert.Reference22Ideal.main_arg48) = m' ((c.tc : Thread Cert.Reference22Ideal.nD Cert.Reference22Ideal.τ).loc Cert.Reference22Ideal.main_arg48)
          ∧ r.2.mem ((c.tc : Thread Cert.Reference22Ideal.nD Cert.Reference22Ideal.τ).loc Cert.Reference22Ideal.main_arg49) = m' ((c.tc : Thread Cert.Reference22Ideal.nD Cert.Reference22Ideal.τ).loc Cert.Reference22Ideal.main_arg49)
          ∧ r.2.mem ((c.tc : Thread Cert.Reference22Ideal.nD Cert.Reference22Ideal.τ).loc Cert.Reference22Ideal.main_arg50) = m' ((c.tc : Thread Cert.Reference22Ideal.nD Cert.Reference22Ideal.τ).loc Cert.Reference22Ideal.main_arg50)
          ∧ r.2.mem ((c.tc : Thread Cert.Reference22Ideal.nD Cert.Reference22Ideal.τ).loc Cert.Reference22Ideal.main_arg51) = m' ((c.tc : Thread Cert.Reference22Ideal.nD Cert.Reference22Ideal.τ).loc Cert.Reference22Ideal.main_arg51)
          ∧ r.2.mem ((c.tc : Thread Cert.Reference22Ideal.nD Cert.Reference22Ideal.τ).loc Cert.Reference22Ideal.main_arg52) = m' ((c.tc : Thread Cert.Reference22Ideal.nD Cert.Reference22Ideal.τ).loc Cert.Reference22Ideal.main_arg52)
          ∧ r.2.mem ((c.tc : Thread Cert.Reference22Ideal.nD Cert.Reference22Ideal.τ).loc Cert.Reference22Ideal.main_arg53) = m' ((c.tc : Thread Cert.Reference22Ideal.nD Cert.Reference22Ideal.τ).loc Cert.Reference22Ideal.main_arg53)
          ∧ r.2.mem ((c.tc : Thread Cert.Reference22Ideal.nD Cert.Reference22Ideal.τ).loc Cert.Reference22Ideal.main_arg54) = m' ((c.tc : Thread Cert.Reference22Ideal.nD Cert.Reference22Ideal.τ).loc Cert.Reference22Ideal.main_arg54)
          ∧ r.2.mem ((c.tc : Thread Cert.Reference22Ideal.nD Cert.Reference22Ideal.τ).loc Cert.Reference22Ideal.main_arg55) = m' ((c.tc : Thread Cert.Reference22Ideal.nD Cert.Reference22Ideal.τ).loc Cert.Reference22Ideal.main_arg55)
          ∧ r.2.mem ((c.tc : Thread Cert.Reference22Ideal.nD Cert.Reference22Ideal.τ).loc Cert.Reference22Ideal.main_arg56) = m' ((c.tc : Thread Cert.Reference22Ideal.nD Cert.Reference22Ideal.τ).loc Cert.Reference22Ideal.main_arg56)
          ∧ r.2.mem ((c.tc : Thread Cert.Reference22Ideal.nD Cert.Reference22Ideal.τ).loc Cert.Reference22Ideal.main_arg57) = m' ((c.tc : Thread Cert.Reference22Ideal.nD Cert.Reference22Ideal.τ).loc Cert.Reference22Ideal.main_arg57)
          ∧ r.2.mem ((c.tc : Thread Cert.Reference22Ideal.nD Cert.Reference22Ideal.τ).loc Cert.Reference22Ideal.main_arg58) = m' ((c.tc : Thread Cert.Reference22Ideal.nD Cert.Reference22Ideal.τ).loc Cert.Reference22Ideal.main_arg58)
          ∧ r.2.mem ((c.tc : Thread Cert.Reference22Ideal.nD Cert.Reference22Ideal.τ).loc Cert.Reference22Ideal.main_arg59) = m' ((c.tc : Thread Cert.Reference22Ideal.nD Cert.Reference22Ideal.τ).loc Cert.Reference22Ideal.main_arg59)
          ∧ r.2.mem ((c.tc : Thread Cert.Reference22Ideal.nD Cert.Reference22Ideal.τ).loc Cert.Reference22Ideal.main_arg60) = m' ((c.tc : Thread Cert.Reference22Ideal.nD Cert.Reference22Ideal.τ).loc Cert.Reference22Ideal.main_arg60)
          ∧ r.2.mem ((c.tc : Thread Cert.Reference22Ideal.nD Cert.Reference22Ideal.τ).loc Cert.Reference22Ideal.main_arg61) = m' ((c.tc : Thread Cert.Reference22Ideal.nD Cert.Reference22Ideal.τ).loc Cert.Reference22Ideal.main_arg61)
          ∧ r.2.mem ((c.tc : Thread Cert.Reference22Ideal.nD Cert.Reference22Ideal.τ).loc Cert.Reference22Ideal.main_arg62) = m' ((c.tc : Thread Cert.Reference22Ideal.nD Cert.Reference22Ideal.τ).loc Cert.Reference22Ideal.main_arg62)
          ∧ r.2.mem ((c.tc : Thread Cert.Reference22Ideal.nD Cert.Reference22Ideal.τ).loc Cert.Reference22Ideal.main_arg63) = m' ((c.tc : Thread Cert.Reference22Ideal.nD Cert.Reference22Ideal.τ).loc Cert.Reference22Ideal.main_arg63)
          ∧ r.2.mem ((c.tc : Thread Cert.Reference22Ideal.nD Cert.Reference22Ideal.τ).loc Cert.Reference22Ideal.main_arg64) = m' ((c.tc : Thread Cert.Reference22Ideal.nD Cert.Reference22Ideal.τ).loc Cert.Reference22Ideal.main_arg64)
          ∧ r.2.mem ((c.tc : Thread Cert.Reference22Ideal.nD Cert.Reference22Ideal.τ).loc Cert.Reference22Ideal.main_arg65) = m' ((c.tc : Thread Cert.Reference22Ideal.nD Cert.Reference22Ideal.τ).loc Cert.Reference22Ideal.main_arg65)
          ∧ r.2.mem ((c.tc : Thread Cert.Reference22Ideal.nD Cert.Reference22Ideal.τ).loc Cert.Reference22Ideal.main_arg66) = m' ((c.tc : Thread Cert.Reference22Ideal.nD Cert.Reference22Ideal.τ).loc Cert.Reference22Ideal.main_arg66)
          ∧ r.2.mem ((c.tc : Thread Cert.Reference22Ideal.nD Cert.Reference22Ideal.τ).loc Cert.Reference22Ideal.main_arg67) = m' ((c.tc : Thread Cert.Reference22Ideal.nD Cert.Reference22Ideal.τ).loc Cert.Reference22Ideal.main_arg67)
          ∧ r.2.mem ((c.tc : Thread Cert.Reference22Ideal.nD Cert.Reference22Ideal.τ).loc Cert.Reference22Ideal.main_arg68) = m' ((c.tc : Thread Cert.Reference22Ideal.nD Cert.Reference22Ideal.τ).loc Cert.Reference22Ideal.main_arg68)
          ∧ r.2.mem ((c.tc : Thread Cert.Reference22Ideal.nD Cert.Reference22Ideal.τ).loc Cert.Reference22Ideal.main_arg69) = m' ((c.tc : Thread Cert.Reference22Ideal.nD Cert.Reference22Ideal.τ).loc Cert.Reference22Ideal.main_arg69)
          ∧ r.2.mem ((c.tc : Thread Cert.Reference22Ideal.nD Cert.Reference22Ideal.τ).loc Cert.Reference22Ideal.main_arg70) = m' ((c.tc : Thread Cert.Reference22Ideal.nD Cert.Reference22Ideal.τ).loc Cert.Reference22Ideal.main_arg70)
          ∧ r.2.mem ((c.tc : Thread Cert.Reference22Ideal.nD Cert.Reference22Ideal.τ).loc Cert.Reference22Ideal.main_arg71) = m' ((c.tc : Thread Cert.Reference22Ideal.nD Cert.Reference22Ideal.τ).loc Cert.Reference22Ideal.main_arg71))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v8) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v5)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v5) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v12) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v8) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v162)) (v1 : (c : Dev Cert.Kernel29Ideal.nD) → Buf (Elt Ideal) ((c.tc : Thread Cert.Kernel29Ideal.nD Cert.Kernel29Ideal.τ).loc Cert.Kernel29Ideal.main_v168)) (v2 : (c : Dev Cert.Kernel29Ideal.nD) → Buf (Elt Ideal) ((c.tc : Thread Cert.Kernel29Ideal.nD Cert.Kernel29Ideal.τ).loc Cert.Kernel29Ideal.main_v174)) (v3 : (c : Dev Cert.Kernel29Ideal.nD) → Buf (Elt Ideal) ((c.tc : Thread Cert.Kernel29Ideal.nD Cert.Kernel29Ideal.τ).loc Cert.Kernel29Ideal.main_v180)) (v4 : (c : Dev Cert.Kernel29Ideal.nD) → Buf (Elt Ideal) ((c.tc : Thread Cert.Kernel29Ideal.nD Cert.Kernel29Ideal.τ).loc Cert.Kernel29Ideal.main_v186)) (v5 : (c : Dev Cert.Kernel29Ideal.nD) → Buf (Elt Ideal) ((c.tc : Thread Cert.Kernel29Ideal.nD Cert.Kernel29Ideal.τ).loc Cert.Kernel29Ideal.main_v191)) (v6 : (c : Dev Cert.Kernel29Ideal.nD) → Buf (Elt Ideal) ((c.tc : Thread Cert.Kernel29Ideal.nD Cert.Kernel29Ideal.τ).loc Cert.Kernel29Ideal.main_v196)) (v7 : (c : Dev Cert.Kernel29Ideal.nD) → Buf (Elt Ideal) ((c.tc : Thread Cert.Kernel29Ideal.nD Cert.Kernel29Ideal.τ).loc Cert.Kernel29Ideal.main_v263)) (v8 : (c : Dev Cert.Kernel29Ideal.nD) → Buf (Elt Ideal) ((c.tc : Thread Cert.Kernel29Ideal.nD Cert.Kernel29Ideal.τ).loc Cert.Kernel29Ideal.main_v207)) (v9 : (c : Dev Cert.Kernel29Ideal.nD) → Buf (Elt Ideal) ((c.tc : Thread Cert.Kernel29Ideal.nD Cert.Kernel29Ideal.τ).loc Cert.Kernel29Ideal.main_v213)) (v10 : (c : Dev Cert.Kernel29Ideal.nD) → Buf (Elt Ideal) ((c.tc : Thread Cert.Kernel29Ideal.nD Cert.Kernel29Ideal.τ).loc Cert.Kernel29Ideal.main_v219)) (v11 : (c : Dev Cert.Kernel29Ideal.nD) → Buf (Elt Ideal) ((c.tc : Thread Cert.Kernel29Ideal.nD Cert.Kernel29Ideal.τ).loc Cert.Kernel29Ideal.main_v225)) (v12 : (c : Dev Cert.Kernel29Ideal.nD) → Buf (Elt Ideal) ((c.tc : Thread Cert.Kernel29Ideal.nD Cert.Kernel29Ideal.τ).loc Cert.Kernel29Ideal.main_v231)) (v13 : (c : Dev Cert.Kernel29Ideal.nD) → Buf (Elt Ideal) ((c.tc : Thread Cert.Kernel29Ideal.nD Cert.Kernel29Ideal.τ).loc Cert.Kernel29Ideal.main_v237)) (v14 : (c : Dev Cert.Kernel29Ideal.nD) → Buf (Elt Ideal) ((c.tc : Thread Cert.Kernel29Ideal.nD Cert.Kernel29Ideal.τ).loc Cert.Kernel29Ideal.main_v242)) (v15 : (c : Dev Cert.Kernel29Ideal.nD) → Buf (Elt Ideal) ((c.tc : Thread Cert.Kernel29Ideal.nD Cert.Kernel29Ideal.τ).loc Cert.Kernel29Ideal.main_v247)) (v16 : (c : Dev Cert.Kernel29Ideal.nD) → Buf (Elt Ideal) ((c.tc : Thread Cert.Kernel29Ideal.nD Cert.Kernel29Ideal.τ).loc Cert.Kernel29Ideal.main_v252)) (v17 : (c : Dev Cert.Kernel29Ideal.nD) → Buf (Elt Ideal) ((c.tc : Thread Cert.Kernel29Ideal.nD Cert.Kernel29Ideal.τ).loc Cert.Kernel29Ideal.main_v258)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v162) = v0 c
          ∧ r.2.mem ((c.tc : Thread Cert.Kernel29Ideal.nD Cert.Kernel29Ideal.τ).loc Cert.Kernel29Ideal.main_v168) = v1 c
          ∧ r.2.mem ((c.tc : Thread Cert.Kernel29Ideal.nD Cert.Kernel29Ideal.τ).loc Cert.Kernel29Ideal.main_v174) = v2 c
          ∧ r.2.mem ((c.tc : Thread Cert.Kernel29Ideal.nD Cert.Kernel29Ideal.τ).loc Cert.Kernel29Ideal.main_v180) = v3 c
          ∧ r.2.mem ((c.tc : Thread Cert.Kernel29Ideal.nD Cert.Kernel29Ideal.τ).loc Cert.Kernel29Ideal.main_v186) = v4 c
          ∧ r.2.mem ((c.tc : Thread Cert.Kernel29Ideal.nD Cert.Kernel29Ideal.τ).loc Cert.Kernel29Ideal.main_v191) = v5 c
          ∧ r.2.mem ((c.tc : Thread Cert.Kernel29Ideal.nD Cert.Kernel29Ideal.τ).loc Cert.Kernel29Ideal.main_v196) = v6 c
          ∧ r.2.mem ((c.tc : Thread Cert.Kernel29Ideal.nD Cert.Kernel29Ideal.τ).loc Cert.Kernel29Ideal.main_v263) = v7 c
          ∧ r.2.mem ((c.tc : Thread Cert.Kernel29Ideal.nD Cert.Kernel29Ideal.τ).loc Cert.Kernel29Ideal.main_v207) = v8 c
          ∧ r.2.mem ((c.tc : Thread Cert.Kernel29Ideal.nD Cert.Kernel29Ideal.τ).loc Cert.Kernel29Ideal.main_v213) = v9 c
          ∧ r.2.mem ((c.tc : Thread Cert.Kernel29Ideal.nD Cert.Kernel29Ideal.τ).loc Cert.Kernel29Ideal.main_v219) = v10 c
          ∧ r.2.mem ((c.tc : Thread Cert.Kernel29Ideal.nD Cert.Kernel29Ideal.τ).loc Cert.Kernel29Ideal.main_v225) = v11 c
          ∧ r.2.mem ((c.tc : Thread Cert.Kernel29Ideal.nD Cert.Kernel29Ideal.τ).loc Cert.Kernel29Ideal.main_v231) = v12 c
          ∧ r.2.mem ((c.tc : Thread Cert.Kernel29Ideal.nD Cert.Kernel29Ideal.τ).loc Cert.Kernel29Ideal.main_v237) = v13 c
          ∧ r.2.mem ((c.tc : Thread Cert.Kernel29Ideal.nD Cert.Kernel29Ideal.τ).loc Cert.Kernel29Ideal.main_v242) = v14 c
          ∧ r.2.mem ((c.tc : Thread Cert.Kernel29Ideal.nD Cert.Kernel29Ideal.τ).loc Cert.Kernel29Ideal.main_v247) = v15 c
          ∧ r.2.mem ((c.tc : Thread Cert.Kernel29Ideal.nD Cert.Kernel29Ideal.τ).loc Cert.Kernel29Ideal.main_v252) = v16 c
          ∧ r.2.mem ((c.tc : Thread Cert.Kernel29Ideal.nD Cert.Kernel29Ideal.τ).loc Cert.Kernel29Ideal.main_v258) = v17 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v21) = v0 c
          ∧ r.2.mem ((c.tc : Thread Cert.Reference29Ideal.nD Cert.Reference29Ideal.τ).loc Cert.Reference29Ideal.main_v35) = v1 c
          ∧ r.2.mem ((c.tc : Thread Cert.Reference29Ideal.nD Cert.Reference29Ideal.τ).loc Cert.Reference29Ideal.main_v49) = v2 c
          ∧ r.2.mem ((c.tc : Thread Cert.Reference29Ideal.nD Cert.Reference29Ideal.τ).loc Cert.Reference29Ideal.main_v63) = v3 c
          ∧ r.2.mem ((c.tc : Thread Cert.Reference29Ideal.nD Cert.Reference29Ideal.τ).loc Cert.Reference29Ideal.main_v77) = v4 c
          ∧ r.2.mem ((c.tc : Thread Cert.Reference29Ideal.nD Cert.Reference29Ideal.τ).loc Cert.Reference29Ideal.main_v90) = v5 c
          ∧ r.2.mem ((c.tc : Thread Cert.Reference29Ideal.nD Cert.Reference29Ideal.τ).loc Cert.Reference29Ideal.main_v103) = v6 c
          ∧ r.2.mem ((c.tc : Thread Cert.Reference29Ideal.nD Cert.Reference29Ideal.τ).loc Cert.Reference29Ideal.main_v258) = v7 c
          ∧ r.2.mem ((c.tc : Thread Cert.Reference29Ideal.nD Cert.Reference29Ideal.τ).loc Cert.Reference29Ideal.main_v130) = v8 c
          ∧ r.2.mem ((c.tc : Thread Cert.Reference29Ideal.nD Cert.Reference29Ideal.τ).loc Cert.Reference29Ideal.main_v144) = v9 c
          ∧ r.2.mem ((c.tc : Thread Cert.Reference29Ideal.nD Cert.Reference29Ideal.τ).loc Cert.Reference29Ideal.main_v158) = v10 c
          ∧ r.2.mem ((c.tc : Thread Cert.Reference29Ideal.nD Cert.Reference29Ideal.τ).loc Cert.Reference29Ideal.main_v172) = v11 c
          ∧ r.2.mem ((c.tc : Thread Cert.Reference29Ideal.nD Cert.Reference29Ideal.τ).loc Cert.Reference29Ideal.main_v186) = v12 c
          ∧ r.2.mem ((c.tc : Thread Cert.Reference29Ideal.nD Cert.Reference29Ideal.τ).loc Cert.Reference29Ideal.main_v200) = v13 c
          ∧ r.2.mem ((c.tc : Thread Cert.Reference29Ideal.nD Cert.Reference29Ideal.τ).loc Cert.Reference29Ideal.main_v213) = v14 c
          ∧ r.2.mem ((c.tc : Thread Cert.Reference29Ideal.nD Cert.Reference29Ideal.τ).loc Cert.Reference29Ideal.main_v226) = v15 c
          ∧ r.2.mem ((c.tc : Thread Cert.Reference29Ideal.nD Cert.Reference29Ideal.τ).loc Cert.Reference29Ideal.main_v239) = v16 c
          ∧ r.2.mem ((c.tc : Thread Cert.Reference29Ideal.nD Cert.Reference29Ideal.τ).loc Cert.Reference29Ideal.main_v253) = v17 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts) (hPre_tame : Cert.Pre_tame.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_tame (hKernel2Ideal := hKernel2Ideal) (hPre_tame := hPre_tame)
    ∧ quiescent_Reference2Ideal (hReference2Ideal := hReference2Ideal)
    ∧ quiescent_Reference2Ideal_pre_tame (hReference2Ideal := hReference2Ideal) (hPre_tame := hPre_tame)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_tame (hKernel2Ideal := hKernel2Ideal) (hReference2Ideal := hReference2Ideal) (hPre_tame := hPre_tame)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S2x2048x2048 : Shape := ⟨3, ![2, 2048, 2048]⟩
abbrev S2x128x64 : Shape := ⟨3, ![2, 128, 64]⟩
abbrev S2x2048x256 : Shape := ⟨3, ![2, 2048, 256]⟩
abbrev S_ : Shape := ⟨0, ![]⟩

class Facts : Prop where
  slices_S2x2048x2048_S2x2048x256_0_0_1024 : S2x2048x2048.Slices ![0, 0, 1024] S2x2048x256
  bcast_S_S2x2048x256 : S_.BroadcastsInDim S2x2048x256 (![] : Fin 0 → Fin S2x2048x256.rank)
  bcast_S_S2x128x64 : S_.BroadcastsInDim S2x128x64 (![] : Fin 0 → Fin S2x128x64.rank)

variable [Facts]

def fn {F : FTy → Type} [FloatOps F] (main_arg0 : FVec F S2x2048x2048 .f32) (main_arg1 : FVec F S2x128x64 .f32) (main_arg2 : FVec F S2x128x64 .f32) (main_arg3 : FVec F S2x2048x256 .f32) : IVec S2x2048x256 1 × IVec S2x128x64 1 :=
  let main_v0 : FVec F S2x2048x256 .f32 := (extractStridedSlice S2x2048x256 ![0, 0, 1024] · slices_S2x2048x2048_S2x2048x256_0_0_1024) main_arg0
  let main_v1 : FVec F S2x2048x256 .f32 := Host.absf main_v0
  let main_cst : FVec F S_ .f32 := constant S_ .f32 0x7F800000#32
  let main_v2 : FVec F S2x2048x256 .f32 := broadcastInDim S2x2048x256 ![] bcast_S_S2x2048x256 main_cst
  let main_v3 : IVec S2x2048x256 1 := cmpf .olt main_v1 main_v2
  let main_v4 : FVec F S2x128x64 .f32 := Host.absf main_arg1
  let main_cst_0 : FVec F S_ .f32 := constant S_ .f32 0x7F800000#32
  let main_v5 : FVec F S2x128x64 .f32 := broadcastInDim S2x128x64 ![] bcast_S_S2x128x64 main_cst_0
  let main_v6 : IVec S2x128x64 1 := cmpf .olt main_v4 main_v5
  (main_v3, main_v6)
-- ==== Pre_tame.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S_ : Shape := ⟨0, ![]⟩
abbrev S1x4x4096x704 : Shape := ⟨4, ![1, 4, 4096, 704]⟩
abbrev S4x4096x704 : Shape := ⟨3, ![4, 4096, 704]⟩

class Facts : Prop where
  bitsLt_bf16_f32 : FTy.bits .bf16 < FTy.bits .f32
  bcast_S_S4096x1024 : S_.BroadcastsInDim S4096x1024 (![] : Fin 0 → Fin S4096x1024.rank)
  bcast_S_S4x704x1024 : S_.BroadcastsInDim S4x704x1024 (![] : Fin 0 → Fin S4x704x1024.rank)
  slices_S2x4x4096x704_S1x4x4096x704_1_0_0_0 : S2x4x4096x704.Slices ![1, 0, 0, 0] S1x4x4096x704
  shapeCasts_S1x4x4096x704_S4x4096x704 : S1x4x4096x704.ShapeCasts S4x4096x704
  bcast_S_S4x4096x704 : S_.BroadcastsInDim S4x4096x704 (![] : Fin 0 → Fin S4x4096x704.rank)

variable [Facts]

def fn {F : FTy → Type} [FloatOps F] (main_arg0 : FVec F S4096x1024 .bf16) (main_arg1 : FVec F S4x704x1024 .bf16) (main_arg2 : FVec F S2x4x4096x704 .bf16) : IVec S4096x1024 1 × IVec S4x704x1024 1 × IVec S4x4096x704 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S1x4x4096x704 .bf16 := (extractStridedSlice S1x4x4096x704 ![1, 0, 0, 0] · slices_S2x4x4096x704_S1x4x4096x704_1_0_0_0) main_arg2
  let main_v9 : FVec F S4x4096x704 .bf16 := shapeCast S4x4096x704 main_v8 shapeCasts_S1x4x4096x704_S4x4096x704
  let main_v10 : FVec F S4x4096x704 .f32 := (extf .f32 · bitsLt_bf16_f32) main_v9
  let main_v11 : FVec F S4x4096x704 .f32 := Host.absf main_v10
  let main_cst_1 : FVec F S_ .f32 := constant S_ .f32 0x7F800000#32
  let main_v12 : FVec F S4x4096x704 .f32 := broadcastInDim S4x4096x704 ![] bcast_S_S4x4096x704 main_cst_1
  let main_v13 : IVec S4x4096x704 1 := cmpf .olt main_v11 main_v12
  (main_v3, main_v7, main_v13)
-- ==== Kernel.lean ====
abbrev S2x2048x2048 : Shape := ⟨3, ![2, 2048, 2048]⟩
abbrev S2x128x64 : Shape := ⟨3, ![2, 128, 64]⟩
abbrev S2x2048x256 : Shape := ⟨3, ![2, 2048, 256]⟩
abbrev S1x2x1x128x1x64 : Shape := ⟨6, ![1, 2, 1, 128, 1, 64]⟩
abbrev S1x2x1x128x4x64 : Shape := ⟨6, ![1, 2, 1, 128, 4, 64]⟩
abbrev S2x128x256 : Shape := ⟨3, ![2, 128, 256]⟩
abbrev S1x256x256 : Shape := ⟨3, ![1, 256, 256]⟩
abbrev S1x128x256 : Shape := ⟨3, ![1, 128, 256]⟩
abbrev S1x128x64 : Shape := ⟨3, ![1, 128, 64]⟩
abbrev S128x256 : Shape := ⟨2, ![128, 256]⟩
abbrev S256x1 : Shape := ⟨2, ![256, 1]⟩
abbrev S1x256 : Shape := ⟨2, ![1, 256]⟩
abbrev S256x256 : Shape := ⟨2, ![256, 256]⟩
abbrev S1x128 : Shape := ⟨2, ![1, 128]⟩
abbrev S256x128 : Shape := ⟨2, ![256, 128]⟩
abbrev S256 : Shape := ⟨1, ![256]⟩
abbrev S128x64 : Shape := ⟨2, ![128, 64]⟩

abbrev nBuf : Space → Nat
  | .hbm => 15
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x128x64, .f32⟩
  | .hbm, ⟨2, _⟩ => ⟨S2x128x64, .f32⟩
  | .hbm, ⟨3, _⟩ => ⟨S2x2048x256, .f32⟩
  | .hbm, ⟨4, _⟩ => ⟨S1x2x1x128x1x64, .f32⟩
  | .hbm, ⟨5, _⟩ => ⟨S1x2x1x128x4x64, .f32⟩
  | .hbm, ⟨6, _⟩ => ⟨S2x128x256, .f32⟩
  | .hbm, ⟨7, _⟩ => ⟨S2x128x256, .bf16⟩
  | .hbm, ⟨8, _⟩ => ⟨S1x2x1x128x1x64, .f32⟩
  | .hbm, ⟨9, _⟩ => ⟨S1x2x1x128x4x64, .f32⟩
  | .hbm, ⟨10, _⟩ => ⟨S2x128x256, .f32⟩
  | .hbm, ⟨11, _⟩ => ⟨S2x128x256, .bf16⟩
  | .hbm, ⟨12, _⟩ => ⟨S2x2048x256, .f32⟩
  | .hbm, ⟨13, _⟩ => ⟨S2x128x64, .f32⟩
  | .hbm, ⟨14, _⟩ => ⟨S2x128x64, .f32⟩
  | .local _ .vmem, ⟨0, _⟩ => ⟨S1x256x256, .f32⟩
  | .local _ .vmem, ⟨1, _⟩ => ⟨S1x256x256, .f32⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x128x64, .f32⟩
  | .local _ .vmem, ⟨11, _⟩ => ⟨S1x128x64, .f32⟩
  | .local _ .vmem, ⟨12, _⟩ => ⟨S1x128x64, .f32⟩
  | .local _ .vmem, ⟨13, _⟩ => ⟨S1x128x64, .f32⟩
  | .local _ .vmem, ⟨14, _⟩ => ⟨S128x256, .f32⟩
  | .local _ .vmem, ⟨15, _⟩ => ⟨S128x256, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v275 : BitVec 1 := Scalar.cmpi .eq arg1 c7_i32
  let v276 : BitVec 32 := Scalar.extui v275
  let c0_i32_112 : BitVec 32 := 0#32
  let v277 : BitVec 1 := Scalar.cmpi .ne v276 c0_i32_112
  v277

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S2x2048x2048 : Shape := ⟨3, ![2, 2048, 2048]⟩
abbrev S2x128x64 : Shape := ⟨3, ![2, 128, 64]⟩
abbrev S2x2048x256 : Shape := ⟨3, ![2, 2048, 256]⟩
abbrev S2x2048x4x64 : Shape := ⟨4, ![2, 2048, 4, 64]⟩
abbrev S_ : Shape := ⟨0, ![]⟩
abbrev S2x127x64 : Shape := ⟨3, ![2, 127, 64]⟩
abbrev S2048 : Shape := ⟨1, ![2048]⟩
abbrev S127 : Shape := ⟨1, ![127]⟩
abbrev S1x127 : Shape := ⟨2, ![1, 127]⟩
abbrev S2048x1 : Shape := ⟨2, ![2048, 1]⟩
abbrev S2048x127 : Shape := ⟨2, ![2048, 127]⟩
abbrev S2x127x2048x4 : Shape := ⟨4, ![2, 127, 2048, 4]⟩
abbrev S2x4x2048x127 : Shape := ⟨4, ![2, 4, 2048, 127]⟩
abbrev S2x4x2048 : Shape := ⟨3, ![2, 4, 2048]⟩
abbrev S2x4x2048x1 : Shape := ⟨4, ![2, 4, 2048, 1]⟩
abbrev S2x64x4x2048 : Shape := ⟨4, ![2, 64, 4, 2048]⟩
abbrev S2x64x127 : Shape := ⟨3, ![2, 64, 127]⟩

abbrev nBuf : Space → Nat
  | .hbm => 123
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x128x64, .f32⟩
  | .hbm, ⟨2, _⟩ => ⟨S2x128x64, .f32⟩
  | .hbm, ⟨3, _⟩ => ⟨S2x2048x256, .f32⟩
  | .hbm, ⟨4, _⟩ => ⟨S2x2048x256, .f32⟩
  | .hbm, ⟨5, _⟩ => ⟨S2x2048x4x64, .f32⟩
  | .hbm, ⟨6, _⟩ => ⟨S_, .f32⟩
  | .hbm, ⟨7, _⟩ => ⟨S2x2048x4x64, .f32⟩
  | .hbm, ⟨8, _⟩ => ⟨S2x2048x4x64, .f32⟩
  | .hbm, ⟨9, _⟩ => ⟨S2x127x64, .f32⟩
  | .hbm, ⟨10, _⟩ => ⟨S2x127x64, .f32⟩
  | .hbm, ⟨11, _⟩ => ⟨S2048, .i32⟩
  | .hbm, ⟨12, _⟩ => ⟨S127, .i32⟩
  | .hbm, ⟨13, _⟩ => ⟨S_, .i32⟩
  | .hbm, ⟨14, _⟩ => ⟨S127, .i32⟩
  | .hbm, ⟨15, _⟩ => ⟨S127, .i32⟩
  | .hbm, ⟨16, _⟩ => ⟨S_, .i32⟩
  | .hbm, ⟨17, _⟩ => ⟨S127, .i32⟩
  | .hbm, ⟨18, _⟩ => ⟨S127, .i32⟩
  | .hbm, ⟨19, _⟩ => ⟨S_, .i32⟩
  | .hbm, ⟨20, _⟩ => ⟨S127, .i32⟩
  | .hbm, ⟨21, _⟩ => ⟨S127, .i32⟩
  | .hbm, ⟨22, _⟩ => ⟨S1x127, .i32⟩
  | .hbm, ⟨23, _⟩ => ⟨S2048x1, .i32⟩
  | .hbm, ⟨24, _⟩ => ⟨S2048x127, .i32⟩
  | .hbm, ⟨25, _⟩ => ⟨S2048x127, .i32⟩
  | .hbm, ⟨26, _⟩ => ⟨S2048x127, .i1⟩
  | .hbm, ⟨27, _⟩ => ⟨S_, .i1⟩
  | .hbm, ⟨28, _⟩ => ⟨S2048, .i1⟩
  | .hbm, ⟨29, _⟩ => ⟨S2048x1, .i1⟩
  | .hbm, ⟨30, _⟩ => ⟨S2x127x2048x4, .f32⟩
  | .hbm, ⟨31, _⟩ => ⟨S2x4x2048x127, .f32⟩
  | .hbm, ⟨32, _⟩ => ⟨S_, .f32⟩
  | .hbm, ⟨33, _⟩ => ⟨S_, .f32⟩
  | .hbm, ⟨34, _⟩ => ⟨S2x4x2048x127, .i1⟩
  | .hbm, ⟨35, _⟩ => ⟨S2x4x2048x127, .f32⟩
  | .hbm, ⟨36, _⟩ => ⟨S2x4x2048x127, .f32⟩
  | .hbm, ⟨37, _⟩ => ⟨S_, .f32⟩
  | .hbm, ⟨38, _⟩ => ⟨S2x4x2048x127, .f32⟩
  | .hbm, ⟨39, _⟩ => ⟨S_, .f32⟩
  | .hbm, ⟨40, _⟩ => ⟨S2x4x2048, .f32⟩
  | .hbm, ⟨41, _⟩ => ⟨S2x4x2048x1, .f32⟩
  | .hbm, ⟨42, _⟩ => ⟨S2x4x2048x127, .f32⟩
  | .hbm, ⟨43, _⟩ => ⟨S2x4x2048x127, .i1⟩
  | .hbm, ⟨44, _⟩ => ⟨S2x4x2048x127, .f32⟩
  | .hbm, ⟨45, _⟩ => ⟨S_, .f32⟩
  | .hbm, ⟨46, _⟩ => ⟨S2x4x2048, .f32⟩
  | .hbm, ⟨47, _⟩ => ⟨S_, .f32⟩
  | .hbm, ⟨48, _⟩ => ⟨S2x4x2048, .f32⟩
  | .hbm, ⟨49, _⟩ => ⟨S2x4x2048, .f32⟩
  | .hbm, ⟨50, _⟩ => ⟨S_, .f32⟩
  | .hbm, ⟨51, _⟩ => ⟨S2x4x2048, .f32⟩
  | .hbm, ⟨52, _⟩ => ⟨S2x4x2048, .i1⟩
  | .hbm, ⟨53, _⟩ => ⟨S_, .f32⟩
  | .hbm, ⟨54, _⟩ => ⟨S2x4x2048, .f32⟩
  | .hbm, ⟨55, _⟩ => ⟨S2x4x2048, .i1⟩
  | .hbm, ⟨56, _⟩ => ⟨S_, .f32⟩
  | .hbm, ⟨57, _⟩ => ⟨S2x4x2048, .f32⟩
  | .hbm, ⟨58, _⟩ => ⟨S_, .f32⟩
  | .hbm, ⟨59, _⟩ => ⟨S2x4x2048, .f32⟩
  | .hbm, ⟨60, _⟩ => ⟨S_, .f32⟩
  | .hbm, ⟨61, _⟩ => ⟨S2x4x2048, .f32⟩
  | .hbm, ⟨62, _⟩ => ⟨S2x4x2048, .f32⟩
  | .hbm, ⟨63, _⟩ => ⟨S2x4x2048, .f32⟩
  | .hbm, ⟨64, _⟩ => ⟨S2x4x2048x1, .f32⟩
  | .hbm, ⟨65, _⟩ => ⟨S2x4x2048x127, .f32⟩
  | .hbm, ⟨66, _⟩ => ⟨S2x4x2048x127, .f32⟩
  | .hbm, ⟨67, _⟩ => ⟨S2x4x2048x127, .f32⟩
  | .hbm, ⟨68, _⟩ => ⟨S_, .f32⟩
  | .hbm, ⟨69, _⟩ => ⟨S2x4x2048, .f32⟩
  | .hbm, ⟨70, _⟩ => ⟨S2x4x2048x1, .f32⟩
  | .hbm, ⟨71, _⟩ => ⟨S2x4x2048x127, .f32⟩
  | .hbm, ⟨72, _⟩ => ⟨S2x4x2048x127, .f32⟩
  | .hbm, ⟨73, _⟩ => ⟨S2x4x2048x1, .f32⟩
  | .hbm, ⟨74, _⟩ => ⟨S_, .f32⟩
  | .hbm, ⟨75, _⟩ => ⟨S2x4x2048x1, .f32⟩
  | .hbm, ⟨76, _⟩ => ⟨S2x4x2048x1, .f32⟩
  | .hbm, ⟨77, _⟩ => ⟨S_, .f32⟩
  | .hbm, ⟨78, _⟩ => ⟨S_, .f32⟩
  | .hbm, ⟨79, _⟩ => ⟨S2x4x2048x127, .i1⟩
  | .hbm, ⟨80, _⟩ => ⟨S2x4x2048x127, .f32⟩
  | .hbm, ⟨81, _⟩ => ⟨S2x4x2048x127, .f32⟩
  | .hbm, ⟨82, _⟩ => ⟨S_, .f32⟩
  | .hbm, ⟨83, _⟩ => ⟨S2x4x2048x127, .f32⟩
  | .hbm, ⟨84, _⟩ => ⟨S2x64x4x2048, .f32⟩
  | .hbm, ⟨85, _⟩ => ⟨S2x2048x4x64, .f32⟩
  | .hbm, ⟨86, _⟩ => ⟨S2x2048x256, .f32⟩
  | .hbm, ⟨87, _⟩ => ⟨S2x2048x4x64, .f32⟩
  | .hbm, ⟨88, _⟩ => ⟨S2x64x4x2048, .f32⟩
  | .hbm, ⟨89, _⟩ => ⟨S2x4x2048x127, .f32⟩
  | .hbm, ⟨90, _⟩ => ⟨S2x64x127, .f32⟩
  | .hbm, ⟨91, _⟩ => ⟨S2x127x64, .f32⟩
  | .hbm, ⟨92, _⟩ => ⟨S_, .f32⟩
  | .hbm, ⟨93, _⟩ => ⟨S2x4x2048x127, .f32⟩
  | .hbm, ⟨94, _⟩ => ⟨S2x4x2048x127, .f32⟩
  | .hbm, ⟨95, _⟩ => ⟨S2x4x2048x127, .f32⟩
  | .hbm, ⟨96, _⟩ => ⟨S2x4x2048x127, .f32⟩
  | .hbm, ⟨97, _⟩ => ⟨S2x4x2048x127, .f32⟩
  | .hbm, ⟨98, _⟩ => ⟨S_, .f32⟩
  | .hbm, ⟨99, _⟩ => ⟨S2x4x2048, .f32⟩
  | .hbm, ⟨100, _⟩ => ⟨S2x4x2048x1, .f32⟩
  | .hbm, ⟨101, _⟩ => ⟨S2x4x2048x1, .f32⟩
  | .hbm, ⟨102, _⟩ => ⟨S2x4x2048x127, .f32⟩
  | .hbm, ⟨103, _⟩ => ⟨S2x4x2048x127, .f32⟩
  | .hbm, ⟨104, _⟩ => ⟨S_, .f32⟩
  | .hbm, ⟨105, _⟩ => ⟨S2x4x2048, .f32⟩
  | .hbm, ⟨106, _⟩ => ⟨S2x4x2048x127, .f32⟩
  | .hbm, ⟨107, _⟩ => ⟨S2x4x2048x127, .f32⟩
  | .hbm, ⟨108, _⟩ => ⟨S2x4x2048x127, .f32⟩
  | .hbm, ⟨109, _⟩ => ⟨S_, .f32⟩
  | .hbm, ⟨110, _⟩ => ⟨S2x4x2048x127, .f32⟩
  | .hbm, ⟨111, _⟩ => ⟨S2x4x2048x127, .f32⟩
  | .hbm, ⟨112, _⟩ => ⟨S2x127x2048x4, .f32⟩
  | .hbm, ⟨113, _⟩ => ⟨S2x2048x4x64, .f32⟩
  | .hbm, ⟨114, _⟩ => ⟨S2x127x64, .f32⟩
  | .hbm, ⟨115, _⟩ => ⟨S_, .f32⟩
  | .hbm, ⟨116, _⟩ => ⟨S2x128x64, .f32⟩
  | .hbm, ⟨117, _⟩ => ⟨S_, .f32⟩
  | .hbm, ⟨118, _⟩ => ⟨S2x128x64, .f32⟩
  | .hbm, ⟨119, _⟩ => ⟨S_, .f32⟩
  | .hbm, ⟨120, _⟩ => ⟨S2x2048x4x64, .f32⟩
  | .hbm, ⟨121, _⟩ => ⟨S2x2048x4x64, .f32⟩
  | .hbm, ⟨122, _⟩ => ⟨S2x2048x256, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_call0_v0 : Ref sig .tc := ⟨.hbm, 33, rfl⟩
abbrev main_v23_1 : Ref sig .tc := ⟨.hbm, 34, rfl⟩
abbrev main_call0_v2 : Ref sig .tc := ⟨.hbm, 35, rfl⟩
abbrev main_v23_0 : Ref sig .tc := ⟨.hbm, 36, rfl⟩
abbrev main_call0_cst : Ref sig .tc := ⟨.hbm, 37, rfl⟩
abbrev main_v23_2 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_call1_v0 : Ref sig .tc := ⟨.hbm, 78, rfl⟩
abbrev main_v52_1 : Ref sig .tc := ⟨.hbm, 79, rfl⟩
abbrev main_call1_v2 : Ref sig .tc := ⟨.hbm, 80, rfl⟩
abbrev main_v52_0 : Ref sig .tc := ⟨.hbm, 81, rfl⟩
abbrev main_call1_cst : Ref sig .tc := ⟨.hbm, 82, rfl⟩
abbrev main_v52_2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call2_cst : Ref sig .tc := ⟨.hbm, 92, rfl⟩
abbrev main_call2_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_15 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_call3_cst : Ref sig .tc := ⟨.hbm, 109, rfl⟩
abbrev main_call3_v0 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_17 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_cst_19 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]
-- ==== Kernel2.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S2048x1024 : Shape := ⟨2, ![2048, 1024]⟩
abbrev S1x704x1024 : Shape := ⟨3, ![1, 704, 1024]⟩
abbrev S2x1x2048x704 : Shape := ⟨4, ![2, 1, 2048, 704]⟩
abbrev S704x1024 : Shape := ⟨2, ![704, 1024]⟩
abbrev S2048x704 : Shape := ⟨2, ![2048, 704]⟩
abbrev S1x1x2048x704 : Shape := ⟨4, ![1, 1, 2048, 704]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S2x4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x2048x704, .bf16⟩
  | .local _ .vmem, ⟨5, _⟩ => ⟨S2x1x2048x704, .bf16⟩
  | .local _ .vmem, ⟨6, _⟩ => ⟨S2x1x2048x704, .bf16⟩
  | .local _ .vmem, ⟨7, _⟩ => ⟨S2x1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S1x4x4096x704 : Shape := ⟨4, ![1, 4, 4096, 704]⟩
abbrev S4x4096x704 : Shape := ⟨3, ![4, 4096, 704]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S2x4x4096x704, .f32⟩
  | .hbm, ⟨4, _⟩ => ⟨S1x4x4096x704, .f32⟩
  | .hbm, ⟨5, _⟩ => ⟨S4x4096x704, .f32⟩
  | .hbm, ⟨6, _⟩ => ⟨S4096x4x704, .f32⟩
  | .hbm, ⟨7, _⟩ => ⟨S4096x2816, .f32⟩
  | .hbm, ⟨8, _⟩ => ⟨S1x4x4096x704, .f32⟩
  | .hbm, ⟨9, _⟩ => ⟨S4x4096x704, .f32⟩
  | .hbm, ⟨10, _⟩ => ⟨S4096x4x704, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4x704x1024, .f32⟩
  | .hbm, ⟨27, _⟩ => ⟨S2816x1024, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x4x704, .f32⟩
  | .hbm, ⟨38, _⟩ => ⟨S4x4096x704, .f32⟩
  | .hbm, ⟨39, _⟩ => ⟨S1x4x4096x704, .f32⟩
  | .hbm, ⟨40, _⟩ => ⟨S_, .f32⟩
  | .hbm, ⟨41, _⟩ => ⟨S2x4x4096x704, .f32⟩
  | .hbm, ⟨42, _⟩ => ⟨S4096x4x704, .f32⟩
  | .hbm, ⟨43, _⟩ => ⟨S4x4096x704, .f32⟩
  | .hbm, ⟨44, _⟩ => ⟨S1x4x4096x704, .f32⟩
  | .hbm, ⟨45, _⟩ => ⟨S_, .f32⟩
  | .hbm, ⟨46, _⟩ => ⟨S2x4x4096x704, .f32⟩
  | .hbm, ⟨47, _⟩ => ⟨S2x4x4096x704, .f32⟩
  | .hbm, ⟨48, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S4096x4x704 : Shape := ⟨3, ![4096, 4, 704]⟩
abbrev S4096x2816 : Shape := ⟨2, ![4096, 2816]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4x4096x704, .f32⟩
  | .hbm, ⟨5, _⟩ => ⟨S4096x4x704, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x4096x704 : Shape := ⟨3, ![8, 4096, 704]⟩
abbrev S8x1024x704 : Shape := ⟨3, ![8, 1024, 704]⟩
abbrev S4096x1024 : Shape := ⟨2, ![4096, 1024]⟩
abbrev S8x512x704 : Shape := ⟨3, ![8, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩

abbrev nBuf : Space → Nat
  | .hbm => 3
  | .vmem => 5
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S4096x1024, .f32⟩
  | .local _ .vmem, ⟨0, _⟩ => ⟨S8x512x704, .bf16⟩
  | .local _ .vmem, ⟨1, _⟩ => ⟨S8x512x704, .bf16⟩
  | .local _ .vmem, ⟨2, _⟩ => ⟨S8x1024x704, .bf16⟩
  | .local _ .vmem, ⟨3, _⟩ => ⟨S512x1024, .f32⟩
  | .local _ .vmem, ⟨4, _⟩ => ⟨S512x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S8x4096x704 : Shape := ⟨3, ![8, 4096, 704]⟩
abbrev S8x1024x704 : Shape := ⟨3, ![8, 1024, 704]⟩
abbrev S_ : Shape := ⟨0, ![]⟩
abbrev S4096x1024 : Shape := ⟨2, ![4096, 1024]⟩
abbrev S1024x8x704 : Shape := ⟨3, ![1024, 8, 704]⟩
abbrev S1024x5632 : Shape := ⟨2, ![1024, 5632]⟩
abbrev S4096x5632 : Shape := ⟨2, ![4096, 5632]⟩
abbrev S4096x8x704 : Shape := ⟨3, ![4096, 8, 704]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S_, .f32⟩
  | .hbm, ⟨3, _⟩ => ⟨S4096x1024, .f32⟩
  | .hbm, ⟨4, _⟩ => ⟨S8x1024x704, .f32⟩
  | .hbm, ⟨5, _⟩ => ⟨S1024x8x704, .f32⟩
  | .hbm, ⟨6, _⟩ => ⟨S1024x5632, .f32⟩
  | .hbm, ⟨7, _⟩ => ⟨S4096x5632, .f32⟩
  | .hbm, ⟨8, _⟩ => ⟨S8x4096x704, .f32⟩
  | .hbm, ⟨9, _⟩ => ⟨S4096x8x704, .f32⟩
  | .hbm, ⟨10, _⟩ => ⟨S4096x5632, .f32⟩
  | .hbm, ⟨11, _⟩ => ⟨S4096x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S1024x4096 : Shape := ⟨2, ![1024, 4096]⟩
abbrev S8x4096x704 : Shape := ⟨3, ![8, 4096, 704]⟩
abbrev S8x1024x704 : Shape := ⟨3, ![8, 1024, 704]⟩
abbrev S1x4096x704 : Shape := ⟨3, ![1, 4096, 704]⟩
abbrev S1x1024x704 : Shape := ⟨3, ![1, 1024, 704]⟩
abbrev S4096x704 : Shape := ⟨2, ![4096, 704]⟩
abbrev S1024x704 : Shape := ⟨2, ![1024, 704]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S8x4096x704, .bf16⟩
  | .hbm, ⟨2, _⟩ => ⟨S8x1024x704, .bf16⟩
  | .local _ .vmem, ⟨0, _⟩ => ⟨S1024x4096, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x1024x704, .bf16⟩
  | .local _ .vmem, ⟨4, _⟩ => ⟨S1x1024x704, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1024x4096 : Shape := ⟨2, ![1024, 4096]⟩
abbrev S8x4096x704 : Shape := ⟨3, ![8, 4096, 704]⟩
abbrev S_ : Shape := ⟨0, ![]⟩
abbrev S8x1024x704 : Shape := ⟨3, ![8, 1024, 704]⟩
abbrev S4096x1024 : Shape := ⟨2, ![4096, 1024]⟩
abbrev S1024x8x704 : Shape := ⟨3, ![1024, 8, 704]⟩
abbrev S1024x5632 : Shape := ⟨2, ![1024, 5632]⟩
abbrev S4096x5632 : Shape := ⟨2, ![4096, 5632]⟩
abbrev S4096x8x704 : Shape := ⟨3, ![4096, 8, 704]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S8x4096x704, .bf16⟩
  | .hbm, ⟨2, _⟩ => ⟨S_, .f32⟩
  | .hbm, ⟨3, _⟩ => ⟨S8x1024x704, .f32⟩
  | .hbm, ⟨4, _⟩ => ⟨S1024x4096, .f32⟩
  | .hbm, ⟨5, _⟩ => ⟨S4096x1024, .f32⟩
  | .hbm, ⟨6, _⟩ => ⟨S1024x8x704, .f32⟩
  | .hbm, ⟨7, _⟩ => ⟨S1024x5632, .f32⟩
  | .hbm, ⟨8, _⟩ => ⟨S4096x5632, .f32⟩
  | .hbm, ⟨9, _⟩ => ⟨S8x4096x704, .f32⟩
  | .hbm, ⟨10, _⟩ => ⟨S4096x8x704, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x8x704, .f32⟩
  | .hbm, ⟨15, _⟩ => ⟨S8x1024x704, .f32⟩
  | .hbm, ⟨16, _⟩ => ⟨S8x1024x704, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel6.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S1024x4096 : Shape := ⟨2, ![1024, 4096]⟩
abbrev S4096x2048 : Shape := ⟨2, ![4096, 2048]⟩
abbrev S1024x2048 : Shape := ⟨2, ![1024, 2048]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S1024x2048, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1024x4096 : Shape := ⟨2, ![1024, 4096]⟩
abbrev S4096x2048 : Shape := ⟨2, ![4096, 2048]⟩
abbrev S_ : Shape := ⟨0, ![]⟩
abbrev S1024x2048 : Shape := ⟨2, ![1024, 2048]⟩
abbrev S4096x1024 : Shape := ⟨2, ![4096, 1024]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .bf16⟩
  | .hbm, ⟨5, _⟩ => ⟨S4096x1024, .f32⟩
  | .hbm, ⟨6, _⟩ => ⟨S4096x2048, .f32⟩
  | .hbm, ⟨7, _⟩ => ⟨S4096x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S8x1024x704 : Shape := ⟨3, ![8, 1024, 704]⟩
abbrev S2x4x4096x704 : Shape := ⟨4, ![2, 4, 4096, 704]⟩
abbrev S4x4096x704 : Shape := ⟨3, ![4, 4096, 704]⟩
abbrev S2048x1024 : Shape := ⟨2, ![2048, 1024]⟩
abbrev S1x1024x704 : Shape := ⟨3, ![1, 1024, 704]⟩
abbrev S2x1x2048x704 : Shape := ⟨4, ![2, 1, 2048, 704]⟩
abbrev S1x2048x704 : Shape := ⟨3, ![1, 2048, 704]⟩
abbrev S1024x704 : Shape := ⟨2, ![1024, 704]⟩
abbrev S2048x704 : Shape := ⟨2, ![2048, 704]⟩
abbrev S1x1x2048x704 : Shape := ⟨4, ![1, 1, 2048, 704]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S2x4x4096x704, .bf16⟩
  | .hbm, ⟨3, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x2048x704, .bf16⟩
  | .local _ .vmem, ⟨7, _⟩ => ⟨S2x1x2048x704, .bf16⟩
  | .local _ .vmem, ⟨8, _⟩ => ⟨S1x2048x704, .bf16⟩
  | .local _ .vmem, ⟨9, _⟩ => ⟨S1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S4096x1024 : Shape := ⟨2, ![4096, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S4096x1024, .f32⟩
  | .hbm, ⟨3, _⟩ => ⟨S8x1024x704, .f32⟩
  | .hbm, ⟨4, _⟩ => ⟨S1024x8x704, .f32⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x4x704, .f32⟩
  | .hbm, ⟨10, _⟩ => ⟨S4x4096x704, .f32⟩
  | .hbm, ⟨11, _⟩ => ⟨S4096x4x704, .f32⟩
  | .hbm, ⟨12, _⟩ => ⟨S4x4096x704, .f32⟩
  | .hbm, ⟨13, _⟩ => ⟨S1x4x4096x704, .f32⟩
  | .hbm, ⟨14, _⟩ => ⟨S1x4x4096x704, .f32⟩
  | .hbm, ⟨15, _⟩ => ⟨S2x4x4096x704, .f32⟩
  | .hbm, ⟨16, _⟩ => ⟨S2x4x4096x704, .bf16⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S_, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x4x704, .f32⟩
  | .hbm, ⟨28, _⟩ => ⟨S4x4096x704, .f32⟩
  | .hbm, ⟨29, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel11.lean ====
abbrev S4x4096x704 : Shape := ⟨3, ![4, 4096, 704]⟩
abbrev S4x704x1024 : Shape := ⟨3, ![4, 704, 1024]⟩
abbrev S4096x1024 : Shape := ⟨2, ![4096, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4x4096x704 : Shape := ⟨3, ![4, 4096, 704]⟩
abbrev S4x704x1024 : Shape := ⟨3, ![4, 704, 1024]⟩
abbrev S4096x4x704 : Shape := ⟨3, ![4096, 4, 704]⟩
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4x4096x704, .f32⟩
  | .hbm, ⟨3, _⟩ => ⟨S4096x4x704, .f32⟩
  | .hbm, ⟨4, _⟩ => ⟨S4096x2816, .f32⟩
  | .hbm, ⟨5, _⟩ => ⟨S4x704x1024, .f32⟩
  | .hbm, ⟨6, _⟩ => ⟨S2816x1024, .f32⟩
  | .hbm, ⟨7, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2x2048x1024 : Shape := ⟨3, ![2, 2048, 1024]⟩
abbrev S1x1024 : Shape := ⟨2, ![1, 1024]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S2x2048x1024 : Shape := ⟨3, ![2, 2048, 1024]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel15.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference15Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel16.lean ====
abbrev S4x1024x704 : Shape := ⟨3, ![4, 1024, 704]⟩
abbrev S4096x704 : Shape := ⟨2, ![4096, 704]⟩
abbrev S128x704 : Shape := ⟨2, ![128, 704]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
abbrev S4x1024x704 : Shape := ⟨3, ![4, 1024, 704]⟩
abbrev S4096x704 : Shape := ⟨2, ![4096, 704]⟩
abbrev S128x704 : Shape := ⟨2, ![128, 704]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S4x1024x704, .f32⟩
  | .hbm, ⟨12, _⟩ => ⟨S4x1024x704, .f32⟩
  | .hbm, ⟨13, _⟩ => ⟨S4x1024x704, .f32⟩
  | .local _ .vmem, ⟨0, _⟩ => ⟨S128x704, .f32⟩
  | .local _ .vmem, ⟨1, _⟩ => ⟨S128x704, .f32⟩
  | .local _ .vmem, ⟨2, _⟩ => ⟨S128x704, .f32⟩
  | .local _ .vmem, ⟨3, _⟩ => ⟨S128x704, .f32⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4x1024x704 : Shape := ⟨3, ![4, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S4x352x1024 : Shape := ⟨3, ![4, 352, 1024]⟩
abbrev S1408x1024 : Shape := ⟨2, ![1408, 1024]⟩
abbrev S128x1024 : Shape := ⟨2, ![128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S4x352x1024 : Shape := ⟨3, ![4, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x128x1932 : Shape := ⟨3, ![4, 128, 1932]⟩
abbrev S512x1932 : Shape := ⟨2, ![512, 1932]⟩
abbrev S128x1932 : Shape := ⟨2, ![128, 1932]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1932, .f32⟩
  | .hbm, ⟨1, _⟩ => ⟨S4x128x1932, .f32⟩
  | .hbm, ⟨2, _⟩ => ⟨S4x128x1932, .f32⟩
  | .hbm, ⟨3, _⟩ => ⟨S4x128x1932, .f32⟩
  | .hbm, ⟨4, _⟩ => ⟨S512x1932, .f32⟩
  | .hbm, ⟨5, _⟩ => ⟨S512x1932, .f32⟩
  | .hbm, ⟨6, _⟩ => ⟨S512x1932, .f32⟩
  | .hbm, ⟨7, _⟩ => ⟨S512x1932, .f32⟩
  | .hbm, ⟨8, _⟩ => ⟨S512x1932, .f32⟩
  | .hbm, ⟨9, _⟩ => ⟨S512x1932, .f32⟩
  | .hbm, ⟨10, _⟩ => ⟨S512x1932, .f32⟩
  | .hbm, ⟨11, _⟩ => ⟨S4x128x1932, .f32⟩
  | .hbm, ⟨12, _⟩ => ⟨S4x128x1932, .f32⟩
  | .hbm, ⟨13, _⟩ => ⟨S4x128x1932, .f32⟩
  | .local _ .vmem, ⟨0, _⟩ => ⟨S128x1932, .f32⟩
  | .local _ .vmem, ⟨1, _⟩ => ⟨S128x1932, .f32⟩
  | .local _ .vmem, ⟨2, _⟩ => ⟨S128x1932, .f32⟩
  | .local _ .vmem, ⟨3, _⟩ => ⟨S128x1932, .f32⟩
  | .local _ .vmem, ⟨4, _⟩ => ⟨S128x1932, .f32⟩
  | .local _ .vmem, ⟨5, _⟩ => ⟨S128x1932, .f32⟩
  | .local _ .vmem, ⟨6, _⟩ => ⟨S128x1932, .f32⟩
  | .local _ .vmem, ⟨7, _⟩ => ⟨S128x1932, .f32⟩
  | .local _ .vmem, ⟨8, _⟩ => ⟨S128x1932, .f32⟩
  | .local _ .vmem, ⟨9, _⟩ => ⟨S128x1932, .f32⟩
  | .local _ .vmem, ⟨10, _⟩ => ⟨S128x1932, .f32⟩
  | .local _ .vmem, ⟨11, _⟩ => ⟨S128x1932, .f32⟩
  | .local _ .vmem, ⟨12, _⟩ => ⟨S128x1932, .f32⟩
  | .local _ .vmem, ⟨13, _⟩ => ⟨S128x1932, .f32⟩
  | _, _ => ⟨S4x128x1932, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1932 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1932 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1932 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1932 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1932 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1932 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1932 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S4x128x1932 : Shape := ⟨3, ![4, 128, 1932]⟩
abbrev S512x1932 : Shape := ⟨2, ![512, 1932]⟩
abbrev S128x1932 : Shape := ⟨2, ![128, 1932]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1932, .f32⟩
  | .hbm, ⟨1, _⟩ => ⟨S4x128x1932, .f32⟩
  | .hbm, ⟨2, _⟩ => ⟨S4x128x1932, .f32⟩
  | .hbm, ⟨3, _⟩ => ⟨S4x128x1932, .f32⟩
  | .hbm, ⟨4, _⟩ => ⟨S512x1932, .f32⟩
  | .hbm, ⟨5, _⟩ => ⟨S512x1932, .f32⟩
  | .hbm, ⟨6, _⟩ => ⟨S512x1932, .f32⟩
  | .hbm, ⟨7, _⟩ => ⟨S512x1932, .f32⟩
  | .hbm, ⟨8, _⟩ => ⟨S512x1932, .f32⟩
  | .hbm, ⟨9, _⟩ => ⟨S512x1932, .f32⟩
  | .hbm, ⟨10, _⟩ => ⟨S512x1932, .f32⟩
  | .hbm, ⟨11, _⟩ => ⟨S4x128x1932, .f32⟩
  | .hbm, ⟨12, _⟩ => ⟨S4x128x1932, .f32⟩
  | .hbm, ⟨13, _⟩ => ⟨S4x128x1932, .f32⟩
  | .local _ .vmem, ⟨0, _⟩ => ⟨S128x1932, .f32⟩
  | .local _ .vmem, ⟨1, _⟩ => ⟨S128x1932, .f32⟩
  | .local _ .vmem, ⟨2, _⟩ => ⟨S128x1932, .f32⟩
  | .local _ .vmem, ⟨3, _⟩ => ⟨S128x1932, .f32⟩
  | .local _ .vmem, ⟨4, _⟩ => ⟨S128x1932, .f32⟩
  | .local _ .vmem, ⟨5, _⟩ => ⟨S128x1932, .f32⟩
  | .local _ .vmem, ⟨6, _⟩ => ⟨S128x1932, .f32⟩
  | .local _ .vmem, ⟨7, _⟩ => ⟨S128x1932, .f32⟩
  | .local _ .vmem, ⟨8, _⟩ => ⟨S128x1932, .f32⟩
  | .local _ .vmem, ⟨9, _⟩ => ⟨S128x1932, .f32⟩
  | .local _ .vmem, ⟨10, _⟩ => ⟨S128x1932, .f32⟩
  | .local _ .vmem, ⟨11, _⟩ => ⟨S128x1932, .f32⟩
  | .local _ .vmem, ⟨12, _⟩ => ⟨S128x1932, .f32⟩
  | .local _ .vmem, ⟨13, _⟩ => ⟨S128x1932, .f32⟩
  | _, _ => ⟨S4x128x1932, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1932 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1932 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1932 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1932 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1932 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1932 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1932 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4x128x1932 : Shape := ⟨3, ![4, 128, 1932]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x1932, .f32⟩
  | .hbm, ⟨1, _⟩ => ⟨S4x128x1932, .f32⟩
  | .hbm, ⟨2, _⟩ => ⟨S4x128x1932, .f32⟩
  | .hbm, ⟨3, _⟩ => ⟨S4x128x1932, .f32⟩
  | .hbm, ⟨4, _⟩ => ⟨S_, .f32⟩
  | .hbm, ⟨5, _⟩ => ⟨S4x128x1932, .f32⟩
  | .hbm, ⟨6, _⟩ => ⟨S4x128x1932, .f32⟩
  | .hbm, ⟨7, _⟩ => ⟨S_, .f32⟩
  | .hbm, ⟨8, _⟩ => ⟨S4x128x1932, .f32⟩
  | .hbm, ⟨9, _⟩ => ⟨S4x128x1932, .f32⟩
  | .hbm, ⟨10, _⟩ => ⟨S4x128x1932, .f32⟩
  | .hbm, ⟨11, _⟩ => ⟨S_, .f32⟩
  | .hbm, ⟨12, _⟩ => ⟨S4x128x1932, .f32⟩
  | .hbm, ⟨13, _⟩ => ⟨S4x128x1932, .f32⟩
  | .hbm, ⟨14, _⟩ => ⟨S4x128x1932, .f32⟩
  | .hbm, ⟨15, _⟩ => ⟨S_, .f32⟩
  | .hbm, ⟨16, _⟩ => ⟨S4x128x1932, .f32⟩
  | .hbm, ⟨17, _⟩ => ⟨S4x128x1932, .f32⟩
  | .hbm, ⟨18, _⟩ => ⟨S4x128x1932, .f32⟩
  | .hbm, ⟨19, _⟩ => ⟨S_, .f32⟩
  | .hbm, ⟨20, _⟩ => ⟨S4x128x1932, .f32⟩
  | .hbm, ⟨21, _⟩ => ⟨S4x128x1932, .f32⟩
  | .hbm, ⟨22, _⟩ => ⟨S_, .f32⟩
  | .hbm, ⟨23, _⟩ => ⟨S4x128x1932, .f32⟩
  | .hbm, ⟨24, _⟩ => ⟨S4x128x1932, .f32⟩
  | .hbm, ⟨25, _⟩ => ⟨S4x128x1932, .f32⟩
  | .hbm, ⟨26, _⟩ => ⟨S_, .f32⟩
  | .hbm, ⟨27, _⟩ => ⟨S4x128x1932, .f32⟩
  | .hbm, ⟨28, _⟩ => ⟨S4x128x1932, .f32⟩
  | .hbm, ⟨29, _⟩ => ⟨S4x128x1932, .f32⟩
  | .hbm, ⟨30, _⟩ => ⟨S_, .f32⟩
  | .hbm, ⟨31, _⟩ => ⟨S4x128x1932, .f32⟩
  | .hbm, ⟨32, _⟩ => ⟨S4x128x1932, .f32⟩
  | .hbm, ⟨33, _⟩ => ⟨S4x128x1932, .f32⟩
  | .hbm, ⟨34, _⟩ => ⟨S_, .f32⟩
  | .hbm, ⟨35, _⟩ => ⟨S4x128x1932, .f32⟩
  | .hbm, ⟨36, _⟩ => ⟨S4x128x1932, .f32⟩
  | _, _ => ⟨S4x128x1932, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x128x1024 : Shape := ⟨3, ![4, 128, 1024]⟩
abbrev S512x1024 : Shape := ⟨2, ![512, 1024]⟩
abbrev S128x1024 : Shape := ⟨2, ![128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S4x128x1024 : Shape := ⟨3, ![4, 128, 1024]⟩
abbrev S512x1024 : Shape := ⟨2, ![512, 1024]⟩
abbrev S128x1024 : Shape := ⟨2, ![128, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S4x128x1024, .f32⟩
  | .hbm, ⟨12, _⟩ => ⟨S4x128x1024, .f32⟩
  | .hbm, ⟨13, _⟩ => ⟨S4x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4x128x1024 : Shape := ⟨3, ![4, 128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x256x64 : Shape := ⟨3, ![4, 256, 64]⟩
abbrev S1024x64 : Shape := ⟨2, ![1024, 64]⟩
abbrev S128x64 : Shape := ⟨2, ![128, 64]⟩

abbrev nBuf : Space → Nat
  | .hbm => 14
  | .vmem => 14
  | .smem => 0
  | _ => 0

abbrev bufTy : (tb : Table) → Fin (tcTables nBuf tb) → BufTy
  | .hbm, ⟨0, _⟩ => ⟨S4x256x64, .f32⟩
  | .hbm, ⟨1, _⟩ => ⟨S4x256x64, .f32⟩
  | .hbm, ⟨2, _⟩ => ⟨S4x256x64, .f32⟩
  | .hbm, ⟨3, _⟩ => ⟨S4x256x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S4x256x64, .f32⟩
  | .hbm, ⟨12, _⟩ => ⟨S4x256x64, .f32⟩
  | .hbm, ⟨13, _⟩ => ⟨S4x256x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | _, _ => ⟨S4x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel20Ideal.lean ====
abbrev S4x256x64 : Shape := ⟨3, ![4, 256, 64]⟩
abbrev S1024x64 : Shape := ⟨2, ![1024, 64]⟩
abbrev S128x64 : Shape := ⟨2, ![128, 64]⟩

abbrev nBuf : Space → Nat
  | .hbm => 14
  | .vmem => 14
  | .smem => 0
  | _ => 0

abbrev bufTy : (tb : Table) → Fin (tcTables nBuf tb) → BufTy
  | .hbm, ⟨0, _⟩ => ⟨S4x256x64, .f32⟩
  | .hbm, ⟨1, _⟩ => ⟨S4x256x64, .f32⟩
  | .hbm, ⟨2, _⟩ => ⟨S4x256x64, .f32⟩
  | .hbm, ⟨3, _⟩ => ⟨S4x256x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S4x256x64, .f32⟩
  | .hbm, ⟨12, _⟩ => ⟨S4x256x64, .f32⟩
  | .hbm, ⟨13, _⟩ => ⟨S4x256x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | _, _ => ⟨S4x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S4x256x64 : Shape := ⟨3, ![4, 256, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256x64, .f32⟩
  | .hbm, ⟨1, _⟩ => ⟨S4x256x64, .f32⟩
  | .hbm, ⟨2, _⟩ => ⟨S4x256x64, .f32⟩
  | .hbm, ⟨3, _⟩ => ⟨S4x256x64, .f32⟩
  | .hbm, ⟨4, _⟩ => ⟨S_, .f32⟩
  | .hbm, ⟨5, _⟩ => ⟨S4x256x64, .f32⟩
  | .hbm, ⟨6, _⟩ => ⟨S4x256x64, .f32⟩
  | .hbm, ⟨7, _⟩ => ⟨S_, .f32⟩
  | .hbm, ⟨8, _⟩ => ⟨S4x256x64, .f32⟩
  | .hbm, ⟨9, _⟩ => ⟨S4x256x64, .f32⟩
  | .hbm, ⟨10, _⟩ => ⟨S4x256x64, .f32⟩
  | .hbm, ⟨11, _⟩ => ⟨S_, .f32⟩
  | .hbm, ⟨12, _⟩ => ⟨S4x256x64, .f32⟩
  | .hbm, ⟨13, _⟩ => ⟨S4x256x64, .f32⟩
  | .hbm, ⟨14, _⟩ => ⟨S4x256x64, .f32⟩
  | .hbm, ⟨15, _⟩ => ⟨S_, .f32⟩
  | .hbm, ⟨16, _⟩ => ⟨S4x256x64, .f32⟩
  | .hbm, ⟨17, _⟩ => ⟨S4x256x64, .f32⟩
  | .hbm, ⟨18, _⟩ => ⟨S4x256x64, .f32⟩
  | .hbm, ⟨19, _⟩ => ⟨S_, .f32⟩
  | .hbm, ⟨20, _⟩ => ⟨S4x256x64, .f32⟩
  | .hbm, ⟨21, _⟩ => ⟨S4x256x64, .f32⟩
  | .hbm, ⟨22, _⟩ => ⟨S_, .f32⟩
  | .hbm, ⟨23, _⟩ => ⟨S4x256x64, .f32⟩
  | .hbm, ⟨24, _⟩ => ⟨S4x256x64, .f32⟩
  | .hbm, ⟨25, _⟩ => ⟨S4x256x64, .f32⟩
  | .hbm, ⟨26, _⟩ => ⟨S_, .f32⟩
  | .hbm, ⟨27, _⟩ => ⟨S4x256x64, .f32⟩
  | .hbm, ⟨28, _⟩ => ⟨S4x256x64, .f32⟩
  | .hbm, ⟨29, _⟩ => ⟨S4x256x64, .f32⟩
  | .hbm, ⟨30, _⟩ => ⟨S_, .f32⟩
  | .hbm, ⟨31, _⟩ => ⟨S4x256x64, .f32⟩
  | .hbm, ⟨32, _⟩ => ⟨S4x256x64, .f32⟩
  | .hbm, ⟨33, _⟩ => ⟨S4x256x64, .f32⟩
  | .hbm, ⟨34, _⟩ => ⟨S_, .f32⟩
  | .hbm, ⟨35, _⟩ => ⟨S4x256x64, .f32⟩
  | .hbm, ⟨36, _⟩ => ⟨S4x256x64, .f32⟩
  | _, _ => ⟨S4x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4x32x256 : Shape := ⟨3, ![4, 32, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S4x32x256, .f32⟩
  | .hbm, ⟨12, _⟩ => ⟨S4x32x256, .f32⟩
  | .hbm, ⟨13, _⟩ => ⟨S4x32x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S4x32x256 : Shape := ⟨3, ![4, 32, 256]⟩
abbrev S128x256 : Shape := ⟨2, ![128, 256]⟩

abbrev nBuf : Space → Nat
  | .hbm => 14
  | .vmem => 7
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S4x32x256, .f32⟩
  | .hbm, ⟨12, _⟩ => ⟨S4x32x256, .f32⟩
  | .hbm, ⟨13, _⟩ => ⟨S4x32x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S4x32x256 : Shape := ⟨3, ![4, 32, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32x256, .f32⟩
  | .hbm, ⟨1, _⟩ => ⟨S4x32x256, .f32⟩
  | .hbm, ⟨2, _⟩ => ⟨S4x32x256, .f32⟩
  | .hbm, ⟨3, _⟩ => ⟨S4x32x256, .f32⟩
  | .hbm, ⟨4, _⟩ => ⟨S_, .f32⟩
  | .hbm, ⟨5, _⟩ => ⟨S4x32x256, .f32⟩
  | .hbm, ⟨6, _⟩ => ⟨S4x32x256, .f32⟩
  | .hbm, ⟨7, _⟩ => ⟨S_, .f32⟩
  | .hbm, ⟨8, _⟩ => ⟨S4x32x256, .f32⟩
  | .hbm, ⟨9, _⟩ => ⟨S4x32x256, .f32⟩
  | .hbm, ⟨10, _⟩ => ⟨S4x32x256, .f32⟩
  | .hbm, ⟨11, _⟩ => ⟨S_, .f32⟩
  | .hbm, ⟨12, _⟩ => ⟨S4x32x256, .f32⟩
  | .hbm, ⟨13, _⟩ => ⟨S4x32x256, .f32⟩
  | .hbm, ⟨14, _⟩ => ⟨S4x32x256, .f32⟩
  | .hbm, ⟨15, _⟩ => ⟨S_, .f32⟩
  | .hbm, ⟨16, _⟩ => ⟨S4x32x256, .f32⟩
  | .hbm, ⟨17, _⟩ => ⟨S4x32x256, .f32⟩
  | .hbm, ⟨18, _⟩ => ⟨S4x32x256, .f32⟩
  | .hbm, ⟨19, _⟩ => ⟨S_, .f32⟩
  | .hbm, ⟨20, _⟩ => ⟨S4x32x256, .f32⟩
  | .hbm, ⟨21, _⟩ => ⟨S4x32x256, .f32⟩
  | .hbm, ⟨22, _⟩ => ⟨S_, .f32⟩
  | .hbm, ⟨23, _⟩ => ⟨S4x32x256, .f32⟩
  | .hbm, ⟨24, _⟩ => ⟨S4x32x256, .f32⟩
  | .hbm, ⟨25, _⟩ => ⟨S4x32x256, .f32⟩
  | .hbm, ⟨26, _⟩ => ⟨S_, .f32⟩
  | .hbm, ⟨27, _⟩ => ⟨S4x32x256, .f32⟩
  | .hbm, ⟨28, _⟩ => ⟨S4x32x256, .f32⟩
  | .hbm, ⟨29, _⟩ => ⟨S4x32x256, .f32⟩
  | .hbm, ⟨30, _⟩ => ⟨S_, .f32⟩
  | .hbm, ⟨31, _⟩ => ⟨S4x32x256, .f32⟩
  | .hbm, ⟨32, _⟩ => ⟨S4x32x256, .f32⟩
  | .hbm, ⟨33, _⟩ => ⟨S4x32x256, .f32⟩
  | .hbm, ⟨34, _⟩ => ⟨S_, .f32⟩
  | .hbm, ⟨35, _⟩ => ⟨S4x32x256, .f32⟩
  | .hbm, ⟨36, _⟩ => ⟨S4x32x256, .f32⟩
  | _, _ => ⟨S4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S4x1024 : Shape := ⟨2, ![4, 1024]⟩
abbrev S4x256 : Shape := ⟨2, ![4, 256]⟩
abbrev S4x4x128x128 : Shape := ⟨4, ![4, 4, 128, 128]⟩
abbrev S4x4x128 : Shape := ⟨3, ![4, 4, 128]⟩
abbrev S4x31x32 : Shape := ⟨3, ![4, 31, 32]⟩
abbrev S4x32x64 : Shape := ⟨3, ![4, 32, 64]⟩
abbrev S4x64x64 : Shape := ⟨3, ![4, 64, 64]⟩
abbrev S4x4x64x64 : Shape := ⟨4, ![4, 4, 64, 64]⟩
abbrev S4096 : Shape := ⟨1, ![4096]⟩
abbrev S1024 : Shape := ⟨1, ![1024]⟩
abbrev S262144 : Shape := ⟨1, ![262144]⟩
abbrev S2048 : Shape := ⟨1, ![2048]⟩
abbrev S3968 : Shape := ⟨1, ![3968]⟩
abbrev S8192 : Shape := ⟨1, ![8192]⟩
abbrev S16384 : Shape := ⟨1, ![16384]⟩
abbrev S65536 : Shape := ⟨1, ![65536]⟩
abbrev S338816 : Shape := ⟨1, ![338816]⟩
abbrev S66560 : Shape := ⟨1, ![66560]⟩
abbrev S405376 : Shape := ⟨1, ![405376]⟩
abbrev S_ : Shape := ⟨0, ![]⟩
abbrev S425984 : Shape := ⟨1, ![425984]⟩
abbrev S3328x128 : Shape := ⟨2, ![3328, 128]⟩
abbrev S128x128 : Shape := ⟨2, ![128, 128]⟩

abbrev nBuf : Space → Nat
  | .hbm => 286
  | .vmem => 14
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S4x1024, .f32⟩
  | 4 => ⟨S4x256, .f32⟩
  | 5 => ⟨S4x4x128x128, .f32⟩
  | 6 => ⟨S4x4x128, .f32⟩
  | 7 => ⟨S4x31x32, .f32⟩
  | 8 => ⟨S4x256, .f32⟩
  | 9 => ⟨S4x256, .f32⟩
  | 10 => ⟨S4x256, .f32⟩
  | 11 => ⟨S4x256, .f32⟩
  | 12 => ⟨S4x32x64, .f32⟩
  | 13 => ⟨S4x32x64, .f32⟩
  | 14 => ⟨S4x64x64, .f32⟩
  | 15 => ⟨S4x64x64, .f32⟩
  | 16 => ⟨S4x4x64x64, .f32⟩
  | 17 => ⟨S4x256, .f32⟩
  | 18 => ⟨S4x1024, .f32⟩
  | 19 => ⟨S4x1024, .f32⟩
  | 20 => ⟨S4x1024, .f32⟩
  | 21 => ⟨S4x1024, .f32⟩
  | 22 => ⟨S4x256, .f32⟩
  | 23 => ⟨S4x4x128x128, .f32⟩
  | 24 => ⟨S4x4x128, .f32⟩
  | 25 => ⟨S4x31x32, .f32⟩
  | 26 => ⟨S4x256, .f32⟩
  | 27 => ⟨S4x256, .f32⟩
  | 28 => ⟨S4x256, .f32⟩
  | 29 => ⟨S4x256, .f32⟩
  | 30 => ⟨S4x32x64, .f32⟩
  | 31 => ⟨S4x32x64, .f32⟩
  | 32 => ⟨S4x64x64, .f32⟩
  | 33 => ⟨S4x64x64, .f32⟩
  | 34 => ⟨S4x4x64x64, .f32⟩
  | 35 => ⟨S4x256, .f32⟩
  | 36 => ⟨S4x1024, .f32⟩
  | 37 => ⟨S4x1024, .f32⟩
  | 38 => ⟨S4x1024, .f32⟩
  | 39 => ⟨S4x1024, .f32⟩
  | 40 => ⟨S4x256, .f32⟩
  | 41 => ⟨S4x4x128x128, .f32⟩
  | 42 => ⟨S4x4x128, .f32⟩
  | 43 => ⟨S4x31x32, .f32⟩
  | 44 => ⟨S4x256, .f32⟩
  | 45 => ⟨S4x256, .f32⟩
  | 46 => ⟨S4x256, .f32⟩
  | 47 => ⟨S4x256, .f32⟩
  | 48 => ⟨S4x32x64, .f32⟩
  | 49 => ⟨S4x32x64, .f32⟩
  | 50 => ⟨S4x64x64, .f32⟩
  | 51 => ⟨S4x64x64, .f32⟩
  | 52 => ⟨S4x4x64x64, .f32⟩
  | 53 => ⟨S4x256, .f32⟩
  | 54 => ⟨S4x1024, .f32⟩
  | 55 => ⟨S4x1024, .f32⟩
  | 56 => ⟨S4x1024, .f32⟩
  | 57 => ⟨S4x1024, .f32⟩
  | 58 => ⟨S4x256, .f32⟩
  | 59 => ⟨S4x4x128x128, .f32⟩
  | 60 => ⟨S4x4x128, .f32⟩
  | 61 => ⟨S4x31x32, .f32⟩
  | 62 => ⟨S4x256, .f32⟩
  | 63 => ⟨S4x256, .f32⟩
  | 64 => ⟨S4x256, .f32⟩
  | 65 => ⟨S4x256, .f32⟩
  | 66 => ⟨S4x32x64, .f32⟩
  | 67 => ⟨S4x32x64, .f32⟩
  | 68 => ⟨S4x64x64, .f32⟩
  | 69 => ⟨S4x64x64, .f32⟩
  | 70 => ⟨S4x4x64x64, .f32⟩
  | 71 => ⟨S4x256, .f32⟩
  | 72 => ⟨S4096, .f32⟩
  | 73 => ⟨S4096, .f32⟩
  | 74 => ⟨S4096, .f32⟩
  | 75 => ⟨S4096, .f32⟩
  | 76 => ⟨S1024, .f32⟩
  | 77 => ⟨S262144, .f32⟩
  | 78 => ⟨S2048, .f32⟩
  | 79 => ⟨S3968, .f32⟩
  | 80 => ⟨S1024, .f32⟩
  | 81 => ⟨S1024, .f32⟩
  | 82 => ⟨S1024, .f32⟩
  | 83 => ⟨S1024, .f32⟩
  | 84 => ⟨S8192, .f32⟩
  | 85 => ⟨S8192, .f32⟩
  | 86 => ⟨S16384, .f32⟩
  | 87 => ⟨S16384, .f32⟩
  | 88 => ⟨S65536, .f32⟩
  | 89 => ⟨S1024, .f32⟩
  | 90 => ⟨S338816, .f32⟩
  | 91 => ⟨S66560, .f32⟩
  | 92 => ⟨S405376, .f32⟩
  | 93 => ⟨S_, .i32⟩
  | 94 => ⟨S_, .f32⟩
  | 95 => ⟨S425984, .f32⟩
  | 96 => ⟨S3328x128, .f32⟩
  | 97 => ⟨S4096, .f32⟩
  | 98 => ⟨S4096, .f32⟩
  | 99 => ⟨S4096, .f32⟩
  | 100 => ⟨S4096, .f32⟩
  | 101 => ⟨S1024, .f32⟩
  | 102 => ⟨S262144, .f32⟩
  | 103 => ⟨S2048, .f32⟩
  | 104 => ⟨S3968, .f32⟩
  | 105 => ⟨S1024, .f32⟩
  | 106 => ⟨S1024, .f32⟩
  | 107 => ⟨S1024, .f32⟩
  | 108 => ⟨S1024, .f32⟩
  | 109 => ⟨S8192, .f32⟩
  | 110 => ⟨S8192, .f32⟩
  | 111 => ⟨S16384, .f32⟩
  | 112 => ⟨S16384, .f32⟩
  | 113 => ⟨S65536, .f32⟩
  | 114 => ⟨S1024, .f32⟩
  | 115 => ⟨S338816, .f32⟩
  | 116 => ⟨S66560, .f32⟩
  | 117 => ⟨S405376, .f32⟩
  | 118 => ⟨S_, .i32⟩
  | 119 => ⟨S_, .f32⟩
  | 120 => ⟨S425984, .f32⟩
  | 121 => ⟨S3328x128, .f32⟩
  | 122 => ⟨S4096, .f32⟩
  | 123 => ⟨S4096, .f32⟩
  | 124 => ⟨S4096, .f32⟩
  | 125 => ⟨S4096, .f32⟩
  | 126 => ⟨S1024, .f32⟩
  | 127 => ⟨S262144, .f32⟩
  | _ => ⟨S4x1024, .f32⟩

abbrev hbmTy0_1 (i : Nat) : BufTy := match i % 128 with
  | 0 => ⟨S2048, .f32⟩
  | 1 => ⟨S3968, .f32⟩
  | 2 => ⟨S1024, .f32⟩
  | 3 => ⟨S1024, .f32⟩
  | 4 => ⟨S1024, .f32⟩
  | 5 => ⟨S1024, .f32⟩
  | 6 => ⟨S8192, .f32⟩
  | 7 => ⟨S8192, .f32⟩
  | 8 => ⟨S16384, .f32⟩
  | 9 => ⟨S16384, .f32⟩
  | 10 => ⟨S65536, .f32⟩
  | 11 => ⟨S1024, .f32⟩
  | 12 => ⟨S338816, .f32⟩
  | 13 => ⟨S66560, .f32⟩
  | 14 => ⟨S405376, .f32⟩
  | 15 => ⟨S_, .i32⟩
  | 16 => ⟨S_, .f32⟩
  | 17 => ⟨S425984, .f32⟩
  | 18 => ⟨S3328x128, .f32⟩
  | 19 => ⟨S4096, .f32⟩
  | 20 => ⟨S4096, .f32⟩
  | 21 => ⟨S4096, .f32⟩
  | 22 => ⟨S4096, .f32⟩
  | 23 => ⟨S1024, .f32⟩
  | 24 => ⟨S262144, .f32⟩
  | 25 => ⟨S2048, .f32⟩
  | 26 => ⟨S3968, .f32⟩
  | 27 => ⟨S1024, .f32⟩
  | 28 => ⟨S1024, .f32⟩
  | 29 => ⟨S1024, .f32⟩
  | 30 => ⟨S1024, .f32⟩
  | 31 => ⟨S8192, .f32⟩
  | 32 => ⟨S8192, .f32⟩
  | 33 => ⟨S16384, .f32⟩
  | 34 => ⟨S16384, .f32⟩
  | 35 => ⟨S65536, .f32⟩
  | 36 => ⟨S1024, .f32⟩
  | 37 => ⟨S338816, .f32⟩
  | 38 => ⟨S66560, .f32⟩
  | 39 => ⟨S405376, .f32⟩
  | 40 => ⟨S_, .i32⟩
  | 41 => ⟨S_, .f32⟩
  | 42 => ⟨S425984, .f32⟩
  | 43 => ⟨S3328x128, .f32⟩
  | 44 => ⟨S3328x128, .f32⟩
  | 45 => ⟨S3328x128, .f32⟩
  | 46 => ⟨S3328x128, .f32⟩
  | 47 => ⟨S425984, .f32⟩
  | 48 => ⟨S4096, .f32⟩
  | 49 => ⟨S4x1024, .f32⟩
  | 50 => ⟨S4096, .f32⟩
  | 51 => ⟨S4x1024, .f32⟩
  | 52 => ⟨S4096, .f32⟩
  | 53 => ⟨S4x1024, .f32⟩
  | 54 => ⟨S4096, .f32⟩
  | 55 => ⟨S4x1024, .f32⟩
  | 56 => ⟨S1024, .f32⟩
  | 57 => ⟨S4x256, .f32⟩
  | 58 => ⟨S262144, .f32⟩
  | 59 => ⟨S4x4x128x128, .f32⟩
  | 60 => ⟨S2048, .f32⟩
  | 61 => ⟨S4x4x128, .f32⟩
  | 62 => ⟨S3968, .f32⟩
  | 63 => ⟨S4x31x32, .f32⟩
  | 64 => ⟨S1024, .f32⟩
  | 65 => ⟨S4x256, .f32⟩
  | 66 => ⟨S1024, .f32⟩
  | 67 => ⟨S4x256, .f32⟩
  | 68 => ⟨S1024, .f32⟩
  | 69 => ⟨S4x256, .f32⟩
  | 70 => ⟨S1024, .f32⟩
  | 71 => ⟨S4x256, .f32⟩
  | 72 => ⟨S8192, .f32⟩
  | 73 => ⟨S4x32x64, .f32⟩
  | 74 => ⟨S8192, .f32⟩
  | 75 => ⟨S4x32x64, .f32⟩
  | 76 => ⟨S16384, .f32⟩
  | 77 => ⟨S4x64x64, .f32⟩
  | 78 => ⟨S16384, .f32⟩
  | 79 => ⟨S4x64x64, .f32⟩
  | 80 => ⟨S65536, .f32⟩
  | 81 => ⟨S4x4x64x64, .f32⟩
  | 82 => ⟨S1024, .f32⟩
  | 83 => ⟨S4x256, .f32⟩
  | 84 => ⟨S425984, .f32⟩
  | 85 => ⟨S4096, .f32⟩
  | 86 => ⟨S4x1024, .f32⟩
  | 87 => ⟨S4096, .f32⟩
  | 88 => ⟨S4x1024, .f32⟩
  | 89 => ⟨S4096, .f32⟩
  | 90 => ⟨S4x1024, .f32⟩
  | 91 => ⟨S4096, .f32⟩
  | 92 => ⟨S4x1024, .f32⟩
  | 93 => ⟨S1024, .f32⟩
  | 94 => ⟨S4x256, .f32⟩
  | 95 => ⟨S262144, .f32⟩
  | 96 => ⟨S4x4x128x128, .f32⟩
  | 97 => ⟨S2048, .f32⟩
  | 98 => ⟨S4x4x128, .f32⟩
  | 99 => ⟨S3968, .f32⟩
  | 100 => ⟨S4x31x32, .f32⟩
  | 101 => ⟨S1024, .f32⟩
  | 102 => ⟨S4x256, .f32⟩
  | 103 => ⟨S1024, .f32⟩
  | 104 => ⟨S4x256, .f32⟩
  | 105 => ⟨S1024, .f32⟩
  | 106 => ⟨S4x256, .f32⟩
  | 107 => ⟨S1024, .f32⟩
  | 108 => ⟨S4x256, .f32⟩
  | 109 => ⟨S8192, .f32⟩
  | 110 => ⟨S4x32x64, .f32⟩
  | 111 => ⟨S8192, .f32⟩
  | 112 => ⟨S4x32x64, .f32⟩
  | 113 => ⟨S16384, .f32⟩
  | 114 => ⟨S4x64x64, .f32⟩
  | 115 => ⟨S16384, .f32⟩
  | 116 => ⟨S4x64x64, .f32⟩
  | 117 => ⟨S65536, .f32⟩
  | 118 => ⟨S4x4x64x64, .f32⟩
  | 119 => ⟨S1024, .f32⟩
  | 120 => ⟨S4x256, .f32⟩
  | 121 => ⟨S425984, .f32⟩
  | 122 => ⟨S4096, .f32⟩
  | 123 => ⟨S4x1024, .f32⟩
  | 124 => ⟨S4096, .f32⟩
  | 125 => ⟨S4x1024, .f32⟩
  | 126 => ⟨S4096, .f32⟩
  | 127 => ⟨S4x1024, .f32⟩
  | _ => ⟨S4x1024, .f32⟩

abbrev hbmTy0_2 (i : Nat) : BufTy := match i % 128 with
  | 0 => ⟨S4096, .f32⟩
  | 1 => ⟨S4x1024, .f32⟩
  | 2 => ⟨S1024, .f32⟩
  | 3 => ⟨S4x256, .f32⟩
  | 4 => ⟨S262144, .f32⟩
  | 5 => ⟨S4x4x128x128, .f32⟩
  | 6 => ⟨S2048, .f32⟩
  | 7 => ⟨S4x4x128, .f32⟩
  | 8 => ⟨S3968, .f32⟩
  | 9 => ⟨S4x31x32, .f32⟩
  | 10 => ⟨S1024, .f32⟩
  | 11 => ⟨S4x256, .f32⟩
  | 12 => ⟨S1024, .f32⟩
  | 13 => ⟨S4x256, .f32⟩
  | 14 => ⟨S1024, .f32⟩
  | 15 => ⟨S4x256, .f32⟩
  | 16 => ⟨S1024, .f32⟩
  | 17 => ⟨S4x256, .f32⟩
  | 18 => ⟨S8192, .f32⟩
  | 19 => ⟨S4x32x64, .f32⟩
  | 20 => ⟨S8192, .f32⟩
  | 21 => ⟨S4x32x64, .f32⟩
  | 22 => ⟨S16384, .f32⟩
  | 23 => ⟨S4x64x64, .f32⟩
  | 24 => ⟨S16384, .f32⟩
  | 25 => ⟨S4x64x64, .f32⟩
  | 26 => ⟨S65536, .f32⟩
  | 27 => ⟨S4x4x64x64, .f32⟩
  | 28 => ⟨S1024, .f32⟩
  | 29 => ⟨S4x256, .f32⟩
  | _ => ⟨S4x1024, .f32⟩

abbrev hbmTy (i : Nat) : BufTy := match i / 128 with
  | 0 => hbmTy0_0 i
  | 1 => hbmTy0_1 i
  | 2 => hbmTy0_2 i
  | _ => ⟨S4x1024, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_v0 : Ref sig .tc := ⟨.hbm, 72, rfl⟩
abbrev main_v1 : Ref sig .tc := ⟨.hbm, 73, rfl⟩
abbrev main_v2 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_c : Ref sig .tc := ⟨.hbm, 93, rfl⟩
abbrev main_call0_v0 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_c_0 : Ref sig .tc := ⟨.hbm, 118, rfl⟩
abbrev main_call1_v0 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_c_1 : Ref sig .tc := ⟨.hbm, 143, rfl⟩
abbrev main_call2_v0 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_c_2 : Ref sig .tc := ⟨.hbm, 168, rfl⟩
abbrev main_call3_v0 : Ref sig .tc := ⟨.hbm, 169, rfl⟩
abbrev main_v90 : Ref sig .tc := ⟨.hbm, 170, rfl⟩
abbrev main_v91 : Ref sig .tc := ⟨.hbm, 171, rfl⟩
abbrev main_v92_0 : Ref sig .tc := ⟨.hbm, 172, rfl⟩
abbrev main_v92_1 : Ref sig .tc := ⟨.hbm, 173, rfl⟩
abbrev main_v92_2 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S4x1024 : Shape := ⟨2, ![4, 1024]⟩
abbrev S4x256 : Shape := ⟨2, ![4, 256]⟩
abbrev S4x4x128x128 : Shape := ⟨4, ![4, 4, 128, 128]⟩
abbrev S4x4x128 : Shape := ⟨3, ![4, 4, 128]⟩
abbrev S4x31x32 : Shape := ⟨3, ![4, 31, 32]⟩
abbrev S4x32x64 : Shape := ⟨3, ![4, 32, 64]⟩
abbrev S4x64x64 : Shape := ⟨3, ![4, 64, 64]⟩
abbrev S4x4x64x64 : Shape := ⟨4, ![4, 4, 64, 64]⟩
abbrev S_ : Shape := ⟨0, ![]⟩

abbrev nBuf : Space → Nat
  | .hbm => 666
  | .vmem => 0
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S4x1024, .f32⟩
  | 4 => ⟨S4x256, .f32⟩
  | 5 => ⟨S4x4x128x128, .f32⟩
  | 6 => ⟨S4x4x128, .f32⟩
  | 7 => ⟨S4x31x32, .f32⟩
  | 8 => ⟨S4x256, .f32⟩
  | 9 => ⟨S4x256, .f32⟩
  | 10 => ⟨S4x256, .f32⟩
  | 11 => ⟨S4x256, .f32⟩
  | 12 => ⟨S4x32x64, .f32⟩
  | 13 => ⟨S4x32x64, .f32⟩
  | 14 => ⟨S4x64x64, .f32⟩
  | 15 => ⟨S4x64x64, .f32⟩
  | 16 => ⟨S4x4x64x64, .f32⟩
  | 17 => ⟨S4x256, .f32⟩
  | 18 => ⟨S4x1024, .f32⟩
  | 19 => ⟨S4x1024, .f32⟩
  | 20 => ⟨S4x1024, .f32⟩
  | 21 => ⟨S4x1024, .f32⟩
  | 22 => ⟨S4x256, .f32⟩
  | 23 => ⟨S4x4x128x128, .f32⟩
  | 24 => ⟨S4x4x128, .f32⟩
  | 25 => ⟨S4x31x32, .f32⟩
  | 26 => ⟨S4x256, .f32⟩
  | 27 => ⟨S4x256, .f32⟩
  | 28 => ⟨S4x256, .f32⟩
  | 29 => ⟨S4x256, .f32⟩
  | 30 => ⟨S4x32x64, .f32⟩
  | 31 => ⟨S4x32x64, .f32⟩
  | 32 => ⟨S4x64x64, .f32⟩
  | 33 => ⟨S4x64x64, .f32⟩
  | 34 => ⟨S4x4x64x64, .f32⟩
  | 35 => ⟨S4x256, .f32⟩
  | 36 => ⟨S4x1024, .f32⟩
  | 37 => ⟨S4x1024, .f32⟩
  | 38 => ⟨S4x1024, .f32⟩
  | 39 => ⟨S4x1024, .f32⟩
  | 40 => ⟨S4x256, .f32⟩
  | 41 => ⟨S4x4x128x128, .f32⟩
  | 42 => ⟨S4x4x128, .f32⟩
  | 43 => ⟨S4x31x32, .f32⟩
  | 44 => ⟨S4x256, .f32⟩
  | 45 => ⟨S4x256, .f32⟩
  | 46 => ⟨S4x256, .f32⟩
  | 47 => ⟨S4x256, .f32⟩
  | 48 => ⟨S4x32x64, .f32⟩
  | 49 => ⟨S4x32x64, .f32⟩
  | 50 => ⟨S4x64x64, .f32⟩
  | 51 => ⟨S4x64x64, .f32⟩
  | 52 => ⟨S4x4x64x64, .f32⟩
  | 53 => ⟨S4x256, .f32⟩
  | 54 => ⟨S4x1024, .f32⟩
  | 55 => ⟨S4x1024, .f32⟩
  | 56 => ⟨S4x1024, .f32⟩
  | 57 => ⟨S4x1024, .f32⟩
  | 58 => ⟨S4x256, .f32⟩
  | 59 => ⟨S4x4x128x128, .f32⟩
  | 60 => ⟨S4x4x128, .f32⟩
  | 61 => ⟨S4x31x32, .f32⟩
  | 62 => ⟨S4x256, .f32⟩
  | 63 => ⟨S4x256, .f32⟩
  | 64 => ⟨S4x256, .f32⟩
  | 65 => ⟨S4x256, .f32⟩
  | 66 => ⟨S4x32x64, .f32⟩
  | 67 => ⟨S4x32x64, .f32⟩
  | 68 => ⟨S4x64x64, .f32⟩
  | 69 => ⟨S4x64x64, .f32⟩
  | 70 => ⟨S4x4x64x64, .f32⟩
  | 71 => ⟨S4x256, .f32⟩
  | 72 => ⟨S_, .f32⟩
  | 73 => ⟨S4x1024, .f32⟩
  | 74 => ⟨S4x1024, .f32⟩
  | 75 => ⟨S_, .f32⟩
  | 76 => ⟨S4x1024, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S_, .f32⟩
  | 91 => ⟨S4x1024, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S4x1024, .f32⟩
  | 98 => ⟨S_, .f32⟩
  | 99 => ⟨S4x1024, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S_, .f32⟩
  | 109 => ⟨S4x1024, .f32⟩
  | 110 => ⟨S4x1024, .f32⟩
  | 111 => ⟨S4x1024, .f32⟩
  | 112 => ⟨S_, .f32⟩
  | 113 => ⟨S4x1024, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S_, .f32⟩
  | 124 => ⟨S4x1024, .f32⟩
  | 125 => ⟨S4x1024, .f32⟩
  | 126 => ⟨S4x1024, .f32⟩
  | 127 => ⟨S_, .f32⟩
  | _ => ⟨S4x1024, .f32⟩

abbrev hbmTy0_1 (i : Nat) : BufTy := match i % 128 with
  | 0 => ⟨S4x1024, .f32⟩
  | 1 => ⟨S4x1024, .f32⟩
  | 2 => ⟨S4x1024, .f32⟩
  | 3 => ⟨S_, .f32⟩
  | 4 => ⟨S4x1024, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S_, .f32⟩
  | 14 => ⟨S4x1024, .f32⟩
  | 15 => ⟨S4x1024, .f32⟩
  | 16 => ⟨S4x1024, .f32⟩
  | 17 => ⟨S_, .f32⟩
  | 18 => ⟨S4x1024, .f32⟩
  | 19 => ⟨S4x1024, .f32⟩
  | 20 => ⟨S4x1024, .f32⟩
  | 21 => ⟨S_, .f32⟩
  | 22 => ⟨S4x1024, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S_, .f32⟩
  | 29 => ⟨S4x1024, .f32⟩
  | 30 => ⟨S4x1024, .f32⟩
  | 31 => ⟨S4x1024, .f32⟩
  | 32 => ⟨S_, .f32⟩
  | 33 => ⟨S4x1024, .f32⟩
  | 34 => ⟨S4x1024, .f32⟩
  | 35 => ⟨S4x1024, .f32⟩
  | 36 => ⟨S_, .f32⟩
  | 37 => ⟨S4x1024, .f32⟩
  | 38 => ⟨S4x1024, .f32⟩
  | 39 => ⟨S4x1024, .f32⟩
  | 40 => ⟨S_, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S_, .f32⟩
  | 47 => ⟨S4x1024, .f32⟩
  | 48 => ⟨S4x1024, .f32⟩
  | 49 => ⟨S4x1024, .f32⟩
  | 50 => ⟨S_, .f32⟩
  | 51 => ⟨S4x1024, .f32⟩
  | 52 => ⟨S4x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S_, .f32⟩
  | 62 => ⟨S4x1024, .f32⟩
  | 63 => ⟨S4x1024, .f32⟩
  | 64 => ⟨S4x1024, .f32⟩
  | 65 => ⟨S_, .f32⟩
  | 66 => ⟨S4x1024, .f32⟩
  | 67 => ⟨S4x1024, .f32⟩
  | 68 => ⟨S4x1024, .f32⟩
  | 69 => ⟨S_, .f32⟩
  | 70 => ⟨S4x1024, .f32⟩
  | 71 => ⟨S4x1024, .f32⟩
  | 72 => ⟨S4x1024, .f32⟩
  | 73 => ⟨S_, .f32⟩
  | 74 => ⟨S4x1024, .f32⟩
  | 75 => ⟨S4x1024, .f32⟩
  | 76 => ⟨S_, .f32⟩
  | 77 => ⟨S4x256, .f32⟩
  | 78 => ⟨S4x256, .f32⟩
  | 79 => ⟨S_, .f32⟩
  | 80 => ⟨S4x256, .f32⟩
  | 81 => ⟨S4x256, .f32⟩
  | 82 => ⟨S4x256, .f32⟩
  | 83 => ⟨S_, .f32⟩
  | 84 => ⟨S4x256, .f32⟩
  | 85 => ⟨S4x256, .f32⟩
  | 86 => ⟨S4x256, .f32⟩
  | 87 => ⟨S_, .f32⟩
  | 88 => ⟨S4x256, .f32⟩
  | 89 => ⟨S4x256, .f32⟩
  | 90 => ⟨S4x256, .f32⟩
  | 91 => ⟨S_, .f32⟩
  | 92 => ⟨S4x256, .f32⟩
  | 93 => ⟨S4x256, .f32⟩
  | 94 => ⟨S_, .f32⟩
  | 95 => ⟨S4x256, .f32⟩
  | 96 => ⟨S4x256, .f32⟩
  | 97 => ⟨S4x256, .f32⟩
  | 98 => ⟨S_, .f32⟩
  | 99 => ⟨S4x256, .f32⟩
  | 100 => ⟨S4x256, .f32⟩
  | 101 => ⟨S4x256, .f32⟩
  | 102 => ⟨S_, .f32⟩
  | 103 => ⟨S4x256, .f32⟩
  | 104 => ⟨S4x256, .f32⟩
  | 105 => ⟨S4x256, .f32⟩
  | 106 => ⟨S_, .f32⟩
  | 107 => ⟨S4x256, .f32⟩
  | 108 => ⟨S4x256, .f32⟩
  | 109 => ⟨S_, .f32⟩
  | 110 => ⟨S4x4x128x128, .f32⟩
  | 111 => ⟨S4x4x128x128, .f32⟩
  | 112 => ⟨S_, .f32⟩
  | 113 => ⟨S4x4x128x128, .f32⟩
  | 114 => ⟨S4x4x128x128, .f32⟩
  | 115 => ⟨S4x4x128x128, .f32⟩
  | 116 => ⟨S_, .f32⟩
  | 117 => ⟨S4x4x128x128, .f32⟩
  | 118 => ⟨S4x4x128x128, .f32⟩
  | 119 => ⟨S4x4x128x128, .f32⟩
  | 120 => ⟨S_, .f32⟩
  | 121 => ⟨S4x4x128x128, .f32⟩
  | 122 => ⟨S4x4x128x128, .f32⟩
  | 123 => ⟨S4x4x128x128, .f32⟩
  | 124 => ⟨S_, .f32⟩
  | 125 => ⟨S4x4x128x128, .f32⟩
  | 126 => ⟨S4x4x128x128, .f32⟩
  | 127 => ⟨S_, .f32⟩
  | _ => ⟨S4x1024, .f32⟩

abbrev hbmTy0_2 (i : Nat) : BufTy := match i % 128 with
  | 0 => ⟨S4x4x128x128, .f32⟩
  | 1 => ⟨S4x4x128x128, .f32⟩
  | 2 => ⟨S4x4x128x128, .f32⟩
  | 3 => ⟨S_, .f32⟩
  | 4 => ⟨S4x4x128x128, .f32⟩
  | 5 => ⟨S4x4x128x128, .f32⟩
  | 6 => ⟨S4x4x128x128, .f32⟩
  | 7 => ⟨S_, .f32⟩
  | 8 => ⟨S4x4x128x128, .f32⟩
  | 9 => ⟨S4x4x128x128, .f32⟩
  | 10 => ⟨S4x4x128x128, .f32⟩
  | 11 => ⟨S_, .f32⟩
  | 12 => ⟨S4x4x128x128, .f32⟩
  | 13 => ⟨S4x4x128x128, .f32⟩
  | 14 => ⟨S_, .f32⟩
  | 15 => ⟨S4x4x128, .f32⟩
  | 16 => ⟨S4x4x128, .f32⟩
  | 17 => ⟨S_, .f32⟩
  | 18 => ⟨S4x4x128, .f32⟩
  | 19 => ⟨S4x4x128, .f32⟩
  | 20 => ⟨S4x4x128, .f32⟩
  | 21 => ⟨S_, .f32⟩
  | 22 => ⟨S4x4x128, .f32⟩
  | 23 => ⟨S4x4x128, .f32⟩
  | 24 => ⟨S4x4x128, .f32⟩
  | 25 => ⟨S_, .f32⟩
  | 26 => ⟨S4x4x128, .f32⟩
  | 27 => ⟨S4x4x128, .f32⟩
  | 28 => ⟨S4x4x128, .f32⟩
  | 29 => ⟨S_, .f32⟩
  | 30 => ⟨S4x4x128, .f32⟩
  | 31 => ⟨S4x4x128, .f32⟩
  | 32 => ⟨S_, .f32⟩
  | 33 => ⟨S4x4x128, .f32⟩
  | 34 => ⟨S4x4x128, .f32⟩
  | 35 => ⟨S4x4x128, .f32⟩
  | 36 => ⟨S_, .f32⟩
  | 37 => ⟨S4x4x128, .f32⟩
  | 38 => ⟨S4x4x128, .f32⟩
  | 39 => ⟨S4x4x128, .f32⟩
  | 40 => ⟨S_, .f32⟩
  | 41 => ⟨S4x4x128, .f32⟩
  | 42 => ⟨S4x4x128, .f32⟩
  | 43 => ⟨S4x4x128, .f32⟩
  | 44 => ⟨S_, .f32⟩
  | 45 => ⟨S4x4x128, .f32⟩
  | 46 => ⟨S4x4x128, .f32⟩
  | 47 => ⟨S_, .f32⟩
  | 48 => ⟨S4x31x32, .f32⟩
  | 49 => ⟨S4x31x32, .f32⟩
  | 50 => ⟨S_, .f32⟩
  | 51 => ⟨S4x31x32, .f32⟩
  | 52 => ⟨S4x31x32, .f32⟩
  | 53 => ⟨S4x31x32, .f32⟩
  | 54 => ⟨S_, .f32⟩
  | 55 => ⟨S4x31x32, .f32⟩
  | 56 => ⟨S4x31x32, .f32⟩
  | 57 => ⟨S4x31x32, .f32⟩
  | 58 => ⟨S_, .f32⟩
  | 59 => ⟨S4x31x32, .f32⟩
  | 60 => ⟨S4x31x32, .f32⟩
  | 61 => ⟨S4x31x32, .f32⟩
  | 62 => ⟨S_, .f32⟩
  | 63 => ⟨S4x31x32, .f32⟩
  | 64 => ⟨S4x31x32, .f32⟩
  | 65 => ⟨S_, .f32⟩
  | 66 => ⟨S4x31x32, .f32⟩
  | 67 => ⟨S4x31x32, .f32⟩
  | 68 => ⟨S4x31x32, .f32⟩
  | 69 => ⟨S_, .f32⟩
  | 70 => ⟨S4x31x32, .f32⟩
  | 71 => ⟨S4x31x32, .f32⟩
  | 72 => ⟨S4x31x32, .f32⟩
  | 73 => ⟨S_, .f32⟩
  | 74 => ⟨S4x31x32, .f32⟩
  | 75 => ⟨S4x31x32, .f32⟩
  | 76 => ⟨S4x31x32, .f32⟩
  | 77 => ⟨S_, .f32⟩
  | 78 => ⟨S4x31x32, .f32⟩
  | 79 => ⟨S4x31x32, .f32⟩
  | 80 => ⟨S_, .f32⟩
  | 81 => ⟨S4x256, .f32⟩
  | 82 => ⟨S4x256, .f32⟩
  | 83 => ⟨S_, .f32⟩
  | 84 => ⟨S4x256, .f32⟩
  | 85 => ⟨S4x256, .f32⟩
  | 86 => ⟨S4x256, .f32⟩
  | 87 => ⟨S_, .f32⟩
  | 88 => ⟨S4x256, .f32⟩
  | 89 => ⟨S4x256, .f32⟩
  | 90 => ⟨S4x256, .f32⟩
  | 91 => ⟨S_, .f32⟩
  | 92 => ⟨S4x256, .f32⟩
  | 93 => ⟨S4x256, .f32⟩
  | 94 => ⟨S4x256, .f32⟩
  | 95 => ⟨S_, .f32⟩
  | 96 => ⟨S4x256, .f32⟩
  | 97 => ⟨S4x256, .f32⟩
  | 98 => ⟨S_, .f32⟩
  | 99 => ⟨S4x256, .f32⟩
  | 100 => ⟨S4x256, .f32⟩
  | 101 => ⟨S4x256, .f32⟩
  | 102 => ⟨S_, .f32⟩
  | 103 => ⟨S4x256, .f32⟩
  | 104 => ⟨S4x256, .f32⟩
  | 105 => ⟨S4x256, .f32⟩
  | 106 => ⟨S_, .f32⟩
  | 107 => ⟨S4x256, .f32⟩
  | 108 => ⟨S4x256, .f32⟩
  | 109 => ⟨S4x256, .f32⟩
  | 110 => ⟨S_, .f32⟩
  | 111 => ⟨S4x256, .f32⟩
  | 112 => ⟨S4x256, .f32⟩
  | 113 => ⟨S_, .f32⟩
  | 114 => ⟨S4x256, .f32⟩
  | 115 => ⟨S4x256, .f32⟩
  | 116 => ⟨S_, .f32⟩
  | 117 => ⟨S4x256, .f32⟩
  | 118 => ⟨S4x256, .f32⟩
  | 119 => ⟨S4x256, .f32⟩
  | 120 => ⟨S_, .f32⟩
  | 121 => ⟨S4x256, .f32⟩
  | 122 => ⟨S4x256, .f32⟩
  | 123 => ⟨S4x256, .f32⟩
  | 124 => ⟨S_, .f32⟩
  | 125 => ⟨S4x256, .f32⟩
  | 126 => ⟨S4x256, .f32⟩
  | 127 => ⟨S4x256, .f32⟩
  | _ => ⟨S4x1024, .f32⟩

abbrev hbmTy0_3 (i : Nat) : BufTy := match i % 128 with
  | 0 => ⟨S_, .f32⟩
  | 1 => ⟨S4x256, .f32⟩
  | 2 => ⟨S4x256, .f32⟩
  | 3 => ⟨S_, .f32⟩
  | 4 => ⟨S4x256, .f32⟩
  | 5 => ⟨S4x256, .f32⟩
  | 6 => ⟨S4x256, .f32⟩
  | 7 => ⟨S_, .f32⟩
  | 8 => ⟨S4x256, .f32⟩
  | 9 => ⟨S4x256, .f32⟩
  | 10 => ⟨S4x256, .f32⟩
  | 11 => ⟨S_, .f32⟩
  | 12 => ⟨S4x256, .f32⟩
  | 13 => ⟨S4x256, .f32⟩
  | 14 => ⟨S4x256, .f32⟩
  | 15 => ⟨S_, .f32⟩
  | 16 => ⟨S4x256, .f32⟩
  | 17 => ⟨S4x256, .f32⟩
  | 18 => ⟨S_, .f32⟩
  | 19 => ⟨S4x256, .f32⟩
  | 20 => ⟨S4x256, .f32⟩
  | 21 => ⟨S_, .f32⟩
  | 22 => ⟨S4x256, .f32⟩
  | 23 => ⟨S4x256, .f32⟩
  | 24 => ⟨S4x256, .f32⟩
  | 25 => ⟨S_, .f32⟩
  | 26 => ⟨S4x256, .f32⟩
  | 27 => ⟨S4x256, .f32⟩
  | 28 => ⟨S4x256, .f32⟩
  | 29 => ⟨S_, .f32⟩
  | 30 => ⟨S4x256, .f32⟩
  | 31 => ⟨S4x256, .f32⟩
  | 32 => ⟨S4x256, .f32⟩
  | 33 => ⟨S_, .f32⟩
  | 34 => ⟨S4x256, .f32⟩
  | 35 => ⟨S4x256, .f32⟩
  | 36 => ⟨S_, .f32⟩
  | 37 => ⟨S4x256, .f32⟩
  | 38 => ⟨S4x256, .f32⟩
  | 39 => ⟨S4x256, .f32⟩
  | 40 => ⟨S_, .f32⟩
  | 41 => ⟨S4x256, .f32⟩
  | 42 => ⟨S4x256, .f32⟩
  | 43 => ⟨S4x256, .f32⟩
  | 44 => ⟨S_, .f32⟩
  | 45 => ⟨S4x256, .f32⟩
  | 46 => ⟨S4x256, .f32⟩
  | 47 => ⟨S4x256, .f32⟩
  | 48 => ⟨S_, .f32⟩
  | 49 => ⟨S4x256, .f32⟩
  | 50 => ⟨S4x256, .f32⟩
  | 51 => ⟨S_, .f32⟩
  | 52 => ⟨S4x256, .f32⟩
  | 53 => ⟨S4x256, .f32⟩
  | 54 => ⟨S_, .f32⟩
  | 55 => ⟨S4x256, .f32⟩
  | 56 => ⟨S4x256, .f32⟩
  | 57 => ⟨S4x256, .f32⟩
  | 58 => ⟨S_, .f32⟩
  | 59 => ⟨S4x256, .f32⟩
  | 60 => ⟨S4x256, .f32⟩
  | 61 => ⟨S4x256, .f32⟩
  | 62 => ⟨S_, .f32⟩
  | 63 => ⟨S4x256, .f32⟩
  | 64 => ⟨S4x256, .f32⟩
  | 65 => ⟨S4x256, .f32⟩
  | 66 => ⟨S_, .f32⟩
  | 67 => ⟨S4x256, .f32⟩
  | 68 => ⟨S4x256, .f32⟩
  | 69 => ⟨S_, .f32⟩
  | 70 => ⟨S4x256, .f32⟩
  | 71 => ⟨S4x256, .f32⟩
  | 72 => ⟨S4x256, .f32⟩
  | 73 => ⟨S_, .f32⟩
  | 74 => ⟨S4x256, .f32⟩
  | 75 => ⟨S4x256, .f32⟩
  | 76 => ⟨S4x256, .f32⟩
  | 77 => ⟨S_, .f32⟩
  | 78 => ⟨S4x256, .f32⟩
  | 79 => ⟨S4x256, .f32⟩
  | 80 => ⟨S4x256, .f32⟩
  | 81 => ⟨S_, .f32⟩
  | 82 => ⟨S4x256, .f32⟩
  | 83 => ⟨S4x256, .f32⟩
  | 84 => ⟨S_, .f32⟩
  | 85 => ⟨S4x32x64, .f32⟩
  | 86 => ⟨S4x32x64, .f32⟩
  | 87 => ⟨S_, .f32⟩
  | 88 => ⟨S4x32x64, .f32⟩
  | 89 => ⟨S4x32x64, .f32⟩
  | 90 => ⟨S4x32x64, .f32⟩
  | 91 => ⟨S_, .f32⟩
  | 92 => ⟨S4x32x64, .f32⟩
  | 93 => ⟨S4x32x64, .f32⟩
  | 94 => ⟨S4x32x64, .f32⟩
  | 95 => ⟨S_, .f32⟩
  | 96 => ⟨S4x32x64, .f32⟩
  | 97 => ⟨S4x32x64, .f32⟩
  | 98 => ⟨S4x32x64, .f32⟩
  | 99 => ⟨S_, .f32⟩
  | 100 => ⟨S4x32x64, .f32⟩
  | 101 => ⟨S4x32x64, .f32⟩
  | 102 => ⟨S_, .f32⟩
  | 103 => ⟨S4x32x64, .f32⟩
  | 104 => ⟨S4x32x64, .f32⟩
  | 105 => ⟨S4x32x64, .f32⟩
  | 106 => ⟨S_, .f32⟩
  | 107 => ⟨S4x32x64, .f32⟩
  | 108 => ⟨S4x32x64, .f32⟩
  | 109 => ⟨S4x32x64, .f32⟩
  | 110 => ⟨S_, .f32⟩
  | 111 => ⟨S4x32x64, .f32⟩
  | 112 => ⟨S4x32x64, .f32⟩
  | 113 => ⟨S4x32x64, .f32⟩
  | 114 => ⟨S_, .f32⟩
  | 115 => ⟨S4x32x64, .f32⟩
  | 116 => ⟨S4x32x64, .f32⟩
  | 117 => ⟨S_, .f32⟩
  | 118 => ⟨S4x32x64, .f32⟩
  | 119 => ⟨S4x32x64, .f32⟩
  | 120 => ⟨S_, .f32⟩
  | 121 => ⟨S4x32x64, .f32⟩
  | 122 => ⟨S4x32x64, .f32⟩
  | 123 => ⟨S4x32x64, .f32⟩
  | 124 => ⟨S_, .f32⟩
  | 125 => ⟨S4x32x64, .f32⟩
  | 126 => ⟨S4x32x64, .f32⟩
  | 127 => ⟨S4x32x64, .f32⟩
  | _ => ⟨S4x1024, .f32⟩

abbrev hbmTy0_4 (i : Nat) : BufTy := match i % 128 with
  | 0 => ⟨S_, .f32⟩
  | 1 => ⟨S4x32x64, .f32⟩
  | 2 => ⟨S4x32x64, .f32⟩
  | 3 => ⟨S4x32x64, .f32⟩
  | 4 => ⟨S_, .f32⟩
  | 5 => ⟨S4x32x64, .f32⟩
  | 6 => ⟨S4x32x64, .f32⟩
  | 7 => ⟨S_, .f32⟩
  | 8 => ⟨S4x32x64, .f32⟩
  | 9 => ⟨S4x32x64, .f32⟩
  | 10 => ⟨S4x32x64, .f32⟩
  | 11 => ⟨S_, .f32⟩
  | 12 => ⟨S4x32x64, .f32⟩
  | 13 => ⟨S4x32x64, .f32⟩
  | 14 => ⟨S4x32x64, .f32⟩
  | 15 => ⟨S_, .f32⟩
  | 16 => ⟨S4x32x64, .f32⟩
  | 17 => ⟨S4x32x64, .f32⟩
  | 18 => ⟨S4x32x64, .f32⟩
  | 19 => ⟨S_, .f32⟩
  | 20 => ⟨S4x32x64, .f32⟩
  | 21 => ⟨S4x32x64, .f32⟩
  | 22 => ⟨S_, .f32⟩
  | 23 => ⟨S4x64x64, .f32⟩
  | 24 => ⟨S4x64x64, .f32⟩
  | 25 => ⟨S_, .f32⟩
  | 26 => ⟨S4x64x64, .f32⟩
  | 27 => ⟨S4x64x64, .f32⟩
  | 28 => ⟨S4x64x64, .f32⟩
  | 29 => ⟨S_, .f32⟩
  | 30 => ⟨S4x64x64, .f32⟩
  | 31 => ⟨S4x64x64, .f32⟩
  | 32 => ⟨S4x64x64, .f32⟩
  | 33 => ⟨S_, .f32⟩
  | 34 => ⟨S4x64x64, .f32⟩
  | 35 => ⟨S4x64x64, .f32⟩
  | 36 => ⟨S4x64x64, .f32⟩
  | 37 => ⟨S_, .f32⟩
  | 38 => ⟨S4x64x64, .f32⟩
  | 39 => ⟨S4x64x64, .f32⟩
  | 40 => ⟨S_, .f32⟩
  | 41 => ⟨S4x64x64, .f32⟩
  | 42 => ⟨S4x64x64, .f32⟩
  | 43 => ⟨S4x64x64, .f32⟩
  | 44 => ⟨S_, .f32⟩
  | 45 => ⟨S4x64x64, .f32⟩
  | 46 => ⟨S4x64x64, .f32⟩
  | 47 => ⟨S4x64x64, .f32⟩
  | 48 => ⟨S_, .f32⟩
  | 49 => ⟨S4x64x64, .f32⟩
  | 50 => ⟨S4x64x64, .f32⟩
  | 51 => ⟨S4x64x64, .f32⟩
  | 52 => ⟨S_, .f32⟩
  | 53 => ⟨S4x64x64, .f32⟩
  | 54 => ⟨S4x64x64, .f32⟩
  | 55 => ⟨S_, .f32⟩
  | 56 => ⟨S4x64x64, .f32⟩
  | 57 => ⟨S4x64x64, .f32⟩
  | 58 => ⟨S_, .f32⟩
  | 59 => ⟨S4x64x64, .f32⟩
  | 60 => ⟨S4x64x64, .f32⟩
  | 61 => ⟨S4x64x64, .f32⟩
  | 62 => ⟨S_, .f32⟩
  | 63 => ⟨S4x64x64, .f32⟩
  | 64 => ⟨S4x64x64, .f32⟩
  | 65 => ⟨S4x64x64, .f32⟩
  | 66 => ⟨S_, .f32⟩
  | 67 => ⟨S4x64x64, .f32⟩
  | 68 => ⟨S4x64x64, .f32⟩
  | 69 => ⟨S4x64x64, .f32⟩
  | 70 => ⟨S_, .f32⟩
  | 71 => ⟨S4x64x64, .f32⟩
  | 72 => ⟨S4x64x64, .f32⟩
  | 73 => ⟨S_, .f32⟩
  | 74 => ⟨S4x64x64, .f32⟩
  | 75 => ⟨S4x64x64, .f32⟩
  | 76 => ⟨S4x64x64, .f32⟩
  | 77 => ⟨S_, .f32⟩
  | 78 => ⟨S4x64x64, .f32⟩
  | 79 => ⟨S4x64x64, .f32⟩
  | 80 => ⟨S4x64x64, .f32⟩
  | 81 => ⟨S_, .f32⟩
  | 82 => ⟨S4x64x64, .f32⟩
  | 83 => ⟨S4x64x64, .f32⟩
  | 84 => ⟨S4x64x64, .f32⟩
  | 85 => ⟨S_, .f32⟩
  | 86 => ⟨S4x64x64, .f32⟩
  | 87 => ⟨S4x64x64, .f32⟩
  | 88 => ⟨S_, .f32⟩
  | 89 => ⟨S4x4x64x64, .f32⟩
  | 90 => ⟨S4x4x64x64, .f32⟩
  | 91 => ⟨S_, .f32⟩
  | 92 => ⟨S4x4x64x64, .f32⟩
  | 93 => ⟨S4x4x64x64, .f32⟩
  | 94 => ⟨S4x4x64x64, .f32⟩
  | 95 => ⟨S_, .f32⟩
  | 96 => ⟨S4x4x64x64, .f32⟩
  | 97 => ⟨S4x4x64x64, .f32⟩
  | 98 => ⟨S4x4x64x64, .f32⟩
  | 99 => ⟨S_, .f32⟩
  | 100 => ⟨S4x4x64x64, .f32⟩
  | 101 => ⟨S4x4x64x64, .f32⟩
  | 102 => ⟨S4x4x64x64, .f32⟩
  | 103 => ⟨S_, .f32⟩
  | 104 => ⟨S4x4x64x64, .f32⟩
  | 105 => ⟨S4x4x64x64, .f32⟩
  | 106 => ⟨S_, .f32⟩
  | 107 => ⟨S4x4x64x64, .f32⟩
  | 108 => ⟨S4x4x64x64, .f32⟩
  | 109 => ⟨S4x4x64x64, .f32⟩
  | 110 => ⟨S_, .f32⟩
  | 111 => ⟨S4x4x64x64, .f32⟩
  | 112 => ⟨S4x4x64x64, .f32⟩
  | 113 => ⟨S4x4x64x64, .f32⟩
  | 114 => ⟨S_, .f32⟩
  | 115 => ⟨S4x4x64x64, .f32⟩
  | 116 => ⟨S4x4x64x64, .f32⟩
  | 117 => ⟨S4x4x64x64, .f32⟩
  | 118 => ⟨S_, .f32⟩
  | 119 => ⟨S4x4x64x64, .f32⟩
  | 120 => ⟨S4x4x64x64, .f32⟩
  | 121 => ⟨S_, .f32⟩
  | 122 => ⟨S4x256, .f32⟩
  | 123 => ⟨S4x256, .f32⟩
  | 124 => ⟨S_, .f32⟩
  | 125 => ⟨S4x256, .f32⟩
  | 126 => ⟨S4x256, .f32⟩
  | 127 => ⟨S4x256, .f32⟩
  | _ => ⟨S4x1024, .f32⟩

abbrev hbmTy0_5 (i : Nat) : BufTy := match i % 128 with
  | 0 => ⟨S_, .f32⟩
  | 1 => ⟨S4x256, .f32⟩
  | 2 => ⟨S4x256, .f32⟩
  | 3 => ⟨S4x256, .f32⟩
  | 4 => ⟨S_, .f32⟩
  | 5 => ⟨S4x256, .f32⟩
  | 6 => ⟨S4x256, .f32⟩
  | 7 => ⟨S4x256, .f32⟩
  | 8 => ⟨S_, .f32⟩
  | 9 => ⟨S4x256, .f32⟩
  | 10 => ⟨S4x256, .f32⟩
  | 11 => ⟨S_, .f32⟩
  | 12 => ⟨S4x256, .f32⟩
  | 13 => ⟨S4x256, .f32⟩
  | 14 => ⟨S4x256, .f32⟩
  | 15 => ⟨S_, .f32⟩
  | 16 => ⟨S4x256, .f32⟩
  | 17 => ⟨S4x256, .f32⟩
  | 18 => ⟨S4x256, .f32⟩
  | 19 => ⟨S_, .f32⟩
  | 20 => ⟨S4x256, .f32⟩
  | 21 => ⟨S4x256, .f32⟩
  | 22 => ⟨S4x256, .f32⟩
  | 23 => ⟨S_, .f32⟩
  | 24 => ⟨S4x256, .f32⟩
  | 25 => ⟨S4x256, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_cst : Ref sig .tc := ⟨.hbm, 72, rfl⟩
abbrev main_v0 : Ref sig .tc := ⟨.hbm, 73, rfl⟩
abbrev main_v1 : Ref sig .tc := ⟨.hbm, 74, rfl⟩
abbrev main_cst_0 : Ref sig .tc := ⟨.hbm, 75, rfl⟩
abbrev main_v2 : Ref sig .tc := ⟨.hbm, 76, rfl⟩
abbrev main_v3 : Ref sig .tc := ⟨.hbm, 77, rfl⟩
abbrev main_v4 : Ref sig .tc := ⟨.hbm, 78, rfl⟩
abbrev main_cst_1 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_cst_2 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst_3 : Ref sig .tc := ⟨.hbm, 87, rfl⟩
abbrev main_v11 : Ref sig .tc := ⟨.hbm, 88, rfl⟩
abbrev main_v12 : Ref sig .tc := ⟨.hbm, 89, rfl⟩
abbrev main_cst_4 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_cst_5 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_cst_6 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_cst_7 : Ref sig .tc := ⟨.hbm, 102, rfl⟩
abbrev main_v22 : Ref sig .tc := ⟨.hbm, 103, rfl⟩
abbrev main_v23 : Ref sig .tc := ⟨.hbm, 104, rfl⟩
abbrev main_cst_8 : Ref sig .tc := ⟨.hbm, 105, rfl⟩
abbrev main_v24 : Ref sig .tc := ⟨.hbm, 106, rfl⟩
abbrev main_v25 : Ref sig .tc := ⟨.hbm, 107, rfl⟩
abbrev main_cst_9 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_cst_10 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_11 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_12 : Ref sig .tc := ⟨.hbm, 120, rfl⟩
abbrev main_v35 : Ref sig .tc := ⟨.hbm, 121, rfl⟩
abbrev main_v36 : Ref sig .tc := ⟨.hbm, 122, rfl⟩
abbrev main_cst_13 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_14 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_cst_15 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_cst_16 : Ref sig .tc := ⟨.hbm, 135, rfl⟩
abbrev main_v46 : Ref sig .tc := ⟨.hbm, 136, rfl⟩
abbrev main_v47 : Ref sig .tc := ⟨.hbm, 137, rfl⟩
abbrev main_cst_17 : Ref sig .tc := ⟨.hbm, 138, rfl⟩
abbrev main_v48 : Ref sig .tc := ⟨.hbm, 139, rfl⟩
abbrev main_v49 : Ref sig .tc := ⟨.hbm, 140, rfl⟩
abbrev main_cst_18 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_cst_19 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_cst_20 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_21 : Ref sig .tc := ⟨.hbm, 153, rfl⟩
abbrev main_v59 : Ref sig .tc := ⟨.hbm, 154, rfl⟩
abbrev main_v60 : Ref sig .tc := ⟨.hbm, 155, rfl⟩
abbrev main_cst_22 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_cst_23 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_cst_24 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_25 : Ref sig .tc := ⟨.hbm, 168, rfl⟩
abbrev main_v70 : Ref sig .tc := ⟨.hbm, 169, rfl⟩
abbrev main_v71 : Ref sig .tc := ⟨.hbm, 170, rfl⟩
abbrev main_cst_26 : Ref sig .tc := ⟨.hbm, 171, rfl⟩
abbrev main_v72 : Ref sig .tc := ⟨.hbm, 172, rfl⟩
abbrev main_v73 : Ref sig .tc := ⟨.hbm, 173, rfl⟩
abbrev main_cst_27 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_cst_28 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_cst_29 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_cst_30 : Ref sig .tc := ⟨.hbm, 186, rfl⟩
abbrev main_v83 : Ref sig .tc := ⟨.hbm, 187, rfl⟩
abbrev main_v84 : Ref sig .tc := ⟨.hbm, 188, rfl⟩
abbrev main_cst_31 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_32 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_cst_33 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_34 : Ref sig .tc := ⟨.hbm, 201, rfl⟩
abbrev main_v94 : Ref sig .tc := ⟨.hbm, 202, rfl⟩
abbrev main_v95 : Ref sig .tc := ⟨.hbm, 203, rfl⟩
abbrev main_cst_35 : Ref sig .tc := ⟨.hbm, 204, rfl⟩
abbrev main_v96 : Ref sig .tc := ⟨.hbm, 205, rfl⟩
abbrev main_v97 : Ref sig .tc := ⟨.hbm, 206, rfl⟩
abbrev main_cst_36 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_37 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_cst_38 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_39 : Ref sig .tc := ⟨.hbm, 219, rfl⟩
abbrev main_v107 : Ref sig .tc := ⟨.hbm, 220, rfl⟩
abbrev main_v108 : Ref sig .tc := ⟨.hbm, 221, rfl⟩
abbrev main_cst_40 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_41 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_42 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_cst_43 : Ref sig .tc := ⟨.hbm, 234, rfl⟩
abbrev main_v118 : Ref sig .tc := ⟨.hbm, 235, rfl⟩
abbrev main_v119 : Ref sig .tc := ⟨.hbm, 236, rfl⟩
abbrev main_cst_44 : Ref sig .tc := ⟨.hbm, 237, rfl⟩
abbrev main_v120 : Ref sig .tc := ⟨.hbm, 238, rfl⟩
abbrev main_v121 : Ref sig .tc := ⟨.hbm, 239, rfl⟩
abbrev main_cst_45 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_cst_46 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_47 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_48 : Ref sig .tc := ⟨.hbm, 252, rfl⟩
abbrev main_v131 : Ref sig .tc := ⟨.hbm, 253, rfl⟩
abbrev main_v132 : Ref sig .tc := ⟨.hbm, 254, rfl⟩
abbrev main_cst_49 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_50 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_cst_51 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_cst_52 : Ref sig .tc := ⟨.hbm, 267, rfl⟩
abbrev main_v142 : Ref sig .tc := ⟨.hbm, 268, rfl⟩
abbrev main_v143 : Ref sig .tc := ⟨.hbm, 269, rfl⟩
abbrev main_cst_53 : Ref sig .tc := ⟨.hbm, 270, rfl⟩
abbrev main_v144 : Ref sig .tc := ⟨.hbm, 271, rfl⟩
abbrev main_v145 : Ref sig .tc := ⟨.hbm, 272, rfl⟩
abbrev main_cst_54 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_cst_55 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_cst_56 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_cst_57 : Ref sig .tc := ⟨.hbm, 285, rfl⟩
abbrev main_v155 : Ref sig .tc := ⟨.hbm, 286, rfl⟩
abbrev main_v156 : Ref sig .tc := ⟨.hbm, 287, rfl⟩
abbrev main_cst_58 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_cst_59 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_60 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_cst_61 : Ref sig .tc := ⟨.hbm, 300, rfl⟩
abbrev main_v166 : Ref sig .tc := ⟨.hbm, 301, rfl⟩
abbrev main_v167 : Ref sig .tc := ⟨.hbm, 302, rfl⟩
abbrev main_cst_62 : Ref sig .tc := ⟨.hbm, 303, rfl⟩
abbrev main_v168 : Ref sig .tc := ⟨.hbm, 304, rfl⟩
abbrev main_v169 : Ref sig .tc := ⟨.hbm, 305, rfl⟩
abbrev main_cst_63 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_cst_64 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_65 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_cst_66 : Ref sig .tc := ⟨.hbm, 318, rfl⟩
abbrev main_v179 : Ref sig .tc := ⟨.hbm, 319, rfl⟩
abbrev main_v180 : Ref sig .tc := ⟨.hbm, 320, rfl⟩
abbrev main_cst_67 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_cst_68 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_cst_69 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_cst_70 : Ref sig .tc := ⟨.hbm, 333, rfl⟩
abbrev main_v190 : Ref sig .tc := ⟨.hbm, 334, rfl⟩
abbrev main_v191 : Ref sig .tc := ⟨.hbm, 335, rfl⟩
abbrev main_cst_71 : Ref sig .tc := ⟨.hbm, 336, rfl⟩
abbrev main_v192 : Ref sig .tc := ⟨.hbm, 337, rfl⟩
abbrev main_v193 : Ref sig .tc := ⟨.hbm, 338, rfl⟩
abbrev main_cst_72 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_73 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_74 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_cst_75 : Ref sig .tc := ⟨.hbm, 351, rfl⟩
abbrev main_v203 : Ref sig .tc := ⟨.hbm, 352, rfl⟩
abbrev main_v204 : Ref sig .tc := ⟨.hbm, 353, rfl⟩
abbrev main_cst_76 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_77 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_78 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_cst_79 : Ref sig .tc := ⟨.hbm, 366, rfl⟩
abbrev main_v214 : Ref sig .tc := ⟨.hbm, 367, rfl⟩
abbrev main_v215 : Ref sig .tc := ⟨.hbm, 368, rfl⟩
abbrev main_cst_80 : Ref sig .tc := ⟨.hbm, 369, rfl⟩
abbrev main_v216 : Ref sig .tc := ⟨.hbm, 370, rfl⟩
abbrev main_v217 : Ref sig .tc := ⟨.hbm, 371, rfl⟩
abbrev main_cst_81 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_cst_82 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_cst_83 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_cst_84 : Ref sig .tc := ⟨.hbm, 384, rfl⟩
abbrev main_v227 : Ref sig .tc := ⟨.hbm, 385, rfl⟩
abbrev main_v228 : Ref sig .tc := ⟨.hbm, 386, rfl⟩
abbrev main_cst_85 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_cst_86 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_cst_87 : Ref sig .tc := ⟨.hbm, 395, rfl⟩
abbrev main_v235 : Ref sig .tc := ⟨.hbm, 396, rfl⟩
abbrev main_v236 : Ref sig .tc := ⟨.hbm, 397, rfl⟩
abbrev main_v237 : Ref sig .tc := ⟨.hbm, 398, rfl⟩
abbrev main_cst_88 : Ref sig .tc := ⟨.hbm, 399, rfl⟩
abbrev main_v238 : Ref sig .tc := ⟨.hbm, 400, rfl⟩
abbrev main_v239 : Ref sig .tc := ⟨.hbm, 401, rfl⟩
abbrev main_cst_89 : Ref sig .tc := ⟨.hbm, 402, rfl⟩
abbrev main_v240 : Ref sig .tc := ⟨.hbm, 403, rfl⟩
abbrev main_v241 : Ref sig .tc := ⟨.hbm, 404, rfl⟩
abbrev main_cst_90 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_cst_91 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_cst_92 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_cst_93 : Ref sig .tc := ⟨.hbm, 417, rfl⟩
abbrev main_v251 : Ref sig .tc := ⟨.hbm, 418, rfl⟩
abbrev main_v252 : Ref sig .tc := ⟨.hbm, 419, rfl⟩
abbrev main_cst_94 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_cst_95 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_cst_96 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_97 : Ref sig .tc := ⟨.hbm, 432, rfl⟩
abbrev main_v262 : Ref sig .tc := ⟨.hbm, 433, rfl⟩
abbrev main_v263 : Ref sig .tc := ⟨.hbm, 434, rfl⟩
abbrev main_cst_98 : Ref sig .tc := ⟨.hbm, 435, rfl⟩
abbrev main_v264 : Ref sig .tc := ⟨.hbm, 436, rfl⟩
abbrev main_v265 : Ref sig .tc := ⟨.hbm, 437, rfl⟩
abbrev main_cst_99 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_cst_100 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_101 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_cst_102 : Ref sig .tc := ⟨.hbm, 450, rfl⟩
abbrev main_v275 : Ref sig .tc := ⟨.hbm, 451, rfl⟩
abbrev main_v276 : Ref sig .tc := ⟨.hbm, 452, rfl⟩
abbrev main_cst_103 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_cst_104 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_cst_105 : Ref sig .tc := ⟨.hbm, 461, rfl⟩
abbrev main_v283 : Ref sig .tc := ⟨.hbm, 462, rfl⟩
abbrev main_v284 : Ref sig .tc := ⟨.hbm, 463, rfl⟩
abbrev main_v285 : Ref sig .tc := ⟨.hbm, 464, rfl⟩
abbrev main_cst_106 : Ref sig .tc := ⟨.hbm, 465, rfl⟩
abbrev main_v286 : Ref sig .tc := ⟨.hbm, 466, rfl⟩
abbrev main_v287 : Ref sig .tc := ⟨.hbm, 467, rfl⟩
abbrev main_cst_107 : Ref sig .tc := ⟨.hbm, 468, rfl⟩
abbrev main_v288 : Ref sig .tc := ⟨.hbm, 469, rfl⟩
abbrev main_v289 : Ref sig .tc := ⟨.hbm, 470, rfl⟩
abbrev main_cst_108 : Ref sig .tc := ⟨.hbm, 471, rfl⟩
abbrev main_v290 : Ref sig .tc := ⟨.hbm, 472, rfl⟩
abbrev main_v291 : Ref sig .tc := ⟨.hbm, 473, rfl⟩
abbrev main_v292 : Ref sig .tc := ⟨.hbm, 474, rfl⟩
abbrev main_cst_109 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_cst_110 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_cst_111 : Ref sig .tc := ⟨.hbm, 483, rfl⟩
abbrev main_v299 : Ref sig .tc := ⟨.hbm, 484, rfl⟩
abbrev main_v300 : Ref sig .tc := ⟨.hbm, 485, rfl⟩
abbrev main_cst_112 : Ref sig .tc := ⟨.hbm, 486, rfl⟩
abbrev main_v301 : Ref sig .tc := ⟨.hbm, 487, rfl⟩
abbrev main_v302 : Ref sig .tc := ⟨.hbm, 488, rfl⟩
abbrev main_v303 : Ref sig .tc := ⟨.hbm, 489, rfl⟩
abbrev main_cst_113 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_cst_114 : Ref sig .tc := ⟨.hbm, 494, rfl⟩
abbrev main_v307 : Ref sig .tc := ⟨.hbm, 495, rfl⟩
abbrev main_v308 : Ref sig .tc := ⟨.hbm, 496, rfl⟩
abbrev main_v309 : Ref sig .tc := ⟨.hbm, 497, rfl⟩
abbrev main_cst_115 : Ref sig .tc := ⟨.hbm, 498, rfl⟩
abbrev main_v310 : Ref sig .tc := ⟨.hbm, 499, rfl⟩
abbrev main_v311 : Ref sig .tc := ⟨.hbm, 500, rfl⟩
abbrev main_cst_116 : Ref sig .tc := ⟨.hbm, 501, rfl⟩
abbrev main_v312 : Ref sig .tc := ⟨.hbm, 502, rfl⟩
abbrev main_v313 : Ref sig .tc := ⟨.hbm, 503, rfl⟩
abbrev main_cst_117 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_cst_118 : Ref sig .tc := ⟨.hbm, 508, rfl⟩
abbrev main_v317 : Ref sig .tc := ⟨.hbm, 509, rfl⟩
abbrev main_v318 : Ref sig .tc := ⟨.hbm, 510, rfl⟩
abbrev main_v319 : Ref sig .tc := ⟨.hbm, 511, rfl⟩
abbrev main_cst_119 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_cst_120 : Ref sig .tc := ⟨.hbm, 516, rfl⟩
abbrev main_v323 : Ref sig .tc := ⟨.hbm, 517, rfl⟩
abbrev main_v324 : Ref sig .tc := ⟨.hbm, 518, rfl⟩
abbrev main_cst_121 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_cst_122 : Ref sig .tc := ⟨.hbm, 523, rfl⟩
abbrev main_v328 : Ref sig .tc := ⟨.hbm, 524, rfl⟩
abbrev main_v329 : Ref sig .tc := ⟨.hbm, 525, rfl⟩
abbrev main_v330 : Ref sig .tc := ⟨.hbm, 526, rfl⟩
abbrev main_cst_123 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_cst_124 : Ref sig .tc := ⟨.hbm, 531, rfl⟩
abbrev main_v334 : Ref sig .tc := ⟨.hbm, 532, rfl⟩
abbrev main_v335 : Ref sig .tc := ⟨.hbm, 533, rfl⟩
abbrev main_cst_125 : Ref sig .tc := ⟨.hbm, 534, rfl⟩
abbrev main_v336 : Ref sig .tc := ⟨.hbm, 535, rfl⟩
abbrev main_v337 : Ref sig .tc := ⟨.hbm, 536, rfl⟩
abbrev main_cst_126 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_cst_127 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_cst_128 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_cst_129 : Ref sig .tc := ⟨.hbm, 549, rfl⟩
abbrev main_v347 : Ref sig .tc := ⟨.hbm, 550, rfl⟩
abbrev main_v348 : Ref sig .tc := ⟨.hbm, 551, rfl⟩
abbrev main_cst_130 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_cst_131 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_132 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_133 : Ref sig .tc := ⟨.hbm, 564, rfl⟩
abbrev main_v358 : Ref sig .tc := ⟨.hbm, 565, rfl⟩
abbrev main_v359 : Ref sig .tc := ⟨.hbm, 566, rfl⟩
abbrev main_cst_134 : Ref sig .tc := ⟨.hbm, 567, rfl⟩
abbrev main_v360 : Ref sig .tc := ⟨.hbm, 568, rfl⟩
abbrev main_v361 : Ref sig .tc := ⟨.hbm, 569, rfl⟩
abbrev main_cst_135 : Ref sig .tc := ⟨.hbm, 570, rfl⟩
abbrev main_v362 : Ref sig .tc := ⟨.hbm, 571, rfl⟩
abbrev main_v363 : Ref sig .tc := ⟨.hbm, 572, rfl⟩
abbrev main_v364 : Ref sig .tc := ⟨.hbm, 573, rfl⟩
abbrev main_cst_136 : Ref sig .tc := ⟨.hbm, 574, rfl⟩
abbrev main_v365 : Ref sig .tc := ⟨.hbm, 575, rfl⟩
abbrev main_v366 : Ref sig .tc := ⟨.hbm, 576, rfl⟩
abbrev main_v367 : Ref sig .tc := ⟨.hbm, 577, rfl⟩
abbrev main_cst_137 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_cst_138 : Ref sig .tc := ⟨.hbm, 582, rfl⟩
abbrev main_v371 : Ref sig .tc := ⟨.hbm, 583, rfl⟩
abbrev main_v372 : Ref sig .tc := ⟨.hbm, 584, rfl⟩
abbrev main_cst_139 : Ref sig .tc := ⟨.hbm, 585, rfl⟩
abbrev main_v373 : Ref sig .tc := ⟨.hbm, 586, rfl⟩
abbrev main_v374 : Ref sig .tc := ⟨.hbm, 587, rfl⟩
abbrev main_v375 : Ref sig .tc := ⟨.hbm, 588, rfl⟩
abbrev main_cst_140 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_cst_141 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_cst_142 : Ref sig .tc := ⟨.hbm, 597, rfl⟩
abbrev main_v382 : Ref sig .tc := ⟨.hbm, 598, rfl⟩
abbrev main_v383 : Ref sig .tc := ⟨.hbm, 599, rfl⟩
abbrev main_cst_143 : Ref sig .tc := ⟨.hbm, 600, rfl⟩
abbrev main_v384 : Ref sig .tc := ⟨.hbm, 601, rfl⟩
abbrev main_v385 : Ref sig .tc := ⟨.hbm, 602, rfl⟩
abbrev main_cst_144 : Ref sig .tc := ⟨.hbm, 603, rfl⟩
abbrev main_v386 : Ref sig .tc := ⟨.hbm, 604, rfl⟩
abbrev main_v387 : Ref sig .tc := ⟨.hbm, 605, rfl⟩
abbrev main_v388 : Ref sig .tc := ⟨.hbm, 606, rfl⟩
abbrev main_cst_145 : Ref sig .tc := ⟨.hbm, 607, rfl⟩
abbrev main_v389 : Ref sig .tc := ⟨.hbm, 608, rfl⟩
abbrev main_v390 : Ref sig .tc := ⟨.hbm, 609, rfl⟩
abbrev main_v391 : Ref sig .tc := ⟨.hbm, 610, rfl⟩
abbrev main_cst_146 : Ref sig .tc := ⟨.hbm, 611, rfl⟩
abbrev main_v392 : Ref sig .tc := ⟨.hbm, 612, rfl⟩
abbrev main_v393 : Ref sig .tc := ⟨.hbm, 613, rfl⟩
abbrev main_v394 : Ref sig .tc := ⟨.hbm, 614, rfl⟩
abbrev main_cst_147 : Ref sig .tc := ⟨.hbm, 615, rfl⟩
abbrev main_v395 : Ref sig .tc := ⟨.hbm, 616, rfl⟩
abbrev main_v396 : Ref sig .tc := ⟨.hbm, 617, rfl⟩
abbrev main_cst_148 : Ref sig .tc := ⟨.hbm, 618, rfl⟩
abbrev main_v397 : Ref sig .tc := ⟨.hbm, 619, rfl⟩
abbrev main_v398 : Ref sig .tc := ⟨.hbm, 620, rfl⟩
abbrev main_v399 : Ref sig .tc := ⟨.hbm, 621, rfl⟩
abbrev main_cst_149 : Ref sig .tc := ⟨.hbm, 622, rfl⟩
abbrev main_v400 : Ref sig .tc := ⟨.hbm, 623, rfl⟩
abbrev main_v401 : Ref sig .tc := ⟨.hbm, 624, rfl⟩
abbrev main_v402 : Ref sig .tc := ⟨.hbm, 625, rfl⟩
abbrev main_cst_150 : Ref sig .tc := ⟨.hbm, 626, rfl⟩
abbrev main_v403 : Ref sig .tc := ⟨.hbm, 627, rfl⟩
abbrev main_v404 : Ref sig .tc := ⟨.hbm, 628, rfl⟩
abbrev main_v405 : Ref sig .tc := ⟨.hbm, 629, rfl⟩
abbrev main_cst_151 : Ref sig .tc := ⟨.hbm, 630, rfl⟩
abbrev main_v406 : Ref sig .tc := ⟨.hbm, 631, rfl⟩
abbrev main_v407 : Ref sig .tc := ⟨.hbm, 632, rfl⟩
abbrev main_cst_152 : Ref sig .tc := ⟨.hbm, 633, rfl⟩
abbrev main_v408 : Ref sig .tc := ⟨.hbm, 634, rfl⟩
abbrev main_v409 : Ref sig .tc := ⟨.hbm, 635, rfl⟩
abbrev main_cst_153 : Ref sig .tc := ⟨.hbm, 636, rfl⟩
abbrev main_v410 : Ref sig .tc := ⟨.hbm, 637, rfl⟩
abbrev main_v411 : Ref sig .tc := ⟨.hbm, 638, rfl⟩
abbrev main_v412 : Ref sig .tc := ⟨.hbm, 639, rfl⟩
abbrev main_cst_154 : Ref sig .tc := ⟨.hbm, 640, rfl⟩
abbrev main_v413 : Ref sig .tc := ⟨.hbm, 641, rfl⟩
abbrev main_v414 : Ref sig .tc := ⟨.hbm, 642, rfl⟩
abbrev main_v415 : Ref sig .tc := ⟨.hbm, 643, rfl⟩
abbrev main_cst_155 : Ref sig .tc := ⟨.hbm, 644, rfl⟩
abbrev main_v416 : Ref sig .tc := ⟨.hbm, 645, rfl⟩
abbrev main_v417 : Ref sig .tc := ⟨.hbm, 646, rfl⟩
abbrev main_v418 : Ref sig .tc := ⟨.hbm, 647, rfl⟩
abbrev main_cst_156 : Ref sig .tc := ⟨.hbm, 648, rfl⟩
abbrev main_v419 : Ref sig .tc := ⟨.hbm, 649, rfl⟩
abbrev main_v420 : Ref sig .tc := ⟨.hbm, 650, rfl⟩
abbrev main_cst_157 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_cst_158 : Ref sig .tc := ⟨.hbm, 655, rfl⟩
abbrev main_v424 : Ref sig .tc := ⟨.hbm, 656, rfl⟩
abbrev main_v425 : Ref sig .tc := ⟨.hbm, 657, rfl⟩
abbrev main_v426 : Ref sig .tc := ⟨.hbm, 658, rfl⟩
abbrev main_cst_159 : Ref sig .tc := ⟨.hbm, 659, rfl⟩
abbrev main_v427 : Ref sig .tc := ⟨.hbm, 660, rfl⟩
abbrev main_v428 : Ref sig .tc := ⟨.hbm, 661, rfl⟩
abbrev main_v429 : Ref sig .tc := ⟨.hbm, 662, rfl⟩
abbrev main_cst_160 : Ref sig .tc := ⟨.hbm, 663, rfl⟩
abbrev main_v430 : Ref sig .tc := ⟨.hbm, 664, rfl⟩
abbrev main_v431 : Ref sig .tc := ⟨.hbm, 665, rfl⟩

abbrev nD : Nat := 1
abbrev τ : Topo := Topo.v7x

variable {F : FTy → Type} [FloatOps F]
-- ==== Kernel23.lean ====
abbrev S8x1x1024x704 : Shape := ⟨4, ![8, 1, 1024, 704]⟩
abbrev S4x1024x704 : Shape := ⟨3, ![4, 1024, 704]⟩
abbrev S8x1x256x704 : Shape := ⟨4, ![8, 1, 256, 704]⟩
abbrev S1x256x704 : Shape := ⟨3, ![1, 256, 704]⟩
abbrev S1x1x256x704 : Shape := ⟨4, ![1, 1, 256, 704]⟩
abbrev S256x704 : Shape := ⟨2, ![256, 704]⟩

abbrev nBuf : Space → Nat
  | .hbm => 5
  | .vmem => 10
  | .smem => 0
  | _ => 0

abbrev bufTy : (tb : Table) → Fin (tcTables nBuf tb) → BufTy
  | .hbm, ⟨0, _⟩ => ⟨S8x1x1024x704, .bf16⟩
  | .hbm, ⟨1, _⟩ => ⟨S8x1x1024x704, .bf16⟩
  | .hbm, ⟨2, _⟩ => ⟨S8x1x1024x704, .bf16⟩
  | .hbm, ⟨3, _⟩ => ⟨S8x1x1024x704, .bf16⟩
  | .hbm, ⟨4, _⟩ => ⟨S4x1024x704, .f32⟩
  | .local _ .vmem, ⟨0, _⟩ => ⟨S8x1x256x704, .bf16⟩
  | .local _ .vmem, ⟨1, _⟩ => ⟨S8x1x256x704, .bf16⟩
  | .local _ .vmem, ⟨2, _⟩ => ⟨S8x1x256x704, .bf16⟩
  | .local _ .vmem, ⟨3, _⟩ => ⟨S8x1x256x704, .bf16⟩
  | .local _ .vmem, ⟨4, _⟩ => ⟨S8x1x256x704, .bf16⟩
  | .local _ .vmem, ⟨5, _⟩ => ⟨S8x1x256x704, .bf16⟩
  | .local _ .vmem, ⟨6, _⟩ => ⟨S8x1x256x704, .bf16⟩
  | .local _ .vmem, ⟨7, _⟩ => ⟨S8x1x256x704, .bf16⟩
  | .local _ .vmem, ⟨8, _⟩ => ⟨S1x256x704, .f32⟩
  | .local _ .vmem, ⟨9, _⟩ => ⟨S1x256x704, .f32⟩
  | _, _ => ⟨S8x1x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel23Ideal.lean ====
abbrev S8x1x1024x704 : Shape := ⟨4, ![8, 1, 1024, 704]⟩
abbrev S4x1024x704 : Shape := ⟨3, ![4, 1024, 704]⟩
abbrev S8x1x256x704 : Shape := ⟨4, ![8, 1, 256, 704]⟩
abbrev S1x256x704 : Shape := ⟨3, ![1, 256, 704]⟩
abbrev S1x1x256x704 : Shape := ⟨4, ![1, 1, 256, 704]⟩
abbrev S256x704 : Shape := ⟨2, ![256, 704]⟩

abbrev nBuf : Space → Nat
  | .hbm => 5
  | .vmem => 10
  | .smem => 0
  | _ => 0

abbrev bufTy : (tb : Table) → Fin (tcTables nBuf tb) → BufTy
  | .hbm, ⟨0, _⟩ => ⟨S8x1x1024x704, .bf16⟩
  | .hbm, ⟨1, _⟩ => ⟨S8x1x1024x704, .bf16⟩
  | .hbm, ⟨2, _⟩ => ⟨S8x1x1024x704, .bf16⟩
  | .hbm, ⟨3, _⟩ => ⟨S8x1x1024x704, .bf16⟩
  | .hbm, ⟨4, _⟩ => ⟨S4x1024x704, .f32⟩
  | .local _ .vmem, ⟨0, _⟩ => ⟨S8x1x256x704, .bf16⟩
  | .local _ .vmem, ⟨1, _⟩ => ⟨S8x1x256x704, .bf16⟩
  | .local _ .vmem, ⟨2, _⟩ => ⟨S8x1x256x704, .bf16⟩
  | .local _ .vmem, ⟨3, _⟩ => ⟨S8x1x256x704, .bf16⟩
  | .local _ .vmem, ⟨4, _⟩ => ⟨S8x1x256x704, .bf16⟩
  | .local _ .vmem, ⟨5, _⟩ => ⟨S8x1x256x704, .bf16⟩
  | .local _ .vmem, ⟨6, _⟩ => ⟨S8x1x256x704, .bf16⟩
  | .local _ .vmem, ⟨7, _⟩ => ⟨S8x1x256x704, .bf16⟩
  | .local _ .vmem, ⟨8, _⟩ => ⟨S1x256x704, .f32⟩
  | .local _ .vmem, ⟨9, _⟩ => ⟨S1x256x704, .f32⟩
  | _, _ => ⟨S8x1x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference23Ideal.lean ====
abbrev S8x1x1024x704 : Shape := ⟨4, ![8, 1, 1024, 704]⟩
abbrev S_ : Shape := ⟨0, ![]⟩
abbrev S1x1024x704 : Shape := ⟨3, ![1, 1024, 704]⟩
abbrev S4x1024x704 : Shape := ⟨3, ![4, 1024, 704]⟩

abbrev nBuf : Space → Nat
  | .hbm => 17
  | .vmem => 0
  | .smem => 0
  | _ => 0

abbrev bufTy : (tb : Table) → Fin (tcTables nBuf tb) → BufTy
  | .hbm, ⟨0, _⟩ => ⟨S8x1x1024x704, .bf16⟩
  | .hbm, ⟨1, _⟩ => ⟨S8x1x1024x704, .bf16⟩
  | .hbm, ⟨2, _⟩ => ⟨S8x1x1024x704, .bf16⟩
  | .hbm, ⟨3, _⟩ => ⟨S8x1x1024x704, .bf16⟩
  | .hbm, ⟨4, _⟩ => ⟨S8x1x1024x704, .f32⟩
  | .hbm, ⟨5, _⟩ => ⟨S_, .f32⟩
  | .hbm, ⟨6, _⟩ => ⟨S1x1024x704, .f32⟩
  | .hbm, ⟨7, _⟩ => ⟨S8x1x1024x704, .f32⟩
  | .hbm, ⟨8, _⟩ => ⟨S_, .f32⟩
  | .hbm, ⟨9, _⟩ => ⟨S1x1024x704, .f32⟩
  | .hbm, ⟨10, _⟩ => ⟨S8x1x1024x704, .f32⟩
  | .hbm, ⟨11, _⟩ => ⟨S_, .f32⟩
  | .hbm, ⟨12, _⟩ => ⟨S1x1024x704, .f32⟩
  | .hbm, ⟨13, _⟩ => ⟨S8x1x1024x704, .f32⟩
  | .hbm, ⟨14, _⟩ => ⟨S_, .f32⟩
  | .hbm, ⟨15, _⟩ => ⟨S1x1024x704, .f32⟩
  | .hbm, ⟨16, _⟩ => ⟨S4x1024x704, .f32⟩
  | _, _ => ⟨S8x1x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel24.lean ====
abbrev S8x1x352x1024 : Shape := ⟨4, ![8, 1, 352, 1024]⟩
abbrev S4x352x1024 : Shape := ⟨3, ![4, 352, 1024]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x1x352x1024, .bf16⟩
  | .hbm, ⟨1, _⟩ => ⟨S8x1x352x1024, .bf16⟩
  | .hbm, ⟨2, _⟩ => ⟨S8x1x352x1024, .bf16⟩
  | .hbm, ⟨3, _⟩ => ⟨S8x1x352x1024, .bf16⟩
  | .hbm, ⟨4, _⟩ => ⟨S4x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S8x1x176x1024, .bf16⟩
  | .local _ .vmem, ⟨3, _⟩ => ⟨S8x1x176x1024, .bf16⟩
  | .local _ .vmem, ⟨4, _⟩ => ⟨S8x1x176x1024, .bf16⟩
  | .local _ .vmem, ⟨5, _⟩ => ⟨S8x1x176x1024, .bf16⟩
  | .local _ .vmem, ⟨6, _⟩ => ⟨S8x1x176x1024, .bf16⟩
  | .local _ .vmem, ⟨7, _⟩ => ⟨S8x1x176x1024, .bf16⟩
  | .local _ .vmem, ⟨8, _⟩ => ⟨S1x176x1024, .f32⟩
  | .local _ .vmem, ⟨9, _⟩ => ⟨S1x176x1024, .f32⟩
  | _, _ => ⟨S8x1x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel24Ideal.lean ====
abbrev S8x1x352x1024 : Shape := ⟨4, ![8, 1, 352, 1024]⟩
abbrev S4x352x1024 : Shape := ⟨3, ![4, 352, 1024]⟩
abbrev S8x1x176x1024 : Shape := ⟨4, ![8, 1, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x1x352x1024, .bf16⟩
  | .hbm, ⟨1, _⟩ => ⟨S8x1x352x1024, .bf16⟩
  | .hbm, ⟨2, _⟩ => ⟨S8x1x352x1024, .bf16⟩
  | .hbm, ⟨3, _⟩ => ⟨S8x1x352x1024, .bf16⟩
  | .hbm, ⟨4, _⟩ => ⟨S4x352x1024, .f32⟩
  | .local _ .vmem, ⟨0, _⟩ => ⟨S8x1x176x1024, .bf16⟩
  | .local _ .vmem, ⟨1, _⟩ => ⟨S8x1x176x1024, .bf16⟩
  | .local _ .vmem, ⟨2, _⟩ => ⟨S8x1x176x1024, .bf16⟩
  | .local _ .vmem, ⟨3, _⟩ => ⟨S8x1x176x1024, .bf16⟩
  | .local _ .vmem, ⟨4, _⟩ => ⟨S8x1x176x1024, .bf16⟩
  | .local _ .vmem, ⟨5, _⟩ => ⟨S8x1x176x1024, .bf16⟩
  | .local _ .vmem, ⟨6, _⟩ => ⟨S8x1x176x1024, .bf16⟩
  | .local _ .vmem, ⟨7, _⟩ => ⟨S8x1x176x1024, .bf16⟩
  | .local _ .vmem, ⟨8, _⟩ => ⟨S1x176x1024, .f32⟩
  | .local _ .vmem, ⟨9, _⟩ => ⟨S1x176x1024, .f32⟩
  | _, _ => ⟨S8x1x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference24Ideal.lean ====
abbrev S8x1x352x1024 : Shape := ⟨4, ![8, 1, 352, 1024]⟩
abbrev S_ : Shape := ⟨0, ![]⟩
abbrev S1x352x1024 : Shape := ⟨3, ![1, 352, 1024]⟩
abbrev S4x352x1024 : Shape := ⟨3, ![4, 352, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x1x352x1024, .bf16⟩
  | .hbm, ⟨1, _⟩ => ⟨S8x1x352x1024, .bf16⟩
  | .hbm, ⟨2, _⟩ => ⟨S8x1x352x1024, .bf16⟩
  | .hbm, ⟨3, _⟩ => ⟨S8x1x352x1024, .bf16⟩
  | .hbm, ⟨4, _⟩ => ⟨S8x1x352x1024, .f32⟩
  | .hbm, ⟨5, _⟩ => ⟨S_, .f32⟩
  | .hbm, ⟨6, _⟩ => ⟨S1x352x1024, .f32⟩
  | .hbm, ⟨7, _⟩ => ⟨S8x1x352x1024, .f32⟩
  | .hbm, ⟨8, _⟩ => ⟨S_, .f32⟩
  | .hbm, ⟨9, _⟩ => ⟨S1x352x1024, .f32⟩
  | .hbm, ⟨10, _⟩ => ⟨S8x1x352x1024, .f32⟩
  | .hbm, ⟨11, _⟩ => ⟨S_, .f32⟩
  | .hbm, ⟨12, _⟩ => ⟨S1x352x1024, .f32⟩
  | .hbm, ⟨13, _⟩ => ⟨S8x1x352x1024, .f32⟩
  | .hbm, ⟨14, _⟩ => ⟨S_, .f32⟩
  | .hbm, ⟨15, _⟩ => ⟨S1x352x1024, .f32⟩
  | .hbm, ⟨16, _⟩ => ⟨S4x352x1024, .f32⟩
  | _, _ => ⟨S8x1x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel25.lean ====
abbrev S8x1x128x2048 : Shape := ⟨4, ![8, 1, 128, 2048]⟩
abbrev S4x128x2048 : Shape := ⟨3, ![4, 128, 2048]⟩
abbrev S1x128x2048 : Shape := ⟨3, ![1, 128, 2048]⟩
abbrev S1x1x128x2048 : Shape := ⟨4, ![1, 1, 128, 2048]⟩
abbrev S128x2048 : Shape := ⟨2, ![128, 2048]⟩
abbrev S4x128x1280 : Shape := ⟨3, ![4, 128, 1280]⟩
abbrev S4x128x384 : Shape := ⟨3, ![4, 128, 384]⟩
abbrev S4x128x12 : Shape := ⟨3, ![4, 128, 12]⟩
abbrev S4x128x256 : Shape := ⟨3, ![4, 128, 256]⟩
abbrev S4x128x1932 : Shape := ⟨3, ![4, 128, 1932]⟩

abbrev nBuf : Space → Nat
  | .hbm => 10
  | .vmem => 10
  | .smem => 0
  | _ => 0

abbrev bufTy : (tb : Table) → Fin (tcTables nBuf tb) → BufTy
  | .hbm, ⟨0, _⟩ => ⟨S8x1x128x2048, .bf16⟩
  | .hbm, ⟨1, _⟩ => ⟨S8x1x128x2048, .bf16⟩
  | .hbm, ⟨2, _⟩ => ⟨S8x1x128x2048, .bf16⟩
  | .hbm, ⟨3, _⟩ => ⟨S8x1x128x2048, .bf16⟩
  | .hbm, ⟨4, _⟩ => ⟨S4x128x2048, .f32⟩
  | .hbm, ⟨5, _⟩ => ⟨S4x128x1280, .f32⟩
  | .hbm, ⟨6, _⟩ => ⟨S4x128x384, .f32⟩
  | .hbm, ⟨7, _⟩ => ⟨S4x128x12, .f32⟩
  | .hbm, ⟨8, _⟩ => ⟨S4x128x256, .f32⟩
  | .hbm, ⟨9, _⟩ => ⟨S4x128x1932, .f32⟩
  | .local _ .vmem, ⟨0, _⟩ => ⟨S8x1x128x2048, .bf16⟩
  | .local _ .vmem, ⟨1, _⟩ => ⟨S8x1x128x2048, .bf16⟩
  | .local _ .vmem, ⟨2, _⟩ => ⟨S8x1x128x2048, .bf16⟩
  | .local _ .vmem, ⟨3, _⟩ => ⟨S8x1x128x2048, .bf16⟩
  | .local _ .vmem, ⟨4, _⟩ => ⟨S8x1x128x2048, .bf16⟩
  | .local _ .vmem, ⟨5, _⟩ => ⟨S8x1x128x2048, .bf16⟩
  | .local _ .vmem, ⟨6, _⟩ => ⟨S8x1x128x2048, .bf16⟩
  | .local _ .vmem, ⟨7, _⟩ => ⟨S8x1x128x2048, .bf16⟩
  | .local _ .vmem, ⟨8, _⟩ => ⟨S1x128x2048, .f32⟩
  | .local _ .vmem, ⟨9, _⟩ => ⟨S1x128x2048, .f32⟩
  | _, _ => ⟨S8x1x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference25Ideal.lean ====
abbrev S8x1x128x2048 : Shape := ⟨4, ![8, 1, 128, 2048]⟩
abbrev S_ : Shape := ⟨0, ![]⟩
abbrev S1x128x2048 : Shape := ⟨3, ![1, 128, 2048]⟩
abbrev S4x128x2048 : Shape := ⟨3, ![4, 128, 2048]⟩
abbrev S4x128x1280 : Shape := ⟨3, ![4, 128, 1280]⟩
abbrev S4x128x396 : Shape := ⟨3, ![4, 128, 396]⟩
abbrev S4x128x256 : Shape := ⟨3, ![4, 128, 256]⟩
abbrev S4x128x1932 : Shape := ⟨3, ![4, 128, 1932]⟩

abbrev nBuf : Space → Nat
  | .hbm => 21
  | .vmem => 0
  | .smem => 0
  | _ => 0

abbrev bufTy : (tb : Table) → Fin (tcTables nBuf tb) → BufTy
  | .hbm, ⟨0, _⟩ => ⟨S8x1x128x2048, .bf16⟩
  | .hbm, ⟨1, _⟩ => ⟨S8x1x128x2048, .bf16⟩
  | .hbm, ⟨2, _⟩ => ⟨S8x1x128x2048, .bf16⟩
  | .hbm, ⟨3, _⟩ => ⟨S8x1x128x2048, .bf16⟩
  | .hbm, ⟨4, _⟩ => ⟨S8x1x128x2048, .f32⟩
  | .hbm, ⟨5, _⟩ => ⟨S_, .f32⟩
  | .hbm, ⟨6, _⟩ => ⟨S1x128x2048, .f32⟩
  | .hbm, ⟨7, _⟩ => ⟨S8x1x128x2048, .f32⟩
  | .hbm, ⟨8, _⟩ => ⟨S_, .f32⟩
  | .hbm, ⟨9, _⟩ => ⟨S1x128x2048, .f32⟩
  | .hbm, ⟨10, _⟩ => ⟨S8x1x128x2048, .f32⟩
  | .hbm, ⟨11, _⟩ => ⟨S_, .f32⟩
  | .hbm, ⟨12, _⟩ => ⟨S1x128x2048, .f32⟩
  | .hbm, ⟨13, _⟩ => ⟨S8x1x128x2048, .f32⟩
  | .hbm, ⟨14, _⟩ => ⟨S_, .f32⟩
  | .hbm, ⟨15, _⟩ => ⟨S1x128x2048, .f32⟩
  | .hbm, ⟨16, _⟩ => ⟨S4x128x2048, .f32⟩
  | .hbm, ⟨17, _⟩ => ⟨S4x128x1280, .f32⟩
  | .hbm, ⟨18, _⟩ => ⟨S4x128x396, .f32⟩
  | .hbm, ⟨19, _⟩ => ⟨S4x128x256, .f32⟩
  | .hbm, ⟨20, _⟩ => ⟨S4x128x1932, .f32⟩
  | _, _ => ⟨S8x1x128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel26.lean ====
abbrev S8x1x128x1024 : Shape := ⟨4, ![8, 1, 128, 1024]⟩
abbrev S4x128x1024 : Shape := ⟨3, ![4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x1x128x1024, .bf16⟩
  | .hbm, ⟨1, _⟩ => ⟨S8x1x128x1024, .bf16⟩
  | .hbm, ⟨2, _⟩ => ⟨S8x1x128x1024, .bf16⟩
  | .hbm, ⟨3, _⟩ => ⟨S8x1x128x1024, .bf16⟩
  | .hbm, ⟨4, _⟩ => ⟨S4x128x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S8x1x128x1024, .bf16⟩
  | .local _ .vmem, ⟨3, _⟩ => ⟨S8x1x128x1024, .bf16⟩
  | .local _ .vmem, ⟨4, _⟩ => ⟨S8x1x128x1024, .bf16⟩
  | .local _ .vmem, ⟨5, _⟩ => ⟨S8x1x128x1024, .bf16⟩
  | .local _ .vmem, ⟨6, _⟩ => ⟨S8x1x128x1024, .bf16⟩
  | .local _ .vmem, ⟨7, _⟩ => ⟨S8x1x128x1024, .bf16⟩
  | .local _ .vmem, ⟨8, _⟩ => ⟨S1x128x1024, .f32⟩
  | .local _ .vmem, ⟨9, _⟩ => ⟨S1x128x1024, .f32⟩
  | _, _ => ⟨S8x1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel26Ideal.lean ====
abbrev S8x1x128x1024 : Shape := ⟨4, ![8, 1, 128, 1024]⟩
abbrev S4x128x1024 : Shape := ⟨3, ![4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x1x128x1024, .bf16⟩
  | .hbm, ⟨1, _⟩ => ⟨S8x1x128x1024, .bf16⟩
  | .hbm, ⟨2, _⟩ => ⟨S8x1x128x1024, .bf16⟩
  | .hbm, ⟨3, _⟩ => ⟨S8x1x128x1024, .bf16⟩
  | .hbm, ⟨4, _⟩ => ⟨S4x128x1024, .f32⟩
  | .local _ .vmem, ⟨0, _⟩ => ⟨S8x1x128x1024, .bf16⟩
  | .local _ .vmem, ⟨1, _⟩ => ⟨S8x1x128x1024, .bf16⟩
  | .local _ .vmem, ⟨2, _⟩ => ⟨S8x1x128x1024, .bf16⟩
  | .local _ .vmem, ⟨3, _⟩ => ⟨S8x1x128x1024, .bf16⟩
  | .local _ .vmem, ⟨4, _⟩ => ⟨S8x1x128x1024, .bf16⟩
  | .local _ .vmem, ⟨5, _⟩ => ⟨S8x1x128x1024, .bf16⟩
  | .local _ .vmem, ⟨6, _⟩ => ⟨S8x1x128x1024, .bf16⟩
  | .local _ .vmem, ⟨7, _⟩ => ⟨S8x1x128x1024, .bf16⟩
  | .local _ .vmem, ⟨8, _⟩ => ⟨S1x128x1024, .f32⟩
  | .local _ .vmem, ⟨9, _⟩ => ⟨S1x128x1024, .f32⟩
  | _, _ => ⟨S8x1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference26Ideal.lean ====
abbrev S8x1x128x1024 : Shape := ⟨4, ![8, 1, 128, 1024]⟩
abbrev S_ : Shape := ⟨0, ![]⟩
abbrev S1x128x1024 : Shape := ⟨3, ![1, 128, 1024]⟩
abbrev S4x128x1024 : Shape := ⟨3, ![4, 128, 1024]⟩

abbrev nBuf : Space → Nat
  | .hbm => 17
  | .vmem => 0
  | .smem => 0
  | _ => 0

abbrev bufTy : (tb : Table) → Fin (tcTables nBuf tb) → BufTy
  | .hbm, ⟨0, _⟩ => ⟨S8x1x128x1024, .bf16⟩
  | .hbm, ⟨1, _⟩ => ⟨S8x1x128x1024, .bf16⟩
  | .hbm, ⟨2, _⟩ => ⟨S8x1x128x1024, .bf16⟩
  | .hbm, ⟨3, _⟩ => ⟨S8x1x128x1024, .bf16⟩
  | .hbm, ⟨4, _⟩ => ⟨S8x1x128x1024, .f32⟩
  | .hbm, ⟨5, _⟩ => ⟨S_, .f32⟩
  | .hbm, ⟨6, _⟩ => ⟨S1x128x1024, .f32⟩
  | .hbm, ⟨7, _⟩ => ⟨S8x1x128x1024, .f32⟩
  | .hbm, ⟨8, _⟩ => ⟨S_, .f32⟩
  | .hbm, ⟨9, _⟩ => ⟨S1x128x1024, .f32⟩
  | .hbm, ⟨10, _⟩ => ⟨S8x1x128x1024, .f32⟩
  | .hbm, ⟨11, _⟩ => ⟨S_, .f32⟩
  | .hbm, ⟨12, _⟩ => ⟨S1x128x1024, .f32⟩
  | .hbm, ⟨13, _⟩ => ⟨S8x1x128x1024, .f32⟩
  | .hbm, ⟨14, _⟩ => ⟨S_, .f32⟩
  | .hbm, ⟨15, _⟩ => ⟨S1x128x1024, .f32⟩
  | .hbm, ⟨16, _⟩ => ⟨S4x128x1024, .f32⟩
  | _, _ => ⟨S8x1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel27.lean ====
abbrev S8x1x256x64 : Shape := ⟨4, ![8, 1, 256, 64]⟩
abbrev S4x256x64 : Shape := ⟨3, ![4, 256, 64]⟩
abbrev S1x256x64 : Shape := ⟨3, ![1, 256, 64]⟩
abbrev S1x1x256x64 : Shape := ⟨4, ![1, 1, 256, 64]⟩
abbrev S256x64 : Shape := ⟨2, ![256, 64]⟩

abbrev nBuf : Space → Nat
  | .hbm => 5
  | .vmem => 10
  | .smem => 0
  | _ => 0

abbrev bufTy : (tb : Table) → Fin (tcTables nBuf tb) → BufTy
  | .hbm, ⟨0, _⟩ => ⟨S8x1x256x64, .bf16⟩
  | .hbm, ⟨1, _⟩ => ⟨S8x1x256x64, .bf16⟩
  | .hbm, ⟨2, _⟩ => ⟨S8x1x256x64, .bf16⟩
  | .hbm, ⟨3, _⟩ => ⟨S8x1x256x64, .bf16⟩
  | .hbm, ⟨4, _⟩ => ⟨S4x256x64, .f32⟩
  | .local _ .vmem, ⟨0, _⟩ => ⟨S8x1x256x64, .bf16⟩
  | .local _ .vmem, ⟨1, _⟩ => ⟨S8x1x256x64, .bf16⟩
  | .local _ .vmem, ⟨2, _⟩ => ⟨S8x1x256x64, .bf16⟩
  | .local _ .vmem, ⟨3, _⟩ => ⟨S8x1x256x64, .bf16⟩
  | .local _ .vmem, ⟨4, _⟩ => ⟨S8x1x256x64, .bf16⟩
  | .local _ .vmem, ⟨5, _⟩ => ⟨S8x1x256x64, .bf16⟩
  | .local _ .vmem, ⟨6, _⟩ => ⟨S8x1x256x64, .bf16⟩
  | .local _ .vmem, ⟨7, _⟩ => ⟨S8x1x256x64, .bf16⟩
  | .local _ .vmem, ⟨8, _⟩ => ⟨S1x256x64, .f32⟩
  | .local _ .vmem, ⟨9, _⟩ => ⟨S1x256x64, .f32⟩
  | _, _ => ⟨S8x1x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel27Ideal.lean ====
abbrev S8x1x256x64 : Shape := ⟨4, ![8, 1, 256, 64]⟩
abbrev S4x256x64 : Shape := ⟨3, ![4, 256, 64]⟩
abbrev S1x256x64 : Shape := ⟨3, ![1, 256, 64]⟩
abbrev S1x1x256x64 : Shape := ⟨4, ![1, 1, 256, 64]⟩
abbrev S256x64 : Shape := ⟨2, ![256, 64]⟩

abbrev nBuf : Space → Nat
  | .hbm => 5
  | .vmem => 10
  | .smem => 0
  | _ => 0

abbrev bufTy : (tb : Table) → Fin (tcTables nBuf tb) → BufTy
  | .hbm, ⟨0, _⟩ => ⟨S8x1x256x64, .bf16⟩
  | .hbm, ⟨1, _⟩ => ⟨S8x1x256x64, .bf16⟩
  | .hbm, ⟨2, _⟩ => ⟨S8x1x256x64, .bf16⟩
  | .hbm, ⟨3, _⟩ => ⟨S8x1x256x64, .bf16⟩
  | .hbm, ⟨4, _⟩ => ⟨S4x256x64, .f32⟩
  | .local _ .vmem, ⟨0, _⟩ => ⟨S8x1x256x64, .bf16⟩
  | .local _ .vmem, ⟨1, _⟩ => ⟨S8x1x256x64, .bf16⟩
  | .local _ .vmem, ⟨2, _⟩ => ⟨S8x1x256x64, .bf16⟩
  | .local _ .vmem, ⟨3, _⟩ => ⟨S8x1x256x64, .bf16⟩
  | .local _ .vmem, ⟨4, _⟩ => ⟨S8x1x256x64, .bf16⟩
  | .local _ .vmem, ⟨5, _⟩ => ⟨S8x1x256x64, .bf16⟩
  | .local _ .vmem, ⟨6, _⟩ => ⟨S8x1x256x64, .bf16⟩
  | .local _ .vmem, ⟨7, _⟩ => ⟨S8x1x256x64, .bf16⟩
  | .local _ .vmem, ⟨8, _⟩ => ⟨S1x256x64, .f32⟩
  | .local _ .vmem, ⟨9, _⟩ => ⟨S1x256x64, .f32⟩
  | _, _ => ⟨S8x1x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference27Ideal.lean ====
abbrev S8x1x256x64 : Shape := ⟨4, ![8, 1, 256, 64]⟩
abbrev S_ : Shape := ⟨0, ![]⟩
abbrev S1x256x64 : Shape := ⟨3, ![1, 256, 64]⟩
abbrev S4x256x64 : Shape := ⟨3, ![4, 256, 64]⟩

abbrev nBuf : Space → Nat
  | .hbm => 17
  | .vmem => 0
  | .smem => 0
  | _ => 0

abbrev bufTy : (tb : Table) → Fin (tcTables nBuf tb) → BufTy
  | .hbm, ⟨0, _⟩ => ⟨S8x1x256x64, .bf16⟩
  | .hbm, ⟨1, _⟩ => ⟨S8x1x256x64, .bf16⟩
  | .hbm, ⟨2, _⟩ => ⟨S8x1x256x64, .bf16⟩
  | .hbm, ⟨3, _⟩ => ⟨S8x1x256x64, .bf16⟩
  | .hbm, ⟨4, _⟩ => ⟨S8x1x256x64, .f32⟩
  | .hbm, ⟨5, _⟩ => ⟨S_, .f32⟩
  | .hbm, ⟨6, _⟩ => ⟨S1x256x64, .f32⟩
  | .hbm, ⟨7, _⟩ => ⟨S8x1x256x64, .f32⟩
  | .hbm, ⟨8, _⟩ => ⟨S_, .f32⟩
  | .hbm, ⟨9, _⟩ => ⟨S1x256x64, .f32⟩
  | .hbm, ⟨10, _⟩ => ⟨S8x1x256x64, .f32⟩
  | .hbm, ⟨11, _⟩ => ⟨S_, .f32⟩
  | .hbm, ⟨12, _⟩ => ⟨S1x256x64, .f32⟩
  | .hbm, ⟨13, _⟩ => ⟨S8x1x256x64, .f32⟩
  | .hbm, ⟨14, _⟩ => ⟨S_, .f32⟩
  | .hbm, ⟨15, _⟩ => ⟨S1x256x64, .f32⟩
  | .hbm, ⟨16, _⟩ => ⟨S4x256x64, .f32⟩
  | _, _ => ⟨S8x1x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel28.lean ====
abbrev S8x1x32x256 : Shape := ⟨4, ![8, 1, 32, 256]⟩
abbrev S4x32x256 : Shape := ⟨3, ![4, 32, 256]⟩
abbrev S1x32x256 : Shape := ⟨3, ![1, 32, 256]⟩
abbrev S1x1x32x256 : Shape := ⟨4, ![1, 1, 32, 256]⟩
abbrev S32x256 : Shape := ⟨2, ![32, 256]⟩

abbrev nBuf : Space → Nat
  | .hbm => 5
  | .vmem => 10
  | .smem => 0
  | _ => 0

abbrev bufTy : (tb : Table) → Fin (tcTables nBuf tb) → BufTy
  | .hbm, ⟨0, _⟩ => ⟨S8x1x32x256, .bf16⟩
  | .hbm, ⟨1, _⟩ => ⟨S8x1x32x256, .bf16⟩
  | .hbm, ⟨2, _⟩ => ⟨S8x1x32x256, .bf16⟩
  | .hbm, ⟨3, _⟩ => ⟨S8x1x32x256, .bf16⟩
  | .hbm, ⟨4, _⟩ => ⟨S4x32x256, .f32⟩
  | .local _ .vmem, ⟨0, _⟩ => ⟨S8x1x32x256, .bf16⟩
  | .local _ .vmem, ⟨1, _⟩ => ⟨S8x1x32x256, .bf16⟩
  | .local _ .vmem, ⟨2, _⟩ => ⟨S8x1x32x256, .bf16⟩
  | .local _ .vmem, ⟨3, _⟩ => ⟨S8x1x32x256, .bf16⟩
  | .local _ .vmem, ⟨4, _⟩ => ⟨S8x1x32x256, .bf16⟩
  | .local _ .vmem, ⟨5, _⟩ => ⟨S8x1x32x256, .bf16⟩
  | .local _ .vmem, ⟨6, _⟩ => ⟨S8x1x32x256, .bf16⟩
  | .local _ .vmem, ⟨7, _⟩ => ⟨S8x1x32x256, .bf16⟩
  | .local _ .vmem, ⟨8, _⟩ => ⟨S1x32x256, .f32⟩
  | .local _ .vmem, ⟨9, _⟩ => ⟨S1x32x256, .f32⟩
  | _, _ => ⟨S8x1x32x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S8x1x32x256 : Shape := ⟨4, ![8, 1, 32, 256]⟩
abbrev S_ : Shape := ⟨0, ![]⟩
abbrev S1x32x256 : Shape := ⟨3, ![1, 32, 256]⟩
abbrev S4x32x256 : Shape := ⟨3, ![4, 32, 256]⟩

abbrev nBuf : Space → Nat
  | .hbm => 17
  | .vmem => 0
  | .smem => 0
  | _ => 0

abbrev bufTy : (tb : Table) → Fin (tcTables nBuf tb) → BufTy
  | .hbm, ⟨0, _⟩ => ⟨S8x1x32x256, .bf16⟩
  | .hbm, ⟨1, _⟩ => ⟨S8x1x32x256, .bf16⟩
  | .hbm, ⟨2, _⟩ => ⟨S8x1x32x256, .bf16⟩
  | .hbm, ⟨3, _⟩ => ⟨S8x1x32x256, .bf16⟩
  | .hbm, ⟨4, _⟩ => ⟨S8x1x32x256, .f32⟩
  | .hbm, ⟨5, _⟩ => ⟨S_, .f32⟩
  | .hbm, ⟨6, _⟩ => ⟨S1x32x256, .f32⟩
  | .hbm, ⟨7, _⟩ => ⟨S8x1x32x256, .f32⟩
  | .hbm, ⟨8, _⟩ => ⟨S_, .f32⟩
  | .hbm, ⟨9, _⟩ => ⟨S1x32x256, .f32⟩
  | .hbm, ⟨10, _⟩ => ⟨S8x1x32x256, .f32⟩
  | .hbm, ⟨11, _⟩ => ⟨S_, .f32⟩
  | .hbm, ⟨12, _⟩ => ⟨S1x32x256, .f32⟩
  | .hbm, ⟨13, _⟩ => ⟨S8x1x32x256, .f32⟩
  | .hbm, ⟨14, _⟩ => ⟨S_, .f32⟩
  | .hbm, ⟨15, _⟩ => ⟨S1x32x256, .f32⟩
  | .hbm, ⟨16, _⟩ => ⟨S4x32x256, .f32⟩
  | _, _ => ⟨S8x1x32x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== Kernel29.lean ====
abbrev S8x1x1024x128 : Shape := ⟨4, ![8, 1, 1024, 128]⟩
abbrev S_ : Shape := ⟨0, ![]⟩
abbrev S4x1024x128 : Shape := ⟨3, ![4, 1024, 128]⟩
abbrev S8x1x256x128 : Shape := ⟨4, ![8, 1, 256, 128]⟩
abbrev S1x256x128 : Shape := ⟨3, ![1, 256, 128]⟩
abbrev S1x1x256x128 : Shape := ⟨4, ![1, 1, 256, 128]⟩
abbrev S256x128 : Shape := ⟨2, ![256, 128]⟩
abbrev S1x1024x128 : Shape := ⟨3, ![1, 1024, 128]⟩
abbrev S1024x128 : Shape := ⟨2, ![1024, 128]⟩
abbrev S131072 : Shape := ⟨1, ![131072]⟩
abbrev S1024 : Shape := ⟨1, ![1024]⟩
abbrev S1x1024 : Shape := ⟨2, ![1, 1024]⟩
abbrev S256 : Shape := ⟨1, ![256]⟩
abbrev S1x256 : Shape := ⟨2, ![1, 256]⟩
abbrev S65536 : Shape := ⟨1, ![65536]⟩
abbrev S4x128x128 : Shape := ⟨3, ![4, 128, 128]⟩
abbrev S512 : Shape := ⟨1, ![512]⟩
abbrev S4x128 : Shape := ⟨2, ![4, 128]⟩
abbrev S7936 : Shape := ⟨1, ![7936]⟩
abbrev S31x256 : Shape := ⟨2, ![31, 256]⟩
abbrev S2048 : Shape := ⟨1, ![2048]⟩
abbrev S1x2048 : Shape := ⟨2, ![1, 2048]⟩
abbrev S4096 : Shape := ⟨1, ![4096]⟩
abbrev S64x64 : Shape := ⟨2, ![64, 64]⟩
abbrev S16384 : Shape := ⟨1, ![16384]⟩
abbrev S4x64x64 : Shape := ⟨3, ![4, 64, 64]⟩
abbrev S1x1x1024 : Shape := ⟨3, ![1, 1, 1024]⟩
abbrev S4x1x1024 : Shape := ⟨3, ![4, 1, 1024]⟩
abbrev S4x1024 : Shape := ⟨2, ![4, 1024]⟩
abbrev S1x1x256 : Shape := ⟨3, ![1, 1, 256]⟩
abbrev S4x1x256 : Shape := ⟨3, ![4, 1, 256]⟩
abbrev S4x256 : Shape := ⟨2, ![4, 256]⟩
abbrev S1x4x128x128 : Shape := ⟨4, ![1, 4, 128, 128]⟩
abbrev S4x4x128x128 : Shape := ⟨4, ![4, 4, 128, 128]⟩
abbrev S1x4x128 : Shape := ⟨3, ![1, 4, 128]⟩
abbrev S4x4x128 : Shape := ⟨3, ![4, 4, 128]⟩
abbrev S1x31x256 : Shape := ⟨3, ![1, 31, 256]⟩
abbrev S4x31x256 : Shape := ⟨3, ![4, 31, 256]⟩
abbrev S1x1x2048 : Shape := ⟨3, ![1, 1, 2048]⟩
abbrev S4x1x2048 : Shape := ⟨3, ![4, 1, 2048]⟩
abbrev S4x32x64 : Shape := ⟨3, ![4, 32, 64]⟩
abbrev S1x64x64 : Shape := ⟨3, ![1, 64, 64]⟩
abbrev S1x4x64x64 : Shape := ⟨4, ![1, 4, 64, 64]⟩
abbrev S4x4x64x64 : Shape := ⟨4, ![4, 4, 64, 64]⟩
abbrev S4x31x32 : Shape := ⟨3, ![4, 31, 32]⟩

abbrev nBuf : Space → Nat
  | .hbm => 274
  | .vmem => 10
  | .smem => 0
  | _ => 0

abbrev hbmTy0_0 (i : Nat) : BufTy := match i % 128 with
  | 0 => ⟨S8x1x1024x128, .f32⟩
  | 1 => ⟨S8x1x1024x128, .f32⟩
  | 2 => ⟨S8x1x1024x128, .f32⟩
  | 3 => ⟨S8x1x1024x128, .f32⟩
  | 4 => ⟨S_, .i32⟩
  | 5 => ⟨S4x1024x128, .f32⟩
  | 6 => ⟨S1x1024x128, .f32⟩
  | 7 => ⟨S1024x128, .f32⟩
  | 8 => ⟨S131072, .f32⟩
  | 9 => ⟨S1024, .f32⟩
  | 10 => ⟨S1x1024, .f32⟩
  | 11 => ⟨S1024, .f32⟩
  | 12 => ⟨S1x1024, .f32⟩
  | 13 => ⟨S1024, .f32⟩
  | 14 => ⟨S1x1024, .f32⟩
  | 15 => ⟨S1024, .f32⟩
  | 16 => ⟨S1x1024, .f32⟩
  | 17 => ⟨S256, .f32⟩
  | 18 => ⟨S1x256, .f32⟩
  | 19 => ⟨S65536, .f32⟩
  | 20 => ⟨S4x128x128, .f32⟩
  | 21 => ⟨S512, .f32⟩
  | 22 => ⟨S4x128, .f32⟩
  | 23 => ⟨S7936, .f32⟩
  | 24 => ⟨S31x256, .f32⟩
  | 25 => ⟨S256, .f32⟩
  | 26 => ⟨S1x256, .f32⟩
  | 27 => ⟨S256, .f32⟩
  | 28 => ⟨S1x256, .f32⟩
  | 29 => ⟨S256, .f32⟩
  | 30 => ⟨S1x256, .f32⟩
  | 31 => ⟨S256, .f32⟩
  | 32 => ⟨S1x256, .f32⟩
  | 33 => ⟨S2048, .f32⟩
  | 34 => ⟨S1x2048, .f32⟩
  | 35 => ⟨S2048, .f32⟩
  | 36 => ⟨S1x2048, .f32⟩
  | 37 => ⟨S4096, .f32⟩
  | 38 => ⟨S64x64, .f32⟩
  | 39 => ⟨S4096, .f32⟩
  | 40 => ⟨S64x64, .f32⟩
  | 41 => ⟨S16384, .f32⟩
  | 42 => ⟨S4x64x64, .f32⟩
  | 43 => ⟨S256, .f32⟩
  | 44 => ⟨S1x256, .f32⟩
  | 45 => ⟨S1x1024x128, .f32⟩
  | 46 => ⟨S1024x128, .f32⟩
  | 47 => ⟨S131072, .f32⟩
  | 48 => ⟨S1024, .f32⟩
  | 49 => ⟨S1x1024, .f32⟩
  | 50 => ⟨S1024, .f32⟩
  | 51 => ⟨S1x1024, .f32⟩
  | 52 => ⟨S1024, .f32⟩
  | 53 => ⟨S1x1024, .f32⟩
  | 54 => ⟨S1024, .f32⟩
  | 55 => ⟨S1x1024, .f32⟩
  | 56 => ⟨S256, .f32⟩
  | 57 => ⟨S1x256, .f32⟩
  | 58 => ⟨S65536, .f32⟩
  | 59 => ⟨S4x128x128, .f32⟩
  | 60 => ⟨S512, .f32⟩
  | 61 => ⟨S4x128, .f32⟩
  | 62 => ⟨S7936, .f32⟩
  | 63 => ⟨S31x256, .f32⟩
  | 64 => ⟨S256, .f32⟩
  | 65 => ⟨S1x256, .f32⟩
  | 66 => ⟨S256, .f32⟩
  | 67 => ⟨S1x256, .f32⟩
  | 68 => ⟨S256, .f32⟩
  | 69 => ⟨S1x256, .f32⟩
  | 70 => ⟨S256, .f32⟩
  | 71 => ⟨S1x256, .f32⟩
  | 72 => ⟨S2048, .f32⟩
  | 73 => ⟨S1x2048, .f32⟩
  | 74 => ⟨S2048, .f32⟩
  | 75 => ⟨S1x2048, .f32⟩
  | 76 => ⟨S4096, .f32⟩
  | 77 => ⟨S64x64, .f32⟩
  | 78 => ⟨S4096, .f32⟩
  | 79 => ⟨S64x64, .f32⟩
  | 80 => ⟨S16384, .f32⟩
  | 81 => ⟨S4x64x64, .f32⟩
  | 82 => ⟨S256, .f32⟩
  | 83 => ⟨S1x256, .f32⟩
  | 84 => ⟨S1x1024x128, .f32⟩
  | 85 => ⟨S1024x128, .f32⟩
  | 86 => ⟨S131072, .f32⟩
  | 87 => ⟨S1024, .f32⟩
  | 88 => ⟨S1x1024, .f32⟩
  | 89 => ⟨S1024, .f32⟩
  | 90 => ⟨S1x1024, .f32⟩
  | 91 => ⟨S1024, .f32⟩
  | 92 => ⟨S1x1024, .f32⟩
  | 93 => ⟨S1024, .f32⟩
  | 94 => ⟨S1x1024, .f32⟩
  | 95 => ⟨S256, .f32⟩
  | 96 => ⟨S1x256, .f32⟩
  | 97 => ⟨S65536, .f32⟩
  | 98 => ⟨S4x128x128, .f32⟩
  | 99 => ⟨S512, .f32⟩
  | 100 => ⟨S4x128, .f32⟩
  | 101 => ⟨S7936, .f32⟩
  | 102 => ⟨S31x256, .f32⟩
  | 103 => ⟨S256, .f32⟩
  | 104 => ⟨S1x256, .f32⟩
  | 105 => ⟨S256, .f32⟩
  | 106 => ⟨S1x256, .f32⟩
  | 107 => ⟨S256, .f32⟩
  | 108 => ⟨S1x256, .f32⟩
  | 109 => ⟨S256, .f32⟩
  | 110 => ⟨S1x256, .f32⟩
  | 111 => ⟨S2048, .f32⟩
  | 112 => ⟨S1x2048, .f32⟩
  | 113 => ⟨S2048, .f32⟩
  | 114 => ⟨S1x2048, .f32⟩
  | 115 => ⟨S4096, .f32⟩
  | 116 => ⟨S64x64, .f32⟩
  | 117 => ⟨S4096, .f32⟩
  | 118 => ⟨S64x64, .f32⟩
  | 119 => ⟨S16384, .f32⟩
  | 120 => ⟨S4x64x64, .f32⟩
  | 121 => ⟨S256, .f32⟩
  | 122 => ⟨S1x256, .f32⟩
  | 123 => ⟨S1x1024x128, .f32⟩
  | 124 => ⟨S1024x128, .f32⟩
  | 125 => ⟨S131072, .f32⟩
  | 126 => ⟨S1024, .f32⟩
  | 127 => ⟨S1x1024, .f32⟩
  | _ => ⟨S8x1x1024x128, .f32⟩

abbrev hbmTy0_1 (i : Nat) : BufTy := match i % 128 with
  | 0 => ⟨S1024, .f32⟩
  | 1 => ⟨S1x1024, .f32⟩
  | 2 => ⟨S1024, .f32⟩
  | 3 => ⟨S1x1024, .f32⟩
  | 4 => ⟨S1024, .f32⟩
  | 5 => ⟨S1x1024, .f32⟩
  | 6 => ⟨S256, .f32⟩
  | 7 => ⟨S1x256, .f32⟩
  | 8 => ⟨S65536, .f32⟩
  | 9 => ⟨S4x128x128, .f32⟩
  | 10 => ⟨S512, .f32⟩
  | 11 => ⟨S4x128, .f32⟩
  | 12 => ⟨S7936, .f32⟩
  | 13 => ⟨S31x256, .f32⟩
  | 14 => ⟨S256, .f32⟩
  | 15 => ⟨S1x256, .f32⟩
  | 16 => ⟨S256, .f32⟩
  | 17 => ⟨S1x256, .f32⟩
  | 18 => ⟨S256, .f32⟩
  | 19 => ⟨S1x256, .f32⟩
  | 20 => ⟨S256, .f32⟩
  | 21 => ⟨S1x256, .f32⟩
  | 22 => ⟨S2048, .f32⟩
  | 23 => ⟨S1x2048, .f32⟩
  | 24 => ⟨S2048, .f32⟩
  | 25 => ⟨S1x2048, .f32⟩
  | 26 => ⟨S4096, .f32⟩
  | 27 => ⟨S64x64, .f32⟩
  | 28 => ⟨S4096, .f32⟩
  | 29 => ⟨S64x64, .f32⟩
  | 30 => ⟨S16384, .f32⟩
  | 31 => ⟨S4x64x64, .f32⟩
  | 32 => ⟨S256, .f32⟩
  | 33 => ⟨S1x256, .f32⟩
  | 34 => ⟨S1x1x1024, .f32⟩
  | 35 => ⟨S1x1x1024, .f32⟩
  | 36 => ⟨S1x1x1024, .f32⟩
  | 37 => ⟨S1x1x1024, .f32⟩
  | 38 => ⟨S4x1x1024, .f32⟩
  | 39 => ⟨S4x1024, .f32⟩
  | 40 => ⟨S1x1x1024, .f32⟩
  | 41 => ⟨S1x1x1024, .f32⟩
  | 42 => ⟨S1x1x1024, .f32⟩
  | 43 => ⟨S1x1x1024, .f32⟩
  | 44 => ⟨S4x1x1024, .f32⟩
  | 45 => ⟨S4x1024, .f32⟩
  | 46 => ⟨S1x1x1024, .f32⟩
  | 47 => ⟨S1x1x1024, .f32⟩
  | 48 => ⟨S1x1x1024, .f32⟩
  | 49 => ⟨S1x1x1024, .f32⟩
  | 50 => ⟨S4x1x1024, .f32⟩
  | 51 => ⟨S4x1024, .f32⟩
  | 52 => ⟨S1x1x1024, .f32⟩
  | 53 => ⟨S1x1x1024, .f32⟩
  | 54 => ⟨S1x1x1024, .f32⟩
  | 55 => ⟨S1x1x1024, .f32⟩
  | 56 => ⟨S4x1x1024, .f32⟩
  | 57 => ⟨S4x1024, .f32⟩
  | 58 => ⟨S1x1x256, .f32⟩
  | 59 => ⟨S1x1x256, .f32⟩
  | 60 => ⟨S1x1x256, .f32⟩
  | 61 => ⟨S1x1x256, .f32⟩
  | 62 => ⟨S4x1x256, .f32⟩
  | 63 => ⟨S4x256, .f32⟩
  | 64 => ⟨S1x4x128x128, .f32⟩
  | 65 => ⟨S1x4x128x128, .f32⟩
  | 66 => ⟨S1x4x128x128, .f32⟩
  | 67 => ⟨S1x4x128x128, .f32⟩
  | 68 => ⟨S4x4x128x128, .f32⟩
  | 69 => ⟨S1x4x128, .f32⟩
  | 70 => ⟨S1x4x128, .f32⟩
  | 71 => ⟨S1x4x128, .f32⟩
  | 72 => ⟨S1x4x128, .f32⟩
  | 73 => ⟨S4x4x128, .f32⟩
  | 74 => ⟨S1x31x256, .f32⟩
  | 75 => ⟨S1x31x256, .f32⟩
  | 76 => ⟨S1x31x256, .f32⟩
  | 77 => ⟨S1x31x256, .f32⟩
  | 78 => ⟨S4x31x256, .f32⟩
  | 79 => ⟨S1x1x256, .f32⟩
  | 80 => ⟨S1x1x256, .f32⟩
  | 81 => ⟨S1x1x256, .f32⟩
  | 82 => ⟨S1x1x256, .f32⟩
  | 83 => ⟨S4x1x256, .f32⟩
  | 84 => ⟨S4x256, .f32⟩
  | 85 => ⟨S1x1x256, .f32⟩
  | 86 => ⟨S1x1x256, .f32⟩
  | 87 => ⟨S1x1x256, .f32⟩
  | 88 => ⟨S1x1x256, .f32⟩
  | 89 => ⟨S4x1x256, .f32⟩
  | 90 => ⟨S4x256, .f32⟩
  | 91 => ⟨S1x1x256, .f32⟩
  | 92 => ⟨S1x1x256, .f32⟩
  | 93 => ⟨S1x1x256, .f32⟩
  | 94 => ⟨S1x1x256, .f32⟩
  | 95 => ⟨S4x1x256, .f32⟩
  | 96 => ⟨S4x256, .f32⟩
  | 97 => ⟨S1x1x256, .f32⟩
  | 98 => ⟨S1x1x256, .f32⟩
  | 99 => ⟨S1x1x256, .f32⟩
  | 100 => ⟨S1x1x256, .f32⟩
  | 101 => ⟨S4x1x256, .f32⟩
  | 102 => ⟨S4x256, .f32⟩
  | 103 => ⟨S1x1x2048, .f32⟩
  | 104 => ⟨S1x1x2048, .f32⟩
  | 105 => ⟨S1x1x2048, .f32⟩
  | 106 => ⟨S1x1x2048, .f32⟩
  | 107 => ⟨S4x1x2048, .f32⟩
  | 108 => ⟨S4x32x64, .f32⟩
  | 109 => ⟨S1x1x2048, .f32⟩
  | 110 => ⟨S1x1x2048, .f32⟩
  | 111 => ⟨S1x1x2048, .f32⟩
  | 112 => ⟨S1x1x2048, .f32⟩
  | 113 => ⟨S4x1x2048, .f32⟩
  | 114 => ⟨S4x32x64, .f32⟩
  | 115 => ⟨S1x64x64, .f32⟩
  | 116 => ⟨S1x64x64, .f32⟩
  | 117 => ⟨S1x64x64, .f32⟩
  | 118 => ⟨S1x64x64, .f32⟩
  | 119 => ⟨S4x64x64, .f32⟩
  | 120 => ⟨S1x64x64, .f32⟩
  | 121 => ⟨S1x64x64, .f32⟩
  | 122 => ⟨S1x64x64, .f32⟩
  | 123 => ⟨S1x64x64, .f32⟩
  | 124 => ⟨S4x64x64, .f32⟩
  | 125 => ⟨S1x4x64x64, .f32⟩
  | 126 => ⟨S1x4x64x64, .f32⟩
  | 127 => ⟨S1x4x64x64, .f32⟩
  | _ => ⟨S8x1x1024x128, .f32⟩

abbrev hbmTy0_2 (i : Nat) : BufTy := match i % 128 with
  | 0 => ⟨S1x4x64x64, .f32⟩
  | 1 => ⟨S4x4x64x64, .f32⟩
  | 2 => ⟨S1x1x256, .f32⟩
  | 3 => ⟨S1x1x256, .f32⟩
  | 4 => ⟨S1x1x256, .f32⟩
  | 5 => ⟨S1x1x256, .f32⟩
  | 6 => ⟨S4x1x256, .f32⟩
  | 7 => ⟨S4x256, .f32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S4x31x32, .f32⟩
  | _ => ⟨S8x1x1024x128, .f32⟩

abbrev hbmTy (i : Nat) : BufTy := match i / 128 with
  | 0 => hbmTy0_0 i
  | 1 => hbmTy0_1 i
  | 2 => hbmTy0_2 i
  | _ => ⟨S8x1x1024x128, .f32⟩

abbrev bufTy : (tb : Table) → Fin (tcTables nBuf tb) → BufTy
  | .hbm, ⟨i, _⟩ => hbmTy i
  | .local _ .vmem, ⟨0, _⟩ => ⟨S8x1x256x128, .f32⟩
  | .local _ .vmem, ⟨1, _⟩ => ⟨S8x1x256x128, .f32⟩
  | .local _ .vmem, ⟨2, _⟩ => ⟨S8x1x256x128, .f32⟩
  | .local _ .vmem, ⟨3, _⟩ => ⟨S8x1x256x128, .f32⟩
  | .local _ .vmem, ⟨4, _⟩ => ⟨S8x1x256x128, .f32⟩
  | .local _ .vmem, ⟨5, _⟩ => ⟨S8x1x256x128, .f32⟩
  | .local _ .vmem, ⟨6, _⟩ => ⟨S8x1x256x128, .f32⟩
  | .local _ .vmem, ⟨7, _⟩ => ⟨S8x1x256x128, .f32⟩
  | .local _ .vmem, ⟨8, _⟩ => ⟨S1x256x128, .f32⟩
  | .local _ .vmem, ⟨9, _⟩ => ⟨S1x256x128, .f32⟩
  | _, _ => ⟨S8x1x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_c : Ref sig .tc := ⟨.hbm, 264, rfl⟩
abbrev main_v259 : Ref sig .tc := ⟨.hbm, 265, rfl⟩
abbrev main_c_0 : Ref sig .tc := ⟨.hbm, 266, rfl⟩
abbrev main_v260 : Ref sig .tc := ⟨.hbm, 267, rfl⟩
abbrev main_c_1 : Ref sig .tc := ⟨.hbm, 268, rfl⟩
abbrev main_v261 : Ref sig .tc := ⟨.hbm, 269, rfl⟩
abbrev main_v262 : Ref sig .tc := ⟨.hbm, 270, rfl⟩
abbrev main_c_2 : Ref sig .tc := ⟨.hbm, 271, rfl⟩
abbrev main_c_3 : Ref sig .tc := ⟨.hbm, 272, rfl⟩
abbrev main_v263 : Ref sig .tc := ⟨.hbm, 273, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  let c0_i32_4 : BitVec 32 := 0#32
  ![c0_i32_1.toNat, c0_i32_2.toNat, v1.toNat, c0_i32_3.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference29Ideal.lean ====
abbrev S8x1x1024x128 : Shape := ⟨4, ![8, 1, 1024, 128]⟩
abbrev S_ : Shape := ⟨0, ![]⟩
abbrev S1x1024x128 : Shape := ⟨3, ![1, 1024, 128]⟩
abbrev S131072 : Shape := ⟨1, ![131072]⟩
abbrev S1024 : Shape := ⟨1, ![1024]⟩
abbrev S1x1024 : Shape := ⟨2, ![1, 1024]⟩
abbrev S1x1x1024 : Shape := ⟨3, ![1, 1, 1024]⟩
abbrev S4x1x1024 : Shape := ⟨3, ![4, 1, 1024]⟩
abbrev S4x1024 : Shape := ⟨2, ![4, 1024]⟩
abbrev S256 : Shape := ⟨1, ![256]⟩
abbrev S1x256 : Shape := ⟨2, ![1, 256]⟩
abbrev S1x1x256 : Shape := ⟨3, ![1, 1, 256]⟩
abbrev S4x1x256 : Shape := ⟨3, ![4, 1, 256]⟩
abbrev S4x256 : Shape := ⟨2, ![4, 256]⟩
abbrev S65536 : Shape := ⟨1, ![65536]⟩
abbrev S4x128x128 : Shape := ⟨3, ![4, 128, 128]⟩
abbrev S1x4x128x128 : Shape := ⟨4, ![1, 4, 128, 128]⟩
abbrev S4x4x128x128 : Shape := ⟨4, ![4, 4, 128, 128]⟩
abbrev S512 : Shape := ⟨1, ![512]⟩
abbrev S4x128 : Shape := ⟨2, ![4, 128]⟩
abbrev S1x4x128 : Shape := ⟨3, ![1, 4, 128]⟩
abbrev S4x4x128 : Shape := ⟨3, ![4, 4, 128]⟩
abbrev S7936 : Shape := ⟨1, ![7936]⟩
abbrev S31x256 : Shape := ⟨2, ![31, 256]⟩
abbrev S1x31x256 : Shape := ⟨3, ![1, 31, 256]⟩
abbrev S4x31x256 : Shape := ⟨3, ![4, 31, 256]⟩
abbrev S2048 : Shape := ⟨1, ![2048]⟩
abbrev S1x2048 : Shape := ⟨2, ![1, 2048]⟩
abbrev S1x1x2048 : Shape := ⟨3, ![1, 1, 2048]⟩
abbrev S4x1x2048 : Shape := ⟨3, ![4, 1, 2048]⟩
abbrev S4x32x64 : Shape := ⟨3, ![4, 32, 64]⟩
abbrev S4096 : Shape := ⟨1, ![4096]⟩
abbrev S64x64 : Shape := ⟨2, ![64, 64]⟩
abbrev S1x64x64 : Shape := ⟨3, ![1, 64, 64]⟩
abbrev S4x64x64 : Shape := ⟨3, ![4, 64, 64]⟩
abbrev S16384 : Shape := ⟨1, ![16384]⟩
abbrev S1x4x64x64 : Shape := ⟨4, ![1, 4, 64, 64]⟩
abbrev S4x4x64x64 : Shape := ⟨4, ![4, 4, 64, 64]⟩
abbrev S4x31x32 : Shape := ⟨3, ![4, 31, 32]⟩

abbrev nBuf : Space → Nat
  | .hbm => 273
  | .vmem => 0
  | .smem => 0
  | _ => 0

abbrev hbmTy0_0 (i : Nat) : BufTy := match i % 128 with
  | 0 => ⟨S8x1x1024x128, .f32⟩
  | 1 => ⟨S8x1x1024x128, .f32⟩
  | 2 => ⟨S8x1x1024x128, .f32⟩
  | 3 => ⟨S8x1x1024x128, .f32⟩
  | 4 => ⟨S_, .i32⟩
  | 5 => ⟨S_, .f32⟩
  | 6 => ⟨S1x1024x128, .f32⟩
  | 7 => ⟨S131072, .f32⟩
  | 8 => ⟨S_, .f32⟩
  | 9 => ⟨S1x1024x128, .f32⟩
  | 10 => ⟨S131072, .f32⟩
  | 11 => ⟨S_, .f32⟩
  | 12 => ⟨S1x1024x128, .f32⟩
  | 13 => ⟨S131072, .f32⟩
  | 14 => ⟨S_, .f32⟩
  | 15 => ⟨S1x1024x128, .f32⟩
  | 16 => ⟨S131072, .f32⟩
  | 17 => ⟨S1024, .f32⟩
  | 18 => ⟨S1x1024, .f32⟩
  | 19 => ⟨S1024, .f32⟩
  | 20 => ⟨S1x1024, .f32⟩
  | 21 => ⟨S1024, .f32⟩
  | 22 => ⟨S1x1024, .f32⟩
  | 23 => ⟨S1024, .f32⟩
  | 24 => ⟨S1x1024, .f32⟩
  | 25 => ⟨S1x1x1024, .f32⟩
  | 26 => ⟨S1x1x1024, .f32⟩
  | 27 => ⟨S1x1x1024, .f32⟩
  | 28 => ⟨S1x1x1024, .f32⟩
  | 29 => ⟨S4x1x1024, .f32⟩
  | 30 => ⟨S4x1024, .f32⟩
  | 31 => ⟨S1024, .f32⟩
  | 32 => ⟨S1x1024, .f32⟩
  | 33 => ⟨S1024, .f32⟩
  | 34 => ⟨S1x1024, .f32⟩
  | 35 => ⟨S1024, .f32⟩
  | 36 => ⟨S1x1024, .f32⟩
  | 37 => ⟨S1024, .f32⟩
  | 38 => ⟨S1x1024, .f32⟩
  | 39 => ⟨S1x1x1024, .f32⟩
  | 40 => ⟨S1x1x1024, .f32⟩
  | 41 => ⟨S1x1x1024, .f32⟩
  | 42 => ⟨S1x1x1024, .f32⟩
  | 43 => ⟨S4x1x1024, .f32⟩
  | 44 => ⟨S4x1024, .f32⟩
  | 45 => ⟨S1024, .f32⟩
  | 46 => ⟨S1x1024, .f32⟩
  | 47 => ⟨S1024, .f32⟩
  | 48 => ⟨S1x1024, .f32⟩
  | 49 => ⟨S1024, .f32⟩
  | 50 => ⟨S1x1024, .f32⟩
  | 51 => ⟨S1024, .f32⟩
  | 52 => ⟨S1x1024, .f32⟩
  | 53 => ⟨S1x1x1024, .f32⟩
  | 54 => ⟨S1x1x1024, .f32⟩
  | 55 => ⟨S1x1x1024, .f32⟩
  | 56 => ⟨S1x1x1024, .f32⟩
  | 57 => ⟨S4x1x1024, .f32⟩
  | 58 => ⟨S4x1024, .f32⟩
  | 59 => ⟨S1024, .f32⟩
  | 60 => ⟨S1x1024, .f32⟩
  | 61 => ⟨S1024, .f32⟩
  | 62 => ⟨S1x1024, .f32⟩
  | 63 => ⟨S1024, .f32⟩
  | 64 => ⟨S1x1024, .f32⟩
  | 65 => ⟨S1024, .f32⟩
  | 66 => ⟨S1x1024, .f32⟩
  | 67 => ⟨S1x1x1024, .f32⟩
  | 68 => ⟨S1x1x1024, .f32⟩
  | 69 => ⟨S1x1x1024, .f32⟩
  | 70 => ⟨S1x1x1024, .f32⟩
  | 71 => ⟨S4x1x1024, .f32⟩
  | 72 => ⟨S4x1024, .f32⟩
  | 73 => ⟨S256, .f32⟩
  | 74 => ⟨S1x256, .f32⟩
  | 75 => ⟨S256, .f32⟩
  | 76 => ⟨S1x256, .f32⟩
  | 77 => ⟨S256, .f32⟩
  | 78 => ⟨S1x256, .f32⟩
  | 79 => ⟨S256, .f32⟩
  | 80 => ⟨S1x256, .f32⟩
  | 81 => ⟨S1x1x256, .f32⟩
  | 82 => ⟨S1x1x256, .f32⟩
  | 83 => ⟨S1x1x256, .f32⟩
  | 84 => ⟨S1x1x256, .f32⟩
  | 85 => ⟨S4x1x256, .f32⟩
  | 86 => ⟨S4x256, .f32⟩
  | 87 => ⟨S65536, .f32⟩
  | 88 => ⟨S4x128x128, .f32⟩
  | 89 => ⟨S65536, .f32⟩
  | 90 => ⟨S4x128x128, .f32⟩
  | 91 => ⟨S65536, .f32⟩
  | 92 => ⟨S4x128x128, .f32⟩
  | 93 => ⟨S65536, .f32⟩
  | 94 => ⟨S4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S4x4x128x128, .f32⟩
  | 100 => ⟨S512, .f32⟩
  | 101 => ⟨S4x128, .f32⟩
  | 102 => ⟨S512, .f32⟩
  | 103 => ⟨S4x128, .f32⟩
  | 104 => ⟨S512, .f32⟩
  | 105 => ⟨S4x128, .f32⟩
  | 106 => ⟨S512, .f32⟩
  | 107 => ⟨S4x128, .f32⟩
  | 108 => ⟨S1x4x128, .f32⟩
  | 109 => ⟨S1x4x128, .f32⟩
  | 110 => ⟨S1x4x128, .f32⟩
  | 111 => ⟨S1x4x128, .f32⟩
  | 112 => ⟨S4x4x128, .f32⟩
  | 113 => ⟨S7936, .f32⟩
  | 114 => ⟨S31x256, .f32⟩
  | 115 => ⟨S7936, .f32⟩
  | 116 => ⟨S31x256, .f32⟩
  | 117 => ⟨S7936, .f32⟩
  | 118 => ⟨S31x256, .f32⟩
  | 119 => ⟨S7936, .f32⟩
  | 120 => ⟨S31x256, .f32⟩
  | 121 => ⟨S1x31x256, .f32⟩
  | 122 => ⟨S1x31x256, .f32⟩
  | 123 => ⟨S1x31x256, .f32⟩
  | 124 => ⟨S1x31x256, .f32⟩
  | 125 => ⟨S4x31x256, .f32⟩
  | 126 => ⟨S256, .f32⟩
  | 127 => ⟨S1x256, .f32⟩
  | _ => ⟨S8x1x1024x128, .f32⟩

abbrev hbmTy0_1 (i : Nat) : BufTy := match i % 128 with
  | 0 => ⟨S256, .f32⟩
  | 1 => ⟨S1x256, .f32⟩
  | 2 => ⟨S256, .f32⟩
  | 3 => ⟨S1x256, .f32⟩
  | 4 => ⟨S256, .f32⟩
  | 5 => ⟨S1x256, .f32⟩
  | 6 => ⟨S1x1x256, .f32⟩
  | 7 => ⟨S1x1x256, .f32⟩
  | 8 => ⟨S1x1x256, .f32⟩
  | 9 => ⟨S1x1x256, .f32⟩
  | 10 => ⟨S4x1x256, .f32⟩
  | 11 => ⟨S4x256, .f32⟩
  | 12 => ⟨S256, .f32⟩
  | 13 => ⟨S1x256, .f32⟩
  | 14 => ⟨S256, .f32⟩
  | 15 => ⟨S1x256, .f32⟩
  | 16 => ⟨S256, .f32⟩
  | 17 => ⟨S1x256, .f32⟩
  | 18 => ⟨S256, .f32⟩
  | 19 => ⟨S1x256, .f32⟩
  | 20 => ⟨S1x1x256, .f32⟩
  | 21 => ⟨S1x1x256, .f32⟩
  | 22 => ⟨S1x1x256, .f32⟩
  | 23 => ⟨S1x1x256, .f32⟩
  | 24 => ⟨S4x1x256, .f32⟩
  | 25 => ⟨S4x256, .f32⟩
  | 26 => ⟨S256, .f32⟩
  | 27 => ⟨S1x256, .f32⟩
  | 28 => ⟨S256, .f32⟩
  | 29 => ⟨S1x256, .f32⟩
  | 30 => ⟨S256, .f32⟩
  | 31 => ⟨S1x256, .f32⟩
  | 32 => ⟨S256, .f32⟩
  | 33 => ⟨S1x256, .f32⟩
  | 34 => ⟨S1x1x256, .f32⟩
  | 35 => ⟨S1x1x256, .f32⟩
  | 36 => ⟨S1x1x256, .f32⟩
  | 37 => ⟨S1x1x256, .f32⟩
  | 38 => ⟨S4x1x256, .f32⟩
  | 39 => ⟨S4x256, .f32⟩
  | 40 => ⟨S256, .f32⟩
  | 41 => ⟨S1x256, .f32⟩
  | 42 => ⟨S256, .f32⟩
  | 43 => ⟨S1x256, .f32⟩
  | 44 => ⟨S256, .f32⟩
  | 45 => ⟨S1x256, .f32⟩
  | 46 => ⟨S256, .f32⟩
  | 47 => ⟨S1x256, .f32⟩
  | 48 => ⟨S1x1x256, .f32⟩
  | 49 => ⟨S1x1x256, .f32⟩
  | 50 => ⟨S1x1x256, .f32⟩
  | 51 => ⟨S1x1x256, .f32⟩
  | 52 => ⟨S4x1x256, .f32⟩
  | 53 => ⟨S4x256, .f32⟩
  | 54 => ⟨S2048, .f32⟩
  | 55 => ⟨S1x2048, .f32⟩
  | 56 => ⟨S2048, .f32⟩
  | 57 => ⟨S1x2048, .f32⟩
  | 58 => ⟨S2048, .f32⟩
  | 59 => ⟨S1x2048, .f32⟩
  | 60 => ⟨S2048, .f32⟩
  | 61 => ⟨S1x2048, .f32⟩
  | 62 => ⟨S1x1x2048, .f32⟩
  | 63 => ⟨S1x1x2048, .f32⟩
  | 64 => ⟨S1x1x2048, .f32⟩
  | 65 => ⟨S1x1x2048, .f32⟩
  | 66 => ⟨S4x1x2048, .f32⟩
  | 67 => ⟨S4x32x64, .f32⟩
  | 68 => ⟨S2048, .f32⟩
  | 69 => ⟨S1x2048, .f32⟩
  | 70 => ⟨S2048, .f32⟩
  | 71 => ⟨S1x2048, .f32⟩
  | 72 => ⟨S2048, .f32⟩
  | 73 => ⟨S1x2048, .f32⟩
  | 74 => ⟨S2048, .f32⟩
  | 75 => ⟨S1x2048, .f32⟩
  | 76 => ⟨S1x1x2048, .f32⟩
  | 77 => ⟨S1x1x2048, .f32⟩
  | 78 => ⟨S1x1x2048, .f32⟩
  | 79 => ⟨S1x1x2048, .f32⟩
  | 80 => ⟨S4x1x2048, .f32⟩
  | 81 => ⟨S4x32x64, .f32⟩
  | 82 => ⟨S4096, .f32⟩
  | 83 => ⟨S64x64, .f32⟩
  | 84 => ⟨S4096, .f32⟩
  | 85 => ⟨S64x64, .f32⟩
  | 86 => ⟨S4096, .f32⟩
  | 87 => ⟨S64x64, .f32⟩
  | 88 => ⟨S4096, .f32⟩
  | 89 => ⟨S64x64, .f32⟩
  | 90 => ⟨S1x64x64, .f32⟩
  | 91 => ⟨S1x64x64, .f32⟩
  | 92 => ⟨S1x64x64, .f32⟩
  | 93 => ⟨S1x64x64, .f32⟩
  | 94 => ⟨S4x64x64, .f32⟩
  | 95 => ⟨S4096, .f32⟩
  | 96 => ⟨S64x64, .f32⟩
  | 97 => ⟨S4096, .f32⟩
  | 98 => ⟨S64x64, .f32⟩
  | 99 => ⟨S4096, .f32⟩
  | 100 => ⟨S64x64, .f32⟩
  | 101 => ⟨S4096, .f32⟩
  | 102 => ⟨S64x64, .f32⟩
  | 103 => ⟨S1x64x64, .f32⟩
  | 104 => ⟨S1x64x64, .f32⟩
  | 105 => ⟨S1x64x64, .f32⟩
  | 106 => ⟨S1x64x64, .f32⟩
  | 107 => ⟨S4x64x64, .f32⟩
  | 108 => ⟨S16384, .f32⟩
  | 109 => ⟨S4x64x64, .f32⟩
  | 110 => ⟨S16384, .f32⟩
  | 111 => ⟨S4x64x64, .f32⟩
  | 112 => ⟨S16384, .f32⟩
  | 113 => ⟨S4x64x64, .f32⟩
  | 114 => ⟨S16384, .f32⟩
  | 115 => ⟨S4x64x64, .f32⟩
  | 116 => ⟨S1x4x64x64, .f32⟩
  | 117 => ⟨S1x4x64x64, .f32⟩
  | 118 => ⟨S1x4x64x64, .f32⟩
  | 119 => ⟨S1x4x64x64, .f32⟩
  | 120 => ⟨S4x4x64x64, .f32⟩
  | 121 => ⟨S256, .f32⟩
  | 122 => ⟨S1x256, .f32⟩
  | 123 => ⟨S256, .f32⟩
  | 124 => ⟨S1x256, .f32⟩
  | 125 => ⟨S256, .f32⟩
  | 126 => ⟨S1x256, .f32⟩
  | 127 => ⟨S256, .f32⟩
  | _ => ⟨S8x1x1024x128, .f32⟩

abbrev hbmTy0_2 (i : Nat) : BufTy := match i % 128 with
  | 0 => ⟨S1x256, .f32⟩
  | 1 => ⟨S1x1x256, .f32⟩
  | 2 => ⟨S1x1x256, .f32⟩
  | 3 => ⟨S1x1x256, .f32⟩
  | 4 => ⟨S1x1x256, .f32⟩
  | 5 => ⟨S4x1x256, .f32⟩
  | 6 => ⟨S4x256, .f32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S4x31x32, .f32⟩
  | _ => ⟨S8x1x1024x128, .f32⟩

abbrev hbmTy (i : Nat) : BufTy := match i / 128 with
  | 0 => hbmTy0_0 i
  | 1 => hbmTy0_1 i
  | 2 => hbmTy0_2 i
  | _ => ⟨S8x1x1024x128, .f32⟩

abbrev bufTy : (tb : Table) → Fin (tcTables nBuf tb) → BufTy
  | .hbm, ⟨i, _⟩ => hbmTy i
  | _, _ => ⟨S8x1x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_c : Ref sig .tc := ⟨.hbm, 263, rfl⟩
abbrev main_v254 : Ref sig .tc := ⟨.hbm, 264, rfl⟩
abbrev main_c_3 : Ref sig .tc := ⟨.hbm, 265, rfl⟩
abbrev main_v255 : Ref sig .tc := ⟨.hbm, 266, rfl⟩
abbrev main_c_4 : Ref sig .tc := ⟨.hbm, 267, rfl⟩
abbrev main_v256 : Ref sig .tc := ⟨.hbm, 268, rfl⟩
abbrev main_v257 : Ref sig .tc := ⟨.hbm, 269, rfl⟩
abbrev main_c_5 : Ref sig .tc := ⟨.hbm, 270, rfl⟩
abbrev main_c_6 : Ref sig .tc := ⟨.hbm, 271, rfl⟩
abbrev main_v258 : Ref sig .tc := ⟨.hbm, 272, rfl⟩

abbrev nD : Nat := 1
abbrev τ : Topo := Topo.v7x

variable {F : FTy → Type} [FloatOps F]
-- ==== Proof.Point.lean ====
/-
  What one grid point of the gradient kernel leaves behind, by head: the four heads of a point do the same work on four
  blocks of 64 lanes, so every buffer's contents after a point are one function of the head's number, applied four times.
-/
module

public import proofs.«01_k».proof.Defs
public import proofs.«01_k».proof.Proof.Gen.KernelIdeal.Value
public import Idealize.ShloMosaic.Lib.Pipeline.Value
public import Idealize.ShloMosaic.Lib.Tactic

@[expose] public section

set_option maxRecDepth 16384

noncomputable section

namespace Cert.CmpGrad

open Idealize.ShloMosaic Idealize.ShloMosaic.TcCoe Idealize.ShloMosaic.Tactic
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- A whole load after a list of stores, the last of them whole, reads what that one stored. -/
theorem readCov_cons_whole {Val : EltTy → Type} {S : Shape} {e : EltTy} [∀ e, Nonempty (Val e)] {sig : RefSig} {κ : Kind} {sp : Space}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl, View.ld_unit_zero rfl]

/-- Head `n`'s queries, scaled: the other heads' lanes are zero. -/
def QM (x0 : Vec F S1x256x256 .f32) (n : BitVec 32) : FVec F S256x256 .bf16 := k0_pay15 (k0_pay11 x0) k0_pay12 n

/-- Head `n`'s probabilities over the compressed positions. -/
def PR (i : grid0.Coords) (x0 : Vec F S1x256x256 .f32) (x1 : Vec F S1x128x256 .bf16) (n : BitVec 32) : FVec F S256x128 .f32 :=
  k0_pay16 (k0_pay7 x1) (k0_pay11 x0) k0_pay12 (k0_pay13 i) (k0_pay14 i) n

/-- Head `n`'s lanes of the incoming gradient. -/
def DOM (x3 : Vec F S1x256x256 .f32) (n : BitVec 32) : FVec F S256x256 .bf16 := k0_pay23 k0_pay6 (k0_pay9 x3) n

/-- Head `n`'s gradient of the scores. -/
def DS (i : grid0.Coords) (x0 : Vec F S1x256x256 .f32) (x1 x2 : Vec F S1x128x256 .bf16) (x3 : Vec F S1x256x256 .f32) (n : BitVec 32) :
    FVec F S256x128 .bf16 := k0_pay24 k0_pay6 (k0_pay8 x2) (k0_pay9 x3) (PR i x0 x1 n) n

/-- The keys' gradient after head `n` was added. -/
def KS (i : grid0.Coords) (x0 : Vec F S1x256x256 .f32) (x1 x2 : Vec F S1x128x256 .bf16) (x3 : Vec F S1x256x256 .f32) (n : BitVec 32)
    (acc : Vec F S128x256 .f32) : FVec F S128x256 .f32 :=
  addf acc (matmul dot_S256x128_S256x256_S128x256_0_0_1_1_n_n none (DS i x0 x1 x2 x3 n) (QM x0 n) (constant S128x256 .f32 0x00000000#32))

/-- The values' gradient after head `n` was added. -/
def VS (i : grid0.Coords) (x0 : Vec F S1x256x256 .f32) (x1 : Vec F S1x128x256 .bf16) (x3 : Vec F S1x256x256 .f32) (n : BitVec 32)
    (acc : Vec F S128x256 .f32) : FVec F S128x256 .f32 :=
  addf acc (matmul dot_S256x128_S256x256_S128x256_0_0_1_1_n_n none (truncf .bf16 (PR i x0 x1 n) bitsLt_bf16_f32) (DOM x3 n)
    (constant S128x256 .f32 0x00000000#32))

/-- Head `n`'s lanes of the queries' gradient added to what the heads before left. -/
def QS (i : grid0.Coords) (x0 : Vec F S1x256x256 .f32) (x1 x2 : Vec F S1x128x256 .bf16) (x3 : Vec F S1x256x256 .f32) (n : BitVec 32)
    (acc : FVec F S256x256 .f32) : FVec F S256x256 .f32 :=
  addf acc (select (broadcastTo S256x256 (shapeCast S1x256 (cmpi .eq k0_pay6 (broadcast S1x256 n)) shapeCasts_S1x256_S1x256) broadcasts_S1x256_S256x256)
    (matmul dot_S256x128_S128x256_S256x256_1_0_0_1_n_n none (DS i x0 x1 x2 x3 n) (k0_pay7 x1) (constant S256x256 .f32 0x00000000#32))
    (broadcast S256x256 (Scalar.ofBits .f32 0x00000000#32)))

/-- The block of the queries' gradient a point writes. -/
def DQ (i : grid0.Coords) (x0 : Vec F S1x256x256 .f32) (x1 x2 : Vec F S1x128x256 .bf16) (x3 : Vec F S1x256x256 .f32) : FVec F S1x256x256 .f32 :=
  shapeCast S1x256x256 (mulf (QS i x0 x1 x2 x3 3#32 (QS i x0 x1 x2 x3 2#32 (QS i x0 x1 x2 x3 1#32 (QS i x0 x1 x2 x3 0#32 k0_pay10))))
    (broadcast S256x256 (Scalar.ofBits .f32 0x3E000000#32))) shapeCasts_S256x256_S1x256x256

/-- The keys' gradient after the point's four heads. -/
def KP (i : grid0.Coords) (x0 : Vec F S1x256x256 .f32) (x1 x2 : Vec F S1x128x256 .bf16) (x3 : Vec F S1x256x256 .f32)
    (acc : Vec F S128x256 .f32) : FVec F S128x256 .f32 :=
  KS i x0 x1 x2 x3 3#32 (KS i x0 x1 x2 x3 2#32 (KS i x0 x1 x2 x3 1#32 (KS i x0 x1 x2 x3 0#32 acc)))

/-- The values' gradient after the point's four heads. -/
def VP (i : grid0.Coords) (x0 : Vec F S1x256x256 .f32) (x1 : Vec F S1x128x256 .bf16) (x3 : Vec F S1x256x256 .f32)
    (acc : Vec F S128x256 .f32) : FVec F S128x256 .f32 :=
  VS i x0 x1 x3 3#32 (VS i x0 x1 x3 2#32 (VS i x0 x1 x3 1#32 (VS i x0 x1 x3 0#32 acc)))

/-- The zeros a sweep starts from. -/
def Z : FVec F S128x256 .f32 := broadcast S128x256 (Scalar.ofBits .f32 0x00000000#32)

/-- At the first tile of a sweep: the queries' gradient. -/
theorem out_A_dq (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : cond0_0 i) (hc1 : ¬cond0_1 i) (x0 : Vec F S1x256x256 .f32) (x1 : Vec F S1x128x256 .bf16) (x2 : Vec F S1x128x256 .bf16) (x3 : Vec F S1x256x256 .f32) :
    out0_A_4 c i arg2 harg2 arg3 harg3 arg4 harg4 arg5 harg5 arg6 harg6 arg7 harg7 arg8 harg8 arg9 harg9 arg10 harg10 hc0 hc1 x0 x1 x2 x3 = DQ i x0 x1 x2 x3 := by
  unfold out0_A_4
  rw [View.read_writes_eq_canon _ _ _ (cover0_A_4 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  first
    | rw [View.canon_unit_zero (S := S1x256x256) hz3]
    | rw [View.canon_cons_unit_zero (S := S1x256x256) hz3]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At the first tile of a sweep: the keys' running gradient. -/
theorem out_A_dk (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : cond0_0 i) (hc1 : ¬cond0_1 i) (x0 : Vec F S1x256x256 .f32) (x1 : Vec F S1x128x256 .bf16) (x2 : Vec F S1x128x256 .bf16) (x3 : Vec F S1x256x256 .f32) :
    sout0_A_0 c i arg2 harg2 arg3 harg3 arg4 harg4 arg5 harg5 arg6 harg6 arg7 harg7 arg8 harg8 arg9 harg9 arg10 harg10 hc0 hc1 x0 x1 x2 x3 = KP i x0 x1 x2 x3 Z := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  first
    | rw [View.canon_unit_zero (S := S128x256) hz2]
    | rw [View.canon_cons_unit_zero (S := S128x256) hz2]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At the first tile of a sweep: the values' running gradient. -/
theorem out_A_dv (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : cond0_0 i) (hc1 : ¬cond0_1 i) (x0 : Vec F S1x256x256 .f32) (x1 : Vec F S1x128x256 .bf16) (x2 : Vec F S1x128x256 .bf16) (x3 : Vec F S1x256x256 .f32) :
    sout0_A_1 c i arg2 harg2 arg3 harg3 arg4 harg4 arg5 harg5 arg6 harg6 arg7 harg7 arg8 harg8 arg9 harg9 arg10 harg10 hc0 hc1 x0 x1 x2 x3 = VP i x0 x1 x3 Z := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  first
    | rw [View.canon_unit_zero (S := S128x256) hz2]
    | rw [View.canon_cons_unit_zero (S := S128x256) hz2]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At a tile inside a sweep: the queries' gradient. -/
theorem out_B_dq (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : ¬cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    out0_B_4 c i arg2 harg2 arg3 harg3 arg4 harg4 arg5 harg5 arg6 harg6 arg7 harg7 arg8 harg8 arg9 harg9 arg10 harg10 hc0 hc1 x0 x1 x2 x3 xs0 xs1 = DQ i x0 x1 x2 x3 := by
  unfold out0_B_4
  rw [View.read_writes_eq_canon _ _ _ (cover0_B_4 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  first
    | rw [View.canon_unit_zero (S := S1x256x256) hz3]
    | rw [View.canon_cons_unit_zero (S := S1x256x256) hz3]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At a tile inside a sweep: the keys' running gradient. -/
theorem out_B_dk (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : ¬cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    sout0_B_0 c i arg2 harg2 arg3 harg3 arg4 harg4 arg5 harg5 arg6 harg6 arg7 harg7 arg8 harg8 arg9 harg9 arg10 harg10 hc0 hc1 x0 x1 x2 x3 xs0 xs1 = KP i x0 x1 x2 x3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  first
    | rw [View.canon_unit_zero (S := S128x256) hz2]
    | rw [View.canon_cons_unit_zero (S := S128x256) hz2]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At a tile inside a sweep: the values' running gradient. -/
theorem out_B_dv (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : ¬cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    sout0_B_1 c i arg2 harg2 arg3 harg3 arg4 harg4 arg5 harg5 arg6 harg6 arg7 harg7 arg8 harg8 arg9 harg9 arg10 harg10 hc0 hc1 x0 x1 x2 x3 xs0 xs1 = VP i x0 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  first
    | rw [View.canon_unit_zero (S := S128x256) hz2]
    | rw [View.canon_cons_unit_zero (S := S128x256) hz2]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At the last tile of a sweep: the queries' gradient. -/
theorem out_C_dq (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    out0_C_4 c i arg2 harg2 arg3 harg3 arg4 harg4 arg5 harg5 arg6 harg6 arg7 harg7 arg8 harg8 arg9 harg9 arg10 harg10 hc0 hc1 x0 x1 x2 x3 xs0 xs1 = DQ i x0 x1 x2 x3 := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  first
    | rw [View.canon_unit_zero (S := S1x256x256) hz3]
    | rw [View.canon_cons_unit_zero (S := S1x256x256) hz3]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At the last tile of a sweep: the keys' running gradient. -/
theorem out_C_dk (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    sout0_C_0 c i arg2 harg2 arg3 harg3 arg4 harg4 arg5 harg5 arg6 harg6 arg7 harg7 arg8 harg8 arg9 harg9 arg10 harg10 hc0 hc1 x0 x1 x2 x3 xs0 xs1 = KP i x0 x1 x2 x3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  first
    | rw [View.canon_unit_zero (S := S128x256) hz2]
    | rw [View.canon_cons_unit_zero (S := S128x256) hz2]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At the last tile of a sweep: the values' running gradient. -/
theorem out_C_dv (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    sout0_C_1 c i arg2 harg2 arg3 harg3 arg4 harg4 arg5 harg5 arg6 harg6 arg7 harg7 arg8 harg8 arg9 harg9 arg10 harg10 hc0 hc1 x0 x1 x2 x3 xs0 xs1 = VP i x0 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  first
    | rw [View.canon_unit_zero (S := S128x256) hz2]
    | rw [View.canon_cons_unit_zero (S := S128x256) hz2]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At the last tile of a sweep: the keys' gradient, its four lane blocks added. -/
theorem out_C_k (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    out0_C_5 c i arg2 harg2 arg3 harg3 arg4 harg4 arg5 harg5 arg6 harg6 arg7 harg7 arg8 harg8 arg9 harg9 arg10 harg10 hc0 hc1 x0 x1 x2 x3 xs0 xs1 = k0_pay1 (KP i x0 x1 x2 x3 xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  first
    | rw [View.canon_unit_zero (S := S1x128x64) hz3]
    | rw [View.canon_cons_unit_zero (S := S1x128x64) hz3]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

/-- At the last tile of a sweep: the values' gradient, its four lane blocks added. -/
theorem out_C_v (c : Dev nD) (i : grid0.Coords) (arg2 : Memref sig .tc .vmem S1x256x256 .f32) (harg2 : arg2.IsWhole) (arg3 : Memref sig .tc .vmem S1x128x256 .bf16) (harg3 : arg3.IsWhole) (arg4 : Memref sig .tc .vmem S1x128x256 .bf16) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x128x64 .f32) (harg7 : arg7.IsWhole) (arg8 : Memref sig .tc .vmem S1x128x64 .f32) (harg8 : arg8.IsWhole) (arg9 : Memref sig .tc .vmem S128x256 .f32) (harg9 : arg9.IsWhole) (arg10 : Memref sig .tc .vmem S128x256 .f32) (harg10 : arg10.IsWhole) (hc0 : ¬cond0_0 i) (hc1 : cond0_1 i) (x0 : Vec F S1x256x256 .f32) (x1 : Vec F S1x128x256 .bf16) (x2 : Vec F S1x128x256 .bf16) (x3 : Vec F S1x256x256 .f32) (xs0 : Vec F S128x256 .f32) (xs1 : Vec F S128x256 .f32) :
    out0_C_6 c i arg2 harg2 arg3 harg3 arg4 harg4 arg5 harg5 arg6 harg6 arg7 harg7 arg8 harg8 arg9 harg9 arg10 harg10 hc0 hc1 x0 x1 x2 x3 xs0 xs1 = k0_pay2 (VP i x0 x1 x3 xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  first
    | rw [View.canon_unit_zero (S := S1x128x64) hz3]
    | rw [View.canon_cons_unit_zero (S := S1x128x64) hz3]
  try simp only [readCov_cons_whole (S := S128x256) _ hz2]
  simp only [View.readAt_eq_ld, harg2.read_unread, harg3.read_unread, harg4.read_unread, harg5.read_unread, harg9.read_unread, harg10.read_unread, View.ld_unit_zero (S := S1x256x256) hz3, View.ld_unit_zero (S := S1x128x256) hz3, View.ld_unit_zero (S := S128x256) hz2, shapeCast_self]
  dsimp only [DQ, KP, VP, KS, VS, QS, DS, PR, QM, DOM, Z, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self]
  try rfl

end Cert.CmpGrad

end
-- ==== Proof.Row.lean ====
/-
  One row of scores: its softmax and the softmax's derivative, as the kernel computes it (the probabilities first) and
  as the derivative of the quotient reads (the exponentials divided last), over the extended reals. Where the scores are
  real or minus infinity the two are one; the values' side may be anything.
-/
module

public import proofs.«01_k».proof.Proof.Point
public import Idealize.ShloMosaic.Lib.Pointwise

@[expose] public section

noncomputable section

namespace Cert.CmpGrad

open Idealize.ShloMosaic

/-- The largest of a row's scores. -/
def rmax {n : Nat} (x : Fin n → EReal) : EReal := Finset.univ.fold max ⊥ x

/-- A row's exponentials, the largest score taken off first. -/
def rexp {n : Nat} (x : Fin n → EReal) (k : Fin n) : EReal := Ideal.exp (x k - rmax x)

/-- Their sum. -/
def rsum {n : Nat} (x : Fin n → EReal) : EReal := ∑ j, rexp x j

/-- The probabilities; none where no column is visible. -/
def prob {n : Nat} (has : Prop) [Decidable has] (x : Fin n → EReal) (k : Fin n) : EReal :=
  if has then Ideal.div (rexp x k) (rsum x) else 0

/-- The scores' gradient, from the probabilities. -/
def grad {n : Nat} (has : Prop) [Decidable has] (x d : Fin n → EReal) (k : Fin n) : EReal :=
  prob has x k * (d k - ∑ j, prob has x j * d j)

/-- The scores' gradient, as the derivative of a quotient of exponentials. -/
def gradQ {n : Nat} (x d : Fin n → EReal) (k : Fin n) : EReal :=
  (Ideal.div (d k) (rsum x) + -(∑ j, d j * Ideal.div 1 (rsum x * rsum x) * rexp x j)) * rexp x k

theorem le_rmax {n : Nat} (x : Fin n → EReal) (k : Fin n) : x k ≤ rmax x :=
  (Finset.le_fold_max _).2 (.inr ⟨k, Finset.mem_univ k, le_rfl⟩)

theorem rmax_real {n : Nat} (x : Fin n → EReal) (hx : ∀ k, x k = ⊥ ∨ ∃ r : ℝ, x k = (r : EReal)) (k0 : Fin n) (h0 : x k0 ≠ ⊥) :
    ∃ m : ℝ, rmax x = (m : EReal) := by
  have ht : rmax x < ⊤ := (Finset.fold_max_lt _).2 ⟨bot_lt_top, fun k _ => by
    rcases hx k with h | ⟨r, h⟩
    · rw [h]; exact bot_lt_top
    · rw [h]; exact EReal.coe_lt_top r⟩
  have hb : ⊥ < rmax x := lt_of_lt_of_le (bot_lt_iff_ne_bot.2 h0) (le_rmax x k0)
  exact ⟨(rmax x).toReal, (EReal.coe_toReal ht.ne hb.ne').symm⟩

theorem coe_sum_real {ι : Type} (s : Finset ι) (f : ι → ℝ) : ∑ j ∈ s, (f j : EReal) = ((∑ j ∈ s, f j : ℝ) : EReal) := by
  classical
  induction s using Finset.induction_on with
  | empty => simp
  | insert i s hi ih => rw [Finset.sum_insert hi, Finset.sum_insert hi, ih, EReal.coe_add]

/-- Under real-or-masked scores with one real: nonnegative real exponentials with a positive real sum. -/
theorem row_real {n : Nat} (x : Fin n → EReal) (hx : ∀ k, x k = ⊥ ∨ ∃ r : ℝ, x k = (r : EReal)) (k0 : Fin n) (h0 : x k0 ≠ ⊥) :
    ∃ (e : Fin n → ℝ) (S : ℝ), (∀ k, 0 ≤ e k) ∧ (∀ k, rexp x k = (e k : EReal)) ∧ 0 < S ∧ rsum x = (S : EReal) := by
  obtain ⟨m, hm⟩ := rmax_real x hx k0 h0
  have he : ∀ k, ∃ e : ℝ, 0 ≤ e ∧ rexp x k = (e : EReal) ∧ (x k ≠ ⊥ → 0 < e) := by
    intro k
    unfold rexp
    rw [hm]
    rcases hx k with h | ⟨r, h⟩
    · exact ⟨0, le_rfl, by rw [h]; simp, fun hn => absurd h hn⟩
    · refine ⟨Real.exp (r - m), (Real.exp_pos _).le, ?_, fun _ => Real.exp_pos _⟩
      rw [h, ← EReal.coe_sub]; rfl
  choose e he0 he1 he2 using he
  refine ⟨e, ∑ j, e j, he0, he1, ?_, ?_⟩
  · exact Finset.sum_pos' (fun j _ => he0 j) ⟨k0, Finset.mem_univ _, he2 k0 h0⟩
  · unfold rsum
    rw [Finset.sum_congr rfl fun j _ => he1 j]
    exact coe_sum_real _ _

/-- A nonnegative real factor goes through a sum. -/
theorem coe_mul_sum {ι : Type} (s : Finset ι) (a : ℝ) (ha : 0 ≤ a) (f : ι → EReal) :
    (a : EReal) * ∑ j ∈ s, f j = ∑ j ∈ s, (a : EReal) * f j := by
  classical
  induction s using Finset.induction_on with
  | empty => simp
  | insert i s hi ih =>
    rw [Finset.sum_insert hi, Finset.sum_insert hi,
      EReal.left_distrib_of_nonneg_of_ne_top (EReal.coe_nonneg.2 ha) (EReal.coe_ne_top a), ih]

/-- The two forms of the scores' gradient agree. -/
theorem grad_eq_gradQ {n : Nat} (has : Prop) [Decidable has] (hh : has) (x d : Fin n → EReal)
    (hx : ∀ k, x k = ⊥ ∨ ∃ r : ℝ, x k = (r : EReal)) (k0 : Fin n) (h0 : x k0 ≠ ⊥) (k : Fin n) :
    grad has x d k = gradQ x d k := by
  obtain ⟨e, S, he0, he, hS, hs⟩ := row_real x hx k0 h0
  have hi : (0 : ℝ) ≤ 1 / S := by positivity
  unfold grad gradQ prob
  simp only [if_pos hh, hs, he, ← EReal.coe_mul]
  rw [Ideal.div_coe hS.ne', Ideal.div_coe hS.ne', Ideal.div_coe (mul_pos hS hS).ne', one_mul]
  have h1 : ∀ j, (((e j : ℝ) : EReal) * ((1 / S : ℝ) : EReal)) * d j = ((1 / S : ℝ) : EReal) * ((e j : EReal) * d j) := fun j => by
    rw [mul_comm ((e j : ℝ) : EReal), mul_assoc]
  have h2 : ∀ j, d j * ((1 / (S * S) : ℝ) : EReal) * ((e j : ℝ) : EReal)
      = ((1 / S : ℝ) : EReal) * (((1 / S : ℝ) : EReal) * ((e j : EReal) * d j)) := fun j => by
    have : ((1 / (S * S) : ℝ) : EReal) = ((1 / S : ℝ) : EReal) * ((1 / S : ℝ) : EReal) := by
      rw [← EReal.coe_mul]; congr 1; field_simp
    rw [this]; ac_rfl
  simp only [Ideal.div_coe hS.ne', h1, h2]
  rw [← coe_mul_sum _ _ hi, ← coe_mul_sum _ _ hi, ← coe_mul_sum _ _ hi]
  generalize ((1 / S : ℝ) : EReal) * ∑ i, ((e i : ℝ) : EReal) * d i = X
  rw [mul_comm (d k), ← mul_neg, ← EReal.left_distrib_of_nonneg_of_ne_top (EReal.coe_nonneg.2 hi) (EReal.coe_ne_top _),
    ← sub_eq_add_neg]
  ac_rfl

theorem rmax_succ {n : Nat} (x : Fin (n + 1) → EReal) (h : x (Fin.last n) = ⊥) : rmax x = rmax fun k => x (Fin.castSucc k) := by
  refine eq_of_forall_ge_iff fun c => ?_
  unfold rmax
  rw [Finset.fold_max_le, Finset.fold_max_le]
  constructor
  · exact fun ⟨_, h'⟩ => ⟨bot_le, fun k _ => h' _ (Finset.mem_univ _)⟩
  · refine fun ⟨_, h'⟩ => ⟨bot_le, fun k _ => ?_⟩
    refine Fin.lastCases ?_ (fun j => ?_) k
    · rw [h]; exact bot_le
    · exact h' j (Finset.mem_univ _)

theorem rexp_succ {n : Nat} (x : Fin (n + 1) → EReal) (h : x (Fin.last n) = ⊥) (k : Fin n) :
    rexp x (Fin.castSucc k) = rexp (fun k => x (Fin.castSucc k)) k := by
  unfold rexp; rw [rmax_succ x h]

theorem rexp_bot {n : Nat} (x : Fin n → EReal) (k : Fin n) (h : x k = ⊥) : rexp x k = 0 := by
  unfold rexp; rw [h]; simp

theorem rsum_succ {n : Nat} (x : Fin (n + 1) → EReal) (h : x (Fin.last n) = ⊥) :
    rsum x = rsum fun k => x (Fin.castSucc k) := by
  unfold rsum
  rw [Fin.sum_univ_castSucc, rexp_bot x _ h, add_zero]
  exact Finset.sum_congr rfl fun k _ => rexp_succ x h k

theorem prob_succ {n : Nat} (has : Prop) [Decidable has] (x : Fin (n + 1) → EReal) (h : x (Fin.last n) = ⊥) (k : Fin n) :
    prob has x (Fin.castSucc k) = prob has (fun k => x (Fin.castSucc k)) k := by
  unfold prob; rw [rexp_succ x h, rsum_succ x h]

/-- A masked column of a row that has a visible one gets no probability. -/
theorem prob_masked {n : Nat} (has : Prop) [Decidable has] (x : Fin n → EReal)
    (hx : ∀ k, x k = ⊥ ∨ ∃ r : ℝ, x k = (r : EReal)) (hk : has → ∃ k0, x k0 ≠ ⊥) (k : Fin n) (h : x k = ⊥) :
    prob has x k = 0 := by
  unfold prob
  split
  · next hh =>
    obtain ⟨k0, h0⟩ := hk hh
    obtain ⟨e, S, he0, he, hS, hs⟩ := row_real x hx k0 h0
    rw [rexp_bot x k h, hs, Ideal.div_coe hS.ne', zero_mul]
  · rfl

theorem grad_masked {n : Nat} (has : Prop) [Decidable has] (x d : Fin n → EReal)
    (hx : ∀ k, x k = ⊥ ∨ ∃ r : ℝ, x k = (r : EReal)) (hk : has → ∃ k0, x k0 ≠ ⊥) (k : Fin n) (h : x k = ⊥) :
    grad has x d k = 0 := by
  unfold grad; rw [prob_masked has x hx hk k h, zero_mul]

theorem grad_none {n : Nat} (has : Prop) [Decidable has] (hh : ¬has) (x d : Fin n → EReal) (k : Fin n) : grad has x d k = 0 := by
  unfold grad prob; rw [if_neg hh, zero_mul]

theorem grad_succ {n : Nat} (has : Prop) [Decidable has] (x d : Fin (n + 1) → EReal)
    (hx : ∀ k, x k = ⊥ ∨ ∃ r : ℝ, x k = (r : EReal)) (hk : has → ∃ k0, x k0 ≠ ⊥) (h : x (Fin.last n) = ⊥) (k : Fin n) :
    grad has x d (Fin.castSucc k) = grad has (fun k => x (Fin.castSucc k)) (fun k => d (Fin.castSucc k)) k := by
  unfold grad
  rw [prob_succ has x h, Fin.sum_univ_castSucc, prob_masked has x hx hk _ h, zero_mul, add_zero]
  simp only [prob_succ has x h]

/-- Summing a row's masked-lane product over all 256 lanes is summing the head's 64. -/
theorem head_sum (h : Fin 4) (f g : Fin 256 → EReal) :
    (∑ x : Fin 256, (if x.val / 64 = h.val then f x else 0) * g x)
      = ∑ d : Fin 64, f ⟨64 * h.val + d.val, by omega⟩ * g ⟨64 * h.val + d.val, by omega⟩ := by
  have h1 : ∀ x : Fin 256, (if x.val / 64 = h.val then f x else 0) * g x = if x.val / 64 = h.val then f x * g x else 0 := fun x => by
    split <;> simp
  rw [Finset.sum_congr rfl fun x _ => h1 x, ← Finset.sum_filter]
  symm
  refine Finset.sum_bij' (fun d _ => ⟨64 * h.val + d.val, by omega⟩) (fun x hx => ⟨x.val % 64, by omega⟩) ?_ ?_ ?_ ?_ ?_
  · intro d _; rw [Finset.mem_filter]; exact ⟨Finset.mem_univ _, by show (64 * h.val + d.val) / 64 = h.val; omega⟩
  · intro x _; exact Finset.mem_univ _
  · intro d _; apply Fin.ext; show (64 * h.val + d.val) % 64 = d.val; omega
  · intro x hx; rw [Finset.mem_filter] at hx; apply Fin.ext; show 64 * h.val + x.val % 64 = x.val; omega
  · intro d _; rfl

end Cert.CmpGrad
end
-- ==== Proof.Elem.lean ====
/-
  The pieces of a grid point, entry by entry, over the extended reals: a point's block of the queries is 256 rows of one
  batch, its keys and values are the 64 lanes written four times, and the masked 256-lane products are the heads' own.
-/
module

public import proofs.«01_k».proof.Proof.Row
public import Idealize.ShloMosaic.Lib.WordCmp

@[expose] public section

set_option maxRecDepth 16384

noncomputable section

namespace Cert.CmpGrad

open Idealize.ShloMosaic Idealize.ShloMosaic.TcCoe Idealize.ShloMosaic.Tactic
open Cert.KernelIdeal Cert.KernelIdeal.Gen

/-- The scale of the queries, one eighth. -/
abbrev c8 : EReal := Ideal.ofBits .f32 0x3E000000#32

/-- Lane `d` of head `h`. -/
abbrev lane (h : Fin 4) (d : Fin 64) : Fin 256 := ⟨64 * h.val + d.val, by omega⟩

/-- A lane's place in its head. -/
abbrev md (l : Fin 256) : Fin 64 := ⟨l.val % 64, Nat.mod_lt _ (by decide)⟩

/-- Row `r` of tile `i`. -/
abbrev row (i : Fin 8) (r : Fin 256) : Fin 2048 := ⟨256 * i.val + r.val, by omega⟩

section Spec
variable (q : Fin 2 → Fin 2048 → Fin 256 → EReal) (kc vc : Fin 2 → Fin 128 → Fin 64 → EReal) (g : Fin 2 → Fin 2048 → Fin 256 → EReal)

/-- The scores of a row: the columns whose window has not ended are masked. -/
def sc (b : Fin 2) (t : Fin 2048) (h : Fin 4) (k : Fin 128) : EReal :=
  if k.val * 16 + 31 ≤ t.val then ∑ d : Fin 64, (q b t (lane h d) * c8) * kc b k d else ⊥

/-- The probabilities of a row. -/
def pr (b : Fin 2) (t : Fin 2048) (h : Fin 4) (k : Fin 128) : EReal := prob (31 ≤ t.val) (sc q kc b t h) k

/-- The incoming gradient against the values. -/
def dp (b : Fin 2) (t : Fin 2048) (h : Fin 4) (k : Fin 128) : EReal := ∑ d : Fin 64, g b t (lane h d) * vc b k d

/-- The gradient of the scores. -/
def gs (b : Fin 2) (t : Fin 2048) (h : Fin 4) (k : Fin 128) : EReal := grad (31 ≤ t.val) (sc q kc b t h) (dp vc g b t h) k
end Spec

theorem select_ofBool {α : Type} (p : Prop) [Decidable p] (x y : α) : Scalar.select (BitVec.ofBool (decide p)) x y = if p then x else y := by
  unfold Scalar.select
  by_cases h : p <;> simp [h]

/-- The lane's head number, compared. -/
theorem head_word : ∀ (l : Fin 256) (h : Fin 4),
    IntOp.cmpi .eq (IntOp.shrui .vector (BitVec.ofNat 32 l.val) 6#32) (BitVec.ofNat 32 h.val) = BitVec.ofBool (decide (l.val / 64 = h.val)) := by
  decide +kernel

theorem row_word (i : Nat) (r : Nat) :
    IntOp.addi (Scalar.muli (BitVec.ofNat 32 i) 256#32) (BitVec.ofNat 32 r) = BitVec.ofNat 32 (256 * i + r) := by
  show BitVec.ofNat 32 i * BitVec.ofNat 32 256 + BitVec.ofNat 32 r = _
  rw [← BitVec.ofNat_mul, ← BitVec.ofNat_add, Nat.mul_comm]

theorem col_word (k : Nat) :
    IntOp.addi (IntOp.muli (BitVec.ofNat 32 k) 16#32) 31#32 = BitVec.ofNat 32 (k * 16 + 31) := by
  show BitVec.ofNat 32 k * BitVec.ofNat 32 16 + BitVec.ofNat 32 31 = _
  rw [← BitVec.ofNat_mul, ← BitVec.ofNat_add]

theorem mask_word (a b : Nat) (ha : a < 2 ^ 31) (hb : b < 2 ^ 31) :
    IntOp.cmpi .sle (BitVec.ofNat 32 a) (BitVec.ofNat 32 b) = BitVec.ofBool (decide (a ≤ b)) := by
  rw [WordCmp.cmpi_sle_ofNat ha hb]

theorem has_word (b : Nat) (hb : b < 2 ^ 31) :
    IntOp.cmpi .sge (BitVec.ofNat 32 b) 31#32 = BitVec.ofBool (decide (31 ≤ b)) := by
  rw [show (31#32) = BitVec.ofNat 32 31 from rfl, WordCmp.cmpi_sge_ofNat hb (by norm_num)]

section Block
variable {q : Fin 2 → Fin 2048 → Fin 256 → EReal} {kc vc : Fin 2 → Fin 128 → Fin 64 → EReal} {g : Fin 2 → Fin 2048 → Fin 256 → EReal}
variable {i : grid0.Coords} {x0 : Vec Ideal S1x256x256 .f32} {x1 x2 : Vec Ideal S1x128x256 .bf16} {x3 : Vec Ideal S1x256x256 .f32}
variable {b : Fin 2} {j : Fin 8} (hi : (i 1).val = j.val)
  (h0 : ∀ (r l : Fin 256), x0 (ix3 (0 : Fin 1) r l) = q b (row j r) l)
  (h1 : ∀ (k : Fin 128) (l : Fin 256), x1 (ix3 (0 : Fin 1) k l) = kc b k (md l))
  (h2 : ∀ (k : Fin 128) (l : Fin 256), x2 (ix3 (0 : Fin 1) k l) = vc b k (md l))
  (h3 : ∀ (r l : Fin 256), x3 (ix3 (0 : Fin 1) r l) = g b (row j r) l)

include h0 in
theorem QM_apply (h : Fin 4) (r l : Fin 256) :
    QM x0 (BitVec.ofNat 32 h.val) (ix2 r l) = if l.val / 64 = h.val then q b (row j r) l * c8 else 0 := by
  unfold QM
  pointwise [k0_pay15, k0_pay11, k0_pay12]
  rw [head_word, select_ofBool, h0]

include h3 in
theorem DOM_apply (h : Fin 4) (r l : Fin 256) :
    DOM x3 (BitVec.ofNat 32 h.val) (ix2 r l) = if l.val / 64 = h.val then g b (row j r) l else 0 := by
  unfold DOM
  pointwise [k0_pay23, k0_pay6, k0_pay9]
  rw [head_word, select_ofBool, h3]

include h0 h1 in
theorem score_apply (h : Fin 4) (r : Fin 256) (k : Fin 128) :
    (∑ x : Fin 256, QM x0 (BitVec.ofNat 32 h.val) (ix2 r x) * x1 (ix3 (0 : Fin 1) k x))
      = ∑ d : Fin 64, (q b (row j r) (lane h d) * c8) * kc b k d := by
  simp only [QM_apply h0, h1]
  rw [head_sum h (fun x => q b (row j r) x * c8) fun x => kc b k (md x)]
  refine Finset.sum_congr rfl fun d _ => ?_
  congr 2; apply Fin.ext; show (64 * h.val + d.val) % 64 = d.val; omega

include h2 h3 in
theorem dp_apply (h : Fin 4) (r : Fin 256) (k : Fin 128) :
    (∑ x : Fin 256, DOM x3 (BitVec.ofNat 32 h.val) (ix2 r x) * x2 (ix3 (0 : Fin 1) k x)) = dp vc g b (row j r) h k := by
  simp only [DOM_apply h3, h2]
  rw [head_sum h (fun x => g b (row j r) x) fun x => vc b k (md x)]
  unfold dp
  refine Finset.sum_congr rfl fun d _ => ?_
  congr 2; apply Fin.ext; show (64 * h.val + d.val) % 64 = d.val; omega

include hi h0 h1 in
theorem PR_apply (h : Fin 4) (r : Fin 256) (k : Fin 128) :
    PR i x0 x1 (BitVec.ofNat 32 h.val) (ix2 r k) = pr q kc b (row j r) h k := by
  have hs := score_apply h0 h1 h r
  unfold QM at hs
  have hm : Named.named (F := Ideal) (φ := .f32) κ "mask" 0xF149F2CA#32 = ⊥ := rfl
  have hb : Ideal.ofBits .f32 0xFF800000#32 = ⊥ := by simp [Ideal.ofBits, Ideal.ieee]
  have hr : 256 * j.val + r.val < 2 ^ 31 := by omega
  have hk : ∀ k : Fin 128, k.val * 16 + 31 < 2 ^ 31 := fun k => by omega
  unfold PR
  pointwise [k0_pay16, k0_pay7, k0_pay13, k0_pay14, k0_pay5]
  simp only [hi, row_word, col_word, hs, mask_word _ _ (hk _) hr, has_word _ hr, select_ofBool]
  rw [hb]
  rfl

include hi h0 h1 h2 h3 in
theorem DS_apply (h : Fin 4) (r : Fin 256) (k : Fin 128) :
    DS i x0 x1 x2 x3 (BitVec.ofNat 32 h.val) (ix2 r k) = gs q kc vc g b (row j r) h k := by
  have hd := dp_apply h2 h3 h r
  unfold DOM at hd
  unfold DS
  pointwise [k0_pay24, k0_pay8]
  simp only [hd, PR_apply hi h0 h1]
  rfl

end Block

/-- The four heads in the kernel's order, as a sum. -/
theorem KP_apply (i : grid0.Coords) (x0 : Vec Ideal S1x256x256 .f32) (x1 x2 : Vec Ideal S1x128x256 .bf16) (x3 : Vec Ideal S1x256x256 .f32)
    (acc : Vec Ideal S128x256 .f32) (k : Fin 128) (l : Fin 256) :
    KP i x0 x1 x2 x3 acc (ix2 k l) = acc (ix2 k l)
      + ∑ h : Fin 4, ∑ r : Fin 256, DS i x0 x1 x2 x3 (BitVec.ofNat 32 h.val) (ix2 r k) * QM x0 (BitVec.ofNat 32 h.val) (ix2 r l) := by
  have hk : ∀ (n : BitVec 32) (a : Vec Ideal S128x256 .f32), KS i x0 x1 x2 x3 n a (ix2 k l)
      = a (ix2 k l) + ∑ r : Fin 256, DS i x0 x1 x2 x3 n (ix2 r k) * QM x0 n (ix2 r l) := fun n a => by
    unfold KS; pointwise
  unfold KP
  rw [hk, hk, hk, hk, Fin.sum_univ_four]
  simp only [add_assoc]
  rfl

theorem VP_apply (i : grid0.Coords) (x0 : Vec Ideal S1x256x256 .f32) (x1 : Vec Ideal S1x128x256 .bf16) (x3 : Vec Ideal S1x256x256 .f32)
    (acc : Vec Ideal S128x256 .f32) (k : Fin 128) (l : Fin 256) :
    VP i x0 x1 x3 acc (ix2 k l) = acc (ix2 k l)
      + ∑ h : Fin 4, ∑ r : Fin 256, PR i x0 x1 (BitVec.ofNat 32 h.val) (ix2 r k) * DOM x3 (BitVec.ofNat 32 h.val) (ix2 r l) := by
  have hk : ∀ (n : BitVec 32) (a : Vec Ideal S128x256 .f32), VS i x0 x1 x3 n a (ix2 k l)
      = a (ix2 k l) + ∑ r : Fin 256, PR i x0 x1 n (ix2 r k) * DOM x3 n (ix2 r l) := fun n a => by
    unfold VS; pointwise
  unfold VP
  rw [hk, hk, hk, hk, Fin.sum_univ_four]
  simp only [add_assoc]
  rfl

/-- A term that only one head has. -/
theorem sum_head (h0 : Fin 4) (f : Fin 4 → EReal) : (∑ h : Fin 4, if h0.val = h.val then f h else 0) = f h0 := by
  rw [Finset.sum_eq_single h0]
  · simp
  · exact fun b _ hb => if_neg fun h => hb (Fin.ext h.symm)
  · exact fun h => absurd (Finset.mem_univ _) h

section Sums
variable {q : Fin 2 → Fin 2048 → Fin 256 → EReal} {kc vc : Fin 2 → Fin 128 → Fin 64 → EReal} {g : Fin 2 → Fin 2048 → Fin 256 → EReal}
variable {i : grid0.Coords} {x0 : Vec Ideal S1x256x256 .f32} {x1 x2 : Vec Ideal S1x128x256 .bf16} {x3 : Vec Ideal S1x256x256 .f32}
variable {b : Fin 2} {j : Fin 8} (hi : (i 1).val = j.val)
  (h0 : ∀ (r l : Fin 256), x0 (ix3 (0 : Fin 1) r l) = q b (row j r) l)
  (h1 : ∀ (k : Fin 128) (l : Fin 256), x1 (ix3 (0 : Fin 1) k l) = kc b k (md l))
  (h2 : ∀ (k : Fin 128) (l : Fin 256), x2 (ix3 (0 : Fin 1) k l) = vc b k (md l))
  (h3 : ∀ (r l : Fin 256), x3 (ix3 (0 : Fin 1) r l) = g b (row j r) l)

include hi h0 h1 h2 h3 in
/-- The keys' gradient a point adds, at lane `d` of head `h`. -/
theorem KP_lane (acc : Vec Ideal S128x256 .f32) (k : Fin 128) (h : Fin 4) (d : Fin 64) :
    KP i x0 x1 x2 x3 acc (ix2 k (lane h d)) = acc (ix2 k (lane h d))
      + ∑ r : Fin 256, gs q kc vc g b (row j r) h k * (q b (row j r) (lane h d) * c8) := by
  rw [KP_apply]
  congr 1
  simp only [DS_apply hi h0 h1 h2 h3, QM_apply h0]
  rw [Finset.sum_comm]
  refine Finset.sum_congr rfl fun r _ => ?_
  have hl : (lane h d).val / 64 = h.val := by show (64 * h.val + d.val) / 64 = h.val; omega
  simp only [hl]
  rw [← sum_head h fun h' => gs q kc vc g b (row j r) h' k * (q b (row j r) (lane h d) * c8)]
  exact Finset.sum_congr rfl fun h' _ => by split <;> simp

include hi h0 h1 h2 h3 in
/-- The values' gradient a point adds, at lane `d` of head `h`. -/
theorem VP_lane (acc : Vec Ideal S128x256 .f32) (k : Fin 128) (h : Fin 4) (d : Fin 64) :
    VP i x0 x1 x3 acc (ix2 k (lane h d)) = acc (ix2 k (lane h d))
      + ∑ r : Fin 256, pr q kc b (row j r) h k * g b (row j r) (lane h d) := by
  rw [VP_apply]
  congr 1
  simp only [PR_apply hi h0 h1, DOM_apply h3]
  rw [Finset.sum_comm]
  refine Finset.sum_congr rfl fun r _ => ?_
  have hl : (lane h d).val / 64 = h.val := by show (64 * h.val + d.val) / 64 = h.val; omega
  simp only [hl]
  rw [← sum_head h fun h' => pr q kc b (row j r) h' k * g b (row j r) (lane h d)]
  exact Finset.sum_congr rfl fun h' _ => by split <;> simp

include hi h0 h1 h2 h3 in
/-- The queries' gradient a point writes, at lane `d` of head `h`. -/
theorem DQ_lane (r : Fin 256) (h : Fin 4) (d : Fin 64) :
    DQ i x0 x1 x2 x3 (ix3 (0 : Fin 1) r (lane h d)) = (∑ k : Fin 128, gs q kc vc g b (row j r) h k * kc b k d) * c8 := by
  have hl : (lane h d).val / 64 = h.val := by show (64 * h.val + d.val) / 64 = h.val; omega
  have hd : (lane h d).val % 64 = d.val := by show (64 * h.val + d.val) % 64 = d.val; omega
  have hq' : ∀ (L : Fin 256) (hl : L.val / 64 = h.val) (hd : L.val % 64 = d.val) (n : Fin 4) (a : FVec Ideal S256x256 .f32),
      QS i x0 x1 x2 x3 (BitVec.ofNat 32 n.val) a (ix2 r L)
      = a (ix2 r L) + if h.val = n.val then ∑ k : Fin 128, gs q kc vc g b (row j r) n k * kc b k d else 0 := fun L hl hd n a => by
    have hx : ∀ k, kc b k (md L) = kc b k d := fun k => congrArg (kc b k) (Fin.ext hd)
    unfold QS
    pointwise [k0_pay7, k0_pay6]
    rw [head_word, select_ofBool, hl]
    simp only [DS_apply hi h0 h1 h2 h3, h1, hx]
  have hq := hq' (lane h d) hl hd
  have hz : (k0_pay10 (F := Ideal)) (ix2 r (lane h d)) = 0 := by
    generalize lane h d = L
    pointwise [k0_pay10]
  have e3 := hq 3
  have e2 := hq 2
  have e1 := hq 1
  have e0 := hq 0
  have hs := sum_head h fun n => ∑ k : Fin 128, gs q kc vc g b (row j r) n k * kc b k d
  rw [Fin.sum_univ_four] at hs
  rw [← hs]
  have hm : DQ i x0 x1 x2 x3 (ix3 (0 : Fin 1) r (lane h d)) = QS i x0 x1 x2 x3 (BitVec.ofNat 32 (3 : Fin 4).val) (QS i x0 x1 x2 x3 (BitVec.ofNat 32 (2 : Fin 4).val)
      (QS i x0 x1 x2 x3 (BitVec.ofNat 32 (1 : Fin 4).val) (QS i x0 x1 x2 x3 (BitVec.ofNat 32 (0 : Fin 4).val) k0_pay10))) (ix2 r (lane h d)) * c8 := by
    generalize lane h d = L
    unfold DQ
    pointwise
  rw [hm, e3, e2, e1, e0, hz, zero_add]

end Sums

/-- The four heads' lanes folded onto the first 64: a sum over the heads. -/
theorem fold_lanes (a : Vec Ideal S128x256 .f32) (u : Fin 1) (k : Fin 128) (d : Fin 64) :
    k0_pay1 a (ix3 u k d) = ∑ h : Fin 4, a (ix2 k (lane h d)) := by
  pointwise [k0_pay1]
  rw [Fin.sum_univ_four]
  have e0 : (⟨d.val, by omega⟩ : Fin 256) = lane 0 d := Fin.ext (by show d.val = 64 * 0 + d.val; omega)
  have e3 : (⟨(d.val + 256 - 64) % 256, by omega⟩ : Fin 256) = lane 3 d := Fin.ext (by show (d.val + 256 - 64) % 256 = 64 * 3 + d.val; omega)
  have e2 : (⟨(d.val + 256 - 128) % 256, by omega⟩ : Fin 256) = lane 2 d := Fin.ext (by show (d.val + 256 - 128) % 256 = 64 * 2 + d.val; omega)
  have e1 : (⟨(d.val + 256 - 192) % 256, by omega⟩ : Fin 256) = lane 1 d := Fin.ext (by show (d.val + 256 - 192) % 256 = 64 * 1 + d.val; omega)
  have f := fun l l' (e : l = l') => congrArg (fun l => a (ix2 k l)) e
  refine (congrArg₂ (· + ·) (congrArg₂ (· + ·) (congrArg₂ (· + ·) (f _ _ e0) (f _ _ e3)) (f _ _ e2)) (f _ _ e1)).trans ?_
  ac_rfl

theorem fold_lanes' (a : Vec Ideal S128x256 .f32) (u : Fin 1) (k : Fin 128) (d : Fin 64) :
    k0_pay2 a (ix3 u k d) = ∑ h : Fin 4, a (ix2 k (lane h d)) := fold_lanes a u k d

end Cert.CmpGrad
end
-- ==== Proof.Blocks.lean ====
/-
  What a grid point's input blocks hold, off the launch memory: 256 rows of the queries' lanes and of the incoming
  gradient, and the keys and values with their 64 lanes written four times.
-/
module

public import proofs.«01_k».proof.Proof.Elem
public import Idealize.ShloMosaic.Lib.StableHlo.RunRead

@[expose] public section

set_option maxRecDepth 16384

noncomputable section

namespace Cert.CmpGrad

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The 64 lanes written four times. -/
def tile4 (x : FVec Ideal S2x128x64 .f32) : FVec Ideal S2x128x256 .bf16 :=
  truncf .bf16 (shapeCast S2x128x256 (broadcastInDim S1x2x1x128x4x64 ![0, 1, 2, 3, 4, 5] bcast_S1x2x1x128x1x64_S1x2x1x128x4x64_0_1_2_3_4_5
    (shapeCast S1x2x1x128x1x64 x shapeCasts_S2x128x64_S1x2x1x128x1x64)) shapeCasts_S1x2x1x128x4x64_S2x128x256) bitsLt_bf16_f32

theorem V_keys : V m c main_v3 = tile4 (m ((c : Thread nD τ).loc main_arg1)) := by
  show StableHlo.after hostOps0 _ (Proc.devRef .tc main_v3) = _
  after_reads_simp
  rfl

theorem V_values : V m c main_v7 = tile4 (m ((c : Thread nD τ).loc main_arg2)) := by
  show StableHlo.after hostOps0 _ (Proc.devRef .tc main_v7) = _
  after_reads_simp
  rfl

theorem tile4_apply (x : FVec Ideal S2x128x64 .f32) (b : Fin 2) (k : Fin 128) (l : Fin 256) :
    tile4 x (ix3 b k l) = x (ix3 b k (md l)) := by
  unfold tile4
  pointwise

/-- The printed index maps, decided over the grid: the batch is the point's number over 8, the tile its remainder. -/
theorem idx_in : ∀ t : Fin grid0.N, (grid0.coords t 1).val = t.val % 8
    ∧ (win0_0.index t 0 = t.val / 8 ∧ win0_0.index t 1 = t.val % 8 ∧ win0_0.index t 2 = 4)
    ∧ (win0_1.index t 0 = t.val / 8 ∧ win0_1.index t 1 = 0 ∧ win0_1.index t 2 = 0)
    ∧ (win0_2.index t 0 = t.val / 8 ∧ win0_2.index t 1 = 0 ∧ win0_2.index t 2 = 0)
    ∧ (win0_3.index t 0 = t.val / 8 ∧ win0_3.index t 1 = t.val % 8 ∧ win0_3.index t 2 = 0) := by
  decide +kernel

/-- A point's batch and tile. -/
abbrev batch (t : Fin cfg0.N) : Fin 2 := ⟨t.val / 8, by have := lt_of_lt_of_eq t.isLt (show cfg0.N = 16 from N_0); omega⟩
abbrev tile (t : Fin cfg0.N) : Fin 8 := ⟨t.val % 8, by omega⟩

/-- The launch's arrays by coordinates: the queries' lanes of the projections, the keys, the values, the incoming gradient. -/
def Qm (b : Fin 2) (t : Fin 2048) (l : Fin 256) : EReal := (m ((c : Thread nD τ).loc main_arg0) : FVec Ideal S2x2048x2048 .f32) (ix3 b t ⟨1024 + l.val, by omega⟩)
def Km (b : Fin 2) (k : Fin 128) (d : Fin 64) : EReal := (m ((c : Thread nD τ).loc main_arg1) : FVec Ideal S2x128x64 .f32) (ix3 b k d)
def Wm (b : Fin 2) (k : Fin 128) (d : Fin 64) : EReal := (m ((c : Thread nD τ).loc main_arg2) : FVec Ideal S2x128x64 .f32) (ix3 b k d)
def Gm (b : Fin 2) (t : Fin 2048) (l : Fin 256) : EReal := (m ((c : Thread nD τ).loc main_arg3) : FVec Ideal S2x2048x256 .f32) (ix3 b t l)

theorem blk_q (t : Fin cfg0.N) (r l : Fin 256) :
    (iblk m c 0 t : Vec Ideal S1x256x256 .f32) (ix3 (0 : Fin 1) r l) = Qm m c (batch t) (row (tile t) r) l := by
  obtain ⟨-, ⟨e0, e1, e2⟩, -⟩ := idx_in t
  unfold iblk Qm
  rw [View.read_apply]
  show V m c main_arg0 _ = _
  rw [V_main_arg0]
  congr 1; funext a; apply Fin.ext
  match a with
  | ⟨0, _⟩ => show win0_0.index t 0 * 1 + 1 * 0 = t.val / 8; rw [e0]; omega
  | ⟨1, _⟩ => show win0_0.index t 1 * 256 + 1 * r.val = 256 * (t.val % 8) + r.val; rw [e1]; omega
  | ⟨2, _⟩ => show win0_0.index t 2 * 256 + 1 * l.val = 1024 + l.val; rw [e2]; omega

theorem blk_g (t : Fin cfg0.N) (r l : Fin 256) :
    (iblk m c 3 t : Vec Ideal S1x256x256 .f32) (ix3 (0 : Fin 1) r l) = Gm m c (batch t) (row (tile t) r) l := by
  obtain ⟨-, -, -, -, e0, e1, e2⟩ := idx_in t
  unfold iblk Gm
  rw [View.read_apply]
  show V m c main_arg3 _ = _
  rw [V_main_arg3]
  congr 1; funext a; apply Fin.ext
  match a with
  | ⟨0, _⟩ => show win0_3.index t 0 * 1 + 1 * 0 = t.val / 8; rw [e0]; omega
  | ⟨1, _⟩ => show win0_3.index t 1 * 256 + 1 * r.val = 256 * (t.val % 8) + r.val; rw [e1]; omega
  | ⟨2, _⟩ => show win0_3.index t 2 * 256 + 1 * l.val = l.val; rw [e2]; omega

theorem blk_k (t : Fin cfg0.N) (k : Fin 128) (l : Fin 256) :
    (iblk m c 1 t : Vec Ideal S1x128x256 .bf16) (ix3 (0 : Fin 1) k l) = Km m c (batch t) k (md l) := by
  obtain ⟨-, -, ⟨e0, e1, e2⟩, -⟩ := idx_in t
  unfold iblk Km
  rw [View.read_apply]
  show V m c main_v3 _ = _
  rw [V_keys]
  refine Eq.trans ?_ (tile4_apply _ (batch t) k l)
  congr 1; funext a; apply Fin.ext
  match a with
  | ⟨0, _⟩ => show win0_1.index t 0 * 1 + 1 * 0 = t.val / 8; rw [e0]; omega
  | ⟨1, _⟩ => show win0_1.index t 1 * 128 + 1 * k.val = k.val; rw [e1]; omega
  | ⟨2, _⟩ => show win0_1.index t 2 * 256 + 1 * l.val = l.val; rw [e2]; omega

theorem blk_v (t : Fin cfg0.N) (k : Fin 128) (l : Fin 256) :
    (iblk m c 2 t : Vec Ideal S1x128x256 .bf16) (ix3 (0 : Fin 1) k l) = Wm m c (batch t) k (md l) := by
  obtain ⟨-, -, -, ⟨e0, e1, e2⟩, -⟩ := idx_in t
  unfold iblk Wm
  rw [View.read_apply]
  show V m c main_v7 _ = _
  rw [V_values]
  refine Eq.trans ?_ (tile4_apply _ (batch t) k l)
  congr 1; funext a; apply Fin.ext
  match a with
  | ⟨0, _⟩ => show win0_2.index t 0 * 1 + 1 * 0 = t.val / 8; rw [e0]; omega
  | ⟨1, _⟩ => show win0_2.index t 1 * 128 + 1 * k.val = k.val; rw [e1]; omega
  | ⟨2, _⟩ => show win0_2.index t 2 * 256 + 1 * l.val = l.val; rw [e2]; omega

/-! ## What the points leave -/

/-- The queries' gradient a point writes. -/
theorem outs_dq (t : Fin cfg0.N) : (outsAt0 m c t.val t.isLt).1
    = DQ (grid0.coords t) (iblk m c 0 t) (iblk m c 1 t) (iblk m c 2 t) (iblk m c 3 t) := by
  by_cases h0 : t.val % 8 = 0 <;> by_cases h1 : t.val % 8 = 7
  · omega
  · rw [outsAt0_A m c t h0 h1]; dsimp only; exact out_A_dq (F := Ideal) ..
  · rw [outsAt0_C m c t h0 h1]; dsimp only; exact out_C_dq (F := Ideal) ..
  · rw [outsAt0_B m c t h0 h1]; dsimp only; exact out_B_dq (F := Ideal) ..

/-- The keys' running gradient at the first tile of a sweep. -/
theorem scr_k_first (t : Fin cfg0.N) (h0 : t.val % 8 = 0) : (outsAt0 m c t.val t.isLt).2.2.2.1
    = KP (grid0.coords t) (iblk m c 0 t) (iblk m c 1 t) (iblk m c 2 t) (iblk m c 3 t) (Z (F := Ideal)) := by
  have h1 : ¬t.val % 8 = 7 := by omega
  rw [outsAt0_A m c t h0 h1]; dsimp only; exact out_A_dk (F := Ideal) ..

theorem scr_v_first (t : Fin cfg0.N) (h0 : t.val % 8 = 0) : (outsAt0 m c t.val t.isLt).2.2.2.2
    = VP (grid0.coords t) (iblk m c 0 t) (iblk m c 1 t) (iblk m c 3 t) (Z (F := Ideal)) := by
  have h1 : ¬t.val % 8 = 7 := by omega
  rw [outsAt0_A m c t h0 h1]; dsimp only; exact out_A_dv (F := Ideal) ..

/-- The keys' running gradient at a later tile, over the tile before. -/
theorem scr_k_next (t : Fin cfg0.N) (h0 : ¬t.val % 8 = 0) : (outsAt0 m c t.val t.isLt).2.2.2.1
    = KP (grid0.coords t) (iblk m c 0 t) (iblk m c 1 t) (iblk m c 2 t) (iblk m c 3 t)
        (outsAt0 m c (t.val - 1) (by have := t.isLt; omega)).2.2.2.1 := by
  by_cases h1 : t.val % 8 = 7
  · rw [outsAt0_C m c t h0 h1]; dsimp only; exact out_C_dk (F := Ideal) ..
  · rw [outsAt0_B m c t h0 h1]; dsimp only; exact out_B_dk (F := Ideal) ..

theorem scr_v_next (t : Fin cfg0.N) (h0 : ¬t.val % 8 = 0) : (outsAt0 m c t.val t.isLt).2.2.2.2
    = VP (grid0.coords t) (iblk m c 0 t) (iblk m c 1 t) (iblk m c 3 t)
        (outsAt0 m c (t.val - 1) (by have := t.isLt; omega)).2.2.2.2 := by
  by_cases h1 : t.val % 8 = 7
  · rw [outsAt0_C m c t h0 h1]; dsimp only; exact out_C_dv (F := Ideal) ..
  · rw [outsAt0_B m c t h0 h1]; dsimp only; exact out_B_dv (F := Ideal) ..

/-- What the last tile of a sweep writes out: the running gradients, the lanes folded. -/
theorem outs_k (t : Fin cfg0.N) (h1 : t.val % 8 = 7) : (outsAt0 m c t.val t.isLt).2.1 = k0_pay1 (outsAt0 m c t.val t.isLt).2.2.2.1 := by
  have h0 : ¬t.val % 8 = 0 := by omega
  rw [scr_k_next m c t h0, outsAt0_C m c t h0 h1]; dsimp only; exact out_C_k (F := Ideal) ..

theorem outs_v (t : Fin cfg0.N) (h1 : t.val % 8 = 7) : (outsAt0 m c t.val t.isLt).2.2.1 = k0_pay2 (outsAt0 m c t.val t.isLt).2.2.2.2 := by
  have h0 : ¬t.val % 8 = 0 := by omega
  rw [scr_v_next m c t h0, outsAt0_C m c t h0 h1]; dsimp only; exact out_C_v (F := Ideal) ..

end Cert.CmpGrad
end
-- ==== Proof.Fold.lean ====
/-
  The kernel's three results by coordinates: the queries' gradient is its tile's, and the keys' and values' gradients are
  the sums over the heads and over all the rows of the batch, added up tile by tile.
-/
module

public import proofs.«01_k».proof.Proof.Blocks

@[expose] public section

set_option maxRecDepth 16384

noncomputable section

namespace Cert.CmpGrad

open Idealize.ShloMosaic Idealize.ShloMosaic.TcCoe Idealize.ShloMosaic.Tactic
open Cert.KernelIdeal Cert.KernelIdeal.Gen Cert.KernelIdeal.Value

/-- The rows of a batch, tile by tile. -/
theorem sum_rows (f : Fin 2048 → EReal) : (∑ i : Fin 8, ∑ r : Fin 256, f (row i r)) = ∑ t : Fin 2048, f t := by
  rw [← Fintype.sum_prod_type']
  refine Fintype.sum_equiv (finProdFinEquiv (m := 8) (n := 256)) _ _ fun p => congrArg f (Fin.ext ?_)
  show 256 * p.1.val + p.2.val = p.2.val + 256 * p.1.val
  omega

/-- What a tile adds to the keys' gradient, by the tile's number. -/
def addK (f : Fin 2048 → EReal) (i : Nat) : EReal := if h : i < 8 then ∑ r : Fin 256, f (row ⟨i, h⟩ r) else 0

theorem addK_sum (f : Fin 2048 → EReal) : (∑ i ∈ Finset.range 8, addK f i) = ∑ t : Fin 2048, f t := by
  rw [← sum_rows, Finset.sum_range]
  exact Finset.sum_congr rfl fun i _ => dif_pos i.isLt

variable (m : (ℓ : Loc nD τ sig) → Buf (Elt Ideal) ℓ) (c : Dev nD)

/-- A row's share of the keys' gradient, and of the values'. -/
def fK (b : Fin 2) (k : Fin 128) (h : Fin 4) (d : Fin 64) (t : Fin 2048) : EReal :=
  gs (Qm m c) (Km m c) (Wm m c) (Gm m c) b t h k * (Qm m c b t (lane h d) * c8)
def fV (b : Fin 2) (k : Fin 128) (h : Fin 4) (d : Fin 64) (t : Fin 2048) : EReal :=
  pr (Qm m c) (Km m c) b t h k * Gm m c b t (lane h d)

theorem Z_apply (i : S128x256.Idx) : (Z (F := Ideal)) i = 0 := by
  show Ideal.ofBits .f32 0x00000000#32 = 0
  simp

/-- The keys' running gradient after tile `j` of a batch. -/
theorem scr_k (b : Fin 2) (k : Fin 128) (h : Fin 4) (d : Fin 64) : ∀ (j : Nat) (hj : j < 8) (t : Fin cfg0.N) (ht : t.val = 8 * b.val + j),
    (outsAt0 m c t.val t.isLt).2.2.2.1 (ix2 k (lane h d)) = ∑ i ∈ Finset.range (j + 1), addK (fK m c b k h d) i := by
  intro j
  induction j with
  | zero =>
    intro hj t ht
    have hb : batch t = b := Fin.ext (by show t.val / 8 = b.val; omega)
    have hi : tile t = ⟨0, hj⟩ := Fin.ext (by show t.val % 8 = 0; omega)
    rw [scr_k_first m c t (by omega), KP_lane (idx_in t).1 (blk_q m c t) (blk_k m c t) (blk_v m c t) (blk_g m c t), Z_apply,
      zero_add, Finset.sum_range_one, addK, dif_pos hj, hb, hi]
    rfl
  | succ j ih =>
    intro hj t ht
    have hb : batch t = b := Fin.ext (by show t.val / 8 = b.val; omega)
    have hi : tile t = ⟨j + 1, hj⟩ := Fin.ext (by show t.val % 8 = j + 1; omega)
    have hp := ih (by omega) ⟨t.val - 1, by have := t.isLt; omega⟩ (by show t.val - 1 = _; omega)
    rw [scr_k_next m c t (by omega), KP_lane (idx_in t).1 (blk_q m c t) (blk_k m c t) (blk_v m c t) (blk_g m c t),
      Finset.sum_range_succ, ← hp, addK, dif_pos hj, hb, hi]
    rfl

theorem scr_v (b : Fin 2) (k : Fin 128) (h : Fin 4) (d : Fin 64) : ∀ (j : Nat) (hj : j < 8) (t : Fin cfg0.N) (ht : t.val = 8 * b.val + j),
    (outsAt0 m c t.val t.isLt).2.2.2.2 (ix2 k (lane h d)) = ∑ i ∈ Finset.range (j + 1), addK (fV m c b k h d) i := by
  intro j
  induction j with
  | zero =>
    intro hj t ht
    have hb : batch t = b := Fin.ext (by show t.val / 8 = b.val; omega)
    have hi : tile t = ⟨0, hj⟩ := Fin.ext (by show t.val % 8 = 0; omega)
    rw [scr_v_first m c t (by omega), VP_lane (idx_in t).1 (blk_q m c t) (blk_k m c t) (blk_v m c t) (blk_g m c t), Z_apply,
      zero_add, Finset.sum_range_one, addK, dif_pos hj, hb, hi]
    rfl
  | succ j ih =>
    intro hj t ht
    have hb : batch t = b := Fin.ext (by show t.val / 8 = b.val; omega)
    have hi : tile t = ⟨j + 1, hj⟩ := Fin.ext (by show t.val % 8 = j + 1; omega)
    have hp := ih (by omega) ⟨t.val - 1, by have := t.isLt; omega⟩ (by show t.val - 1 = _; omega)
    rw [scr_v_next m c t (by omega), VP_lane (idx_in t).1 (blk_q m c t) (blk_k m c t) (blk_v m c t) (blk_g m c t),
      Finset.sum_range_succ, ← hp, addK, dif_pos hj, hb, hi]
    rfl

/-- The keys' gradient. -/
theorem G5_apply (b : Fin 2) (k : Fin 128) (d : Fin 64) :
    (G5 m c : FVec Ideal S2x128x64 .f32) (ix3 b k d) = ∑ h : Fin 4, ∑ t : Fin 2048, fK m c b k h d t := by
  have hpt : pt5Of (ix3 b k d) = 8 * b.val + 7 := by
    show 8 * (1 * (b.val / 1 - 0) + 1 * (k.val / 128 - 0) + 1 * (d.val / 64 - 0)) + 7 = _; omega
  have hlt : pt5Of (ix3 b k d) < cfg0.N := by rw [hpt]; have := N_0; show _ < grid0.N; omega
  have hloc : loc5Of (ix3 b k d) = ix3 (0 : Fin 1) k d := by
    funext a; apply Fin.ext
    match a with
    | ⟨0, _⟩ => show b.val % 1 = 0; omega
    | ⟨1, _⟩ => show k.val % 128 = k.val; omega
    | ⟨2, _⟩ => show d.val % 64 = d.val; omega
  unfold G5
  rw [dif_pos hlt, ← outsAt0_sweep m c _ hlt, outs_k m c ⟨_, hlt⟩ (by show pt5Of (ix3 b k d) % 8 = 7; omega), hloc, fold_lanes]
  refine @Finset.sum_congr _ EReal _ _ _ _ _ rfl fun h _ => ?_
  rw [scr_k m c b k h d 7 (by omega) ⟨_, hlt⟩ hpt, addK_sum]

/-- The values' gradient. -/
theorem G6_apply (b : Fin 2) (k : Fin 128) (d : Fin 64) :
    (G6 m c : FVec Ideal S2x128x64 .f32) (ix3 b k d) = ∑ h : Fin 4, ∑ t : Fin 2048, fV m c b k h d t := by
  have hpt : pt6Of (ix3 b k d) = 8 * b.val + 7 := by
    show 8 * (1 * (b.val / 1 - 0) + 1 * (k.val / 128 - 0) + 1 * (d.val / 64 - 0)) + 7 = _; omega
  have hlt : pt6Of (ix3 b k d) < cfg0.N := by rw [hpt]; have := N_0; show _ < grid0.N; omega
  have hloc : loc6Of (ix3 b k d) = ix3 (0 : Fin 1) k d := by
    funext a; apply Fin.ext
    match a with
    | ⟨0, _⟩ => show b.val % 1 = 0; omega
    | ⟨1, _⟩ => show k.val % 128 = k.val; omega
    | ⟨2, _⟩ => show d.val % 64 = d.val; omega
  unfold G6
  rw [dif_pos hlt, ← outsAt0_sweep m c _ hlt, outs_v m c ⟨_, hlt⟩ (by show pt6Of (ix3 b k d) % 8 = 7; omega), hloc, fold_lanes']
  refine @Finset.sum_congr _ EReal _ _ _ _ _ rfl fun h _ => ?_
  rw [scr_v m c b k h d 7 (by omega) ⟨_, hlt⟩ hpt, addK_sum]

/-- The queries' gradient. -/
theorem G4_apply (b : Fin 2) (t : Fin 2048) (h : Fin 4) (d : Fin 64) :
    (G4 m c : FVec Ideal S2x2048x256 .f32) (ix3 b t (lane h d))
      = (∑ k : Fin 128, gs (Qm m c) (Km m c) (Wm m c) (Gm m c) b t h k * Km m c b k d) * c8 := by
  have hpt : pt4Of (ix3 b t (lane h d)) = 8 * b.val + t.val / 256 := by
    show 8 * (b.val / 1 - 0) + 1 * (t.val / 256 - 0) + 1 * ((64 * h.val + d.val) / 256 - 0) = _; omega
  have hlt : pt4Of (ix3 b t (lane h d)) < cfg0.N := by rw [hpt]; have := N_0; show _ < grid0.N; omega
  have hloc : loc4Of (ix3 b t (lane h d)) = ix3 (0 : Fin 1) (⟨t.val % 256, by omega⟩ : Fin 256) (lane h d) := by
    funext a; apply Fin.ext
    match a with
    | ⟨0, _⟩ => show b.val % 1 = 0; omega
    | ⟨1, _⟩ => show t.val % 256 = t.val % 256; rfl
    | ⟨2, _⟩ => show (64 * h.val + d.val) % 256 = 64 * h.val + d.val; omega
  have hb : batch ⟨_, hlt⟩ = b := Fin.ext (by show pt4Of (ix3 b t (lane h d)) / 8 = b.val; omega)
  have hr : row (tile ⟨_, hlt⟩) (⟨t.val % 256, by omega⟩ : Fin 256) = t :=
    Fin.ext (by show 256 * (pt4Of (ix3 b t (lane h d)) % 8) + t.val % 256 = t.val; omega)
  unfold G4
  rw [dif_pos hlt, ← outsAt0_sweep m c _ hlt, outs_dq m c ⟨_, hlt⟩, hloc,
    DQ_lane (idx_in _).1 (blk_q m c _) (blk_k m c _) (blk_v m c _) (blk_g m c _), hr, hb]

end Cert.CmpGrad
end
-- ==== Proof.Ref.lean ====
/-
  The reference, entry by entry: the scores, the softmax and its derivative as a quotient of exponentials, over the 127
  columns it keeps.
-/
module

public import proofs.«01_k».proof.Proof.Fold
public import proofs.«01_k».proof.Proof.Gen.ReferenceIdeal.Read

@[expose] public section

set_option maxRecDepth 16384

noncomputable section

namespace Cert.CmpGrad

open Idealize.ShloMosaic Idealize.ShloMosaic.TcCoe Idealize.ShloMosaic.Tactic
open Cert.ReferenceIdeal Cert.ReferenceIdeal.Gen Cert.ReferenceIdeal.Read

variable (x0 : FVec Ideal S2x2048x2048 .f32) (x1 x2 : FVec Ideal S2x128x64 .f32) (x3 : FVec Ideal S2x2048x256 .f32)

/-- The reference's arrays by coordinates. -/
def Qr (b : Fin 2) (t : Fin 2048) (l : Fin 256) : EReal := x0 (ix3 b t ⟨1024 + l.val, by omega⟩)
def Kr (b : Fin 2) (k : Fin 128) (d : Fin 64) : EReal := x1 (ix3 b k d)
def Gr (b : Fin 2) (t : Fin 2048) (l : Fin 256) : EReal := x3 (ix3 b t l)

/-- The 127 columns the reference keeps. -/
def cut (x : Fin 128 → EReal) (k : Fin 127) : EReal := x k.castSucc

theorem r_scaled (b : Fin 2) (t : Fin 2048) (h : Fin 4) (d : Fin 64) :
    val_main_v3 (F := Ideal) x0 (ix4 b t h d) = Qr x0 b t (lane h d) * c8 := by
  unfold val_main_v3 val_main_v2 val_main_v1 val_main_v0 val_main_cst
  pointwise
  unfold Qr
  refine congrArg (fun l => x0 (ix3 b t l) * c8) (Fin.ext ?_)
  show 1024 + (h.val * 64 + d.val) = 1024 + (64 * h.val + d.val)
  omega

theorem r_dot (b : Fin 2) (h : Fin 4) (t : Fin 2048) (k : Fin 127) :
    val_main_v22 (F := Ideal) x0 x1 (ix4 b h t k) = ∑ d : Fin 64, Qr x0 b t (lane h d) * c8 * Kr x1 b k.castSucc d := by
  unfold val_main_v22 val_main_v21 val_main_v4
  pointwise
  simp only [r_scaled]
  exact Finset.sum_congr rfl fun d _ => mul_comm _ _

theorem r_mask (t : Fin 2048) (k : Fin 127) :
    val_main_v18 (F := Ideal) (ix2 t k) = BitVec.ofBool (decide (k.val * 16 + 31 ≤ t.val)) := by
  unfold val_main_v18 val_main_v17 val_main_v16 val_main_v15 val_main_v14 val_main_v13 val_main_v12 val_main_v11 val_main_v10 val_main_v9 val_main_v8 val_main_v7 val_main_v6 val_main_c val_main_c_0 val_main_c_1
  pointwise
  rw [← mask_word _ _ (by omega) (by omega), ← col_word]
  congr 1
  show BitVec.ofNat 32 k.val * 16#32 + 32#32 - 1#32 = BitVec.ofNat 32 k.val * 16#32 + 31#32
  generalize BitVec.ofNat 32 k.val * 16#32 = a
  bv_omega

theorem fold_or {n : Nat} (p : Fin n → Bool) :
    Finset.fold IntOp.ori (0#1) (fun x => BitVec.ofBool (p x)) Finset.univ = BitVec.ofBool (decide (∃ x, p x = true)) := by
  have h : ∀ s : Finset (Fin n), Finset.fold IntOp.ori (0#1) (fun x => BitVec.ofBool (p x)) s = BitVec.ofBool (decide (∃ x ∈ s, p x = true)) := fun s => by
    induction s using Finset.induction_on with
    | empty => simp
    | insert a s ha ih =>
      rw [Finset.fold_insert ha, ih, WordCmp.ori_ofBool]
      congr 1
      by_cases hp : p a = true <;> simp [hp]
  rw [h]; simp

theorem r_has (t : Fin 2048) (u : Fin 1) :
    val_main_v20 (F := Ideal) (ix2 t u) = BitVec.ofBool (decide (31 ≤ t.val)) := by
  unfold val_main_v20 val_main_v19 val_main_c_2
  pointwise
  simp only [r_mask]
  rw [fold_or]
  congr 1
  refine decide_eq_decide.2 ⟨fun ⟨k, hk⟩ => ?_, fun h => ⟨0, ?_⟩⟩
  · have := of_decide_eq_true hk; omega
  · exact decide_eq_true (by show 0 * 16 + 31 ≤ t.val; omega)

theorem zero_bits : Ideal.ofBits .f32 0x00000000#32 = 0 := by simp

theorem neg_inf : Ideal.ofBits .f32 0xFF800000#32 = ⊥ := by simp [Ideal.ofBits, Ideal.ieee]

theorem r_score (b : Fin 2) (h : Fin 4) (t : Fin 2048) (k : Fin 127) :
    val_main_v23_0 (F := Ideal) x0 x1 (ix4 b h t k) = cut (sc (Qr x0) (Kr x1) b t h) k := by
  have hc : ∀ i, (id (constant (F := Ideal) S_ .f32 0xFF800000#32)) i = (⊥ : EReal) := fun i => neg_inf
  unfold val_main_v23_0 val_main_v23_1 val_main_call0_v2 val_main_call0_v0 val_main_cst_3
  pointwise
  rw [r_mask, r_dot, select_ofBool, hc]
  rfl

theorem r_max0 (b : Fin 2) (h : Fin 4) (t : Fin 2048) :
    val_main_v24 (F := Ideal) x0 x1 (ix3 b h t) = Finset.univ.fold max (Ideal.ofBits .f32 0xFF800000#32) fun k => val_main_v23_0 (F := Ideal) x0 x1 (ix4 b h t k) := by
  unfold val_main_v24 val_main_cst_4
  generalize val_main_v23_0 (F := Ideal) x0 x1 = y
  pointwise

theorem r_max (b : Fin 2) (h : Fin 4) (t : Fin 2048) :
    val_main_v31 (F := Ideal) x0 x1 (ix3 b h t) = rmax (cut (sc (Qr x0) (Kr x1) b t h)) := by
  rw [val_main_v31_apply, val_main_v30_apply, val_main_cst_6_apply, r_max0]
  show max (Ideal.ofBits .f32 0xFF800000#32) _ = _
  rw [neg_inf]
  simp only [r_score]
  rw [max_eq_right bot_le]
  unfold rmax
  rfl

theorem r_exp (b : Fin 2) (h : Fin 4) (t : Fin 2048) (k : Fin 127) :
    val_main_v44 (F := Ideal) x0 x1 (ix4 b h t k) = rexp (cut (sc (Qr x0) (Kr x1) b t h)) k := by
  have hm := r_max x0 x1 b h t
  have hs := r_score x0 x1 b h t k
  unfold val_main_v44 val_main_v43 val_main_v42 val_main_v41
  generalize val_main_v31 (F := Ideal) x0 x1 = y at *
  generalize val_main_v23_0 (F := Ideal) x0 x1 = z at *
  pointwise
  rw [hm, hs]
  rfl

theorem r_sum (b : Fin 2) (h : Fin 4) (t : Fin 2048) (u : Fin 1) :
    val_main_v46 (F := Ideal) x0 x1 (ix4 b h t u) = rsum (cut (sc (Qr x0) (Kr x1) b t h)) := by
  have he := r_exp x0 x1 b h t
  unfold val_main_v46 val_main_v45 val_main_cst_12
  generalize val_main_v44 (F := Ideal) x0 x1 = y at *
  pointwise
  simp only [he]
  rfl

theorem r_prob (b : Fin 2) (h : Fin 4) (t : Fin 2048) (k : Fin 127) :
    val_main_v52_0 (F := Ideal) x0 x1 (ix4 b h t k) = prob (31 ≤ t.val) (cut (sc (Qr x0) (Kr x1) b t h)) k := by
  have he := r_exp x0 x1 b h t k
  have hs := r_sum x0 x1 b h t 0
  have hh := r_has t 0
  have hc : ∀ i, val_main_call1_v2 (F := Ideal) i = (0 : EReal) := fun i => by
    rw [val_main_call1_v2_apply, val_main_call1_v0_apply]; exact zero_bits
  unfold val_main_v52_0 val_main_v52_1 val_main_v48 val_main_v47
  generalize val_main_v44 (F := Ideal) x0 x1 = y at *
  generalize val_main_v46 (F := Ideal) x0 x1 = z at *
  generalize val_main_v20 (F := Ideal) = w at *
  generalize val_main_call1_v2 (F := Ideal) = v at *
  pointwise
  rw [he, hs, hh, select_ofBool, hc]
  rfl

theorem r_do (b : Fin 2) (d : Fin 64) (h : Fin 4) (t : Fin 2048) :
    val_main_v57 (F := Ideal) x3 (ix4 b d h t) = Gr x3 b t (lane h d) := by
  unfold val_main_v57 val_main_v56
  pointwise
  unfold Gr
  refine congrArg (fun l => x3 (ix3 b t l)) (Fin.ext ?_)
  show h.val * 64 + d.val = 64 * h.val + d.val
  omega

theorem r_dp (b : Fin 2) (h : Fin 4) (t : Fin 2048) (k : Fin 127) :
    val_main_v61 (F := Ideal) x2 x3 (ix4 b h t k) = if 31 ≤ t.val then cut (dp (Kr x2) (Gr x3) b t h) k else 0 := by
  have hh := r_has t 0
  have hc : ∀ i, val_main_call2_v0 (F := Ideal) i = (0 : EReal) := fun i => by
    rw [val_main_call2_v0_apply]; exact zero_bits
  have hd := fun d => r_do x3 b d h t
  unfold val_main_v61 val_main_v52_1 val_main_v58 val_main_v5
  generalize val_main_v57 (F := Ideal) x3 = y at *
  generalize val_main_v20 (F := Ideal) = w at *
  generalize val_main_call2_v0 (F := Ideal) = v at *
  pointwise
  simp only [hd]
  rw [hh, select_ofBool, hc]
  rfl

theorem r_grad (b : Fin 2) (h : Fin 4) (t : Fin 2048) (k : Fin 127) :
    val_main_v73 (F := Ideal) x0 x1 x2 x3 (ix4 b h t k)
      = gradQ (cut (sc (Qr x0) (Kr x1) b t h)) (fun k => if 31 ≤ t.val then cut (dp (Kr x2) (Gr x3) b t h) k else 0) k := by
  have he := r_exp x0 x1 b h t
  have hs := r_sum x0 x1 b h t
  have hd := r_dp x2 x3 b h t
  unfold val_main_v73 val_main_v72 val_main_v71 val_main_v70 val_main_v69 val_main_v68 val_main_v67 val_main_v66 val_main_v65 val_main_v64 val_main_v63 val_main_v62 val_main_v51 val_main_v50 val_main_v49 val_main_cst_13 val_main_cst_15 val_main_cst_16
  generalize val_main_v44 (F := Ideal) x0 x1 = y at *
  generalize val_main_v46 (F := Ideal) x0 x1 = z at *
  generalize val_main_v61 (F := Ideal) x2 x3 = w at *
  pointwise
  simp only [he, hs, hd, Fin.sum_univ_one]
  rfl

theorem r_ds (b : Fin 2) (h : Fin 4) (t : Fin 2048) (k : Fin 127) :
    val_main_v75 (F := Ideal) x0 x1 x2 x3 (ix4 b k t h)
      = if k.val * 16 + 31 ≤ t.val then gradQ (cut (sc (Qr x0) (Kr x1) b t h)) (fun k => if 31 ≤ t.val then cut (dp (Kr x2) (Gr x3) b t h) k else 0) k else 0 := by
  have hg := r_grad x0 x1 x2 x3 b h t k
  have hm := r_mask t k
  have hc : ∀ i, val_main_call3_v0 (F := Ideal) i = (0 : EReal) := fun i => by
    rw [val_main_call3_v0_apply]; exact zero_bits
  unfold val_main_v75 val_main_v74 val_main_v23_1
  generalize val_main_v73 (F := Ideal) x0 x1 x2 x3 = y at *
  generalize val_main_v18 (F := Ideal) = w at *
  generalize val_main_call3_v0 (F := Ideal) = v at *
  pointwise
  rw [hm, hg, select_ofBool, hc]

theorem r_dq (b : Fin 2) (t : Fin 2048) (h : Fin 4) (d : Fin 64) :
    val_main_v82 (F := Ideal) x0 x1 x2 x3 (ix3 b t (lane h d))
      = (∑ k : Fin 127, val_main_v75 (F := Ideal) x0 x1 x2 x3 (ix4 b k t h) * Kr x1 b k.castSucc d) * c8 := by
  unfold val_main_v82 val_main_v81 val_main_v80 val_main_v76 val_main_v4 val_main_cst_19
  generalize val_main_v75 (F := Ideal) x0 x1 x2 x3 = y
  pointwise
  have e0 : (⟨(64 * h.val + d.val) / 64, by omega⟩ : Fin 4) = h := Fin.ext (by show (64 * h.val + d.val) / 64 = h.val; omega)
  have e1 : (⟨(64 * h.val + d.val) % 64, by omega⟩ : Fin 64) = d := Fin.ext (by show (64 * h.val + d.val) % 64 = d.val; omega)
  refine congrArg (· * c8) (Finset.sum_congr rfl fun k _ => ?_)
  unfold Kr
  exact congrArg₂ (· * ·) (congrArg (fun h => y (ix4 b k t h)) e0) (congrArg (fun d => x1 (ix3 b k.castSucc d)) e1)

theorem r_dk (b : Fin 2) (k : Fin 128) (d : Fin 64) :
    val_main_v79 (F := Ideal) x0 x1 x2 x3 (ix3 b k d)
      = if hk : k.val < 127 then ∑ h : Fin 4, ∑ t : Fin 2048, val_main_v75 (F := Ideal) x0 x1 x2 x3 (ix4 b ⟨k.val, hk⟩ t h) * (Qr x0 b t (lane h d) * c8) else 0 := by
  have hq := fun t h => r_scaled x0 b t h d
  unfold val_main_v79 val_main_v77 val_main_cst_18
  generalize val_main_v75 (F := Ideal) x0 x1 x2 x3 = y
  generalize val_main_v3 (F := Ideal) x0 = z at *
  pointwise
  refine dite_congr rfl (fun hk => ?_) fun _ => rfl
  rw [Finset.sum_comm]
  simp only [hq]

theorem r_dv (b : Fin 2) (k : Fin 128) (d : Fin 64) :
    val_main_v78 (F := Ideal) x0 x1 x3 (ix3 b k d)
      = if hk : k.val < 127 then ∑ h : Fin 4, ∑ t : Fin 2048, val_main_v52_0 (F := Ideal) x0 x1 (ix4 b h t ⟨k.val, hk⟩) * Gr x3 b t (lane h d) else 0 := by
  have hq := fun h t => r_do x3 b d h t
  unfold val_main_v78 val_main_v60 val_main_v59 val_main_cst_17
  generalize val_main_v52_0 (F := Ideal) x0 x1 = y
  generalize val_main_v57 (F := Ideal) x3 = z at *
  pointwise
  refine dite_congr rfl (fun hk => ?_) fun _ => rfl
  simp only [hq]
  exact Finset.sum_congr rfl fun h _ => Finset.sum_congr rfl fun t _ => mul_comm _ _

end Cert.CmpGrad
end
-- ==== Proof.Join.lean ====
/-
  Kernel and reference agree entry by entry where the queries and the keys are real: the 128th column is never visible, a
  row with no visible column has no gradient, and the two forms of the softmax's derivative are one value.
-/
module

public import proofs.«01_k».proof.Proof.Ref
public import proofs.«01_k».proof.Pre_finite

@[expose] public section

set_option maxRecDepth 16384

noncomputable section

namespace Cert.CmpGrad

open Idealize.ShloMosaic Idealize.ShloMosaic.TcCoe Idealize.ShloMosaic.Tactic

section Columns
variable {q : Fin 2 → Fin 2048 → Fin 256 → EReal} {kc vc : Fin 2 → Fin 128 → Fin 64 → EReal} {g : Fin 2 → Fin 2048 → Fin 256 → EReal}
variable (hq : ∀ b t l, ∃ r : ℝ, q b t l = (r : EReal)) (hk : ∀ b k d, ∃ r : ℝ, kc b k d = (r : EReal))

theorem c8_real : ∃ r : ℝ, c8 = (r : EReal) := by
  refine ⟨1 / 8, ?_⟩
  simp [c8, Ideal.ofBits, Ideal.ieee]
  refine (EReal.coe_mul _ _).symm.trans ?_
  norm_num

include hq hk in
theorem sc_real (b : Fin 2) (t : Fin 2048) (h : Fin 4) (k : Fin 128) : sc q kc b t h k = ⊥ ∨ ∃ r : ℝ, sc q kc b t h k = (r : EReal) := by
  unfold sc
  split
  · right
    obtain ⟨c, hc⟩ := c8_real
    choose Q hQ using hq
    choose K hK using hk
    exact ⟨∑ d : Fin 64, Q b t (lane h d) * c * K b k d, by simp only [hQ, hK, hc, ← EReal.coe_mul, coe_sum_real]⟩
  · exact Or.inl rfl

theorem sc_last (b : Fin 2) (t : Fin 2048) (h : Fin 4) : sc q kc b t h (Fin.last 127) = ⊥ :=
  if_neg (by show ¬127 * 16 + 31 ≤ t.val; omega)

theorem sc_hidden (b : Fin 2) (t : Fin 2048) (h : Fin 4) (k : Fin 128) (hm : ¬k.val * 16 + 31 ≤ t.val) : sc q kc b t h k = ⊥ := if_neg hm

include hq hk in
theorem sc_visible (b : Fin 2) (t : Fin 2048) (h : Fin 4) (ht : 31 ≤ t.val) : sc q kc b t h 0 ≠ ⊥ := by
  unfold sc
  rw [if_pos (by show 0 * 16 + 31 ≤ t.val; omega)]
  obtain ⟨c, hc⟩ := c8_real
  choose Q hQ using hq
  choose K hK using hk
  simp only [hQ, hK, hc, ← EReal.coe_mul, coe_sum_real]
  exact EReal.coe_ne_bot _

theorem pr_cut (b : Fin 2) (t : Fin 2048) (h : Fin 4) (k : Fin 127) :
    pr q kc b t h k.castSucc = prob (31 ≤ t.val) (cut (sc q kc b t h)) k := prob_succ _ _ (sc_last b t h) k

include hq hk in
theorem pr_last (b : Fin 2) (t : Fin 2048) (h : Fin 4) : pr q kc b t h (Fin.last 127) = 0 :=
  prob_masked _ _ (sc_real hq hk b t h) (fun ht => ⟨0, sc_visible hq hk b t h ht⟩) _ (sc_last b t h)

include hq hk in
theorem gs_cut (b : Fin 2) (t : Fin 2048) (h : Fin 4) (k : Fin 127) :
    gs q kc vc g b t h k.castSucc = grad (31 ≤ t.val) (cut (sc q kc b t h)) (cut (dp vc g b t h)) k :=
  grad_succ _ _ _ (sc_real hq hk b t h) (fun ht => ⟨0, sc_visible hq hk b t h ht⟩) (sc_last b t h) k

include hq hk in
theorem gs_last (b : Fin 2) (t : Fin 2048) (h : Fin 4) : gs q kc vc g b t h (Fin.last 127) = 0 :=
  grad_masked _ _ _ (sc_real hq hk b t h) (fun ht => ⟨0, sc_visible hq hk b t h ht⟩) _ (sc_last b t h)

include hq hk in
theorem ds_eq (b : Fin 2) (t : Fin 2048) (h : Fin 4) (k : Fin 127) :
    (if k.val * 16 + 31 ≤ t.val then gradQ (cut (sc q kc b t h)) (fun k => if 31 ≤ t.val then cut (dp vc g b t h) k else 0) k else 0)
      = gs q kc vc g b t h k.castSucc := by
  rw [gs_cut hq hk]
  by_cases ht : 31 ≤ t.val
  · have hx : ∀ k, cut (sc q kc b t h) k = ⊥ ∨ ∃ r : ℝ, cut (sc q kc b t h) k = (r : EReal) := fun k => sc_real hq hk b t h k.castSucc
    have h0 : cut (sc q kc b t h) 0 ≠ ⊥ := sc_visible hq hk b t h ht
    by_cases hm : k.val * 16 + 31 ≤ t.val
    · rw [if_pos hm]
      simp only [if_pos ht]
      exact (grad_eq_gradQ _ ht _ _ hx 0 h0 k).symm
    · rw [if_neg hm]
      exact (grad_masked _ _ _ hx (fun _ => ⟨0, h0⟩) k (sc_hidden b t h k.castSucc hm)).symm
  · rw [if_neg (by omega), grad_none _ ht]
end Columns

section Results
open Cert.ReferenceIdeal Cert.ReferenceIdeal.Read
variable (x0 : FVec Ideal S2x2048x2048 .f32) (x1 x2 : FVec Ideal S2x128x64 .f32) (x3 : FVec Ideal S2x2048x256 .f32)
variable (hq : ∀ b t l, ∃ r : ℝ, Qr x0 b t l = (r : EReal)) (hk : ∀ b k d, ∃ r : ℝ, Kr x1 b k d = (r : EReal))

include hq hk in
theorem ref_dq (b : Fin 2) (t : Fin 2048) (h : Fin 4) (d : Fin 64) :
    val_main_v82 (F := Ideal) x0 x1 x2 x3 (ix3 b t (lane h d))
      = (∑ k : Fin 128, gs (Qr x0) (Kr x1) (Kr x2) (Gr x3) b t h k * Kr x1 b k d) * c8 := by
  rw [r_dq, Fin.sum_univ_castSucc (n := 127), gs_last hq hk, zero_mul, add_zero]
  simp only [r_ds, ds_eq hq hk]

include hq hk in
theorem ref_dk (b : Fin 2) (k : Fin 128) (d : Fin 64) :
    val_main_v79 (F := Ideal) x0 x1 x2 x3 (ix3 b k d)
      = ∑ h : Fin 4, ∑ t : Fin 2048, gs (Qr x0) (Kr x1) (Kr x2) (Gr x3) b t h k * (Qr x0 b t (lane h d) * c8) := by
  rw [r_dk]
  by_cases hl : k.val < 127
  · have e := fun h t => (r_ds x0 x1 x2 x3 b h t ⟨k.val, hl⟩).trans (ds_eq hq hk b t h ⟨k.val, hl⟩)
    rw [dif_pos hl]
    simp only [e]
    rfl
  · rw [dif_neg hl, show k = Fin.last 127 from Fin.ext (by show k.val = 127; omega)]
    simp only [gs_last hq hk, zero_mul, Finset.sum_const_zero]

include hq hk in
theorem ref_dv (b : Fin 2) (k : Fin 128) (d : Fin 64) :
    val_main_v78 (F := Ideal) x0 x1 x3 (ix3 b k d)
      = ∑ h : Fin 4, ∑ t : Fin 2048, pr (Qr x0) (Kr x1) b t h k * Gr x3 b t (lane h d) := by
  rw [r_dv]
  by_cases hl : k.val < 127
  · rw [dif_pos hl]
    simp only [r_prob, ← pr_cut]
    rfl
  · rw [dif_neg hl, show k = Fin.last 127 from Fin.ext (by show k.val = 127; omega)]
    simp only [pr_last hq hk, zero_mul, Finset.sum_const_zero]
end Results

/-! ## The precondition -/

instance pre_facts : Cert.Pre_finite.Facts where
  slices_S2x2048x2048_S2x2048x256_0_0_1024 := by decide
  bcast_S_S2x2048x256 := by decide
  bcast_S_S2x128x64 := by decide

/-- Below infinity in size is real. -/
theorem real_of_small (x : EReal) (h : BitVec.ofBool (decide (FloatOps.absf (F := Ideal) (φ := .f32) x < Ideal.ofBits .f32 0x7F800000#32)) = 1#1) :
    ∃ r : ℝ, x = (r : EReal) := by
  have hi : Ideal.ofBits .f32 0x7F800000#32 = ⊤ := by simp [Ideal.ofBits, Ideal.ieee]
  rw [hi, show FloatOps.absf (F := Ideal) (φ := .f32) x = max x (-x) from rfl] at h
  induction x using EReal.rec with
  | bot => exfalso; revert h; simp
  | top => exfalso; revert h; simp
  | coe r => exact ⟨r, rfl⟩

theorem pre_real (x0 : FVec Ideal Cert.Pre_finite.S2x2048x2048 .f32) (x1 x2 : FVec Ideal Cert.Pre_finite.S2x128x64 .f32) (x3 : FVec Ideal Cert.Pre_finite.S2x2048x256 .f32)
    (h : (Cert.Pre_finite.fn (F := Ideal) x0 x1 x2 x3).1 = (fun _ => 1#1) ∧ (Cert.Pre_finite.fn (F := Ideal) x0 x1 x2 x3).2 = (fun _ => 1#1)) :
    (∀ b t l, ∃ r : ℝ, Qr x0 b t l = (r : EReal)) ∧ ∀ b k d, ∃ r : ℝ, Kr x1 b k d = (r : EReal) := by
  constructor
  · intro b t l
    have hi := congrFun h.1 (ix3 b t l)
    unfold Cert.Pre_finite.fn at hi
    dsimp only at hi
    revert hi
    pointwise
    intro hi
    exact real_of_small _ hi
  · intro b k d
    have hi := congrFun h.2 (ix3 b k d)
    unfold Cert.Pre_finite.fn at hi
    dsimp only at hi
    revert hi
    pointwise
    intro hi
    exact real_of_small _ hi

/-! ## The results -/

section Whole
open Cert.KernelIdeal Cert.KernelIdeal.Gen Cert.KernelIdeal.Value
variable (m : (ℓ : Loc nD τ sig) → Buf (Elt Ideal) ℓ) (c : Dev nD)
variable (hq : ∀ b t l, ∃ r : ℝ, Qr (m ((c : Thread nD τ).loc main_arg0)) b t l = (r : EReal))
  (hk : ∀ b k d, ∃ r : ℝ, Kr (m ((c : Thread nD τ).loc main_arg1)) b k d = (r : EReal))

include hq hk in
theorem dq_eq : Cert.ReferenceIdeal.Read.val_main_v82 (F := Ideal) (m ((c : Thread nD τ).loc main_arg0)) (m ((c : Thread nD τ).loc main_arg1))
    (m ((c : Thread nD τ).loc main_arg2)) (m ((c : Thread nD τ).loc main_arg3)) = G4 m c := by
  refine funext fun (i : S2x2048x256.Idx) => ?_
  obtain ⟨b, t, l, rfl⟩ : ∃ (b : Fin 2) (t : Fin 2048) (l : Fin 256), i = ix3 b t l := ⟨i 0, i 1, i 2, by
    funext a; match a with
    | ⟨0, _⟩ => rfl
    | ⟨1, _⟩ => rfl
    | ⟨2, _⟩ => rfl⟩
  obtain ⟨h, d, rfl⟩ : ∃ (h : Fin 4) (d : Fin 64), l = lane h d :=
    ⟨⟨l.val / 64, by omega⟩, ⟨l.val % 64, by omega⟩, Fin.ext (by show l.val = 64 * (l.val / 64) + l.val % 64; omega)⟩
  exact (ref_dq _ _ _ _ hq hk b t h d).trans (G4_apply m c b t h d).symm

include hq hk in
theorem dk_eq : Cert.ReferenceIdeal.Read.val_main_v79 (F := Ideal) (m ((c : Thread nD τ).loc main_arg0)) (m ((c : Thread nD τ).loc main_arg1))
    (m ((c : Thread nD τ).loc main_arg2)) (m ((c : Thread nD τ).loc main_arg3)) = G5 m c := by
  refine funext fun (i : S2x128x64.Idx) => ?_
  obtain ⟨b, k, d, rfl⟩ : ∃ (b : Fin 2) (k : Fin 128) (d : Fin 64), i = ix3 b k d := ⟨i 0, i 1, i 2, by
    funext a; match a with
    | ⟨0, _⟩ => rfl
    | ⟨1, _⟩ => rfl
    | ⟨2, _⟩ => rfl⟩
  exact (ref_dk _ _ _ _ hq hk b k d).trans (G5_apply m c b k d).symm

include hq hk in
theorem dv_eq : Cert.ReferenceIdeal.Read.val_main_v78 (F := Ideal) (m ((c : Thread nD τ).loc main_arg0)) (m ((c : Thread nD τ).loc main_arg1))
    (m ((c : Thread nD τ).loc main_arg3)) = G6 m c := by
  refine funext fun (i : S2x128x64.Idx) => ?_
  obtain ⟨b, k, d, rfl⟩ : ∃ (b : Fin 2) (k : Fin 128) (d : Fin 64), i = ix3 b k d := ⟨i 0, i 1, i 2, by
    funext a; match a with
    | ⟨0, _⟩ => rfl
    | ⟨1, _⟩ => rfl
    | ⟨2, _⟩ => rfl⟩
  exact (ref_dv _ _ _ hq hk b k d).trans (G6_apply m c b k d).symm
end Whole

end Cert.CmpGrad
end
-- ==== Proof.DownDx.lean ====
/-
  The channel mixer's gradient at the gate and the up product: the kernel multiplies the incoming gradient by the
  transposed down weights block by block and differentiates the gated activation in the same pass, with the slope of
  `x · logistic x` factored; the reference contracts all 2816 columns' weights and adds the slope's two terms.
-/
module

public import proofs.«01_k».proof.Defs
public import proofs.«01_k».proof.Proof.Gen.Kernel2Ideal.Value
public import proofs.«01_k».proof.Proof.Gen.Reference2Ideal.Read
public import proofs.«01_k».proof.Proof.Join
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.DownDx

open Idealize.ShloMosaic Idealize.SL.Sem Idealize.ShloMosaic.TcCoe Idealize.ShloMosaic.Tactic
open Cert.Kernel2Ideal Cert.Kernel2Ideal.Gen Cert.Kernel2Ideal.Value

/-- A block's column as a column of the whole, and a tile's row as a row of the whole. -/
abbrev col (j : Fin 4) (l : Fin 704) : Fin 2816 := ⟨704 * j.val + l.val, by omega⟩
abbrev row (i : Fin 2) (r : Fin 2048) : Fin 4096 := ⟨2048 * i.val + r.val, by omega⟩

/-! ## One element: the slope factored and the slope's two terms -/

/-- The gate's gradient as the kernel writes it, from the gradient at the gated product, the up product and the gate. -/
def gateK (d u g : EReal) : EReal := d * u * (Ideal.logistic g * (1 + g * (1 - Ideal.logistic g)))
/-- The same as the reference writes it. -/
def gateR (d u g : EReal) : EReal := d * u * Ideal.logistic g + g * (d * u) * (Ideal.logistic g * (1 - Ideal.logistic g))
/-- The up product's gradient. -/
def upK (d g : EReal) : EReal := d * (g * Ideal.logistic g)

/-- They agree wherever the gradient and the up product are real, whatever the gate: at an infinite gate both are the
    limit's. -/
theorem gate_eq (d u : ℝ) (g : EReal) : gateK d u g = gateR d u g := by
  unfold gateK gateR
  rw [← EReal.coe_mul]
  induction g using EReal.rec with
  | bot => rw [Ideal.logistic_bot]; simp
  | top =>
    rw [Ideal.logistic_top, show (1 : EReal) - 1 = 0 from by rw [← EReal.coe_one, ← EReal.coe_sub, sub_self, EReal.coe_zero]]
    simp
  | coe g =>
    rw [Ideal.logistic_coe]
    generalize (1 + Real.exp (-g))⁻¹ = s
    rw [← EReal.coe_one]
    simp only [← EReal.coe_sub, ← EReal.coe_mul, ← EReal.coe_add]
    congr 1; ring

/-! ## The kernel's block -/

/-- The gradient at the gated product, on one block. -/
def dsum (x0 : Vec Ideal S2048x1024 .bf16) (x1 : Vec Ideal S1x704x1024 .bf16) (r : Fin 2048) (l : Fin 704) : EReal :=
  ∑ k : Fin 1024, x0 (ix2 r k) * x1 (ix3 (0 : Fin 1) l k)

theorem pay1_apply (x0 : Vec Ideal S2048x1024 .bf16) (x1 : Vec Ideal S1x704x1024 .bf16) (r : Fin 2048) (l : Fin 704) :
    k0_pay1 (F := Ideal) x0 x1 (ix2 r l) = dsum x0 x1 r l := by
  unfold k0_pay1 dsum
  pointwise

theorem pay2_apply (g : Vec Ideal S1x1x2048x704 .bf16) (r : Fin 2048) (l : Fin 704) :
    k0_pay2 (F := Ideal) g (ix2 r l) = g (ix4 (0 : Fin 1) (0 : Fin 1) r l) := by
  unfold k0_pay2
  pointwise

theorem pay3_apply (g : Vec Ideal S1x1x2048x704 .bf16) (r : Fin 2048) (l : Fin 704) :
    k0_pay3 (F := Ideal) g (ix2 r l) = Ideal.logistic (g (ix4 (0 : Fin 1) (0 : Fin 1) r l)) := by
  unfold k0_pay3
  show Ideal.logistic _ = _
  rw [pay2_apply]

theorem pay4_apply (x0 : Vec Ideal S2048x1024 .bf16) (x1 : Vec Ideal S1x704x1024 .bf16) (g u : Vec Ideal S1x1x2048x704 .bf16) (r : Fin 2048) (l : Fin 704) :
    k0_pay4 (F := Ideal) x0 x1 g u (ix4 (0 : Fin 1) (0 : Fin 1) r l)
      = gateK (dsum x0 x1 r l) (u (ix4 (0 : Fin 1) (0 : Fin 1) r l)) (g (ix4 (0 : Fin 1) (0 : Fin 1) r l)) := by
  have h1 := pay1_apply x0 x1 r l
  have h2 := pay2_apply g r l
  have h3 := pay3_apply g r l
  unfold k0_pay4
  generalize k0_pay1 (F := Ideal) x0 x1 = y1 at *
  generalize k0_pay2 (F := Ideal) g = y2 at *
  generalize k0_pay3 (F := Ideal) g = y3 at *
  pointwise
  rw [h1, h2, h3]; rfl

theorem pay5_apply (x0 : Vec Ideal S2048x1024 .bf16) (x1 : Vec Ideal S1x704x1024 .bf16) (g : Vec Ideal S1x1x2048x704 .bf16) (r : Fin 2048) (l : Fin 704) :
    k0_pay5 (F := Ideal) x0 x1 g (ix4 (0 : Fin 1) (0 : Fin 1) r l) = upK (dsum x0 x1 r l) (g (ix4 (0 : Fin 1) (0 : Fin 1) r l)) := by
  have h1 := pay1_apply x0 x1 r l
  have h2 := pay2_apply g r l
  have h3 := pay3_apply g r l
  unfold k0_pay5
  generalize k0_pay1 (F := Ideal) x0 x1 = y1 at *
  generalize k0_pay2 (F := Ideal) g = y2 at *
  generalize k0_pay3 (F := Ideal) g = y3 at *
  pointwise
  rw [h1, h2, h3]; rfl

/-- A half of the staged pair, loaded. -/
theorem ld_half (x : Vec Ideal S2x1x2048x704 .bf16) (p : Fin 2) (inb : ∀ a, (![p.val, 0, 0, 0] : Fin 4 → Nat) a + S1x1x2048x704.size a ≤ S2x1x2048x704.size a) (r : Fin 2048) (l : Fin 704) :
    View.ld x (Rect.unit (s := S2x1x2048x704) ![p.val, 0, 0, 0] S1x1x2048x704.size inb) (ix4 (0 : Fin 1) (0 : Fin 1) r l) = x (ix4 p (0 : Fin 1) r l) := by
  show x _ = x _
  congr 1; funext a; apply Fin.ext
  match a with
  | ⟨0, _⟩ => show p.val + 1 * 0 = p.val; omega
  | ⟨1, _⟩ => rfl
  | ⟨2, _⟩ => show 0 + 1 * r.val = r.val; omega
  | ⟨3, _⟩ => show 0 + 1 * l.val = l.val; omega

theorem emb_half (p : Fin 2) (inb : ∀ a, (![p.val, 0, 0, 0] : Fin 4 → Nat) a + S1x1x2048x704.size a ≤ S2x1x2048x704.size a) (r : Fin 2048) (l : Fin 704) :
    (Rect.unit (s := S2x1x2048x704) ![p.val, 0, 0, 0] S1x1x2048x704.size inb).emb (ix4 (0 : Fin 1) (0 : Fin 1) r l) = ix4 p (0 : Fin 1) r l := by
  funext a; apply Fin.ext
  match a with
  | ⟨0, _⟩ => show p.val + 1 * 0 = p.val; omega
  | ⟨1, _⟩ => rfl
  | ⟨2, _⟩ => show 0 + 1 * r.val = r.val; omega
  | ⟨3, _⟩ => show 0 + 1 * l.val = l.val; omega

theorem ld_0 (x0 : Vec Ideal S2048x1024 .bf16) : View.ld x0 r0_0 = x0 := by
  have h : (![0, 0] : Fin S2048x1024.rank → Nat) = fun _ => 0 := funext fun a => by fin_cases a <;> rfl
  rw [View.ld_unit_zero h]
theorem ld_1 (x1 : Vec Ideal S1x704x1024 .bf16) : View.ld x1 r0_1 = x1 := by
  have h : (![0, 0, 0] : Fin S1x704x1024.rank → Nat) = fun _ => 0 := funext fun a => by fin_cases a <;> rfl
  rw [View.ld_unit_zero h]

/-- What the body leaves: the up product's gradient in the second half, -/
theorem out_up (x0 : Vec Ideal S2048x1024 .bf16) (x1 : Vec Ideal S1x704x1024 .bf16) (x2 : Vec Ideal S2x1x2048x704 .bf16) (r : Fin 2048) (l : Fin 704) :
    out0_3 (F := Ideal) x0 x1 x2 (ix4 (1 : Fin 2) (0 : Fin 1) r l) = upK (dsum x0 x1 r l) (x2 (ix4 (0 : Fin 2) (0 : Fin 1) r l)) := by
  unfold out0_3
  rw [ld_0, ld_1]
  refine (congrArg _ (emb_half 1 inb_S2x1x2048x704_S1x1x2048x704_1_0_0_0 r l).symm).trans ?_
  refine (View.canon_cons_emb r0_3 _ _ (ix4 (0 : Fin 1) (0 : Fin 1) r l)).trans ?_
  refine (pay5_apply _ _ _ r l).trans (congrArg (upK _) ?_)
  exact ld_half x2 0 inb_S2x1x2048x704_S1x1x2048x704_0_0_0_0 r l

/-- and the gate's in the first. -/
theorem out_gate (x0 : Vec Ideal S2048x1024 .bf16) (x1 : Vec Ideal S1x704x1024 .bf16) (x2 : Vec Ideal S2x1x2048x704 .bf16) (r : Fin 2048) (l : Fin 704) :
    out0_3 (F := Ideal) x0 x1 x2 (ix4 (0 : Fin 2) (0 : Fin 1) r l)
      = gateK (dsum x0 x1 r l) (x2 (ix4 (1 : Fin 2) (0 : Fin 1) r l)) (x2 (ix4 (0 : Fin 2) (0 : Fin 1) r l)) := by
  unfold out0_3
  rw [ld_0, ld_1]
  rw [View.canon_cons_of_not_mem]
  · refine (congrArg _ (emb_half 0 inb_S2x1x2048x704_S1x1x2048x704_0_0_0_0 r l).symm).trans ?_
    refine (View.canon_cons_emb r0_2 _ _ (ix4 (0 : Fin 1) (0 : Fin 1) r l)).trans ?_
    exact (pay4_apply _ _ _ _ r l).trans (congrArg₂ (gateK _) (ld_half x2 1 inb_S2x1x2048x704_S1x1x2048x704_1_0_0_0 r l)
      (ld_half x2 0 inb_S2x1x2048x704_S1x1x2048x704_0_0_0_0 r l))
  · intro hy
    rw [Rect.mem_set_unit] at hy
    have h : 1 ≤ 0 := (hy 0).1
    omega

/-! ## The kernel's array -/

variable (m : (ℓ : Loc nD τ sig) → Buf (Elt Ideal) ℓ) (c : Dev nD)

/-- The grid point of a tile of rows and a block of columns. -/
abbrev pt (i : Fin 2) (j : Fin 4) : Fin cfg0.N := ⟨4 * i.val + j.val, lt_of_lt_of_eq (show 4 * i.val + j.val < 8 by omega) (show 8 = cfg0.N from N_0.symm)⟩

/-- The printed index maps, decided over the grid. -/
theorem idx : ∀ t : Fin grid0.N,
    (win0_0.index t 0 = t.val / 4 ∧ win0_0.index t 1 = 0)
    ∧ (win0_1.index t 0 = t.val % 4 ∧ win0_1.index t 1 = 0 ∧ win0_1.index t 2 = 0)
    ∧ (win0_2.index t 0 = 0 ∧ win0_2.index t 1 = t.val % 4 ∧ win0_2.index t 2 = t.val / 4 ∧ win0_2.index t 3 = 0)
    ∧ (win0_3.index t 0 = 0 ∧ win0_3.index t 1 = t.val % 4 ∧ win0_3.index t 2 = t.val / 4 ∧ win0_3.index t 3 = 0) := by
  decide +kernel

theorem pt_div (i : Fin 2) (j : Fin 4) : (pt i j).val / 4 = i.val := by show (4 * i.val + j.val) / 4 = _; omega
theorem pt_mod (i : Fin 2) (j : Fin 4) : (pt i j).val % 4 = j.val := by show (4 * i.val + j.val) % 4 = _; omega

theorem blk_a (i : Fin 2) (j : Fin 4) (r : Fin 2048) (k : Fin 1024) :
    (iblk m c 0 (pt i j) : Vec Ideal S2048x1024 .bf16) (ix2 r k) = (m ((c : Thread nD τ).loc main_arg0) : FVec Ideal S4096x1024 .bf16) (ix2 (row i r) k) := by
  obtain ⟨⟨e0, e1⟩, -, -, -⟩ := idx (pt i j)
  unfold iblk
  rw [View.read_apply]
  show V m c main_arg0 _ = _
  rw [V_main_arg0]
  congr 1; funext a; apply Fin.ext
  match a with
  | ⟨0, _⟩ => show win0_0.index (pt i j) 0 * 2048 + 1 * r.val = 2048 * i.val + r.val; rw [e0, pt_div]; omega
  | ⟨1, _⟩ => show win0_0.index (pt i j) 1 * 1024 + 1 * k.val = k.val; rw [e1]; omega

theorem blk_b (i : Fin 2) (j : Fin 4) (l : Fin 704) (k : Fin 1024) :
    (iblk m c 1 (pt i j) : Vec Ideal S1x704x1024 .bf16) (ix3 (0 : Fin 1) l k) = (m ((c : Thread nD τ).loc main_arg1) : FVec Ideal S4x704x1024 .bf16) (ix3 j l k) := by
  obtain ⟨-, ⟨e0, e1, e2⟩, -, -⟩ := idx (pt i j)
  unfold iblk
  rw [View.read_apply]
  show V m c main_arg1 _ = _
  rw [V_main_arg1]
  congr 1; funext a; apply Fin.ext
  match a with
  | ⟨0, _⟩ => show win0_1.index (pt i j) 0 * 1 + 1 * 0 = j.val; rw [e0, pt_mod]; omega
  | ⟨1, _⟩ => show win0_1.index (pt i j) 1 * 704 + 1 * l.val = l.val; rw [e1]; omega
  | ⟨2, _⟩ => show win0_1.index (pt i j) 2 * 1024 + 1 * k.val = k.val; rw [e2]; omega

theorem blk_c (i : Fin 2) (j : Fin 4) (p : Fin 2) (r : Fin 2048) (l : Fin 704) :
    (iblk m c 2 (pt i j) : Vec Ideal S2x1x2048x704 .bf16) (ix4 p (0 : Fin 1) r l) = (m ((c : Thread nD τ).loc main_arg2) : FVec Ideal S2x4x4096x704 .bf16) (ix4 p j (row i r) l) := by
  obtain ⟨-, -, ⟨e0, e1, e2, e3⟩, -⟩ := idx (pt i j)
  unfold iblk
  rw [View.read_apply]
  show V m c main_arg2 _ = _
  rw [V_main_arg2]
  congr 1; funext a; apply Fin.ext
  match a with
  | ⟨0, _⟩ => show win0_2.index (pt i j) 0 * 2 + 1 * p.val = p.val; rw [e0]; omega
  | ⟨1, _⟩ => show win0_2.index (pt i j) 1 * 1 + 1 * 0 = j.val; rw [e1, pt_mod]; omega
  | ⟨2, _⟩ => show win0_2.index (pt i j) 2 * 2048 + 1 * r.val = 2048 * i.val + r.val; rw [e2, pt_div]; omega
  | ⟨3, _⟩ => show win0_2.index (pt i j) 3 * 704 + 1 * l.val = l.val; rw [e3]; omega

/-- The gradient at the gated product. -/
def dg (x0 : FVec Ideal S4096x1024 .bf16) (x1 : FVec Ideal S4x704x1024 .bf16) (j : Fin 4) (t : Fin 4096) (l : Fin 704) : EReal :=
  ∑ k : Fin 1024, x0 (ix2 t k) * x1 (ix3 j l k)

/-- The arrays the kernel is given. -/
abbrev X0 : FVec Ideal S4096x1024 .bf16 := m ((c : Thread nD τ).loc main_arg0)
abbrev X1 : FVec Ideal S4x704x1024 .bf16 := m ((c : Thread nD τ).loc main_arg1)
abbrev X2 : FVec Ideal S2x4x4096x704 .bf16 := m ((c : Thread nD τ).loc main_arg2)

theorem dsum_blk (i : Fin 2) (j : Fin 4) (r : Fin 2048) (l : Fin 704) :
    dsum (iblk m c 0 (pt i j)) (iblk m c 1 (pt i j)) r l = dg (X0 m c) (X1 m c) j (row i r) l :=
  Finset.sum_congr rfl fun k _ => congrArg₂ (· * ·) (blk_a m c i j r k) (blk_b m c i j l k)

theorem emb_out (i : Fin 2) (j : Fin 4) (p : Fin 2) (r : Fin 2048) (l : Fin 704) :
    ((cfg0.win 3).blk (pt i j)).view.emb (ix4 p (0 : Fin 1) r l) = ix4 p j (row i r) l := by
  obtain ⟨-, -, -, ⟨e0, e1, e2, e3⟩⟩ := idx (pt i j)
  funext a; apply Fin.ext
  match a with
  | ⟨0, _⟩ => show win0_3.index (pt i j) 0 * 2 + 1 * p.val = p.val; rw [e0]; omega
  | ⟨1, _⟩ => show win0_3.index (pt i j) 1 * 1 + 1 * 0 = j.val; rw [e1, pt_mod]; omega
  | ⟨2, _⟩ => show win0_3.index (pt i j) 2 * 2048 + 1 * r.val = 2048 * i.val + r.val; rw [e2, pt_div]; omega
  | ⟨3, _⟩ => show win0_3.index (pt i j) 3 * 704 + 1 * l.val = l.val; rw [e3]; omega

theorem kernel_apply (i : Fin 2) (j : Fin 4) (p : Fin 2) (r : Fin 2048) (l : Fin 704) :
    ((dats m 0 c).arrAt 3 cfg0.N : FVec Ideal S2x4x4096x704 .bf16) (ix4 p j (row i r) l)
      = out0_3 (F := Ideal) (iblk m c 0 (pt i j)) (iblk m c 1 (pt i j)) (iblk m c 2 (pt i j)) (ix4 p (0 : Fin 1) r l) := by
  have h := congrFun (blocks3 m c (pt i j) (flush0_3 _)) (ix4 p (0 : Fin 1) r l)
  rw [View.read_apply, flushed3, emb_out] at h
  exact h

theorem kernel_gate (i : Fin 2) (j : Fin 4) (r : Fin 2048) (l : Fin 704) :
    ((dats m 0 c).arrAt 3 cfg0.N : FVec Ideal S2x4x4096x704 .bf16) (ix4 (0 : Fin 2) j (row i r) l)
      = gateK (dg (X0 m c) (X1 m c) j (row i r) l) (X2 m c (ix4 (1 : Fin 2) j (row i r) l)) (X2 m c (ix4 (0 : Fin 2) j (row i r) l)) := by
  refine (kernel_apply m c i j 0 r l).trans ((out_gate _ _ _ r l).trans ?_)
  rw [dsum_blk]
  exact congrArg₂ (gateK _) (blk_c m c i j 1 r l) (blk_c m c i j 0 r l)

theorem kernel_up (i : Fin 2) (j : Fin 4) (r : Fin 2048) (l : Fin 704) :
    ((dats m 0 c).arrAt 3 cfg0.N : FVec Ideal S2x4x4096x704 .bf16) (ix4 (1 : Fin 2) j (row i r) l)
      = upK (dg (X0 m c) (X1 m c) j (row i r) l) (X2 m c (ix4 (0 : Fin 2) j (row i r) l)) := by
  refine (kernel_apply m c i j 1 r l).trans ((out_up _ _ _ r l).trans ?_)
  rw [dsum_blk]
  exact congrArg (upK _) (blk_c m c i j 0 r l)

/-! ## The reference's array -/

section Reference
open Cert.Reference2Ideal.Read

variable (x0 : FVec Ideal S4096x1024 .bf16) (x1 : FVec Ideal S4x704x1024 .bf16) (x2 : FVec Ideal S2x4x4096x704 .bf16)
variable (j : Fin 4) (t : Fin 4096) (l : Fin 704)

theorem div_col (j : Fin 4) (l : Fin 704) : (⟨(704 * j.val + l.val) / 704, by omega⟩ : Fin 4) = j := Fin.ext (by show (704 * j.val + l.val) / 704 = j.val; omega)
theorem mod_col (j : Fin 4) (l : Fin 704) : (⟨(704 * j.val + l.val) % 704, by omega⟩ : Fin 704) = l := Fin.ext (by show (704 * j.val + l.val) % 704 = l.val; omega)

theorem r_gate : val_main_v4 (F := Ideal) x2 (ix2 t (col j l)) = x2 (ix4 (0 : Fin 2) j t l) := by
  unfold val_main_v4 val_main_v3 val_main_v2 val_main_v1 val_main_v0
  pointwise
  exact congrArg₂ (fun a b => x2 (ix4 (0 : Fin 2) a t b)) (div_col j l) (mod_col j l)

theorem r_up : val_main_v8 (F := Ideal) x2 (ix2 t (col j l)) = x2 (ix4 (1 : Fin 2) j t l) := by
  unfold val_main_v8 val_main_v7 val_main_v6 val_main_v5 val_main_v0
  pointwise
  exact congrArg₂ (fun a b => x2 (ix4 (1 : Fin 2) a t b)) (div_col j l) (mod_col j l)

theorem r_w (k : Fin 1024) : val_main_v12 (F := Ideal) x1 (ix2 (col j l) k) = x1 (ix3 j l k) := by
  unfold val_main_v12 val_main_v11
  pointwise
  exact congrArg₂ (fun a b => x1 (ix3 a b k)) (div_col j l) (mod_col j l)

theorem r_d : val_main_v15 (F := Ideal) x0 x1 (ix2 t (col j l)) = dg x0 x1 j t l := by
  have h := fun k => r_w x1 j l k
  unfold val_main_v15 val_main_v14 dg
  generalize val_main_v12 (F := Ideal) x1 = y at *
  pointwise
  exact Finset.sum_congr rfl fun k _ => congrArg _ (h k)

theorem r_s : val_main_v9_2 (F := Ideal) x2 (ix2 t (col j l)) = Ideal.logistic (x2 (ix4 (0 : Fin 2) j t l)) := by
  have h := r_gate x2 j t l
  unfold val_main_v9_2 val_main_call0_v3 val_main_call0_v1 val_main_call0_v0 val_main_call0_v2 val_main_call0_v4 val_main_call0_cst val_main_call0_cst_0
  generalize val_main_v4 (F := Ideal) x2 = y at *
  pointwise
  rw [h]; rfl

theorem r_18 : val_main_v18 (F := Ideal) x0 x1 x2 (ix2 t (col j l))
    = gateR (dg x0 x1 j t l) (x2 (ix4 (1 : Fin 2) j t l)) (x2 (ix4 (0 : Fin 2) j t l)) := by
  have h1 := r_gate x2 j t l
  have h2 := r_up x2 j t l
  have h3 := r_d x0 x1 j t l
  have h4 := r_s x2 j t l
  unfold val_main_v18 val_main_call1_v2 val_main_call1_v1 val_main_call1_v0 val_main_v17 val_main_v9_1 val_main_call0_v7 val_main_call0_v6 val_main_call0_cst_1
  generalize val_main_v4 (F := Ideal) x2 = y1 at *
  generalize val_main_v8 (F := Ideal) x2 = y2 at *
  generalize val_main_v15 (F := Ideal) x0 x1 = y3 at *
  generalize val_main_v9_2 (F := Ideal) x2 = y4 at *
  pointwise
  rw [h1, h2, h3, h4]; rfl

theorem r_16 : val_main_v16 (F := Ideal) x0 x1 x2 (ix2 t (col j l)) = upK (dg x0 x1 j t l) (x2 (ix4 (0 : Fin 2) j t l)) := by
  have h1 := r_gate x2 j t l
  have h3 := r_d x0 x1 j t l
  have h4 := r_s x2 j t l
  unfold val_main_v16 val_main_v9_0
  generalize val_main_v4 (F := Ideal) x2 = y1 at *
  generalize val_main_v15 (F := Ideal) x0 x1 = y3 at *
  generalize val_main_v9_2 (F := Ideal) x2 = y4 at *
  pointwise
  rw [h1, h3, h4]; exact mul_comm _ _

theorem ref_gate : val_main_v28 (F := Ideal) x0 x1 x2 (ix4 (0 : Fin 2) j t l) = val_main_v18 (F := Ideal) x0 x1 x2 (ix2 t (col j l)) := by
  unfold val_main_v28 val_main_v27 val_main_v22 val_main_v26 val_main_v25 val_main_v24 val_main_v23 val_main_v21 val_main_cst val_main_cst_0
  generalize val_main_v18 (F := Ideal) x0 x1 x2 = y1 at *
  generalize val_main_v20 (F := Ideal) x0 x1 x2 = y2 at *
  pointwise
  exact congrArg (fun a => y1 (ix2 t a)) (Fin.ext (by show j.val * 704 + l.val = 704 * j.val + l.val; omega))

theorem ref_up : val_main_v28 (F := Ideal) x0 x1 x2 (ix4 (1 : Fin 2) j t l) = val_main_v16 (F := Ideal) x0 x1 x2 (ix2 t (col j l)) := by
  unfold val_main_v28 val_main_v27 val_main_v22 val_main_v26 val_main_v25 val_main_v21 val_main_v20 val_main_v19 val_main_cst val_main_cst_0
  generalize val_main_v16 (F := Ideal) x0 x1 x2 = y1 at *
  generalize val_main_v24 (F := Ideal) x0 x1 x2 = y2 at *
  pointwise
  exact congrArg (fun a => y1 (ix2 t a)) (Fin.ext (by show j.val * 704 + l.val = 704 * j.val + l.val; omega))

end Reference

/-! ## Together -/

instance pre_facts : Cert.Pre_tame.Facts where
  bitsLt_bf16_f32 := by decide
  bcast_S_S4096x1024 := by decide
  bcast_S_S4x704x1024 := by decide
  slices_S2x4x4096x704_S1x4x4096x704_1_0_0_0 := by decide
  shapeCasts_S1x4x4096x704_S4x4096x704 := by decide
  bcast_S_S4x4096x704 := by decide

/-- The precondition read: the gradient, the weights and the up product are real. -/
theorem pre_real (x0 : FVec Ideal S4096x1024 .bf16) (x1 : FVec Ideal S4x704x1024 .bf16) (x2 : FVec Ideal S2x4x4096x704 .bf16)
    (h : (Cert.Pre_tame.fn (F := Ideal) x0 x1 x2).1 = (fun _ => 1#1) ∧ (Cert.Pre_tame.fn (F := Ideal) x0 x1 x2).2.1 = (fun _ => 1#1)
      ∧ (Cert.Pre_tame.fn (F := Ideal) x0 x1 x2).2.2 = (fun _ => 1#1)) :
    (∀ t k, ∃ r : ℝ, x0 (ix2 t k) = (r : EReal)) ∧ (∀ j l k, ∃ r : ℝ, x1 (ix3 j l k) = (r : EReal))
      ∧ ∀ j t l, ∃ r : ℝ, x2 (ix4 (1 : Fin 2) j t l) = (r : EReal) := by
  refine ⟨fun t k => ?_, fun j l k => ?_, fun j t l => ?_⟩
  · have hi := congrFun h.1 (ix2 t k)
    unfold Cert.Pre_tame.fn at hi
    dsimp only at hi
    revert hi
    pointwise
    intro hi
    exact CmpGrad.real_of_small _ hi
  · have hi := congrFun h.2.1 (ix3 j l k)
    unfold Cert.Pre_tame.fn at hi
    dsimp only at hi
    revert hi
    pointwise
    intro hi
    exact CmpGrad.real_of_small _ hi
  · have hi := congrFun h.2.2 (ix3 j t l)
    unfold Cert.Pre_tame.fn at hi
    dsimp only at hi
    revert hi
    pointwise
    intro hi
    exact CmpGrad.real_of_small _ hi

theorem dg_real (x0 : FVec Ideal S4096x1024 .bf16) (x1 : FVec Ideal S4x704x1024 .bf16) (h0 : ∀ t k, ∃ r : ℝ, x0 (ix2 t k) = (r : EReal))
    (h1 : ∀ j l k, ∃ r : ℝ, x1 (ix3 j l k) = (r : EReal)) (j : Fin 4) (t : Fin 4096) (l : Fin 704) : ∃ r : ℝ, dg x0 x1 j t l = (r : EReal) := by
  choose a ha using h0
  choose b hb using h1
  refine ⟨∑ k : Fin 1024, a t k * b j l k, ?_⟩
  unfold dg
  rw [← CmpGrad.coe_sum_real]
  exact Finset.sum_congr rfl fun k _ => by rw [ha, hb, EReal.coe_mul]

theorem value_eq (h : (Cert.Pre_tame.fn (F := Ideal) (X0 m c) (X1 m c) (X2 m c)).1 = (fun _ => 1#1)
      ∧ (Cert.Pre_tame.fn (F := Ideal) (X0 m c) (X1 m c) (X2 m c)).2.1 = (fun _ => 1#1)
      ∧ (Cert.Pre_tame.fn (F := Ideal) (X0 m c) (X1 m c) (X2 m c)).2.2 = (fun _ => 1#1)) :
    Cert.Reference2Ideal.Read.val_main_v28 (F := Ideal) (X0 m c) (X1 m c) (X2 m c) = (dats m 0 c).arrAt 3 cfg0.N := by
  obtain ⟨h0, h1, h2⟩ := pre_real _ _ _ h
  refine funext fun (i : S2x4x4096x704.Idx) => ?_
  obtain ⟨p, j, q, r, l, rfl⟩ : ∃ (p : Fin 2) (j : Fin 4) (q : Fin 2) (r : Fin 2048) (l : Fin 704), i = ix4 p j (row q r) l := by
    have hi : (i 2).val < 4096 := (i 2).isLt
    refine ⟨i 0, i 1, ⟨(i 2).val / 2048, by omega⟩, ⟨(i 2).val % 2048, by omega⟩, i 3, ?_⟩
    funext a; match a with
    | ⟨0, _⟩ => rfl
    | ⟨1, _⟩ => rfl
    | ⟨2, _⟩ => exact Fin.ext (by show (i 2).val = 2048 * ((i 2).val / 2048) + (i 2).val % 2048; omega)
    | ⟨3, _⟩ => rfl
  obtain ⟨d, hd⟩ := dg_real _ _ h0 h1 j (row q r) l
  obtain ⟨u, hu⟩ := h2 j (row q r) l
  match p with
  | ⟨0, _⟩ =>
    refine (ref_gate _ _ _ j (row q r) l).trans ((r_18 _ _ _ j (row q r) l).trans (Eq.trans ?_ (kernel_gate m c q j r l).symm))
    rw [hd, hu]
    exact (gate_eq d u _).symm
  | ⟨1, _⟩ => exact (ref_up _ _ _ j (row q r) l).trans ((r_16 _ _ _ j (row q r) l).trans (kernel_up m c q j r l).symm)

/-! ## The claims -/

/-- The reference runs on the host alone: its run keeps the arguments, and it has no semaphore. -/
theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_reference_tame : Cert.quiescent_Reference2Ideal_pre_tame := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The kernel's array is the reference's: the gradients of the gate and of the up product. -/
theorem algebraic : Cert.algebraic_Kernel2Ideal_Reference2Ideal_pre_tame := by
  intro m ρ m' ρ' hpre hagree
  refine ⟨fun c => (dats m 0 c).arrAt 3 cfg0.N, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨e0, e1, e2⟩ := hagree c
  refine ⟨(h c).1.trans ((Cert.Reference2Ideal.Read.val_main_v28_eq m' c).trans ?_), (h c).2⟩
  rw [e0, e1, e2]
  exact value_eq m c (hpre c)

end Cert.DownDx

end
-- ==== Proof.DownDw.lean ====
/-
  The gradient of the down weights: every block of 704 rows is the product of that block of the transposed activations
  with the incoming gradient, in the kernel and in the reference.
-/
module

public import proofs.«01_k».proof.Defs
public import proofs.«01_k».proof.Proof.Gen.Kernel3Ideal.Value
public import proofs.«01_k».proof.Proof.Gen.Reference3Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.DownDw

open Idealize.ShloMosaic Idealize.SL.Sem Idealize.ShloMosaic.TcCoe Idealize.ShloMosaic.Tactic
open Cert.Kernel3Ideal Cert.Kernel3Ideal.Gen Cert.Kernel3Ideal.Value

/-- A block's row as a row of the whole. -/
abbrev row (j : Fin 4) (r : Fin 704) : Fin 2816 := ⟨704 * j.val + r.val, by omega⟩

theorem div_row (j : Fin 4) (r : Fin 704) : (⟨(704 * j.val + r.val) / 704, by omega⟩ : Fin 4) = j := Fin.ext (by show (704 * j.val + r.val) / 704 = j.val; omega)
theorem mod_row (j : Fin 4) (r : Fin 704) : (⟨(704 * j.val + r.val) % 704, by omega⟩ : Fin 704) = r := Fin.ext (by show (704 * j.val + r.val) % 704 = r.val; omega)

theorem pay_apply (x0 : Vec Ideal S1x4096x704 .bf16) (x1 : Vec Ideal S4096x1024 .bf16) (r : Fin 704) (l : Fin 1024) :
    k0_pay1 (F := Ideal) x0 x1 (ix3 (0 : Fin 1) r l) = ∑ k : Fin 4096, x0 (ix3 (0 : Fin 1) k r) * x1 (ix2 k l) := by
  unfold k0_pay1
  pointwise

theorem out_eq (x0 : Vec Ideal S1x4096x704 .bf16) (x1 : Vec Ideal S4096x1024 .bf16) : out0_2 (F := Ideal) x0 x1 = k0_pay1 x0 x1 := by
  have h2 : (![0, 0] : Fin S4096x1024.rank → Nat) = fun _ => 0 := funext fun a => by fin_cases a <;> rfl
  have h3 : (![0, 0, 0] : Fin S1x4096x704.rank → Nat) = fun _ => 0 := funext fun a => by fin_cases a <;> rfl
  have h4 : (![0, 0, 0] : Fin S1x704x1024.rank → Nat) = fun _ => 0 := funext fun a => by fin_cases a <;> rfl
  unfold out0_2
  rw [View.canon_unit_zero h4, View.ld_unit_zero h3, View.ld_unit_zero h2]

variable (m : (ℓ : Loc nD τ sig) → Buf (Elt Ideal) ℓ) (c : Dev nD)

/-- The arrays the kernel is given. -/
abbrev X0 : FVec Ideal S4x4096x704 .bf16 := m ((c : Thread nD τ).loc main_arg0)
abbrev X1 : FVec Ideal S4096x1024 .bf16 := m ((c : Thread nD τ).loc main_arg1)

/-- The printed index maps, decided over the grid: the block of rows is the point's number. -/
theorem idx : ∀ t : Fin grid0.N,
    (win0_0.index t 0 = t.val ∧ win0_0.index t 1 = 0 ∧ win0_0.index t 2 = 0)
    ∧ (win0_1.index t 0 = 0 ∧ win0_1.index t 1 = 0)
    ∧ (win0_2.index t 0 = t.val ∧ win0_2.index t 1 = 0 ∧ win0_2.index t 2 = 0) := by
  decide +kernel

/-- The grid point of a block of rows. -/
abbrev pt (j : Fin 4) : Fin cfg0.N := ⟨j.val, lt_of_lt_of_eq j.isLt (show 4 = cfg0.N from N_0.symm)⟩

theorem blk_a (j : Fin 4) (k : Fin 4096) (r : Fin 704) :
    (iblk m c 0 (pt j) : Vec Ideal S1x4096x704 .bf16) (ix3 (0 : Fin 1) k r) = X0 m c (ix3 j k r) := by
  obtain ⟨⟨e0, e1, e2⟩, -, -⟩ := idx (pt j)
  unfold iblk
  rw [View.read_apply]
  show V m c main_arg0 _ = _
  rw [V_main_arg0]
  congr 1; funext a; apply Fin.ext
  match a with
  | ⟨0, _⟩ => show win0_0.index (pt j) 0 * 1 + 1 * 0 = j.val; rw [e0]; show j.val * 1 + 1 * 0 = j.val; omega
  | ⟨1, _⟩ => show win0_0.index (pt j) 1 * 4096 + 1 * k.val = k.val; rw [e1]; omega
  | ⟨2, _⟩ => show win0_0.index (pt j) 2 * 704 + 1 * r.val = r.val; rw [e2]; omega

theorem blk_b (j : Fin 4) (k : Fin 4096) (l : Fin 1024) :
    (iblk m c 1 (pt j) : Vec Ideal S4096x1024 .bf16) (ix2 k l) = X1 m c (ix2 k l) := by
  obtain ⟨-, ⟨e0, e1⟩, -⟩ := idx (pt j)
  unfold iblk
  rw [View.read_apply]
  show V m c main_arg1 _ = _
  rw [V_main_arg1]
  congr 1; funext a; apply Fin.ext
  match a with
  | ⟨0, _⟩ => show win0_1.index (pt j) 0 * 4096 + 1 * k.val = k.val; rw [e0]; omega
  | ⟨1, _⟩ => show win0_1.index (pt j) 1 * 1024 + 1 * l.val = l.val; rw [e1]; omega

/-- The kernel's array, entry by entry. -/
theorem kernel_apply (j : Fin 4) (r : Fin 704) (l : Fin 1024) :
    ((dats m 0 c).arrAt 2 cfg0.N : FVec Ideal S4x704x1024 .bf16) (ix3 j r l)
      = ∑ k : Fin 4096, X0 m c (ix3 j k r) * X1 m c (ix2 k l) := by
  obtain ⟨-, -, ⟨e0, e1, e2⟩⟩ := idx (pt j)
  have h := congrFun (blocks2 m c (pt j) (flush0_2 _)) (ix3 (0 : Fin 1) r l)
  rw [View.read_apply, flushed2, out_eq] at h
  have he : ((cfg0.win 2).blk (pt j)).view.emb (ix3 (0 : Fin 1) r l) = ix3 j r l := by
    funext a; apply Fin.ext
    match a with
    | ⟨0, _⟩ => show win0_2.index (pt j) 0 * 1 + 1 * 0 = j.val; rw [e0]; show j.val * 1 + 1 * 0 = j.val; omega
    | ⟨1, _⟩ => show win0_2.index (pt j) 1 * 704 + 1 * r.val = r.val; rw [e1]; omega
    | ⟨2, _⟩ => show win0_2.index (pt j) 2 * 1024 + 1 * l.val = l.val; rw [e2]; omega
  rw [he] at h
  refine Eq.trans h ((pay_apply (iblk m c 0 (pt j)) (iblk m c 1 (pt j)) r l).trans ?_)
  exact Finset.sum_congr rfl fun k _ => congrArg₂ (fun a b : EReal => a * b) (blk_a m c j k r) (blk_b m c j k l)

open Cert.Reference3Ideal.Read in
/-- The reference's, entry by entry. -/
theorem ref_apply (x0 : FVec Ideal S4x4096x704 .bf16) (x1 : FVec Ideal S4096x1024 .bf16) (j : Fin 4) (r : Fin 704) (l : Fin 1024) :
    val_main_v10 (F := Ideal) x0 x1 (ix3 j r l) = ∑ k : Fin 4096, x0 (ix3 j k r) * x1 (ix2 k l) := by
  have hb : ∀ k : Fin 4096, val_main_v3 (F := Ideal) x0 (ix2 k (row j r)) = x0 (ix3 j k r) := fun k => by
    unfold val_main_v3 val_main_v2 val_main_v1
    pointwise
    exact congrArg₂ (fun a b => x0 (ix3 a k b)) (div_row j r) (mod_row j r)
  unfold val_main_v10 val_main_v9 val_main_v8 val_main_v7 val_main_v6
  generalize val_main_v3 (F := Ideal) x0 = y at *
  pointwise
  refine Finset.sum_congr rfl fun k _ => (mul_comm _ _).trans (congrArg (· * x1 (ix2 k l)) (Eq.trans ?_ (hb k)))
  exact congrArg (fun a => y (ix2 k a)) (Fin.ext (by show j.val * 704 + r.val = 704 * j.val + r.val; omega))

theorem value_eq : Cert.Reference3Ideal.Read.val_main_v10 (F := Ideal) (X0 m c) (X1 m c)
    = (dats m 0 c).arrAt 2 cfg0.N := by
  refine funext fun (i : S4x704x1024.Idx) => ?_
  obtain ⟨j, r, l, rfl⟩ : ∃ (j : Fin 4) (r : Fin 704) (l : Fin 1024), i = ix3 j r l := ⟨i 0, i 1, i 2, by
    funext a; match a with
    | ⟨0, _⟩ => rfl
    | ⟨1, _⟩ => rfl
    | ⟨2, _⟩ => rfl⟩
  exact (ref_apply _ _ j r l).trans (kernel_apply m c j r l).symm

/-! ## The claims -/

/-- The reference runs on the host alone: its run keeps the arguments, and it has no semaphore. -/
theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The kernel's array is the reference's: the gradient of the down weights. -/
theorem algebraic : Cert.algebraic_Kernel3Ideal_Reference3Ideal := by
  intro m ρ m' ρ' hpre hagree
  refine ⟨fun c => (dats m 0 c).arrAt 2 cfg0.N, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨e0, e1⟩ := hagree c
  refine ⟨(h c).1.trans ((Cert.Reference3Ideal.Read.val_main_v10_eq _ _).trans ?_), (h c).2⟩
  rw [e0, e1]
  exact value_eq m c

end Cert.DownDw

end
-- ==== Proof.GuDx.lean ====
/-
  The gradient of the channel mixer's normalised input: the kernel adds the products of the eight blocks of columns one
  after the other; the reference contracts all 5632 columns at once.
-/
module

public import proofs.«01_k».proof.Defs
public import proofs.«01_k».proof.Proof.Gen.Kernel4Ideal.Value
public import proofs.«01_k».proof.Proof.Gen.Reference4Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.GuDx

open Idealize.ShloMosaic Idealize.SL.Sem Idealize.ShloMosaic.TcCoe Idealize.ShloMosaic.Tactic
open Cert.Kernel4Ideal Cert.Kernel4Ideal.Gen Cert.Kernel4Ideal.Value

/-- A block's column as a column of the whole. -/
abbrev col (j : Fin 8) (l : Fin 704) : Fin 5632 := ⟨704 * j.val + l.val, by omega⟩

theorem div_col (j : Fin 8) (l : Fin 704) : (⟨(704 * j.val + l.val) / 704, by omega⟩ : Fin 8) = j := Fin.ext (by show (704 * j.val + l.val) / 704 = j.val; omega)
theorem mod_col (j : Fin 8) (l : Fin 704) : (⟨(704 * j.val + l.val) % 704, by omega⟩ : Fin 704) = l := Fin.ext (by show (704 * j.val + l.val) % 704 = l.val; omega)

/-- The eight products added up. -/
theorem pay_apply (a0 : Vec Ideal S1x512x704 .bf16) (b0 : Vec Ideal S1x1024x704 .bf16) (a1 : Vec Ideal S1x512x704 .bf16) (b1 : Vec Ideal S1x1024x704 .bf16)
    (a2 : Vec Ideal S1x512x704 .bf16) (b2 : Vec Ideal S1x1024x704 .bf16) (a3 : Vec Ideal S1x512x704 .bf16) (b3 : Vec Ideal S1x1024x704 .bf16)
    (a4 : Vec Ideal S1x512x704 .bf16) (b4 : Vec Ideal S1x1024x704 .bf16) (a5 : Vec Ideal S1x512x704 .bf16) (b5 : Vec Ideal S1x1024x704 .bf16)
    (a6 : Vec Ideal S1x512x704 .bf16) (b6 : Vec Ideal S1x1024x704 .bf16) (a7 : Vec Ideal S1x512x704 .bf16) (b7 : Vec Ideal S1x1024x704 .bf16)
    (r : Fin 512) (l : Fin 1024) :
    k0_pay1 (F := Ideal) (k0_pay2 a0 b0 a1 b1 a2 b2 a3 b3) (k0_pay3 a4) b4 a5 b5 a6 b6 a7 b7 (ix2 r l)
      = (∑ k : Fin 704, a0 (ix3 (0 : Fin 1) r k) * b0 (ix3 (0 : Fin 1) l k)) + (∑ k : Fin 704, a1 (ix3 (0 : Fin 1) r k) * b1 (ix3 (0 : Fin 1) l k))
        + (∑ k : Fin 704, a2 (ix3 (0 : Fin 1) r k) * b2 (ix3 (0 : Fin 1) l k)) + (∑ k : Fin 704, a3 (ix3 (0 : Fin 1) r k) * b3 (ix3 (0 : Fin 1) l k))
        + (∑ k : Fin 704, a4 (ix3 (0 : Fin 1) r k) * b4 (ix3 (0 : Fin 1) l k)) + (∑ k : Fin 704, a5 (ix3 (0 : Fin 1) r k) * b5 (ix3 (0 : Fin 1) l k))
        + (∑ k : Fin 704, a6 (ix3 (0 : Fin 1) r k) * b6 (ix3 (0 : Fin 1) l k)) + (∑ k : Fin 704, a7 (ix3 (0 : Fin 1) r k) * b7 (ix3 (0 : Fin 1) l k)) := by
  unfold k0_pay1 k0_pay2 k0_pay3
  pointwise

/-- A block loaded from the staged gradient, and from the staged weights. -/
theorem ld_a (x : Vec Ideal S8x512x704 .bf16) (j : Fin 8) (inb : ∀ a, (![j.val, 0, 0] : Fin 3 → Nat) a + S1x512x704.size a ≤ S8x512x704.size a) (r : Fin 512) (k : Fin 704) :
    View.ld x (Rect.unit (s := S8x512x704) ![j.val, 0, 0] S1x512x704.size inb) (ix3 (0 : Fin 1) r k) = x (ix3 j r k) := by
  show x _ = x _
  congr 1; funext a; apply Fin.ext
  match a with
  | ⟨0, _⟩ => show j.val + 1 * 0 = j.val; omega
  | ⟨1, _⟩ => show 0 + 1 * r.val = r.val; omega
  | ⟨2, _⟩ => show 0 + 1 * k.val = k.val; omega
theorem ld_b (x : Vec Ideal S8x1024x704 .bf16) (j : Fin 8) (inb : ∀ a, (![j.val, 0, 0] : Fin 3 → Nat) a + S1x1024x704.size a ≤ S8x1024x704.size a) (l : Fin 1024) (k : Fin 704) :
    View.ld x (Rect.unit (s := S8x1024x704) ![j.val, 0, 0] S1x1024x704.size inb) (ix3 (0 : Fin 1) l k) = x (ix3 j l k) := by
  show x _ = x _
  congr 1; funext a; apply Fin.ext
  match a with
  | ⟨0, _⟩ => show j.val + 1 * 0 = j.val; omega
  | ⟨1, _⟩ => show 0 + 1 * l.val = l.val; omega
  | ⟨2, _⟩ => show 0 + 1 * k.val = k.val; omega

/-- What the body leaves: all the blocks' products added up. -/
theorem out_apply (x0 : Vec Ideal S8x512x704 .bf16) (x1 : Vec Ideal S8x1024x704 .bf16) (r : Fin 512) (l : Fin 1024) :
    out0_2 (F := Ideal) x0 x1 (ix2 r l) = ∑ j : Fin 8, ∑ k : Fin 704, x0 (ix3 j r k) * x1 (ix3 j l k) := by
  have h2 : (![0, 0] : Fin S512x1024.rank → Nat) = fun _ => 0 := funext fun a => by fin_cases a <;> rfl
  unfold out0_2
  rw [View.canon_unit_zero h2, pay_apply, Fin.sum_univ_eight]
  have e : ∀ (j : Fin 8) (ia : ∀ a, (![j.val, 0, 0] : Fin 3 → Nat) a + S1x512x704.size a ≤ S8x512x704.size a)
      (ib : ∀ a, (![j.val, 0, 0] : Fin 3 → Nat) a + S1x1024x704.size a ≤ S8x1024x704.size a),
      (∑ k : Fin 704, View.ld x0 (Rect.unit (s := S8x512x704) ![j.val, 0, 0] S1x512x704.size ia) (ix3 (0 : Fin 1) r k)
        * View.ld x1 (Rect.unit (s := S8x1024x704) ![j.val, 0, 0] S1x1024x704.size ib) (ix3 (0 : Fin 1) l k))
      = ∑ k : Fin 704, x0 (ix3 j r k) * x1 (ix3 j l k) := fun j ia ib =>
    Finset.sum_congr rfl fun k _ => congrArg₂ (· * ·) (ld_a x0 j ia r k) (ld_b x1 j ib l k)
  exact congrArg₂ (· + ·) (congrArg₂ (· + ·) (congrArg₂ (· + ·) (congrArg₂ (· + ·) (congrArg₂ (· + ·) (congrArg₂ (· + ·) (congrArg₂ (· + ·)
    (e 0 _ _) (e 1 _ _)) (e 2 _ _)) (e 3 _ _)) (e 4 _ _)) (e 5 _ _)) (e 6 _ _)) (e 7 _ _)

/-- The columns of the whole, block by block. -/
theorem sum_cols (f : Fin 5632 → EReal) : (∑ j : Fin 8, ∑ k : Fin 704, f (col j k)) = ∑ t : Fin 5632, f t := by
  rw [← Fintype.sum_prod_type']
  refine Fintype.sum_equiv (finProdFinEquiv (m := 8) (n := 704)) _ _ fun p => congrArg f (Fin.ext ?_)
  show 704 * p.1.val + p.2.val = p.2.val + 704 * p.1.val
  omega

variable (m : (ℓ : Loc nD τ sig) → Buf (Elt Ideal) ℓ) (c : Dev nD)

/-- The arrays the kernel is given. -/
abbrev X0 : FVec Ideal S8x4096x704 .bf16 := m ((c : Thread nD τ).loc main_arg0)
abbrev X1 : FVec Ideal S8x1024x704 .bf16 := m ((c : Thread nD τ).loc main_arg1)

/-- The printed index maps, decided over the grid: the tile of rows is the point's number. -/
theorem idx : ∀ t : Fin grid0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) := by
  decide +kernel

/-- The grid point of a tile of rows, and a tile's row as a row of the whole. -/
abbrev pt (i : Fin 8) : Fin cfg0.N := ⟨i.val, lt_of_lt_of_eq i.isLt (show 8 = cfg0.N from N_0.symm)⟩
abbrev row (i : Fin 8) (r : Fin 512) : Fin 4096 := ⟨512 * i.val + r.val, by omega⟩

theorem blk_a (i : Fin 8) (j : Fin 8) (r : Fin 512) (k : Fin 704) :
    (iblk m c 0 (pt i) : Vec Ideal S8x512x704 .bf16) (ix3 j r k) = X0 m c (ix3 j (row i r) k) := by
  obtain ⟨⟨e0, e1, e2⟩, -, -⟩ := idx (pt i)
  unfold iblk
  rw [View.read_apply]
  show V m c main_arg0 _ = _
  rw [V_main_arg0]
  congr 1; funext a; apply Fin.ext
  match a with
  | ⟨0, _⟩ => show win0_0.index (pt i) 0 * 8 + 1 * j.val = j.val; rw [e0]; omega
  | ⟨1, _⟩ => show win0_0.index (pt i) 1 * 512 + 1 * r.val = 512 * i.val + r.val; rw [e1]; show i.val * 512 + 1 * r.val = _; omega
  | ⟨2, _⟩ => show win0_0.index (pt i) 2 * 704 + 1 * k.val = k.val; rw [e2]; omega

theorem blk_b (i : Fin 8) (j : Fin 8) (l : Fin 1024) (k : Fin 704) :
    (iblk m c 1 (pt i) : Vec Ideal S8x1024x704 .bf16) (ix3 j l k) = X1 m c (ix3 j l k) := by
  obtain ⟨-, ⟨e0, e1, e2⟩, -⟩ := idx (pt i)
  unfold iblk
  rw [View.read_apply]
  show V m c main_arg1 _ = _
  rw [V_main_arg1]
  congr 1; funext a; apply Fin.ext
  match a with
  | ⟨0, _⟩ => show win0_1.index (pt i) 0 * 8 + 1 * j.val = j.val; rw [e0]; omega
  | ⟨1, _⟩ => show win0_1.index (pt i) 1 * 1024 + 1 * l.val = l.val; rw [e1]; omega
  | ⟨2, _⟩ => show win0_1.index (pt i) 2 * 704 + 1 * k.val = k.val; rw [e2]; omega

/-- The kernel's array, entry by entry. -/
theorem kernel_apply (i : Fin 8) (r : Fin 512) (l : Fin 1024) :
    ((dats m 0 c).arrAt 2 cfg0.N : FVec Ideal S4096x1024 .f32) (ix2 (row i r) l)
      = ∑ j : Fin 8, ∑ k : Fin 704, X0 m c (ix3 j (row i r) k) * X1 m c (ix3 j l k) := by
  obtain ⟨-, -, ⟨e0, e1⟩⟩ := idx (pt i)
  have h := congrFun (blocks2 m c (pt i) (flush0_2 _)) (ix2 r l)
  rw [View.read_apply, flushed2] at h
  have he : ((cfg0.win 2).blk (pt i)).view.emb (ix2 r l) = ix2 (row i r) l := by
    funext a; apply Fin.ext
    match a with
    | ⟨0, _⟩ => show win0_2.index (pt i) 0 * 512 + 1 * r.val = 512 * i.val + r.val; rw [e0]; show i.val * 512 + 1 * r.val = _; omega
    | ⟨1, _⟩ => show win0_2.index (pt i) 1 * 1024 + 1 * l.val = l.val; rw [e1]; omega
  rw [he] at h
  refine Eq.trans h ((out_apply (iblk m c 0 (pt i)) (iblk m c 1 (pt i)) r l).trans ?_)
  exact Finset.sum_congr rfl fun j _ => Finset.sum_congr rfl fun k _ => congrArg₂ (fun a b : EReal => a * b) (blk_a m c i j r k) (blk_b m c i j l k)

open Cert.Reference4Ideal.Read in
/-- The reference's, entry by entry. -/
theorem ref_apply (x0 : FVec Ideal S8x4096x704 .bf16) (x1 : FVec Ideal S8x1024x704 .bf16) (t : Fin 4096) (l : Fin 1024) :
    val_main_v8 (F := Ideal) x0 x1 (ix2 t l) = ∑ j : Fin 8, ∑ k : Fin 704, x0 (ix3 j t k) * x1 (ix3 j l k) := by
  have ha : ∀ (j : Fin 8) (k : Fin 704), val_main_v7 (F := Ideal) x0 (ix2 t (col j k)) = x0 (ix3 j t k) := fun j k => by
    unfold val_main_v7 val_main_v6 val_main_v5
    pointwise
    exact congrArg₂ (fun a b => x0 (ix3 a t b)) (div_col j k) (mod_col j k)
  have hb : ∀ (j : Fin 8) (k : Fin 704), val_main_v3 (F := Ideal) x1 (ix2 l (col j k)) = x1 (ix3 j l k) := fun j k => by
    unfold val_main_v3 val_main_v2 val_main_v1
    pointwise
    exact congrArg₂ (fun a b => x1 (ix3 a l b)) (div_col j k) (mod_col j k)
  unfold val_main_v8
  generalize val_main_v7 (F := Ideal) x0 = y at *
  generalize val_main_v3 (F := Ideal) x1 = z at *
  pointwise
  rw [← sum_cols]
  exact Finset.sum_congr rfl fun j _ => Finset.sum_congr rfl fun k _ => congrArg₂ (fun a b : EReal => a * b) (ha j k) (hb j k)

theorem value_eq : Cert.Reference4Ideal.Read.val_main_v8 (F := Ideal) (X0 m c) (X1 m c)
    = (dats m 0 c).arrAt 2 cfg0.N := by
  refine funext fun (i : S4096x1024.Idx) => ?_
  obtain ⟨t, r, l, rfl⟩ : ∃ (t : Fin 8) (r : Fin 512) (l : Fin 1024), i = ix2 (row t r) l := by
    have hi : (i 0).val < 4096 := (i 0).isLt
    refine ⟨⟨(i 0).val / 512, by omega⟩, ⟨(i 0).val % 512, by omega⟩, i 1, ?_⟩
    funext a; match a with
    | ⟨0, _⟩ => exact Fin.ext (by show (i 0).val = 512 * ((i 0).val / 512) + (i 0).val % 512; omega)
    | ⟨1, _⟩ => rfl
  exact (ref_apply _ _ (row t r) l).trans (kernel_apply m c t r l).symm

/-! ## The claims -/

/-- The reference runs on the host alone: its run keeps the arguments, and it has no semaphore. -/
theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The kernel's array is the reference's: the gradient of the normalised input. -/
theorem algebraic : Cert.algebraic_Kernel4Ideal_Reference4Ideal := by
  intro m ρ m' ρ' hpre hagree
  refine ⟨fun c => (dats m 0 c).arrAt 2 cfg0.N, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨e0, e1⟩ := hagree c
  refine ⟨(h c).1.trans ((Cert.Reference4Ideal.Read.val_main_v8_eq _ _).trans ?_), (h c).2⟩
  rw [e0, e1]
  exact value_eq m c

end Cert.GuDx

end
-- ==== Proof.GuDw.lean ====
/-
  The gradient of the gate and up weights: every block of 704 columns is the product of the transposed input with that
  block of the incoming gradient, in the kernel and in the reference.
-/
module

public import proofs.«01_k».proof.Defs
public import proofs.«01_k».proof.Proof.Gen.Kernel5Ideal.Value
public import proofs.«01_k».proof.Proof.Gen.Reference5Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.GuDw

open Idealize.ShloMosaic Idealize.SL.Sem Idealize.ShloMosaic.TcCoe Idealize.ShloMosaic.Tactic
open Cert.Kernel5Ideal Cert.Kernel5Ideal.Gen Cert.Kernel5Ideal.Value

/-- A block's column as a column of the whole. -/
abbrev col (j : Fin 8) (l : Fin 704) : Fin 5632 := ⟨704 * j.val + l.val, by omega⟩

theorem div_col (j : Fin 8) (l : Fin 704) : (⟨(704 * j.val + l.val) / 704, by omega⟩ : Fin 8) = j := Fin.ext (by show (704 * j.val + l.val) / 704 = j.val; omega)
theorem mod_col (j : Fin 8) (l : Fin 704) : (⟨(704 * j.val + l.val) % 704, by omega⟩ : Fin 704) = l := Fin.ext (by show (704 * j.val + l.val) % 704 = l.val; omega)

theorem pay_apply (x0 : Vec Ideal S1024x4096 .bf16) (x1 : Vec Ideal S1x4096x704 .bf16) (r : Fin 1024) (l : Fin 704) :
    k0_pay1 (F := Ideal) x0 x1 (ix3 (0 : Fin 1) r l) = ∑ k : Fin 4096, x0 (ix2 r k) * x1 (ix3 (0 : Fin 1) k l) := by
  unfold k0_pay1
  pointwise

theorem out_eq (x0 : Vec Ideal S1024x4096 .bf16) (x1 : Vec Ideal S1x4096x704 .bf16) : out0_2 (F := Ideal) x0 x1 = k0_pay1 x0 x1 := by
  have h2 : (![0, 0] : Fin S1024x4096.rank → Nat) = fun _ => 0 := funext fun a => by fin_cases a <;> rfl
  have h3 : (![0, 0, 0] : Fin S1x4096x704.rank → Nat) = fun _ => 0 := funext fun a => by fin_cases a <;> rfl
  have h4 : (![0, 0, 0] : Fin S1x1024x704.rank → Nat) = fun _ => 0 := funext fun a => by fin_cases a <;> rfl
  unfold out0_2
  rw [View.canon_unit_zero h4, View.ld_unit_zero h2, View.ld_unit_zero h3]

variable (m : (ℓ : Loc nD τ sig) → Buf (Elt Ideal) ℓ) (c : Dev nD)

/-- The arrays the kernel is given. -/
abbrev X0 : FVec Ideal S1024x4096 .bf16 := m ((c : Thread nD τ).loc main_arg0)
abbrev X1 : FVec Ideal S8x4096x704 .bf16 := m ((c : Thread nD τ).loc main_arg1)

/-- The printed index maps, decided over the grid: the block of columns is the point's number. -/
theorem idx : ∀ t : Fin grid0.N,
    (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0) := by
  decide +kernel

/-- The grid point of a block of columns. -/
abbrev pt (j : Fin 8) : Fin cfg0.N := ⟨j.val, lt_of_lt_of_eq j.isLt (show 8 = cfg0.N from N_0.symm)⟩

theorem blk_a (j : Fin 8) (r : Fin 1024) (k : Fin 4096) :
    (iblk m c 0 (pt j) : Vec Ideal S1024x4096 .bf16) (ix2 r k) = X0 m c (ix2 r k) := by
  obtain ⟨⟨e0, e1⟩, -, -⟩ := idx (pt j)
  unfold iblk
  rw [View.read_apply]
  show V m c main_arg0 _ = _
  rw [V_main_arg0]
  congr 1; funext a; apply Fin.ext
  match a with
  | ⟨0, _⟩ => show win0_0.index (pt j) 0 * 1024 + 1 * r.val = r.val; rw [e0]; omega
  | ⟨1, _⟩ => show win0_0.index (pt j) 1 * 4096 + 1 * k.val = k.val; rw [e1]; omega

theorem blk_b (j : Fin 8) (k : Fin 4096) (l : Fin 704) :
    (iblk m c 1 (pt j) : Vec Ideal S1x4096x704 .bf16) (ix3 (0 : Fin 1) k l) = X1 m c (ix3 j k l) := by
  obtain ⟨-, ⟨e0, e1, e2⟩, -⟩ := idx (pt j)
  unfold iblk
  rw [View.read_apply]
  show V m c main_arg1 _ = _
  rw [V_main_arg1]
  congr 1; funext a; apply Fin.ext
  match a with
  | ⟨0, _⟩ => show win0_1.index (pt j) 0 * 1 + 1 * 0 = j.val; rw [e0]; show j.val * 1 + 1 * 0 = j.val; omega
  | ⟨1, _⟩ => show win0_1.index (pt j) 1 * 4096 + 1 * k.val = k.val; rw [e1]; omega
  | ⟨2, _⟩ => show win0_1.index (pt j) 2 * 704 + 1 * l.val = l.val; rw [e2]; omega

/-- The kernel's array, entry by entry. -/
theorem kernel_apply (j : Fin 8) (r : Fin 1024) (l : Fin 704) :
    ((dats m 0 c).arrAt 2 cfg0.N : FVec Ideal S8x1024x704 .bf16) (ix3 j r l)
      = ∑ k : Fin 4096, X0 m c (ix2 r k) * X1 m c (ix3 j k l) := by
  obtain ⟨-, -, ⟨e0, e1, e2⟩⟩ := idx (pt j)
  have h := congrFun (blocks2 m c (pt j) (flush0_2 _)) (ix3 (0 : Fin 1) r l)
  rw [View.read_apply, flushed2, out_eq] at h
  have he : ((cfg0.win 2).blk (pt j)).view.emb (ix3 (0 : Fin 1) r l) = ix3 j r l := by
    funext a; apply Fin.ext
    match a with
    | ⟨0, _⟩ => show win0_2.index (pt j) 0 * 1 + 1 * 0 = j.val; rw [e0]; show j.val * 1 + 1 * 0 = j.val; omega
    | ⟨1, _⟩ => show win0_2.index (pt j) 1 * 1024 + 1 * r.val = r.val; rw [e1]; omega
    | ⟨2, _⟩ => show win0_2.index (pt j) 2 * 704 + 1 * l.val = l.val; rw [e2]; omega
  rw [he] at h
  refine Eq.trans h ((pay_apply (iblk m c 0 (pt j)) (iblk m c 1 (pt j)) r l).trans ?_)
  exact Finset.sum_congr rfl fun k _ => congrArg₂ (fun a b : EReal => a * b) (blk_a m c j r k) (blk_b m c j k l)

open Cert.Reference5Ideal.Read in
/-- The reference's, entry by entry. -/
theorem ref_apply (x0 : FVec Ideal S1024x4096 .bf16) (x1 : FVec Ideal S8x4096x704 .bf16) (j : Fin 8) (r : Fin 1024) (l : Fin 704) :
    val_main_v13 (F := Ideal) x0 x1 (ix3 j r l) = ∑ k : Fin 4096, x0 (ix2 r k) * x1 (ix3 j k l) := by
  have hb : ∀ k : Fin 4096, val_main_v8 (F := Ideal) x1 (ix2 k (col j l)) = x1 (ix3 j k l) := fun k => by
    unfold val_main_v8 val_main_v7 val_main_v6
    pointwise
    exact congrArg₂ (fun a b => x1 (ix3 a k b)) (div_col j l) (mod_col j l)
  unfold val_main_v13 val_main_v12 val_main_v11 val_main_v10 val_main_v9 val_main_v2 val_main_v1
  generalize val_main_v8 (F := Ideal) x1 = y at *
  pointwise
  refine Finset.sum_congr rfl fun k _ => (mul_comm _ _).trans (congrArg _ (Eq.trans ?_ (hb k)))
  exact congrArg (fun a => y (ix2 k a)) (Fin.ext (by show j.val * 704 + l.val = 704 * j.val + l.val; omega))

theorem value_eq : Cert.Reference5Ideal.Read.val_main_v13 (F := Ideal) (X0 m c) (X1 m c)
    = (dats m 0 c).arrAt 2 cfg0.N := by
  refine funext fun (i : S8x1024x704.Idx) => ?_
  obtain ⟨j, r, l, rfl⟩ : ∃ (j : Fin 8) (r : Fin 1024) (l : Fin 704), i = ix3 j r l := ⟨i 0, i 1, i 2, by
    funext a; match a with
    | ⟨0, _⟩ => rfl
    | ⟨1, _⟩ => rfl
    | ⟨2, _⟩ => rfl⟩
  exact (ref_apply _ _ j r l).trans (kernel_apply m c j r l).symm

/-! ## The claims -/

/-- The reference runs on the host alone: its run keeps the arguments, and it has no semaphore. -/
theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The kernel's array is the reference's: the gradient of the gate and up weights. -/
theorem algebraic : Cert.algebraic_Kernel5Ideal_Reference5Ideal := by
  intro m ρ m' ρ' hpre hagree
  refine ⟨fun c => (dats m 0 c).arrAt 2 cfg0.N, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨e0, e1⟩ := hagree c
  refine ⟨(h c).1.trans ((Cert.Reference5Ideal.Read.val_main_v13_eq _ _).trans ?_), (h c).2⟩
  rw [e0, e1]
  exact value_eq m c

end Cert.GuDw

end
-- ==== Proof.InDx.lean ====
/-
  The gradient of the token mixers' normalised input: the incoming gradient times the transposed input projection,
  in the kernel tile of rows by tile of rows.
-/
module

public import proofs.«01_k».proof.Defs
public import proofs.«01_k».proof.Proof.Gen.Kernel6Ideal.Value
public import proofs.«01_k».proof.Proof.Gen.Reference6Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.InDx

open Idealize.ShloMosaic Idealize.SL.Sem Idealize.ShloMosaic.TcCoe Idealize.ShloMosaic.Tactic
open Cert.Kernel6Ideal Cert.Kernel6Ideal.Gen Cert.Kernel6Ideal.Value

/-- A tile's product. -/
theorem pay_apply (x0 : Vec Ideal S1024x2048 .bf16) (x1 : Vec Ideal S1024x2048 .bf16) (r : Fin 1024) (l : Fin 1024) :
    k0_pay1 (F := Ideal) x0 x1 (ix2 r l) = ∑ k : Fin 2048, x0 (ix2 r k) * x1 (ix2 l k) := by
  unfold k0_pay1
  pointwise

theorem out_eq (x0 : Vec Ideal S1024x2048 .bf16) (x1 : Vec Ideal S1024x2048 .bf16) : out0_2 (F := Ideal) x0 x1 = k0_pay1 x0 x1 := by
  have h0 : (![0, 0] : Fin S1024x1024.rank → Nat) = fun _ => 0 := funext fun a => by fin_cases a <;> rfl
  have h1 : (![0, 0] : Fin S1024x2048.rank → Nat) = fun _ => 0 := funext fun a => by fin_cases a <;> rfl
  unfold out0_2
  rw [View.canon_unit_zero h0, View.ld_unit_zero h1, View.ld_unit_zero h1]

variable (m : (ℓ : Loc nD τ sig) → Buf (Elt Ideal) ℓ) (c : Dev nD)

/-- The arrays the kernel is given. -/
abbrev X0 : FVec Ideal S4096x2048 .bf16 := m ((c : Thread nD τ).loc main_arg0)
abbrev X1 : FVec Ideal S1024x2048 .bf16 := m ((c : Thread nD τ).loc main_arg1)

/-- The printed index maps, decided over the grid: the tile is the point's number. -/
theorem idx : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by
  decide +kernel

/-- The grid point of a tile, and a tile's index as an index of the whole. -/
abbrev pt (i : Fin 4) : Fin cfg0.N := ⟨i.val, lt_of_lt_of_eq i.isLt (show 4 = cfg0.N from N_0.symm)⟩
abbrev tix (i : Fin 4) (r : Fin 1024) : Fin 4096 := ⟨1024 * i.val + r.val, by omega⟩

theorem blk_a (i : Fin 4) (r : Fin 1024) (k : Fin 2048) :
    (iblk m c 0 (pt i) : Vec Ideal S1024x2048 .bf16) (ix2 r k) = X0 m c (ix2 (tix i r) k) := by
  obtain ⟨⟨e0, e1⟩, -, -⟩ := idx (pt i)
  unfold iblk
  rw [View.read_apply]
  show V m c main_arg0 _ = _
  rw [V_main_arg0]
  congr 1; funext a; apply Fin.ext
  match a with
  | ⟨0, _⟩ => show win0_0.index (pt i) 0 * 1024 + 1 * r.val = 1024 * i.val + r.val; rw [e0]; show i.val * 1024 + 1 * r.val = _; omega
  | ⟨1, _⟩ => show win0_0.index (pt i) 1 * 2048 + 1 * k.val = k.val; rw [e1]; omega

theorem blk_b (i : Fin 4) (l : Fin 1024) (k : Fin 2048) :
    (iblk m c 1 (pt i) : Vec Ideal S1024x2048 .bf16) (ix2 l k) = X1 m c (ix2 l k) := by
  obtain ⟨-, ⟨e0, e1⟩, -⟩ := idx (pt i)
  unfold iblk
  rw [View.read_apply]
  show V m c main_arg1 _ = _
  rw [V_main_arg1]
  congr 1; funext a; apply Fin.ext
  match a with
  | ⟨0, _⟩ => show win0_1.index (pt i) 0 * 1024 + 1 * l.val = l.val; rw [e0]; omega
  | ⟨1, _⟩ => show win0_1.index (pt i) 1 * 2048 + 1 * k.val = k.val; rw [e1]; omega

/-- The kernel's array, entry by entry. -/
theorem kernel_apply (i : Fin 4) (r : Fin 1024) (l : Fin 1024) :
    ((dats m 0 c).arrAt 2 cfg0.N : FVec Ideal S4096x1024 .f32) (ix2 (tix i r) l)
      = ∑ k : Fin 2048, X0 m c (ix2 (tix i r) k) * X1 m c (ix2 l k) := by
  obtain ⟨-, -, ⟨e0, e1⟩⟩ := idx (pt i)
  have h := congrFun (blocks2 m c (pt i) (flush0_2 _)) (ix2 r l)
  rw [View.read_apply, flushed2, out_eq] at h
  have he : ((cfg0.win 2).blk (pt i)).view.emb (ix2 r l) = ix2 (tix i r) l := by
    funext a; apply Fin.ext
    match a with
    | ⟨0, _⟩ => show win0_2.index (pt i) 0 * 1024 + 1 * r.val = 1024 * i.val + r.val; rw [e0]; show i.val * 1024 + 1 * r.val = _; omega
    | ⟨1, _⟩ => show win0_2.index (pt i) 1 * 1024 + 1 * l.val = l.val; rw [e1]; omega
  rw [he] at h
  refine Eq.trans h ((pay_apply (iblk m c 0 (pt i)) (iblk m c 1 (pt i)) r l).trans ?_)
  exact Finset.sum_congr rfl fun k _ => congrArg₂ (fun a b : EReal => a * b) (blk_a m c i r k) (blk_b m c i l k)

open Cert.Reference6Ideal.Read in
/-- The reference's, entry by entry. -/
theorem ref_apply (x0 : FVec Ideal S4096x2048 .bf16) (x1 : FVec Ideal S1024x2048 .bf16) (r : Fin 4096) (l : Fin 1024) :
    val_main_v4 (F := Ideal) x0 x1 (ix2 r l) = ∑ k : Fin 2048, x0 (ix2 r k) * x1 (ix2 l k) := by
  unfold val_main_v4 val_main_v3 val_main_v1
  pointwise

theorem value_eq : Cert.Reference6Ideal.Read.val_main_v4 (F := Ideal) (X0 m c) (X1 m c)
    = (dats m 0 c).arrAt 2 cfg0.N := by
  refine funext fun (i : S4096x1024.Idx) => ?_
  obtain ⟨t, r, l, rfl⟩ : ∃ (t : Fin 4) (r : Fin 1024) (l : Fin 1024), i = ix2 (tix t r) l := by
    have hi : (i 0).val < 4096 := (i 0).isLt
    refine ⟨⟨(i 0).val / 1024, by omega⟩, ⟨(i 0).val % 1024, by omega⟩, i 1, ?_⟩
    funext a; match a with
    | ⟨0, _⟩ => exact Fin.ext (by show (i 0).val = 1024 * ((i 0).val / 1024) + (i 0).val % 1024; omega)
    | ⟨1, _⟩ => rfl
  exact (ref_apply _ _ (tix t r) l).trans (kernel_apply m c t r l).symm

/-! ## The claims -/

/-- The reference runs on the host alone: its run keeps the arguments, and it has no semaphore. -/
theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The kernel's array is the reference's: the gradient of the token mixers' normalised input. -/
theorem algebraic : Cert.algebraic_Kernel6Ideal_Reference6Ideal := by
  intro m ρ m' ρ' hpre hagree
  refine ⟨fun c => (dats m 0 c).arrAt 2 cfg0.N, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨e0, e1⟩ := hagree c
  refine ⟨(h c).1.trans ((Cert.Reference6Ideal.Read.val_main_v4_eq _ _).trans ?_), (h c).2⟩
  rw [e0, e1]
  exact value_eq m c

end Cert.InDx

end
-- ==== Proof.InDw.lean ====
/-
  The gradient of the input projection: the transposed input times the incoming gradient, in the kernel tile of
  columns by tile of columns.
-/
module

public import proofs.«01_k».proof.Defs
public import proofs.«01_k».proof.Proof.Gen.Kernel7Ideal.Value
public import proofs.«01_k».proof.Proof.Gen.Reference7Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.InDw

open Idealize.ShloMosaic Idealize.SL.Sem Idealize.ShloMosaic.TcCoe Idealize.ShloMosaic.Tactic
open Cert.Kernel7Ideal Cert.Kernel7Ideal.Gen Cert.Kernel7Ideal.Value

/-- A tile's product. -/
theorem pay_apply (x0 : Vec Ideal S1024x4096 .bf16) (x1 : Vec Ideal S4096x512 .bf16) (r : Fin 1024) (l : Fin 512) :
    k0_pay1 (F := Ideal) x0 x1 (ix2 r l) = ∑ k : Fin 4096, x0 (ix2 r k) * x1 (ix2 k l) := by
  unfold k0_pay1
  pointwise

theorem out_eq (x0 : Vec Ideal S1024x4096 .bf16) (x1 : Vec Ideal S4096x512 .bf16) : out0_2 (F := Ideal) x0 x1 = k0_pay1 x0 x1 := by
  have h0 : (![0, 0] : Fin S1024x512.rank → Nat) = fun _ => 0 := funext fun a => by fin_cases a <;> rfl
  have h1 : (![0, 0] : Fin S1024x4096.rank → Nat) = fun _ => 0 := funext fun a => by fin_cases a <;> rfl
  have h2 : (![0, 0] : Fin S4096x512.rank → Nat) = fun _ => 0 := funext fun a => by fin_cases a <;> rfl
  unfold out0_2
  rw [View.canon_unit_zero h0, View.ld_unit_zero h1, View.ld_unit_zero h2]

variable (m : (ℓ : Loc nD τ sig) → Buf (Elt Ideal) ℓ) (c : Dev nD)

/-- The arrays the kernel is given. -/
abbrev X0 : FVec Ideal S1024x4096 .bf16 := m ((c : Thread nD τ).loc main_arg0)
abbrev X1 : FVec Ideal S4096x2048 .bf16 := m ((c : Thread nD τ).loc main_arg1)

/-- The printed index maps, decided over the grid: the tile is the point's number. -/
theorem idx : ∀ t : Fin grid0.N, (win0_0.index t 0 = 0 ∧ win0_0.index t 1 = 0) ∧ (win0_1.index t 0 = 0 ∧ win0_1.index t 1 = t.val) ∧ (win0_2.index t 0 = 0 ∧ win0_2.index t 1 = t.val) := by
  decide +kernel

/-- The grid point of a tile, and a tile's index as an index of the whole. -/
abbrev pt (i : Fin 4) : Fin cfg0.N := ⟨i.val, lt_of_lt_of_eq i.isLt (show 4 = cfg0.N from N_0.symm)⟩
abbrev tix (i : Fin 4) (r : Fin 512) : Fin 2048 := ⟨512 * i.val + r.val, by omega⟩

theorem blk_a (i : Fin 4) (r : Fin 1024) (k : Fin 4096) :
    (iblk m c 0 (pt i) : Vec Ideal S1024x4096 .bf16) (ix2 r k) = X0 m c (ix2 r k) := by
  obtain ⟨⟨e0, e1⟩, -, -⟩ := idx (pt i)
  unfold iblk
  rw [View.read_apply]
  show V m c main_arg0 _ = _
  rw [V_main_arg0]
  congr 1; funext a; apply Fin.ext
  match a with
  | ⟨0, _⟩ => show win0_0.index (pt i) 0 * 1024 + 1 * r.val = r.val; rw [e0]; omega
  | ⟨1, _⟩ => show win0_0.index (pt i) 1 * 4096 + 1 * k.val = k.val; rw [e1]; omega

theorem blk_b (i : Fin 4) (k : Fin 4096) (l : Fin 512) :
    (iblk m c 1 (pt i) : Vec Ideal S4096x512 .bf16) (ix2 k l) = X1 m c (ix2 k (tix i l)) := by
  obtain ⟨-, ⟨e0, e1⟩, -⟩ := idx (pt i)
  unfold iblk
  rw [View.read_apply]
  show V m c main_arg1 _ = _
  rw [V_main_arg1]
  congr 1; funext a; apply Fin.ext
  match a with
  | ⟨0, _⟩ => show win0_1.index (pt i) 0 * 4096 + 1 * k.val = k.val; rw [e0]; omega
  | ⟨1, _⟩ => show win0_1.index (pt i) 1 * 512 + 1 * l.val = 512 * i.val + l.val; rw [e1]; show i.val * 512 + 1 * l.val = _; omega

/-- The kernel's array, entry by entry. -/
theorem kernel_apply (i : Fin 4) (r : Fin 1024) (l : Fin 512) :
    ((dats m 0 c).arrAt 2 cfg0.N : FVec Ideal S1024x2048 .bf16) (ix2 r (tix i l))
      = ∑ k : Fin 4096, X0 m c (ix2 r k) * X1 m c (ix2 k (tix i l)) := by
  obtain ⟨-, -, ⟨e0, e1⟩⟩ := idx (pt i)
  have h := congrFun (blocks2 m c (pt i) (flush0_2 _)) (ix2 r l)
  rw [View.read_apply, flushed2, out_eq] at h
  have he : ((cfg0.win 2).blk (pt i)).view.emb (ix2 r l) = ix2 r (tix i l) := by
    funext a; apply Fin.ext
    match a with
    | ⟨0, _⟩ => show win0_2.index (pt i) 0 * 1024 + 1 * r.val = r.val; rw [e0]; omega
    | ⟨1, _⟩ => show win0_2.index (pt i) 1 * 512 + 1 * l.val = 512 * i.val + l.val; rw [e1]; show i.val * 512 + 1 * l.val = _; omega
  rw [he] at h
  refine Eq.trans h ((pay_apply (iblk m c 0 (pt i)) (iblk m c 1 (pt i)) r l).trans ?_)
  exact Finset.sum_congr rfl fun k _ => congrArg₂ (fun a b : EReal => a * b) (blk_a m c i r k) (blk_b m c i k l)

open Cert.Reference7Ideal.Read in
/-- The reference's, entry by entry. -/
theorem ref_apply (x0 : FVec Ideal S1024x4096 .bf16) (x1 : FVec Ideal S4096x2048 .bf16) (r : Fin 1024) (l : Fin 2048) :
    val_main_v7 (F := Ideal) x0 x1 (ix2 r l) = ∑ k : Fin 4096, x0 (ix2 r k) * x1 (ix2 k l) := by
  unfold val_main_v7 val_main_v6 val_main_v5 val_main_v4 val_main_v2 val_main_v1
  pointwise
  exact Finset.sum_congr rfl fun k _ => mul_comm _ _

theorem value_eq : Cert.Reference7Ideal.Read.val_main_v7 (F := Ideal) (X0 m c) (X1 m c)
    = (dats m 0 c).arrAt 2 cfg0.N := by
  refine funext fun (i : S1024x2048.Idx) => ?_
  obtain ⟨t, r, l, rfl⟩ : ∃ (t : Fin 4) (r : Fin 1024) (l : Fin 512), i = ix2 r (tix t l) := by
    have hi : (i 1).val < 2048 := (i 1).isLt
    refine ⟨⟨(i 1).val / 512, by omega⟩, i 0, ⟨(i 1).val % 512, by omega⟩, ?_⟩
    funext a; match a with
    | ⟨0, _⟩ => rfl
    | ⟨1, _⟩ => exact Fin.ext (by show (i 1).val = 512 * ((i 1).val / 512) + (i 1).val % 512; omega)
  exact (ref_apply _ _ r (tix t l)).trans (kernel_apply m c t r l).symm

/-! ## The claims -/

/-- The reference runs on the host alone: its run keeps the arguments, and it has no semaphore. -/
theorem frame_reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The kernel's array is the reference's: the gradient of the input projection. -/
theorem algebraic : Cert.algebraic_Kernel7Ideal_Reference7Ideal := by
  intro m ρ m' ρ' hpre hagree
  refine ⟨fun c => (dats m 0 c).arrAt 2 cfg0.N, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨e0, e1⟩ := hagree c
  refine ⟨(h c).1.trans ((Cert.Reference7Ideal.Read.val_main_v7_eq _ _).trans ?_), (h c).2⟩
  rw [e0, e1]
  exact value_eq m c

end Cert.InDw

end
-- ==== Proof.OutDx.lean ====
/-
  The gradient of the mixers' outputs: the incoming gradient times the transposed output projection, in the kernel
  tile of rows by tile of rows.
-/
module

public import proofs.«01_k».proof.Defs
public import proofs.«01_k».proof.Proof.Gen.Kernel8Ideal.Value
public import proofs.«01_k».proof.Proof.Gen.Reference8Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.OutDx

open Idealize.ShloMosaic Idealize.SL.Sem Idealize.ShloMosaic.TcCoe Idealize.ShloMosaic.Tactic
open Cert.Kernel8Ideal Cert.Kernel8Ideal.Gen Cert.Kernel8Ideal.Value

/-- A tile's product. -/
theorem pay_apply (x0 : Vec Ideal S1024x1024 .bf16) (x1 : Vec Ideal S1024x1024 .bf16) (r : Fin 1024) (l : Fin 1024) :
    k0_pay1 (F := Ideal) x0 x1 (ix2 r l) = ∑ k : Fin 1024, x0 (ix2 r k) * x1 (ix2 l k) := by
  unfold k0_pay1
  pointwise

theorem out_eq (x0 : Vec Ideal S1024x1024 .bf16) (x1 : Vec Ideal S1024x1024 .bf16) : out0_2 (F := Ideal) x0 x1 = k0_pay1 x0 x1 := by
  have h0 : (![0, 0] : Fin S1024x1024.rank → Nat) = fun _ => 0 := funext fun a => by fin_cases a <;> rfl
  unfold out0_2
  rw [View.canon_unit_zero h0, View.ld_unit_zero h0, View.ld_unit_zero h0]

variable (m : (ℓ : Loc nD τ sig) → Buf (Elt Ideal) ℓ) (c : Dev nD)

/-- The arrays the kernel is given. -/
abbrev X0 : FVec Ideal S4096x1024 .bf16 := m ((c : Thread nD τ).loc main_arg0)
abbrev X1 : FVec Ideal S1024x1024 .bf16 := m ((c : Thread nD τ).loc main_arg1)

/-- The printed index maps, decided over the grid: the tile is the point's number. -/
theorem idx : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by
  decide +kernel

/-- The grid point of a tile, and a tile's index as an index of the whole. -/
abbrev pt (i : Fin 4) : Fin cfg0.N := ⟨i.val, lt_of_lt_of_eq i.isLt (show 4 = cfg0.N from N_0.symm)⟩
abbrev tix (i : Fin 4) (r : Fin 1024) : Fin 4096 := ⟨1024 * i.val + r.val, by omega⟩

theorem blk_a (i : Fin 4) (r : Fin 1024) (k : Fin 1024) :
    (iblk m c 0 (pt i) : Vec Ideal S1024x1024 .bf16) (ix2 r k) = X0 m c (ix2 (tix i r) k) := by
  obtain ⟨⟨e0, e1⟩, -, -⟩ := idx (pt i)
  unfold iblk
  rw [View.read_apply]
  show V m c main_arg0 _ = _
  rw [V_main_arg0]
  congr 1; funext a; apply Fin.ext
  match a with
  | ⟨0, _⟩ => show win0_0.index (pt i) 0 * 1024 + 1 * r.val = 1024 * i.val + r.val; rw [e0]; show i.val * 1024 + 1 * r.val = _; omega
  | ⟨1, _⟩ => show win0_0.index (pt i) 1 * 1024 + 1 * k.val = k.val; rw [e1]; omega

theorem blk_b (i : Fin 4) (l : Fin 1024) (k : Fin 1024) :
    (iblk m c 1 (pt i) : Vec Ideal S1024x1024 .bf16) (ix2 l k) = X1 m c (ix2 l k) := by
  obtain ⟨-, ⟨e0, e1⟩, -⟩ := idx (pt i)
  unfold iblk
  rw [View.read_apply]
  show V m c main_arg1 _ = _
  rw [V_main_arg1]
  congr 1; funext a; apply Fin.ext
  match a with
  | ⟨0, _⟩ => show win0_1.index (pt i) 0 * 1024 + 1 * l.val = l.val; rw [e0]; omega
  | ⟨1, _⟩ => show win0_1.index (pt i) 1 * 1024 + 1 * k.val = k.val; rw [e1]; omega

/-- The kernel's array, entry by entry. -/
theorem kernel_apply (i : Fin 4) (r : Fin 1024) (l : Fin 1024) :
    ((dats m 0 c).arrAt 2 cfg0.N : FVec Ideal S4096x1024 .f32) (ix2 (tix i r) l)
      = ∑ k : Fin 1024, X0 m c (ix2 (tix i r) k) * X1 m c (ix2 l k) := by
  obtain ⟨-, -, ⟨e0, e1⟩⟩ := idx (pt i)
  have h := congrFun (blocks2 m c (pt i) (flush0_2 _)) (ix2 r l)
  rw [View.read_apply, flushed2, out_eq] at h
  have he : ((cfg0.win 2).blk (pt i)).view.emb (ix2 r l) = ix2 (tix i r) l := by
    funext a; apply Fin.ext
    match a with
    | ⟨0, _⟩ => show win0_2.index (pt i) 0 * 1024 + 1 * r.val = 1024 * i.val + r.val; rw [e0]; show i.val * 1024 + 1 * r.val = _; omega
    | ⟨1, _⟩ => show win0_2.index (pt i) 1 * 1024 + 1 * l.val = l.val; rw [e1]; omega
  rw [he] at h
  refine Eq.trans h ((pay_apply (iblk m c 0 (pt i)) (iblk m c 1 (pt i)) r l).trans ?_)
  exact Finset.sum_congr rfl fun k _ => congrArg₂ (fun a b : EReal => a * b) (blk_a m c i r k) (blk_b m c i l k)

open Cert.Reference8Ideal.Read in
/-- The reference's, entry by entry. -/
theorem ref_apply (x0 : FVec Ideal S4096x1024 .bf16) (x1 : FVec Ideal S1024x1024 .bf16) (r : Fin 4096) (l : Fin 1024) :
    val_main_v4 (F := Ideal) x0 x1 (ix2 r l) = ∑ k : Fin 1024, x0 (ix2 r k) * x1 (ix2 l k) := by
  unfold val_main_v4 val_main_v3 val_main_v1
  pointwise

theorem value_eq : Cert.Reference8Ideal.Read.val_main_v4 (F := Ideal) (X0 m c) (X1 m c)
    = (dats m 0 c).arrAt 2 cfg0.N := by
  refine funext fun (i : S4096x1024.Idx) => ?_
  obtain ⟨t, r, l, rfl⟩ : ∃ (t : Fin 4) (r : Fin 1024) (l : Fin 1024), i = ix2 (tix t r) l := by
    have hi : (i 0).val < 4096 := (i 0).isLt
    refine ⟨⟨(i 0).val / 1024, by omega⟩, ⟨(i 0).val % 1024, by omega⟩, i 1, ?_⟩
    funext a; match a with
    | ⟨0, _⟩ => exact Fin.ext (by show (i 0).val = 1024 * ((i 0).val / 1024) + (i 0).val % 1024; omega)
    | ⟨1, _⟩ => rfl
  exact (ref_apply _ _ (tix t r) l).trans (kernel_apply m c t r l).symm

/-! ## The claims -/

/-- The reference runs on the host alone: its run keeps the arguments, and it has no semaphore. -/
theorem frame_reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The kernel's array is the reference's: the gradient of the mixers' outputs. -/
theorem algebraic : Cert.algebraic_Kernel8Ideal_Reference8Ideal := by
  intro m ρ m' ρ' hpre hagree
  refine ⟨fun c => (dats m 0 c).arrAt 2 cfg0.N, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨e0, e1⟩ := hagree c
  refine ⟨(h c).1.trans ((Cert.Reference8Ideal.Read.val_main_v4_eq _ _).trans ?_), (h c).2⟩
  rw [e0, e1]
  exact value_eq m c

end Cert.OutDx

end
-- ==== Proof.OutDw.lean ====
/-
  The gradient of the output projection: the kernel adds the products of four tiles of rows up, the reference contracts
  all the 4096 rows at once.
-/
module

public import proofs.«01_k».proof.Defs
public import proofs.«01_k».proof.Proof.Gen.Kernel9Ideal.Value
public import proofs.«01_k».proof.Proof.Gen.Reference9Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.OutDw

open Idealize.ShloMosaic Idealize.SL.Sem Idealize.ShloMosaic.TcCoe Idealize.ShloMosaic.Tactic
open Cert.Kernel9Ideal Cert.Kernel9Ideal.Gen Cert.Kernel9Ideal.Value

theorem hz : (![0, 0] : Fin 2 → Nat) = fun _ => 0 := funext fun a => by fin_cases a <;> rfl

/-! ## What a point leaves -/

section Point
variable (c : Dev nD) (i : grid0.Coords) (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x1024 .f32) (harg6 : arg6.IsWhole)
  (x0 x1 : Vec Ideal S1024x1024 .bf16) (xs0 : Vec Ideal S1024x1024 .f32)

/-- The first tile's product, -/
theorem acc_first (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero (S := S1024x1024) hz]
  simp only [View.readAt_eq_ld, harg3.read_unread, harg4.read_unread, harg6.read_unread, View.ld_unit_zero (S := S1024x1024) hz]

/-- a later one's added, -/
theorem acc_next (hc0 : ¬cond0_0 i) (hc1 : cond0_1 i) (hc2 : ¬cond0_2 i) :
    sout0_B_0 (F := Ideal) c i arg3 harg3 arg4 harg4 arg5 harg5 arg6 harg6 hc0 hc1 hc2 x0 x1 xs0 = k0_pay2 xs0 x0 x1 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero (S := S1024x1024) hz]
  simp only [View.readAt_eq_ld, harg3.read_unread, harg4.read_unread, harg6.read_unread, View.ld_unit_zero (S := S1024x1024) hz]

/-- and the last one's, written out. -/
theorem out_last (hc0 : ¬cond0_0 i) (hc1 : ¬cond0_1 i) (hc2 : cond0_2 i) :
    out0_C_2 (F := Ideal) c i arg3 harg3 arg4 harg4 arg5 harg5 arg6 harg6 hc0 hc1 hc2 x0 x1 xs0 = k0_pay3 xs0 x0 x1 := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero (S := S1024x1024) hz]
  simp only [View.readAt_eq_ld, harg3.read_unread, harg4.read_unread, harg6.read_unread, View.ld_unit_zero (S := S1024x1024) hz]

end Point

/-- A tile's product. -/
def tsum (x0 x1 : Vec Ideal S1024x1024 .bf16) (r l : Fin 1024) : EReal := ∑ k : Fin 1024, x0 (ix2 k r) * x1 (ix2 k l)

theorem pay1_apply (x0 x1 : Vec Ideal S1024x1024 .bf16) (r l : Fin 1024) : k0_pay1 (F := Ideal) x0 x1 (ix2 r l) = tsum x0 x1 r l := by
  unfold k0_pay1 tsum
  pointwise
theorem pay2_apply (a : Vec Ideal S1024x1024 .f32) (x0 x1 : Vec Ideal S1024x1024 .bf16) (r l : Fin 1024) :
    k0_pay2 (F := Ideal) a x0 x1 (ix2 r l) = (a (ix2 r l) : EReal) + tsum x0 x1 r l := by
  unfold k0_pay2 tsum
  pointwise
theorem pay3_apply (a : Vec Ideal S1024x1024 .f32) (x0 x1 : Vec Ideal S1024x1024 .bf16) (r l : Fin 1024) :
    k0_pay3 (F := Ideal) a x0 x1 (ix2 r l) = (a (ix2 r l) : EReal) + tsum x0 x1 r l := by
  unfold k0_pay3 tsum
  pointwise

/-! ## The kernel's array -/

variable (m : (ℓ : Loc nD τ sig) → Buf (Elt Ideal) ℓ) (c : Dev nD)

/-- The arrays the kernel is given. -/
abbrev X0 : FVec Ideal S4096x1024 .bf16 := m ((c : Thread nD τ).loc main_arg0)
abbrev X1 : FVec Ideal S4096x1024 .bf16 := m ((c : Thread nD τ).loc main_arg1)

theorem scr_first (t : Fin cfg0.N) (h0 : t.val % 4 = 0) :
    (outsAt0 m c t.val t.isLt).2 = k0_pay1 (iblk m c 0 t) (iblk m c 1 t) := by
  rw [outsAt0_A m c t h0 (by omega) (by omega)]; dsimp only; exact acc_first ..
theorem scr_next (t : Fin cfg0.N) (h : 1 ≤ t.val % 4 ∧ t.val % 4 ≤ 2) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t (by omega) h (by omega)]; dsimp only; exact acc_next ..
theorem outs_last (t : Fin cfg0.N) (h : t.val % 4 = 3) :
    (outsAt0 m c t.val t.isLt).1 = k0_pay3 (outsAt0 m c (t.val - 1) (Nat.lt_of_le_of_lt (Nat.sub_le _ _) t.isLt)).2 (iblk m c 0 t) (iblk m c 1 t) := by
  rw [outsAt0_C m c t (by omega) (by omega) h]; dsimp only; exact out_last ..

/-- The printed index maps, decided over the grid: the tile of rows is the point's number. -/
theorem idx : ∀ t : Fin grid0.N, (win0_0.index t 0 = t.val ∧ win0_0.index t 1 = 0) ∧ (win0_1.index t 0 = t.val ∧ win0_1.index t 1 = 0) := by
  decide +kernel

/-- The grid point of a tile of rows, and a tile's row as a row of the whole. -/
abbrev pt (i : Fin 4) : Fin cfg0.N := ⟨i.val, lt_of_lt_of_eq i.isLt (show 4 = cfg0.N from N_0.symm)⟩
abbrev row (i : Fin 4) (r : Fin 1024) : Fin 4096 := ⟨1024 * i.val + r.val, by omega⟩

theorem blk_a (i : Fin 4) (k r : Fin 1024) :
    (iblk m c 0 (pt i) : Vec Ideal S1024x1024 .bf16) (ix2 k r) = X0 m c (ix2 (row i k) r) := by
  obtain ⟨⟨e0, e1⟩, -⟩ := idx (pt i)
  unfold iblk
  rw [View.read_apply]
  show V m c main_arg0 _ = _
  rw [V_main_arg0]
  congr 1; funext a; apply Fin.ext
  match a with
  | ⟨0, _⟩ => show win0_0.index (pt i) 0 * 1024 + 1 * k.val = 1024 * i.val + k.val; rw [e0]; show i.val * 1024 + 1 * k.val = _; omega
  | ⟨1, _⟩ => show win0_0.index (pt i) 1 * 1024 + 1 * r.val = r.val; rw [e1]; omega

theorem blk_b (i : Fin 4) (k l : Fin 1024) :
    (iblk m c 1 (pt i) : Vec Ideal S1024x1024 .bf16) (ix2 k l) = X1 m c (ix2 (row i k) l) := by
  obtain ⟨-, ⟨e0, e1⟩⟩ := idx (pt i)
  unfold iblk
  rw [View.read_apply]
  show V m c main_arg1 _ = _
  rw [V_main_arg1]
  congr 1; funext a; apply Fin.ext
  match a with
  | ⟨0, _⟩ => show win0_1.index (pt i) 0 * 1024 + 1 * k.val = 1024 * i.val + k.val; rw [e0]; show i.val * 1024 + 1 * k.val = _; omega
  | ⟨1, _⟩ => show win0_1.index (pt i) 1 * 1024 + 1 * l.val = l.val; rw [e1]; omega

/-- A tile's share of the gradient. -/
def part (r l : Fin 1024) (i : Fin 4) : EReal := ∑ k : Fin 1024, X0 m c (ix2 (row i k) r) * X1 m c (ix2 (row i k) l)

theorem tsum_blk (i : Fin 4) (r l : Fin 1024) : tsum (iblk m c 0 (pt i)) (iblk m c 1 (pt i)) r l = part m c r l i :=
  Finset.sum_congr rfl fun k _ => congrArg₂ (fun a b : EReal => a * b) (blk_a m c i k r) (blk_b m c i k l)

theorem scr0 (r l : Fin 1024) : ((outsAt0 m c (pt 0).val (pt 0).isLt).2 (ix2 r l) : EReal) = part m c r l 0 := by
  rw [scr_first m c (pt 0) rfl]
  exact (pay1_apply _ _ r l).trans (tsum_blk m c 0 r l)
theorem scr1 (r l : Fin 1024) : ((outsAt0 m c (pt 1).val (pt 1).isLt).2 (ix2 r l) : EReal) = part m c r l 0 + part m c r l 1 := by
  rw [scr_next m c (pt 1) ⟨by decide, by decide⟩]
  exact (pay2_apply _ _ _ r l).trans (congrArg₂ (fun a b : EReal => a + b) (scr0 m c r l) (tsum_blk m c 1 r l))
theorem scr2 (r l : Fin 1024) : ((outsAt0 m c (pt 2).val (pt 2).isLt).2 (ix2 r l) : EReal) = part m c r l 0 + part m c r l 1 + part m c r l 2 := by
  rw [scr_next m c (pt 2) ⟨by decide, by decide⟩]
  exact (pay2_apply _ _ _ r l).trans (congrArg₂ (fun a b : EReal => a + b) (scr1 m c r l) (tsum_blk m c 2 r l))
theorem out3 (r l : Fin 1024) : ((outsAt0 m c (pt 3).val (pt 3).isLt).1 (ix2 r l) : EReal)
    = part m c r l 0 + part m c r l 1 + part m c r l 2 + part m c r l 3 := by
  rw [outs_last m c (pt 3) rfl]
  exact (pay3_apply _ _ _ r l).trans (congrArg₂ (fun a b : EReal => a + b) (scr2 m c r l) (tsum_blk m c 3 r l))

/-- The rows of the whole, tile by tile. -/
theorem sum_rows (f : Fin 4096 → EReal) : (∑ i : Fin 4, ∑ k : Fin 1024, f (row i k)) = ∑ t : Fin 4096, f t := by
  rw [← Fintype.sum_prod_type']
  refine Fintype.sum_equiv (finProdFinEquiv (m := 4) (n := 1024)) _ _ fun p => congrArg f (Fin.ext ?_)
  show 1024 * p.1.val + p.2.val = p.2.val + 1024 * p.1.val
  omega

theorem kernel_apply (r l : Fin 1024) : (G2 m c : FVec Ideal S1024x1024 .bf16) (ix2 r l) = ∑ t : Fin 4096, X0 m c (ix2 t r) * X1 m c (ix2 t l) := by
  rw [G2_last, ← outsAt0_sweep m c 3 (pt 3).isLt, ← sum_rows (fun t => X0 m c (ix2 t r) * X1 m c (ix2 t l)), Fin.sum_univ_four]
  exact out3 m c r l

open Cert.Reference9Ideal.Read in
/-- The reference's, entry by entry. -/
theorem ref_apply (x0 x1 : FVec Ideal S4096x1024 .bf16) (r l : Fin 1024) :
    val_main_v6 (F := Ideal) x0 x1 (ix2 r l) = ∑ t : Fin 4096, x0 (ix2 t r) * x1 (ix2 t l) := by
  unfold val_main_v6 val_main_v5 val_main_v4 val_main_v3 val_main_v1
  pointwise
  exact Finset.sum_congr rfl fun k _ => mul_comm _ _

theorem value_eq : Cert.Reference9Ideal.Read.val_main_v6 (F := Ideal) (X0 m c) (X1 m c) = G2 m c := by
  refine funext fun (i : S1024x1024.Idx) => ?_
  obtain ⟨r, l, rfl⟩ : ∃ (r l : Fin 1024), i = ix2 r l := by
    refine ⟨i 0, i 1, ?_⟩
    funext a; match a with
    | ⟨0, _⟩ => rfl
    | ⟨1, _⟩ => rfl
  exact (ref_apply _ _ r l).trans (kernel_apply m c r l).symm

/-! ## The claims -/

/-- The reference runs on the host alone: its run keeps the arguments, and it has no semaphore. -/
theorem frame_reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The kernel's array is the reference's: the gradient of the output projection. -/
theorem algebraic : Cert.algebraic_Kernel9Ideal_Reference9Ideal := by
  intro m ρ m' ρ' hpre hagree
  refine ⟨fun c => G2 m c, Cert.Kernel9Ideal.Value.run (F := Ideal) m ρ, ?_⟩
  refine (θ_run Cert.Reference9Ideal.defs _ _).mono (fun _ h c => ?_) (Cert.Reference9Ideal.Value.run (F := Ideal) m' ρ')
  obtain ⟨e0, e1⟩ := hagree c
  refine ⟨(h c).1.trans ((Cert.Reference9Ideal.Read.val_main_v6_eq _ _).trans ?_), (h c).2⟩
  rw [e0, e1]
  exact value_eq m c

end Cert.OutDw

end
-- ==== Proof.UpFwd.lean ====
/-
  The channel mixer's gate and up products and the gated activation: the kernel works block of columns by block of
  columns, the reference on all the 5632 columns at once.
-/
module

public import proofs.«01_k».proof.Defs
public import proofs.«01_k».proof.Proof.Gen.Kernel10Ideal.Value
public import proofs.«01_k».proof.Proof.Gen.Reference10Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.UpFwd

open Idealize.ShloMosaic Idealize.SL.Sem Idealize.ShloMosaic.TcCoe Idealize.ShloMosaic.Tactic
open Cert.Kernel10Ideal Cert.Kernel10Ideal.Gen Cert.Kernel10Ideal.Value

/-- A block's column as a column of a half, and of the whole; a tile's row as a row of the whole. -/
abbrev col (j : Fin 4) (l : Fin 704) : Fin 2816 := ⟨704 * j.val + l.val, by omega⟩
abbrev col8 (j : Fin 8) (l : Fin 704) : Fin 5632 := ⟨704 * j.val + l.val, by omega⟩
abbrev row (i : Fin 2) (r : Fin 2048) : Fin 4096 := ⟨2048 * i.val + r.val, by omega⟩
/-- The block of the gate's weights, and of the up product's. -/
abbrev lo (j : Fin 4) : Fin 8 := ⟨j.val, by omega⟩
abbrev hi (j : Fin 4) : Fin 8 := ⟨j.val + 4, by omega⟩

/-- The gated activation. -/
def act (g u : EReal) : EReal := g * Ideal.logistic g * u

/-- A block's product. -/
def bsum (x0 : Vec Ideal S2048x1024 .bf16) (x1 : Vec Ideal S1x1024x704 .bf16) (r : Fin 2048) (l : Fin 704) : EReal :=
  ∑ k : Fin 1024, x0 (ix2 r k) * x1 (ix3 (0 : Fin 1) k l)

theorem pay1_apply (x0 : Vec Ideal S2048x1024 .bf16) (x1 : Vec Ideal S1x1024x704 .bf16) (r : Fin 2048) (l : Fin 704) :
    k0_pay1 (F := Ideal) x0 x1 (ix2 r l) = bsum x0 x1 r l := by
  unfold k0_pay1 bsum
  pointwise

theorem pay2_apply (x0 : Vec Ideal S2048x1024 .bf16) (x1 : Vec Ideal S1x1024x704 .bf16) (r : Fin 2048) (l : Fin 704) :
    k0_pay2 (F := Ideal) x0 x1 (ix2 r l) = bsum x0 x1 r l := by
  unfold k0_pay2 bsum
  pointwise

theorem pay3_apply (x0 : Vec Ideal S2048x1024 .bf16) (x1 : Vec Ideal S1x1024x704 .bf16) (r : Fin 2048) (l : Fin 704) :
    k0_pay3 (F := Ideal) x0 x1 (ix4 (0 : Fin 1) (0 : Fin 1) r l) = bsum x0 x1 r l := by
  have h1 := pay1_apply x0 x1 r l
  unfold k0_pay3
  generalize k0_pay1 (F := Ideal) x0 x1 = y1 at *
  pointwise
  exact h1

theorem pay4_apply (x0 : Vec Ideal S2048x1024 .bf16) (x1 : Vec Ideal S1x1024x704 .bf16) (r : Fin 2048) (l : Fin 704) :
    k0_pay4 (F := Ideal) x0 x1 (ix4 (0 : Fin 1) (0 : Fin 1) r l) = bsum x0 x1 r l := by
  have h1 := pay2_apply x0 x1 r l
  unfold k0_pay4
  generalize k0_pay2 (F := Ideal) x0 x1 = y1 at *
  pointwise
  exact h1

theorem pay5_apply (x0 : Vec Ideal S2048x1024 .bf16) (x1 x2 : Vec Ideal S1x1024x704 .bf16) (r : Fin 2048) (l : Fin 704) :
    k0_pay5 (F := Ideal) x0 x1 x2 (ix3 (0 : Fin 1) r l) = act (bsum x0 x1 r l) (bsum x0 x2 r l) := by
  have h1 := pay1_apply x0 x1 r l
  have h2 := pay2_apply x0 x2 r l
  unfold k0_pay5
  generalize k0_pay1 (F := Ideal) x0 x1 = y1 at *
  generalize k0_pay2 (F := Ideal) x0 x2 = y2 at *
  pointwise
  rw [h1, h2]; rfl

theorem emb_half (p : Fin 2) (inb : ∀ a, (![p.val, 0, 0, 0] : Fin 4 → Nat) a + S1x1x2048x704.size a ≤ S2x1x2048x704.size a) (r : Fin 2048) (l : Fin 704) :
    (Rect.unit (s := S2x1x2048x704) ![p.val, 0, 0, 0] S1x1x2048x704.size inb).emb (ix4 (0 : Fin 1) (0 : Fin 1) r l) = ix4 p (0 : Fin 1) r l := by
  funext a; apply Fin.ext
  match a with
  | ⟨0, _⟩ => show p.val + 1 * 0 = p.val; omega
  | ⟨1, _⟩ => rfl
  | ⟨2, _⟩ => show 0 + 1 * r.val = r.val; omega
  | ⟨3, _⟩ => show 0 + 1 * l.val = l.val; omega

theorem ld_0 (x0 : Vec Ideal S2048x1024 .bf16) : View.ld x0 r0_0 = x0 := by
  have h : (![0, 0] : Fin S2048x1024.rank → Nat) = fun _ => 0 := funext fun a => by fin_cases a <;> rfl
  rw [View.ld_unit_zero h]
theorem ld_1 (x1 : Vec Ideal S1x1024x704 .bf16) : View.ld x1 r0_1 = x1 := by
  have h : (![0, 0, 0] : Fin S1x1024x704.rank → Nat) = fun _ => 0 := funext fun a => by fin_cases a <;> rfl
  rw [View.ld_unit_zero h]

/-- What the body leaves: the up product in the second half, -/
theorem out_up (x0 : Vec Ideal S2048x1024 .bf16) (x1 x2 : Vec Ideal S1x1024x704 .bf16) (r : Fin 2048) (l : Fin 704) :
    out0_3 (F := Ideal) x0 x1 x2 (ix4 (1 : Fin 2) (0 : Fin 1) r l) = bsum x0 x2 r l := by
  unfold out0_3
  rw [ld_0, ld_1, ld_1]
  refine (congrArg _ (emb_half 1 inb_S2x1x2048x704_S1x1x2048x704_1_0_0_0 r l).symm).trans ?_
  refine (View.canon_cons_emb r0_3 _ _ (ix4 (0 : Fin 1) (0 : Fin 1) r l)).trans ?_
  exact pay4_apply _ _ r l

/-- the gate in the first, -/
theorem out_gate (x0 : Vec Ideal S2048x1024 .bf16) (x1 x2 : Vec Ideal S1x1024x704 .bf16) (r : Fin 2048) (l : Fin 704) :
    out0_3 (F := Ideal) x0 x1 x2 (ix4 (0 : Fin 2) (0 : Fin 1) r l) = bsum x0 x1 r l := by
  unfold out0_3
  rw [ld_0, ld_1, ld_1]
  rw [View.canon_cons_of_not_mem]
  · refine (congrArg _ (emb_half 0 inb_S2x1x2048x704_S1x1x2048x704_0_0_0_0 r l).symm).trans ?_
    refine (View.canon_cons_emb r0_2 _ _ (ix4 (0 : Fin 1) (0 : Fin 1) r l)).trans ?_
    exact pay3_apply _ _ r l
  · intro hy
    rw [Rect.mem_set_unit] at hy
    have h : 1 ≤ 0 := (hy 0).1
    omega

/-- and the gated activation in the other output. -/
theorem out_act (x0 : Vec Ideal S2048x1024 .bf16) (x1 x2 : Vec Ideal S1x1024x704 .bf16) (r : Fin 2048) (l : Fin 704) :
    out0_4 (F := Ideal) x0 x1 x2 (ix3 (0 : Fin 1) r l) = act (bsum x0 x1 r l) (bsum x0 x2 r l) := by
  have h : (![0, 0, 0] : Fin S1x2048x704.rank → Nat) = fun _ => 0 := funext fun a => by fin_cases a <;> rfl
  unfold out0_4
  rw [ld_0, ld_1, ld_1, View.canon_unit_zero h]
  exact pay5_apply x0 x1 x2 r l

/-! ## The kernel's arrays -/

variable (m : (ℓ : Loc nD τ sig) → Buf (Elt Ideal) ℓ) (c : Dev nD)

/-- The arrays the kernel is given. -/
abbrev X0 : FVec Ideal S4096x1024 .bf16 := m ((c : Thread nD τ).loc main_arg0)
abbrev X1 : FVec Ideal S8x1024x704 .bf16 := m ((c : Thread nD τ).loc main_arg1)

/-- The grid point of a tile of rows and a block of columns. -/
abbrev pt (i : Fin 2) (j : Fin 4) : Fin cfg0.N := ⟨4 * i.val + j.val, lt_of_lt_of_eq (show 4 * i.val + j.val < 8 by omega) (show 8 = cfg0.N from N_0.symm)⟩

/-- The printed index maps, decided over the grid. -/
theorem idx : ∀ t : Fin grid0.N,
    (win0_0.index t 0 = t.val / 4 ∧ win0_0.index t 1 = 0)
    ∧ (win0_1.index t 0 = t.val % 4 ∧ win0_1.index t 1 = 0 ∧ win0_1.index t 2 = 0)
    ∧ (win0_2.index t 0 = t.val % 4 + 4 ∧ win0_2.index t 1 = 0 ∧ win0_2.index t 2 = 0)
    ∧ (win0_3.index t 0 = 0 ∧ win0_3.index t 1 = t.val % 4 ∧ win0_3.index t 2 = t.val / 4 ∧ win0_3.index t 3 = 0)
    ∧ (win0_4.index t 0 = t.val % 4 ∧ win0_4.index t 1 = t.val / 4 ∧ win0_4.index t 2 = 0) := by
  decide +kernel

theorem pt_div (i : Fin 2) (j : Fin 4) : (pt i j).val / 4 = i.val := by show (4 * i.val + j.val) / 4 = _; omega
theorem pt_mod (i : Fin 2) (j : Fin 4) : (pt i j).val % 4 = j.val := by show (4 * i.val + j.val) % 4 = _; omega

theorem blk_a (i : Fin 2) (j : Fin 4) (r : Fin 2048) (k : Fin 1024) :
    (iblk m c 0 (pt i j) : Vec Ideal S2048x1024 .bf16) (ix2 r k) = X0 m c (ix2 (row i r) k) := by
  obtain ⟨⟨e0, e1⟩, -, -, -, -⟩ := idx (pt i j)
  unfold iblk
  rw [View.read_apply]
  show V m c main_arg0 _ = _
  rw [V_main_arg0]
  congr 1; funext a; apply Fin.ext
  match a with
  | ⟨0, _⟩ => show win0_0.index (pt i j) 0 * 2048 + 1 * r.val = 2048 * i.val + r.val; rw [e0, pt_div]; omega
  | ⟨1, _⟩ => show win0_0.index (pt i j) 1 * 1024 + 1 * k.val = k.val; rw [e1]; omega

theorem blk_b (i : Fin 2) (j : Fin 4) (k : Fin 1024) (l : Fin 704) :
    (iblk m c 1 (pt i j) : Vec Ideal S1x1024x704 .bf16) (ix3 (0 : Fin 1) k l) = X1 m c (ix3 (lo j) k l) := by
  obtain ⟨-, ⟨e0, e1, e2⟩, -, -, -⟩ := idx (pt i j)
  unfold iblk
  rw [View.read_apply]
  show V m c main_arg1 _ = _
  rw [V_main_arg1]
  congr 1; funext a; apply Fin.ext
  match a with
  | ⟨0, _⟩ => show win0_1.index (pt i j) 0 * 1 + 1 * 0 = j.val; rw [e0, pt_mod]; omega
  | ⟨1, _⟩ => show win0_1.index (pt i j) 1 * 1024 + 1 * k.val = k.val; rw [e1]; omega
  | ⟨2, _⟩ => show win0_1.index (pt i j) 2 * 704 + 1 * l.val = l.val; rw [e2]; omega

theorem blk_c (i : Fin 2) (j : Fin 4) (k : Fin 1024) (l : Fin 704) :
    (iblk m c 2 (pt i j) : Vec Ideal S1x1024x704 .bf16) (ix3 (0 : Fin 1) k l) = X1 m c (ix3 (hi j) k l) := by
  obtain ⟨-, -, ⟨e0, e1, e2⟩, -, -⟩ := idx (pt i j)
  unfold iblk
  rw [View.read_apply]
  show V m c main_arg1 _ = _
  rw [V_main_arg1]
  congr 1; funext a; apply Fin.ext
  match a with
  | ⟨0, _⟩ => show win0_2.index (pt i j) 0 * 1 + 1 * 0 = j.val + 4; rw [e0, pt_mod]; omega
  | ⟨1, _⟩ => show win0_2.index (pt i j) 1 * 1024 + 1 * k.val = k.val; rw [e1]; omega
  | ⟨2, _⟩ => show win0_2.index (pt i j) 2 * 704 + 1 * l.val = l.val; rw [e2]; omega

/-- The product with a block of the weights. -/
def pr (x0 : FVec Ideal S4096x1024 .bf16) (x1 : FVec Ideal S8x1024x704 .bf16) (q : Fin 8) (t : Fin 4096) (l : Fin 704) : EReal :=
  ∑ k : Fin 1024, x0 (ix2 t k) * x1 (ix3 q k l)

theorem bsum_b (i : Fin 2) (j : Fin 4) (r : Fin 2048) (l : Fin 704) :
    bsum (iblk m c 0 (pt i j)) (iblk m c 1 (pt i j)) r l = pr (X0 m c) (X1 m c) (lo j) (row i r) l :=
  Finset.sum_congr rfl fun k _ => congrArg₂ (fun a b : EReal => a * b) (blk_a m c i j r k) (blk_b m c i j k l)
theorem bsum_c (i : Fin 2) (j : Fin 4) (r : Fin 2048) (l : Fin 704) :
    bsum (iblk m c 0 (pt i j)) (iblk m c 2 (pt i j)) r l = pr (X0 m c) (X1 m c) (hi j) (row i r) l :=
  Finset.sum_congr rfl fun k _ => congrArg₂ (fun a b : EReal => a * b) (blk_a m c i j r k) (blk_c m c i j k l)

theorem emb_gu (i : Fin 2) (j : Fin 4) (p : Fin 2) (r : Fin 2048) (l : Fin 704) :
    ((cfg0.win 3).blk (pt i j)).view.emb (ix4 p (0 : Fin 1) r l) = ix4 p j (row i r) l := by
  obtain ⟨-, -, -, ⟨e0, e1, e2, e3⟩, -⟩ := idx (pt i j)
  funext a; apply Fin.ext
  match a with
  | ⟨0, _⟩ => show win0_3.index (pt i j) 0 * 2 + 1 * p.val = p.val; rw [e0]; omega
  | ⟨1, _⟩ => show win0_3.index (pt i j) 1 * 1 + 1 * 0 = j.val; rw [e1, pt_mod]; omega
  | ⟨2, _⟩ => show win0_3.index (pt i j) 2 * 2048 + 1 * r.val = 2048 * i.val + r.val; rw [e2, pt_div]; omega
  | ⟨3, _⟩ => show win0_3.index (pt i j) 3 * 704 + 1 * l.val = l.val; rw [e3]; omega

theorem emb_act (i : Fin 2) (j : Fin 4) (r : Fin 2048) (l : Fin 704) :
    ((cfg0.win 4).blk (pt i j)).view.emb (ix3 (0 : Fin 1) r l) = ix3 j (row i r) l := by
  obtain ⟨-, -, -, -, ⟨e0, e1, e2⟩⟩ := idx (pt i j)
  funext a; apply Fin.ext
  match a with
  | ⟨0, _⟩ => show win0_4.index (pt i j) 0 * 1 + 1 * 0 = j.val; rw [e0, pt_mod]; omega
  | ⟨1, _⟩ => show win0_4.index (pt i j) 1 * 2048 + 1 * r.val = 2048 * i.val + r.val; rw [e1, pt_div]; omega
  | ⟨2, _⟩ => show win0_4.index (pt i j) 2 * 704 + 1 * l.val = l.val; rw [e2]; omega

theorem kernel_half (i : Fin 2) (j : Fin 4) (p : Fin 2) (r : Fin 2048) (l : Fin 704) :
    ((dats m 0 c).arrAt 3 cfg0.N : FVec Ideal S2x4x4096x704 .bf16) (ix4 p j (row i r) l)
      = out0_3 (F := Ideal) (iblk m c 0 (pt i j)) (iblk m c 1 (pt i j)) (iblk m c 2 (pt i j)) (ix4 p (0 : Fin 1) r l) := by
  have h := congrFun (blocks3 m c (pt i j) (flush0_3 _)) (ix4 p (0 : Fin 1) r l)
  rw [View.read_apply, flushed3, emb_gu] at h
  exact h

theorem kernel_gate (i : Fin 2) (j : Fin 4) (r : Fin 2048) (l : Fin 704) :
    ((dats m 0 c).arrAt 3 cfg0.N : FVec Ideal S2x4x4096x704 .bf16) (ix4 (0 : Fin 2) j (row i r) l)
      = pr (X0 m c) (X1 m c) (lo j) (row i r) l :=
  (kernel_half m c i j 0 r l).trans ((out_gate _ _ _ r l).trans (bsum_b m c i j r l))

theorem kernel_up (i : Fin 2) (j : Fin 4) (r : Fin 2048) (l : Fin 704) :
    ((dats m 0 c).arrAt 3 cfg0.N : FVec Ideal S2x4x4096x704 .bf16) (ix4 (1 : Fin 2) j (row i r) l)
      = pr (X0 m c) (X1 m c) (hi j) (row i r) l :=
  (kernel_half m c i j 1 r l).trans ((out_up _ _ _ r l).trans (bsum_c m c i j r l))

theorem kernel_act (i : Fin 2) (j : Fin 4) (r : Fin 2048) (l : Fin 704) :
    ((dats m 0 c).arrAt 4 cfg0.N : FVec Ideal S4x4096x704 .bf16) (ix3 j (row i r) l)
      = act (pr (X0 m c) (X1 m c) (lo j) (row i r) l) (pr (X0 m c) (X1 m c) (hi j) (row i r) l) := by
  have h := congrFun (blocks4 m c (pt i j) (flush0_4 _)) (ix3 (0 : Fin 1) r l)
  rw [View.read_apply, flushed4, emb_act] at h
  exact Eq.trans h ((out_act (iblk m c 0 (pt i j)) (iblk m c 1 (pt i j)) (iblk m c 2 (pt i j)) r l).trans (congrArg₂ act (bsum_b m c i j r l) (bsum_c m c i j r l)))

/-! ## The reference's arrays -/

section Reference
open Cert.Reference10Ideal.Read

variable (x0 : FVec Ideal S4096x1024 .bf16) (x1 : FVec Ideal S8x1024x704 .bf16)
variable (j : Fin 4) (t : Fin 4096) (l : Fin 704)

theorem div_col (q : Fin 8) (l : Fin 704) : (⟨(704 * q.val + l.val) / 704, by omega⟩ : Fin 8) = q := Fin.ext (by show (704 * q.val + l.val) / 704 = q.val; omega)
theorem mod_col (q : Fin 8) (l : Fin 704) : (⟨(704 * q.val + l.val) % 704, by omega⟩ : Fin 704) = l := Fin.ext (by show (704 * q.val + l.val) % 704 = l.val; omega)

theorem r_w (q : Fin 8) (k : Fin 1024) : val_main_v3 (F := Ideal) x1 (ix2 k (col8 q l)) = x1 (ix3 q k l) := by
  unfold val_main_v3 val_main_v2 val_main_v1
  pointwise
  exact congrArg₂ (fun a b => x1 (ix3 a k b)) (div_col q l) (mod_col q l)

theorem r_pr (q : Fin 8) : val_main_v4 (F := Ideal) x0 x1 (ix2 t (col8 q l)) = pr x0 x1 q t l := by
  have h := fun k => r_w x1 l q k
  unfold val_main_v4 val_main_v0 pr
  generalize val_main_v3 (F := Ideal) x1 = y at *
  pointwise
  exact Finset.sum_congr rfl fun k _ => congrArg _ (h k)

theorem r_gate : val_main_v5 (F := Ideal) x0 x1 (ix2 t (col j l)) = pr x0 x1 (lo j) t l := by
  have h := r_pr x0 x1 t l (lo j)
  unfold val_main_v5
  generalize val_main_v4 (F := Ideal) x0 x1 = y at *
  pointwise
  exact h

theorem r_up : val_main_v6 (F := Ideal) x0 x1 (ix2 t (col j l)) = pr x0 x1 (hi j) t l := by
  have h := r_pr x0 x1 t l (hi j)
  unfold val_main_v6
  generalize val_main_v4 (F := Ideal) x0 x1 = y at *
  pointwise
  exact Eq.trans (congrArg (fun a => y (ix2 t a)) (Fin.ext (by show 2816 + (704 * j.val + l.val) = 704 * (j.val + 4) + l.val; omega))) h

theorem ref_gate : val_main_v14 (F := Ideal) x0 x1 (ix4 (0 : Fin 2) j t l) = pr x0 x1 (lo j) t l := by
  have h := r_gate x0 x1 j t l
  unfold val_main_v14 val_main_v13 val_main_v11 val_main_v8 val_main_v7
  generalize val_main_v5 (F := Ideal) x0 x1 = y1 at *
  generalize val_main_v12 (F := Ideal) x0 x1 = y2 at *
  pointwise
  exact Eq.trans (congrArg (fun a => y1 (ix2 t a)) (Fin.ext (by show j.val * 704 + l.val = 704 * j.val + l.val; omega))) h

theorem ref_up : val_main_v14 (F := Ideal) x0 x1 (ix4 (1 : Fin 2) j t l) = pr x0 x1 (hi j) t l := by
  have h := r_up x0 x1 j t l
  unfold val_main_v14 val_main_v13 val_main_v12 val_main_v10 val_main_v9
  generalize val_main_v6 (F := Ideal) x0 x1 = y1 at *
  generalize val_main_v11 (F := Ideal) x0 x1 = y2 at *
  pointwise
  exact Eq.trans (congrArg (fun a => y1 (ix2 t a)) (Fin.ext (by show j.val * 704 + l.val = 704 * j.val + l.val; omega))) h

theorem r_act : val_main_v16 (F := Ideal) x0 x1 (ix2 t (col j l)) = act (pr x0 x1 (lo j) t l) (pr x0 x1 (hi j) t l) := by
  have h1 := r_gate x0 x1 j t l
  have h2 := r_up x0 x1 j t l
  unfold val_main_v16 val_main_v15 val_main_call0_v5 val_main_call0_v4 val_main_call0_v3 val_main_call0_v2 val_main_call0_v1 val_main_call0_v0 val_main_call0_cst val_main_call0_cst_0
  generalize val_main_v5 (F := Ideal) x0 x1 = y1 at *
  generalize val_main_v6 (F := Ideal) x0 x1 = y2 at *
  pointwise
  rw [h1, h2]; rfl

theorem ref_act : val_main_v19 (F := Ideal) x0 x1 (ix3 j t l) = act (pr x0 x1 (lo j) t l) (pr x0 x1 (hi j) t l) := by
  have h := r_act x0 x1 j t l
  unfold val_main_v19 val_main_v18 val_main_v17
  generalize val_main_v16 (F := Ideal) x0 x1 = y1 at *
  pointwise
  exact Eq.trans (congrArg (fun a => y1 (ix2 t a)) (Fin.ext (by show j.val * 704 + l.val = 704 * j.val + l.val; omega))) h

end Reference

/-! ## Together -/

theorem value_gu : Cert.Reference10Ideal.Read.val_main_v14 (F := Ideal) (X0 m c) (X1 m c) = (dats m 0 c).arrAt 3 cfg0.N := by
  refine funext fun (i : S2x4x4096x704.Idx) => ?_
  obtain ⟨p, j, q, r, l, rfl⟩ : ∃ (p : Fin 2) (j : Fin 4) (q : Fin 2) (r : Fin 2048) (l : Fin 704), i = ix4 p j (row q r) l := by
    have hi : (i 2).val < 4096 := (i 2).isLt
    refine ⟨i 0, i 1, ⟨(i 2).val / 2048, by omega⟩, ⟨(i 2).val % 2048, by omega⟩, i 3, ?_⟩
    funext a; match a with
    | ⟨0, _⟩ => rfl
    | ⟨1, _⟩ => rfl
    | ⟨2, _⟩ => exact Fin.ext (by show (i 2).val = 2048 * ((i 2).val / 2048) + (i 2).val % 2048; omega)
    | ⟨3, _⟩ => rfl
  match p with
  | ⟨0, _⟩ => exact (ref_gate _ _ j (row q r) l).trans (kernel_gate m c q j r l).symm
  | ⟨1, _⟩ => exact (ref_up _ _ j (row q r) l).trans (kernel_up m c q j r l).symm

theorem value_act : Cert.Reference10Ideal.Read.val_main_v19 (F := Ideal) (X0 m c) (X1 m c) = (dats m 0 c).arrAt 4 cfg0.N := by
  refine funext fun (i : S4x4096x704.Idx) => ?_
  obtain ⟨j, q, r, l, rfl⟩ : ∃ (j : Fin 4) (q : Fin 2) (r : Fin 2048) (l : Fin 704), i = ix3 j (row q r) l := by
    have hi : (i 1).val < 4096 := (i 1).isLt
    refine ⟨i 0, ⟨(i 1).val / 2048, by omega⟩, ⟨(i 1).val % 2048, by omega⟩, i 2, ?_⟩
    funext a; match a with
    | ⟨0, _⟩ => rfl
    | ⟨1, _⟩ => exact Fin.ext (by show (i 1).val = 2048 * ((i 1).val / 2048) + (i 1).val % 2048; omega)
    | ⟨2, _⟩ => rfl
  exact (ref_act _ _ j (row q r) l).trans (kernel_act m c q j r l).symm

/-! ## The claims -/

/-- The reference runs on the host alone: its run keeps the arguments, and it has no semaphore. -/
theorem frame_reference : Cert.quiescent_Reference10Ideal := fun m ρ _ =>
  (θ_run Cert.Reference10Ideal.defs _ _).mono (fun r h => ⟨fun c => (h c).2.2, Idealize.ShloMosaic.sem_eq_zero_of_no_sems (by decide) r.2⟩)
    (Cert.Reference10Ideal.Value.run (F := Ideal) m ρ)

/-- The kernel's two arrays are the reference's: the gate and the up products, and the gated activation. -/
theorem algebraic : Cert.algebraic_Kernel10Ideal_Reference10Ideal := by
  intro m ρ m' ρ' hpre hagree
  refine ⟨fun c => (dats m 0 c).arrAt 3 cfg0.N, fun c => (dats m 0 c).arrAt 4 cfg0.N, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨e0, e1⟩ := hagree c
  refine ⟨(h c).1.trans ?_, (h c).2.1.trans ?_, (h c).2.2⟩
  · refine (Cert.Reference10Ideal.Read.val_main_v14_eq _ _).trans ?_
    rw [e0, e1]
    exact value_gu m c
  · refine (Cert.Reference10Ideal.Read.val_main_v19_eq _ _).trans ?_
    rw [e0, e1]
    exact value_act m c

end Cert.UpFwd

end
-- ==== Proof.DownFwd.lean ====
/-
  The channel mixer's down projection: the kernel adds the four blocks' products, the reference contracts all the
  2816 columns at once.
-/
module

public import proofs.«01_k».proof.Defs
public import proofs.«01_k».proof.Proof.Gen.Kernel11Ideal.Value
public import proofs.«01_k».proof.Proof.Gen.Reference11Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.DownFwd

open Idealize.ShloMosaic Idealize.SL.Sem Idealize.ShloMosaic.TcCoe Idealize.ShloMosaic.Tactic
open Cert.Kernel11Ideal Cert.Kernel11Ideal.Gen Cert.Kernel11Ideal.Value

/-- A block's column as a column of the whole. -/
abbrev col (j : Fin 4) (l : Fin 704) : Fin 2816 := ⟨704 * j.val + l.val, by omega⟩

theorem div_col (j : Fin 4) (l : Fin 704) : (⟨(704 * j.val + l.val) / 704, by omega⟩ : Fin 4) = j := Fin.ext (by show (704 * j.val + l.val) / 704 = j.val; omega)
theorem mod_col (j : Fin 4) (l : Fin 704) : (⟨(704 * j.val + l.val) % 704, by omega⟩ : Fin 704) = l := Fin.ext (by show (704 * j.val + l.val) % 704 = l.val; omega)

/-- The four products added up. -/
theorem pay_apply (a0 : Vec Ideal S1x1024x704 .bf16) (b0 : Vec Ideal S1x704x1024 .bf16) (a1 : Vec Ideal S1x1024x704 .bf16) (b1 : Vec Ideal S1x704x1024 .bf16)
    (a2 : Vec Ideal S1x1024x704 .bf16) (b2 : Vec Ideal S1x704x1024 .bf16) (a3 : Vec Ideal S1x1024x704 .bf16) (b3 : Vec Ideal S1x704x1024 .bf16)
    (r : Fin 1024) (l : Fin 1024) :
    k0_pay1 (F := Ideal) a0 b0 a1 b1 a2 b2 a3 b3 (ix2 r l)
      = (∑ k : Fin 704, a0 (ix3 (0 : Fin 1) r k) * b0 (ix3 (0 : Fin 1) k l)) + (∑ k : Fin 704, a1 (ix3 (0 : Fin 1) r k) * b1 (ix3 (0 : Fin 1) k l))
        + (∑ k : Fin 704, a2 (ix3 (0 : Fin 1) r k) * b2 (ix3 (0 : Fin 1) k l)) + (∑ k : Fin 704, a3 (ix3 (0 : Fin 1) r k) * b3 (ix3 (0 : Fin 1) k l)) := by
  unfold k0_pay1
  pointwise

/-- A block loaded from the staged activations, and from the staged weights. -/
theorem ld_a (x : Vec Ideal S4x1024x704 .bf16) (j : Fin 4) (inb : ∀ a, (![j.val, 0, 0] : Fin 3 → Nat) a + S1x1024x704.size a ≤ S4x1024x704.size a) (r : Fin 1024) (k : Fin 704) :
    View.ld x (Rect.unit (s := S4x1024x704) ![j.val, 0, 0] S1x1024x704.size inb) (ix3 (0 : Fin 1) r k) = x (ix3 j r k) := by
  show x _ = x _
  congr 1; funext a; apply Fin.ext
  match a with
  | ⟨0, _⟩ => show j.val + 1 * 0 = j.val; omega
  | ⟨1, _⟩ => show 0 + 1 * r.val = r.val; omega
  | ⟨2, _⟩ => show 0 + 1 * k.val = k.val; omega
theorem ld_b (x : Vec Ideal S4x704x1024 .bf16) (j : Fin 4) (inb : ∀ a, (![j.val, 0, 0] : Fin 3 → Nat) a + S1x704x1024.size a ≤ S4x704x1024.size a) (k : Fin 704) (l : Fin 1024) :
    View.ld x (Rect.unit (s := S4x704x1024) ![j.val, 0, 0] S1x704x1024.size inb) (ix3 (0 : Fin 1) k l) = x (ix3 j k l) := by
  show x _ = x _
  congr 1; funext a; apply Fin.ext
  match a with
  | ⟨0, _⟩ => show j.val + 1 * 0 = j.val; omega
  | ⟨1, _⟩ => show 0 + 1 * k.val = k.val; omega
  | ⟨2, _⟩ => show 0 + 1 * l.val = l.val; omega

/-- What the body leaves: all the blocks' products added up. -/
theorem out_apply (x0 : Vec Ideal S4x1024x704 .bf16) (x1 : Vec Ideal S4x704x1024 .bf16) (r : Fin 1024) (l : Fin 1024) :
    out0_2 (F := Ideal) x0 x1 (ix2 r l) = ∑ j : Fin 4, ∑ k : Fin 704, x0 (ix3 j r k) * x1 (ix3 j k l) := by
  have h2 : (![0, 0] : Fin S1024x1024.rank → Nat) = fun _ => 0 := funext fun a => by fin_cases a <;> rfl
  unfold out0_2
  rw [View.canon_unit_zero h2, pay_apply, Fin.sum_univ_four]
  have e : ∀ (j : Fin 4) (ia : ∀ a, (![j.val, 0, 0] : Fin 3 → Nat) a + S1x1024x704.size a ≤ S4x1024x704.size a)
      (ib : ∀ a, (![j.val, 0, 0] : Fin 3 → Nat) a + S1x704x1024.size a ≤ S4x704x1024.size a),
      (∑ k : Fin 704, View.ld x0 (Rect.unit (s := S4x1024x704) ![j.val, 0, 0] S1x1024x704.size ia) (ix3 (0 : Fin 1) r k)
        * View.ld x1 (Rect.unit (s := S4x704x1024) ![j.val, 0, 0] S1x704x1024.size ib) (ix3 (0 : Fin 1) k l))
      = ∑ k : Fin 704, x0 (ix3 j r k) * x1 (ix3 j k l) := fun j ia ib =>
    Finset.sum_congr rfl fun k _ => congrArg₂ (· * ·) (ld_a x0 j ia r k) (ld_b x1 j ib k l)
  exact congrArg₂ (· + ·) (congrArg₂ (· + ·) (congrArg₂ (· + ·) (e 0 _ _) (e 1 _ _)) (e 2 _ _)) (e 3 _ _)

/-- The columns of the whole, block by block. -/
theorem sum_cols (f : Fin 2816 → EReal) : (∑ j : Fin 4, ∑ k : Fin 704, f (col j k)) = ∑ t : Fin 2816, f t := by
  rw [← Fintype.sum_prod_type']
  refine Fintype.sum_equiv (finProdFinEquiv (m := 4) (n := 704)) _ _ fun p => congrArg f (Fin.ext ?_)
  show 704 * p.1.val + p.2.val = p.2.val + 704 * p.1.val
  omega

variable (m : (ℓ : Loc nD τ sig) → Buf (Elt Ideal) ℓ) (c : Dev nD)

/-- The arrays the kernel is given. -/
abbrev X0 : FVec Ideal S4x4096x704 .bf16 := m ((c : Thread nD τ).loc main_arg0)
abbrev X1 : FVec Ideal S4x704x1024 .bf16 := m ((c : Thread nD τ).loc main_arg1)

/-- The printed index maps, decided over the grid: the tile of rows is the point's number. -/
theorem idx : ∀ t : Fin grid0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) := by
  decide +kernel

/-- The grid point of a tile of rows, and a tile's row as a row of the whole. -/
abbrev pt (i : Fin 4) : Fin cfg0.N := ⟨i.val, lt_of_lt_of_eq i.isLt (show 4 = cfg0.N from N_0.symm)⟩
abbrev row (i : Fin 4) (r : Fin 1024) : Fin 4096 := ⟨1024 * i.val + r.val, by omega⟩

theorem blk_a (i : Fin 4) (j : Fin 4) (r : Fin 1024) (k : Fin 704) :
    (iblk m c 0 (pt i) : Vec Ideal S4x1024x704 .bf16) (ix3 j r k) = X0 m c (ix3 j (row i r) k) := by
  obtain ⟨⟨e0, e1, e2⟩, -, -⟩ := idx (pt i)
  unfold iblk
  rw [View.read_apply]
  show V m c main_arg0 _ = _
  rw [V_main_arg0]
  congr 1; funext a; apply Fin.ext
  match a with
  | ⟨0, _⟩ => show win0_0.index (pt i) 0 * 4 + 1 * j.val = j.val; rw [e0]; omega
  | ⟨1, _⟩ => show win0_0.index (pt i) 1 * 1024 + 1 * r.val = 1024 * i.val + r.val; rw [e1]; show i.val * 1024 + 1 * r.val = _; omega
  | ⟨2, _⟩ => show win0_0.index (pt i) 2 * 704 + 1 * k.val = k.val; rw [e2]; omega

theorem blk_b (i : Fin 4) (j : Fin 4) (k : Fin 704) (l : Fin 1024) :
    (iblk m c 1 (pt i) : Vec Ideal S4x704x1024 .bf16) (ix3 j k l) = X1 m c (ix3 j k l) := by
  obtain ⟨-, ⟨e0, e1, e2⟩, -⟩ := idx (pt i)
  unfold iblk
  rw [View.read_apply]
  show V m c main_arg1 _ = _
  rw [V_main_arg1]
  congr 1; funext a; apply Fin.ext
  match a with
  | ⟨0, _⟩ => show win0_1.index (pt i) 0 * 4 + 1 * j.val = j.val; rw [e0]; omega
  | ⟨1, _⟩ => show win0_1.index (pt i) 1 * 704 + 1 * k.val = k.val; rw [e1]; omega
  | ⟨2, _⟩ => show win0_1.index (pt i) 2 * 1024 + 1 * l.val = l.val; rw [e2]; omega

/-- The kernel's array, entry by entry. -/
theorem kernel_apply (i : Fin 4) (r : Fin 1024) (l : Fin 1024) :
    ((dats m 0 c).arrAt 2 cfg0.N : FVec Ideal S4096x1024 .f32) (ix2 (row i r) l)
      = ∑ j : Fin 4, ∑ k : Fin 704, X0 m c (ix3 j (row i r) k) * X1 m c (ix3 j k l) := by
  obtain ⟨-, -, ⟨e0, e1⟩⟩ := idx (pt i)
  have h := congrFun (blocks2 m c (pt i) (flush0_2 _)) (ix2 r l)
  rw [View.read_apply, flushed2] at h
  have he : ((cfg0.win 2).blk (pt i)).view.emb (ix2 r l) = ix2 (row i r) l := by
    funext a; apply Fin.ext
    match a with
    | ⟨0, _⟩ => show win0_2.index (pt i) 0 * 1024 + 1 * r.val = 1024 * i.val + r.val; rw [e0]; show i.val * 1024 + 1 * r.val = _; omega
    | ⟨1, _⟩ => show win0_2.index (pt i) 1 * 1024 + 1 * l.val = l.val; rw [e1]; omega
  rw [he] at h
  refine Eq.trans h ((out_apply (iblk m c 0 (pt i)) (iblk m c 1 (pt i)) r l).trans ?_)
  exact Finset.sum_congr rfl fun j _ => Finset.sum_congr rfl fun k _ => congrArg₂ (fun a b : EReal => a * b) (blk_a m c i j r k) (blk_b m c i j k l)

open Cert.Reference11Ideal.Read in
/-- The reference's, entry by entry. -/
theorem ref_apply (x0 : FVec Ideal S4x4096x704 .bf16) (x1 : FVec Ideal S4x704x1024 .bf16) (t : Fin 4096) (l : Fin 1024) :
    val_main_v5 (F := Ideal) x0 x1 (ix2 t l) = ∑ j : Fin 4, ∑ k : Fin 704, x0 (ix3 j t k) * x1 (ix3 j k l) := by
  have ha : ∀ (j : Fin 4) (k : Fin 704), val_main_v2 (F := Ideal) x0 (ix2 t (col j k)) = x0 (ix3 j t k) := fun j k => by
    unfold val_main_v2 val_main_v1 val_main_v0
    pointwise
    exact congrArg₂ (fun a b => x0 (ix3 a t b)) (div_col j k) (mod_col j k)
  have hb : ∀ (j : Fin 4) (k : Fin 704), val_main_v4 (F := Ideal) x1 (ix2 (col j k) l) = x1 (ix3 j k l) := fun j k => by
    unfold val_main_v4 val_main_v3
    pointwise
    exact congrArg₂ (fun a b => x1 (ix3 a b l)) (div_col j k) (mod_col j k)
  unfold val_main_v5
  generalize val_main_v2 (F := Ideal) x0 = y at *
  generalize val_main_v4 (F := Ideal) x1 = z at *
  pointwise
  rw [← sum_cols]
  exact Finset.sum_congr rfl fun j _ => Finset.sum_congr rfl fun k _ => congrArg₂ (fun a b : EReal => a * b) (ha j k) (hb j k)

theorem value_eq : Cert.Reference11Ideal.Read.val_main_v5 (F := Ideal) (X0 m c) (X1 m c)
    = (dats m 0 c).arrAt 2 cfg0.N := by
  refine funext fun (i : S4096x1024.Idx) => ?_
  obtain ⟨t, r, l, rfl⟩ : ∃ (t : Fin 4) (r : Fin 1024) (l : Fin 1024), i = ix2 (row t r) l := by
    have hi : (i 0).val < 4096 := (i 0).isLt
    refine ⟨⟨(i 0).val / 1024, by omega⟩, ⟨(i 0).val % 1024, by omega⟩, i 1, ?_⟩
    funext a; match a with
    | ⟨0, _⟩ => exact Fin.ext (by show (i 0).val = 1024 * ((i 0).val / 1024) + (i 0).val % 1024; omega)
    | ⟨1, _⟩ => rfl
  exact (ref_apply _ _ (row t r) l).trans (kernel_apply m c t r l).symm

/-! ## The claims -/

/-- The reference runs on the host alone: its run keeps the arguments, and it has no semaphore. -/
theorem frame_reference : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The kernel's array is the reference's: the down projection. -/
theorem algebraic : Cert.algebraic_Kernel11Ideal_Reference11Ideal := by
  intro m ρ m' ρ' hpre hagree
  refine ⟨fun c => (dats m 0 c).arrAt 2 cfg0.N, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨e0, e1⟩ := hagree c
  refine ⟨(h c).1.trans ((Cert.Reference11Ideal.Read.val_main_v5_eq _ _).trans ?_), (h c).2⟩
  rw [e0, e1]
  exact value_eq m c

end Cert.DownFwd

end
-- ==== Proof.InFwd.lean ====
/-
  The input projection: the kernel's tiles of rows are the product's.
-/
module

public import proofs.«01_k».proof.Defs
public import proofs.«01_k».proof.Proof.Gen.Kernel12Ideal.Value
public import proofs.«01_k».proof.Proof.Gen.Reference12Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.InFwd

open Idealize.ShloMosaic Idealize.SL.Sem Idealize.ShloMosaic.TcCoe Idealize.ShloMosaic.Tactic
open Cert.Kernel12Ideal Cert.Kernel12Ideal.Gen Cert.Kernel12Ideal.Value

/-- A tile's product. -/
theorem pay_apply (x0 : Vec Ideal S1024x1024 .bf16) (x1 : Vec Ideal S1024x2048 .bf16) (r : Fin 1024) (l : Fin 2048) :
    k0_pay1 (F := Ideal) x0 x1 (ix2 r l) = ∑ k : Fin 1024, x0 (ix2 r k) * x1 (ix2 k l) := by
  unfold k0_pay1
  pointwise

theorem out_eq (x0 : Vec Ideal S1024x1024 .bf16) (x1 : Vec Ideal S1024x2048 .bf16) : out0_2 (F := Ideal) x0 x1 = k0_pay1 x0 x1 := by
  have h0 : (![0, 0] : Fin S1024x2048.rank → Nat) = fun _ => 0 := funext fun a => by fin_cases a <;> rfl
  have h1 : (![0, 0] : Fin S1024x1024.rank → Nat) = fun _ => 0 := funext fun a => by fin_cases a <;> rfl
  unfold out0_2
  rw [View.canon_unit_zero h0, View.ld_unit_zero h1, View.ld_unit_zero h0]

variable (m : (ℓ : Loc nD τ sig) → Buf (Elt Ideal) ℓ) (c : Dev nD)

/-- The arrays the kernel is given. -/
abbrev X0 : FVec Ideal S4096x1024 .bf16 := m ((c : Thread nD τ).loc main_arg0)
abbrev X1 : FVec Ideal S1024x2048 .bf16 := m ((c : Thread nD τ).loc main_arg1)

/-- The printed index maps, decided over the grid: the tile is the point's number. -/
theorem idx : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by
  decide +kernel

/-- The grid point of a tile, and a tile's index as an index of the whole. -/
abbrev pt (i : Fin 4) : Fin cfg0.N := ⟨i.val, lt_of_lt_of_eq i.isLt (show 4 = cfg0.N from N_0.symm)⟩
abbrev tix (i : Fin 4) (r : Fin 1024) : Fin 4096 := ⟨1024 * i.val + r.val, by omega⟩

theorem blk_a (i : Fin 4) (r : Fin 1024) (k : Fin 1024) :
    (iblk m c 0 (pt i) : Vec Ideal S1024x1024 .bf16) (ix2 r k) = X0 m c (ix2 (tix i r) k) := by
  obtain ⟨⟨e0, e1⟩, -, -⟩ := idx (pt i)
  unfold iblk
  rw [View.read_apply]
  show V m c main_arg0 _ = _
  rw [V_main_arg0]
  congr 1; funext a; apply Fin.ext
  match a with
  | ⟨0, _⟩ => show win0_0.index (pt i) 0 * 1024 + 1 * r.val = 1024 * i.val + r.val; rw [e0]; show i.val * 1024 + 1 * r.val = _; omega
  | ⟨1, _⟩ => show win0_0.index (pt i) 1 * 1024 + 1 * k.val = k.val; rw [e1]; omega

theorem blk_b (i : Fin 4) (k : Fin 1024) (l : Fin 2048) :
    (iblk m c 1 (pt i) : Vec Ideal S1024x2048 .bf16) (ix2 k l) = X1 m c (ix2 k l) := by
  obtain ⟨-, ⟨e0, e1⟩, -⟩ := idx (pt i)
  unfold iblk
  rw [View.read_apply]
  show V m c main_arg1 _ = _
  rw [V_main_arg1]
  congr 1; funext a; apply Fin.ext
  match a with
  | ⟨0, _⟩ => show win0_1.index (pt i) 0 * 1024 + 1 * k.val = k.val; rw [e0]; omega
  | ⟨1, _⟩ => show win0_1.index (pt i) 1 * 2048 + 1 * l.val = l.val; rw [e1]; omega

/-- The kernel's array, entry by entry. -/
theorem kernel_apply (i : Fin 4) (r : Fin 1024) (l : Fin 2048) :
    ((dats m 0 c).arrAt 2 cfg0.N : FVec Ideal S4096x2048 .f32) (ix2 (tix i r) l)
      = ∑ k : Fin 1024, X0 m c (ix2 (tix i r) k) * X1 m c (ix2 k l) := by
  obtain ⟨-, -, ⟨e0, e1⟩⟩ := idx (pt i)
  have h := congrFun (blocks2 m c (pt i) (flush0_2 _)) (ix2 r l)
  rw [View.read_apply, flushed2, out_eq] at h
  have he : ((cfg0.win 2).blk (pt i)).view.emb (ix2 r l) = ix2 (tix i r) l := by
    funext a; apply Fin.ext
    match a with
    | ⟨0, _⟩ => show win0_2.index (pt i) 0 * 1024 + 1 * r.val = 1024 * i.val + r.val; rw [e0]; show i.val * 1024 + 1 * r.val = _; omega
    | ⟨1, _⟩ => show win0_2.index (pt i) 1 * 2048 + 1 * l.val = l.val; rw [e1]; omega
  rw [he] at h
  refine Eq.trans h ((pay_apply (iblk m c 0 (pt i)) (iblk m c 1 (pt i)) r l).trans ?_)
  exact Finset.sum_congr rfl fun k _ => congrArg₂ (fun a b : EReal => a * b) (blk_a m c i r k) (blk_b m c i k l)

open Cert.Reference12Ideal.Read in
/-- The reference's, entry by entry. -/
theorem ref_apply (x0 : FVec Ideal S4096x1024 .bf16) (x1 : FVec Ideal S1024x2048 .bf16) (r : Fin 4096) (l : Fin 2048) :
    val_main_v2 (F := Ideal) x0 x1 (ix2 r l) = ∑ k : Fin 1024, x0 (ix2 r k) * x1 (ix2 k l) := by
  unfold val_main_v2 val_main_v1 val_main_v0
  pointwise

theorem value_eq : Cert.Reference12Ideal.Read.val_main_v2 (F := Ideal) (X0 m c) (X1 m c)
    = (dats m 0 c).arrAt 2 cfg0.N := by
  refine funext fun (i : S4096x2048.Idx) => ?_
  obtain ⟨t, r, l, rfl⟩ : ∃ (t : Fin 4) (r : Fin 1024) (l : Fin 2048), i = ix2 (tix t r) l := by
    have hi : (i 0).val < 4096 := (i 0).isLt
    refine ⟨⟨(i 0).val / 1024, by omega⟩, ⟨(i 0).val % 1024, by omega⟩, i 1, ?_⟩
    funext a; match a with
    | ⟨0, _⟩ => exact Fin.ext (by show (i 0).val = 1024 * ((i 0).val / 1024) + (i 0).val % 1024; omega)
    | ⟨1, _⟩ => rfl
  exact (ref_apply _ _ (tix t r) l).trans (kernel_apply m c t r l).symm

/-! ## The claims -/

/-- The reference runs on the host alone: its run keeps the arguments, and it has no semaphore. -/
theorem frame_reference : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The kernel's array is the reference's: the input projection of the normalised input. -/
theorem algebraic : Cert.algebraic_Kernel12Ideal_Reference12Ideal := by
  intro m ρ m' ρ' hpre hagree
  refine ⟨fun c => (dats m 0 c).arrAt 2 cfg0.N, Cert.Kernel12Ideal.Value.run_blocks (F := Ideal) m ρ, ?_⟩
  refine (θ_run Cert.Reference12Ideal.defs _ _).mono (fun _ h c => ?_) (Cert.Reference12Ideal.Value.run (F := Ideal) m' ρ')
  obtain ⟨e0, e1⟩ := hagree c
  refine ⟨(h c).1.trans ((Cert.Reference12Ideal.Read.val_main_v2_eq _ _).trans ?_), (h c).2⟩
  rw [e0, e1]
  exact value_eq m c

end Cert.InFwd

end
-- ==== Proof.OutFwd.lean ====
/-
  The output projection: the kernel's tiles of rows are the product's.
-/
module

public import proofs.«01_k».proof.Defs
public import proofs.«01_k».proof.Proof.Gen.Kernel13Ideal.Value
public import proofs.«01_k».proof.Proof.Gen.Reference13Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.OutFwd

open Idealize.ShloMosaic Idealize.SL.Sem Idealize.ShloMosaic.TcCoe Idealize.ShloMosaic.Tactic
open Cert.Kernel13Ideal Cert.Kernel13Ideal.Gen Cert.Kernel13Ideal.Value

/-- A tile's product. -/
theorem pay_apply (x0 : Vec Ideal S1024x1024 .bf16) (x1 : Vec Ideal S1024x1024 .bf16) (r : Fin 1024) (l : Fin 1024) :
    k0_pay1 (F := Ideal) x0 x1 (ix2 r l) = ∑ k : Fin 1024, x0 (ix2 r k) * x1 (ix2 k l) := by
  unfold k0_pay1
  pointwise

theorem out_eq (x0 : Vec Ideal S1024x1024 .bf16) (x1 : Vec Ideal S1024x1024 .bf16) : out0_2 (F := Ideal) x0 x1 = k0_pay1 x0 x1 := by
  have h0 : (![0, 0] : Fin S1024x1024.rank → Nat) = fun _ => 0 := funext fun a => by fin_cases a <;> rfl
  unfold out0_2
  rw [View.canon_unit_zero h0, View.ld_unit_zero h0, View.ld_unit_zero h0]

variable (m : (ℓ : Loc nD τ sig) → Buf (Elt Ideal) ℓ) (c : Dev nD)

/-- The arrays the kernel is given. -/
abbrev X0 : FVec Ideal S4096x1024 .bf16 := m ((c : Thread nD τ).loc main_arg0)
abbrev X1 : FVec Ideal S1024x1024 .bf16 := m ((c : Thread nD τ).loc main_arg1)

/-- The printed index maps, decided over the grid: the tile is the point's number. -/
theorem idx : ∀ t : Fin grid0.N, (win0_0.index t 0 = t.val ∧ win0_0.index t 1 = 0) ∧ (win0_1.index t 0 = 0 ∧ win0_1.index t 1 = 0) ∧ (win0_2.index t 0 = t.val ∧ win0_2.index t 1 = 0) := by
  decide +kernel

/-- The grid point of a tile, and a tile's index as an index of the whole. -/
abbrev pt (i : Fin 4) : Fin cfg0.N := ⟨i.val, lt_of_lt_of_eq i.isLt (show 4 = cfg0.N from N_0.symm)⟩
abbrev tix (i : Fin 4) (r : Fin 1024) : Fin 4096 := ⟨1024 * i.val + r.val, by omega⟩

theorem blk_a (i : Fin 4) (r : Fin 1024) (k : Fin 1024) :
    (iblk m c 0 (pt i) : Vec Ideal S1024x1024 .bf16) (ix2 r k) = X0 m c (ix2 (tix i r) k) := by
  obtain ⟨⟨e0, e1⟩, -, -⟩ := idx (pt i)
  unfold iblk
  rw [View.read_apply]
  show V m c main_arg0 _ = _
  rw [V_main_arg0]
  congr 1; funext a; apply Fin.ext
  match a with
  | ⟨0, _⟩ => show win0_0.index (pt i) 0 * 1024 + 1 * r.val = 1024 * i.val + r.val; rw [e0]; show i.val * 1024 + 1 * r.val = _; omega
  | ⟨1, _⟩ => show win0_0.index (pt i) 1 * 1024 + 1 * k.val = k.val; rw [e1]; omega

theorem blk_b (i : Fin 4) (k : Fin 1024) (l : Fin 1024) :
    (iblk m c 1 (pt i) : Vec Ideal S1024x1024 .bf16) (ix2 k l) = X1 m c (ix2 k l) := by
  obtain ⟨-, ⟨e0, e1⟩, -⟩ := idx (pt i)
  unfold iblk
  rw [View.read_apply]
  show V m c main_arg1 _ = _
  rw [V_main_arg1]
  congr 1; funext a; apply Fin.ext
  match a with
  | ⟨0, _⟩ => show win0_1.index (pt i) 0 * 1024 + 1 * k.val = k.val; rw [e0]; omega
  | ⟨1, _⟩ => show win0_1.index (pt i) 1 * 1024 + 1 * l.val = l.val; rw [e1]; omega

/-- The kernel's array, entry by entry. -/
theorem kernel_apply (i : Fin 4) (r : Fin 1024) (l : Fin 1024) :
    ((dats m 0 c).arrAt 2 cfg0.N : FVec Ideal S4096x1024 .f32) (ix2 (tix i r) l)
      = ∑ k : Fin 1024, X0 m c (ix2 (tix i r) k) * X1 m c (ix2 k l) := by
  obtain ⟨-, -, ⟨e0, e1⟩⟩ := idx (pt i)
  have h := congrFun (blocks2 m c (pt i) (flush0_2 _)) (ix2 r l)
  rw [View.read_apply, flushed2, out_eq] at h
  have he : ((cfg0.win 2).blk (pt i)).view.emb (ix2 r l) = ix2 (tix i r) l := by
    funext a; apply Fin.ext
    match a with
    | ⟨0, _⟩ => show win0_2.index (pt i) 0 * 1024 + 1 * r.val = 1024 * i.val + r.val; rw [e0]; show i.val * 1024 + 1 * r.val = _; omega
    | ⟨1, _⟩ => show win0_2.index (pt i) 1 * 1024 + 1 * l.val = l.val; rw [e1]; omega
  rw [he] at h
  refine Eq.trans h ((pay_apply (iblk m c 0 (pt i)) (iblk m c 1 (pt i)) r l).trans ?_)
  exact Finset.sum_congr rfl fun k _ => congrArg₂ (fun a b : EReal => a * b) (blk_a m c i r k) (blk_b m c i k l)

open Cert.Reference13Ideal.Read in
/-- The reference's, entry by entry. -/
theorem ref_apply (x0 : FVec Ideal S4096x1024 .bf16) (x1 : FVec Ideal S1024x1024 .bf16) (r : Fin 4096) (l : Fin 1024) :
    val_main_v2 (F := Ideal) x0 x1 (ix2 r l) = ∑ k : Fin 1024, x0 (ix2 r k) * x1 (ix2 k l) := by
  unfold val_main_v2 val_main_v1 val_main_v0
  pointwise

theorem value_eq : Cert.Reference13Ideal.Read.val_main_v2 (F := Ideal) (X0 m c) (X1 m c)
    = (dats m 0 c).arrAt 2 cfg0.N := by
  refine funext fun (i : S4096x1024.Idx) => ?_
  obtain ⟨t, r, l, rfl⟩ : ∃ (t : Fin 4) (r : Fin 1024) (l : Fin 1024), i = ix2 (tix t r) l := by
    have hi : (i 0).val < 4096 := (i 0).isLt
    refine ⟨⟨(i 0).val / 1024, by omega⟩, ⟨(i 0).val % 1024, by omega⟩, i 1, ?_⟩
    funext a; match a with
    | ⟨0, _⟩ => exact Fin.ext (by show (i 0).val = 1024 * ((i 0).val / 1024) + (i 0).val % 1024; omega)
    | ⟨1, _⟩ => rfl
  exact (ref_apply _ _ (tix t r) l).trans (kernel_apply m c t r l).symm

/-! ## The claims -/

/-- The reference runs on the host alone: its run keeps the arguments, and it has no semaphore. -/
theorem frame_reference : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The kernel's array is the reference's: the output projection of the mixers' outputs. -/
theorem algebraic : Cert.algebraic_Kernel13Ideal_Reference13Ideal := by
  intro m ρ m' ρ' hpre hagree
  refine ⟨fun c => (dats m 0 c).arrAt 2 cfg0.N, Cert.Kernel13Ideal.Value.run_blocks (F := Ideal) m ρ, ?_⟩
  refine (θ_run Cert.Reference13Ideal.defs _ _).mono (fun _ h c => ?_) (Cert.Reference13Ideal.Value.run (F := Ideal) m' ρ')
  obtain ⟨e0, e1⟩ := hagree c
  refine ⟨(h c).1.trans ((Cert.Reference13Ideal.Read.val_main_v2_eq _ _).trans ?_), (h c).2⟩
  rw [e0, e1]
  exact value_eq m c

end Cert.OutFwd

end
-- ==== Proof.RmsRow.lean ====
/-
  One row of the normalisation's gradient, over the extended reals. With `r` the inverse root of the row's mean square (plus the
  constant), the kernel writes the gradient of the row as `r · (dn − x r · mean(dn · x r))`; the reference differentiates, and
  has `dn · r` and two equal terms for the square, each through the derivative of the inverse root, `−½ · r / u`. The two agree
  on every row: where the sum of squares is infinite, `r` is zero and so are both; where it is not, every entry of the row is
  real, and multiplying by the positive real `r` distributes over the sums, whatever the incoming gradient holds.
-/
module

public import proofs.«01_k».proof.Proof.Row
public import Idealize.ShloMosaic.Lib.Pointwise

@[expose] public section

noncomputable section

namespace Cert.RmsRow

open Idealize.ShloMosaic Cert.CmpGrad

/-- The row's length and the constant under the root, and the derivative's half, as the programs write them. -/
abbrev nrow : EReal := Ideal.ofBits .f32 0x44800000#32
abbrev epsr : EReal := Ideal.ofBits .f32 0x358637BD#32
abbrev mhalf : EReal := Ideal.ofBits .f32 0xBF000000#32

theorem zero_eq : Ideal.ofBits .f32 0x00000000#32 = 0 := by
  simp [Ideal.ofBits, Ideal.ieee]

theorem nrow_eq : nrow = ((1024 : ℝ) : EReal) := by
  simp [nrow, Ideal.ofBits, Ideal.ieee]
  refine (EReal.coe_mul _ _).symm.trans ?_
  norm_num

theorem mhalf_eq : mhalf = ((-(1 / 2) : ℝ) : EReal) := by
  simp [mhalf, Ideal.ofBits, Ideal.ieee]
  norm_num [← EReal.coe_mul, ← EReal.coe_neg]

theorem epsr_pos : ∃ e : ℝ, 0 < e ∧ epsr = (e : EReal) := by
  refine ⟨8796093 * (2 ^ 43)⁻¹, by positivity, ?_⟩
  simp [epsr, Ideal.ofBits, Ideal.ieee]

/-- The sum of squares, the number under the root, and the inverse root. -/
def ssq (x : Fin 1024 → EReal) : EReal := ∑ k, x k * x k
def und (x : Fin 1024 → EReal) : EReal := Ideal.div (ssq x) nrow + epsr
def irt (x : Fin 1024 → EReal) : EReal := Ideal.rsqrt (und x)

/-- The coefficient of the reference's two equal terms. -/
def coef (x d : Fin 1024 → EReal) : EReal :=
  Ideal.div ((∑ k, d k * x k) * (mhalf * Ideal.div (irt x) (und x))) nrow

def rowRef (x d : Fin 1024 → EReal) (j : Fin 1024) : EReal := d j * irt x + (coef x d * x j + coef x d * x j)
def rowKer (x d : Fin 1024 → EReal) (j : Fin 1024) : EReal :=
  irt x * (d j - (x j * irt x) * Ideal.div (∑ k, d k * (x k * irt x)) nrow)

theorem sq_nonneg' (a : EReal) : 0 ≤ a * a := by
  induction a with
  | bot => simp
  | top => simp
  | coe r => exact_mod_cast mul_self_nonneg r

theorem real_of_ssq (x : Fin 1024 → EReal) (h : ssq x ≠ ⊤) (k : Fin 1024) : ∃ r : ℝ, x k = (r : EReal) := by
  have hk : x k * x k ≤ ssq x := Finset.single_le_sum (f := fun k => x k * x k) (fun i _ => sq_nonneg' (x i)) (Finset.mem_univ k)
  have hn : x k * x k ≠ ⊤ := fun e => h (top_le_iff.1 (e ▸ hk))
  generalize x k = a at hn
  induction a with
  | bot => exact absurd rfl hn
  | top => exact absurd rfl hn
  | coe r => exact ⟨r, rfl⟩

theorem mul_coe_twice (D : EReal) (b : ℝ) : D * (b : EReal) + D * (b : EReal) = D * ((b + b : ℝ) : EReal) := by
  rcases le_total 0 b with h | h
  · rw [EReal.coe_add, EReal.left_distrib_of_nonneg (EReal.coe_nonneg.2 h) (EReal.coe_nonneg.2 h)]
  · have h' : 0 ≤ -b := neg_nonneg.2 h
    have e : (b : EReal) = -((-b : ℝ) : EReal) := by rw [EReal.coe_neg, neg_neg]
    have e2 : ((b + b : ℝ) : EReal) = -(((-b : ℝ) : EReal) + ((-b : ℝ) : EReal)) := by
      rw [← EReal.coe_add, ← EReal.coe_neg]; congr 1; ring
    rw [e2, e, mul_neg, mul_neg, EReal.left_distrib_of_nonneg (EReal.coe_nonneg.2 h') (EReal.coe_nonneg.2 h')]
    generalize D * ((-b : ℝ) : EReal) = E
    induction E with
    | bot => rfl
    | top => rfl
    | coe r => exact_mod_cast (neg_add (r) r).symm

theorem row_eq (x d : Fin 1024 → EReal) (j : Fin 1024) : rowKer x d j = rowRef x d j := by
  obtain ⟨e, he, hee⟩ := epsr_pos
  by_cases h : ssq x = ⊤
  · have hu : und x = ⊤ := by
      rw [und, h, nrow_eq, Ideal.div_coe (by norm_num), hee, EReal.top_mul_coe_of_pos (by norm_num), EReal.top_add_coe]
    have hr : irt x = 0 := by rw [irt, hu]; rfl
    have hc : coef x d = 0 := by
      rw [coef, hr, hu, nrow_eq, Ideal.div_coe (by norm_num)]
      simp [Ideal.div]
    rw [rowKer, rowRef, hr, hc]
    simp
  · obtain ⟨X, hX⟩ : ∃ X : Fin 1024 → ℝ, ∀ k, x k = (X k : EReal) := ⟨fun k => (real_of_ssq x h k).choose, fun k => (real_of_ssq x h k).choose_spec⟩
    have hs : ssq x = ((∑ k, X k * X k : ℝ) : EReal) := by
      unfold ssq
      simp only [hX, ← EReal.coe_mul, coe_sum_real]
    obtain ⟨u, hu0, hu⟩ : ∃ u : ℝ, 0 < u ∧ und x = (u : EReal) := by
      refine ⟨(∑ k, X k * X k) * (1 / 1024) + e, ?_, ?_⟩
      · have : 0 ≤ ∑ k, X k * X k := Finset.sum_nonneg fun k _ => mul_self_nonneg _
        positivity
      · rw [und, hs, nrow_eq, Ideal.div_coe (by norm_num), hee, EReal.coe_add, EReal.coe_mul]
    have hR : irt x = (((Real.sqrt u)⁻¹ : ℝ) : EReal) := by
      rw [irt, hu]
      show (if u < 0 then ⊥ else if u = 0 then ⊤ else (((Real.sqrt u)⁻¹ : ℝ) : EReal)) = _
      rw [if_neg hu0.not_gt, if_neg hu0.ne']
    have hq : Real.sqrt u * Real.sqrt u = u := Real.mul_self_sqrt hu0.le
    have hq0 : 0 < Real.sqrt u := Real.sqrt_pos.2 hu0
    obtain ⟨R, hRd⟩ : ∃ R : ℝ, R = (Real.sqrt u)⁻¹ := ⟨_, rfl⟩
    have hR0 : 0 < R := hRd ▸ inv_pos.2 hq0
    have hRu : 1 / u = R * R := by rw [hRd, ← mul_inv, hq, one_div]
    rw [← hRd] at hR
    have hsum : (∑ k, d k * (x k * irt x)) = (R : EReal) * ∑ k, d k * x k := by
      rw [coe_mul_sum _ R hR0.le, hR]
      refine Finset.sum_congr rfl fun k _ => ?_
      rw [← mul_assoc, mul_comm]
    have hcoef : coef x d * x j = (∑ k, d k * x k) * ((-(1 / 2) * (R * (1 / u)) * (1 / 1024) * X j : ℝ) : EReal) := by
      rw [coef, hR, hu, nrow_eq, mhalf_eq, Ideal.div_coe hu0.ne', Ideal.div_coe (by norm_num), hX j]
      simp only [EReal.coe_mul, mul_assoc]
    rw [rowRef, hcoef, mul_coe_twice, rowKer, hsum, hR, nrow_eq, Ideal.div_coe (by norm_num), hX j]
    generalize (∑ k, d k * x k) = D
    rw [sub_eq_add_neg, EReal.left_distrib_of_nonneg_of_ne_top (EReal.coe_nonneg.2 hR0.le) (EReal.coe_ne_top R), mul_comm (R : EReal) (d j), mul_neg]
    congr 1
    have : (-(1 / 2) * (R * (1 / u)) * (1 / 1024) * X j + -(1 / 2) * (R * (1 / u)) * (1 / 1024) * X j : ℝ) = -(R * (X j * R) * R * (1 / 1024)) := by
      rw [hRu]; ring
    rw [this, EReal.coe_neg, mul_neg]
    congr 1
    simp only [EReal.coe_mul]
    ac_rfl

end Cert.RmsRow
-- ==== Proof.RmsPre.lean ====
/-
  The gradient of the first normalisation, with the layer's own gradient of its input added: the kernel goes tile by tile of
  512 rows and adds the scale's gradient up over the tiles; the reference differentiates the normalisation of all the 4096
  rows at once.
-/
module

public import proofs.«01_k».proof.Defs
public import proofs.«01_k».proof.Proof.RmsRow
public import proofs.«01_k».proof.Proof.Gen.Kernel14Ideal.Frame
public import proofs.«01_k».proof.Proof.Gen.Reference14Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic
public import Idealize.ShloMosaic.Lib.StableHlo.RunRead

@[expose] public section

set_option maxRecDepth 16384

noncomputable section

namespace Cert.RmsPre

open Idealize.ShloMosaic Idealize.SL.Sem Idealize.ShloMosaic.TcCoe Idealize.ShloMosaic.Tactic
open Cert.Kernel14Ideal Cert.Kernel14Ideal.Gen
open Idealize.ShloMosaic.Pipeline (Dat)
open Cert.RmsRow (ssq und irt coef rowRef rowKer)

theorem hz : (![0, 0] : Fin 2 → Nat) = fun _ => 0 := funext fun a => by fin_cases a <;> rfl

/-! ## The body on a tile -/

section Tile
variable (x d s : Vec Ideal S512x1024 .f32) (g a : Vec Ideal S1x1024 .f32) (r : Fin 512) (l : Fin 1024)

theorem pay3_apply : k0_pay3 (F := Ideal) x (ix2 r 0) = irt fun k => x (ix2 r k) := by
  unfold k0_pay3 k0_pay2 irt und ssq
  pointwise

theorem pay4_apply : (k0_pay4 (F := Ideal) x (ix2 r l) : EReal) = x (ix2 r l) * irt fun k => x (ix2 r k) := by
  rw [← pay3_apply x r]
  unfold k0_pay4 k0_pay2
  generalize k0_pay3 (F := Ideal) x = R
  pointwise

theorem pay5_apply : (k0_pay5 (F := Ideal) x d g s (ix2 r l) : EReal)
    = rowKer (fun k => x (ix2 r k)) (fun k => (d (ix2 r k) : EReal) * g (ix2 0 k)) l + s (ix2 r l) := by
  unfold rowKer
  simp only [← pay4_apply x r]
  rw [← pay3_apply x r]
  unfold k0_pay5
  generalize k0_pay3 (F := Ideal) x = R
  generalize k0_pay4 (F := Ideal) x = N
  pointwise

theorem pay8_apply : (k0_pay8 (F := Ideal) x d (ix2 0 l) : EReal) = ∑ r : Fin 512, (d (ix2 r l) : EReal) * (x (ix2 r l) * irt fun k => x (ix2 r k)) := by
  simp only [← pay4_apply x]
  unfold k0_pay8
  generalize k0_pay4 (F := Ideal) x = N
  pointwise

theorem first_apply : (k0_pay1 (F := Ideal) (k0_pay7 (F := Ideal) (k0_pay6 (F := Ideal))) (k0_pay8 x d) (ix2 0 l) : EReal) = k0_pay8 (F := Ideal) x d (ix2 0 l) := by
  unfold k0_pay1 k0_pay7 k0_pay6
  dsimp only
  rw [shapeCast_self]
  generalize k0_pay8 (F := Ideal) x d = P
  pointwise

theorem next_apply : (k0_pay1 (F := Ideal) (k0_pay7 a) (k0_pay8 x d) (ix2 0 l) : EReal) = (a (ix2 0 l) : EReal) + k0_pay8 (F := Ideal) x d (ix2 0 l) := by
  unfold k0_pay1 k0_pay7
  generalize k0_pay8 (F := Ideal) x d = P
  pointwise

end Tile

/-! ## The reference, entry by entry -/

section Ref
open Cert.Reference14Ideal.Read
variable (x0 : FVec Ideal S2x2048x1024 .f32) (x1 : FVec Ideal S1x1024 .f32) (x2 x3 : FVec Ideal S4096x1024 .f32) (t : Fin 4096) (l : Fin 1024)

/-- The rows, flattened, and the gradient of a normalised row. -/
abbrev xrow (k : Fin 1024) : EReal := val_main_v0 (F := Ideal) x0 (ix2 t k)
abbrev drow (k : Fin 1024) : EReal := (x2 (ix2 t k) : EReal) * x1 (ix2 0 k)

theorem ref_und : (val_main_v7 (F := Ideal) x0 (ix2 t 0) : EReal) = und (xrow x0 t) := by
  unfold val_main_v7 val_main_v6 val_main_v5 val_main_v4 val_main_v3 val_main_v2 val_main_v1 und ssq xrow
  generalize val_main_v0 (F := Ideal) x0 = X
  pointwise
  rw [show (val_main_cst (F := Ideal) (Shape.Idx.first Cert.Reference14Ideal.Gen.h_S_) : EReal) = 0 from RmsRow.zero_eq, zero_add]
  rfl
theorem ref_irt : (val_main_v8 (F := Ideal) x0 (ix2 t 0) : EReal) = irt (xrow x0 t) := by
  unfold irt
  rw [← ref_und]
  rfl
theorem ref_n : (val_main_v13 (F := Ideal) x0 (ix2 t l) : EReal) = xrow x0 t l * irt (xrow x0 t) := by
  rw [← ref_irt]
  unfold val_main_v13 val_main_v12 xrow
  generalize val_main_v0 (F := Ideal) x0 = X
  generalize val_main_v8 (F := Ideal) x0 = R
  pointwise
theorem ref_dg : (val_main_v18 (F := Ideal) x0 x2 (ix2 0 l) : EReal) = ∑ t : Fin 4096, (x2 (ix2 t l) : EReal) * (xrow x0 t l * irt (xrow x0 t)) := by
  simp only [← ref_n]
  unfold val_main_v18 val_main_v17 val_main_v16
  generalize val_main_v13 (F := Ideal) x0 = N
  pointwise
  rw [show (val_main_cst_3 (F := Ideal) (Shape.Idx.first Cert.Reference14Ideal.Gen.h_S_) : EReal) = 0 from RmsRow.zero_eq, zero_add]
  exact Finset.sum_congr rfl fun k _ => mul_comm (G := EReal) _ _
theorem ref_dn : (val_main_v20 (F := Ideal) x1 x2 (ix2 t l) : EReal) = drow x1 x2 t l := by
  unfold val_main_v20 val_main_v19 drow
  pointwise
theorem ref_sum : (val_main_v23 (F := Ideal) x0 x1 x2 (ix2 t 0) : EReal) = ∑ k : Fin 1024, drow x1 x2 t k * xrow x0 t k := by
  simp only [← ref_dn]
  unfold val_main_v23 val_main_v22 val_main_v21 xrow
  generalize val_main_v0 (F := Ideal) x0 = X
  generalize val_main_v20 (F := Ideal) x1 x2 = D
  pointwise
  rw [show (val_main_cst_4 (F := Ideal) (Shape.Idx.first Cert.Reference14Ideal.Gen.h_S_) : EReal) = 0 from RmsRow.zero_eq, zero_add]
  exact Finset.sum_congr rfl fun k _ => mul_comm (G := EReal) _ _
theorem ref_coef : (val_main_v30 (F := Ideal) x0 x1 x2 (ix2 t l) : EReal) = coef (xrow x0 t) (drow x1 x2 t) := by
  unfold coef
  rw [← ref_sum, ← ref_irt, ← ref_und]
  unfold val_main_v30 val_main_v29 val_main_v28 val_main_v27 val_main_v26 val_main_v11 val_main_v10 val_main_v9
  generalize val_main_v23 (F := Ideal) x0 x1 x2 = S
  generalize val_main_v8 (F := Ideal) x0 = R
  generalize val_main_v7 (F := Ideal) x0 = U
  pointwise
  rw [show (val_main_cst_6 (F := Ideal) (Shape.Idx.first Cert.Reference14Ideal.Gen.h_S_) : EReal) = 0 from RmsRow.zero_eq, zero_add, Fin.sum_univ_one]
  rfl
theorem ref_dx : (val_main_v35 (F := Ideal) x0 x1 x2 x3 (ix2 t l) : EReal) = rowRef (xrow x0 t) (drow x1 x2 t) l + x3 (ix2 t l) := by
  unfold rowRef
  rw [← ref_coef x0 x1 x2 t l, ← ref_irt, ← ref_dn]
  unfold val_main_v35 val_main_v34 val_main_v33 val_main_v32 val_main_v31 val_main_v25 val_main_v24 xrow
  generalize val_main_v0 (F := Ideal) x0 = X
  generalize val_main_v20 (F := Ideal) x1 x2 = D
  generalize val_main_v30 (F := Ideal) x0 x1 x2 = C
  generalize val_main_v8 (F := Ideal) x0 = R
  pointwise
  show ((_ : EReal) + _ + _) + _ = _
  rw [mul_comm (X (ix2 t l) : EReal), add_assoc (_ * _)]

end Ref

/-! ## What a point leaves -/

section Point
variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S512x1024 .f32) (harg3 : arg3.IsWhole) (arg4 : Memref sig .tc .vmem S512x1024 .f32) (harg4 : arg4.IsWhole)
  (arg5 : Memref sig .tc .vmem S512x1024 .f32) (harg5 : arg5.IsWhole) (arg6 : Memref sig .tc .vmem S1x1024 .f32) (harg6 : arg6.IsWhole)
  (x0 : Vec Ideal S512x1024 .f32) (x1 : Vec Ideal S1x1024 .f32) (x2 x3 : Vec Ideal S512x1024 .f32) (xo5 : Vec Ideal S1x1024 .f32)

/-- The tile's gradient, at the first point, -/
theorem dx_first (hc0 : cond0_0 i) :
    out0_A_4 (F := Ideal) c i arg1 harg1 arg2 harg2 arg3 harg3 arg4 harg4 arg5 harg5 arg6 harg6 hc0 x0 x1 x2 x3 = k0_pay5 x0 x2 x1 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero (S := S512x1024) hz]
  simp only [View.readAt_eq_ld, harg1.read_unread, harg2.read_unread, harg3.read_unread, harg4.read_unread, View.ld_unit_zero (S := S512x1024) hz, View.ld_unit_zero (S := S1x1024) hz]

/-- and at a later one; -/
theorem dx_next (hc0 : ¬cond0_0 i) :
    out0_B_4 (F := Ideal) c i arg1 harg1 arg2 harg2 arg3 harg3 arg4 harg4 arg5 harg5 arg6 harg6 hc0 x0 x1 x2 x3 xo5 = k0_pay5 x0 x2 x1 x3 := by
  unfold out0_B_4
  rw [View.read_writes_eq_canon _ _ _ (cover0_B_4 c i arg1 harg1 arg2 harg2 arg3 harg3 arg4 harg4 arg5 harg5 arg6 harg6 hc0 x0 x1 x2 x3 xo5)]
  unfold kernelRun0_B
  dsimp only
  sl_unfold_words
  rw [View.canon_unit_zero (S := S512x1024) hz]
  simp only [View.readAt_eq_ld, harg1.read_unread, harg2.read_unread, harg3.read_unread, harg4.read_unread, View.ld_unit_zero (S := S512x1024) hz, View.ld_unit_zero (S := S1x1024) hz]

/-- the scale's gradient, started at the first point, -/
theorem dg_first (hc0 : cond0_0 i) :
    out0_A_5 (F := Ideal) c i arg1 harg1 arg2 harg2 arg3 harg3 arg4 harg4 arg5 harg5 arg6 harg6 hc0 x0 x1 x2 x3 = k0_pay1 (k0_pay7 (F := Ideal) (k0_pay6 (F := Ideal))) (k0_pay8 x0 x2) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S1x1024) hz]
  simp only [CmpGrad.readCov_cons_whole (S := S1x1024) _ hz, View.readAt_eq_ld, harg1.read_unread, harg2.read_unread, harg3.read_unread, harg4.read_unread, View.ld_unit_zero (S := S512x1024) hz, View.ld_unit_zero (S := S1x1024) hz]

/-- and added to at a later one. -/
theorem dg_next (hc0 : ¬cond0_0 i) :
    out0_B_5 (F := Ideal) c i arg1 harg1 arg2 harg2 arg3 harg3 arg4 harg4 arg5 harg5 arg6 harg6 hc0 x0 x1 x2 x3 xo5 = k0_pay1 (k0_pay7 xo5) (k0_pay8 x0 x2) := by
  unfold out0_B_5
  rw [View.read_writes_eq_canon _ _ _ (cover0_B_5 c i arg1 harg1 arg2 harg2 arg3 harg3 arg4 harg4 arg5 harg5 arg6 harg6 hc0 x0 x1 x2 x3 xo5)]
  unfold kernelRun0_B
  dsimp only
  sl_unfold_words
  rw [View.canon_unit_zero (S := S1x1024) hz]
  simp only [View.readAt_eq_ld, harg1.read_unread, harg2.read_unread, harg3.read_unread, harg4.read_unread, harg6.read_unread, View.ld_unit_zero (S := S512x1024) hz, View.ld_unit_zero (S := S1x1024) hz]

end Point

/-! ## The kernel's arrays -/

variable (m : (ℓ : Loc nD τ sig) → Buf (Elt Ideal) ℓ) (ρ : Dev nD → PrngReg) (c : Dev nD)

/-- The arrays the kernel is given, -/
abbrev X0 : FVec Ideal S2x2048x1024 .f32 := m ((c : Thread nD τ).loc main_arg0)
abbrev X1 : FVec Ideal S1x1024 .f32 := m ((c : Thread nD τ).loc main_arg1)
abbrev X2 : FVec Ideal S4096x1024 .f32 := m ((c : Thread nD τ).loc main_arg2)
abbrev X3 : FVec Ideal S4096x1024 .f32 := m ((c : Thread nD τ).loc main_arg3)

/-- and the first, flattened to rows. -/
abbrev xflat : FVec Ideal S4096x1024 .f32 := Cert.Reference14Ideal.Read.val_main_v0 (F := Ideal) (X0 m c)

theorem V_v0 : V m c main_v0 = xflat m c := by
  show StableHlo.after hostOps0 _ (Proc.devRef .tc main_v0) = _
  after_reads_simp
  rfl

theorem dx_at (t : Fin cfg0.N) : (outsAt0 m c t.val t.isLt).1 = k0_pay5 (iblk m c 0 t) (iblk m c 2 t) (iblk m c 1 t) (iblk m c 3 t) := by
  by_cases h0 : t.val % 8 = 0
  · rw [outsAt0_A m c t h0]; dsimp only; exact dx_first ..
  · rw [outsAt0_B m c t h0]; dsimp only; exact dx_next ..
theorem dg_at_first (t : Fin cfg0.N) (h0 : t.val % 8 = 0) :
    (outsAt0 m c t.val t.isLt).2 = k0_pay1 (k0_pay7 (F := Ideal) (k0_pay6 (F := Ideal))) (k0_pay8 (iblk m c 0 t) (iblk m c 2 t)) := by
  rw [outsAt0_A m c t h0]; dsimp only; exact dg_first ..
theorem dg_at_next (t : Fin cfg0.N) (h0 : ¬t.val % 8 = 0) :
    (outsAt0 m c t.val t.isLt).2 = k0_pay1 (k0_pay7 (outsAt0 m c (t.val - 1) (Nat.lt_of_le_of_lt (Nat.sub_le _ _) t.isLt)).2) (k0_pay8 (iblk m c 0 t) (iblk m c 2 t)) := by
  rw [outsAt0_B m c t h0]; dsimp only; exact dg_next ..

/-- The printed index maps, decided over the grid: the tile of rows is the point's number; the scale and its gradient are whole. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0) := by
  decide +kernel

/-- The grid point of a tile of rows, and a tile's row as a row of the whole. -/
abbrev pt (i : Fin 8) : Fin cfg0.N := ⟨i.val, lt_of_lt_of_eq i.isLt (show 8 = cfg0.N from N_0.symm)⟩
abbrev row (i : Fin 8) (r : Fin 512) : Fin 4096 := ⟨512 * i.val + r.val, by omega⟩

theorem blk0 (i : Fin 8) (r : Fin 512) (l : Fin 1024) : (iblk m c 0 (pt i) : Vec Ideal S512x1024 .f32) (ix2 r l) = xflat m c (ix2 (row i r) l) := by
  obtain ⟨⟨e0, e1⟩, -⟩ := idx (pt i)
  unfold iblk
  rw [View.read_apply]
  show V m c main_v0 _ = _
  rw [V_v0]
  congr 1; funext a; apply Fin.ext
  match a with
  | ⟨0, _⟩ => show win0_0.index (pt i) 0 * 512 + 1 * r.val = 512 * i.val + r.val; rw [e0]; show i.val * 512 + 1 * r.val = _; omega
  | ⟨1, _⟩ => show win0_0.index (pt i) 1 * 1024 + 1 * l.val = l.val; rw [e1]; omega
theorem blk1 (i : Fin 8) (l : Fin 1024) : (iblk m c 1 (pt i) : Vec Ideal S1x1024 .f32) (ix2 0 l) = X1 m c (ix2 0 l) := by
  obtain ⟨-, ⟨e0, e1⟩, -⟩ := idx (pt i)
  unfold iblk
  rw [View.read_apply]
  show V m c main_arg1 _ = _
  rw [V_main_arg1]
  congr 1; funext a; apply Fin.ext
  match a with
  | ⟨0, _⟩ => show win0_1.index (pt i) 0 * 1 + 1 * 0 = 0; rw [e0]
  | ⟨1, _⟩ => show win0_1.index (pt i) 1 * 1024 + 1 * l.val = l.val; rw [e1]; omega
theorem blk2 (i : Fin 8) (r : Fin 512) (l : Fin 1024) : (iblk m c 2 (pt i) : Vec Ideal S512x1024 .f32) (ix2 r l) = X2 m c (ix2 (row i r) l) := by
  obtain ⟨-, -, ⟨e0, e1⟩, -⟩ := idx (pt i)
  unfold iblk
  rw [View.read_apply]
  show V m c main_arg2 _ = _
  rw [V_main_arg2]
  congr 1; funext a; apply Fin.ext
  match a with
  | ⟨0, _⟩ => show win0_2.index (pt i) 0 * 512 + 1 * r.val = 512 * i.val + r.val; rw [e0]; show i.val * 512 + 1 * r.val = _; omega
  | ⟨1, _⟩ => show win0_2.index (pt i) 1 * 1024 + 1 * l.val = l.val; rw [e1]; omega
theorem blk3 (i : Fin 8) (r : Fin 512) (l : Fin 1024) : (iblk m c 3 (pt i) : Vec Ideal S512x1024 .f32) (ix2 r l) = X3 m c (ix2 (row i r) l) := by
  obtain ⟨-, -, -, ⟨e0, e1⟩, -⟩ := idx (pt i)
  unfold iblk
  rw [View.read_apply]
  show V m c main_arg3 _ = _
  rw [V_main_arg3]
  congr 1; funext a; apply Fin.ext
  match a with
  | ⟨0, _⟩ => show win0_3.index (pt i) 0 * 512 + 1 * r.val = 512 * i.val + r.val; rw [e0]; show i.val * 512 + 1 * r.val = _; omega
  | ⟨1, _⟩ => show win0_3.index (pt i) 1 * 1024 + 1 * l.val = l.val; rw [e1]; omega

/-- A row of the input, the gradient of its normalised row, and the row's part of the scale's gradient. -/
abbrev xr (t : Fin 4096) (k : Fin 1024) : EReal := xflat m c (ix2 t k)
abbrev dr (t : Fin 4096) (k : Fin 1024) : EReal := (X2 m c (ix2 t k) : EReal) * X1 m c (ix2 0 k)
abbrev gr (l : Fin 1024) (t : Fin 4096) : EReal := (X2 m c (ix2 t l) : EReal) * (xr m c t l * irt (xr m c t))

/-- A tile's part of the scale's gradient. -/
abbrev part (l : Fin 1024) (i : Fin 8) : EReal := ∑ r : Fin 512, gr m c l (row i r)

theorem part_eq (l : Fin 1024) (i : Fin 8) : (k0_pay8 (F := Ideal) (iblk m c 0 (pt i)) (iblk m c 2 (pt i)) (ix2 0 l) : EReal) = part m c l i := by
  rw [pay8_apply]
  refine Finset.sum_congr rfl fun r _ => ?_
  rw [blk2 m c i r l, blk0 m c i r l]
  simp only [blk0 m c i r]

theorem run_first (l : Fin 1024) (i : Fin 8) (h : i.val % 8 = 0) : ((outsAt0 m c (pt i).val (pt i).isLt).2 (ix2 0 l) : EReal) = part m c l i := by
  rw [dg_at_first m c (pt i) h]
  exact (first_apply _ _ l).trans (part_eq m c l i)
theorem run_next (l : Fin 1024) (i : Fin 8) (h : ¬i.val % 8 = 0) :
    ((outsAt0 m c (pt i).val (pt i).isLt).2 (ix2 0 l) : EReal)
      = ((outsAt0 m c ((pt i).val - 1) (Nat.lt_of_le_of_lt (Nat.sub_le _ _) (pt i).isLt)).2 (ix2 0 l) : EReal) + part m c l i := by
  rw [dg_at_next m c (pt i) h]
  exact (next_apply _ _ _ l).trans (congrArg _ (part_eq m c l i))

theorem run_succ (l : Fin 1024) (n : Nat) (h : n + 1 < 8) :
    ((outsAt0 m c (n + 1) (pt ⟨n + 1, h⟩).isLt).2 (ix2 0 l) : EReal)
      = ((outsAt0 m c n (Nat.lt_trans (Nat.lt_succ_self n) (pt ⟨n + 1, h⟩).isLt)).2 (ix2 0 l) : EReal) + part m c l ⟨n + 1, h⟩ :=
  run_next m c l ⟨n + 1, h⟩ (by show ¬(n + 1) % 8 = 0; omega)

/-- After a point, the parts of the tiles so far. -/
theorem run_sum (l : Fin 1024) (n : Nat) (h : n < 8) :
    ((outsAt0 m c n (pt ⟨n, h⟩).isLt).2 (ix2 0 l) : EReal) = ∑ i ∈ Finset.range (n + 1), if hi : i < 8 then part m c l ⟨i, hi⟩ else 0 := by
  induction n with
  | zero =>
    rw [Finset.sum_range_one, dif_pos h]
    exact run_first m c l ⟨0, h⟩ rfl
  | succ n ih =>
    rw [Finset.sum_range_succ, dif_pos h, ← ih (by omega)]
    exact run_succ m c l n h

/-- The rows of the whole, tile by tile. -/
theorem sum_rows (f : Fin 4096 → EReal) : (∑ i : Fin 8, ∑ r : Fin 512, f (row i r)) = ∑ t : Fin 4096, f t := by
  rw [← Fintype.sum_prod_type']
  refine Fintype.sum_equiv (finProdFinEquiv (m := 8) (n := 512)) _ _ fun p => congrArg f (Fin.ext ?_)
  show 512 * p.1.val + p.2.val = p.2.val + 512 * p.1.val
  omega

theorem dg_total (l : Fin 1024) : ((outsAt0 m c (pt 7).val (pt 7).isLt).2 (ix2 0 l) : EReal) = ∑ t : Fin 4096, gr m c l t := by
  refine (run_sum m c l 7 (by decide)).trans ?_
  rw [← sum_rows, Finset.sum_range]
  exact Finset.sum_congr rfl fun i _ => dif_pos i.isLt

/-- Two points write two tiles of the input's gradient; only the last writes the scale's. -/
theorem inj4 (t t' : Fin cfg0.N) (h : win0_4.index t = win0_4.index t') : t = t' :=
  Fin.ext (((idx t).2.2.2.2.1.1).symm.trans ((congrFun h 0).trans (idx t').2.2.2.2.1.1))

theorem tile4 (t : Fin cfg0.N) : ((cfg0.win 4).blk t).view.read (Elt Ideal) ((dats m 0 c).arrAt 4 cfg0.N)
    = k0_pay5 (F := Ideal) (iblk m c 0 t) (iblk m c 2 t) (iblk m c 1 t) (iblk m c 3 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, dx_at]
  rfl
theorem tile5 : ((cfg0.win 5).blk (pt 7)).view.read (Elt Ideal) ((dats m 0 c).arrAt 5 cfg0.N) = (outsAt0 m c (pt 7).val (pt 7).isLt).2 := by
  refine ((dats m 0 c).read_blk_arrAt_eq_flushed 5 (fun s s' hs hs' hne => absurd (Fin.ext ?_) hne) cfg0.N (pt 7) (pt 7).isLt ((flush0_5 (pt 7)).2 rfl)).trans ?_
  · have h1 := (flush0_5 s).1 hs
    have h2 := (flush0_5 s').1 hs'
    have l1 := lt_of_lt_of_eq s.isLt (show cfg0.N = 8 from N_0)
    have l2 := lt_of_lt_of_eq s'.isLt (show cfg0.N = 8 from N_0)
    omega
  show (cfg0.win 5).cut (grid0.coords (pt 7)) ((dats m 0 c).after 5 (pt 7)) = _
  rw [after0_5]
  rfl

theorem split (j : S4096x1024.Idx) : ∃ (i : Fin 8) (r : Fin 512) (l : Fin 1024), j = ix2 (row i r) l := by
  have h0 : (j 0).val < 4096 := (j 0).isLt
  refine ⟨⟨(j 0).val / 512, by omega⟩, ⟨(j 0).val % 512, by omega⟩, j 1, ?_⟩
  funext a; match a with
  | ⟨0, _⟩ => exact Fin.ext (by show (j 0).val = 512 * ((j 0).val / 512) + (j 0).val % 512; omega)
  | ⟨1, _⟩ => rfl

/-- The kernel's gradient of the rows is the reference's, -/
theorem arr4 : ((dats m 0 c).arrAt 4 cfg0.N : FVec Ideal S4096x1024 .f32)
    = Cert.Reference14Ideal.Read.val_main_v35 (F := Ideal) (X0 m c) (X1 m c) (X2 m c) (X3 m c) := by
  refine funext fun (j : S4096x1024.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 512 + 1 * r.val = 512 * i.val + r.val; rw [e0]; show i.val * 512 + 1 * r.val = _; omega
    | ⟨1, _⟩ => show win0_4.index (pt i) 1 * 1024 + 1 * l.val = l.val; rw [e1]; omega
  rw [he] at h
  refine Eq.trans h ((pay5_apply _ _ _ _ r l).trans ?_)
  rw [blk3 m c i r l]
  simp only [blk0 m c i r, blk1 m c i, blk2 m c i r]
  rw [RmsRow.row_eq]
  exact (ref_dx (X0 m c) (X1 m c) (X2 m c) (X3 m c) (row i r) l).symm

/-- and so is its gradient of the scale. -/
theorem arr5 : ((dats m 0 c).arrAt 5 cfg0.N : FVec Ideal S1x1024 .f32) = Cert.Reference14Ideal.Read.val_main_v18 (F := Ideal) (X0 m c) (X2 m c) := by
  refine funext fun (j : S1x1024.Idx) => ?_
  obtain ⟨l, rfl⟩ : ∃ l : Fin 1024, j = ix2 0 l := by
    refine ⟨j 1, ?_⟩
    have h0 : (j 0).val < 1 := (j 0).isLt
    funext a; match a with
    | ⟨0, _⟩ => exact Fin.ext (by show (j 0).val = 0; omega)
    | ⟨1, _⟩ => rfl
  obtain ⟨-, -, -, -, -, ⟨e0, e1⟩⟩ := idx (pt 7)
  have h := congrFun (tile5 m c) (ix2 0 l)
  rw [View.read_apply] at h
  have he : ((cfg0.win 5).blk (pt 7)).view.emb (ix2 0 l) = ix2 0 l := by
    funext a; apply Fin.ext
    match a with
    | ⟨0, _⟩ => show win0_5.index (pt 7) 0 * 1 + 1 * 0 = 0; rw [e0]
    | ⟨1, _⟩ => show win0_5.index (pt 7) 1 * 1024 + 1 * l.val = l.val; rw [e1]; omega
  rw [he] at h
  refine Eq.trans h ((dg_total m c l).trans ?_)
  exact (ref_dg (X0 m c) (X2 m c) l).symm

/-! ## The results -/

/-- The contents of every buffer when the region ends: its arrays as written, the rest as found. -/
abbrev ended : Valuation τ sig (Elt Ideal) :=
  Pipeline.withArrays (cfgs 0).spec c (V0 m c) fun w => (dats m 0 c).arrAt w (cfgs 0).N

theorem ended4 : ended m c (Proc.devRef .tc main_v1_0) = (dats m 0 c).arrAt 4 cfg0.N :=
  Pipeline.withArrays_arr spec0 (by decide) c (V0 m c) (fun w => (dats m 0 c).arrAt w (cfgs 0).N) 4

theorem res2 : Pipeline.afterTail₀ cfgs (dats m) 0 (V0 m) [hostOps1] c main_v2
    = Cert.Reference14Ideal.Read.val_main_v36 (F := Ideal) (X0 m c) (X1 m c) (X2 m c) (X3 m c) := by
  show StableHlo.after hostOps1 (ended m c) (Proc.devRef .tc main_v2) = _
  have h4 := (ended4 m c).trans (arr4 m c)
  unfold Cert.Reference14Ideal.Read.val_main_v36
  generalize Cert.Reference14Ideal.Read.val_main_v35 (F := Ideal) (X0 m c) (X1 m c) (X2 m c) (X3 m c) = Y at *
  generalize ended m c = W at *
  after_reads_simp
  exact funext fun j => congrFun h4 (Shape.reshapeEquiv shapeCasts_S4096x1024_S2x2048x1024 j)

/-! ## The claims -/

/-- The reference runs on the host alone: its run keeps the arguments, and it has no semaphore. -/
theorem frame_reference : Cert.quiescent_Reference14Ideal := fun m ρ _ =>
  (θ_run Cert.Reference14Ideal.defs _ _).mono (fun r h => ⟨fun c => (h c).2.2, Idealize.ShloMosaic.sem_eq_zero_of_no_sems (by decide) r.2⟩)
    (Cert.Reference14Ideal.Value.run (F := Ideal) m ρ)

/-- The kernel's two arrays are the reference's: the gradients of the rows and of the scale. -/
theorem algebraic : Cert.algebraic_Kernel14Ideal_Reference14Ideal := by
  intro m ρ m' ρ' hpre hagree
  refine ⟨fun c => Cert.Reference14Ideal.Read.val_main_v36 (F := Ideal) (X0 m c) (X1 m c) (X2 m c) (X3 m c),
    fun c => Cert.Reference14Ideal.Read.val_main_v18 (F := Ideal) (X0 m c) (X2 m c), ?_, ?_⟩
  · refine (θ_run defs _ _).mono (fun r h c => ?_) (run_main (F := Ideal) m ρ)
    exact ⟨((h c).2 main_v2 (Pipeline.mem_restRefs_of main_v2 (by decide) (by decide))).trans (res2 m c),
      ((h c).1 5).trans (arr5 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  · refine (θ_run Cert.Reference14Ideal.defs _ _).mono (fun _ h c => ?_) (Cert.Reference14Ideal.Value.run (F := Ideal) m' ρ')
    obtain ⟨e0, e1, e2, e3⟩ := hagree c
    refine ⟨(h c).1.trans ((Cert.Reference14Ideal.Read.val_main_v36_eq _ _).trans ?_),
      (h c).2.1.trans ((Cert.Reference14Ideal.Read.val_main_v18_eq _ _).trans ?_), (h c).2.2⟩
    · rw [e0, e1, e2, e3]
    · rw [e0, e2]

end Cert.RmsPre

end
-- ==== Proof.RmsPost.lean ====
/-
  The gradient of the normalisation after the mix, in the narrow format its consumer takes: tile by tile of 512 rows on the
  kernel's side with the scale's gradient added up over the tiles, all the 4096 rows at once on the reference's.
-/
module

public import proofs.«01_k».proof.Defs
public import proofs.«01_k».proof.Proof.RmsRow
public import proofs.«01_k».proof.Proof.Gen.Kernel15Ideal.Value
public import proofs.«01_k».proof.Proof.Gen.Reference15Ideal.Read
public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic

@[expose] public section

set_option maxRecDepth 16384

noncomputable section

namespace Cert.RmsPost

open Idealize.ShloMosaic Idealize.SL.Sem Idealize.ShloMosaic.TcCoe Idealize.ShloMosaic.Tactic
open Cert.Kernel15Ideal Cert.Kernel15Ideal.Gen
open Idealize.ShloMosaic.Pipeline (Dat)
open Cert.RmsRow (ssq und irt coef rowRef rowKer)

theorem hz : (![0, 0] : Fin 2 → Nat) = fun _ => 0 := funext fun a => by fin_cases a <;> rfl

/-! ## The body on a tile -/

section Tile
variable (x d : Vec Ideal S512x1024 .f32) (g a : Vec Ideal S1x1024 .f32) (r : Fin 512) (l : Fin 1024)

theorem pay1_apply : k0_pay1 (F := Ideal) x (ix2 r 0) = irt fun k => x (ix2 r k) := by
  unfold k0_pay1 irt und ssq
  pointwise

theorem pay2_apply : (k0_pay2 (F := Ideal) x (ix2 r l) : EReal) = x (ix2 r l) * irt fun k => x (ix2 r k) := by
  rw [← pay1_apply x r]
  unfold k0_pay2
  generalize k0_pay1 (F := Ideal) x = R
  pointwise

theorem pay3_apply : (k0_pay3 (F := Ideal) x d g (ix2 r l) : EReal) = rowKer (fun k => x (ix2 r k)) (fun k => (d (ix2 r k) : EReal) * g (ix2 0 k)) l := by
  unfold rowKer
  simp only [← pay2_apply x r]
  rw [← pay1_apply x r]
  unfold k0_pay3
  generalize k0_pay1 (F := Ideal) x = R
  generalize k0_pay2 (F := Ideal) x = N
  pointwise

theorem pay5_apply : (k0_pay5 (F := Ideal) x d a (ix2 0 l) : EReal) = (a (ix2 0 l) : EReal) + ∑ r : Fin 512, (d (ix2 r l) : EReal) * (x (ix2 r l) * irt fun k => x (ix2 r k)) := by
  simp only [← pay2_apply x]
  unfold k0_pay5
  dsimp only
  rw [shapeCast_self]
  generalize k0_pay2 (F := Ideal) x = N
  pointwise

theorem first_apply : (k0_pay5 (F := Ideal) x d (k0_pay4 (F := Ideal)) (ix2 0 l) : EReal) = ∑ r : Fin 512, (d (ix2 r l) : EReal) * (x (ix2 r l) * irt fun k => x (ix2 r k)) :=
  (pay5_apply x d _ l).trans (by rw [show (k0_pay4 (F := Ideal) (ix2 0 l) : EReal) = 0 from RmsRow.zero_eq, zero_add])

end Tile

/-! ## The reference, entry by entry -/

section Ref
open Cert.Reference15Ideal.Read
variable (x0 : FVec Ideal S4096x1024 .f32) (x1 : FVec Ideal S1x1024 .f32) (x2 : FVec Ideal S4096x1024 .f32) (t : Fin 4096) (l : Fin 1024)

/-- The rows, flattened, and the gradient of a normalised row. -/
abbrev xrow (k : Fin 1024) : EReal := x0 (ix2 t k)
abbrev drow (k : Fin 1024) : EReal := (x2 (ix2 t k) : EReal) * x1 (ix2 0 k)

theorem ref_und : (val_main_v6 (F := Ideal) x0 (ix2 t 0) : EReal) = und (xrow x0 t) := by
  unfold val_main_v6 val_main_v5 val_main_v4 val_main_v3 val_main_v2 val_main_v1 val_main_v0 und ssq xrow
  pointwise
  rw [show (val_main_cst (F := Ideal) (Shape.Idx.first Cert.Reference15Ideal.Gen.h_S_) : EReal) = 0 from RmsRow.zero_eq, zero_add]
  rfl
theorem ref_irt : (val_main_v7 (F := Ideal) x0 (ix2 t 0) : EReal) = irt (xrow x0 t) := by
  unfold irt
  rw [← ref_und]
  rfl
theorem ref_n : (val_main_v12 (F := Ideal) x0 (ix2 t l) : EReal) = xrow x0 t l * irt (xrow x0 t) := by
  rw [← ref_irt]
  unfold val_main_v12 val_main_v11 xrow
  generalize val_main_v7 (F := Ideal) x0 = R
  pointwise
theorem ref_dg : (val_main_v17 (F := Ideal) x0 x2 (ix2 0 l) : EReal) = ∑ t : Fin 4096, (x2 (ix2 t l) : EReal) * (xrow x0 t l * irt (xrow x0 t)) := by
  simp only [← ref_n]
  unfold val_main_v17 val_main_v16 val_main_v15
  generalize val_main_v12 (F := Ideal) x0 = N
  pointwise
  rw [show (val_main_cst_3 (F := Ideal) (Shape.Idx.first Cert.Reference15Ideal.Gen.h_S_) : EReal) = 0 from RmsRow.zero_eq, zero_add]
  exact Finset.sum_congr rfl fun k _ => mul_comm (G := EReal) _ _
theorem ref_dn : (val_main_v19 (F := Ideal) x1 x2 (ix2 t l) : EReal) = drow x1 x2 t l := by
  unfold val_main_v19 val_main_v18 drow
  pointwise
theorem ref_sum : (val_main_v22 (F := Ideal) x0 x1 x2 (ix2 t 0) : EReal) = ∑ k : Fin 1024, drow x1 x2 t k * xrow x0 t k := by
  simp only [← ref_dn]
  unfold val_main_v22 val_main_v21 val_main_v20 xrow
  generalize val_main_v19 (F := Ideal) x1 x2 = D
  pointwise
  rw [show (val_main_cst_4 (F := Ideal) (Shape.Idx.first Cert.Reference15Ideal.Gen.h_S_) : EReal) = 0 from RmsRow.zero_eq, zero_add]
  exact Finset.sum_congr rfl fun k _ => mul_comm (G := EReal) _ _
theorem ref_coef : (val_main_v29 (F := Ideal) x0 x1 x2 (ix2 t l) : EReal) = coef (xrow x0 t) (drow x1 x2 t) := by
  unfold coef
  rw [← ref_sum, ← ref_irt, ← ref_und]
  unfold val_main_v29 val_main_v28 val_main_v27 val_main_v26 val_main_v25 val_main_v10 val_main_v9 val_main_v8
  generalize val_main_v22 (F := Ideal) x0 x1 x2 = S
  generalize val_main_v7 (F := Ideal) x0 = R
  generalize val_main_v6 (F := Ideal) x0 = U
  pointwise
  rw [show (val_main_cst_6 (F := Ideal) (Shape.Idx.first Cert.Reference15Ideal.Gen.h_S_) : EReal) = 0 from RmsRow.zero_eq, zero_add, Fin.sum_univ_one]
  rfl
theorem ref_dx : (val_main_v34 (F := Ideal) x0 x1 x2 (ix2 t l) : EReal) = rowRef (xrow x0 t) (drow x1 x2 t) l := by
  unfold rowRef
  rw [← ref_coef x0 x1 x2 t l, ← ref_irt, ← ref_dn]
  unfold val_main_v34 val_main_v33 val_main_v32 val_main_v31 val_main_v30 val_main_v24 val_main_v23 xrow
  generalize val_main_v19 (F := Ideal) x1 x2 = D
  generalize val_main_v29 (F := Ideal) x0 x1 x2 = C
  generalize val_main_v7 (F := Ideal) x0 = R
  pointwise
  show ((_ : EReal) + _) + _ = _
  rw [mul_comm (x0 (ix2 t l) : EReal), add_assoc (_ * _)]

end Ref

/-! ## What a point leaves -/

section Point
variable (c : Dev nD) (i : grid0.Coords) (arg1 : Memref sig .tc .vmem S512x1024 .f32) (harg1 : arg1.IsWhole) (arg2 : Memref sig .tc .vmem S1x1024 .f32) (harg2 : arg2.IsWhole)
  (arg3 : Memref sig .tc .vmem S512x1024 .f32) (harg3 : arg3.IsWhole) (arg4 : Memref sig .tc .vmem S512x1024 .bf16) (harg4 : arg4.IsWhole)
  (arg5 : Memref sig .tc .vmem S1x1024 .f32) (harg5 : arg5.IsWhole)
  (x0 : Vec Ideal S512x1024 .f32) (x1 : Vec Ideal S1x1024 .f32) (x2 : Vec Ideal S512x1024 .f32) (xo4 : Vec Ideal S1x1024 .f32)

/-- The tile's gradient, at the first point, -/
theorem dx_first (hc0 : cond0_0 i) :
    out0_A_3 (F := Ideal) c i arg1 harg1 arg2 harg2 arg3 harg3 arg4 harg4 arg5 harg5 hc0 x0 x1 x2 = k0_pay3 x0 x2 x1 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero (S := S512x1024) hz]
  simp only [View.readAt_eq_ld, harg1.read_unread, harg2.read_unread, harg3.read_unread, View.ld_unit_zero (S := S512x1024) hz, View.ld_unit_zero (S := S1x1024) hz]

/-- and at a later one; -/
theorem dx_next (hc0 : ¬cond0_0 i) :
    out0_B_3 (F := Ideal) c i arg1 harg1 arg2 harg2 arg3 harg3 arg4 harg4 arg5 harg5 hc0 x0 x1 x2 xo4 = k0_pay3 x0 x2 x1 := by
  unfold out0_B_3
  rw [View.read_writes_eq_canon _ _ _ (cover0_B_3 c i arg1 harg1 arg2 harg2 arg3 harg3 arg4 harg4 arg5 harg5 hc0 x0 x1 x2 xo4)]
  unfold kernelRun0_B
  dsimp only
  sl_unfold_words
  rw [View.canon_unit_zero (S := S512x1024) hz]
  simp only [View.readAt_eq_ld, harg1.read_unread, harg2.read_unread, harg3.read_unread, View.ld_unit_zero (S := S512x1024) hz, View.ld_unit_zero (S := S1x1024) hz]

/-- the scale's gradient, started at the first point, -/
theorem dg_first (hc0 : cond0_0 i) :
    out0_A_4 (F := Ideal) c i arg1 harg1 arg2 harg2 arg3 harg3 arg4 harg4 arg5 harg5 hc0 x0 x1 x2 = k0_pay5 x0 x2 (k0_pay4 (F := Ideal)) := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S1x1024) hz]
  simp only [CmpGrad.readCov_cons_whole (S := S1x1024) _ hz, View.readAt_eq_ld, harg1.read_unread, harg2.read_unread, harg3.read_unread, View.ld_unit_zero (S := S512x1024) hz, View.ld_unit_zero (S := S1x1024) hz]

/-- and added to at a later one. -/
theorem dg_next (hc0 : ¬cond0_0 i) :
    out0_B_4 (F := Ideal) c i arg1 harg1 arg2 harg2 arg3 harg3 arg4 harg4 arg5 harg5 hc0 x0 x1 x2 xo4 = k0_pay5 x0 x2 xo4 := by
  unfold out0_B_4
  rw [View.read_writes_eq_canon _ _ _ (cover0_B_4 c i arg1 harg1 arg2 harg2 arg3 harg3 arg4 harg4 arg5 harg5 hc0 x0 x1 x2 xo4)]
  unfold kernelRun0_B
  dsimp only
  sl_unfold_words
  rw [View.canon_unit_zero (S := S1x1024) hz]
  simp only [View.readAt_eq_ld, harg1.read_unread, harg2.read_unread, harg3.read_unread, harg5.read_unread, View.ld_unit_zero (S := S512x1024) hz, View.ld_unit_zero (S := S1x1024) hz]

end Point

/-! ## The kernel's arrays -/

variable (m : (ℓ : Loc nD τ sig) → Buf (Elt Ideal) ℓ) (ρ : Dev nD → PrngReg) (c : Dev nD)

/-- The arrays the kernel is given, -/
abbrev X0 : FVec Ideal S4096x1024 .f32 := m ((c : Thread nD τ).loc main_arg0)
abbrev X1 : FVec Ideal S1x1024 .f32 := m ((c : Thread nD τ).loc main_arg1)
abbrev X2 : FVec Ideal S4096x1024 .f32 := m ((c : Thread nD τ).loc main_arg2)

theorem dx_at (t : Fin cfg0.N) : (outsAt0 m c t.val t.isLt).1 = k0_pay3 (iblk m c 0 t) (iblk m c 2 t) (iblk m c 1 t) := by
  by_cases h0 : t.val % 8 = 0
  · rw [outsAt0_A m c t h0]; dsimp only; exact dx_first ..
  · rw [outsAt0_B m c t h0]; dsimp only; exact dx_next ..
theorem dg_at_first (t : Fin cfg0.N) (h0 : t.val % 8 = 0) :
    (outsAt0 m c t.val t.isLt).2 = k0_pay5 (iblk m c 0 t) (iblk m c 2 t) (k0_pay4 (F := Ideal)) := by
  rw [outsAt0_A m c t h0]; dsimp only; exact dg_first ..
theorem dg_at_next (t : Fin cfg0.N) (h0 : ¬t.val % 8 = 0) :
    (outsAt0 m c t.val t.isLt).2 = k0_pay5 (iblk m c 0 t) (iblk m c 2 t) (outsAt0 m c (t.val - 1) (Nat.lt_of_le_of_lt (Nat.sub_le _ _) t.isLt)).2 := by
  rw [outsAt0_B m c t h0]; dsimp only; exact dg_next ..

/-- The printed index maps, decided over the grid: the tile of rows is the point's number; the scale and its gradient are whole. -/
theorem idx : ∀ t : Fin grid0.N, (win0_0.index t 0 = t.val ∧ win0_0.index t 1 = 0) ∧ (win0_1.index t 0 = 0 ∧ win0_1.index t 1 = 0)
    ∧ (win0_2.index t 0 = t.val ∧ win0_2.index t 1 = 0)
    ∧ (win0_3.index t 0 = t.val ∧ win0_3.index t 1 = 0) ∧ (win0_4.index t 0 = 0 ∧ win0_4.index t 1 = 0) := by
  decide +kernel

/-- The grid point of a tile of rows, and a tile's row as a row of the whole. -/
abbrev pt (i : Fin 8) : Fin cfg0.N := ⟨i.val, lt_of_lt_of_eq i.isLt (show 8 = cfg0.N from N_0.symm)⟩
abbrev row (i : Fin 8) (r : Fin 512) : Fin 4096 := ⟨512 * i.val + r.val, by omega⟩

theorem blk0 (i : Fin 8) (r : Fin 512) (l : Fin 1024) : (iblk m c 0 (pt i) : Vec Ideal S512x1024 .f32) (ix2 r l) = X0 m c (ix2 (row i r) l) := by
  obtain ⟨⟨e0, e1⟩, -⟩ := idx (pt i)
  unfold iblk
  rw [View.read_apply]
  show V m c main_arg0 _ = _
  rw [V_main_arg0]
  congr 1; funext a; apply Fin.ext
  match a with
  | ⟨0, _⟩ => show win0_0.index (pt i) 0 * 512 + 1 * r.val = 512 * i.val + r.val; rw [e0]; show i.val * 512 + 1 * r.val = _; omega
  | ⟨1, _⟩ => show win0_0.index (pt i) 1 * 1024 + 1 * l.val = l.val; rw [e1]; omega
theorem blk1 (i : Fin 8) (l : Fin 1024) : (iblk m c 1 (pt i) : Vec Ideal S1x1024 .f32) (ix2 0 l) = X1 m c (ix2 0 l) := by
  obtain ⟨-, ⟨e0, e1⟩, -⟩ := idx (pt i)
  unfold iblk
  rw [View.read_apply]
  show V m c main_arg1 _ = _
  rw [V_main_arg1]
  congr 1; funext a; apply Fin.ext
  match a with
  | ⟨0, _⟩ => show win0_1.index (pt i) 0 * 1 + 1 * 0 = 0; rw [e0]
  | ⟨1, _⟩ => show win0_1.index (pt i) 1 * 1024 + 1 * l.val = l.val; rw [e1]; omega
theorem blk2 (i : Fin 8) (r : Fin 512) (l : Fin 1024) : (iblk m c 2 (pt i) : Vec Ideal S512x1024 .f32) (ix2 r l) = X2 m c (ix2 (row i r) l) := by
  obtain ⟨-, -, ⟨e0, e1⟩, -⟩ := idx (pt i)
  unfold iblk
  rw [View.read_apply]
  show V m c main_arg2 _ = _
  rw [V_main_arg2]
  congr 1; funext a; apply Fin.ext
  match a with
  | ⟨0, _⟩ => show win0_2.index (pt i) 0 * 512 + 1 * r.val = 512 * i.val + r.val; rw [e0]; show i.val * 512 + 1 * r.val = _; omega
  | ⟨1, _⟩ => show win0_2.index (pt i) 1 * 1024 + 1 * l.val = l.val; rw [e1]; omega
/-- A row of the input, the gradient of its normalised row, and the row's part of the scale's gradient. -/
abbrev xr (t : Fin 4096) (k : Fin 1024) : EReal := X0 m c (ix2 t k)
abbrev dr (t : Fin 4096) (k : Fin 1024) : EReal := (X2 m c (ix2 t k) : EReal) * X1 m c (ix2 0 k)
abbrev gr (l : Fin 1024) (t : Fin 4096) : EReal := (X2 m c (ix2 t l) : EReal) * (xr m c t l * irt (xr m c t))

/-- A tile's part of the scale's gradient. -/
abbrev part (l : Fin 1024) (i : Fin 8) : EReal := ∑ r : Fin 512, gr m c l (row i r)

/-- The tiles of the rows and of the incoming gradient at a point. -/
abbrev xt (i : Fin 8) : Vec Ideal S512x1024 .f32 := iblk m c 0 (pt i)
abbrev dt (i : Fin 8) : Vec Ideal S512x1024 .f32 := iblk m c 2 (pt i)

theorem part_eq (l : Fin 1024) (i : Fin 8) : (∑ r : Fin 512, (dt m c i (ix2 r l) : EReal) * (xt m c i (ix2 r l) * irt fun k => xt m c i (ix2 r k))) = part m c l i := by
  refine Finset.sum_congr rfl fun r _ => ?_
  exact congrArg₂ (fun a b : EReal => a * b) (blk2 m c i r l)
    (congrArg₂ (fun a b : EReal => a * b) (blk0 m c i r l) (congrArg irt (funext fun k => blk0 m c i r k)))

theorem run_first (l : Fin 1024) (i : Fin 8) (h : i.val % 8 = 0) : ((outsAt0 m c (pt i).val (pt i).isLt).2 (ix2 0 l) : EReal) = part m c l i := by
  rw [dg_at_first m c (pt i) h]
  exact (first_apply _ _ l).trans (part_eq m c l i)
theorem run_next (l : Fin 1024) (i : Fin 8) (h : ¬i.val % 8 = 0) :
    ((outsAt0 m c (pt i).val (pt i).isLt).2 (ix2 0 l) : EReal)
      = ((outsAt0 m c ((pt i).val - 1) (Nat.lt_of_le_of_lt (Nat.sub_le _ _) (pt i).isLt)).2 (ix2 0 l) : EReal) + part m c l i := by
  rw [dg_at_next m c (pt i) h]
  exact (pay5_apply _ _ _ l).trans (congrArg _ (part_eq m c l i))

theorem run_succ (l : Fin 1024) (n : Nat) (h : n + 1 < 8) :
    ((outsAt0 m c (n + 1) (pt ⟨n + 1, h⟩).isLt).2 (ix2 0 l) : EReal)
      = ((outsAt0 m c n (Nat.lt_trans (Nat.lt_succ_self n) (pt ⟨n + 1, h⟩).isLt)).2 (ix2 0 l) : EReal) + part m c l ⟨n + 1, h⟩ :=
  run_next m c l ⟨n + 1, h⟩ (by show ¬(n + 1) % 8 = 0; omega)

/-- After a point, the parts of the tiles so far. -/
theorem run_sum (l : Fin 1024) (n : Nat) (h : n < 8) :
    ((outsAt0 m c n (pt ⟨n, h⟩).isLt).2 (ix2 0 l) : EReal) = ∑ i ∈ Finset.range (n + 1), if hi : i < 8 then part m c l ⟨i, hi⟩ else 0 := by
  induction n with
  | zero =>
    rw [Finset.sum_range_one, dif_pos h]
    exact run_first m c l ⟨0, h⟩ rfl
  | succ n ih =>
    rw [Finset.sum_range_succ, dif_pos h, ← ih (by omega)]
    exact run_succ m c l n h

/-- The rows of the whole, tile by tile. -/
theorem sum_rows (f : Fin 4096 → EReal) : (∑ i : Fin 8, ∑ r : Fin 512, f (row i r)) = ∑ t : Fin 4096, f t := by
  rw [← Fintype.sum_prod_type']
  refine Fintype.sum_equiv (finProdFinEquiv (m := 8) (n := 512)) _ _ fun p => congrArg f (Fin.ext ?_)
  show 512 * p.1.val + p.2.val = p.2.val + 512 * p.1.val
  omega

theorem dg_total (l : Fin 1024) : ((outsAt0 m c (pt 7).val (pt 7).isLt).2 (ix2 0 l) : EReal) = ∑ t : Fin 4096, gr m c l t := by
  refine (run_sum m c l 7 (by decide)).trans ?_
  rw [← sum_rows, Finset.sum_range]
  exact Finset.sum_congr rfl fun i _ => dif_pos i.isLt

/-- Two points write two tiles of the input's gradient; only the last writes the scale's. -/
theorem inj3 (t t' : Fin cfg0.N) (h : win0_3.index t = win0_3.index t') : t = t' :=
  Fin.ext (((idx t).2.2.2.1.1).symm.trans ((congrFun h 0).trans (idx t').2.2.2.1.1))

theorem tile3 (t : Fin cfg0.N) : ((cfg0.win 3).blk t).view.read (Elt Ideal) ((dats m 0 c).arrAt 3 cfg0.N)
    = k0_pay3 (F := Ideal) (iblk m c 0 t) (iblk m c 2 t) (iblk m c 1 t) := by
  refine ((dats m 0 c).read_blk_arrAt_eq_flushed 3 (fun s s' _ _ hne => (cfg0.win 3).disjoint_blk fun h => hne (inj3 s s' h)) cfg0.N t t.isLt (flush0_3 t)).trans ?_
  show (cfg0.win 3).cut (grid0.coords t) ((dats m 0 c).after 3 t) = _
  rw [after0_3, dx_at]
  rfl
theorem tile4 : ((cfg0.win 4).blk (pt 7)).view.read (Elt Ideal) ((dats m 0 c).arrAt 4 cfg0.N) = (outsAt0 m c (pt 7).val (pt 7).isLt).2 := by
  refine ((dats m 0 c).read_blk_arrAt_eq_flushed 4 (fun s s' hs hs' hne => absurd (Fin.ext ?_) hne) cfg0.N (pt 7) (pt 7).isLt ((flush0_4 (pt 7)).2 rfl)).trans ?_
  · have h1 := (flush0_4 s).1 hs
    have h2 := (flush0_4 s').1 hs'
    have l1 := lt_of_lt_of_eq s.isLt (show cfg0.N = 8 from N_0)
    have l2 := lt_of_lt_of_eq s'.isLt (show cfg0.N = 8 from N_0)
    omega
  show (cfg0.win 4).cut (grid0.coords (pt 7)) ((dats m 0 c).after 4 (pt 7)) = _
  rw [after0_4]
  rfl

theorem split (j : S4096x1024.Idx) : ∃ (i : Fin 8) (r : Fin 512) (l : Fin 1024), j = ix2 (row i r) l := by
  have h0 : (j 0).val < 4096 := (j 0).isLt
  refine ⟨⟨(j 0).val / 512, by omega⟩, ⟨(j 0).val % 512, by omega⟩, j 1, ?_⟩
  funext a; match a with
  | ⟨0, _⟩ => exact Fin.ext (by show (j 0).val = 512 * ((j 0).val / 512) + (j 0).val % 512; omega)
  | ⟨1, _⟩ => rfl

/-- The kernel's gradient of the rows is the reference's, -/
theorem arr3 : ((dats m 0 c).arrAt 3 cfg0.N : FVec Ideal S4096x1024 .bf16)
    = Cert.Reference15Ideal.Read.val_main_v34 (F := Ideal) (X0 m c) (X1 m c) (X2 m c) := by
  refine funext fun (j : S4096x1024.Idx) => ?_
  obtain ⟨i, r, l, rfl⟩ := split j
  obtain ⟨-, -, -, ⟨e0, e1⟩, -⟩ := idx (pt i)
  have h := congrFun (tile3 m c (pt i)) (ix2 r l)
  rw [View.read_apply] at h
  have he : ((cfg0.win 3).blk (pt i)).view.emb (ix2 r l) = ix2 (row i r) l := by
    funext a; apply Fin.ext
    match a with
    | ⟨0, _⟩ => show win0_3.index (pt i) 0 * 512 + 1 * r.val = 512 * i.val + r.val; rw [e0]; show i.val * 512 + 1 * r.val = _; omega
    | ⟨1, _⟩ => show win0_3.index (pt i) 1 * 1024 + 1 * l.val = l.val; rw [e1]; omega
  rw [he] at h
  refine Eq.trans h ((pay3_apply _ _ _ r l).trans ?_)
  simp only [blk0 m c i r, blk1 m c i, blk2 m c i r]
  rw [RmsRow.row_eq]
  exact (ref_dx (X0 m c) (X1 m c) (X2 m c) (row i r) l).symm

/-- and so is its gradient of the scale. -/
theorem arr4 : ((dats m 0 c).arrAt 4 cfg0.N : FVec Ideal S1x1024 .f32) = Cert.Reference15Ideal.Read.val_main_v17 (F := Ideal) (X0 m c) (X2 m c) := by
  refine funext fun (j : S1x1024.Idx) => ?_
  obtain ⟨l, rfl⟩ : ∃ l : Fin 1024, j = ix2 0 l := by
    refine ⟨j 1, ?_⟩
    have h0 : (j 0).val < 1 := (j 0).isLt
    funext a; match a with
    | ⟨0, _⟩ => exact Fin.ext (by show (j 0).val = 0; omega)
    | ⟨1, _⟩ => rfl
  obtain ⟨-, -, -, -, ⟨e0, e1⟩⟩ := idx (pt 7)
  have h := congrFun (tile4 m c) (ix2 0 l)
  rw [View.read_apply] at h
  have he : ((cfg0.win 4).blk (pt 7)).view.emb (ix2 0 l) = ix2 0 l := by
    funext a; apply Fin.ext
    match a with
    | ⟨0, _⟩ => show win0_4.index (pt 7) 0 * 1 + 1 * 0 = 0; rw [e0]
    | ⟨1, _⟩ => show win0_4.index (pt 7) 1 * 1024 + 1 * l.val = l.val; rw [e1]; omega
  rw [he] at h
  refine Eq.trans h ((dg_total m c l).trans ?_)
  exact (ref_dg (X0 m c) (X2 m c) l).symm

/-! ## The claims -/

/-- The reference runs on the host alone: its run keeps the arguments, and it has no semaphore. -/
theorem frame_reference : Cert.quiescent_Reference15Ideal := fun m ρ _ =>
  (θ_run Cert.Reference15Ideal.defs _ _).mono (fun r h => ⟨fun c => (h c).2.2, Idealize.ShloMosaic.sem_eq_zero_of_no_sems (by decide) r.2⟩)
    (Cert.Reference15Ideal.Value.run (F := Ideal) m ρ)

/-- The kernel's two arrays are the reference's: the gradients of the rows and of the scale. -/
theorem algebraic : Cert.algebraic_Kernel15Ideal_Reference15Ideal := by
  intro m ρ m' ρ' hpre hagree
  refine ⟨fun c => Cert.Reference15Ideal.Read.val_main_v34 (F := Ideal) (X0 m c) (X1 m c) (X2 m c),
    fun c => Cert.Reference15Ideal.Read.val_main_v17 (F := Ideal) (X0 m c) (X2 m c), ?_, ?_⟩
  · refine (θ_run defs _ _).mono (fun r h c => ?_) (Cert.Kernel15Ideal.Value.run_blocks (F := Ideal) m ρ)
    exact ⟨(h c).1.trans (arr3 m c), (h c).2.1.trans (arr4 m c), (h c).2.2⟩
  · refine (θ_run Cert.Reference15Ideal.defs _ _).mono (fun _ h c => ?_) (Cert.Reference15Ideal.Value.run (F := Ideal) m' ρ')
    obtain ⟨e0, e1, e2⟩ := hagree c
    refine ⟨(h c).1.trans ((Cert.Reference15Ideal.Read.val_main_v34_eq _ _ _).trans ?_),
      (h c).2.1.trans ((Cert.Reference15Ideal.Read.val_main_v17_eq _ _).trans ?_), (h c).2.2⟩
    · rw [e0, e1, e2]
    · rw [e0, e2]

end Cert.RmsPost

end
-- ==== Proof.Step.lean ====
/-
  The optimiser's step on one entry, as the kernel and the reference both take it.
-/
module

public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic
public import Idealize.ShloMosaic.Lib.StableHlo.RunRead

@[expose] public section

noncomputable section

namespace Cert.Step

open Idealize.ShloMosaic Idealize.SL.Sem Idealize.ShloMosaic.TcCoe

theorem hz : (![0, 0] : Fin 2 → Nat) = fun _ => 0 := funext fun a => by fin_cases a <;> rfl

/-! ## The step on one entry -/

/-- The two moments and the update of one entry `w` with gradient `g`. -/
def mom (g m : EReal) : EReal :=
  (Scalar.ofBits (F := Ideal) .f32 0x3F666666#32 : EReal) * m + (Scalar.ofBits (F := Ideal) .f32 0x3DCCCCCD#32 : EReal) * g
def vel (g v : EReal) : EReal :=
  (Scalar.ofBits (F := Ideal) .f32 0x3F7FBE77#32 : EReal) * v + (Scalar.ofBits (F := Ideal) .f32 0x3A83126F#32 : EReal) * (g * g)
def upd (w g m v : EReal) : EReal :=
  (Scalar.ofBits (F := Ideal) .f32 0xBA83126F#32 : EReal)
    * (Ideal.div (Ideal.div (mom g m) (Scalar.ofBits (F := Ideal) .f32 0x3F26BD02#32 : EReal))
        (Ideal.sqrt (Ideal.div (vel g v) (Scalar.ofBits (F := Ideal) .f32 0x3C231ACC#32 : EReal)) + (Scalar.ofBits (F := Ideal) .f32 0x322BCC77#32 : EReal))
      + (Scalar.ofBits (F := Ideal) .f32 0x3C23D70A#32 : EReal) * w)

end Cert.Step

end
-- ==== Proof.AdamGu.lean ====
/-
  The optimiser's step on the gate and up weights: what the kernel does tile by tile of 128 rows of the flattened array is, entry by
  entry, what the reference does on the whole.
-/
module

public import proofs.«01_k».proof.Defs
public import proofs.«01_k».proof.Proof.Gen.Kernel16Ideal.Frame
public import proofs.«01_k».proof.Proof.Gen.Reference16Ideal.Read
public import proofs.«01_k».proof.Proof.Step

@[expose] public section

set_option maxRecDepth 16384

noncomputable section

namespace Cert.AdamGu

open Idealize.ShloMosaic Idealize.SL.Sem Idealize.ShloMosaic.TcCoe Idealize.ShloMosaic.Tactic
open Cert.Kernel16Ideal Cert.Kernel16Ideal.Gen
open Idealize.ShloMosaic.Pipeline (Dat)
open Cert.Step (hz mom vel upd)

/-! ## The step on one entry -/

theorem pay2_apply (g m : Vec Ideal S128x704 .f32) (i : S128x704.Idx) : k0_pay2 (F := Ideal) g m i = mom (g i) (m i) := by
  unfold k0_pay2 k0_pay1
  simp only [shapeCast_self]
  rfl
theorem pay3_apply (g v : Vec Ideal S128x704 .f32) (i : S128x704.Idx) : k0_pay3 (F := Ideal) g v i = vel (g i) (v i) := by
  unfold k0_pay3 k0_pay1
  simp only [shapeCast_self]
  rfl
theorem pay4_apply (g m v w : Vec Ideal S128x704 .f32) (i : S128x704.Idx) :
    k0_pay4 (F := Ideal) g m v w i = upd (w i) (g i) (m i) (v i) := by
  unfold k0_pay4 upd
  rw [← pay2_apply g m i, ← pay3_apply g v i]
  simp only [shapeCast_self]
  rfl

section Ref
open Cert.Reference16Ideal.Read
variable (x0 x1 x2 x3 : FVec Ideal S4x1024x704 .f32) (i : S4x1024x704.Idx)
theorem ref_mom : val_main_v4 (F := Ideal) x1 x2 i = mom (x1 i) (x2 i) := rfl
theorem ref_vel : val_main_v10 (F := Ideal) x1 x3 i = vel (x1 i) (x3 i) := rfl
theorem ref_upd : val_main_v23 (F := Ideal) x0 x1 x2 x3 i = upd (x0 i) (x1 i) (x2 i) (x3 i) := by
  unfold upd
  rw [← ref_mom x1 x2 i, ← ref_vel x1 x3 i]
  rfl
end Ref

/-! ## The kernel's three arrays -/

theorem out4_eq (x0 x1 x2 x3 : Vec Ideal S128x704 .f32) : out0_4 (F := Ideal) x0 x1 x2 x3 = k0_pay4 x1 x2 x3 x0 := by
  unfold out0_4
  rw [View.canon_unit_zero (S := S128x704) hz]
  simp only [View.ld_unit_zero (S := S128x704) hz]
theorem out5_eq (x0 x1 x2 x3 : Vec Ideal S128x704 .f32) : out0_5 (F := Ideal) x0 x1 x2 x3 = k0_pay2 x1 x2 := by
  unfold out0_5
  rw [View.canon_unit_zero (S := S128x704) hz]
  simp only [View.ld_unit_zero (S := S128x704) hz]
theorem out6_eq (x0 x1 x2 x3 : Vec Ideal S128x704 .f32) : out0_6 (F := Ideal) x0 x1 x2 x3 = k0_pay3 x1 x3 := by
  unfold out0_6
  rw [View.canon_unit_zero (S := S128x704) hz]
  simp only [View.ld_unit_zero (S := S128x704) hz]

variable (m : (ℓ : Loc nD τ sig) → Buf (Elt Ideal) ℓ) (ρ : Dev nD → PrngReg) (c : Dev nD)

/-- The arrays the kernel is given, -/
abbrev X0 : FVec Ideal S4x1024x704 .f32 := m ((c : Thread nD τ).loc main_arg0)
abbrev X1 : FVec Ideal S4x1024x704 .f32 := m ((c : Thread nD τ).loc main_arg1)
abbrev X2 : FVec Ideal S4x1024x704 .f32 := m ((c : Thread nD τ).loc main_arg2)
abbrev X3 : FVec Ideal S4x1024x704 .f32 := m ((c : Thread nD τ).loc main_arg3)

/-- and flattened to rows. -/
abbrev flat (x : FVec Ideal S4x1024x704 .f32) : FVec Ideal S4096x704 .f32 := shapeCast S4096x704 x shapeCasts_S4x1024x704_S4096x704

theorem V_v0 : V m c main_v0 = flat (X0 m c) := by
  show StableHlo.after hostOps0 _ (Proc.devRef .tc main_v0) = _
  after_reads_simp
  rfl
theorem V_v1 : V m c main_v1 = flat (X1 m c) := by
  show StableHlo.after hostOps0 _ (Proc.devRef .tc main_v1) = _
  after_reads_simp
  rfl
theorem V_v2 : V m c main_v2 = flat (X2 m c) := by
  show StableHlo.after hostOps0 _ (Proc.devRef .tc main_v2) = _
  after_reads_simp
  rfl
theorem V_v3 : V m c main_v3 = flat (X3 m c) := by
  show StableHlo.after hostOps0 _ (Proc.devRef .tc main_v3) = _
  after_reads_simp
  rfl

/-- The printed index maps, decided over the grid: the tile of rows is the point's number. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by
  decide +kernel

/-- The grid point of a tile of rows, and a tile's row as a row of the whole. -/
abbrev pt (i : Fin 32) : Fin cfg0.N := ⟨i.val, lt_of_lt_of_eq i.isLt (show 32 = cfg0.N from N_0.symm)⟩
abbrev row (i : Fin 32) (r : Fin 128) : Fin 4096 := ⟨128 * i.val + r.val, by omega⟩

theorem blk0 (i : Fin 32) (r : Fin 128) (l : Fin 704) :
    (iblk m c 0 (pt i) : Vec Ideal S128x704 .f32) (ix2 r l) = flat (X0 m c) (ix2 (row i r) l) := by
  obtain ⟨⟨e0, e1⟩, -⟩ := idx (pt i)
  unfold iblk
  rw [View.read_apply]
  show V m c main_v0 _ = _
  rw [V_v0]
  congr 1; funext a; apply Fin.ext
  match a with
  | ⟨0, _⟩ => show win0_0.index (pt i) 0 * 128 + 1 * r.val = 128 * i.val + r.val; rw [e0]; show i.val * 128 + 1 * r.val = _; omega
  | ⟨1, _⟩ => show win0_0.index (pt i) 1 * 704 + 1 * l.val = l.val; rw [e1]; omega
theorem blk1 (i : Fin 32) (r : Fin 128) (l : Fin 704) :
    (iblk m c 1 (pt i) : Vec Ideal S128x704 .f32) (ix2 r l) = flat (X1 m c) (ix2 (row i r) l) := by
  obtain ⟨-, ⟨e0, e1⟩, -⟩ := idx (pt i)
  unfold iblk
  rw [View.read_apply]
  show V m c main_v1 _ = _
  rw [V_v1]
  congr 1; funext a; apply Fin.ext
  match a with
  | ⟨0, _⟩ => show win0_1.index (pt i) 0 * 128 + 1 * r.val = 128 * i.val + r.val; rw [e0]; show i.val * 128 + 1 * r.val = _; omega
  | ⟨1, _⟩ => show win0_1.index (pt i) 1 * 704 + 1 * l.val = l.val; rw [e1]; omega
theorem blk2 (i : Fin 32) (r : Fin 128) (l : Fin 704) :
    (iblk m c 2 (pt i) : Vec Ideal S128x704 .f32) (ix2 r l) = flat (X2 m c) (ix2 (row i r) l) := by
  obtain ⟨-, -, ⟨e0, e1⟩, -⟩ := idx (pt i)
  unfold iblk
  rw [View.read_apply]
  show V m c main_v2 _ = _
  rw [V_v2]
  congr 1; funext a; apply Fin.ext
  match a with
  | ⟨0, _⟩ => show win0_2.index (pt i) 0 * 128 + 1 * r.val = 128 * i.val + r.val; rw [e0]; show i.val * 128 + 1 * r.val = _; omega
  | ⟨1, _⟩ => show win0_2.index (pt i) 1 * 704 + 1 * l.val = l.val; rw [e1]; omega
theorem blk3 (i : Fin 32) (r : Fin 128) (l : Fin 704) :
    (iblk m c 3 (pt i) : Vec Ideal S128x704 .f32) (ix2 r l) = flat (X3 m c) (ix2 (row i r) l) := by
  obtain ⟨-, -, -, ⟨e0, e1⟩, -⟩ := idx (pt i)
  unfold iblk
  rw [View.read_apply]
  show V m c main_v3 _ = _
  rw [V_v3]
  congr 1; funext a; apply Fin.ext
  match a with
  | ⟨0, _⟩ => show win0_3.index (pt i) 0 * 128 + 1 * r.val = 128 * i.val + r.val; rw [e0]; show i.val * 128 + 1 * r.val = _; omega
  | ⟨1, _⟩ => show win0_3.index (pt i) 1 * 704 + 1 * l.val = l.val; rw [e1]; omega

/-- Two points write two tiles. -/
theorem inj4 (t t' : Fin cfg0.N) (h : win0_4.index t = win0_4.index t') : t = t' :=
  Fin.ext (((idx t).2.2.2.2.1.1).symm.trans ((congrFun h 0).trans (idx t').2.2.2.2.1.1))
theorem inj5 (t t' : Fin cfg0.N) (h : win0_5.index t = win0_5.index t') : t = t' :=
  Fin.ext (((idx t).2.2.2.2.2.1.1).symm.trans ((congrFun h 0).trans (idx t').2.2.2.2.2.1.1))
theorem inj6 (t t' : Fin cfg0.N) (h : win0_6.index t = win0_6.index t') : t = t' :=
  Fin.ext (((idx t).2.2.2.2.2.2.1).symm.trans ((congrFun h 0).trans (idx t').2.2.2.2.2.2.1))

/-- So a tile of each array, read back, is what its point wrote. -/
theorem tile4 (t : Fin cfg0.N) : ((cfg0.win 4).blk t).view.read (Elt Ideal) ((dats m 0 c).arrAt 4 cfg0.N)
    = k0_pay4 (F := Ideal) (iblk m c 1 t) (iblk m c 2 t) (iblk m c 3 t) (iblk m c 0 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, out4_eq]
  rfl
theorem tile5 (t : Fin cfg0.N) : ((cfg0.win 5).blk t).view.read (Elt Ideal) ((dats m 0 c).arrAt 5 cfg0.N)
    = k0_pay2 (F := Ideal) (iblk m c 1 t) (iblk m c 2 t) := by
  refine ((dats m 0 c).read_blk_arrAt_eq_flushed 5 (fun s s' _ _ hne => (cfg0.win 5).disjoint_blk fun h => hne (inj5 s s' h)) cfg0.N t t.isLt (flush0_5 t)).trans ?_
  show (cfg0.win 5).cut (grid0.coords t) ((dats m 0 c).after 5 t) = _
  rw [after0_5, out5_eq]
  rfl
theorem tile6 (t : Fin cfg0.N) : ((cfg0.win 6).blk t).view.read (Elt Ideal) ((dats m 0 c).arrAt 6 cfg0.N)
    = k0_pay3 (F := Ideal) (iblk m c 1 t) (iblk m c 3 t) := by
  refine ((dats m 0 c).read_blk_arrAt_eq_flushed 6 (fun s s' _ _ hne => (cfg0.win 6).disjoint_blk fun h => hne (inj6 s s' h)) cfg0.N t t.isLt (flush0_6 t)).trans ?_
  show (cfg0.win 6).cut (grid0.coords t) ((dats m 0 c).after 6 t) = _
  rw [after0_6, out6_eq]
  rfl

/-- Every entry of a flattened array lies in a tile. -/
theorem split (j : S4096x704.Idx) : ∃ (i : Fin 32) (r : Fin 128) (l : Fin 704), j = ix2 (row i r) l := by
  have h0 : (j 0).val < 4096 := (j 0).isLt
  refine ⟨⟨(j 0).val / 128, by omega⟩, ⟨(j 0).val % 128, by omega⟩, j 1, ?_⟩
  funext a; match a with
  | ⟨0, _⟩ => exact Fin.ext (by show (j 0).val = 128 * ((j 0).val / 128) + (j 0).val % 128; omega)
  | ⟨1, _⟩ => rfl

theorem arr4 : ((dats m 0 c).arrAt 4 cfg0.N : FVec Ideal S4096x704 .f32)
    = fun j => upd (flat (X0 m c) j) (flat (X1 m c) j) (flat (X2 m c) j) (flat (X3 m c) j) := by
  refine funext fun (j : S4096x704.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 128 + 1 * r.val = 128 * i.val + r.val; rw [e0]; show i.val * 128 + 1 * r.val = _; omega
    | ⟨1, _⟩ => show win0_4.index (pt i) 1 * 704 + 1 * l.val = l.val; rw [e1]; omega
  rw [he] at h
  refine Eq.trans h ((pay4_apply _ _ _ _ (ix2 r l)).trans ?_)
  rw [blk0 m c i r l, blk1 m c i r l, blk2 m c i r l, blk3 m c i r l]
theorem arr5 : ((dats m 0 c).arrAt 5 cfg0.N : FVec Ideal S4096x704 .f32) = fun j => mom (flat (X1 m c) j) (flat (X2 m c) j) := by
  refine funext fun (j : S4096x704.Idx) => ?_
  obtain ⟨i, r, l, rfl⟩ := split j
  obtain ⟨-, -, -, -, -, ⟨e0, e1⟩, -⟩ := idx (pt i)
  have h := congrFun (tile5 m c (pt i)) (ix2 r l)
  rw [View.read_apply] at h
  have he : ((cfg0.win 5).blk (pt i)).view.emb (ix2 r l) = ix2 (row i r) l := by
    funext a; apply Fin.ext
    match a with
    | ⟨0, _⟩ => show win0_5.index (pt i) 0 * 128 + 1 * r.val = 128 * i.val + r.val; rw [e0]; show i.val * 128 + 1 * r.val = _; omega
    | ⟨1, _⟩ => show win0_5.index (pt i) 1 * 704 + 1 * l.val = l.val; rw [e1]; omega
  rw [he] at h
  refine Eq.trans h ((pay2_apply _ _ (ix2 r l)).trans ?_)
  rw [blk1 m c i r l, blk2 m c i r l]
theorem arr6 : ((dats m 0 c).arrAt 6 cfg0.N : FVec Ideal S4096x704 .f32) = fun j => vel (flat (X1 m c) j) (flat (X3 m c) j) := by
  refine funext fun (j : S4096x704.Idx) => ?_
  obtain ⟨i, r, l, rfl⟩ := split j
  obtain ⟨-, -, -, -, -, -, ⟨e0, e1⟩⟩ := idx (pt i)
  have h := congrFun (tile6 m c (pt i)) (ix2 r l)
  rw [View.read_apply] at h
  have he : ((cfg0.win 6).blk (pt i)).view.emb (ix2 r l) = ix2 (row i r) l := by
    funext a; apply Fin.ext
    match a with
    | ⟨0, _⟩ => show win0_6.index (pt i) 0 * 128 + 1 * r.val = 128 * i.val + r.val; rw [e0]; show i.val * 128 + 1 * r.val = _; omega
    | ⟨1, _⟩ => show win0_6.index (pt i) 1 * 704 + 1 * l.val = l.val; rw [e1]; omega
  rw [he] at h
  refine Eq.trans h ((pay3_apply _ _ (ix2 r l)).trans ?_)
  rw [blk1 m c i r l, blk3 m c i r l]

/-! ## The results, at the parameter's own shape -/

/-- An array flattened and put back is itself. -/
theorem back (x : FVec Ideal S4x1024x704 .f32) (j : S4x1024x704.Idx) :
    flat x (Shape.reshapeEquiv shapeCasts_S4096x704_S4x1024x704 j) = x j :=
  congrFun (shapeCast_shapeCast x shapeCasts_S4x1024x704_S4096x704 shapeCasts_S4096x704_S4x1024x704) j

/-- The contents of every buffer when the region ends: its arrays as written, the rest as found. -/
abbrev ended : Valuation τ sig (Elt Ideal) :=
  Pipeline.withArrays (cfgs 0).spec c (V0 m c) fun w => (dats m 0 c).arrAt w (cfgs 0).N

theorem ended4 : ended m c (Proc.devRef .tc main_v4_0) = (dats m 0 c).arrAt 4 cfg0.N :=
  Pipeline.withArrays_arr spec0 (by decide) c (V0 m c) (fun w => (dats m 0 c).arrAt w (cfgs 0).N) 4
theorem ended5 : ended m c (Proc.devRef .tc main_v4_1) = (dats m 0 c).arrAt 5 cfg0.N :=
  Pipeline.withArrays_arr spec0 (by decide) c (V0 m c) (fun w => (dats m 0 c).arrAt w (cfgs 0).N) 5
theorem ended6 : ended m c (Proc.devRef .tc main_v4_2) = (dats m 0 c).arrAt 6 cfg0.N :=
  Pipeline.withArrays_arr spec0 (by decide) c (V0 m c) (fun w => (dats m 0 c).arrAt w (cfgs 0).N) 6

theorem res5 : Pipeline.afterTail₀ cfgs (dats m) 0 (V0 m) [hostOps1] c main_v5
    = fun j => upd (X0 m c j) (X1 m c j) (X2 m c j) (X3 m c j) := by
  show StableHlo.after hostOps1 (ended m c) (Proc.devRef .tc main_v5) = _
  have h4 := (ended4 m c).trans (arr4 m c)
  generalize ended m c = W at *
  after_reads_simp
  refine funext fun (j : S4x1024x704.Idx) => ?_
  refine (congrFun h4 (Shape.reshapeEquiv shapeCasts_S4096x704_S4x1024x704 j)).trans ?_
  show upd (flat (X0 m c) _) (flat (X1 m c) _) (flat (X2 m c) _) (flat (X3 m c) _) = _
  rw [back, back, back, back]
theorem res6 : Pipeline.afterTail₀ cfgs (dats m) 0 (V0 m) [hostOps1] c main_v6 = fun j => mom (X1 m c j) (X2 m c j) := by
  show StableHlo.after hostOps1 (ended m c) (Proc.devRef .tc main_v6) = _
  have h5 := (ended5 m c).trans (arr5 m c)
  generalize ended m c = W at *
  after_reads_simp
  refine funext fun (j : S4x1024x704.Idx) => ?_
  refine (congrFun h5 (Shape.reshapeEquiv shapeCasts_S4096x704_S4x1024x704 j)).trans ?_
  show mom (flat (X1 m c) _) (flat (X2 m c) _) = _
  rw [back, back]
theorem res7 : Pipeline.afterTail₀ cfgs (dats m) 0 (V0 m) [hostOps1] c main_v7 = fun j => vel (X1 m c j) (X3 m c j) := by
  show StableHlo.after hostOps1 (ended m c) (Proc.devRef .tc main_v7) = _
  have h6 := (ended6 m c).trans (arr6 m c)
  generalize ended m c = W at *
  after_reads_simp
  refine funext fun (j : S4x1024x704.Idx) => ?_
  refine (congrFun h6 (Shape.reshapeEquiv shapeCasts_S4096x704_S4x1024x704 j)).trans ?_
  show vel (flat (X1 m c) _) (flat (X3 m c) _) = _
  rw [back, back]

/-! ## The claims -/

/-- The reference runs on the host alone: its run keeps the arguments, and it has no semaphore. -/
theorem frame_reference : Cert.quiescent_Reference16Ideal := fun m ρ _ =>
  (θ_run Cert.Reference16Ideal.defs _ _).mono (fun r h => ⟨fun c => (h c).2.2.2, Idealize.ShloMosaic.sem_eq_zero_of_no_sems (by decide) r.2⟩)
    (Cert.Reference16Ideal.Value.run (F := Ideal) m ρ)

/-- The kernel's three arrays are the reference's: the update and the two moments. -/
theorem algebraic : Cert.algebraic_Kernel16Ideal_Reference16Ideal := by
  intro m ρ m' ρ' hpre hagree
  refine ⟨fun c => (fun j => upd (X0 m c j) (X1 m c j) (X2 m c j) (X3 m c j) : FVec Ideal S4x1024x704 .f32),
    fun c => (fun j => mom (X1 m c j) (X2 m c j) : FVec Ideal S4x1024x704 .f32),
    fun c => (fun j => vel (X1 m c j) (X3 m c j) : FVec Ideal S4x1024x704 .f32), ?_, ?_⟩
  · refine (θ_run defs _ _).mono (fun r h c => ?_) (run_main (F := Ideal) m ρ)
    have K := fun (b : Ref sig .tc) (h1 : b.isScoped = false) h2 => (h c).2 b (Pipeline.mem_restRefs_of b h1 h2)
    exact ⟨(K main_v5 (by decide) (by decide)).trans (res5 m c),
      (K main_v6 (by decide) (by decide)).trans (res6 m c),
      (K main_v7 (by decide) (by decide)).trans (res7 m c),
      (K main_arg0 (by decide) (by decide)).trans (W_main_arg0 m (dats m) c),
      (K main_arg1 (by decide) (by decide)).trans (W_main_arg1 m (dats m) c),
      (K main_arg2 (by decide) (by decide)).trans (W_main_arg2 m (dats m) c),
      (K main_arg3 (by decide) (by decide)).trans (W_main_arg3 m (dats m) c)⟩
  · refine (θ_run Cert.Reference16Ideal.defs _ _).mono (fun _ h c => ?_) (Cert.Reference16Ideal.Value.run (F := Ideal) m' ρ')
    obtain ⟨e0, e1, e2, e3⟩ := hagree c
    refine ⟨(h c).1.trans ((Cert.Reference16Ideal.Read.val_main_v23_eq _ _ _ _).trans ?_),
      (h c).2.1.trans ((Cert.Reference16Ideal.Read.val_main_v4_eq _ _).trans ?_),
      (h c).2.2.1.trans ((Cert.Reference16Ideal.Read.val_main_v10_eq _ _).trans ?_), (h c).2.2.2⟩
    · rw [e0, e1, e2, e3]; exact funext fun (j : S4x1024x704.Idx) => ref_upd (X0 m c) (X1 m c) (X2 m c) (X3 m c) j
    · rw [e1, e2]; exact funext fun (j : S4x1024x704.Idx) => ref_mom (X1 m c) (X2 m c) j
    · rw [e1, e3]; exact funext fun (j : S4x1024x704.Idx) => ref_vel (X1 m c) (X3 m c) j

end Cert.AdamGu

end
-- ==== Proof.AdamDown.lean ====
/-
  The optimiser's step on the down weights: what the kernel does tile by tile of 128 rows of the flattened array is, entry by
  entry, what the reference does on the whole.
-/
module

public import proofs.«01_k».proof.Defs
public import proofs.«01_k».proof.Proof.Gen.Kernel17Ideal.Frame
public import proofs.«01_k».proof.Proof.Gen.Reference17Ideal.Read
public import proofs.«01_k».proof.Proof.Step

@[expose] public section

set_option maxRecDepth 16384

noncomputable section

namespace Cert.AdamDown

open Idealize.ShloMosaic Idealize.SL.Sem Idealize.ShloMosaic.TcCoe Idealize.ShloMosaic.Tactic
open Cert.Kernel17Ideal Cert.Kernel17Ideal.Gen
open Idealize.ShloMosaic.Pipeline (Dat)
open Cert.Step (hz mom vel upd)

/-! ## The step on one entry -/

theorem pay2_apply (g m : Vec Ideal S128x1024 .f32) (i : S128x1024.Idx) : k0_pay2 (F := Ideal) g m i = mom (g i) (m i) := by
  unfold k0_pay2 k0_pay1
  simp only [shapeCast_self]
  rfl
theorem pay3_apply (g v : Vec Ideal S128x1024 .f32) (i : S128x1024.Idx) : k0_pay3 (F := Ideal) g v i = vel (g i) (v i) := by
  unfold k0_pay3 k0_pay1
  simp only [shapeCast_self]
  rfl
theorem pay4_apply (g m v w : Vec Ideal S128x1024 .f32) (i : S128x1024.Idx) :
    k0_pay4 (F := Ideal) g m v w i = upd (w i) (g i) (m i) (v i) := by
  unfold k0_pay4 upd
  rw [← pay2_apply g m i, ← pay3_apply g v i]
  simp only [shapeCast_self]
  rfl

section Ref
open Cert.Reference17Ideal.Read
variable (x0 x1 x2 x3 : FVec Ideal S4x352x1024 .f32) (i : S4x352x1024.Idx)
theorem ref_mom : val_main_v4 (F := Ideal) x1 x2 i = mom (x1 i) (x2 i) := rfl
theorem ref_vel : val_main_v10 (F := Ideal) x1 x3 i = vel (x1 i) (x3 i) := rfl
theorem ref_upd : val_main_v23 (F := Ideal) x0 x1 x2 x3 i = upd (x0 i) (x1 i) (x2 i) (x3 i) := by
  unfold upd
  rw [← ref_mom x1 x2 i, ← ref_vel x1 x3 i]
  rfl
end Ref

/-! ## The kernel's three arrays -/

theorem out4_eq (x0 x1 x2 x3 : Vec Ideal S128x1024 .f32) : out0_4 (F := Ideal) x0 x1 x2 x3 = k0_pay4 x1 x2 x3 x0 := by
  unfold out0_4
  rw [View.canon_unit_zero (S := S128x1024) hz]
  simp only [View.ld_unit_zero (S := S128x1024) hz]
theorem out5_eq (x0 x1 x2 x3 : Vec Ideal S128x1024 .f32) : out0_5 (F := Ideal) x0 x1 x2 x3 = k0_pay2 x1 x2 := by
  unfold out0_5
  rw [View.canon_unit_zero (S := S128x1024) hz]
  simp only [View.ld_unit_zero (S := S128x1024) hz]
theorem out6_eq (x0 x1 x2 x3 : Vec Ideal S128x1024 .f32) : out0_6 (F := Ideal) x0 x1 x2 x3 = k0_pay3 x1 x3 := by
  unfold out0_6
  rw [View.canon_unit_zero (S := S128x1024) hz]
  simp only [View.ld_unit_zero (S := S128x1024) hz]

variable (m : (ℓ : Loc nD τ sig) → Buf (Elt Ideal) ℓ) (ρ : Dev nD → PrngReg) (c : Dev nD)

/-- The arrays the kernel is given, -/
abbrev X0 : FVec Ideal S4x352x1024 .f32 := m ((c : Thread nD τ).loc main_arg0)
abbrev X1 : FVec Ideal S4x352x1024 .f32 := m ((c : Thread nD τ).loc main_arg1)
abbrev X2 : FVec Ideal S4x352x1024 .f32 := m ((c : Thread nD τ).loc main_arg2)
abbrev X3 : FVec Ideal S4x352x1024 .f32 := m ((c : Thread nD τ).loc main_arg3)

/-- and flattened to rows. -/
abbrev flat (x : FVec Ideal S4x352x1024 .f32) : FVec Ideal S1408x1024 .f32 := shapeCast S1408x1024 x shapeCasts_S4x352x1024_S1408x1024

theorem V_v0 : V m c main_v0 = flat (X0 m c) := by
  show StableHlo.after hostOps0 _ (Proc.devRef .tc main_v0) = _
  after_reads_simp
  rfl
theorem V_v1 : V m c main_v1 = flat (X1 m c) := by
  show StableHlo.after hostOps0 _ (Proc.devRef .tc main_v1) = _
  after_reads_simp
  rfl
theorem V_v2 : V m c main_v2 = flat (X2 m c) := by
  show StableHlo.after hostOps0 _ (Proc.devRef .tc main_v2) = _
  after_reads_simp
  rfl
theorem V_v3 : V m c main_v3 = flat (X3 m c) := by
  show StableHlo.after hostOps0 _ (Proc.devRef .tc main_v3) = _
  after_reads_simp
  rfl

/-- The printed index maps, decided over the grid: the tile of rows is the point's number. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by
  decide +kernel

/-- The grid point of a tile of rows, and a tile's row as a row of the whole. -/
abbrev pt (i : Fin 11) : Fin cfg0.N := ⟨i.val, lt_of_lt_of_eq i.isLt (show 11 = cfg0.N from N_0.symm)⟩
abbrev row (i : Fin 11) (r : Fin 128) : Fin 1408 := ⟨128 * i.val + r.val, by omega⟩

theorem blk0 (i : Fin 11) (r : Fin 128) (l : Fin 1024) :
    (iblk m c 0 (pt i) : Vec Ideal S128x1024 .f32) (ix2 r l) = flat (X0 m c) (ix2 (row i r) l) := by
  obtain ⟨⟨e0, e1⟩, -⟩ := idx (pt i)
  unfold iblk
  rw [View.read_apply]
  show V m c main_v0 _ = _
  rw [V_v0]
  congr 1; funext a; apply Fin.ext
  match a with
  | ⟨0, _⟩ => show win0_0.index (pt i) 0 * 128 + 1 * r.val = 128 * i.val + r.val; rw [e0]; show i.val * 128 + 1 * r.val = _; omega
  | ⟨1, _⟩ => show win0_0.index (pt i) 1 * 1024 + 1 * l.val = l.val; rw [e1]; omega
theorem blk1 (i : Fin 11) (r : Fin 128) (l : Fin 1024) :
    (iblk m c 1 (pt i) : Vec Ideal S128x1024 .f32) (ix2 r l) = flat (X1 m c) (ix2 (row i r) l) := by
  obtain ⟨-, ⟨e0, e1⟩, -⟩ := idx (pt i)
  unfold iblk
  rw [View.read_apply]
  show V m c main_v1 _ = _
  rw [V_v1]
  congr 1; funext a; apply Fin.ext
  match a with
  | ⟨0, _⟩ => show win0_1.index (pt i) 0 * 128 + 1 * r.val = 128 * i.val + r.val; rw [e0]; show i.val * 128 + 1 * r.val = _; omega
  | ⟨1, _⟩ => show win0_1.index (pt i) 1 * 1024 + 1 * l.val = l.val; rw [e1]; omega
theorem blk2 (i : Fin 11) (r : Fin 128) (l : Fin 1024) :
    (iblk m c 2 (pt i) : Vec Ideal S128x1024 .f32) (ix2 r l) = flat (X2 m c) (ix2 (row i r) l) := by
  obtain ⟨-, -, ⟨e0, e1⟩, -⟩ := idx (pt i)
  unfold iblk
  rw [View.read_apply]
  show V m c main_v2 _ = _
  rw [V_v2]
  congr 1; funext a; apply Fin.ext
  match a with
  | ⟨0, _⟩ => show win0_2.index (pt i) 0 * 128 + 1 * r.val = 128 * i.val + r.val; rw [e0]; show i.val * 128 + 1 * r.val = _; omega
  | ⟨1, _⟩ => show win0_2.index (pt i) 1 * 1024 + 1 * l.val = l.val; rw [e1]; omega
theorem blk3 (i : Fin 11) (r : Fin 128) (l : Fin 1024) :
    (iblk m c 3 (pt i) : Vec Ideal S128x1024 .f32) (ix2 r l) = flat (X3 m c) (ix2 (row i r) l) := by
  obtain ⟨-, -, -, ⟨e0, e1⟩, -⟩ := idx (pt i)
  unfold iblk
  rw [View.read_apply]
  show V m c main_v3 _ = _
  rw [V_v3]
  congr 1; funext a; apply Fin.ext
  match a with
  | ⟨0, _⟩ => show win0_3.index (pt i) 0 * 128 + 1 * r.val = 128 * i.val + r.val; rw [e0]; show i.val * 128 + 1 * r.val = _; omega
  | ⟨1, _⟩ => show win0_3.index (pt i) 1 * 1024 + 1 * l.val = l.val; rw [e1]; omega

/-- Two points write two tiles. -/
theorem inj4 (t t' : Fin cfg0.N) (h : win0_4.index t = win0_4.index t') : t = t' :=
  Fin.ext (((idx t).2.2.2.2.1.1).symm.trans ((congrFun h 0).trans (idx t').2.2.2.2.1.1))
theorem inj5 (t t' : Fin cfg0.N) (h : win0_5.index t = win0_5.index t') : t = t' :=
  Fin.ext (((idx t).2.2.2.2.2.1.1).symm.trans ((congrFun h 0).trans (idx t').2.2.2.2.2.1.1))
theorem inj6 (t t' : Fin cfg0.N) (h : win0_6.index t = win0_6.index t') : t = t' :=
  Fin.ext (((idx t).2.2.2.2.2.2.1).symm.trans ((congrFun h 0).trans (idx t').2.2.2.2.2.2.1))

/-- So a tile of each array, read back, is what its point wrote. -/
theorem tile4 (t : Fin cfg0.N) : ((cfg0.win 4).blk t).view.read (Elt Ideal) ((dats m 0 c).arrAt 4 cfg0.N)
    = k0_pay4 (F := Ideal) (iblk m c 1 t) (iblk m c 2 t) (iblk m c 3 t) (iblk m c 0 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, out4_eq]
  rfl
theorem tile5 (t : Fin cfg0.N) : ((cfg0.win 5).blk t).view.read (Elt Ideal) ((dats m 0 c).arrAt 5 cfg0.N)
    = k0_pay2 (F := Ideal) (iblk m c 1 t) (iblk m c 2 t) := by
  refine ((dats m 0 c).read_blk_arrAt_eq_flushed 5 (fun s s' _ _ hne => (cfg0.win 5).disjoint_blk fun h => hne (inj5 s s' h)) cfg0.N t t.isLt (flush0_5 t)).trans ?_
  show (cfg0.win 5).cut (grid0.coords t) ((dats m 0 c).after 5 t) = _
  rw [after0_5, out5_eq]
  rfl
theorem tile6 (t : Fin cfg0.N) : ((cfg0.win 6).blk t).view.read (Elt Ideal) ((dats m 0 c).arrAt 6 cfg0.N)
    = k0_pay3 (F := Ideal) (iblk m c 1 t) (iblk m c 3 t) := by
  refine ((dats m 0 c).read_blk_arrAt_eq_flushed 6 (fun s s' _ _ hne => (cfg0.win 6).disjoint_blk fun h => hne (inj6 s s' h)) cfg0.N t t.isLt (flush0_6 t)).trans ?_
  show (cfg0.win 6).cut (grid0.coords t) ((dats m 0 c).after 6 t) = _
  rw [after0_6, out6_eq]
  rfl

/-- Every entry of a flattened array lies in a tile. -/
theorem split (j : S1408x1024.Idx) : ∃ (i : Fin 11) (r : Fin 128) (l : Fin 1024), j = ix2 (row i r) l := by
  have h0 : (j 0).val < 1408 := (j 0).isLt
  refine ⟨⟨(j 0).val / 128, by omega⟩, ⟨(j 0).val % 128, by omega⟩, j 1, ?_⟩
  funext a; match a with
  | ⟨0, _⟩ => exact Fin.ext (by show (j 0).val = 128 * ((j 0).val / 128) + (j 0).val % 128; omega)
  | ⟨1, _⟩ => rfl

theorem arr4 : ((dats m 0 c).arrAt 4 cfg0.N : FVec Ideal S1408x1024 .f32)
    = fun j => upd (flat (X0 m c) j) (flat (X1 m c) j) (flat (X2 m c) j) (flat (X3 m c) j) := by
  refine funext fun (j : S1408x1024.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 128 + 1 * r.val = 128 * i.val + r.val; rw [e0]; show i.val * 128 + 1 * r.val = _; omega
    | ⟨1, _⟩ => show win0_4.index (pt i) 1 * 1024 + 1 * l.val = l.val; rw [e1]; omega
  rw [he] at h
  refine Eq.trans h ((pay4_apply _ _ _ _ (ix2 r l)).trans ?_)
  rw [blk0 m c i r l, blk1 m c i r l, blk2 m c i r l, blk3 m c i r l]
theorem arr5 : ((dats m 0 c).arrAt 5 cfg0.N : FVec Ideal S1408x1024 .f32) = fun j => mom (flat (X1 m c) j) (flat (X2 m c) j) := by
  refine funext fun (j : S1408x1024.Idx) => ?_
  obtain ⟨i, r, l, rfl⟩ := split j
  obtain ⟨-, -, -, -, -, ⟨e0, e1⟩, -⟩ := idx (pt i)
  have h := congrFun (tile5 m c (pt i)) (ix2 r l)
  rw [View.read_apply] at h
  have he : ((cfg0.win 5).blk (pt i)).view.emb (ix2 r l) = ix2 (row i r) l := by
    funext a; apply Fin.ext
    match a with
    | ⟨0, _⟩ => show win0_5.index (pt i) 0 * 128 + 1 * r.val = 128 * i.val + r.val; rw [e0]; show i.val * 128 + 1 * r.val = _; omega
    | ⟨1, _⟩ => show win0_5.index (pt i) 1 * 1024 + 1 * l.val = l.val; rw [e1]; omega
  rw [he] at h
  refine Eq.trans h ((pay2_apply _ _ (ix2 r l)).trans ?_)
  rw [blk1 m c i r l, blk2 m c i r l]
theorem arr6 : ((dats m 0 c).arrAt 6 cfg0.N : FVec Ideal S1408x1024 .f32) = fun j => vel (flat (X1 m c) j) (flat (X3 m c) j) := by
  refine funext fun (j : S1408x1024.Idx) => ?_
  obtain ⟨i, r, l, rfl⟩ := split j
  obtain ⟨-, -, -, -, -, -, ⟨e0, e1⟩⟩ := idx (pt i)
  have h := congrFun (tile6 m c (pt i)) (ix2 r l)
  rw [View.read_apply] at h
  have he : ((cfg0.win 6).blk (pt i)).view.emb (ix2 r l) = ix2 (row i r) l := by
    funext a; apply Fin.ext
    match a with
    | ⟨0, _⟩ => show win0_6.index (pt i) 0 * 128 + 1 * r.val = 128 * i.val + r.val; rw [e0]; show i.val * 128 + 1 * r.val = _; omega
    | ⟨1, _⟩ => show win0_6.index (pt i) 1 * 1024 + 1 * l.val = l.val; rw [e1]; omega
  rw [he] at h
  refine Eq.trans h ((pay3_apply _ _ (ix2 r l)).trans ?_)
  rw [blk1 m c i r l, blk3 m c i r l]

/-! ## The results, at the parameter's own shape -/

/-- An array flattened and put back is itself. -/
theorem back (x : FVec Ideal S4x352x1024 .f32) (j : S4x352x1024.Idx) :
    flat x (Shape.reshapeEquiv shapeCasts_S1408x1024_S4x352x1024 j) = x j :=
  congrFun (shapeCast_shapeCast x shapeCasts_S4x352x1024_S1408x1024 shapeCasts_S1408x1024_S4x352x1024) j

/-- The contents of every buffer when the region ends: its arrays as written, the rest as found. -/
abbrev ended : Valuation τ sig (Elt Ideal) :=
  Pipeline.withArrays (cfgs 0).spec c (V0 m c) fun w => (dats m 0 c).arrAt w (cfgs 0).N

theorem ended4 : ended m c (Proc.devRef .tc main_v4_0) = (dats m 0 c).arrAt 4 cfg0.N :=
  Pipeline.withArrays_arr spec0 (by decide) c (V0 m c) (fun w => (dats m 0 c).arrAt w (cfgs 0).N) 4
theorem ended5 : ended m c (Proc.devRef .tc main_v4_1) = (dats m 0 c).arrAt 5 cfg0.N :=
  Pipeline.withArrays_arr spec0 (by decide) c (V0 m c) (fun w => (dats m 0 c).arrAt w (cfgs 0).N) 5
theorem ended6 : ended m c (Proc.devRef .tc main_v4_2) = (dats m 0 c).arrAt 6 cfg0.N :=
  Pipeline.withArrays_arr spec0 (by decide) c (V0 m c) (fun w => (dats m 0 c).arrAt w (cfgs 0).N) 6

theorem res5 : Pipeline.afterTail₀ cfgs (dats m) 0 (V0 m) [hostOps1] c main_v5
    = fun j => upd (X0 m c j) (X1 m c j) (X2 m c j) (X3 m c j) := by
  show StableHlo.after hostOps1 (ended m c) (Proc.devRef .tc main_v5) = _
  have h4 := (ended4 m c).trans (arr4 m c)
  generalize ended m c = W at *
  after_reads_simp
  refine funext fun (j : S4x352x1024.Idx) => ?_
  refine (congrFun h4 (Shape.reshapeEquiv shapeCasts_S1408x1024_S4x352x1024 j)).trans ?_
  show upd (flat (X0 m c) _) (flat (X1 m c) _) (flat (X2 m c) _) (flat (X3 m c) _) = _
  rw [back, back, back, back]
theorem res6 : Pipeline.afterTail₀ cfgs (dats m) 0 (V0 m) [hostOps1] c main_v6 = fun j => mom (X1 m c j) (X2 m c j) := by
  show StableHlo.after hostOps1 (ended m c) (Proc.devRef .tc main_v6) = _
  have h5 := (ended5 m c).trans (arr5 m c)
  generalize ended m c = W at *
  after_reads_simp
  refine funext fun (j : S4x352x1024.Idx) => ?_
  refine (congrFun h5 (Shape.reshapeEquiv shapeCasts_S1408x1024_S4x352x1024 j)).trans ?_
  show mom (flat (X1 m c) _) (flat (X2 m c) _) = _
  rw [back, back]
theorem res7 : Pipeline.afterTail₀ cfgs (dats m) 0 (V0 m) [hostOps1] c main_v7 = fun j => vel (X1 m c j) (X3 m c j) := by
  show StableHlo.after hostOps1 (ended m c) (Proc.devRef .tc main_v7) = _
  have h6 := (ended6 m c).trans (arr6 m c)
  generalize ended m c = W at *
  after_reads_simp
  refine funext fun (j : S4x352x1024.Idx) => ?_
  refine (congrFun h6 (Shape.reshapeEquiv shapeCasts_S1408x1024_S4x352x1024 j)).trans ?_
  show vel (flat (X1 m c) _) (flat (X3 m c) _) = _
  rw [back, back]

/-! ## The claims -/

/-- The reference runs on the host alone: its run keeps the arguments, and it has no semaphore. -/
theorem frame_reference : Cert.quiescent_Reference17Ideal := fun m ρ _ =>
  (θ_run Cert.Reference17Ideal.defs _ _).mono (fun r h => ⟨fun c => (h c).2.2.2, Idealize.ShloMosaic.sem_eq_zero_of_no_sems (by decide) r.2⟩)
    (Cert.Reference17Ideal.Value.run (F := Ideal) m ρ)

/-- The kernel's three arrays are the reference's: the update and the two moments. -/
theorem algebraic : Cert.algebraic_Kernel17Ideal_Reference17Ideal := by
  intro m ρ m' ρ' hpre hagree
  refine ⟨fun c => (fun j => upd (X0 m c j) (X1 m c j) (X2 m c j) (X3 m c j) : FVec Ideal S4x352x1024 .f32),
    fun c => (fun j => mom (X1 m c j) (X2 m c j) : FVec Ideal S4x352x1024 .f32),
    fun c => (fun j => vel (X1 m c j) (X3 m c j) : FVec Ideal S4x352x1024 .f32), ?_, ?_⟩
  · refine (θ_run defs _ _).mono (fun r h c => ?_) (run_main (F := Ideal) m ρ)
    have K := fun (b : Ref sig .tc) (h1 : b.isScoped = false) h2 => (h c).2 b (Pipeline.mem_restRefs_of b h1 h2)
    exact ⟨(K main_v5 (by decide) (by decide)).trans (res5 m c),
      (K main_v6 (by decide) (by decide)).trans (res6 m c),
      (K main_v7 (by decide) (by decide)).trans (res7 m c),
      (K main_arg0 (by decide) (by decide)).trans (W_main_arg0 m (dats m) c),
      (K main_arg1 (by decide) (by decide)).trans (W_main_arg1 m (dats m) c),
      (K main_arg2 (by decide) (by decide)).trans (W_main_arg2 m (dats m) c),
      (K main_arg3 (by decide) (by decide)).trans (W_main_arg3 m (dats m) c)⟩
  · refine (θ_run Cert.Reference17Ideal.defs _ _).mono (fun _ h c => ?_) (Cert.Reference17Ideal.Value.run (F := Ideal) m' ρ')
    obtain ⟨e0, e1, e2, e3⟩ := hagree c
    refine ⟨(h c).1.trans ((Cert.Reference17Ideal.Read.val_main_v23_eq _ _ _ _).trans ?_),
      (h c).2.1.trans ((Cert.Reference17Ideal.Read.val_main_v4_eq _ _).trans ?_),
      (h c).2.2.1.trans ((Cert.Reference17Ideal.Read.val_main_v10_eq _ _).trans ?_), (h c).2.2.2⟩
    · rw [e0, e1, e2, e3]; exact funext fun (j : S4x352x1024.Idx) => ref_upd (X0 m c) (X1 m c) (X2 m c) (X3 m c) j
    · rw [e1, e2]; exact funext fun (j : S4x352x1024.Idx) => ref_mom (X1 m c) (X2 m c) j
    · rw [e1, e3]; exact funext fun (j : S4x352x1024.Idx) => ref_vel (X1 m c) (X3 m c) j

end Cert.AdamDown

end
-- ==== Proof.AdamIn.lean ====
/-
  The optimiser's step on the input projection: what the kernel does tile by tile of 128 rows of the flattened array is, entry by
  entry, what the reference does on the whole.
-/
module

public import proofs.«01_k».proof.Defs
public import proofs.«01_k».proof.Proof.Gen.Kernel18Ideal.Frame
public import proofs.«01_k».proof.Proof.Gen.Reference18Ideal.Read
public import proofs.«01_k».proof.Proof.Step

@[expose] public section

set_option maxRecDepth 16384

noncomputable section

namespace Cert.AdamIn

open Idealize.ShloMosaic Idealize.SL.Sem Idealize.ShloMosaic.TcCoe Idealize.ShloMosaic.Tactic
open Cert.Kernel18Ideal Cert.Kernel18Ideal.Gen
open Idealize.ShloMosaic.Pipeline (Dat)
open Cert.Step (hz mom vel upd)

/-! ## The step on one entry -/

theorem pay2_apply (g m : Vec Ideal S128x1932 .f32) (i : S128x1932.Idx) : k0_pay2 (F := Ideal) g m i = mom (g i) (m i) := by
  unfold k0_pay2 k0_pay1
  simp only [shapeCast_self]
  rfl
theorem pay3_apply (g v : Vec Ideal S128x1932 .f32) (i : S128x1932.Idx) : k0_pay3 (F := Ideal) g v i = vel (g i) (v i) := by
  unfold k0_pay3 k0_pay1
  simp only [shapeCast_self]
  rfl
theorem pay4_apply (g m v w : Vec Ideal S128x1932 .f32) (i : S128x1932.Idx) :
    k0_pay4 (F := Ideal) g m v w i = upd (w i) (g i) (m i) (v i) := by
  unfold k0_pay4 upd
  rw [← pay2_apply g m i, ← pay3_apply g v i]
  simp only [shapeCast_self]
  rfl

section Ref
open Cert.Reference18Ideal.Read
variable (x0 x1 x2 x3 : FVec Ideal S4x128x1932 .f32) (i : S4x128x1932.Idx)
theorem ref_mom : val_main_v4 (F := Ideal) x1 x2 i = mom (x1 i) (x2 i) := rfl
theorem ref_vel : val_main_v10 (F := Ideal) x1 x3 i = vel (x1 i) (x3 i) := rfl
theorem ref_upd : val_main_v23 (F := Ideal) x0 x1 x2 x3 i = upd (x0 i) (x1 i) (x2 i) (x3 i) := by
  unfold upd
  rw [← ref_mom x1 x2 i, ← ref_vel x1 x3 i]
  rfl
end Ref

/-! ## The kernel's three arrays -/

theorem out4_eq (x0 x1 x2 x3 : Vec Ideal S128x1932 .f32) : out0_4 (F := Ideal) x0 x1 x2 x3 = k0_pay4 x1 x2 x3 x0 := by
  unfold out0_4
  rw [View.canon_unit_zero (S := S128x1932) hz]
  simp only [View.ld_unit_zero (S := S128x1932) hz]
theorem out5_eq (x0 x1 x2 x3 : Vec Ideal S128x1932 .f32) : out0_5 (F := Ideal) x0 x1 x2 x3 = k0_pay2 x1 x2 := by
  unfold out0_5
  rw [View.canon_unit_zero (S := S128x1932) hz]
  simp only [View.ld_unit_zero (S := S128x1932) hz]
theorem out6_eq (x0 x1 x2 x3 : Vec Ideal S128x1932 .f32) : out0_6 (F := Ideal) x0 x1 x2 x3 = k0_pay3 x1 x3 := by
  unfold out0_6
  rw [View.canon_unit_zero (S := S128x1932) hz]
  simp only [View.ld_unit_zero (S := S128x1932) hz]

variable (m : (ℓ : Loc nD τ sig) → Buf (Elt Ideal) ℓ) (ρ : Dev nD → PrngReg) (c : Dev nD)

/-- The arrays the kernel is given, -/
abbrev X0 : FVec Ideal S4x128x1932 .f32 := m ((c : Thread nD τ).loc main_arg0)
abbrev X1 : FVec Ideal S4x128x1932 .f32 := m ((c : Thread nD τ).loc main_arg1)
abbrev X2 : FVec Ideal S4x128x1932 .f32 := m ((c : Thread nD τ).loc main_arg2)
abbrev X3 : FVec Ideal S4x128x1932 .f32 := m ((c : Thread nD τ).loc main_arg3)

/-- and flattened to rows. -/
abbrev flat (x : FVec Ideal S4x128x1932 .f32) : FVec Ideal S512x1932 .f32 := shapeCast S512x1932 x shapeCasts_S4x128x1932_S512x1932

theorem V_v0 : V m c main_v0 = flat (X0 m c) := by
  show StableHlo.after hostOps0 _ (Proc.devRef .tc main_v0) = _
  after_reads_simp
  rfl
theorem V_v1 : V m c main_v1 = flat (X1 m c) := by
  show StableHlo.after hostOps0 _ (Proc.devRef .tc main_v1) = _
  after_reads_simp
  rfl
theorem V_v2 : V m c main_v2 = flat (X2 m c) := by
  show StableHlo.after hostOps0 _ (Proc.devRef .tc main_v2) = _
  after_reads_simp
  rfl
theorem V_v3 : V m c main_v3 = flat (X3 m c) := by
  show StableHlo.after hostOps0 _ (Proc.devRef .tc main_v3) = _
  after_reads_simp
  rfl

/-- The printed index maps, decided over the grid: the tile of rows is the point's number. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by
  decide +kernel

/-- The grid point of a tile of rows, and a tile's row as a row of the whole. -/
abbrev pt (i : Fin 4) : Fin cfg0.N := ⟨i.val, lt_of_lt_of_eq i.isLt (show 4 = cfg0.N from N_0.symm)⟩
abbrev row (i : Fin 4) (r : Fin 128) : Fin 512 := ⟨128 * i.val + r.val, by omega⟩

theorem blk0 (i : Fin 4) (r : Fin 128) (l : Fin 1932) :
    (iblk m c 0 (pt i) : Vec Ideal S128x1932 .f32) (ix2 r l) = flat (X0 m c) (ix2 (row i r) l) := by
  obtain ⟨⟨e0, e1⟩, -⟩ := idx (pt i)
  unfold iblk
  rw [View.read_apply]
  show V m c main_v0 _ = _
  rw [V_v0]
  congr 1; funext a; apply Fin.ext
  match a with
  | ⟨0, _⟩ => show win0_0.index (pt i) 0 * 128 + 1 * r.val = 128 * i.val + r.val; rw [e0]; show i.val * 128 + 1 * r.val = _; omega
  | ⟨1, _⟩ => show win0_0.index (pt i) 1 * 1932 + 1 * l.val = l.val; rw [e1]; omega
theorem blk1 (i : Fin 4) (r : Fin 128) (l : Fin 1932) :
    (iblk m c 1 (pt i) : Vec Ideal S128x1932 .f32) (ix2 r l) = flat (X1 m c) (ix2 (row i r) l) := by
  obtain ⟨-, ⟨e0, e1⟩, -⟩ := idx (pt i)
  unfold iblk
  rw [View.read_apply]
  show V m c main_v1 _ = _
  rw [V_v1]
  congr 1; funext a; apply Fin.ext
  match a with
  | ⟨0, _⟩ => show win0_1.index (pt i) 0 * 128 + 1 * r.val = 128 * i.val + r.val; rw [e0]; show i.val * 128 + 1 * r.val = _; omega
  | ⟨1, _⟩ => show win0_1.index (pt i) 1 * 1932 + 1 * l.val = l.val; rw [e1]; omega
theorem blk2 (i : Fin 4) (r : Fin 128) (l : Fin 1932) :
    (iblk m c 2 (pt i) : Vec Ideal S128x1932 .f32) (ix2 r l) = flat (X2 m c) (ix2 (row i r) l) := by
  obtain ⟨-, -, ⟨e0, e1⟩, -⟩ := idx (pt i)
  unfold iblk
  rw [View.read_apply]
  show V m c main_v2 _ = _
  rw [V_v2]
  congr 1; funext a; apply Fin.ext
  match a with
  | ⟨0, _⟩ => show win0_2.index (pt i) 0 * 128 + 1 * r.val = 128 * i.val + r.val; rw [e0]; show i.val * 128 + 1 * r.val = _; omega
  | ⟨1, _⟩ => show win0_2.index (pt i) 1 * 1932 + 1 * l.val = l.val; rw [e1]; omega
theorem blk3 (i : Fin 4) (r : Fin 128) (l : Fin 1932) :
    (iblk m c 3 (pt i) : Vec Ideal S128x1932 .f32) (ix2 r l) = flat (X3 m c) (ix2 (row i r) l) := by
  obtain ⟨-, -, -, ⟨e0, e1⟩, -⟩ := idx (pt i)
  unfold iblk
  rw [View.read_apply]
  show V m c main_v3 _ = _
  rw [V_v3]
  congr 1; funext a; apply Fin.ext
  match a with
  | ⟨0, _⟩ => show win0_3.index (pt i) 0 * 128 + 1 * r.val = 128 * i.val + r.val; rw [e0]; show i.val * 128 + 1 * r.val = _; omega
  | ⟨1, _⟩ => show win0_3.index (pt i) 1 * 1932 + 1 * l.val = l.val; rw [e1]; omega

/-- Two points write two tiles. -/
theorem inj4 (t t' : Fin cfg0.N) (h : win0_4.index t = win0_4.index t') : t = t' :=
  Fin.ext (((idx t).2.2.2.2.1.1).symm.trans ((congrFun h 0).trans (idx t').2.2.2.2.1.1))
theorem inj5 (t t' : Fin cfg0.N) (h : win0_5.index t = win0_5.index t') : t = t' :=
  Fin.ext (((idx t).2.2.2.2.2.1.1).symm.trans ((congrFun h 0).trans (idx t').2.2.2.2.2.1.1))
theorem inj6 (t t' : Fin cfg0.N) (h : win0_6.index t = win0_6.index t') : t = t' :=
  Fin.ext (((idx t).2.2.2.2.2.2.1).symm.trans ((congrFun h 0).trans (idx t').2.2.2.2.2.2.1))

/-- So a tile of each array, read back, is what its point wrote. -/
theorem tile4 (t : Fin cfg0.N) : ((cfg0.win 4).blk t).view.read (Elt Ideal) ((dats m 0 c).arrAt 4 cfg0.N)
    = k0_pay4 (F := Ideal) (iblk m c 1 t) (iblk m c 2 t) (iblk m c 3 t) (iblk m c 0 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, out4_eq]
  rfl
theorem tile5 (t : Fin cfg0.N) : ((cfg0.win 5).blk t).view.read (Elt Ideal) ((dats m 0 c).arrAt 5 cfg0.N)
    = k0_pay2 (F := Ideal) (iblk m c 1 t) (iblk m c 2 t) := by
  refine ((dats m 0 c).read_blk_arrAt_eq_flushed 5 (fun s s' _ _ hne => (cfg0.win 5).disjoint_blk fun h => hne (inj5 s s' h)) cfg0.N t t.isLt (flush0_5 t)).trans ?_
  show (cfg0.win 5).cut (grid0.coords t) ((dats m 0 c).after 5 t) = _
  rw [after0_5, out5_eq]
  rfl
theorem tile6 (t : Fin cfg0.N) : ((cfg0.win 6).blk t).view.read (Elt Ideal) ((dats m 0 c).arrAt 6 cfg0.N)
    = k0_pay3 (F := Ideal) (iblk m c 1 t) (iblk m c 3 t) := by
  refine ((dats m 0 c).read_blk_arrAt_eq_flushed 6 (fun s s' _ _ hne => (cfg0.win 6).disjoint_blk fun h => hne (inj6 s s' h)) cfg0.N t t.isLt (flush0_6 t)).trans ?_
  show (cfg0.win 6).cut (grid0.coords t) ((dats m 0 c).after 6 t) = _
  rw [after0_6, out6_eq]
  rfl

/-- Every entry of a flattened array lies in a tile. -/
theorem split (j : S512x1932.Idx) : ∃ (i : Fin 4) (r : Fin 128) (l : Fin 1932), j = ix2 (row i r) l := by
  have h0 : (j 0).val < 512 := (j 0).isLt
  refine ⟨⟨(j 0).val / 128, by omega⟩, ⟨(j 0).val % 128, by omega⟩, j 1, ?_⟩
  funext a; match a with
  | ⟨0, _⟩ => exact Fin.ext (by show (j 0).val = 128 * ((j 0).val / 128) + (j 0).val % 128; omega)
  | ⟨1, _⟩ => rfl

theorem arr4 : ((dats m 0 c).arrAt 4 cfg0.N : FVec Ideal S512x1932 .f32)
    = fun j => upd (flat (X0 m c) j) (flat (X1 m c) j) (flat (X2 m c) j) (flat (X3 m c) j) := by
  refine funext fun (j : S512x1932.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 128 + 1 * r.val = 128 * i.val + r.val; rw [e0]; show i.val * 128 + 1 * r.val = _; omega
    | ⟨1, _⟩ => show win0_4.index (pt i) 1 * 1932 + 1 * l.val = l.val; rw [e1]; omega
  rw [he] at h
  refine Eq.trans h ((pay4_apply _ _ _ _ (ix2 r l)).trans ?_)
  rw [blk0 m c i r l, blk1 m c i r l, blk2 m c i r l, blk3 m c i r l]
theorem arr5 : ((dats m 0 c).arrAt 5 cfg0.N : FVec Ideal S512x1932 .f32) = fun j => mom (flat (X1 m c) j) (flat (X2 m c) j) := by
  refine funext fun (j : S512x1932.Idx) => ?_
  obtain ⟨i, r, l, rfl⟩ := split j
  obtain ⟨-, -, -, -, -, ⟨e0, e1⟩, -⟩ := idx (pt i)
  have h := congrFun (tile5 m c (pt i)) (ix2 r l)
  rw [View.read_apply] at h
  have he : ((cfg0.win 5).blk (pt i)).view.emb (ix2 r l) = ix2 (row i r) l := by
    funext a; apply Fin.ext
    match a with
    | ⟨0, _⟩ => show win0_5.index (pt i) 0 * 128 + 1 * r.val = 128 * i.val + r.val; rw [e0]; show i.val * 128 + 1 * r.val = _; omega
    | ⟨1, _⟩ => show win0_5.index (pt i) 1 * 1932 + 1 * l.val = l.val; rw [e1]; omega
  rw [he] at h
  refine Eq.trans h ((pay2_apply _ _ (ix2 r l)).trans ?_)
  rw [blk1 m c i r l, blk2 m c i r l]
theorem arr6 : ((dats m 0 c).arrAt 6 cfg0.N : FVec Ideal S512x1932 .f32) = fun j => vel (flat (X1 m c) j) (flat (X3 m c) j) := by
  refine funext fun (j : S512x1932.Idx) => ?_
  obtain ⟨i, r, l, rfl⟩ := split j
  obtain ⟨-, -, -, -, -, -, ⟨e0, e1⟩⟩ := idx (pt i)
  have h := congrFun (tile6 m c (pt i)) (ix2 r l)
  rw [View.read_apply] at h
  have he : ((cfg0.win 6).blk (pt i)).view.emb (ix2 r l) = ix2 (row i r) l := by
    funext a; apply Fin.ext
    match a with
    | ⟨0, _⟩ => show win0_6.index (pt i) 0 * 128 + 1 * r.val = 128 * i.val + r.val; rw [e0]; show i.val * 128 + 1 * r.val = _; omega
    | ⟨1, _⟩ => show win0_6.index (pt i) 1 * 1932 + 1 * l.val = l.val; rw [e1]; omega
  rw [he] at h
  refine Eq.trans h ((pay3_apply _ _ (ix2 r l)).trans ?_)
  rw [blk1 m c i r l, blk3 m c i r l]

/-! ## The results, at the parameter's own shape -/

/-- An array flattened and put back is itself. -/
theorem back (x : FVec Ideal S4x128x1932 .f32) (j : S4x128x1932.Idx) :
    flat x (Shape.reshapeEquiv shapeCasts_S512x1932_S4x128x1932 j) = x j :=
  congrFun (shapeCast_shapeCast x shapeCasts_S4x128x1932_S512x1932 shapeCasts_S512x1932_S4x128x1932) j

/-- The contents of every buffer when the region ends: its arrays as written, the rest as found. -/
abbrev ended : Valuation τ sig (Elt Ideal) :=
  Pipeline.withArrays (cfgs 0).spec c (V0 m c) fun w => (dats m 0 c).arrAt w (cfgs 0).N

theorem ended4 : ended m c (Proc.devRef .tc main_v4_0) = (dats m 0 c).arrAt 4 cfg0.N :=
  Pipeline.withArrays_arr spec0 (by decide) c (V0 m c) (fun w => (dats m 0 c).arrAt w (cfgs 0).N) 4
theorem ended5 : ended m c (Proc.devRef .tc main_v4_1) = (dats m 0 c).arrAt 5 cfg0.N :=
  Pipeline.withArrays_arr spec0 (by decide) c (V0 m c) (fun w => (dats m 0 c).arrAt w (cfgs 0).N) 5
theorem ended6 : ended m c (Proc.devRef .tc main_v4_2) = (dats m 0 c).arrAt 6 cfg0.N :=
  Pipeline.withArrays_arr spec0 (by decide) c (V0 m c) (fun w => (dats m 0 c).arrAt w (cfgs 0).N) 6

theorem res5 : Pipeline.afterTail₀ cfgs (dats m) 0 (V0 m) [hostOps1] c main_v5
    = fun j => upd (X0 m c j) (X1 m c j) (X2 m c j) (X3 m c j) := by
  show StableHlo.after hostOps1 (ended m c) (Proc.devRef .tc main_v5) = _
  have h4 := (ended4 m c).trans (arr4 m c)
  generalize ended m c = W at *
  after_reads_simp
  refine funext fun (j : S4x128x1932.Idx) => ?_
  refine (congrFun h4 (Shape.reshapeEquiv shapeCasts_S512x1932_S4x128x1932 j)).trans ?_
  show upd (flat (X0 m c) _) (flat (X1 m c) _) (flat (X2 m c) _) (flat (X3 m c) _) = _
  rw [back, back, back, back]
theorem res6 : Pipeline.afterTail₀ cfgs (dats m) 0 (V0 m) [hostOps1] c main_v6 = fun j => mom (X1 m c j) (X2 m c j) := by
  show StableHlo.after hostOps1 (ended m c) (Proc.devRef .tc main_v6) = _
  have h5 := (ended5 m c).trans (arr5 m c)
  generalize ended m c = W at *
  after_reads_simp
  refine funext fun (j : S4x128x1932.Idx) => ?_
  refine (congrFun h5 (Shape.reshapeEquiv shapeCasts_S512x1932_S4x128x1932 j)).trans ?_
  show mom (flat (X1 m c) _) (flat (X2 m c) _) = _
  rw [back, back]
theorem res7 : Pipeline.afterTail₀ cfgs (dats m) 0 (V0 m) [hostOps1] c main_v7 = fun j => vel (X1 m c j) (X3 m c j) := by
  show StableHlo.after hostOps1 (ended m c) (Proc.devRef .tc main_v7) = _
  have h6 := (ended6 m c).trans (arr6 m c)
  generalize ended m c = W at *
  after_reads_simp
  refine funext fun (j : S4x128x1932.Idx) => ?_
  refine (congrFun h6 (Shape.reshapeEquiv shapeCasts_S512x1932_S4x128x1932 j)).trans ?_
  show vel (flat (X1 m c) _) (flat (X3 m c) _) = _
  rw [back, back]

/-! ## The claims -/

/-- The reference runs on the host alone: its run keeps the arguments, and it has no semaphore. -/
theorem frame_reference : Cert.quiescent_Reference18Ideal := fun m ρ _ =>
  (θ_run Cert.Reference18Ideal.defs _ _).mono (fun r h => ⟨fun c => (h c).2.2.2, Idealize.ShloMosaic.sem_eq_zero_of_no_sems (by decide) r.2⟩)
    (Cert.Reference18Ideal.Value.run (F := Ideal) m ρ)

/-- The kernel's three arrays are the reference's: the update and the two moments. -/
theorem algebraic : Cert.algebraic_Kernel18Ideal_Reference18Ideal := by
  intro m ρ m' ρ' hpre hagree
  refine ⟨fun c => (fun j => upd (X0 m c j) (X1 m c j) (X2 m c j) (X3 m c j) : FVec Ideal S4x128x1932 .f32),
    fun c => (fun j => mom (X1 m c j) (X2 m c j) : FVec Ideal S4x128x1932 .f32),
    fun c => (fun j => vel (X1 m c j) (X3 m c j) : FVec Ideal S4x128x1932 .f32), ?_, ?_⟩
  · refine (θ_run defs _ _).mono (fun r h c => ?_) (run_main (F := Ideal) m ρ)
    have K := fun (b : Ref sig .tc) (h1 : b.isScoped = false) h2 => (h c).2 b (Pipeline.mem_restRefs_of b h1 h2)
    exact ⟨(K main_v5 (by decide) (by decide)).trans (res5 m c),
      (K main_v6 (by decide) (by decide)).trans (res6 m c),
      (K main_v7 (by decide) (by decide)).trans (res7 m c),
      (K main_arg0 (by decide) (by decide)).trans (W_main_arg0 m (dats m) c),
      (K main_arg1 (by decide) (by decide)).trans (W_main_arg1 m (dats m) c),
      (K main_arg2 (by decide) (by decide)).trans (W_main_arg2 m (dats m) c),
      (K main_arg3 (by decide) (by decide)).trans (W_main_arg3 m (dats m) c)⟩
  · refine (θ_run Cert.Reference18Ideal.defs _ _).mono (fun _ h c => ?_) (Cert.Reference18Ideal.Value.run (F := Ideal) m' ρ')
    obtain ⟨e0, e1, e2, e3⟩ := hagree c
    refine ⟨(h c).1.trans ((Cert.Reference18Ideal.Read.val_main_v23_eq _ _ _ _).trans ?_),
      (h c).2.1.trans ((Cert.Reference18Ideal.Read.val_main_v4_eq _ _).trans ?_),
      (h c).2.2.1.trans ((Cert.Reference18Ideal.Read.val_main_v10_eq _ _).trans ?_), (h c).2.2.2⟩
    · rw [e0, e1, e2, e3]; exact funext fun (j : S4x128x1932.Idx) => ref_upd (X0 m c) (X1 m c) (X2 m c) (X3 m c) j
    · rw [e1, e2]; exact funext fun (j : S4x128x1932.Idx) => ref_mom (X1 m c) (X2 m c) j
    · rw [e1, e3]; exact funext fun (j : S4x128x1932.Idx) => ref_vel (X1 m c) (X3 m c) j

end Cert.AdamIn

end
-- ==== Proof.AdamOut.lean ====
/-
  The optimiser's step on the output projection: what the kernel does tile by tile of 128 rows of the flattened array is, entry by
  entry, what the reference does on the whole.
-/
module

public import proofs.«01_k».proof.Defs
public import proofs.«01_k».proof.Proof.Gen.Kernel19Ideal.Frame
public import proofs.«01_k».proof.Proof.Gen.Reference19Ideal.Read
public import proofs.«01_k».proof.Proof.Step

@[expose] public section

set_option maxRecDepth 16384

noncomputable section

namespace Cert.AdamOut

open Idealize.ShloMosaic Idealize.SL.Sem Idealize.ShloMosaic.TcCoe Idealize.ShloMosaic.Tactic
open Cert.Kernel19Ideal Cert.Kernel19Ideal.Gen
open Idealize.ShloMosaic.Pipeline (Dat)
open Cert.Step (hz mom vel upd)

/-! ## The step on one entry -/

theorem pay2_apply (g m : Vec Ideal S128x1024 .f32) (i : S128x1024.Idx) : k0_pay2 (F := Ideal) g m i = mom (g i) (m i) := by
  unfold k0_pay2 k0_pay1
  simp only [shapeCast_self]
  rfl
theorem pay3_apply (g v : Vec Ideal S128x1024 .f32) (i : S128x1024.Idx) : k0_pay3 (F := Ideal) g v i = vel (g i) (v i) := by
  unfold k0_pay3 k0_pay1
  simp only [shapeCast_self]
  rfl
theorem pay4_apply (g m v w : Vec Ideal S128x1024 .f32) (i : S128x1024.Idx) :
    k0_pay4 (F := Ideal) g m v w i = upd (w i) (g i) (m i) (v i) := by
  unfold k0_pay4 upd
  rw [← pay2_apply g m i, ← pay3_apply g v i]
  simp only [shapeCast_self]
  rfl

section Ref
open Cert.Reference19Ideal.Read
variable (x0 x1 x2 x3 : FVec Ideal S4x128x1024 .f32) (i : S4x128x1024.Idx)
theorem ref_mom : val_main_v4 (F := Ideal) x1 x2 i = mom (x1 i) (x2 i) := rfl
theorem ref_vel : val_main_v10 (F := Ideal) x1 x3 i = vel (x1 i) (x3 i) := rfl
theorem ref_upd : val_main_v23 (F := Ideal) x0 x1 x2 x3 i = upd (x0 i) (x1 i) (x2 i) (x3 i) := by
  unfold upd
  rw [← ref_mom x1 x2 i, ← ref_vel x1 x3 i]
  rfl
end Ref

/-! ## The kernel's three arrays -/

theorem out4_eq (x0 x1 x2 x3 : Vec Ideal S128x1024 .f32) : out0_4 (F := Ideal) x0 x1 x2 x3 = k0_pay4 x1 x2 x3 x0 := by
  unfold out0_4
  rw [View.canon_unit_zero (S := S128x1024) hz]
  simp only [View.ld_unit_zero (S := S128x1024) hz]
theorem out5_eq (x0 x1 x2 x3 : Vec Ideal S128x1024 .f32) : out0_5 (F := Ideal) x0 x1 x2 x3 = k0_pay2 x1 x2 := by
  unfold out0_5
  rw [View.canon_unit_zero (S := S128x1024) hz]
  simp only [View.ld_unit_zero (S := S128x1024) hz]
theorem out6_eq (x0 x1 x2 x3 : Vec Ideal S128x1024 .f32) : out0_6 (F := Ideal) x0 x1 x2 x3 = k0_pay3 x1 x3 := by
  unfold out0_6
  rw [View.canon_unit_zero (S := S128x1024) hz]
  simp only [View.ld_unit_zero (S := S128x1024) hz]

variable (m : (ℓ : Loc nD τ sig) → Buf (Elt Ideal) ℓ) (ρ : Dev nD → PrngReg) (c : Dev nD)

/-- The arrays the kernel is given, -/
abbrev X0 : FVec Ideal S4x128x1024 .f32 := m ((c : Thread nD τ).loc main_arg0)
abbrev X1 : FVec Ideal S4x128x1024 .f32 := m ((c : Thread nD τ).loc main_arg1)
abbrev X2 : FVec Ideal S4x128x1024 .f32 := m ((c : Thread nD τ).loc main_arg2)
abbrev X3 : FVec Ideal S4x128x1024 .f32 := m ((c : Thread nD τ).loc main_arg3)

/-- and flattened to rows. -/
abbrev flat (x : FVec Ideal S4x128x1024 .f32) : FVec Ideal S512x1024 .f32 := shapeCast S512x1024 x shapeCasts_S4x128x1024_S512x1024

theorem V_v0 : V m c main_v0 = flat (X0 m c) := by
  show StableHlo.after hostOps0 _ (Proc.devRef .tc main_v0) = _
  after_reads_simp
  rfl
theorem V_v1 : V m c main_v1 = flat (X1 m c) := by
  show StableHlo.after hostOps0 _ (Proc.devRef .tc main_v1) = _
  after_reads_simp
  rfl
theorem V_v2 : V m c main_v2 = flat (X2 m c) := by
  show StableHlo.after hostOps0 _ (Proc.devRef .tc main_v2) = _
  after_reads_simp
  rfl
theorem V_v3 : V m c main_v3 = flat (X3 m c) := by
  show StableHlo.after hostOps0 _ (Proc.devRef .tc main_v3) = _
  after_reads_simp
  rfl

/-- The printed index maps, decided over the grid: the tile of rows is the point's number. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by
  decide +kernel

/-- The grid point of a tile of rows, and a tile's row as a row of the whole. -/
abbrev pt (i : Fin 4) : Fin cfg0.N := ⟨i.val, lt_of_lt_of_eq i.isLt (show 4 = cfg0.N from N_0.symm)⟩
abbrev row (i : Fin 4) (r : Fin 128) : Fin 512 := ⟨128 * i.val + r.val, by omega⟩

theorem blk0 (i : Fin 4) (r : Fin 128) (l : Fin 1024) :
    (iblk m c 0 (pt i) : Vec Ideal S128x1024 .f32) (ix2 r l) = flat (X0 m c) (ix2 (row i r) l) := by
  obtain ⟨⟨e0, e1⟩, -⟩ := idx (pt i)
  unfold iblk
  rw [View.read_apply]
  show V m c main_v0 _ = _
  rw [V_v0]
  congr 1; funext a; apply Fin.ext
  match a with
  | ⟨0, _⟩ => show win0_0.index (pt i) 0 * 128 + 1 * r.val = 128 * i.val + r.val; rw [e0]; show i.val * 128 + 1 * r.val = _; omega
  | ⟨1, _⟩ => show win0_0.index (pt i) 1 * 1024 + 1 * l.val = l.val; rw [e1]; omega
theorem blk1 (i : Fin 4) (r : Fin 128) (l : Fin 1024) :
    (iblk m c 1 (pt i) : Vec Ideal S128x1024 .f32) (ix2 r l) = flat (X1 m c) (ix2 (row i r) l) := by
  obtain ⟨-, ⟨e0, e1⟩, -⟩ := idx (pt i)
  unfold iblk
  rw [View.read_apply]
  show V m c main_v1 _ = _
  rw [V_v1]
  congr 1; funext a; apply Fin.ext
  match a with
  | ⟨0, _⟩ => show win0_1.index (pt i) 0 * 128 + 1 * r.val = 128 * i.val + r.val; rw [e0]; show i.val * 128 + 1 * r.val = _; omega
  | ⟨1, _⟩ => show win0_1.index (pt i) 1 * 1024 + 1 * l.val = l.val; rw [e1]; omega
theorem blk2 (i : Fin 4) (r : Fin 128) (l : Fin 1024) :
    (iblk m c 2 (pt i) : Vec Ideal S128x1024 .f32) (ix2 r l) = flat (X2 m c) (ix2 (row i r) l) := by
  obtain ⟨-, -, ⟨e0, e1⟩, -⟩ := idx (pt i)
  unfold iblk
  rw [View.read_apply]
  show V m c main_v2 _ = _
  rw [V_v2]
  congr 1; funext a; apply Fin.ext
  match a with
  | ⟨0, _⟩ => show win0_2.index (pt i) 0 * 128 + 1 * r.val = 128 * i.val + r.val; rw [e0]; show i.val * 128 + 1 * r.val = _; omega
  | ⟨1, _⟩ => show win0_2.index (pt i) 1 * 1024 + 1 * l.val = l.val; rw [e1]; omega
theorem blk3 (i : Fin 4) (r : Fin 128) (l : Fin 1024) :
    (iblk m c 3 (pt i) : Vec Ideal S128x1024 .f32) (ix2 r l) = flat (X3 m c) (ix2 (row i r) l) := by
  obtain ⟨-, -, -, ⟨e0, e1⟩, -⟩ := idx (pt i)
  unfold iblk
  rw [View.read_apply]
  show V m c main_v3 _ = _
  rw [V_v3]
  congr 1; funext a; apply Fin.ext
  match a with
  | ⟨0, _⟩ => show win0_3.index (pt i) 0 * 128 + 1 * r.val = 128 * i.val + r.val; rw [e0]; show i.val * 128 + 1 * r.val = _; omega
  | ⟨1, _⟩ => show win0_3.index (pt i) 1 * 1024 + 1 * l.val = l.val; rw [e1]; omega

/-- Two points write two tiles. -/
theorem inj4 (t t' : Fin cfg0.N) (h : win0_4.index t = win0_4.index t') : t = t' :=
  Fin.ext (((idx t).2.2.2.2.1.1).symm.trans ((congrFun h 0).trans (idx t').2.2.2.2.1.1))
theorem inj5 (t t' : Fin cfg0.N) (h : win0_5.index t = win0_5.index t') : t = t' :=
  Fin.ext (((idx t).2.2.2.2.2.1.1).symm.trans ((congrFun h 0).trans (idx t').2.2.2.2.2.1.1))
theorem inj6 (t t' : Fin cfg0.N) (h : win0_6.index t = win0_6.index t') : t = t' :=
  Fin.ext (((idx t).2.2.2.2.2.2.1).symm.trans ((congrFun h 0).trans (idx t').2.2.2.2.2.2.1))

/-- So a tile of each array, read back, is what its point wrote. -/
theorem tile4 (t : Fin cfg0.N) : ((cfg0.win 4).blk t).view.read (Elt Ideal) ((dats m 0 c).arrAt 4 cfg0.N)
    = k0_pay4 (F := Ideal) (iblk m c 1 t) (iblk m c 2 t) (iblk m c 3 t) (iblk m c 0 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, out4_eq]
  rfl
theorem tile5 (t : Fin cfg0.N) : ((cfg0.win 5).blk t).view.read (Elt Ideal) ((dats m 0 c).arrAt 5 cfg0.N)
    = k0_pay2 (F := Ideal) (iblk m c 1 t) (iblk m c 2 t) := by
  refine ((dats m 0 c).read_blk_arrAt_eq_flushed 5 (fun s s' _ _ hne => (cfg0.win 5).disjoint_blk fun h => hne (inj5 s s' h)) cfg0.N t t.isLt (flush0_5 t)).trans ?_
  show (cfg0.win 5).cut (grid0.coords t) ((dats m 0 c).after 5 t) = _
  rw [after0_5, out5_eq]
  rfl
theorem tile6 (t : Fin cfg0.N) : ((cfg0.win 6).blk t).view.read (Elt Ideal) ((dats m 0 c).arrAt 6 cfg0.N)
    = k0_pay3 (F := Ideal) (iblk m c 1 t) (iblk m c 3 t) := by
  refine ((dats m 0 c).read_blk_arrAt_eq_flushed 6 (fun s s' _ _ hne => (cfg0.win 6).disjoint_blk fun h => hne (inj6 s s' h)) cfg0.N t t.isLt (flush0_6 t)).trans ?_
  show (cfg0.win 6).cut (grid0.coords t) ((dats m 0 c).after 6 t) = _
  rw [after0_6, out6_eq]
  rfl

/-- Every entry of a flattened array lies in a tile. -/
theorem split (j : S512x1024.Idx) : ∃ (i : Fin 4) (r : Fin 128) (l : Fin 1024), j = ix2 (row i r) l := by
  have h0 : (j 0).val < 512 := (j 0).isLt
  refine ⟨⟨(j 0).val / 128, by omega⟩, ⟨(j 0).val % 128, by omega⟩, j 1, ?_⟩
  funext a; match a with
  | ⟨0, _⟩ => exact Fin.ext (by show (j 0).val = 128 * ((j 0).val / 128) + (j 0).val % 128; omega)
  | ⟨1, _⟩ => rfl

theorem arr4 : ((dats m 0 c).arrAt 4 cfg0.N : FVec Ideal S512x1024 .f32)
    = fun j => upd (flat (X0 m c) j) (flat (X1 m c) j) (flat (X2 m c) j) (flat (X3 m c) j) := by
  refine funext fun (j : S512x1024.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 128 + 1 * r.val = 128 * i.val + r.val; rw [e0]; show i.val * 128 + 1 * r.val = _; omega
    | ⟨1, _⟩ => show win0_4.index (pt i) 1 * 1024 + 1 * l.val = l.val; rw [e1]; omega
  rw [he] at h
  refine Eq.trans h ((pay4_apply _ _ _ _ (ix2 r l)).trans ?_)
  rw [blk0 m c i r l, blk1 m c i r l, blk2 m c i r l, blk3 m c i r l]
theorem arr5 : ((dats m 0 c).arrAt 5 cfg0.N : FVec Ideal S512x1024 .f32) = fun j => mom (flat (X1 m c) j) (flat (X2 m c) j) := by
  refine funext fun (j : S512x1024.Idx) => ?_
  obtain ⟨i, r, l, rfl⟩ := split j
  obtain ⟨-, -, -, -, -, ⟨e0, e1⟩, -⟩ := idx (pt i)
  have h := congrFun (tile5 m c (pt i)) (ix2 r l)
  rw [View.read_apply] at h
  have he : ((cfg0.win 5).blk (pt i)).view.emb (ix2 r l) = ix2 (row i r) l := by
    funext a; apply Fin.ext
    match a with
    | ⟨0, _⟩ => show win0_5.index (pt i) 0 * 128 + 1 * r.val = 128 * i.val + r.val; rw [e0]; show i.val * 128 + 1 * r.val = _; omega
    | ⟨1, _⟩ => show win0_5.index (pt i) 1 * 1024 + 1 * l.val = l.val; rw [e1]; omega
  rw [he] at h
  refine Eq.trans h ((pay2_apply _ _ (ix2 r l)).trans ?_)
  rw [blk1 m c i r l, blk2 m c i r l]
theorem arr6 : ((dats m 0 c).arrAt 6 cfg0.N : FVec Ideal S512x1024 .f32) = fun j => vel (flat (X1 m c) j) (flat (X3 m c) j) := by
  refine funext fun (j : S512x1024.Idx) => ?_
  obtain ⟨i, r, l, rfl⟩ := split j
  obtain ⟨-, -, -, -, -, -, ⟨e0, e1⟩⟩ := idx (pt i)
  have h := congrFun (tile6 m c (pt i)) (ix2 r l)
  rw [View.read_apply] at h
  have he : ((cfg0.win 6).blk (pt i)).view.emb (ix2 r l) = ix2 (row i r) l := by
    funext a; apply Fin.ext
    match a with
    | ⟨0, _⟩ => show win0_6.index (pt i) 0 * 128 + 1 * r.val = 128 * i.val + r.val; rw [e0]; show i.val * 128 + 1 * r.val = _; omega
    | ⟨1, _⟩ => show win0_6.index (pt i) 1 * 1024 + 1 * l.val = l.val; rw [e1]; omega
  rw [he] at h
  refine Eq.trans h ((pay3_apply _ _ (ix2 r l)).trans ?_)
  rw [blk1 m c i r l, blk3 m c i r l]

/-! ## The results, at the parameter's own shape -/

/-- An array flattened and put back is itself. -/
theorem back (x : FVec Ideal S4x128x1024 .f32) (j : S4x128x1024.Idx) :
    flat x (Shape.reshapeEquiv shapeCasts_S512x1024_S4x128x1024 j) = x j :=
  congrFun (shapeCast_shapeCast x shapeCasts_S4x128x1024_S512x1024 shapeCasts_S512x1024_S4x128x1024) j

/-- The contents of every buffer when the region ends: its arrays as written, the rest as found. -/
abbrev ended : Valuation τ sig (Elt Ideal) :=
  Pipeline.withArrays (cfgs 0).spec c (V0 m c) fun w => (dats m 0 c).arrAt w (cfgs 0).N

theorem ended4 : ended m c (Proc.devRef .tc main_v4_0) = (dats m 0 c).arrAt 4 cfg0.N :=
  Pipeline.withArrays_arr spec0 (by decide) c (V0 m c) (fun w => (dats m 0 c).arrAt w (cfgs 0).N) 4
theorem ended5 : ended m c (Proc.devRef .tc main_v4_1) = (dats m 0 c).arrAt 5 cfg0.N :=
  Pipeline.withArrays_arr spec0 (by decide) c (V0 m c) (fun w => (dats m 0 c).arrAt w (cfgs 0).N) 5
theorem ended6 : ended m c (Proc.devRef .tc main_v4_2) = (dats m 0 c).arrAt 6 cfg0.N :=
  Pipeline.withArrays_arr spec0 (by decide) c (V0 m c) (fun w => (dats m 0 c).arrAt w (cfgs 0).N) 6

theorem res5 : Pipeline.afterTail₀ cfgs (dats m) 0 (V0 m) [hostOps1] c main_v5
    = fun j => upd (X0 m c j) (X1 m c j) (X2 m c j) (X3 m c j) := by
  show StableHlo.after hostOps1 (ended m c) (Proc.devRef .tc main_v5) = _
  have h4 := (ended4 m c).trans (arr4 m c)
  generalize ended m c = W at *
  after_reads_simp
  refine funext fun (j : S4x128x1024.Idx) => ?_
  refine (congrFun h4 (Shape.reshapeEquiv shapeCasts_S512x1024_S4x128x1024 j)).trans ?_
  show upd (flat (X0 m c) _) (flat (X1 m c) _) (flat (X2 m c) _) (flat (X3 m c) _) = _
  rw [back, back, back, back]
theorem res6 : Pipeline.afterTail₀ cfgs (dats m) 0 (V0 m) [hostOps1] c main_v6 = fun j => mom (X1 m c j) (X2 m c j) := by
  show StableHlo.after hostOps1 (ended m c) (Proc.devRef .tc main_v6) = _
  have h5 := (ended5 m c).trans (arr5 m c)
  generalize ended m c = W at *
  after_reads_simp
  refine funext fun (j : S4x128x1024.Idx) => ?_
  refine (congrFun h5 (Shape.reshapeEquiv shapeCasts_S512x1024_S4x128x1024 j)).trans ?_
  show mom (flat (X1 m c) _) (flat (X2 m c) _) = _
  rw [back, back]
theorem res7 : Pipeline.afterTail₀ cfgs (dats m) 0 (V0 m) [hostOps1] c main_v7 = fun j => vel (X1 m c j) (X3 m c j) := by
  show StableHlo.after hostOps1 (ended m c) (Proc.devRef .tc main_v7) = _
  have h6 := (ended6 m c).trans (arr6 m c)
  generalize ended m c = W at *
  after_reads_simp
  refine funext fun (j : S4x128x1024.Idx) => ?_
  refine (congrFun h6 (Shape.reshapeEquiv shapeCasts_S512x1024_S4x128x1024 j)).trans ?_
  show vel (flat (X1 m c) _) (flat (X3 m c) _) = _
  rw [back, back]

/-! ## The claims -/

/-- The reference runs on the host alone: its run keeps the arguments, and it has no semaphore. -/
theorem frame_reference : Cert.quiescent_Reference19Ideal := fun m ρ _ =>
  (θ_run Cert.Reference19Ideal.defs _ _).mono (fun r h => ⟨fun c => (h c).2.2.2, Idealize.ShloMosaic.sem_eq_zero_of_no_sems (by decide) r.2⟩)
    (Cert.Reference19Ideal.Value.run (F := Ideal) m ρ)

/-- The kernel's three arrays are the reference's: the update and the two moments. -/
theorem algebraic : Cert.algebraic_Kernel19Ideal_Reference19Ideal := by
  intro m ρ m' ρ' hpre hagree
  refine ⟨fun c => (fun j => upd (X0 m c j) (X1 m c j) (X2 m c j) (X3 m c j) : FVec Ideal S4x128x1024 .f32),
    fun c => (fun j => mom (X1 m c j) (X2 m c j) : FVec Ideal S4x128x1024 .f32),
    fun c => (fun j => vel (X1 m c j) (X3 m c j) : FVec Ideal S4x128x1024 .f32), ?_, ?_⟩
  · refine (θ_run defs _ _).mono (fun r h c => ?_) (run_main (F := Ideal) m ρ)
    have K := fun (b : Ref sig .tc) (h1 : b.isScoped = false) h2 => (h c).2 b (Pipeline.mem_restRefs_of b h1 h2)
    exact ⟨(K main_v5 (by decide) (by decide)).trans (res5 m c),
      (K main_v6 (by decide) (by decide)).trans (res6 m c),
      (K main_v7 (by decide) (by decide)).trans (res7 m c),
      (K main_arg0 (by decide) (by decide)).trans (W_main_arg0 m (dats m) c),
      (K main_arg1 (by decide) (by decide)).trans (W_main_arg1 m (dats m) c),
      (K main_arg2 (by decide) (by decide)).trans (W_main_arg2 m (dats m) c),
      (K main_arg3 (by decide) (by decide)).trans (W_main_arg3 m (dats m) c)⟩
  · refine (θ_run Cert.Reference19Ideal.defs _ _).mono (fun _ h c => ?_) (Cert.Reference19Ideal.Value.run (F := Ideal) m' ρ')
    obtain ⟨e0, e1, e2, e3⟩ := hagree c
    refine ⟨(h c).1.trans ((Cert.Reference19Ideal.Read.val_main_v23_eq _ _ _ _).trans ?_),
      (h c).2.1.trans ((Cert.Reference19Ideal.Read.val_main_v4_eq _ _).trans ?_),
      (h c).2.2.1.trans ((Cert.Reference19Ideal.Read.val_main_v10_eq _ _).trans ?_), (h c).2.2.2⟩
    · rw [e0, e1, e2, e3]; exact funext fun (j : S4x128x1024.Idx) => ref_upd (X0 m c) (X1 m c) (X2 m c) (X3 m c) j
    · rw [e1, e2]; exact funext fun (j : S4x128x1024.Idx) => ref_mom (X1 m c) (X2 m c) j
    · rw [e1, e3]; exact funext fun (j : S4x128x1024.Idx) => ref_vel (X1 m c) (X3 m c) j

end Cert.AdamOut

end
-- ==== Proof.AdamCmp.lean ====
/-
  The optimiser's step on a compression MLP's first weights: what the kernel does tile by tile of 128 rows of the flattened array is, entry by
  entry, what the reference does on the whole.
-/
module

public import proofs.«01_k».proof.Defs
public import proofs.«01_k».proof.Proof.Gen.Kernel20Ideal.Frame
public import proofs.«01_k».proof.Proof.Gen.Reference20Ideal.Read
public import proofs.«01_k».proof.Proof.Step

@[expose] public section

set_option maxRecDepth 16384

noncomputable section

namespace Cert.AdamCmp

open Idealize.ShloMosaic Idealize.SL.Sem Idealize.ShloMosaic.TcCoe Idealize.ShloMosaic.Tactic
open Cert.Kernel20Ideal Cert.Kernel20Ideal.Gen
open Idealize.ShloMosaic.Pipeline (Dat)
open Cert.Step (hz mom vel upd)

/-! ## The step on one entry -/

theorem pay2_apply (g m : Vec Ideal S128x64 .f32) (i : S128x64.Idx) : k0_pay2 (F := Ideal) g m i = mom (g i) (m i) := by
  unfold k0_pay2 k0_pay1
  simp only [shapeCast_self]
  rfl
theorem pay3_apply (g v : Vec Ideal S128x64 .f32) (i : S128x64.Idx) : k0_pay3 (F := Ideal) g v i = vel (g i) (v i) := by
  unfold k0_pay3 k0_pay1
  simp only [shapeCast_self]
  rfl
theorem pay4_apply (g m v w : Vec Ideal S128x64 .f32) (i : S128x64.Idx) :
    k0_pay4 (F := Ideal) g m v w i = upd (w i) (g i) (m i) (v i) := by
  unfold k0_pay4 upd
  rw [← pay2_apply g m i, ← pay3_apply g v i]
  simp only [shapeCast_self]
  rfl

section Ref
open Cert.Reference20Ideal.Read
variable (x0 x1 x2 x3 : FVec Ideal S4x256x64 .f32) (i : S4x256x64.Idx)
theorem ref_mom : val_main_v4 (F := Ideal) x1 x2 i = mom (x1 i) (x2 i) := rfl
theorem ref_vel : val_main_v10 (F := Ideal) x1 x3 i = vel (x1 i) (x3 i) := rfl
theorem ref_upd : val_main_v23 (F := Ideal) x0 x1 x2 x3 i = upd (x0 i) (x1 i) (x2 i) (x3 i) := by
  unfold upd
  rw [← ref_mom x1 x2 i, ← ref_vel x1 x3 i]
  rfl
end Ref

/-! ## The kernel's three arrays -/

theorem out4_eq (x0 x1 x2 x3 : Vec Ideal S128x64 .f32) : out0_4 (F := Ideal) x0 x1 x2 x3 = k0_pay4 x1 x2 x3 x0 := by
  unfold out0_4
  rw [View.canon_unit_zero (S := S128x64) hz]
  simp only [View.ld_unit_zero (S := S128x64) hz]
theorem out5_eq (x0 x1 x2 x3 : Vec Ideal S128x64 .f32) : out0_5 (F := Ideal) x0 x1 x2 x3 = k0_pay2 x1 x2 := by
  unfold out0_5
  rw [View.canon_unit_zero (S := S128x64) hz]
  simp only [View.ld_unit_zero (S := S128x64) hz]
theorem out6_eq (x0 x1 x2 x3 : Vec Ideal S128x64 .f32) : out0_6 (F := Ideal) x0 x1 x2 x3 = k0_pay3 x1 x3 := by
  unfold out0_6
  rw [View.canon_unit_zero (S := S128x64) hz]
  simp only [View.ld_unit_zero (S := S128x64) hz]

variable (m : (ℓ : Loc nD τ sig) → Buf (Elt Ideal) ℓ) (ρ : Dev nD → PrngReg) (c : Dev nD)

/-- The arrays the kernel is given, -/
abbrev X0 : FVec Ideal S4x256x64 .f32 := m ((c : Thread nD τ).loc main_arg0)
abbrev X1 : FVec Ideal S4x256x64 .f32 := m ((c : Thread nD τ).loc main_arg1)
abbrev X2 : FVec Ideal S4x256x64 .f32 := m ((c : Thread nD τ).loc main_arg2)
abbrev X3 : FVec Ideal S4x256x64 .f32 := m ((c : Thread nD τ).loc main_arg3)

/-- and flattened to rows. -/
abbrev flat (x : FVec Ideal S4x256x64 .f32) : FVec Ideal S1024x64 .f32 := shapeCast S1024x64 x shapeCasts_S4x256x64_S1024x64

theorem V_v0 : V m c main_v0 = flat (X0 m c) := by
  show StableHlo.after hostOps0 _ (Proc.devRef .tc main_v0) = _
  after_reads_simp
  rfl
theorem V_v1 : V m c main_v1 = flat (X1 m c) := by
  show StableHlo.after hostOps0 _ (Proc.devRef .tc main_v1) = _
  after_reads_simp
  rfl
theorem V_v2 : V m c main_v2 = flat (X2 m c) := by
  show StableHlo.after hostOps0 _ (Proc.devRef .tc main_v2) = _
  after_reads_simp
  rfl
theorem V_v3 : V m c main_v3 = flat (X3 m c) := by
  show StableHlo.after hostOps0 _ (Proc.devRef .tc main_v3) = _
  after_reads_simp
  rfl

/-- The printed index maps, decided over the grid: the tile of rows is the point's number. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by
  decide +kernel

/-- The grid point of a tile of rows, and a tile's row as a row of the whole. -/
abbrev pt (i : Fin 8) : Fin cfg0.N := ⟨i.val, lt_of_lt_of_eq i.isLt (show 8 = cfg0.N from N_0.symm)⟩
abbrev row (i : Fin 8) (r : Fin 128) : Fin 1024 := ⟨128 * i.val + r.val, by omega⟩

theorem blk0 (i : Fin 8) (r : Fin 128) (l : Fin 64) :
    (iblk m c 0 (pt i) : Vec Ideal S128x64 .f32) (ix2 r l) = flat (X0 m c) (ix2 (row i r) l) := by
  obtain ⟨⟨e0, e1⟩, -⟩ := idx (pt i)
  unfold iblk
  rw [View.read_apply]
  show V m c main_v0 _ = _
  rw [V_v0]
  congr 1; funext a; apply Fin.ext
  match a with
  | ⟨0, _⟩ => show win0_0.index (pt i) 0 * 128 + 1 * r.val = 128 * i.val + r.val; rw [e0]; show i.val * 128 + 1 * r.val = _; omega
  | ⟨1, _⟩ => show win0_0.index (pt i) 1 * 64 + 1 * l.val = l.val; rw [e1]; omega
theorem blk1 (i : Fin 8) (r : Fin 128) (l : Fin 64) :
    (iblk m c 1 (pt i) : Vec Ideal S128x64 .f32) (ix2 r l) = flat (X1 m c) (ix2 (row i r) l) := by
  obtain ⟨-, ⟨e0, e1⟩, -⟩ := idx (pt i)
  unfold iblk
  rw [View.read_apply]
  show V m c main_v1 _ = _
  rw [V_v1]
  congr 1; funext a; apply Fin.ext
  match a with
  | ⟨0, _⟩ => show win0_1.index (pt i) 0 * 128 + 1 * r.val = 128 * i.val + r.val; rw [e0]; show i.val * 128 + 1 * r.val = _; omega
  | ⟨1, _⟩ => show win0_1.index (pt i) 1 * 64 + 1 * l.val = l.val; rw [e1]; omega
theorem blk2 (i : Fin 8) (r : Fin 128) (l : Fin 64) :
    (iblk m c 2 (pt i) : Vec Ideal S128x64 .f32) (ix2 r l) = flat (X2 m c) (ix2 (row i r) l) := by
  obtain ⟨-, -, ⟨e0, e1⟩, -⟩ := idx (pt i)
  unfold iblk
  rw [View.read_apply]
  show V m c main_v2 _ = _
  rw [V_v2]
  congr 1; funext a; apply Fin.ext
  match a with
  | ⟨0, _⟩ => show win0_2.index (pt i) 0 * 128 + 1 * r.val = 128 * i.val + r.val; rw [e0]; show i.val * 128 + 1 * r.val = _; omega
  | ⟨1, _⟩ => show win0_2.index (pt i) 1 * 64 + 1 * l.val = l.val; rw [e1]; omega
theorem blk3 (i : Fin 8) (r : Fin 128) (l : Fin 64) :
    (iblk m c 3 (pt i) : Vec Ideal S128x64 .f32) (ix2 r l) = flat (X3 m c) (ix2 (row i r) l) := by
  obtain ⟨-, -, -, ⟨e0, e1⟩, -⟩ := idx (pt i)
  unfold iblk
  rw [View.read_apply]
  show V m c main_v3 _ = _
  rw [V_v3]
  congr 1; funext a; apply Fin.ext
  match a with
  | ⟨0, _⟩ => show win0_3.index (pt i) 0 * 128 + 1 * r.val = 128 * i.val + r.val; rw [e0]; show i.val * 128 + 1 * r.val = _; omega
  | ⟨1, _⟩ => show win0_3.index (pt i) 1 * 64 + 1 * l.val = l.val; rw [e1]; omega

/-- Two points write two tiles. -/
theorem inj4 (t t' : Fin cfg0.N) (h : win0_4.index t = win0_4.index t') : t = t' :=
  Fin.ext (((idx t).2.2.2.2.1.1).symm.trans ((congrFun h 0).trans (idx t').2.2.2.2.1.1))
theorem inj5 (t t' : Fin cfg0.N) (h : win0_5.index t = win0_5.index t') : t = t' :=
  Fin.ext (((idx t).2.2.2.2.2.1.1).symm.trans ((congrFun h 0).trans (idx t').2.2.2.2.2.1.1))
theorem inj6 (t t' : Fin cfg0.N) (h : win0_6.index t = win0_6.index t') : t = t' :=
  Fin.ext (((idx t).2.2.2.2.2.2.1).symm.trans ((congrFun h 0).trans (idx t').2.2.2.2.2.2.1))

/-- So a tile of each array, read back, is what its point wrote. -/
theorem tile4 (t : Fin cfg0.N) : ((cfg0.win 4).blk t).view.read (Elt Ideal) ((dats m 0 c).arrAt 4 cfg0.N)
    = k0_pay4 (F := Ideal) (iblk m c 1 t) (iblk m c 2 t) (iblk m c 3 t) (iblk m c 0 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, out4_eq]
  rfl
theorem tile5 (t : Fin cfg0.N) : ((cfg0.win 5).blk t).view.read (Elt Ideal) ((dats m 0 c).arrAt 5 cfg0.N)
    = k0_pay2 (F := Ideal) (iblk m c 1 t) (iblk m c 2 t) := by
  refine ((dats m 0 c).read_blk_arrAt_eq_flushed 5 (fun s s' _ _ hne => (cfg0.win 5).disjoint_blk fun h => hne (inj5 s s' h)) cfg0.N t t.isLt (flush0_5 t)).trans ?_
  show (cfg0.win 5).cut (grid0.coords t) ((dats m 0 c).after 5 t) = _
  rw [after0_5, out5_eq]
  rfl
theorem tile6 (t : Fin cfg0.N) : ((cfg0.win 6).blk t).view.read (Elt Ideal) ((dats m 0 c).arrAt 6 cfg0.N)
    = k0_pay3 (F := Ideal) (iblk m c 1 t) (iblk m c 3 t) := by
  refine ((dats m 0 c).read_blk_arrAt_eq_flushed 6 (fun s s' _ _ hne => (cfg0.win 6).disjoint_blk fun h => hne (inj6 s s' h)) cfg0.N t t.isLt (flush0_6 t)).trans ?_
  show (cfg0.win 6).cut (grid0.coords t) ((dats m 0 c).after 6 t) = _
  rw [after0_6, out6_eq]
  rfl

/-- Every entry of a flattened array lies in a tile. -/
theorem split (j : S1024x64.Idx) : ∃ (i : Fin 8) (r : Fin 128) (l : Fin 64), j = ix2 (row i r) l := by
  have h0 : (j 0).val < 1024 := (j 0).isLt
  refine ⟨⟨(j 0).val / 128, by omega⟩, ⟨(j 0).val % 128, by omega⟩, j 1, ?_⟩
  funext a; match a with
  | ⟨0, _⟩ => exact Fin.ext (by show (j 0).val = 128 * ((j 0).val / 128) + (j 0).val % 128; omega)
  | ⟨1, _⟩ => rfl

theorem arr4 : ((dats m 0 c).arrAt 4 cfg0.N : FVec Ideal S1024x64 .f32)
    = fun j => upd (flat (X0 m c) j) (flat (X1 m c) j) (flat (X2 m c) j) (flat (X3 m c) j) := by
  refine funext fun (j : S1024x64.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 128 + 1 * r.val = 128 * i.val + r.val; rw [e0]; show i.val * 128 + 1 * r.val = _; omega
    | ⟨1, _⟩ => show win0_4.index (pt i) 1 * 64 + 1 * l.val = l.val; rw [e1]; omega
  rw [he] at h
  refine Eq.trans h ((pay4_apply _ _ _ _ (ix2 r l)).trans ?_)
  rw [blk0 m c i r l, blk1 m c i r l, blk2 m c i r l, blk3 m c i r l]
theorem arr5 : ((dats m 0 c).arrAt 5 cfg0.N : FVec Ideal S1024x64 .f32) = fun j => mom (flat (X1 m c) j) (flat (X2 m c) j) := by
  refine funext fun (j : S1024x64.Idx) => ?_
  obtain ⟨i, r, l, rfl⟩ := split j
  obtain ⟨-, -, -, -, -, ⟨e0, e1⟩, -⟩ := idx (pt i)
  have h := congrFun (tile5 m c (pt i)) (ix2 r l)
  rw [View.read_apply] at h
  have he : ((cfg0.win 5).blk (pt i)).view.emb (ix2 r l) = ix2 (row i r) l := by
    funext a; apply Fin.ext
    match a with
    | ⟨0, _⟩ => show win0_5.index (pt i) 0 * 128 + 1 * r.val = 128 * i.val + r.val; rw [e0]; show i.val * 128 + 1 * r.val = _; omega
    | ⟨1, _⟩ => show win0_5.index (pt i) 1 * 64 + 1 * l.val = l.val; rw [e1]; omega
  rw [he] at h
  refine Eq.trans h ((pay2_apply _ _ (ix2 r l)).trans ?_)
  rw [blk1 m c i r l, blk2 m c i r l]
theorem arr6 : ((dats m 0 c).arrAt 6 cfg0.N : FVec Ideal S1024x64 .f32) = fun j => vel (flat (X1 m c) j) (flat (X3 m c) j) := by
  refine funext fun (j : S1024x64.Idx) => ?_
  obtain ⟨i, r, l, rfl⟩ := split j
  obtain ⟨-, -, -, -, -, -, ⟨e0, e1⟩⟩ := idx (pt i)
  have h := congrFun (tile6 m c (pt i)) (ix2 r l)
  rw [View.read_apply] at h
  have he : ((cfg0.win 6).blk (pt i)).view.emb (ix2 r l) = ix2 (row i r) l := by
    funext a; apply Fin.ext
    match a with
    | ⟨0, _⟩ => show win0_6.index (pt i) 0 * 128 + 1 * r.val = 128 * i.val + r.val; rw [e0]; show i.val * 128 + 1 * r.val = _; omega
    | ⟨1, _⟩ => show win0_6.index (pt i) 1 * 64 + 1 * l.val = l.val; rw [e1]; omega
  rw [he] at h
  refine Eq.trans h ((pay3_apply _ _ (ix2 r l)).trans ?_)
  rw [blk1 m c i r l, blk3 m c i r l]

/-! ## The results, at the parameter's own shape -/

/-- An array flattened and put back is itself. -/
theorem back (x : FVec Ideal S4x256x64 .f32) (j : S4x256x64.Idx) :
    flat x (Shape.reshapeEquiv shapeCasts_S1024x64_S4x256x64 j) = x j :=
  congrFun (shapeCast_shapeCast x shapeCasts_S4x256x64_S1024x64 shapeCasts_S1024x64_S4x256x64) j

/-- The contents of every buffer when the region ends: its arrays as written, the rest as found. -/
abbrev ended : Valuation τ sig (Elt Ideal) :=
  Pipeline.withArrays (cfgs 0).spec c (V0 m c) fun w => (dats m 0 c).arrAt w (cfgs 0).N

theorem ended4 : ended m c (Proc.devRef .tc main_v4_0) = (dats m 0 c).arrAt 4 cfg0.N :=
  Pipeline.withArrays_arr spec0 (by decide) c (V0 m c) (fun w => (dats m 0 c).arrAt w (cfgs 0).N) 4
theorem ended5 : ended m c (Proc.devRef .tc main_v4_1) = (dats m 0 c).arrAt 5 cfg0.N :=
  Pipeline.withArrays_arr spec0 (by decide) c (V0 m c) (fun w => (dats m 0 c).arrAt w (cfgs 0).N) 5
theorem ended6 : ended m c (Proc.devRef .tc main_v4_2) = (dats m 0 c).arrAt 6 cfg0.N :=
  Pipeline.withArrays_arr spec0 (by decide) c (V0 m c) (fun w => (dats m 0 c).arrAt w (cfgs 0).N) 6

theorem res5 : Pipeline.afterTail₀ cfgs (dats m) 0 (V0 m) [hostOps1] c main_v5
    = fun j => upd (X0 m c j) (X1 m c j) (X2 m c j) (X3 m c j) := by
  show StableHlo.after hostOps1 (ended m c) (Proc.devRef .tc main_v5) = _
  have h4 := (ended4 m c).trans (arr4 m c)
  generalize ended m c = W at *
  after_reads_simp
  refine funext fun (j : S4x256x64.Idx) => ?_
  refine (congrFun h4 (Shape.reshapeEquiv shapeCasts_S1024x64_S4x256x64 j)).trans ?_
  show upd (flat (X0 m c) _) (flat (X1 m c) _) (flat (X2 m c) _) (flat (X3 m c) _) = _
  rw [back, back, back, back]
theorem res6 : Pipeline.afterTail₀ cfgs (dats m) 0 (V0 m) [hostOps1] c main_v6 = fun j => mom (X1 m c j) (X2 m c j) := by
  show StableHlo.after hostOps1 (ended m c) (Proc.devRef .tc main_v6) = _
  have h5 := (ended5 m c).trans (arr5 m c)
  generalize ended m c = W at *
  after_reads_simp
  refine funext fun (j : S4x256x64.Idx) => ?_
  refine (congrFun h5 (Shape.reshapeEquiv shapeCasts_S1024x64_S4x256x64 j)).trans ?_
  show mom (flat (X1 m c) _) (flat (X2 m c) _) = _
  rw [back, back]
theorem res7 : Pipeline.afterTail₀ cfgs (dats m) 0 (V0 m) [hostOps1] c main_v7 = fun j => vel (X1 m c j) (X3 m c j) := by
  show StableHlo.after hostOps1 (ended m c) (Proc.devRef .tc main_v7) = _
  have h6 := (ended6 m c).trans (arr6 m c)
  generalize ended m c = W at *
  after_reads_simp
  refine funext fun (j : S4x256x64.Idx) => ?_
  refine (congrFun h6 (Shape.reshapeEquiv shapeCasts_S1024x64_S4x256x64 j)).trans ?_
  show vel (flat (X1 m c) _) (flat (X3 m c) _) = _
  rw [back, back]

/-! ## The claims -/

/-- The reference runs on the host alone: its run keeps the arguments, and it has no semaphore. -/
theorem frame_reference : Cert.quiescent_Reference20Ideal := fun m ρ _ =>
  (θ_run Cert.Reference20Ideal.defs _ _).mono (fun r h => ⟨fun c => (h c).2.2.2, Idealize.ShloMosaic.sem_eq_zero_of_no_sems (by decide) r.2⟩)
    (Cert.Reference20Ideal.Value.run (F := Ideal) m ρ)

/-- The kernel's three arrays are the reference's: the update and the two moments. -/
theorem algebraic : Cert.algebraic_Kernel20Ideal_Reference20Ideal := by
  intro m ρ m' ρ' hpre hagree
  refine ⟨fun c => (fun j => upd (X0 m c j) (X1 m c j) (X2 m c j) (X3 m c j) : FVec Ideal S4x256x64 .f32),
    fun c => (fun j => mom (X1 m c j) (X2 m c j) : FVec Ideal S4x256x64 .f32),
    fun c => (fun j => vel (X1 m c j) (X3 m c j) : FVec Ideal S4x256x64 .f32), ?_, ?_⟩
  · refine (θ_run defs _ _).mono (fun r h c => ?_) (run_main (F := Ideal) m ρ)
    have K := fun (b : Ref sig .tc) (h1 : b.isScoped = false) h2 => (h c).2 b (Pipeline.mem_restRefs_of b h1 h2)
    exact ⟨(K main_v5 (by decide) (by decide)).trans (res5 m c),
      (K main_v6 (by decide) (by decide)).trans (res6 m c),
      (K main_v7 (by decide) (by decide)).trans (res7 m c),
      (K main_arg0 (by decide) (by decide)).trans (W_main_arg0 m (dats m) c),
      (K main_arg1 (by decide) (by decide)).trans (W_main_arg1 m (dats m) c),
      (K main_arg2 (by decide) (by decide)).trans (W_main_arg2 m (dats m) c),
      (K main_arg3 (by decide) (by decide)).trans (W_main_arg3 m (dats m) c)⟩
  · refine (θ_run Cert.Reference20Ideal.defs _ _).mono (fun _ h c => ?_) (Cert.Reference20Ideal.Value.run (F := Ideal) m' ρ')
    obtain ⟨e0, e1, e2, e3⟩ := hagree c
    refine ⟨(h c).1.trans ((Cert.Reference20Ideal.Read.val_main_v23_eq _ _ _ _).trans ?_),
      (h c).2.1.trans ((Cert.Reference20Ideal.Read.val_main_v4_eq _ _).trans ?_),
      (h c).2.2.1.trans ((Cert.Reference20Ideal.Read.val_main_v10_eq _ _).trans ?_), (h c).2.2.2⟩
    · rw [e0, e1, e2, e3]; exact funext fun (j : S4x256x64.Idx) => ref_upd (X0 m c) (X1 m c) (X2 m c) (X3 m c) j
    · rw [e1, e2]; exact funext fun (j : S4x256x64.Idx) => ref_mom (X1 m c) (X2 m c) j
    · rw [e1, e3]; exact funext fun (j : S4x256x64.Idx) => ref_vel (X1 m c) (X3 m c) j

end Cert.AdamCmp

end
-- ==== Proof.AdamPw.lean ====
/-
  The optimiser's step on the pointwise convolution: what the kernel does tile by tile of 128 rows of the flattened array is, entry by
  entry, what the reference does on the whole.
-/
module

public import proofs.«01_k».proof.Defs
public import proofs.«01_k».proof.Proof.Gen.Kernel21Ideal.Frame
public import proofs.«01_k».proof.Proof.Gen.Reference21Ideal.Read
public import proofs.«01_k».proof.Proof.Step

@[expose] public section

set_option maxRecDepth 16384

noncomputable section

namespace Cert.AdamPw

open Idealize.ShloMosaic Idealize.SL.Sem Idealize.ShloMosaic.TcCoe Idealize.ShloMosaic.Tactic
open Cert.Kernel21Ideal Cert.Kernel21Ideal.Gen
open Idealize.ShloMosaic.Pipeline (Dat)
open Cert.Step (hz mom vel upd)

/-! ## The step on one entry -/

theorem pay2_apply (g m : Vec Ideal S128x256 .f32) (i : S128x256.Idx) : k0_pay2 (F := Ideal) g m i = mom (g i) (m i) := by
  unfold k0_pay2 k0_pay1
  simp only [shapeCast_self]
  rfl
theorem pay3_apply (g v : Vec Ideal S128x256 .f32) (i : S128x256.Idx) : k0_pay3 (F := Ideal) g v i = vel (g i) (v i) := by
  unfold k0_pay3 k0_pay1
  simp only [shapeCast_self]
  rfl
theorem pay4_apply (g m v w : Vec Ideal S128x256 .f32) (i : S128x256.Idx) :
    k0_pay4 (F := Ideal) g m v w i = upd (w i) (g i) (m i) (v i) := by
  unfold k0_pay4 upd
  rw [← pay2_apply g m i, ← pay3_apply g v i]
  simp only [shapeCast_self]
  rfl

section Ref
open Cert.Reference21Ideal.Read
variable (x0 x1 x2 x3 : FVec Ideal S4x32x256 .f32) (i : S4x32x256.Idx)
theorem ref_mom : val_main_v4 (F := Ideal) x1 x2 i = mom (x1 i) (x2 i) := rfl
theorem ref_vel : val_main_v10 (F := Ideal) x1 x3 i = vel (x1 i) (x3 i) := rfl
theorem ref_upd : val_main_v23 (F := Ideal) x0 x1 x2 x3 i = upd (x0 i) (x1 i) (x2 i) (x3 i) := by
  unfold upd
  rw [← ref_mom x1 x2 i, ← ref_vel x1 x3 i]
  rfl
end Ref

/-! ## The kernel's three arrays -/

theorem out4_eq (x0 x1 x2 x3 : Vec Ideal S128x256 .f32) : out0_4 (F := Ideal) x0 x1 x2 x3 = k0_pay4 x1 x2 x3 x0 := by
  unfold out0_4
  rw [View.canon_unit_zero (S := S128x256) hz]
  simp only [View.ld_unit_zero (S := S128x256) hz]
theorem out5_eq (x0 x1 x2 x3 : Vec Ideal S128x256 .f32) : out0_5 (F := Ideal) x0 x1 x2 x3 = k0_pay2 x1 x2 := by
  unfold out0_5
  rw [View.canon_unit_zero (S := S128x256) hz]
  simp only [View.ld_unit_zero (S := S128x256) hz]
theorem out6_eq (x0 x1 x2 x3 : Vec Ideal S128x256 .f32) : out0_6 (F := Ideal) x0 x1 x2 x3 = k0_pay3 x1 x3 := by
  unfold out0_6
  rw [View.canon_unit_zero (S := S128x256) hz]
  simp only [View.ld_unit_zero (S := S128x256) hz]

variable (m : (ℓ : Loc nD τ sig) → Buf (Elt Ideal) ℓ) (ρ : Dev nD → PrngReg) (c : Dev nD)

/-- The arrays the kernel is given, -/
abbrev X0 : FVec Ideal S4x32x256 .f32 := m ((c : Thread nD τ).loc main_arg0)
abbrev X1 : FVec Ideal S4x32x256 .f32 := m ((c : Thread nD τ).loc main_arg1)
abbrev X2 : FVec Ideal S4x32x256 .f32 := m ((c : Thread nD τ).loc main_arg2)
abbrev X3 : FVec Ideal S4x32x256 .f32 := m ((c : Thread nD τ).loc main_arg3)

/-- and flattened to rows. -/
abbrev flat (x : FVec Ideal S4x32x256 .f32) : FVec Ideal S128x256 .f32 := shapeCast S128x256 x shapeCasts_S4x32x256_S128x256

theorem V_v0 : V m c main_v0 = flat (X0 m c) := by
  show StableHlo.after hostOps0 _ (Proc.devRef .tc main_v0) = _
  after_reads_simp
  rfl
theorem V_v1 : V m c main_v1 = flat (X1 m c) := by
  show StableHlo.after hostOps0 _ (Proc.devRef .tc main_v1) = _
  after_reads_simp
  rfl
theorem V_v2 : V m c main_v2 = flat (X2 m c) := by
  show StableHlo.after hostOps0 _ (Proc.devRef .tc main_v2) = _
  after_reads_simp
  rfl
theorem V_v3 : V m c main_v3 = flat (X3 m c) := by
  show StableHlo.after hostOps0 _ (Proc.devRef .tc main_v3) = _
  after_reads_simp
  rfl

/-- The printed index maps, decided over the grid: the tile of rows is the point's number. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by
  decide +kernel

/-- The grid point of a tile of rows, and a tile's row as a row of the whole. -/
abbrev pt (i : Fin 1) : Fin cfg0.N := ⟨i.val, lt_of_lt_of_eq i.isLt (show 1 = cfg0.N from N_0.symm)⟩
abbrev row (i : Fin 1) (r : Fin 128) : Fin 128 := ⟨128 * i.val + r.val, by omega⟩

theorem blk0 (i : Fin 1) (r : Fin 128) (l : Fin 256) :
    (iblk m c 0 (pt i) : Vec Ideal S128x256 .f32) (ix2 r l) = flat (X0 m c) (ix2 (row i r) l) := by
  obtain ⟨⟨e0, e1⟩, -⟩ := idx (pt i)
  unfold iblk
  rw [View.read_apply]
  show V m c main_v0 _ = _
  rw [V_v0]
  congr 1; funext a; apply Fin.ext
  match a with
  | ⟨0, _⟩ => show win0_0.index (pt i) 0 * 128 + 1 * r.val = 128 * i.val + r.val; rw [e0]; show i.val * 128 + 1 * r.val = _; omega
  | ⟨1, _⟩ => show win0_0.index (pt i) 1 * 256 + 1 * l.val = l.val; rw [e1]; omega
theorem blk1 (i : Fin 1) (r : Fin 128) (l : Fin 256) :
    (iblk m c 1 (pt i) : Vec Ideal S128x256 .f32) (ix2 r l) = flat (X1 m c) (ix2 (row i r) l) := by
  obtain ⟨-, ⟨e0, e1⟩, -⟩ := idx (pt i)
  unfold iblk
  rw [View.read_apply]
  show V m c main_v1 _ = _
  rw [V_v1]
  congr 1; funext a; apply Fin.ext
  match a with
  | ⟨0, _⟩ => show win0_1.index (pt i) 0 * 128 + 1 * r.val = 128 * i.val + r.val; rw [e0]; show i.val * 128 + 1 * r.val = _; omega
  | ⟨1, _⟩ => show win0_1.index (pt i) 1 * 256 + 1 * l.val = l.val; rw [e1]; omega
theorem blk2 (i : Fin 1) (r : Fin 128) (l : Fin 256) :
    (iblk m c 2 (pt i) : Vec Ideal S128x256 .f32) (ix2 r l) = flat (X2 m c) (ix2 (row i r) l) := by
  obtain ⟨-, -, ⟨e0, e1⟩, -⟩ := idx (pt i)
  unfold iblk
  rw [View.read_apply]
  show V m c main_v2 _ = _
  rw [V_v2]
  congr 1; funext a; apply Fin.ext
  match a with
  | ⟨0, _⟩ => show win0_2.index (pt i) 0 * 128 + 1 * r.val = 128 * i.val + r.val; rw [e0]; show i.val * 128 + 1 * r.val = _; omega
  | ⟨1, _⟩ => show win0_2.index (pt i) 1 * 256 + 1 * l.val = l.val; rw [e1]; omega
theorem blk3 (i : Fin 1) (r : Fin 128) (l : Fin 256) :
    (iblk m c 3 (pt i) : Vec Ideal S128x256 .f32) (ix2 r l) = flat (X3 m c) (ix2 (row i r) l) := by
  obtain ⟨-, -, -, ⟨e0, e1⟩, -⟩ := idx (pt i)
  unfold iblk
  rw [View.read_apply]
  show V m c main_v3 _ = _
  rw [V_v3]
  congr 1; funext a; apply Fin.ext
  match a with
  | ⟨0, _⟩ => show win0_3.index (pt i) 0 * 128 + 1 * r.val = 128 * i.val + r.val; rw [e0]; show i.val * 128 + 1 * r.val = _; omega
  | ⟨1, _⟩ => show win0_3.index (pt i) 1 * 256 + 1 * l.val = l.val; rw [e1]; omega

/-- Two points write two tiles. -/
theorem inj4 (t t' : Fin cfg0.N) (h : win0_4.index t = win0_4.index t') : t = t' :=
  Fin.ext (((idx t).2.2.2.2.1.1).symm.trans ((congrFun h 0).trans (idx t').2.2.2.2.1.1))
theorem inj5 (t t' : Fin cfg0.N) (h : win0_5.index t = win0_5.index t') : t = t' :=
  Fin.ext (((idx t).2.2.2.2.2.1.1).symm.trans ((congrFun h 0).trans (idx t').2.2.2.2.2.1.1))
theorem inj6 (t t' : Fin cfg0.N) (h : win0_6.index t = win0_6.index t') : t = t' :=
  Fin.ext (((idx t).2.2.2.2.2.2.1).symm.trans ((congrFun h 0).trans (idx t').2.2.2.2.2.2.1))

/-- So a tile of each array, read back, is what its point wrote. -/
theorem tile4 (t : Fin cfg0.N) : ((cfg0.win 4).blk t).view.read (Elt Ideal) ((dats m 0 c).arrAt 4 cfg0.N)
    = k0_pay4 (F := Ideal) (iblk m c 1 t) (iblk m c 2 t) (iblk m c 3 t) (iblk m c 0 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, out4_eq]
  rfl
theorem tile5 (t : Fin cfg0.N) : ((cfg0.win 5).blk t).view.read (Elt Ideal) ((dats m 0 c).arrAt 5 cfg0.N)
    = k0_pay2 (F := Ideal) (iblk m c 1 t) (iblk m c 2 t) := by
  refine ((dats m 0 c).read_blk_arrAt_eq_flushed 5 (fun s s' _ _ hne => (cfg0.win 5).disjoint_blk fun h => hne (inj5 s s' h)) cfg0.N t t.isLt (flush0_5 t)).trans ?_
  show (cfg0.win 5).cut (grid0.coords t) ((dats m 0 c).after 5 t) = _
  rw [after0_5, out5_eq]
  rfl
theorem tile6 (t : Fin cfg0.N) : ((cfg0.win 6).blk t).view.read (Elt Ideal) ((dats m 0 c).arrAt 6 cfg0.N)
    = k0_pay3 (F := Ideal) (iblk m c 1 t) (iblk m c 3 t) := by
  refine ((dats m 0 c).read_blk_arrAt_eq_flushed 6 (fun s s' _ _ hne => (cfg0.win 6).disjoint_blk fun h => hne (inj6 s s' h)) cfg0.N t t.isLt (flush0_6 t)).trans ?_
  show (cfg0.win 6).cut (grid0.coords t) ((dats m 0 c).after 6 t) = _
  rw [after0_6, out6_eq]
  rfl

/-- Every entry of a flattened array lies in a tile. -/
theorem split (j : S128x256.Idx) : ∃ (i : Fin 1) (r : Fin 128) (l : Fin 256), j = ix2 (row i r) l := by
  have h0 : (j 0).val < 128 := (j 0).isLt
  refine ⟨⟨(j 0).val / 128, by omega⟩, ⟨(j 0).val % 128, by omega⟩, j 1, ?_⟩
  funext a; match a with
  | ⟨0, _⟩ => exact Fin.ext (by show (j 0).val = 128 * ((j 0).val / 128) + (j 0).val % 128; omega)
  | ⟨1, _⟩ => rfl

theorem arr4 : ((dats m 0 c).arrAt 4 cfg0.N : FVec Ideal S128x256 .f32)
    = fun j => upd (flat (X0 m c) j) (flat (X1 m c) j) (flat (X2 m c) j) (flat (X3 m c) j) := by
  refine funext fun (j : S128x256.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 128 + 1 * r.val = 128 * i.val + r.val; rw [e0]; show i.val * 128 + 1 * r.val = _; omega
    | ⟨1, _⟩ => show win0_4.index (pt i) 1 * 256 + 1 * l.val = l.val; rw [e1]; omega
  rw [he] at h
  refine Eq.trans h ((pay4_apply _ _ _ _ (ix2 r l)).trans ?_)
  rw [blk0 m c i r l, blk1 m c i r l, blk2 m c i r l, blk3 m c i r l]
theorem arr5 : ((dats m 0 c).arrAt 5 cfg0.N : FVec Ideal S128x256 .f32) = fun j => mom (flat (X1 m c) j) (flat (X2 m c) j) := by
  refine funext fun (j : S128x256.Idx) => ?_
  obtain ⟨i, r, l, rfl⟩ := split j
  obtain ⟨-, -, -, -, -, ⟨e0, e1⟩, -⟩ := idx (pt i)
  have h := congrFun (tile5 m c (pt i)) (ix2 r l)
  rw [View.read_apply] at h
  have he : ((cfg0.win 5).blk (pt i)).view.emb (ix2 r l) = ix2 (row i r) l := by
    funext a; apply Fin.ext
    match a with
    | ⟨0, _⟩ => show win0_5.index (pt i) 0 * 128 + 1 * r.val = 128 * i.val + r.val; rw [e0]; show i.val * 128 + 1 * r.val = _; omega
    | ⟨1, _⟩ => show win0_5.index (pt i) 1 * 256 + 1 * l.val = l.val; rw [e1]; omega
  rw [he] at h
  refine Eq.trans h ((pay2_apply _ _ (ix2 r l)).trans ?_)
  rw [blk1 m c i r l, blk2 m c i r l]
theorem arr6 : ((dats m 0 c).arrAt 6 cfg0.N : FVec Ideal S128x256 .f32) = fun j => vel (flat (X1 m c) j) (flat (X3 m c) j) := by
  refine funext fun (j : S128x256.Idx) => ?_
  obtain ⟨i, r, l, rfl⟩ := split j
  obtain ⟨-, -, -, -, -, -, ⟨e0, e1⟩⟩ := idx (pt i)
  have h := congrFun (tile6 m c (pt i)) (ix2 r l)
  rw [View.read_apply] at h
  have he : ((cfg0.win 6).blk (pt i)).view.emb (ix2 r l) = ix2 (row i r) l := by
    funext a; apply Fin.ext
    match a with
    | ⟨0, _⟩ => show win0_6.index (pt i) 0 * 128 + 1 * r.val = 128 * i.val + r.val; rw [e0]; show i.val * 128 + 1 * r.val = _; omega
    | ⟨1, _⟩ => show win0_6.index (pt i) 1 * 256 + 1 * l.val = l.val; rw [e1]; omega
  rw [he] at h
  refine Eq.trans h ((pay3_apply _ _ (ix2 r l)).trans ?_)
  rw [blk1 m c i r l, blk3 m c i r l]

/-! ## The results, at the parameter's own shape -/

/-- An array flattened and put back is itself. -/
theorem back (x : FVec Ideal S4x32x256 .f32) (j : S4x32x256.Idx) :
    flat x (Shape.reshapeEquiv shapeCasts_S128x256_S4x32x256 j) = x j :=
  congrFun (shapeCast_shapeCast x shapeCasts_S4x32x256_S128x256 shapeCasts_S128x256_S4x32x256) j

/-- The contents of every buffer when the region ends: its arrays as written, the rest as found. -/
abbrev ended : Valuation τ sig (Elt Ideal) :=
  Pipeline.withArrays (cfgs 0).spec c (V0 m c) fun w => (dats m 0 c).arrAt w (cfgs 0).N

theorem ended4 : ended m c (Proc.devRef .tc main_v4_0) = (dats m 0 c).arrAt 4 cfg0.N :=
  Pipeline.withArrays_arr spec0 (by decide) c (V0 m c) (fun w => (dats m 0 c).arrAt w (cfgs 0).N) 4
theorem ended5 : ended m c (Proc.devRef .tc main_v4_1) = (dats m 0 c).arrAt 5 cfg0.N :=
  Pipeline.withArrays_arr spec0 (by decide) c (V0 m c) (fun w => (dats m 0 c).arrAt w (cfgs 0).N) 5
theorem ended6 : ended m c (Proc.devRef .tc main_v4_2) = (dats m 0 c).arrAt 6 cfg0.N :=
  Pipeline.withArrays_arr spec0 (by decide) c (V0 m c) (fun w => (dats m 0 c).arrAt w (cfgs 0).N) 6

theorem res5 : Pipeline.afterTail₀ cfgs (dats m) 0 (V0 m) [hostOps1] c main_v5
    = fun j => upd (X0 m c j) (X1 m c j) (X2 m c j) (X3 m c j) := by
  show StableHlo.after hostOps1 (ended m c) (Proc.devRef .tc main_v5) = _
  have h4 := (ended4 m c).trans (arr4 m c)
  generalize ended m c = W at *
  after_reads_simp
  refine funext fun (j : S4x32x256.Idx) => ?_
  refine (congrFun h4 (Shape.reshapeEquiv shapeCasts_S128x256_S4x32x256 j)).trans ?_
  show upd (flat (X0 m c) _) (flat (X1 m c) _) (flat (X2 m c) _) (flat (X3 m c) _) = _
  rw [back, back, back, back]
theorem res6 : Pipeline.afterTail₀ cfgs (dats m) 0 (V0 m) [hostOps1] c main_v6 = fun j => mom (X1 m c j) (X2 m c j) := by
  show StableHlo.after hostOps1 (ended m c) (Proc.devRef .tc main_v6) = _
  have h5 := (ended5 m c).trans (arr5 m c)
  generalize ended m c = W at *
  after_reads_simp
  refine funext fun (j : S4x32x256.Idx) => ?_
  refine (congrFun h5 (Shape.reshapeEquiv shapeCasts_S128x256_S4x32x256 j)).trans ?_
  show mom (flat (X1 m c) _) (flat (X2 m c) _) = _
  rw [back, back]
theorem res7 : Pipeline.afterTail₀ cfgs (dats m) 0 (V0 m) [hostOps1] c main_v7 = fun j => vel (X1 m c j) (X3 m c j) := by
  show StableHlo.after hostOps1 (ended m c) (Proc.devRef .tc main_v7) = _
  have h6 := (ended6 m c).trans (arr6 m c)
  generalize ended m c = W at *
  after_reads_simp
  refine funext fun (j : S4x32x256.Idx) => ?_
  refine (congrFun h6 (Shape.reshapeEquiv shapeCasts_S128x256_S4x32x256 j)).trans ?_
  show vel (flat (X1 m c) _) (flat (X3 m c) _) = _
  rw [back, back]

/-! ## The claims -/

/-- The reference runs on the host alone: its run keeps the arguments, and it has no semaphore. -/
theorem frame_reference : Cert.quiescent_Reference21Ideal := fun m ρ _ =>
  (θ_run Cert.Reference21Ideal.defs _ _).mono (fun r h => ⟨fun c => (h c).2.2.2, Idealize.ShloMosaic.sem_eq_zero_of_no_sems (by decide) r.2⟩)
    (Cert.Reference21Ideal.Value.run (F := Ideal) m ρ)

/-- The kernel's three arrays are the reference's: the update and the two moments. -/
theorem algebraic : Cert.algebraic_Kernel21Ideal_Reference21Ideal := by
  intro m ρ m' ρ' hpre hagree
  refine ⟨fun c => (fun j => upd (X0 m c j) (X1 m c j) (X2 m c j) (X3 m c j) : FVec Ideal S4x32x256 .f32),
    fun c => (fun j => mom (X1 m c j) (X2 m c j) : FVec Ideal S4x32x256 .f32),
    fun c => (fun j => vel (X1 m c j) (X3 m c j) : FVec Ideal S4x32x256 .f32), ?_, ?_⟩
  · refine (θ_run defs _ _).mono (fun r h c => ?_) (run_main (F := Ideal) m ρ)
    have K := fun (b : Ref sig .tc) (h1 : b.isScoped = false) h2 => (h c).2 b (Pipeline.mem_restRefs_of b h1 h2)
    exact ⟨(K main_v5 (by decide) (by decide)).trans (res5 m c),
      (K main_v6 (by decide) (by decide)).trans (res6 m c),
      (K main_v7 (by decide) (by decide)).trans (res7 m c),
      (K main_arg0 (by decide) (by decide)).trans (W_main_arg0 m (dats m) c),
      (K main_arg1 (by decide) (by decide)).trans (W_main_arg1 m (dats m) c),
      (K main_arg2 (by decide) (by decide)).trans (W_main_arg2 m (dats m) c),
      (K main_arg3 (by decide) (by decide)).trans (W_main_arg3 m (dats m) c)⟩
  · refine (θ_run Cert.Reference21Ideal.defs _ _).mono (fun _ h c => ?_) (Cert.Reference21Ideal.Value.run (F := Ideal) m' ρ')
    obtain ⟨e0, e1, e2, e3⟩ := hagree c
    refine ⟨(h c).1.trans ((Cert.Reference21Ideal.Read.val_main_v23_eq _ _ _ _).trans ?_),
      (h c).2.1.trans ((Cert.Reference21Ideal.Read.val_main_v4_eq _ _).trans ?_),
      (h c).2.2.1.trans ((Cert.Reference21Ideal.Read.val_main_v10_eq _ _).trans ?_), (h c).2.2.2⟩
    · rw [e0, e1, e2, e3]; exact funext fun (j : S4x32x256.Idx) => ref_upd (X0 m c) (X1 m c) (X2 m c) (X3 m c) j
    · rw [e1, e2]; exact funext fun (j : S4x32x256.Idx) => ref_mom (X1 m c) (X2 m c) j
    · rw [e1, e3]; exact funext fun (j : S4x32x256.Idx) => ref_vel (X1 m c) (X3 m c) j

end Cert.AdamPw

end
-- ==== Proof.AdamPack.lean ====
/-
  The eighteen small parameters flattened and joined, end to end, into one array of rows of 128, and each cut out again.
-/
module

public import proofs.«01_k».proof.Proof.Gen.Kernel22Ideal.Skeleton
public import Idealize.ShloMosaic.Adequacy
public import Idealize.ShloMosaic.Init
public import Idealize.ShloMosaic.Lib.Pipeline.Value
public import Idealize.ShloMosaic.Lib.Pointwise
public import Idealize.ShloMosaic.Lib.Tactic
public import Idealize.ShloMosaic.Lib.KernelVsHost

@[expose] public section

set_option maxRecDepth 16384

noncomputable section

namespace Cert.AdamPack

open Idealize.ShloMosaic Idealize.SL.Sem Idealize.ShloMosaic.TcCoe Idealize.ShloMosaic.Tactic
open Cert.Kernel22Ideal Cert.Kernel22Ideal.Gen
open Idealize.ShloMosaic.Pipeline (Dat)

/-! ## The parameters, joined and cut -/

/-- The eighteen arrays. -/
structure Params where
  p0 : FVec Ideal S4x1024 .f32
  p1 : FVec Ideal S4x1024 .f32
  p2 : FVec Ideal S4x1024 .f32
  p3 : FVec Ideal S4x1024 .f32
  p4 : FVec Ideal S4x256 .f32
  p5 : FVec Ideal S4x4x128x128 .f32
  p6 : FVec Ideal S4x4x128 .f32
  p7 : FVec Ideal S4x31x32 .f32
  p8 : FVec Ideal S4x256 .f32
  p9 : FVec Ideal S4x256 .f32
  p10 : FVec Ideal S4x256 .f32
  p11 : FVec Ideal S4x256 .f32
  p12 : FVec Ideal S4x32x64 .f32
  p13 : FVec Ideal S4x32x64 .f32
  p14 : FVec Ideal S4x64x64 .f32
  p15 : FVec Ideal S4x64x64 .f32
  p16 : FVec Ideal S4x4x64x64 .f32
  p17 : FVec Ideal S4x256 .f32

/-- The first sixteen flattened end to end, the last two, and the whole with the rows filled up. -/
def front (A : Params) : FVec Ideal S338816 .f32 :=
  concatenate S338816 0 [⟨S4096, shapeCast S4096 A.p0 shapeCasts_S4x1024_S4096⟩, ⟨S4096, shapeCast S4096 A.p1 shapeCasts_S4x1024_S4096⟩, ⟨S4096, shapeCast S4096 A.p2 shapeCasts_S4x1024_S4096⟩, ⟨S4096, shapeCast S4096 A.p3 shapeCasts_S4x1024_S4096⟩, ⟨S1024, shapeCast S1024 A.p4 shapeCasts_S4x256_S1024⟩, ⟨S262144, shapeCast S262144 A.p5 shapeCasts_S4x4x128x128_S262144⟩, ⟨S2048, shapeCast S2048 A.p6 shapeCasts_S4x4x128_S2048⟩, ⟨S3968, shapeCast S3968 A.p7 shapeCasts_S4x31x32_S3968⟩, ⟨S1024, shapeCast S1024 A.p8 shapeCasts_S4x256_S1024⟩, ⟨S1024, shapeCast S1024 A.p9 shapeCasts_S4x256_S1024⟩, ⟨S1024, shapeCast S1024 A.p10 shapeCasts_S4x256_S1024⟩, ⟨S1024, shapeCast S1024 A.p11 shapeCasts_S4x256_S1024⟩, ⟨S8192, shapeCast S8192 A.p12 shapeCasts_S4x32x64_S8192⟩, ⟨S8192, shapeCast S8192 A.p13 shapeCasts_S4x32x64_S8192⟩, ⟨S16384, shapeCast S16384 A.p14 shapeCasts_S4x64x64_S16384⟩, ⟨S16384, shapeCast S16384 A.p15 shapeCasts_S4x64x64_S16384⟩] concatenates_S4096_S4096_S4096_S4096_S1024_S262144_S2048_S3968_S1024_S1024_S1024_S1024_S8192_S8192_S16384_S16384_S338816_d0
def rear (A : Params) : FVec Ideal S66560 .f32 :=
  concatenate S66560 0 [⟨S65536, shapeCast S65536 A.p16 shapeCasts_S4x4x64x64_S65536⟩, ⟨S1024, shapeCast S1024 A.p17 shapeCasts_S4x256_S1024⟩] concatenates_S65536_S1024_S66560_d0
def whole (x : FVec Ideal S338816 .f32) (y : FVec Ideal S66560 .f32) : FVec Ideal S425984 .f32 :=
  pad S425984 ![0] ![20608] ![0] (concatenate S405376 0 [⟨S338816, x⟩, ⟨S66560, y⟩] concatenates_S338816_S66560_S405376_d0)
    (sitofp .f32 (constantI S_ 32 0#32)) pads_S405376_S425984_0206080 h_S_
def pack (A : Params) : FVec Ideal S3328x128 .f32 := shapeCast S3328x128 (whole (front A) (rear A)) shapeCasts_S425984_S3328x128

/-- Where each of the joined arrays begins. -/
theorem starts (k : Fin 16) : ((([S4096, S4096, S4096, S4096, S1024, S262144, S2048, S3968, S1024, S1024, S1024, S1024, S8192, S8192, S16384, S16384] : List Shape).take k.val).map
    fun s => if h : s.rank = S338816.rank then s.size ((0 : Fin S338816.rank).cast h.symm) else 0).sum
    = (![0, 4096, 8192, 12288, 16384, 17408, 279552, 281600, 285568, 286592, 287616, 288640, 289664, 297856, 306048, 322432] : Fin 16 → Nat) k := by revert k; decide +kernel
theorem start1 : ((([S65536, S1024] : List Shape).take 1).map
    fun s => if h : s.rank = S66560.rank then s.size ((0 : Fin S66560.rank).cast h.symm) else 0).sum = 65536 := by decide +kernel
theorem start2 : ((([S338816, S66560] : List Shape).take 1).map
    fun s => if h : s.rank = S405376.rank then s.size ((0 : Fin S405376.rank).cast h.symm) else 0).sum = 338816 := by decide +kernel

section Whole
variable (x : FVec Ideal S338816 .f32) (y : FVec Ideal S66560 .f32)
theorem whole_fst (n : Nat) (h : n < 338816) : whole x y (ix1 ⟨n, by omega⟩) = x (ix1 ⟨n, h⟩) := by
  unfold whole
  refine (pad_apply_of_inside _ _ _ _ _ _ _ _ (ix1 ⟨n, by omega⟩) (fun a => match a with | ⟨0, _⟩ => by show n = 0 + n * (0 + 1); omega)).trans ?_
  exact concatenate_apply_piece (t := S405376) 0 _ _ _ 0 (by show 0 < 2; decide) S338816 x rfl rfl 0 rfl (ix1 ⟨n, h⟩) (fun b hb => absurd (Subsingleton.elim (α := Fin 1) _ _) hb) (Nat.zero_add n)
theorem whole_snd (n : Nat) (h : n < 66560) : whole x y (ix1 ⟨338816 + n, by omega⟩) = y (ix1 ⟨n, h⟩) := by
  unfold whole
  refine (pad_apply_of_inside _ _ _ _ _ _ _ _ (ix1 ⟨338816 + n, by omega⟩) (fun a => match a with | ⟨0, _⟩ => by show 338816 + n = 0 + (338816 + n) * (0 + 1); omega)).trans ?_
  exact concatenate_apply_piece (t := S405376) 0 _ _ _ 1 (by show 1 < 2; decide) S66560 y rfl rfl 338816 (by exact start2) (ix1 ⟨n, h⟩) (fun b hb => absurd (Subsingleton.elim (α := Fin 1) _ _) hb) rfl
end Whole

/-- A range of the flattened rows that holds a parameter, at the parameter's shape, is the parameter. -/
theorem cut {n : Nat} {s : Shape} (off : Nat) (a : FVec Ideal s .f32) (y : FVec Ideal S425984 .f32) (hs : S425984.Slices (![off] : Fin 1 → Nat) ⟨1, ![n]⟩)
    (h1 : s.ShapeCasts ⟨1, ![n]⟩) (h2 : (⟨1, ![n]⟩ : Shape).ShapeCasts s) (hb : off + n ≤ 425984)
    (H : ∀ j : Fin n, y (ix1 ⟨off + j.val, by omega⟩) = shapeCast ⟨1, ![n]⟩ a h1 (ix1 j)) :
    shapeCast s (extractStridedSlice ⟨1, ![n]⟩ ![off] (shapeCast S425984 (shapeCast S3328x128 y shapeCasts_S425984_S3328x128) shapeCasts_S3328x128_S425984) hs) h2 = a := by
  rw [shapeCast_shapeCast]
  have e : extractStridedSlice ⟨1, ![n]⟩ ![off] y hs = shapeCast ⟨1, ![n]⟩ a h1 := funext fun (j : (⟨1, ![n]⟩ : Shape).Idx) => by
    obtain ⟨i, rfl⟩ : ∃ i : Fin n, j = ix1 i := ⟨j 0, funext fun b => match b with | ⟨0, _⟩ => rfl⟩
    exact (extractStridedSlice_apply ![off] y hs (ix1 i) (ix1 ⟨off + i.val, by omega⟩) (fun b => match b with | ⟨0, _⟩ => rfl)).trans (H i)
  rw [e, shapeCast_shapeCast]

theorem back0 (A : Params) : shapeCast S4x1024 (extractStridedSlice S4096 ![0] (shapeCast S425984 (pack A) shapeCasts_S3328x128_S425984) slices_S425984_S4096_0) shapeCasts_S4096_S4x1024 = A.p0 :=
  cut 0 A.p0 (whole (front A) (rear A)) _ shapeCasts_S4x1024_S4096 _ (by decide) fun j => (whole_fst _ _ (0 + j.val) (by omega)).trans
    (concatenate_apply_piece (t := S338816) 0 _ _ _ 0 (by show 0 < 16; decide) S4096 _ rfl rfl 0 (by exact starts 0) (ix1 j) (fun b hb => absurd (Subsingleton.elim (α := Fin 1) _ _) hb) rfl)
theorem back1 (A : Params) : shapeCast S4x1024 (extractStridedSlice S4096 ![4096] (shapeCast S425984 (pack A) shapeCasts_S3328x128_S425984) slices_S425984_S4096_4096) shapeCasts_S4096_S4x1024 = A.p1 :=
  cut 4096 A.p1 (whole (front A) (rear A)) _ shapeCasts_S4x1024_S4096 _ (by decide) fun j => (whole_fst _ _ (4096 + j.val) (by omega)).trans
    (concatenate_apply_piece (t := S338816) 0 _ _ _ 1 (by show 1 < 16; decide) S4096 _ rfl rfl 4096 (by exact starts 1) (ix1 j) (fun b hb => absurd (Subsingleton.elim (α := Fin 1) _ _) hb) rfl)
theorem back2 (A : Params) : shapeCast S4x1024 (extractStridedSlice S4096 ![8192] (shapeCast S425984 (pack A) shapeCasts_S3328x128_S425984) slices_S425984_S4096_8192) shapeCasts_S4096_S4x1024 = A.p2 :=
  cut 8192 A.p2 (whole (front A) (rear A)) _ shapeCasts_S4x1024_S4096 _ (by decide) fun j => (whole_fst _ _ (8192 + j.val) (by omega)).trans
    (concatenate_apply_piece (t := S338816) 0 _ _ _ 2 (by show 2 < 16; decide) S4096 _ rfl rfl 8192 (by exact starts 2) (ix1 j) (fun b hb => absurd (Subsingleton.elim (α := Fin 1) _ _) hb) rfl)
theorem back3 (A : Params) : shapeCast S4x1024 (extractStridedSlice S4096 ![12288] (shapeCast S425984 (pack A) shapeCasts_S3328x128_S425984) slices_S425984_S4096_12288) shapeCasts_S4096_S4x1024 = A.p3 :=
  cut 12288 A.p3 (whole (front A) (rear A)) _ shapeCasts_S4x1024_S4096 _ (by decide) fun j => (whole_fst _ _ (12288 + j.val) (by omega)).trans
    (concatenate_apply_piece (t := S338816) 0 _ _ _ 3 (by show 3 < 16; decide) S4096 _ rfl rfl 12288 (by exact starts 3) (ix1 j) (fun b hb => absurd (Subsingleton.elim (α := Fin 1) _ _) hb) rfl)
theorem back4 (A : Params) : shapeCast S4x256 (extractStridedSlice S1024 ![16384] (shapeCast S425984 (pack A) shapeCasts_S3328x128_S425984) slices_S425984_S1024_16384) shapeCasts_S1024_S4x256 = A.p4 :=
  cut 16384 A.p4 (whole (front A) (rear A)) _ shapeCasts_S4x256_S1024 _ (by decide) fun j => (whole_fst _ _ (16384 + j.val) (by omega)).trans
    (concatenate_apply_piece (t := S338816) 0 _ _ _ 4 (by show 4 < 16; decide) S1024 _ rfl rfl 16384 (by exact starts 4) (ix1 j) (fun b hb => absurd (Subsingleton.elim (α := Fin 1) _ _) hb) rfl)
theorem back5 (A : Params) : shapeCast S4x4x128x128 (extractStridedSlice S262144 ![17408] (shapeCast S425984 (pack A) shapeCasts_S3328x128_S425984) slices_S425984_S262144_17408) shapeCasts_S262144_S4x4x128x128 = A.p5 :=
  cut 17408 A.p5 (whole (front A) (rear A)) _ shapeCasts_S4x4x128x128_S262144 _ (by decide) fun j => (whole_fst _ _ (17408 + j.val) (by omega)).trans
    (concatenate_apply_piece (t := S338816) 0 _ _ _ 5 (by show 5 < 16; decide) S262144 _ rfl rfl 17408 (by exact starts 5) (ix1 j) (fun b hb => absurd (Subsingleton.elim (α := Fin 1) _ _) hb) rfl)
theorem back6 (A : Params) : shapeCast S4x4x128 (extractStridedSlice S2048 ![279552] (shapeCast S425984 (pack A) shapeCasts_S3328x128_S425984) slices_S425984_S2048_279552) shapeCasts_S2048_S4x4x128 = A.p6 :=
  cut 279552 A.p6 (whole (front A) (rear A)) _ shapeCasts_S4x4x128_S2048 _ (by decide) fun j => (whole_fst _ _ (279552 + j.val) (by omega)).trans
    (concatenate_apply_piece (t := S338816) 0 _ _ _ 6 (by show 6 < 16; decide) S2048 _ rfl rfl 279552 (by exact starts 6) (ix1 j) (fun b hb => absurd (Subsingleton.elim (α := Fin 1) _ _) hb) rfl)
theorem back7 (A : Params) : shapeCast S4x31x32 (extractStridedSlice S3968 ![281600] (shapeCast S425984 (pack A) shapeCasts_S3328x128_S425984) slices_S425984_S3968_281600) shapeCasts_S3968_S4x31x32 = A.p7 :=
  cut 281600 A.p7 (whole (front A) (rear A)) _ shapeCasts_S4x31x32_S3968 _ (by decide) fun j => (whole_fst _ _ (281600 + j.val) (by omega)).trans
    (concatenate_apply_piece (t := S338816) 0 _ _ _ 7 (by show 7 < 16; decide) S3968 _ rfl rfl 281600 (by exact starts 7) (ix1 j) (fun b hb => absurd (Subsingleton.elim (α := Fin 1) _ _) hb) rfl)
theorem back8 (A : Params) : shapeCast S4x256 (extractStridedSlice S1024 ![285568] (shapeCast S425984 (pack A) shapeCasts_S3328x128_S425984) slices_S425984_S1024_285568) shapeCasts_S1024_S4x256 = A.p8 :=
  cut 285568 A.p8 (whole (front A) (rear A)) _ shapeCasts_S4x256_S1024 _ (by decide) fun j => (whole_fst _ _ (285568 + j.val) (by omega)).trans
    (concatenate_apply_piece (t := S338816) 0 _ _ _ 8 (by show 8 < 16; decide) S1024 _ rfl rfl 285568 (by exact starts 8) (ix1 j) (fun b hb => absurd (Subsingleton.elim (α := Fin 1) _ _) hb) rfl)
theorem back9 (A : Params) : shapeCast S4x256 (extractStridedSlice S1024 ![286592] (shapeCast S425984 (pack A) shapeCasts_S3328x128_S425984) slices_S425984_S1024_286592) shapeCasts_S1024_S4x256 = A.p9 :=
  cut 286592 A.p9 (whole (front A) (rear A)) _ shapeCasts_S4x256_S1024 _ (by decide) fun j => (whole_fst _ _ (286592 + j.val) (by omega)).trans
    (concatenate_apply_piece (t := S338816) 0 _ _ _ 9 (by show 9 < 16; decide) S1024 _ rfl rfl 286592 (by exact starts 9) (ix1 j) (fun b hb => absurd (Subsingleton.elim (α := Fin 1) _ _) hb) rfl)
theorem back10 (A : Params) : shapeCast S4x256 (extractStridedSlice S1024 ![287616] (shapeCast S425984 (pack A) shapeCasts_S3328x128_S425984) slices_S425984_S1024_287616) shapeCasts_S1024_S4x256 = A.p10 :=
  cut 287616 A.p10 (whole (front A) (rear A)) _ shapeCasts_S4x256_S1024 _ (by decide) fun j => (whole_fst _ _ (287616 + j.val) (by omega)).trans
    (concatenate_apply_piece (t := S338816) 0 _ _ _ 10 (by show 10 < 16; decide) S1024 _ rfl rfl 287616 (by exact starts 10) (ix1 j) (fun b hb => absurd (Subsingleton.elim (α := Fin 1) _ _) hb) rfl)
theorem back11 (A : Params) : shapeCast S4x256 (extractStridedSlice S1024 ![288640] (shapeCast S425984 (pack A) shapeCasts_S3328x128_S425984) slices_S425984_S1024_288640) shapeCasts_S1024_S4x256 = A.p11 :=
  cut 288640 A.p11 (whole (front A) (rear A)) _ shapeCasts_S4x256_S1024 _ (by decide) fun j => (whole_fst _ _ (288640 + j.val) (by omega)).trans
    (concatenate_apply_piece (t := S338816) 0 _ _ _ 11 (by show 11 < 16; decide) S1024 _ rfl rfl 288640 (by exact starts 11) (ix1 j) (fun b hb => absurd (Subsingleton.elim (α := Fin 1) _ _) hb) rfl)
theorem back12 (A : Params) : shapeCast S4x32x64 (extractStridedSlice S8192 ![289664] (shapeCast S425984 (pack A) shapeCasts_S3328x128_S425984) slices_S425984_S8192_289664) shapeCasts_S8192_S4x32x64 = A.p12 :=
  cut 289664 A.p12 (whole (front A) (rear A)) _ shapeCasts_S4x32x64_S8192 _ (by decide) fun j => (whole_fst _ _ (289664 + j.val) (by omega)).trans
    (concatenate_apply_piece (t := S338816) 0 _ _ _ 12 (by show 12 < 16; decide) S8192 _ rfl rfl 289664 (by exact starts 12) (ix1 j) (fun b hb => absurd (Subsingleton.elim (α := Fin 1) _ _) hb) rfl)
theorem back13 (A : Params) : shapeCast S4x32x64 (extractStridedSlice S8192 ![297856] (shapeCast S425984 (pack A) shapeCasts_S3328x128_S425984) slices_S425984_S8192_297856) shapeCasts_S8192_S4x32x64 = A.p13 :=
  cut 297856 A.p13 (whole (front A) (rear A)) _ shapeCasts_S4x32x64_S8192 _ (by decide) fun j => (whole_fst _ _ (297856 + j.val) (by omega)).trans
    (concatenate_apply_piece (t := S338816) 0 _ _ _ 13 (by show 13 < 16; decide) S8192 _ rfl rfl 297856 (by exact starts 13) (ix1 j) (fun b hb => absurd (Subsingleton.elim (α := Fin 1) _ _) hb) rfl)
theorem back14 (A : Params) : shapeCast S4x64x64 (extractStridedSlice S16384 ![306048] (shapeCast S425984 (pack A) shapeCasts_S3328x128_S425984) slices_S425984_S16384_306048) shapeCasts_S16384_S4x64x64 = A.p14 :=
  cut 306048 A.p14 (whole (front A) (rear A)) _ shapeCasts_S4x64x64_S16384 _ (by decide) fun j => (whole_fst _ _ (306048 + j.val) (by omega)).trans
    (concatenate_apply_piece (t := S338816) 0 _ _ _ 14 (by show 14 < 16; decide) S16384 _ rfl rfl 306048 (by exact starts 14) (ix1 j) (fun b hb => absurd (Subsingleton.elim (α := Fin 1) _ _) hb) rfl)
theorem back15 (A : Params) : shapeCast S4x64x64 (extractStridedSlice S16384 ![322432] (shapeCast S425984 (pack A) shapeCasts_S3328x128_S425984) slices_S425984_S16384_322432) shapeCasts_S16384_S4x64x64 = A.p15 :=
  cut 322432 A.p15 (whole (front A) (rear A)) _ shapeCasts_S4x64x64_S16384 _ (by decide) fun j => (whole_fst _ _ (322432 + j.val) (by omega)).trans
    (concatenate_apply_piece (t := S338816) 0 _ _ _ 15 (by show 15 < 16; decide) S16384 _ rfl rfl 322432 (by exact starts 15) (ix1 j) (fun b hb => absurd (Subsingleton.elim (α := Fin 1) _ _) hb) rfl)
theorem back16 (A : Params) : shapeCast S4x4x64x64 (extractStridedSlice S65536 ![338816] (shapeCast S425984 (pack A) shapeCasts_S3328x128_S425984) slices_S425984_S65536_338816) shapeCasts_S65536_S4x4x64x64 = A.p16 :=
  cut 338816 A.p16 (whole (front A) (rear A)) _ shapeCasts_S4x4x64x64_S65536 _ (by decide) fun j => (congrArg (whole (front A) (rear A)) (congrArg (ix1 (n0 := 425984)) (Fin.ext (by show 338816 + j.val = 338816 + (0 + j.val); omega)))).trans ((whole_snd _ _ (0 + j.val) (by omega)).trans
    (concatenate_apply_piece (t := S66560) 0 _ _ _ 0 (by show 0 < 2; decide) S65536 _ rfl rfl 0 rfl (ix1 j) (fun b hb => absurd (Subsingleton.elim (α := Fin 1) _ _) hb) rfl))
theorem back17 (A : Params) : shapeCast S4x256 (extractStridedSlice S1024 ![404352] (shapeCast S425984 (pack A) shapeCasts_S3328x128_S425984) slices_S425984_S1024_404352) shapeCasts_S1024_S4x256 = A.p17 :=
  cut 404352 A.p17 (whole (front A) (rear A)) _ shapeCasts_S4x256_S1024 _ (by decide) fun j => (congrArg (whole (front A) (rear A)) (congrArg (ix1 (n0 := 425984)) (Fin.ext (by show 404352 + j.val = 338816 + (65536 + j.val); omega)))).trans ((whole_snd _ _ (65536 + j.val) (by omega)).trans
    (concatenate_apply_piece (t := S66560) 0 _ _ _ 1 (by show 1 < 2; decide) S1024 _ rfl rfl 65536 (by exact start1) (ix1 j) (fun b hb => absurd (Subsingleton.elim (α := Fin 1) _ _) hb) rfl))

end Cert.AdamPack

end
-- ==== Proof.AdamSmall.lean ====
/-
  The optimiser's step on the eighteen small parameters: they are flattened and joined, end to end, into one array of rows of
  128, the kernel goes over its tiles, and each of the three arrays it writes is cut into the parameters' own again. Entry by
  entry this is what the reference does on each parameter.
-/
module

public import proofs.«01_k».proof.Defs
public import proofs.«01_k».proof.Proof.AdamPack
public import proofs.«01_k».proof.Proof.Gen.Kernel22Ideal.Frame
public import proofs.«01_k».proof.Proof.Gen.Reference22Ideal.Read
public import proofs.«01_k».proof.Proof.Step

@[expose] public section

set_option maxRecDepth 16384

noncomputable section

namespace Cert.AdamSmall

open Idealize.ShloMosaic Idealize.SL.Sem Idealize.ShloMosaic.TcCoe Idealize.ShloMosaic.Tactic
open Cert.Kernel22Ideal Cert.Kernel22Ideal.Gen
open Cert.AdamPack Idealize.ShloMosaic.Pipeline
open Cert.Step (hz mom vel upd)

/-! ## The step on one entry -/

theorem pay2_apply (g m : Vec Ideal S128x128 .f32) (i : S128x128.Idx) : k0_pay2 (F := Ideal) g m i = mom (g i) (m i) := by
  unfold k0_pay2 k0_pay1
  simp only [shapeCast_self]
  rfl
theorem pay3_apply (g v : Vec Ideal S128x128 .f32) (i : S128x128.Idx) : k0_pay3 (F := Ideal) g v i = vel (g i) (v i) := by
  unfold k0_pay3 k0_pay1
  simp only [shapeCast_self]
  rfl
theorem pay4_apply (g m v w : Vec Ideal S128x128 .f32) (i : S128x128.Idx) :
    k0_pay4 (F := Ideal) g m v w i = upd (w i) (g i) (m i) (v i) := by
  unfold k0_pay4 upd
  rw [← pay2_apply g m i, ← pay3_apply g v i]
  simp only [shapeCast_self]
  rfl

/-- The same over a whole array. -/
abbrev upds {s : Shape} (w g m v : FVec Ideal s .f32) : FVec Ideal s .f32 := fun j => upd (w j) (g j) (m j) (v j)
abbrev moms {s : Shape} (g m : FVec Ideal s .f32) : FVec Ideal s .f32 := fun j => mom (g j) (m j)
abbrev vels {s : Shape} (g v : FVec Ideal s .f32) : FVec Ideal s .f32 := fun j => vel (g j) (v j)
theorem upds_eq {s : Shape} {w g m v w' g' m' v' : FVec Ideal s .f32} (h0 : w = w') (h1 : g = g') (h2 : m = m') (h3 : v = v') :
    upds w g m v = upds w' g' m' v' := by rw [h0, h1, h2, h3]
theorem moms_eq {s : Shape} {g m g' m' : FVec Ideal s .f32} (h1 : g = g') (h2 : m = m') : moms g m = moms g' m' := by rw [h1, h2]
theorem vels_eq {s : Shape} {g v g' v' : FVec Ideal s .f32} (h1 : g = g') (h2 : v = v') : vels g v = vels g' v' := by rw [h1, h2]

/-! ## The kernel's three arrays -/

theorem out4_eq (x0 x1 x2 x3 : Vec Ideal S128x128 .f32) : out0_4 (F := Ideal) x0 x1 x2 x3 = k0_pay4 x1 x2 x3 x0 := by
  unfold out0_4
  rw [View.canon_unit_zero (S := S128x128) hz]
  simp only [View.ld_unit_zero (S := S128x128) hz]
theorem out5_eq (x0 x1 x2 x3 : Vec Ideal S128x128 .f32) : out0_5 (F := Ideal) x0 x1 x2 x3 = k0_pay2 x1 x2 := by
  unfold out0_5
  rw [View.canon_unit_zero (S := S128x128) hz]
  simp only [View.ld_unit_zero (S := S128x128) hz]
theorem out6_eq (x0 x1 x2 x3 : Vec Ideal S128x128 .f32) : out0_6 (F := Ideal) x0 x1 x2 x3 = k0_pay3 x1 x3 := by
  unfold out0_6
  rw [View.canon_unit_zero (S := S128x128) hz]
  simp only [View.ld_unit_zero (S := S128x128) hz]

variable (m : (ℓ : Loc nD τ sig) → Buf (Elt Ideal) ℓ) (ρ : Dev nD → PrngReg) (c : Dev nD)

/-- What is given, and its four packed arrays. -/
abbrev X0 : Params := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14), m ((c : Thread nD τ).loc main_arg15), m ((c : Thread nD τ).loc main_arg16), m ((c : Thread nD τ).loc main_arg17)⟩
abbrev X1 : Params := ⟨m ((c : Thread nD τ).loc main_arg18), m ((c : Thread nD τ).loc main_arg19), m ((c : Thread nD τ).loc main_arg20), m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27), m ((c : Thread nD τ).loc main_arg28), m ((c : Thread nD τ).loc main_arg29), m ((c : Thread nD τ).loc main_arg30), m ((c : Thread nD τ).loc main_arg31), m ((c : Thread nD τ).loc main_arg32), m ((c : Thread nD τ).loc main_arg33), m ((c : Thread nD τ).loc main_arg34), m ((c : Thread nD τ).loc main_arg35)⟩
abbrev X2 : Params := ⟨m ((c : Thread nD τ).loc main_arg36), m ((c : Thread nD τ).loc main_arg37), m ((c : Thread nD τ).loc main_arg38), m ((c : Thread nD τ).loc main_arg39), m ((c : Thread nD τ).loc main_arg40), m ((c : Thread nD τ).loc main_arg41), m ((c : Thread nD τ).loc main_arg42), m ((c : Thread nD τ).loc main_arg43), m ((c : Thread nD τ).loc main_arg44), m ((c : Thread nD τ).loc main_arg45), m ((c : Thread nD τ).loc main_arg46), m ((c : Thread nD τ).loc main_arg47), m ((c : Thread nD τ).loc main_arg48), m ((c : Thread nD τ).loc main_arg49), m ((c : Thread nD τ).loc main_arg50), m ((c : Thread nD τ).loc main_arg51), m ((c : Thread nD τ).loc main_arg52), m ((c : Thread nD τ).loc main_arg53)⟩
abbrev X3 : Params := ⟨m ((c : Thread nD τ).loc main_arg54), m ((c : Thread nD τ).loc main_arg55), m ((c : Thread nD τ).loc main_arg56), m ((c : Thread nD τ).loc main_arg57), m ((c : Thread nD τ).loc main_arg58), m ((c : Thread nD τ).loc main_arg59), m ((c : Thread nD τ).loc main_arg60), m ((c : Thread nD τ).loc main_arg61), m ((c : Thread nD τ).loc main_arg62), m ((c : Thread nD τ).loc main_arg63), m ((c : Thread nD τ).loc main_arg64), m ((c : Thread nD τ).loc main_arg65), m ((c : Thread nD τ).loc main_arg66), m ((c : Thread nD τ).loc main_arg67), m ((c : Thread nD τ).loc main_arg68), m ((c : Thread nD τ).loc main_arg69), m ((c : Thread nD τ).loc main_arg70), m ((c : Thread nD τ).loc main_arg71)⟩
set_option maxHeartbeats 4000000 in
theorem V_v0 : V m c main_v22 = pack (X0 m c) := by
  show StableHlo.after (List.flatten [hostOps0, hostOps0_1, hostOps0_2, hostOps0_3, hostOps0_4, hostOps0_5, hostOps0_6, hostOps0_7, hostOps0_8]) _ (Proc.devRef .tc main_v22) = _
  simp only [List.flatten_cons, List.flatten_nil, List.append_nil, List.cons_append, List.nil_append]
  after_reads_simp
  rfl
set_option maxHeartbeats 4000000 in
theorem V_v1 : V m c main_v45 = pack (X1 m c) := by
  show StableHlo.after (List.flatten [hostOps0, hostOps0_1, hostOps0_2, hostOps0_3, hostOps0_4, hostOps0_5, hostOps0_6, hostOps0_7, hostOps0_8]) _ (Proc.devRef .tc main_v45) = _
  simp only [List.flatten_cons, List.flatten_nil, List.append_nil, List.cons_append, List.nil_append]
  after_reads_simp
  rfl
set_option maxHeartbeats 4000000 in
theorem V_v2 : V m c main_v68 = pack (X2 m c) := by
  show StableHlo.after (List.flatten [hostOps0, hostOps0_1, hostOps0_2, hostOps0_3, hostOps0_4, hostOps0_5, hostOps0_6, hostOps0_7, hostOps0_8]) _ (Proc.devRef .tc main_v68) = _
  simp only [List.flatten_cons, List.flatten_nil, List.append_nil, List.cons_append, List.nil_append]
  after_reads_simp
  rfl
set_option maxHeartbeats 4000000 in
theorem V_v3 : V m c main_v91 = pack (X3 m c) := by
  show StableHlo.after (List.flatten [hostOps0, hostOps0_1, hostOps0_2, hostOps0_3, hostOps0_4, hostOps0_5, hostOps0_6, hostOps0_7, hostOps0_8]) _ (Proc.devRef .tc main_v91) = _
  simp only [List.flatten_cons, List.flatten_nil, List.append_nil, List.cons_append, List.nil_append]
  after_reads_simp
  rfl

/-- The printed index maps, decided over the grid: the tile of rows is the point's number. -/
theorem idx : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) := by
  decide +kernel

/-- The grid point of a tile of rows, and a tile's row as a row of the whole. -/
abbrev pt (i : Fin 26) : Fin cfg0.N := ⟨i.val, lt_of_lt_of_eq i.isLt (show 26 = cfg0.N from N_0.symm)⟩
abbrev row (i : Fin 26) (r : Fin 128) : Fin 3328 := ⟨128 * i.val + r.val, by omega⟩

theorem blk0 (i : Fin 26) (r : Fin 128) (l : Fin 128) :
    (iblk m c 0 (pt i) : Vec Ideal S128x128 .f32) (ix2 r l) = pack (X0 m c) (ix2 (row i r) l) := by
  obtain ⟨⟨e0, e1⟩, -⟩ := idx (pt i)
  unfold iblk
  rw [View.read_apply]
  show V m c main_v22 _ = _
  rw [V_v0]
  congr 1; funext a; apply Fin.ext
  match a with
  | ⟨0, _⟩ => show win0_0.index (pt i) 0 * 128 + 1 * r.val = 128 * i.val + r.val; rw [e0]; show i.val * 128 + 1 * r.val = _; omega
  | ⟨1, _⟩ => show win0_0.index (pt i) 1 * 128 + 1 * l.val = l.val; rw [e1]; omega
theorem blk1 (i : Fin 26) (r : Fin 128) (l : Fin 128) :
    (iblk m c 1 (pt i) : Vec Ideal S128x128 .f32) (ix2 r l) = pack (X1 m c) (ix2 (row i r) l) := by
  obtain ⟨-, ⟨e0, e1⟩, -⟩ := idx (pt i)
  unfold iblk
  rw [View.read_apply]
  show V m c main_v45 _ = _
  rw [V_v1]
  congr 1; funext a; apply Fin.ext
  match a with
  | ⟨0, _⟩ => show win0_1.index (pt i) 0 * 128 + 1 * r.val = 128 * i.val + r.val; rw [e0]; show i.val * 128 + 1 * r.val = _; omega
  | ⟨1, _⟩ => show win0_1.index (pt i) 1 * 128 + 1 * l.val = l.val; rw [e1]; omega
theorem blk2 (i : Fin 26) (r : Fin 128) (l : Fin 128) :
    (iblk m c 2 (pt i) : Vec Ideal S128x128 .f32) (ix2 r l) = pack (X2 m c) (ix2 (row i r) l) := by
  obtain ⟨-, -, ⟨e0, e1⟩, -⟩ := idx (pt i)
  unfold iblk
  rw [View.read_apply]
  show V m c main_v68 _ = _
  rw [V_v2]
  congr 1; funext a; apply Fin.ext
  match a with
  | ⟨0, _⟩ => show win0_2.index (pt i) 0 * 128 + 1 * r.val = 128 * i.val + r.val; rw [e0]; show i.val * 128 + 1 * r.val = _; omega
  | ⟨1, _⟩ => show win0_2.index (pt i) 1 * 128 + 1 * l.val = l.val; rw [e1]; omega
theorem blk3 (i : Fin 26) (r : Fin 128) (l : Fin 128) :
    (iblk m c 3 (pt i) : Vec Ideal S128x128 .f32) (ix2 r l) = pack (X3 m c) (ix2 (row i r) l) := by
  obtain ⟨-, -, -, ⟨e0, e1⟩, -⟩ := idx (pt i)
  unfold iblk
  rw [View.read_apply]
  show V m c main_v91 _ = _
  rw [V_v3]
  congr 1; funext a; apply Fin.ext
  match a with
  | ⟨0, _⟩ => show win0_3.index (pt i) 0 * 128 + 1 * r.val = 128 * i.val + r.val; rw [e0]; show i.val * 128 + 1 * r.val = _; omega
  | ⟨1, _⟩ => show win0_3.index (pt i) 1 * 128 + 1 * l.val = l.val; rw [e1]; omega

/-- Two points write two tiles. -/
theorem inj4 (t t' : Fin cfg0.N) (h : win0_4.index t = win0_4.index t') : t = t' :=
  Fin.ext (((idx t).2.2.2.2.1.1).symm.trans ((congrFun h 0).trans (idx t').2.2.2.2.1.1))
theorem inj5 (t t' : Fin cfg0.N) (h : win0_5.index t = win0_5.index t') : t = t' :=
  Fin.ext (((idx t).2.2.2.2.2.1.1).symm.trans ((congrFun h 0).trans (idx t').2.2.2.2.2.1.1))
theorem inj6 (t t' : Fin cfg0.N) (h : win0_6.index t = win0_6.index t') : t = t' :=
  Fin.ext (((idx t).2.2.2.2.2.2.1).symm.trans ((congrFun h 0).trans (idx t').2.2.2.2.2.2.1))

/-- So a tile of each array, read back, is what its point wrote. -/
theorem tile4 (t : Fin cfg0.N) : ((cfg0.win 4).blk t).view.read (Elt Ideal) ((dats m 0 c).arrAt 4 cfg0.N)
    = k0_pay4 (F := Ideal) (iblk m c 1 t) (iblk m c 2 t) (iblk m c 3 t) (iblk m c 0 t) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4, out4_eq]
  rfl
theorem tile5 (t : Fin cfg0.N) : ((cfg0.win 5).blk t).view.read (Elt Ideal) ((dats m 0 c).arrAt 5 cfg0.N)
    = k0_pay2 (F := Ideal) (iblk m c 1 t) (iblk m c 2 t) := by
  refine ((dats m 0 c).read_blk_arrAt_eq_flushed 5 (fun s s' _ _ hne => (cfg0.win 5).disjoint_blk fun h => hne (inj5 s s' h)) cfg0.N t t.isLt (flush0_5 t)).trans ?_
  show (cfg0.win 5).cut (grid0.coords t) ((dats m 0 c).after 5 t) = _
  rw [after0_5, out5_eq]
  rfl
theorem tile6 (t : Fin cfg0.N) : ((cfg0.win 6).blk t).view.read (Elt Ideal) ((dats m 0 c).arrAt 6 cfg0.N)
    = k0_pay3 (F := Ideal) (iblk m c 1 t) (iblk m c 3 t) := by
  refine ((dats m 0 c).read_blk_arrAt_eq_flushed 6 (fun s s' _ _ hne => (cfg0.win 6).disjoint_blk fun h => hne (inj6 s s' h)) cfg0.N t t.isLt (flush0_6 t)).trans ?_
  show (cfg0.win 6).cut (grid0.coords t) ((dats m 0 c).after 6 t) = _
  rw [after0_6, out6_eq]
  rfl

/-- Every entry of a packed array lies in a tile. -/
theorem split (j : S3328x128.Idx) : ∃ (i : Fin 26) (r : Fin 128) (l : Fin 128), j = ix2 (row i r) l := by
  have h0 : (j 0).val < 3328 := (j 0).isLt
  refine ⟨⟨(j 0).val / 128, by omega⟩, ⟨(j 0).val % 128, by omega⟩, j 1, ?_⟩
  funext a; match a with
  | ⟨0, _⟩ => exact Fin.ext (by show (j 0).val = 128 * ((j 0).val / 128) + (j 0).val % 128; omega)
  | ⟨1, _⟩ => rfl

theorem arr4 : ((dats m 0 c).arrAt 4 cfg0.N : FVec Ideal S3328x128 .f32)
    = fun j => upd (pack (X0 m c) j) (pack (X1 m c) j) (pack (X2 m c) j) (pack (X3 m c) j) := by
  refine funext fun (j : S3328x128.Idx) => ?_
  obtain ⟨i, r, l, rfl⟩ := split j
  obtain ⟨-, -, -, -, ⟨e0, e1⟩, -⟩ := idx (pt i)
  have h := congrFun (tile4 m c (pt i)) (ix2 r l)
  rw [View.read_apply] at h
  have he : ((cfg0.win 4).blk (pt i)).view.emb (ix2 r l) = ix2 (row i r) l := by
    funext a; apply Fin.ext
    match a with
    | ⟨0, _⟩ => show win0_4.index (pt i) 0 * 128 + 1 * r.val = 128 * i.val + r.val; rw [e0]; show i.val * 128 + 1 * r.val = _; omega
    | ⟨1, _⟩ => show win0_4.index (pt i) 1 * 128 + 1 * l.val = l.val; rw [e1]; omega
  rw [he] at h
  refine Eq.trans h ((pay4_apply _ _ _ _ (ix2 r l)).trans ?_)
  rw [blk0 m c i r l, blk1 m c i r l, blk2 m c i r l, blk3 m c i r l]
theorem arr5 : ((dats m 0 c).arrAt 5 cfg0.N : FVec Ideal S3328x128 .f32) = fun j => mom (pack (X1 m c) j) (pack (X2 m c) j) := by
  refine funext fun (j : S3328x128.Idx) => ?_
  obtain ⟨i, r, l, rfl⟩ := split j
  obtain ⟨-, -, -, -, -, ⟨e0, e1⟩, -⟩ := idx (pt i)
  have h := congrFun (tile5 m c (pt i)) (ix2 r l)
  rw [View.read_apply] at h
  have he : ((cfg0.win 5).blk (pt i)).view.emb (ix2 r l) = ix2 (row i r) l := by
    funext a; apply Fin.ext
    match a with
    | ⟨0, _⟩ => show win0_5.index (pt i) 0 * 128 + 1 * r.val = 128 * i.val + r.val; rw [e0]; show i.val * 128 + 1 * r.val = _; omega
    | ⟨1, _⟩ => show win0_5.index (pt i) 1 * 128 + 1 * l.val = l.val; rw [e1]; omega
  rw [he] at h
  refine Eq.trans h ((pay2_apply _ _ (ix2 r l)).trans ?_)
  rw [blk1 m c i r l, blk2 m c i r l]
theorem arr6 : ((dats m 0 c).arrAt 6 cfg0.N : FVec Ideal S3328x128 .f32) = fun j => vel (pack (X1 m c) j) (pack (X3 m c) j) := by
  refine funext fun (j : S3328x128.Idx) => ?_
  obtain ⟨i, r, l, rfl⟩ := split j
  obtain ⟨-, -, -, -, -, -, ⟨e0, e1⟩⟩ := idx (pt i)
  have h := congrFun (tile6 m c (pt i)) (ix2 r l)
  rw [View.read_apply] at h
  have he : ((cfg0.win 6).blk (pt i)).view.emb (ix2 r l) = ix2 (row i r) l := by
    funext a; apply Fin.ext
    match a with
    | ⟨0, _⟩ => show win0_6.index (pt i) 0 * 128 + 1 * r.val = 128 * i.val + r.val; rw [e0]; show i.val * 128 + 1 * r.val = _; omega
    | ⟨1, _⟩ => show win0_6.index (pt i) 1 * 128 + 1 * l.val = l.val; rw [e1]; omega
  rw [he] at h
  refine Eq.trans h ((pay3_apply _ _ (ix2 r l)).trans ?_)
  rw [blk1 m c i r l, blk3 m c i r l]

/-! ## The results, each at its parameter's own shape -/

/-- The contents of every buffer when the region ends: its arrays as written, the rest as found. -/
abbrev ended : Valuation τ sig (Elt Ideal) :=
  Pipeline.withArrays (cfgs 0).spec c (V0 m c) fun w => (dats m 0 c).arrAt w (cfgs 0).N
theorem ended4 : ended m c (Proc.devRef .tc main_v92_0) = (dats m 0 c).arrAt 4 cfg0.N :=
  Pipeline.withArrays_arr spec0 (by decide) c (V0 m c) (fun w => (dats m 0 c).arrAt w (cfgs 0).N) 4
theorem ended5 : ended m c (Proc.devRef .tc main_v92_1) = (dats m 0 c).arrAt 5 cfg0.N :=
  Pipeline.withArrays_arr spec0 (by decide) c (V0 m c) (fun w => (dats m 0 c).arrAt w (cfgs 0).N) 5
theorem ended6 : ended m c (Proc.devRef .tc main_v92_2) = (dats m 0 c).arrAt 6 cfg0.N :=
  Pipeline.withArrays_arr spec0 (by decide) c (V0 m c) (fun w => (dats m 0 c).arrAt w (cfgs 0).N) 6
/-- A parameter's update and its two moments. -/
abbrev U {s : Shape} (f : Params → FVec Ideal s .f32) : FVec Ideal s .f32 := upds (f (X0 m c)) (f (X1 m c)) (f (X2 m c)) (f (X3 m c))
abbrev M {s : Shape} (f : Params → FVec Ideal s .f32) : FVec Ideal s .f32 := moms (f (X1 m c)) (f (X2 m c))
abbrev N {s : Shape} (f : Params → FVec Ideal s .f32) : FVec Ideal s .f32 := vels (f (X1 m c)) (f (X3 m c))
/-- What a buffer holds at the end. -/
abbrev last (b : Ref sig .tc) : Buf (Elt Ideal) ((c : Thread nD τ).loc b) := Pipeline.afterTail₀ cfgs (dats m) 0 (V0 m) [hostOps1] c b
theorem r0 : last m c main_v95 = U m c (·.p0) ∧ last m c main_v132 = M m c (·.p0) ∧ last m c main_v169 = N m c (·.p0) := by
  show StableHlo.after hostOps1 (ended m c) (Proc.devRef .tc main_v95) = _ ∧ StableHlo.after hostOps1 (ended m c) (Proc.devRef .tc main_v132) = _ ∧ StableHlo.after hostOps1 (ended m c) (Proc.devRef .tc main_v169) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back0 _) (back0 _) (back0 _) (back0 _), moms_eq (back0 _) (back0 _), vels_eq (back0 _) (back0 _)⟩
theorem r1 : last m c main_v97 = U m c (·.p1) ∧ last m c main_v134 = M m c (·.p1) ∧ last m c main_v171 = N m c (·.p1) := by
  show StableHlo.after hostOps1 (ended m c) (Proc.devRef .tc main_v97) = _ ∧ StableHlo.after hostOps1 (ended m c) (Proc.devRef .tc main_v134) = _ ∧ StableHlo.after hostOps1 (ended m c) (Proc.devRef .tc main_v171) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back1 _) (back1 _) (back1 _) (back1 _), moms_eq (back1 _) (back1 _), vels_eq (back1 _) (back1 _)⟩
theorem r2 : last m c main_v99 = U m c (·.p2) ∧ last m c main_v136 = M m c (·.p2) ∧ last m c main_v173 = N m c (·.p2) := by
  show StableHlo.after hostOps1 (ended m c) (Proc.devRef .tc main_v99) = _ ∧ StableHlo.after hostOps1 (ended m c) (Proc.devRef .tc main_v136) = _ ∧ StableHlo.after hostOps1 (ended m c) (Proc.devRef .tc main_v173) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back2 _) (back2 _) (back2 _) (back2 _), moms_eq (back2 _) (back2 _), vels_eq (back2 _) (back2 _)⟩
theorem r3 : last m c main_v101 = U m c (·.p3) ∧ last m c main_v138 = M m c (·.p3) ∧ last m c main_v175 = N m c (·.p3) := by
  show StableHlo.after hostOps1 (ended m c) (Proc.devRef .tc main_v101) = _ ∧ StableHlo.after hostOps1 (ended m c) (Proc.devRef .tc main_v138) = _ ∧ StableHlo.after hostOps1 (ended m c) (Proc.devRef .tc main_v175) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back3 _) (back3 _) (back3 _) (back3 _), moms_eq (back3 _) (back3 _), vels_eq (back3 _) (back3 _)⟩
theorem r4 : last m c main_v103 = U m c (·.p4) ∧ last m c main_v140 = M m c (·.p4) ∧ last m c main_v177 = N m c (·.p4) := by
  show StableHlo.after hostOps1 (ended m c) (Proc.devRef .tc main_v103) = _ ∧ StableHlo.after hostOps1 (ended m c) (Proc.devRef .tc main_v140) = _ ∧ StableHlo.after hostOps1 (ended m c) (Proc.devRef .tc main_v177) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back4 _) (back4 _) (back4 _) (back4 _), moms_eq (back4 _) (back4 _), vels_eq (back4 _) (back4 _)⟩
theorem r5 : last m c main_v105 = U m c (·.p5) ∧ last m c main_v142 = M m c (·.p5) ∧ last m c main_v179 = N m c (·.p5) := by
  show StableHlo.after hostOps1 (ended m c) (Proc.devRef .tc main_v105) = _ ∧ StableHlo.after hostOps1 (ended m c) (Proc.devRef .tc main_v142) = _ ∧ StableHlo.after hostOps1 (ended m c) (Proc.devRef .tc main_v179) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back5 _) (back5 _) (back5 _) (back5 _), moms_eq (back5 _) (back5 _), vels_eq (back5 _) (back5 _)⟩
theorem r6 : last m c main_v107 = U m c (·.p6) ∧ last m c main_v144 = M m c (·.p6) ∧ last m c main_v181 = N m c (·.p6) := by
  show StableHlo.after hostOps1 (ended m c) (Proc.devRef .tc main_v107) = _ ∧ StableHlo.after hostOps1 (ended m c) (Proc.devRef .tc main_v144) = _ ∧ StableHlo.after hostOps1 (ended m c) (Proc.devRef .tc main_v181) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back6 _) (back6 _) (back6 _) (back6 _), moms_eq (back6 _) (back6 _), vels_eq (back6 _) (back6 _)⟩
theorem r7 : last m c main_v109 = U m c (·.p7) ∧ last m c main_v146 = M m c (·.p7) ∧ last m c main_v183 = N m c (·.p7) := by
  show StableHlo.after hostOps1 (ended m c) (Proc.devRef .tc main_v109) = _ ∧ StableHlo.after hostOps1 (ended m c) (Proc.devRef .tc main_v146) = _ ∧ StableHlo.after hostOps1 (ended m c) (Proc.devRef .tc main_v183) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back7 _) (back7 _) (back7 _) (back7 _), moms_eq (back7 _) (back7 _), vels_eq (back7 _) (back7 _)⟩
theorem r8 : last m c main_v111 = U m c (·.p8) ∧ last m c main_v148 = M m c (·.p8) ∧ last m c main_v185 = N m c (·.p8) := by
  show StableHlo.after hostOps1 (ended m c) (Proc.devRef .tc main_v111) = _ ∧ StableHlo.after hostOps1 (ended m c) (Proc.devRef .tc main_v148) = _ ∧ StableHlo.after hostOps1 (ended m c) (Proc.devRef .tc main_v185) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back8 _) (back8 _) (back8 _) (back8 _), moms_eq (back8 _) (back8 _), vels_eq (back8 _) (back8 _)⟩
theorem r9 : last m c main_v113 = U m c (·.p9) ∧ last m c main_v150 = M m c (·.p9) ∧ last m c main_v187 = N m c (·.p9) := by
  show StableHlo.after hostOps1 (ended m c) (Proc.devRef .tc main_v113) = _ ∧ StableHlo.after hostOps1 (ended m c) (Proc.devRef .tc main_v150) = _ ∧ StableHlo.after hostOps1 (ended m c) (Proc.devRef .tc main_v187) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back9 _) (back9 _) (back9 _) (back9 _), moms_eq (back9 _) (back9 _), vels_eq (back9 _) (back9 _)⟩
theorem r10 : last m c main_v115 = U m c (·.p10) ∧ last m c main_v152 = M m c (·.p10) ∧ last m c main_v189 = N m c (·.p10) := by
  show StableHlo.after hostOps1 (ended m c) (Proc.devRef .tc main_v115) = _ ∧ StableHlo.after hostOps1 (ended m c) (Proc.devRef .tc main_v152) = _ ∧ StableHlo.after hostOps1 (ended m c) (Proc.devRef .tc main_v189) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back10 _) (back10 _) (back10 _) (back10 _), moms_eq (back10 _) (back10 _), vels_eq (back10 _) (back10 _)⟩
theorem r11 : last m c main_v117 = U m c (·.p11) ∧ last m c main_v154 = M m c (·.p11) ∧ last m c main_v191 = N m c (·.p11) := by
  show StableHlo.after hostOps1 (ended m c) (Proc.devRef .tc main_v117) = _ ∧ StableHlo.after hostOps1 (ended m c) (Proc.devRef .tc main_v154) = _ ∧ StableHlo.after hostOps1 (ended m c) (Proc.devRef .tc main_v191) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back11 _) (back11 _) (back11 _) (back11 _), moms_eq (back11 _) (back11 _), vels_eq (back11 _) (back11 _)⟩
theorem r12 : last m c main_v119 = U m c (·.p12) ∧ last m c main_v156 = M m c (·.p12) ∧ last m c main_v193 = N m c (·.p12) := by
  show StableHlo.after hostOps1 (ended m c) (Proc.devRef .tc main_v119) = _ ∧ StableHlo.after hostOps1 (ended m c) (Proc.devRef .tc main_v156) = _ ∧ StableHlo.after hostOps1 (ended m c) (Proc.devRef .tc main_v193) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back12 _) (back12 _) (back12 _) (back12 _), moms_eq (back12 _) (back12 _), vels_eq (back12 _) (back12 _)⟩
theorem r13 : last m c main_v121 = U m c (·.p13) ∧ last m c main_v158 = M m c (·.p13) ∧ last m c main_v195 = N m c (·.p13) := by
  show StableHlo.after hostOps1 (ended m c) (Proc.devRef .tc main_v121) = _ ∧ StableHlo.after hostOps1 (ended m c) (Proc.devRef .tc main_v158) = _ ∧ StableHlo.after hostOps1 (ended m c) (Proc.devRef .tc main_v195) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back13 _) (back13 _) (back13 _) (back13 _), moms_eq (back13 _) (back13 _), vels_eq (back13 _) (back13 _)⟩
theorem r14 : last m c main_v123 = U m c (·.p14) ∧ last m c main_v160 = M m c (·.p14) ∧ last m c main_v197 = N m c (·.p14) := by
  show StableHlo.after hostOps1 (ended m c) (Proc.devRef .tc main_v123) = _ ∧ StableHlo.after hostOps1 (ended m c) (Proc.devRef .tc main_v160) = _ ∧ StableHlo.after hostOps1 (ended m c) (Proc.devRef .tc main_v197) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back14 _) (back14 _) (back14 _) (back14 _), moms_eq (back14 _) (back14 _), vels_eq (back14 _) (back14 _)⟩
theorem r15 : last m c main_v125 = U m c (·.p15) ∧ last m c main_v162 = M m c (·.p15) ∧ last m c main_v199 = N m c (·.p15) := by
  show StableHlo.after hostOps1 (ended m c) (Proc.devRef .tc main_v125) = _ ∧ StableHlo.after hostOps1 (ended m c) (Proc.devRef .tc main_v162) = _ ∧ StableHlo.after hostOps1 (ended m c) (Proc.devRef .tc main_v199) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back15 _) (back15 _) (back15 _) (back15 _), moms_eq (back15 _) (back15 _), vels_eq (back15 _) (back15 _)⟩
theorem r16 : last m c main_v127 = U m c (·.p16) ∧ last m c main_v164 = M m c (·.p16) ∧ last m c main_v201 = N m c (·.p16) := by
  show StableHlo.after hostOps1 (ended m c) (Proc.devRef .tc main_v127) = _ ∧ StableHlo.after hostOps1 (ended m c) (Proc.devRef .tc main_v164) = _ ∧ StableHlo.after hostOps1 (ended m c) (Proc.devRef .tc main_v201) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back16 _) (back16 _) (back16 _) (back16 _), moms_eq (back16 _) (back16 _), vels_eq (back16 _) (back16 _)⟩
theorem r17 : last m c main_v129 = U m c (·.p17) ∧ last m c main_v166 = M m c (·.p17) ∧ last m c main_v203 = N m c (·.p17) := by
  show StableHlo.after hostOps1 (ended m c) (Proc.devRef .tc main_v129) = _ ∧ StableHlo.after hostOps1 (ended m c) (Proc.devRef .tc main_v166) = _ ∧ StableHlo.after hostOps1 (ended m c) (Proc.devRef .tc main_v203) = _
  have h4 := (ended4 m c).trans (arr4 m c)
  have h5 := (ended5 m c).trans (arr5 m c)
  have h6 := (ended6 m c).trans (arr6 m c)
  generalize ended m c = W at *
  after_reads_simp
  rw [h4, h5, h6]; exact ⟨upds_eq (back17 _) (back17 _) (back17 _) (back17 _), moms_eq (back17 _) (back17 _), vels_eq (back17 _) (back17 _)⟩

/-! ## The claims -/

/-- The reference runs on the host alone: its run keeps the arguments, and it has no semaphore. -/
theorem frame_reference : Cert.quiescent_Reference22Ideal := fun m ρ _ =>
  (θ_run Cert.Reference22Ideal.defs _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2, Idealize.ShloMosaic.sem_eq_zero_of_no_sems (by decide) r.2⟩)
    (Cert.Reference22Ideal.Value.run (F := Ideal) m ρ)

section Last
open Cert.Reference22Ideal.Read
/-- Each parameter's update and its two moments are the reference's. -/
theorem algebraic : Cert.algebraic_Kernel22Ideal_Reference22Ideal := by
  intro m ρ m' ρ' hpre hagree
  refine ⟨fun c => U m c (·.p0),
    fun c => U m c (·.p1),
    fun c => U m c (·.p2),
    fun c => U m c (·.p3),
    fun c => U m c (·.p4),
    fun c => U m c (·.p5),
    fun c => U m c (·.p6),
    fun c => U m c (·.p7),
    fun c => U m c (·.p8),
    fun c => U m c (·.p9),
    fun c => U m c (·.p10),
    fun c => U m c (·.p11),
    fun c => U m c (·.p12),
    fun c => U m c (·.p13),
    fun c => U m c (·.p14),
    fun c => U m c (·.p15),
    fun c => U m c (·.p16),
    fun c => U m c (·.p17),
    fun c => M m c (·.p0),
    fun c => M m c (·.p1),
    fun c => M m c (·.p2),
    fun c => M m c (·.p3),
    fun c => M m c (·.p4),
    fun c => M m c (·.p5),
    fun c => M m c (·.p6),
    fun c => M m c (·.p7),
    fun c => M m c (·.p8),
    fun c => M m c (·.p9),
    fun c => M m c (·.p10),
    fun c => M m c (·.p11),
    fun c => M m c (·.p12),
    fun c => M m c (·.p13),
    fun c => M m c (·.p14),
    fun c => M m c (·.p15),
    fun c => M m c (·.p16),
    fun c => M m c (·.p17),
    fun c => N m c (·.p0),
    fun c => N m c (·.p1),
    fun c => N m c (·.p2),
    fun c => N m c (·.p3),
    fun c => N m c (·.p4),
    fun c => N m c (·.p5),
    fun c => N m c (·.p6),
    fun c => N m c (·.p7),
    fun c => N m c (·.p8),
    fun c => N m c (·.p9),
    fun c => N m c (·.p10),
    fun c => N m c (·.p11),
    fun c => N m c (·.p12),
    fun c => N m c (·.p13),
    fun c => N m c (·.p14),
    fun c => N m c (·.p15),
    fun c => N m c (·.p16),
    fun c => N m c (·.p17), ?_, ?_⟩
  · refine (θ_run defs _ _).mono (fun r h c => ?_) (run_main (F := Ideal) m ρ)
    have K := fun (b : Ref sig .tc) (h1 : b.isScoped = false) h2 => (h c).2 b (Pipeline.mem_restRefs_of b h1 h2)
    exact ⟨(K main_v95 (by decide) (by decide)).trans (r0 m c).1, (K main_v97 (by decide) (by decide)).trans (r1 m c).1, (K main_v99 (by decide) (by decide)).trans (r2 m c).1, (K main_v101 (by decide) (by decide)).trans (r3 m c).1, (K main_v103 (by decide) (by decide)).trans (r4 m c).1, (K main_v105 (by decide) (by decide)).trans (r5 m c).1, (K main_v107 (by decide) (by decide)).trans (r6 m c).1, (K main_v109 (by decide) (by decide)).trans (r7 m c).1, (K main_v111 (by decide) (by decide)).trans (r8 m c).1, (K main_v113 (by decide) (by decide)).trans (r9 m c).1, (K main_v115 (by decide) (by decide)).trans (r10 m c).1, (K main_v117 (by decide) (by decide)).trans (r11 m c).1, (K main_v119 (by decide) (by decide)).trans (r12 m c).1, (K main_v121 (by decide) (by decide)).trans (r13 m c).1, (K main_v123 (by decide) (by decide)).trans (r14 m c).1, (K main_v125 (by decide) (by decide)).trans (r15 m c).1, (K main_v127 (by decide) (by decide)).trans (r16 m c).1, (K main_v129 (by decide) (by decide)).trans (r17 m c).1, (K main_v132 (by decide) (by decide)).trans (r0 m c).2.1, (K main_v134 (by decide) (by decide)).trans (r1 m c).2.1, (K main_v136 (by decide) (by decide)).trans (r2 m c).2.1, (K main_v138 (by decide) (by decide)).trans (r3 m c).2.1, (K main_v140 (by decide) (by decide)).trans (r4 m c).2.1, (K main_v142 (by decide) (by decide)).trans (r5 m c).2.1, (K main_v144 (by decide) (by decide)).trans (r6 m c).2.1, (K main_v146 (by decide) (by decide)).trans (r7 m c).2.1, (K main_v148 (by decide) (by decide)).trans (r8 m c).2.1, (K main_v150 (by decide) (by decide)).trans (r9 m c).2.1, (K main_v152 (by decide) (by decide)).trans (r10 m c).2.1, (K main_v154 (by decide) (by decide)).trans (r11 m c).2.1, (K main_v156 (by decide) (by decide)).trans (r12 m c).2.1, (K main_v158 (by decide) (by decide)).trans (r13 m c).2.1, (K main_v160 (by decide) (by decide)).trans (r14 m c).2.1, (K main_v162 (by decide) (by decide)).trans (r15 m c).2.1, (K main_v164 (by decide) (by decide)).trans (r16 m c).2.1, (K main_v166 (by decide) (by decide)).trans (r17 m c).2.1, (K main_v169 (by decide) (by decide)).trans (r0 m c).2.2, (K main_v171 (by decide) (by decide)).trans (r1 m c).2.2, (K main_v173 (by decide) (by decide)).trans (r2 m c).2.2, (K main_v175 (by decide) (by decide)).trans (r3 m c).2.2, (K main_v177 (by decide) (by decide)).trans (r4 m c).2.2, (K main_v179 (by decide) (by decide)).trans (r5 m c).2.2, (K main_v181 (by decide) (by decide)).trans (r6 m c).2.2, (K main_v183 (by decide) (by decide)).trans (r7 m c).2.2, (K main_v185 (by decide) (by decide)).trans (r8 m c).2.2, (K main_v187 (by decide) (by decide)).trans (r9 m c).2.2, (K main_v189 (by decide) (by decide)).trans (r10 m c).2.2, (K main_v191 (by decide) (by decide)).trans (r11 m c).2.2, (K main_v193 (by decide) (by decide)).trans (r12 m c).2.2, (K main_v195 (by decide) (by decide)).trans (r13 m c).2.2, (K main_v197 (by decide) (by decide)).trans (r14 m c).2.2, (K main_v199 (by decide) (by decide)).trans (r15 m c).2.2, (K main_v201 (by decide) (by decide)).trans (r16 m c).2.2, (K main_v203 (by decide) (by decide)).trans (r17 m c).2.2, (K main_arg0 (by decide) (by decide)).trans (W_main_arg0 m (dats m) c), (K main_arg1 (by decide) (by decide)).trans (W_main_arg1 m (dats m) c), (K main_arg2 (by decide) (by decide)).trans (W_main_arg2 m (dats m) c), (K main_arg3 (by decide) (by decide)).trans (W_main_arg3 m (dats m) c), (K main_arg4 (by decide) (by decide)).trans (W_main_arg4 m (dats m) c), (K main_arg5 (by decide) (by decide)).trans (W_main_arg5 m (dats m) c), (K main_arg6 (by decide) (by decide)).trans (W_main_arg6 m (dats m) c), (K main_arg7 (by decide) (by decide)).trans (W_main_arg7 m (dats m) c), (K main_arg8 (by decide) (by decide)).trans (W_main_arg8 m (dats m) c), (K main_arg9 (by decide) (by decide)).trans (W_main_arg9 m (dats m) c), (K main_arg10 (by decide) (by decide)).trans (W_main_arg10 m (dats m) c), (K main_arg11 (by decide) (by decide)).trans (W_main_arg11 m (dats m) c), (K main_arg12 (by decide) (by decide)).trans (W_main_arg12 m (dats m) c), (K main_arg13 (by decide) (by decide)).trans (W_main_arg13 m (dats m) c), (K main_arg14 (by decide) (by decide)).trans (W_main_arg14 m (dats m) c), (K main_arg15 (by decide) (by decide)).trans (W_main_arg15 m (dats m) c), (K main_arg16 (by decide) (by decide)).trans (W_main_arg16 m (dats m) c), (K main_arg17 (by decide) (by decide)).trans (W_main_arg17 m (dats m) c), (K main_arg18 (by decide) (by decide)).trans (W_main_arg18 m (dats m) c), (K main_arg19 (by decide) (by decide)).trans (W_main_arg19 m (dats m) c), (K main_arg20 (by decide) (by decide)).trans (W_main_arg20 m (dats m) c), (K main_arg21 (by decide) (by decide)).trans (W_main_arg21 m (dats m) c), (K main_arg22 (by decide) (by decide)).trans (W_main_arg22 m (dats m) c), (K main_arg23 (by decide) (by decide)).trans (W_main_arg23 m (dats m) c), (K main_arg24 (by decide) (by decide)).trans (W_main_arg24 m (dats m) c), (K main_arg25 (by decide) (by decide)).trans (W_main_arg25 m (dats m) c), (K main_arg26 (by decide) (by decide)).trans (W_main_arg26 m (dats m) c), (K main_arg27 (by decide) (by decide)).trans (W_main_arg27 m (dats m) c), (K main_arg28 (by decide) (by decide)).trans (W_main_arg28 m (dats m) c), (K main_arg29 (by decide) (by decide)).trans (W_main_arg29 m (dats m) c), (K main_arg30 (by decide) (by decide)).trans (W_main_arg30 m (dats m) c), (K main_arg31 (by decide) (by decide)).trans (W_main_arg31 m (dats m) c), (K main_arg32 (by decide) (by decide)).trans (W_main_arg32 m (dats m) c), (K main_arg33 (by decide) (by decide)).trans (W_main_arg33 m (dats m) c), (K main_arg34 (by decide) (by decide)).trans (W_main_arg34 m (dats m) c), (K main_arg35 (by decide) (by decide)).trans (W_main_arg35 m (dats m) c), (K main_arg36 (by decide) (by decide)).trans (W_main_arg36 m (dats m) c), (K main_arg37 (by decide) (by decide)).trans (W_main_arg37 m (dats m) c), (K main_arg38 (by decide) (by decide)).trans (W_main_arg38 m (dats m) c), (K main_arg39 (by decide) (by decide)).trans (W_main_arg39 m (dats m) c), (K main_arg40 (by decide) (by decide)).trans (W_main_arg40 m (dats m) c), (K main_arg41 (by decide) (by decide)).trans (W_main_arg41 m (dats m) c), (K main_arg42 (by decide) (by decide)).trans (W_main_arg42 m (dats m) c), (K main_arg43 (by decide) (by decide)).trans (W_main_arg43 m (dats m) c), (K main_arg44 (by decide) (by decide)).trans (W_main_arg44 m (dats m) c), (K main_arg45 (by decide) (by decide)).trans (W_main_arg45 m (dats m) c), (K main_arg46 (by decide) (by decide)).trans (W_main_arg46 m (dats m) c), (K main_arg47 (by decide) (by decide)).trans (W_main_arg47 m (dats m) c), (K main_arg48 (by decide) (by decide)).trans (W_main_arg48 m (dats m) c), (K main_arg49 (by decide) (by decide)).trans (W_main_arg49 m (dats m) c), (K main_arg50 (by decide) (by decide)).trans (W_main_arg50 m (dats m) c), (K main_arg51 (by decide) (by decide)).trans (W_main_arg51 m (dats m) c), (K main_arg52 (by decide) (by decide)).trans (W_main_arg52 m (dats m) c), (K main_arg53 (by decide) (by decide)).trans (W_main_arg53 m (dats m) c), (K main_arg54 (by decide) (by decide)).trans (W_main_arg54 m (dats m) c), (K main_arg55 (by decide) (by decide)).trans (W_main_arg55 m (dats m) c), (K main_arg56 (by decide) (by decide)).trans (W_main_arg56 m (dats m) c), (K main_arg57 (by decide) (by decide)).trans (W_main_arg57 m (dats m) c), (K main_arg58 (by decide) (by decide)).trans (W_main_arg58 m (dats m) c), (K main_arg59 (by decide) (by decide)).trans (W_main_arg59 m (dats m) c), (K main_arg60 (by decide) (by decide)).trans (W_main_arg60 m (dats m) c), (K main_arg61 (by decide) (by decide)).trans (W_main_arg61 m (dats m) c), (K main_arg62 (by decide) (by decide)).trans (W_main_arg62 m (dats m) c), (K main_arg63 (by decide) (by decide)).trans (W_main_arg63 m (dats m) c), (K main_arg64 (by decide) (by decide)).trans (W_main_arg64 m (dats m) c), (K main_arg65 (by decide) (by decide)).trans (W_main_arg65 m (dats m) c), (K main_arg66 (by decide) (by decide)).trans (W_main_arg66 m (dats m) c), (K main_arg67 (by decide) (by decide)).trans (W_main_arg67 m (dats m) c), (K main_arg68 (by decide) (by decide)).trans (W_main_arg68 m (dats m) c), (K main_arg69 (by decide) (by decide)).trans (W_main_arg69 m (dats m) c), (K main_arg70 (by decide) (by decide)).trans (W_main_arg70 m (dats m) c), (K main_arg71 (by decide) (by decide)).trans (W_main_arg71 m (dats m) c)⟩
  · refine (θ_run Cert.Reference22Ideal.defs _ _).mono (fun _ h c => ?_) (Cert.Reference22Ideal.Value.run (F := Ideal) m' ρ')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71⟩ := hagree c
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, hk⟩ := h c
    exact ⟨h0.trans ((val_main_v23_eq (StableHlo.launchContents m' c)).trans (upds_eq e0 e18 e36 e54)),
      h1.trans ((val_main_v47_eq (StableHlo.launchContents m' c)).trans (upds_eq e1 e19 e37 e55)),
      h2.trans ((val_main_v71_eq (StableHlo.launchContents m' c)).trans (upds_eq e2 e20 e38 e56)),
      h3.trans ((val_main_v95_eq (StableHlo.launchContents m' c)).trans (upds_eq e3 e21 e39 e57)),
      h4.trans ((val_main_v119_eq (StableHlo.launchContents m' c)).trans (upds_eq e4 e22 e40 e58)),
      h5.trans ((val_main_v143_eq (StableHlo.launchContents m' c)).trans (upds_eq e5 e23 e41 e59)),
      h6.trans ((val_main_v167_eq (StableHlo.launchContents m' c)).trans (upds_eq e6 e24 e42 e60)),
      h7.trans ((val_main_v191_eq (StableHlo.launchContents m' c)).trans (upds_eq e7 e25 e43 e61)),
      h8.trans ((val_main_v215_eq (StableHlo.launchContents m' c)).trans (upds_eq e8 e26 e44 e62)),
      h9.trans ((val_main_v239_eq (StableHlo.launchContents m' c)).trans (upds_eq e9 e27 e45 e63)),
      h10.trans ((val_main_v263_eq (StableHlo.launchContents m' c)).trans (upds_eq e10 e28 e46 e64)),
      h11.trans ((val_main_v287_eq (StableHlo.launchContents m' c)).trans (upds_eq e11 e29 e47 e65)),
      h12.trans ((val_main_v311_eq (StableHlo.launchContents m' c)).trans (upds_eq e12 e30 e48 e66)),
      h13.trans ((val_main_v335_eq (StableHlo.launchContents m' c)).trans (upds_eq e13 e31 e49 e67)),
      h14.trans ((val_main_v359_eq (StableHlo.launchContents m' c)).trans (upds_eq e14 e32 e50 e68)),
      h15.trans ((val_main_v383_eq (StableHlo.launchContents m' c)).trans (upds_eq e15 e33 e51 e69)),
      h16.trans ((val_main_v407_eq (StableHlo.launchContents m' c)).trans (upds_eq e16 e34 e52 e70)),
      h17.trans ((val_main_v431_eq (StableHlo.launchContents m' c)).trans (upds_eq e17 e35 e53 e71)),
      h18.trans ((val_main_v4_eq (StableHlo.launchContents m' c)).trans (moms_eq e18 e36)),
      h19.trans ((val_main_v28_eq (StableHlo.launchContents m' c)).trans (moms_eq e19 e37)),
      h20.trans ((val_main_v52_eq (StableHlo.launchContents m' c)).trans (moms_eq e20 e38)),
      h21.trans ((val_main_v76_eq (StableHlo.launchContents m' c)).trans (moms_eq e21 e39)),
      h22.trans ((val_main_v100_eq (StableHlo.launchContents m' c)).trans (moms_eq e22 e40)),
      h23.trans ((val_main_v124_eq (StableHlo.launchContents m' c)).trans (moms_eq e23 e41)),
      h24.trans ((val_main_v148_eq (StableHlo.launchContents m' c)).trans (moms_eq e24 e42)),
      h25.trans ((val_main_v172_eq (StableHlo.launchContents m' c)).trans (moms_eq e25 e43)),
      h26.trans ((val_main_v196_eq (StableHlo.launchContents m' c)).trans (moms_eq e26 e44)),
      h27.trans ((val_main_v220_eq (StableHlo.launchContents m' c)).trans (moms_eq e27 e45)),
      h28.trans ((val_main_v244_eq (StableHlo.launchContents m' c)).trans (moms_eq e28 e46)),
      h29.trans ((val_main_v268_eq (StableHlo.launchContents m' c)).trans (moms_eq e29 e47)),
      h30.trans ((val_main_v292_eq (StableHlo.launchContents m' c)).trans (moms_eq e30 e48)),
      h31.trans ((val_main_v316_eq (StableHlo.launchContents m' c)).trans (moms_eq e31 e49)),
      h32.trans ((val_main_v340_eq (StableHlo.launchContents m' c)).trans (moms_eq e32 e50)),
      h33.trans ((val_main_v364_eq (StableHlo.launchContents m' c)).trans (moms_eq e33 e51)),
      h34.trans ((val_main_v388_eq (StableHlo.launchContents m' c)).trans (moms_eq e34 e52)),
      h35.trans ((val_main_v412_eq (StableHlo.launchContents m' c)).trans (moms_eq e35 e53)),
      h36.trans ((val_main_v10_eq (StableHlo.launchContents m' c)).trans (vels_eq e18 e54)),
      h37.trans ((val_main_v34_eq (StableHlo.launchContents m' c)).trans (vels_eq e19 e55)),
      h38.trans ((val_main_v58_eq (StableHlo.launchContents m' c)).trans (vels_eq e20 e56)),
      h39.trans ((val_main_v82_eq (StableHlo.launchContents m' c)).trans (vels_eq e21 e57)),
      h40.trans ((val_main_v106_eq (StableHlo.launchContents m' c)).trans (vels_eq e22 e58)),
      h41.trans ((val_main_v130_eq (StableHlo.launchContents m' c)).trans (vels_eq e23 e59)),
      h42.trans ((val_main_v154_eq (StableHlo.launchContents m' c)).trans (vels_eq e24 e60)),
      h43.trans ((val_main_v178_eq (StableHlo.launchContents m' c)).trans (vels_eq e25 e61)),
      h44.trans ((val_main_v202_eq (StableHlo.launchContents m' c)).trans (vels_eq e26 e62)),
      h45.trans ((val_main_v226_eq (StableHlo.launchContents m' c)).trans (vels_eq e27 e63)),
      h46.trans ((val_main_v250_eq (StableHlo.launchContents m' c)).trans (vels_eq e28 e64)),
      h47.trans ((val_main_v274_eq (StableHlo.launchContents m' c)).trans (vels_eq e29 e65)),
      h48.trans ((val_main_v298_eq (StableHlo.launchContents m' c)).trans (vels_eq e30 e66)),
      h49.trans ((val_main_v322_eq (StableHlo.launchContents m' c)).trans (vels_eq e31 e67)),
      h50.trans ((val_main_v346_eq (StableHlo.launchContents m' c)).trans (vels_eq e32 e68)),
      h51.trans ((val_main_v370_eq (StableHlo.launchContents m' c)).trans (vels_eq e33 e69)),
      h52.trans ((val_main_v394_eq (StableHlo.launchContents m' c)).trans (vels_eq e34 e70)),
      h53.trans ((val_main_v418_eq (StableHlo.launchContents m' c)).trans (vels_eq e35 e71)), hk⟩
end Last

end Cert.AdamSmall

end
-- ==== Proof.Eight.lean ====
/-
  What the sums over the eight devices have in common: the eight parts of what is staged, added up, and the four slots.
-/
module

public import Idealize.ShloMosaic.Adequacy
public import Idealize.ShloMosaic.Init
public import Idealize.ShloMosaic.Lib.Quiescent
public import Idealize.ShloMosaic.Lib.Pipeline.Value
public import Idealize.ShloMosaic.Lib.Pointwise
public import Idealize.ShloMosaic.Lib.Tactic
public import Idealize.ShloMosaic.Lib.StableHlo.RunRead

@[expose] public section

noncomputable section

namespace Cert.Eight

open Idealize.ShloMosaic Idealize.SL.Sem Idealize.ShloMosaic.TcCoe Idealize.ShloMosaic.Tactic

theorem zero_eq : Ideal.ofBits .f32 0x00000000#32 = 0 := by
  simp [Ideal.ofBits, Ideal.ieee]

theorem hz : (![0, 0, 0] : Fin 3 → Nat) = fun _ => 0 := funext fun a => by fin_cases a <;> rfl

/-- Eight entries added up. -/
def tot {R C : Nat} (b0 b1 b2 b3 b4 b5 b6 b7 : (⟨4, ![1, 1, R, C]⟩ : Shape).Idx → EReal) (r : Fin R) (l : Fin C) : EReal :=
  b0 (ix4 (0 : Fin 1) (0 : Fin 1) r l) + b1 (ix4 (0 : Fin 1) (0 : Fin 1) r l) + b2 (ix4 (0 : Fin 1) (0 : Fin 1) r l) + b3 (ix4 (0 : Fin 1) (0 : Fin 1) r l)
    + b4 (ix4 (0 : Fin 1) (0 : Fin 1) r l) + b5 (ix4 (0 : Fin 1) (0 : Fin 1) r l) + b6 (ix4 (0 : Fin 1) (0 : Fin 1) r l) + b7 (ix4 (0 : Fin 1) (0 : Fin 1) r l)

/-- If they are a staged array's eight parts, that is its sum over the devices. -/
theorem tot_eq {R C : Nat} (b0 b1 b2 b3 b4 b5 b6 b7 : (⟨4, ![1, 1, R, C]⟩ : Shape).Idx → EReal) (x : (⟨4, ![8, 1, R, C]⟩ : Shape).Idx → EReal) (r : Fin R) (l : Fin C)
    (h0 : b0 (ix4 (0 : Fin 1) (0 : Fin 1) r l) = x (ix4 (0 : Fin 8) (0 : Fin 1) r l)) (h1 : b1 (ix4 (0 : Fin 1) (0 : Fin 1) r l) = x (ix4 (1 : Fin 8) (0 : Fin 1) r l))
    (h2 : b2 (ix4 (0 : Fin 1) (0 : Fin 1) r l) = x (ix4 (2 : Fin 8) (0 : Fin 1) r l)) (h3 : b3 (ix4 (0 : Fin 1) (0 : Fin 1) r l) = x (ix4 (3 : Fin 8) (0 : Fin 1) r l))
    (h4 : b4 (ix4 (0 : Fin 1) (0 : Fin 1) r l) = x (ix4 (4 : Fin 8) (0 : Fin 1) r l)) (h5 : b5 (ix4 (0 : Fin 1) (0 : Fin 1) r l) = x (ix4 (5 : Fin 8) (0 : Fin 1) r l))
    (h6 : b6 (ix4 (0 : Fin 1) (0 : Fin 1) r l) = x (ix4 (6 : Fin 8) (0 : Fin 1) r l)) (h7 : b7 (ix4 (0 : Fin 1) (0 : Fin 1) r l) = x (ix4 (7 : Fin 8) (0 : Fin 1) r l)) :
    tot b0 b1 b2 b3 b4 b5 b6 b7 r l = ∑ s : Fin 8, x (ix4 s (0 : Fin 1) r l) := by
  rw [Fin.sum_univ_eight]
  unfold tot
  rw [h0, h1, h2, h3, h4, h5, h6, h7]

/-- A device's part of what is staged. -/
theorem ld_at {e : EltTy} {R C : Nat} (x : Vec Ideal ⟨4, ![8, 1, R, C]⟩ e) (s : Fin 8)
    (inb : ∀ a, (![s.val, 0, 0, 0] : Fin 4 → Nat) a + (⟨4, ![1, 1, R, C]⟩ : Shape).size a ≤ (⟨4, ![8, 1, R, C]⟩ : Shape).size a) (r : Fin R) (l : Fin C) :
    View.ld x (Rect.unit (s := ⟨4, ![8, 1, R, C]⟩) ![s.val, 0, 0, 0] (⟨4, ![1, 1, R, C]⟩ : Shape).size inb) (ix4 (0 : Fin 1) (0 : Fin 1) r l) = x (ix4 s (0 : Fin 1) r l) := by
  show x _ = x _
  congr 1; funext a; apply Fin.ext
  match a with
  | ⟨0, _⟩ => show s.val + 1 * 0 = s.val; omega
  | ⟨1, _⟩ => show 0 + 1 * 0 = 0; omega
  | ⟨2, _⟩ => show 0 + 1 * r.val = r.val; omega
  | ⟨3, _⟩ => show 0 + 1 * l.val = l.val; omega

/-! Four arrays in four slots, read slot by slot. -/
section Slots
variable {R C : Nat} (y0 y1 y2 y3 : (⟨3, ![1, R, C]⟩ : Shape).Idx → EReal)
  (h : Shape.Concatenates [⟨3, ![1, R, C]⟩, ⟨3, ![1, R, C]⟩, ⟨3, ![1, R, C]⟩, ⟨3, ![1, R, C]⟩] ⟨3, ![4, R, C]⟩ 0) (t : Fin R) (l : Fin C)
theorem slot0 : concatenate ⟨3, ![4, R, C]⟩ 0 [⟨⟨3, ![1, R, C]⟩, y0⟩, ⟨⟨3, ![1, R, C]⟩, y1⟩, ⟨⟨3, ![1, R, C]⟩, y2⟩, ⟨⟨3, ![1, R, C]⟩, y3⟩] h (ix3 (0 : Fin 4) t l) = y0 (ix3 (0 : Fin 1) t l) :=
  concatenate_apply_piece (t := ⟨3, ![4, R, C]⟩) 0 _ _ _ 0 (by show 0 < 4; decide) ⟨3, ![1, R, C]⟩ y0 rfl rfl 0 rfl (ix3 (0 : Fin 1) t l) (fun b hb => match b with | ⟨0, _⟩ => absurd rfl hb | ⟨1, _⟩ => rfl | ⟨2, _⟩ => rfl) rfl
theorem slot1 : concatenate ⟨3, ![4, R, C]⟩ 0 [⟨⟨3, ![1, R, C]⟩, y0⟩, ⟨⟨3, ![1, R, C]⟩, y1⟩, ⟨⟨3, ![1, R, C]⟩, y2⟩, ⟨⟨3, ![1, R, C]⟩, y3⟩] h (ix3 (1 : Fin 4) t l) = y1 (ix3 (0 : Fin 1) t l) :=
  concatenate_apply_piece (t := ⟨3, ![4, R, C]⟩) 0 _ _ _ 1 (by show 1 < 4; decide) ⟨3, ![1, R, C]⟩ y1 rfl rfl 1 rfl (ix3 (0 : Fin 1) t l) (fun b hb => match b with | ⟨0, _⟩ => absurd rfl hb | ⟨1, _⟩ => rfl | ⟨2, _⟩ => rfl) rfl
theorem slot2 : concatenate ⟨3, ![4, R, C]⟩ 0 [⟨⟨3, ![1, R, C]⟩, y0⟩, ⟨⟨3, ![1, R, C]⟩, y1⟩, ⟨⟨3, ![1, R, C]⟩, y2⟩, ⟨⟨3, ![1, R, C]⟩, y3⟩] h (ix3 (2 : Fin 4) t l) = y2 (ix3 (0 : Fin 1) t l) :=
  concatenate_apply_piece (t := ⟨3, ![4, R, C]⟩) 0 _ _ _ 2 (by show 2 < 4; decide) ⟨3, ![1, R, C]⟩ y2 rfl rfl 2 rfl (ix3 (0 : Fin 1) t l) (fun b hb => match b with | ⟨0, _⟩ => absurd rfl hb | ⟨1, _⟩ => rfl | ⟨2, _⟩ => rfl) rfl
theorem slot3 : concatenate ⟨3, ![4, R, C]⟩ 0 [⟨⟨3, ![1, R, C]⟩, y0⟩, ⟨⟨3, ![1, R, C]⟩, y1⟩, ⟨⟨3, ![1, R, C]⟩, y2⟩, ⟨⟨3, ![1, R, C]⟩, y3⟩] h (ix3 (3 : Fin 4) t l) = y3 (ix3 (0 : Fin 1) t l) :=
  concatenate_apply_piece (t := ⟨3, ![4, R, C]⟩) 0 _ _ _ 3 (by show 3 < 4; decide) ⟨3, ![1, R, C]⟩ y3 rfl rfl 3 rfl (ix3 (0 : Fin 1) t l) (fun b hb => match b with | ⟨0, _⟩ => absurd rfl hb | ⟨1, _⟩ => rfl | ⟨2, _⟩ => rfl) rfl
end Slots

end Cert.Eight

end
-- ==== Proof.SumGu.lean ====
/-
  The sum over the eight devices of the gate and up projections' gradients: the kernel takes its four inputs one after another,
  tile by tile of 256 rows, and writes their sums into four slots; the reference joins the four sums.
-/
module

public import proofs.«01_k».proof.Defs
public import proofs.«01_k».proof.Proof.Gen.Kernel23Ideal.Value
public import proofs.«01_k».proof.Proof.Gen.Reference23Ideal.Read
public import proofs.«01_k».proof.Proof.Eight

@[expose] public section

set_option maxRecDepth 16384

noncomputable section

namespace Cert.SumGu

open Idealize.ShloMosaic Idealize.SL.Sem Idealize.ShloMosaic.TcCoe Idealize.ShloMosaic.Tactic
open Cert.Kernel23Ideal Cert.Kernel23Ideal.Gen Cert.Kernel23Ideal.Value
open Cert.Eight (zero_eq hz tot tot_eq ld_at slot0 slot1 slot2 slot3)

/-! ## What a point leaves -/

section Pay
variable (b0 b1 b2 b3 b4 b5 b6 b7 : Vec Ideal S1x1x256x704 .bf16) (r : Fin 256) (l : Fin 704)
/-- The eight devices' entries added up, in each of the four cases. -/
theorem pay1_apply : k0_pay1 (F := Ideal) (k0_pay5 b0 b1 b2 b3 b4 b5 b6) b7 (ix3 (0 : Fin 1) r l)
    = tot b0 b1 b2 b3 b4 b5 b6 b7 r l := by
  unfold tot k0_pay1 k0_pay5
  pointwise
theorem pay2_apply : k0_pay2 (F := Ideal) (k0_pay6 b0 b1 b2 b3 b4 b5 b6) b7 (ix3 (0 : Fin 1) r l)
    = tot b0 b1 b2 b3 b4 b5 b6 b7 r l := by
  unfold tot k0_pay2 k0_pay6
  pointwise
theorem pay3_apply : k0_pay3 (F := Ideal) (k0_pay7 b0 b1 b2 b3 b4 b5 b6) b7 (ix3 (0 : Fin 1) r l)
    = tot b0 b1 b2 b3 b4 b5 b6 b7 r l := by
  unfold tot k0_pay3 k0_pay7
  pointwise
theorem pay4_apply : k0_pay4 (F := Ideal) (k0_pay8 b0 b1 b2 b3 b4 b5 b6) b7 (ix3 (0 : Fin 1) r l)
    = tot b0 b1 b2 b3 b4 b5 b6 b7 r l := by
  unfold tot k0_pay4 k0_pay8
  pointwise
end Pay

section Point
variable (c : Dev nD) (i : grid0.Coords) (arg2 : Memref sig .tc .vmem S8x1x256x704 .bf16) (harg2 : arg2.IsWhole) (arg3 : Memref sig .tc .vmem S8x1x256x704 .bf16) (harg3 : arg3.IsWhole) (arg4 : Memref sig .tc .vmem S8x1x256x704 .bf16) (harg4 : arg4.IsWhole) (arg5 : Memref sig .tc .vmem S8x1x256x704 .bf16) (harg5 : arg5.IsWhole)
  (arg6 : Memref sig .tc .vmem S1x256x704 .f32) (harg6 : arg6.IsWhole)
  (x0 x1 x2 x3 : Vec Ideal S8x1x256x704 .bf16) (r : Fin 256) (l : Fin 704)

/-- Case 0: the sum of input 0's parts. -/
theorem outA (hc0 : cond0_0 i) (hc1 : ¬cond0_1 i) (hc2 : ¬cond0_2 i) (hc3 : ¬cond0_3 i) :
    out0_A_4 (F := Ideal) c i arg2 harg2 arg3 harg3 arg4 harg4 arg5 harg5 arg6 harg6 hc0 hc1 hc2 hc3 x0 x1 x2 x3 (ix3 (0 : Fin 1) r l) = ∑ s : Fin 8, x0 (ix4 s (0 : Fin 1) r l) := by
  unfold out0_A_4
  rw [View.read_writes_eq_canon _ _ _ (cover0_A_4 c i arg2 harg2 arg3 harg3 arg4 harg4 arg5 harg5 arg6 harg6 hc0 hc1 hc2 hc3 x0 x1 x2 x3)]
  unfold kernelRun0_A
  dsimp only
  sl_unfold_words
  rw [View.canon_unit_zero (S := S1x256x704) hz]
  simp only [View.readAt_eq_ld, harg2.read_unread, harg3.read_unread, harg4.read_unread, harg5.read_unread]
  rw [pay1_apply]
  exact tot_eq _ _ _ _ _ _ _ _ x0 r l (ld_at x0 0 _ r l) (ld_at x0 1 _ r l) (ld_at x0 2 _ r l) (ld_at x0 3 _ r l) (ld_at x0 4 _ r l) (ld_at x0 5 _ r l) (ld_at x0 6 _ r l) (ld_at x0 7 _ r l)

/-- Case 1: the sum of input 1's parts. -/
theorem outB (hc0 : ¬cond0_0 i) (hc1 : cond0_1 i) (hc2 : ¬cond0_2 i) (hc3 : ¬cond0_3 i) :
    out0_B_4 (F := Ideal) c i arg2 harg2 arg3 harg3 arg4 harg4 arg5 harg5 arg6 harg6 hc0 hc1 hc2 hc3 x0 x1 x2 x3 (ix3 (0 : Fin 1) r l) = ∑ s : Fin 8, x1 (ix4 s (0 : Fin 1) r l) := by
  unfold out0_B_4
  rw [View.read_writes_eq_canon _ _ _ (cover0_B_4 c i arg2 harg2 arg3 harg3 arg4 harg4 arg5 harg5 arg6 harg6 hc0 hc1 hc2 hc3 x0 x1 x2 x3)]
  unfold kernelRun0_B
  dsimp only
  sl_unfold_words
  rw [View.canon_unit_zero (S := S1x256x704) hz]
  simp only [View.readAt_eq_ld, harg2.read_unread, harg3.read_unread, harg4.read_unread, harg5.read_unread]
  rw [pay2_apply]
  exact tot_eq _ _ _ _ _ _ _ _ x1 r l (ld_at x1 0 _ r l) (ld_at x1 1 _ r l) (ld_at x1 2 _ r l) (ld_at x1 3 _ r l) (ld_at x1 4 _ r l) (ld_at x1 5 _ r l) (ld_at x1 6 _ r l) (ld_at x1 7 _ r l)

/-- Case 2: the sum of input 2's parts. -/
theorem outC (hc0 : ¬cond0_0 i) (hc1 : ¬cond0_1 i) (hc2 : cond0_2 i) (hc3 : ¬cond0_3 i) :
    out0_C_4 (F := Ideal) c i arg2 harg2 arg3 harg3 arg4 harg4 arg5 harg5 arg6 harg6 hc0 hc1 hc2 hc3 x0 x1 x2 x3 (ix3 (0 : Fin 1) r l) = ∑ s : Fin 8, x2 (ix4 s (0 : Fin 1) r l) := by
  unfold out0_C_4
  rw [View.read_writes_eq_canon _ _ _ (cover0_C_4 c i arg2 harg2 arg3 harg3 arg4 harg4 arg5 harg5 arg6 harg6 hc0 hc1 hc2 hc3 x0 x1 x2 x3)]
  unfold kernelRun0_C
  dsimp only
  sl_unfold_words
  rw [View.canon_unit_zero (S := S1x256x704) hz]
  simp only [View.readAt_eq_ld, harg2.read_unread, harg3.read_unread, harg4.read_unread, harg5.read_unread]
  rw [pay3_apply]
  exact tot_eq _ _ _ _ _ _ _ _ x2 r l (ld_at x2 0 _ r l) (ld_at x2 1 _ r l) (ld_at x2 2 _ r l) (ld_at x2 3 _ r l) (ld_at x2 4 _ r l) (ld_at x2 5 _ r l) (ld_at x2 6 _ r l) (ld_at x2 7 _ r l)

/-- Case 3: the sum of input 3's parts. -/
theorem outD (hc0 : ¬cond0_0 i) (hc1 : ¬cond0_1 i) (hc2 : ¬cond0_2 i) (hc3 : cond0_3 i) :
    out0_D_4 (F := Ideal) c i arg2 harg2 arg3 harg3 arg4 harg4 arg5 harg5 arg6 harg6 hc0 hc1 hc2 hc3 x0 x1 x2 x3 (ix3 (0 : Fin 1) r l) = ∑ s : Fin 8, x3 (ix4 s (0 : Fin 1) r l) := by
  unfold out0_D_4
  rw [View.read_writes_eq_canon _ _ _ (cover0_D_4 c i arg2 harg2 arg3 harg3 arg4 harg4 arg5 harg5 arg6 harg6 hc0 hc1 hc2 hc3 x0 x1 x2 x3)]
  unfold kernelRun0_D
  dsimp only
  sl_unfold_words
  rw [View.canon_unit_zero (S := S1x256x704) hz]
  simp only [View.readAt_eq_ld, harg2.read_unread, harg3.read_unread, harg4.read_unread, harg5.read_unread]
  rw [pay4_apply]
  exact tot_eq _ _ _ _ _ _ _ _ x3 r l (ld_at x3 0 _ r l) (ld_at x3 1 _ r l) (ld_at x3 2 _ r l) (ld_at x3 3 _ r l) (ld_at x3 4 _ r l) (ld_at x3 5 _ r l) (ld_at x3 6 _ r l) (ld_at x3 7 _ r l)

end Point

/-! ## The kernel's array -/

variable (m : (ℓ : Loc nD τ sig) → Buf (Elt Ideal) ℓ) (c : Dev nD)

/-- The arrays the kernel is given. -/
abbrev X0 : FVec Ideal S8x1x1024x704 .bf16 := m ((c : Thread nD τ).loc main_arg0)
abbrev X1 : FVec Ideal S8x1x1024x704 .bf16 := m ((c : Thread nD τ).loc main_arg1)
abbrev X2 : FVec Ideal S8x1x1024x704 .bf16 := m ((c : Thread nD τ).loc main_arg2)
abbrev X3 : FVec Ideal S8x1x1024x704 .bf16 := m ((c : Thread nD τ).loc main_arg3)

/-- The printed index maps, decided over the grid: slot by slot, each tile by tile. -/
theorem idx : ∀ t : Fin grid0.N, (win0_0.index t 0 = 0 ∧ win0_0.index t 1 = 0 ∧ (t.val / 4 = 0 → win0_0.index t 2 = t.val % 4) ∧ win0_0.index t 3 = 0) ∧ (win0_1.index t 0 = 0 ∧ win0_1.index t 1 = 0 ∧ (t.val / 4 = 1 → win0_1.index t 2 = t.val % 4) ∧ win0_1.index t 3 = 0) ∧ (win0_2.index t 0 = 0 ∧ win0_2.index t 1 = 0 ∧ (t.val / 4 = 2 → win0_2.index t 2 = t.val % 4) ∧ win0_2.index t 3 = 0) ∧ (win0_3.index t 0 = 0 ∧ win0_3.index t 1 = 0 ∧ (t.val / 4 = 3 → win0_3.index t 2 = t.val % 4) ∧ win0_3.index t 3 = 0)
    ∧ (win0_4.index t 0 = t.val / 4 ∧ win0_4.index t 1 = t.val % 4 ∧ win0_4.index t 2 = 0) := by
  decide +kernel

/-- The grid point of a slot's tile, and a tile's row as a row of the whole. -/
abbrev pt (g : Fin 4) (i : Fin 4) : Fin cfg0.N := ⟨4 * g.val + i.val, lt_of_lt_of_eq (by omega : 4 * g.val + i.val < 16) (show 16 = cfg0.N from N_0.symm)⟩
abbrev row (i : Fin 4) (r : Fin 256) : Fin 1024 := ⟨256 * i.val + r.val, by omega⟩

theorem blk0 (i : Fin 4) (s : Fin 8) (r : Fin 256) (l : Fin 704) :
    (iblk m c 0 (pt 0 i) : Vec Ideal S8x1x256x704 .bf16) (ix4 s (0 : Fin 1) r l) = X0 m c (ix4 s (0 : Fin 1) (row i r) l) := by
  obtain ⟨⟨e0, e1, e2, e3⟩, -⟩ := idx (pt 0 i)
  unfold iblk
  rw [View.read_apply]
  show V m c main_arg0 _ = _
  rw [V_main_arg0]
  have e2' : win0_0.index (pt 0 i) 2 = i.val := (e2 (by show (4 * 0 + i.val) / 4 = 0; omega)).trans (by show (4 * 0 + i.val) % 4 = i.val; omega)
  congr 1; funext a; apply Fin.ext
  match a with
  | ⟨0, _⟩ => show win0_0.index (pt 0 i) 0 * 8 + 1 * s.val = s.val; rw [e0]; omega
  | ⟨1, _⟩ => show win0_0.index (pt 0 i) 1 * 1 + 1 * 0 = 0; rw [e1]
  | ⟨2, _⟩ => show win0_0.index (pt 0 i) 2 * 256 + 1 * r.val = 256 * i.val + r.val; rw [e2']; omega
  | ⟨3, _⟩ => show win0_0.index (pt 0 i) 3 * 704 + 1 * l.val = l.val; rw [e3]; omega

theorem blk1 (i : Fin 4) (s : Fin 8) (r : Fin 256) (l : Fin 704) :
    (iblk m c 1 (pt 1 i) : Vec Ideal S8x1x256x704 .bf16) (ix4 s (0 : Fin 1) r l) = X1 m c (ix4 s (0 : Fin 1) (row i r) l) := by
  obtain ⟨-, ⟨e0, e1, e2, e3⟩, -⟩ := idx (pt 1 i)
  unfold iblk
  rw [View.read_apply]
  show V m c main_arg1 _ = _
  rw [V_main_arg1]
  have e2' : win0_1.index (pt 1 i) 2 = i.val := (e2 (by show (4 * 1 + i.val) / 4 = 1; omega)).trans (by show (4 * 1 + i.val) % 4 = i.val; omega)
  congr 1; funext a; apply Fin.ext
  match a with
  | ⟨0, _⟩ => show win0_1.index (pt 1 i) 0 * 8 + 1 * s.val = s.val; rw [e0]; omega
  | ⟨1, _⟩ => show win0_1.index (pt 1 i) 1 * 1 + 1 * 0 = 0; rw [e1]
  | ⟨2, _⟩ => show win0_1.index (pt 1 i) 2 * 256 + 1 * r.val = 256 * i.val + r.val; rw [e2']; omega
  | ⟨3, _⟩ => show win0_1.index (pt 1 i) 3 * 704 + 1 * l.val = l.val; rw [e3]; omega

theorem blk2 (i : Fin 4) (s : Fin 8) (r : Fin 256) (l : Fin 704) :
    (iblk m c 2 (pt 2 i) : Vec Ideal S8x1x256x704 .bf16) (ix4 s (0 : Fin 1) r l) = X2 m c (ix4 s (0 : Fin 1) (row i r) l) := by
  obtain ⟨-, -, ⟨e0, e1, e2, e3⟩, -⟩ := idx (pt 2 i)
  unfold iblk
  rw [View.read_apply]
  show V m c main_arg2 _ = _
  rw [V_main_arg2]
  have e2' : win0_2.index (pt 2 i) 2 = i.val := (e2 (by show (4 * 2 + i.val) / 4 = 2; omega)).trans (by show (4 * 2 + i.val) % 4 = i.val; omega)
  congr 1; funext a; apply Fin.ext
  match a with
  | ⟨0, _⟩ => show win0_2.index (pt 2 i) 0 * 8 + 1 * s.val = s.val; rw [e0]; omega
  | ⟨1, _⟩ => show win0_2.index (pt 2 i) 1 * 1 + 1 * 0 = 0; rw [e1]
  | ⟨2, _⟩ => show win0_2.index (pt 2 i) 2 * 256 + 1 * r.val = 256 * i.val + r.val; rw [e2']; omega
  | ⟨3, _⟩ => show win0_2.index (pt 2 i) 3 * 704 + 1 * l.val = l.val; rw [e3]; omega

theorem blk3 (i : Fin 4) (s : Fin 8) (r : Fin 256) (l : Fin 704) :
    (iblk m c 3 (pt 3 i) : Vec Ideal S8x1x256x704 .bf16) (ix4 s (0 : Fin 1) r l) = X3 m c (ix4 s (0 : Fin 1) (row i r) l) := by
  obtain ⟨-, -, -, ⟨e0, e1, e2, e3⟩, -⟩ := idx (pt 3 i)
  unfold iblk
  rw [View.read_apply]
  show V m c main_arg3 _ = _
  rw [V_main_arg3]
  have e2' : win0_3.index (pt 3 i) 2 = i.val := (e2 (by show (4 * 3 + i.val) / 4 = 3; omega)).trans (by show (4 * 3 + i.val) % 4 = i.val; omega)
  congr 1; funext a; apply Fin.ext
  match a with
  | ⟨0, _⟩ => show win0_3.index (pt 3 i) 0 * 8 + 1 * s.val = s.val; rw [e0]; omega
  | ⟨1, _⟩ => show win0_3.index (pt 3 i) 1 * 1 + 1 * 0 = 0; rw [e1]
  | ⟨2, _⟩ => show win0_3.index (pt 3 i) 2 * 256 + 1 * r.val = 256 * i.val + r.val; rw [e2']; omega
  | ⟨3, _⟩ => show win0_3.index (pt 3 i) 3 * 704 + 1 * l.val = l.val; rw [e3]; omega

/-- A slot's tile of the array, read back, is what its point wrote. -/
theorem arr_at (g : Fin 4) (i : Fin 4) (r : Fin 256) (l : Fin 704) :
    ((dats m 0 c).arrAt 4 cfg0.N : FVec Ideal S4x1024x704 .f32) (ix3 g (row i r) l)
      = (outsAt0 m c (pt g i).val (pt g i).isLt : Vec Ideal S1x256x704 .f32) (ix3 (0 : Fin 1) r l) := by
  obtain ⟨-, -, -, -, ⟨e0, e1, e2⟩⟩ := idx (pt g i)
  have h := congrFun (blocks4 m c (pt g i) (flush0_4 _)) (ix3 (0 : Fin 1) r l)
  rw [View.read_apply, flushed4] at h
  have e0' : win0_4.index (pt g i) 0 = g.val := e0.trans (by show (4 * g.val + i.val) / 4 = g.val; omega)
  have e1' : win0_4.index (pt g i) 1 = i.val := e1.trans (by show (4 * g.val + i.val) % 4 = i.val; omega)
  have he : ((cfg0.win 4).blk (pt g i)).view.emb (ix3 (0 : Fin 1) r l) = ix3 g (row i r) l := by
    funext a; apply Fin.ext
    match a with
    | ⟨0, _⟩ => show win0_4.index (pt g i) 0 * 1 + 1 * 0 = g.val; rw [e0']; omega
    | ⟨1, _⟩ => show win0_4.index (pt g i) 1 * 256 + 1 * r.val = 256 * i.val + r.val; rw [e1']; omega
    | ⟨2, _⟩ => show win0_4.index (pt g i) 2 * 704 + 1 * l.val = l.val; rw [e2]; omega
  rw [he] at h
  exact h

/-- Each slot, entry by entry. -/
theorem kernel0 (i : Fin 4) (r : Fin 256) (l : Fin 704) :
    ((dats m 0 c).arrAt 4 cfg0.N : FVec Ideal S4x1024x704 .f32) (ix3 (0 : Fin 4) (row i r) l) = ∑ s : Fin 8, X0 m c (ix4 s (0 : Fin 1) (row i r) l) := by
  refine (arr_at m c 0 i r l).trans ((congrFun (outsAt0_A m c (pt 0 i) (show (4*0+i.val < 4) by omega) (show ¬((4*0+i.val) / 4 % 4 = 1) by omega) (show ¬((4*0+i.val) / 4 % 4 = 2) by omega) (show ¬(12 ≤ 4*0+i.val) by omega)) (ix3 (0 : Fin 1) r l)).trans ?_)
  refine (outA c _ _ _ _ _ _ _ _ _ _ _ _ _ _ _ r l _ _ _ _).trans ?_
  exact Finset.sum_congr rfl fun s _ => blk0 m c i s r l

theorem kernel1 (i : Fin 4) (r : Fin 256) (l : Fin 704) :
    ((dats m 0 c).arrAt 4 cfg0.N : FVec Ideal S4x1024x704 .f32) (ix3 (1 : Fin 4) (row i r) l) = ∑ s : Fin 8, X1 m c (ix4 s (0 : Fin 1) (row i r) l) := by
  refine (arr_at m c 1 i r l).trans ((congrFun (outsAt0_B m c (pt 1 i) (show ¬(4*1+i.val < 4) by omega) (show ((4*1+i.val) / 4 % 4 = 1) by omega) (show ¬((4*1+i.val) / 4 % 4 = 2) by omega) (show ¬(12 ≤ 4*1+i.val) by omega)) (ix3 (0 : Fin 1) r l)).trans ?_)
  refine (outB c _ _ _ _ _ _ _ _ _ _ _ _ _ _ _ r l _ _ _ _).trans ?_
  exact Finset.sum_congr rfl fun s _ => blk1 m c i s r l

theorem kernel2 (i : Fin 4) (r : Fin 256) (l : Fin 704) :
    ((dats m 0 c).arrAt 4 cfg0.N : FVec Ideal S4x1024x704 .f32) (ix3 (2 : Fin 4) (row i r) l) = ∑ s : Fin 8, X2 m c (ix4 s (0 : Fin 1) (row i r) l) := by
  refine (arr_at m c 2 i r l).trans ((congrFun (outsAt0_C m c (pt 2 i) (show ¬(4*2+i.val < 4) by omega) (show ¬((4*2+i.val) / 4 % 4 = 1) by omega) (show ((4*2+i.val) / 4 % 4 = 2) by omega) (show ¬(12 ≤ 4*2+i.val) by omega)) (ix3 (0 : Fin 1) r l)).trans ?_)
  refine (outC c _ _ _ _ _ _ _ _ _ _ _ _ _ _ _ r l _ _ _ _).trans ?_
  exact Finset.sum_congr rfl fun s _ => blk2 m c i s r l

theorem kernel3 (i : Fin 4) (r : Fin 256) (l : Fin 704) :
    ((dats m 0 c).arrAt 4 cfg0.N : FVec Ideal S4x1024x704 .f32) (ix3 (3 : Fin 4) (row i r) l) = ∑ s : Fin 8, X3 m c (ix4 s (0 : Fin 1) (row i r) l) := by
  refine (arr_at m c 3 i r l).trans ((congrFun (outsAt0_D m c (pt 3 i) (show ¬(4*3+i.val < 4) by omega) (show ¬((4*3+i.val) / 4 % 4 = 1) by omega) (show ¬((4*3+i.val) / 4 % 4 = 2) by omega) (show (12 ≤ 4*3+i.val) by omega)) (ix3 (0 : Fin 1) r l)).trans ?_)
  refine (outD c _ _ _ _ _ _ _ _ _ _ _ _ _ _ _ r l _ _ _ _).trans ?_
  exact Finset.sum_congr rfl fun s _ => blk3 m c i s r l

section Ref
open Cert.Reference23Ideal.Read
variable (x0 x1 x2 x3 : FVec Ideal S8x1x1024x704 .bf16) (t : Fin 1024) (l : Fin 704)
theorem part0 : val_main_v1 (F := Ideal) x0 (ix3 (0 : Fin 1) t l) = ∑ s : Fin 8, x0 (ix4 s (0 : Fin 1) t l) := by
  unfold val_main_v1 val_main_v0
  pointwise
  rw [show (val_main_cst (F := Ideal) (Shape.Idx.first Cert.Reference23Ideal.Gen.h_S_) : EReal) = 0 from zero_eq, zero_add]
theorem part1 : val_main_v3 (F := Ideal) x1 (ix3 (0 : Fin 1) t l) = ∑ s : Fin 8, x1 (ix4 s (0 : Fin 1) t l) := by
  unfold val_main_v3 val_main_v2
  pointwise
  rw [show (val_main_cst_0 (F := Ideal) (Shape.Idx.first Cert.Reference23Ideal.Gen.h_S_) : EReal) = 0 from zero_eq, zero_add]
theorem part2 : val_main_v5 (F := Ideal) x2 (ix3 (0 : Fin 1) t l) = ∑ s : Fin 8, x2 (ix4 s (0 : Fin 1) t l) := by
  unfold val_main_v5 val_main_v4
  pointwise
  rw [show (val_main_cst_1 (F := Ideal) (Shape.Idx.first Cert.Reference23Ideal.Gen.h_S_) : EReal) = 0 from zero_eq, zero_add]
theorem part3 : val_main_v7 (F := Ideal) x3 (ix3 (0 : Fin 1) t l) = ∑ s : Fin 8, x3 (ix4 s (0 : Fin 1) t l) := by
  unfold val_main_v7 val_main_v6
  pointwise
  rw [show (val_main_cst_2 (F := Ideal) (Shape.Idx.first Cert.Reference23Ideal.Gen.h_S_) : EReal) = 0 from zero_eq, zero_add]
end Ref

theorem value_eq : Cert.Reference23Ideal.Read.val_main_v8 (F := Ideal) (X0 m c) (X1 m c) (X2 m c) (X3 m c)
    = (dats m 0 c).arrAt 4 cfg0.N := by
  refine funext fun (j : S4x1024x704.Idx) => ?_
  obtain ⟨g, i, r, l, rfl⟩ : ∃ (g : Fin 4) (i : Fin 4) (r : Fin 256) (l : Fin 704), j = ix3 g (row i r) l := by
    have hj : (j 1).val < 1024 := (j 1).isLt
    refine ⟨j 0, ⟨(j 1).val / 256, by omega⟩, ⟨(j 1).val % 256, by omega⟩, j 2, ?_⟩
    funext a; match a with
    | ⟨0, _⟩ => rfl
    | ⟨1, _⟩ => exact Fin.ext (by show (j 1).val = 256 * ((j 1).val / 256) + (j 1).val % 256; omega)
    | ⟨2, _⟩ => rfl
  match g with
  | 0 => exact (slot0 _ _ _ _ _ (row i r) l).trans ((part0 _ (row i r) l).trans (kernel0 m c i r l).symm)
  | 1 => exact (slot1 _ _ _ _ _ (row i r) l).trans ((part1 _ (row i r) l).trans (kernel1 m c i r l).symm)
  | 2 => exact (slot2 _ _ _ _ _ (row i r) l).trans ((part2 _ (row i r) l).trans (kernel2 m c i r l).symm)
  | 3 => exact (slot3 _ _ _ _ _ (row i r) l).trans ((part3 _ (row i r) l).trans (kernel3 m c i r l).symm)

/-! ## The claims -/

/-- The reference runs on the host alone: its run keeps the arguments, and it has no semaphore. -/
theorem frame_reference : Cert.quiescent_Reference23Ideal := fun m ρ _ =>
  (θ_run Cert.Reference23Ideal.defs _ _).mono (fun r h => ⟨fun c => (h c).2, Idealize.ShloMosaic.sem_eq_zero_of_no_sems (by decide) r.2⟩)
    (Cert.Reference23Ideal.Value.run (F := Ideal) m ρ)

/-- The kernel's array is the reference's: the four sums. -/
theorem algebraic : Cert.algebraic_Kernel23Ideal_Reference23Ideal := by
  intro m ρ m' ρ' hpre hagree
  refine ⟨fun c => (dats m 0 c).arrAt 4 cfg0.N, Cert.Kernel23Ideal.Value.run_blocks (F := Ideal) m ρ, ?_⟩
  refine (θ_run Cert.Reference23Ideal.defs _ _).mono (fun _ h c => ?_) (Cert.Reference23Ideal.Value.run (F := Ideal) m' ρ')
  obtain ⟨e0, e1, e2, e3⟩ := hagree c
  refine ⟨(h c).1.trans ((Cert.Reference23Ideal.Read.val_main_v8_eq _ _ _ _).trans ?_), (h c).2⟩
  rw [e0, e1, e2, e3]
  exact value_eq m c

end Cert.SumGu

end
-- ==== Proof.SumDown.lean ====
/-
  The sum over the eight devices of the down projection's gradients: the kernel takes its four inputs one after another,
  tile by tile of 176 rows, and writes their sums into four slots; the reference joins the four sums.
-/
module

public import proofs.«01_k».proof.Defs
public import proofs.«01_k».proof.Proof.Gen.Kernel24Ideal.Value
public import proofs.«01_k».proof.Proof.Gen.Reference24Ideal.Read
public import proofs.«01_k».proof.Proof.Eight

@[expose] public section

set_option maxRecDepth 16384

noncomputable section

namespace Cert.SumDown

open Idealize.ShloMosaic Idealize.SL.Sem Idealize.ShloMosaic.TcCoe Idealize.ShloMosaic.Tactic
open Cert.Kernel24Ideal Cert.Kernel24Ideal.Gen Cert.Kernel24Ideal.Value
open Cert.Eight (zero_eq hz tot tot_eq ld_at slot0 slot1 slot2 slot3)

/-! ## What a point leaves -/

section Pay
variable (b0 b1 b2 b3 b4 b5 b6 b7 : Vec Ideal S1x1x176x1024 .bf16) (r : Fin 176) (l : Fin 1024)
/-- The eight devices' entries added up, in each of the four cases. -/
theorem pay1_apply : k0_pay1 (F := Ideal) (k0_pay5 b0 b1 b2 b3 b4 b5 b6) b7 (ix3 (0 : Fin 1) r l)
    = tot b0 b1 b2 b3 b4 b5 b6 b7 r l := by
  unfold tot k0_pay1 k0_pay5
  pointwise
theorem pay2_apply : k0_pay2 (F := Ideal) (k0_pay6 b0 b1 b2 b3 b4 b5 b6) b7 (ix3 (0 : Fin 1) r l)
    = tot b0 b1 b2 b3 b4 b5 b6 b7 r l := by
  unfold tot k0_pay2 k0_pay6
  pointwise
theorem pay3_apply : k0_pay3 (F := Ideal) (k0_pay7 b0 b1 b2 b3 b4 b5 b6) b7 (ix3 (0 : Fin 1) r l)
    = tot b0 b1 b2 b3 b4 b5 b6 b7 r l := by
  unfold tot k0_pay3 k0_pay7
  pointwise
theorem pay4_apply : k0_pay4 (F := Ideal) (k0_pay8 b0 b1 b2 b3 b4 b5 b6) b7 (ix3 (0 : Fin 1) r l)
    = tot b0 b1 b2 b3 b4 b5 b6 b7 r l := by
  unfold tot k0_pay4 k0_pay8
  pointwise
end Pay

section Point
variable (c : Dev nD) (i : grid0.Coords) (arg2 : Memref sig .tc .vmem S8x1x176x1024 .bf16) (harg2 : arg2.IsWhole) (arg3 : Memref sig .tc .vmem S8x1x176x1024 .bf16) (harg3 : arg3.IsWhole) (arg4 : Memref sig .tc .vmem S8x1x176x1024 .bf16) (harg4 : arg4.IsWhole) (arg5 : Memref sig .tc .vmem S8x1x176x1024 .bf16) (harg5 : arg5.IsWhole)
  (arg6 : Memref sig .tc .vmem S1x176x1024 .f32) (harg6 : arg6.IsWhole)
  (x0 x1 x2 x3 : Vec Ideal S8x1x176x1024 .bf16) (r : Fin 176) (l : Fin 1024)

/-- Case 0: the sum of input 0's parts. -/
theorem outA (hc0 : cond0_0 i) (hc1 : ¬cond0_1 i) (hc2 : ¬cond0_2 i) (hc3 : ¬cond0_3 i) :
    out0_A_4 (F := Ideal) c i arg2 harg2 arg3 harg3 arg4 harg4 arg5 harg5 arg6 harg6 hc0 hc1 hc2 hc3 x0 x1 x2 x3 (ix3 (0 : Fin 1) r l) = ∑ s : Fin 8, x0 (ix4 s (0 : Fin 1) r l) := by
  unfold out0_A_4
  rw [View.read_writes_eq_canon _ _ _ (cover0_A_4 c i arg2 harg2 arg3 harg3 arg4 harg4 arg5 harg5 arg6 harg6 hc0 hc1 hc2 hc3 x0 x1 x2 x3)]
  unfold kernelRun0_A
  dsimp only
  sl_unfold_words
  rw [View.canon_unit_zero (S := S1x176x1024) hz]
  simp only [View.readAt_eq_ld, harg2.read_unread, harg3.read_unread, harg4.read_unread, harg5.read_unread]
  rw [pay1_apply]
  exact tot_eq _ _ _ _ _ _ _ _ x0 r l (ld_at x0 0 _ r l) (ld_at x0 1 _ r l) (ld_at x0 2 _ r l) (ld_at x0 3 _ r l) (ld_at x0 4 _ r l) (ld_at x0 5 _ r l) (ld_at x0 6 _ r l) (ld_at x0 7 _ r l)

/-- Case 1: the sum of input 1's parts. -/
theorem outB (hc0 : ¬cond0_0 i) (hc1 : cond0_1 i) (hc2 : ¬cond0_2 i) (hc3 : ¬cond0_3 i) :
    out0_B_4 (F := Ideal) c i arg2 harg2 arg3 harg3 arg4 harg4 arg5 harg5 arg6 harg6 hc0 hc1 hc2 hc3 x0 x1 x2 x3 (ix3 (0 : Fin 1) r l) = ∑ s : Fin 8, x1 (ix4 s (0 : Fin 1) r l) := by
  unfold out0_B_4
  rw [View.read_writes_eq_canon _ _ _ (cover0_B_4 c i arg2 harg2 arg3 harg3 arg4 harg4 arg5 harg5 arg6 harg6 hc0 hc1 hc2 hc3 x0 x1 x2 x3)]
  unfold kernelRun0_B
  dsimp only
  sl_unfold_words
  rw [View.canon_unit_zero (S := S1x176x1024) hz]
  simp only [View.readAt_eq_ld, harg2.read_unread, harg3.read_unread, harg4.read_unread, harg5.read_unread]
  rw [pay2_apply]
  exact tot_eq _ _ _ _ _ _ _ _ x1 r l (ld_at x1 0 _ r l) (ld_at x1 1 _ r l) (ld_at x1 2 _ r l) (ld_at x1 3 _ r l) (ld_at x1 4 _ r l) (ld_at x1 5 _ r l) (ld_at x1 6 _ r l) (ld_at x1 7 _ r l)

/-- Case 2: the sum of input 2's parts. -/
theorem outC (hc0 : ¬cond0_0 i) (hc1 : ¬cond0_1 i) (hc2 : cond0_2 i) (hc3 : ¬cond0_3 i) :
    out0_C_4 (F := Ideal) c i arg2 harg2 arg3 harg3 arg4 harg4 arg5 harg5 arg6 harg6 hc0 hc1 hc2 hc3 x0 x1 x2 x3 (ix3 (0 : Fin 1) r l) = ∑ s : Fin 8, x2 (ix4 s (0 : Fin 1) r l) := by
  unfold out0_C_4
  rw [View.read_writes_eq_canon _ _ _ (cover0_C_4 c i arg2 harg2 arg3 harg3 arg4 harg4 arg5 harg5 arg6 harg6 hc0 hc1 hc2 hc3 x0 x1 x2 x3)]
  unfold kernelRun0_C
  dsimp only
  sl_unfold_words
  rw [View.canon_unit_zero (S := S1x176x1024) hz]
  simp only [View.readAt_eq_ld, harg2.read_unread, harg3.read_unread, harg4.read_unread, harg5.read_unread]
  rw [pay3_apply]
  exact tot_eq _ _ _ _ _ _ _ _ x2 r l (ld_at x2 0 _ r l) (ld_at x2 1 _ r l) (ld_at x2 2 _ r l) (ld_at x2 3 _ r l) (ld_at x2 4 _ r l) (ld_at x2 5 _ r l) (ld_at x2 6 _ r l) (ld_at x2 7 _ r l)

/-- Case 3: the sum of input 3's parts. -/
theorem outD (hc0 : ¬cond0_0 i) (hc1 : ¬cond0_1 i) (hc2 : ¬cond0_2 i) (hc3 : cond0_3 i) :
    out0_D_4 (F := Ideal) c i arg2 harg2 arg3 harg3 arg4 harg4 arg5 harg5 arg6 harg6 hc0 hc1 hc2 hc3 x0 x1 x2 x3 (ix3 (0 : Fin 1) r l) = ∑ s : Fin 8, x3 (ix4 s (0 : Fin 1) r l) := by
  unfold out0_D_4
  rw [View.read_writes_eq_canon _ _ _ (cover0_D_4 c i arg2 harg2 arg3 harg3 arg4 harg4 arg5 harg5 arg6 harg6 hc0 hc1 hc2 hc3 x0 x1 x2 x3)]
  unfold kernelRun0_D
  dsimp only
  sl_unfold_words
  rw [View.canon_unit_zero (S := S1x176x1024) hz]
  simp only [View.readAt_eq_ld, harg2.read_unread, harg3.read_unread, harg4.read_unread, harg5.read_unread]
  rw [pay4_apply]
  exact tot_eq _ _ _ _ _ _ _ _ x3 r l (ld_at x3 0 _ r l) (ld_at x3 1 _ r l) (ld_at x3 2 _ r l) (ld_at x3 3 _ r l) (ld_at x3 4 _ r l) (ld_at x3 5 _ r l) (ld_at x3 6 _ r l) (ld_at x3 7 _ r l)

end Point

/-! ## The kernel's array -/

variable (m : (ℓ : Loc nD τ sig) → Buf (Elt Ideal) ℓ) (c : Dev nD)

/-- The arrays the kernel is given. -/
abbrev X0 : FVec Ideal S8x1x352x1024 .bf16 := m ((c : Thread nD τ).loc main_arg0)
abbrev X1 : FVec Ideal S8x1x352x1024 .bf16 := m ((c : Thread nD τ).loc main_arg1)
abbrev X2 : FVec Ideal S8x1x352x1024 .bf16 := m ((c : Thread nD τ).loc main_arg2)
abbrev X3 : FVec Ideal S8x1x352x1024 .bf16 := m ((c : Thread nD τ).loc main_arg3)

/-- The printed index maps, decided over the grid: slot by slot, each tile by tile. -/
theorem idx : ∀ t : Fin grid0.N, (win0_0.index t 0 = 0 ∧ win0_0.index t 1 = 0 ∧ (t.val / 2 = 0 → win0_0.index t 2 = t.val % 2) ∧ win0_0.index t 3 = 0) ∧ (win0_1.index t 0 = 0 ∧ win0_1.index t 1 = 0 ∧ (t.val / 2 = 1 → win0_1.index t 2 = t.val % 2) ∧ win0_1.index t 3 = 0) ∧ (win0_2.index t 0 = 0 ∧ win0_2.index t 1 = 0 ∧ (t.val / 2 = 2 → win0_2.index t 2 = t.val % 2) ∧ win0_2.index t 3 = 0) ∧ (win0_3.index t 0 = 0 ∧ win0_3.index t 1 = 0 ∧ (t.val / 2 = 3 → win0_3.index t 2 = t.val % 2) ∧ win0_3.index t 3 = 0)
    ∧ (win0_4.index t 0 = t.val / 2 ∧ win0_4.index t 1 = t.val % 2 ∧ win0_4.index t 2 = 0) := by
  decide +kernel

/-- The grid point of a slot's tile, and a tile's row as a row of the whole. -/
abbrev pt (g : Fin 4) (i : Fin 2) : Fin cfg0.N := ⟨2 * g.val + i.val, lt_of_lt_of_eq (by omega : 2 * g.val + i.val < 8) (show 8 = cfg0.N from N_0.symm)⟩
abbrev row (i : Fin 2) (r : Fin 176) : Fin 352 := ⟨176 * i.val + r.val, by omega⟩

theorem blk0 (i : Fin 2) (s : Fin 8) (r : Fin 176) (l : Fin 1024) :
    (iblk m c 0 (pt 0 i) : Vec Ideal S8x1x176x1024 .bf16) (ix4 s (0 : Fin 1) r l) = X0 m c (ix4 s (0 : Fin 1) (row i r) l) := by
  obtain ⟨⟨e0, e1, e2, e3⟩, -⟩ := idx (pt 0 i)
  unfold iblk
  rw [View.read_apply]
  show V m c main_arg0 _ = _
  rw [V_main_arg0]
  have e2' : win0_0.index (pt 0 i) 2 = i.val := (e2 (by show (2 * 0 + i.val) / 2 = 0; omega)).trans (by show (2 * 0 + i.val) % 2 = i.val; omega)
  congr 1; funext a; apply Fin.ext
  match a with
  | ⟨0, _⟩ => show win0_0.index (pt 0 i) 0 * 8 + 1 * s.val = s.val; rw [e0]; omega
  | ⟨1, _⟩ => show win0_0.index (pt 0 i) 1 * 1 + 1 * 0 = 0; rw [e1]
  | ⟨2, _⟩ => show win0_0.index (pt 0 i) 2 * 176 + 1 * r.val = 176 * i.val + r.val; rw [e2']; omega
  | ⟨3, _⟩ => show win0_0.index (pt 0 i) 3 * 1024 + 1 * l.val = l.val; rw [e3]; omega

theorem blk1 (i : Fin 2) (s : Fin 8) (r : Fin 176) (l : Fin 1024) :
    (iblk m c 1 (pt 1 i) : Vec Ideal S8x1x176x1024 .bf16) (ix4 s (0 : Fin 1) r l) = X1 m c (ix4 s (0 : Fin 1) (row i r) l) := by
  obtain ⟨-, ⟨e0, e1, e2, e3⟩, -⟩ := idx (pt 1 i)
  unfold iblk
  rw [View.read_apply]
  show V m c main_arg1 _ = _
  rw [V_main_arg1]
  have e2' : win0_1.index (pt 1 i) 2 = i.val := (e2 (by show (2 * 1 + i.val) / 2 = 1; omega)).trans (by show (2 * 1 + i.val) % 2 = i.val; omega)
  congr 1; funext a; apply Fin.ext
  match a with
  | ⟨0, _⟩ => show win0_1.index (pt 1 i) 0 * 8 + 1 * s.val = s.val; rw [e0]; omega
  | ⟨1, _⟩ => show win0_1.index (pt 1 i) 1 * 1 + 1 * 0 = 0; rw [e1]
  | ⟨2, _⟩ => show win0_1.index (pt 1 i) 2 * 176 + 1 * r.val = 176 * i.val + r.val; rw [e2']; omega
  | ⟨3, _⟩ => show win0_1.index (pt 1 i) 3 * 1024 + 1 * l.val = l.val; rw [e3]; omega

theorem blk2 (i : Fin 2) (s : Fin 8) (r : Fin 176) (l : Fin 1024) :
    (iblk m c 2 (pt 2 i) : Vec Ideal S8x1x176x1024 .bf16) (ix4 s (0 : Fin 1) r l) = X2 m c (ix4 s (0 : Fin 1) (row i r) l) := by
  obtain ⟨-, -, ⟨e0, e1, e2, e3⟩, -⟩ := idx (pt 2 i)
  unfold iblk
  rw [View.read_apply]
  show V m c main_arg2 _ = _
  rw [V_main_arg2]
  have e2' : win0_2.index (pt 2 i) 2 = i.val := (e2 (by show (2 * 2 + i.val) / 2 = 2; omega)).trans (by show (2 * 2 + i.val) % 2 = i.val; omega)
  congr 1; funext a; apply Fin.ext
  match a with
  | ⟨0, _⟩ => show win0_2.index (pt 2 i) 0 * 8 + 1 * s.val = s.val; rw [e0]; omega
  | ⟨1, _⟩ => show win0_2.index (pt 2 i) 1 * 1 + 1 * 0 = 0; rw [e1]
  | ⟨2, _⟩ => show win0_2.index (pt 2 i) 2 * 176 + 1 * r.val = 176 * i.val + r.val; rw [e2']; omega
  | ⟨3, _⟩ => show win0_2.index (pt 2 i) 3 * 1024 + 1 * l.val = l.val; rw [e3]; omega

theorem blk3 (i : Fin 2) (s : Fin 8) (r : Fin 176) (l : Fin 1024) :
    (iblk m c 3 (pt 3 i) : Vec Ideal S8x1x176x1024 .bf16) (ix4 s (0 : Fin 1) r l) = X3 m c (ix4 s (0 : Fin 1) (row i r) l) := by
  obtain ⟨-, -, -, ⟨e0, e1, e2, e3⟩, -⟩ := idx (pt 3 i)
  unfold iblk
  rw [View.read_apply]
  show V m c main_arg3 _ = _
  rw [V_main_arg3]
  have e2' : win0_3.index (pt 3 i) 2 = i.val := (e2 (by show (2 * 3 + i.val) / 2 = 3; omega)).trans (by show (2 * 3 + i.val) % 2 = i.val; omega)
  congr 1; funext a; apply Fin.ext
  match a with
  | ⟨0, _⟩ => show win0_3.index (pt 3 i) 0 * 8 + 1 * s.val = s.val; rw [e0]; omega
  | ⟨1, _⟩ => show win0_3.index (pt 3 i) 1 * 1 + 1 * 0 = 0; rw [e1]
  | ⟨2, _⟩ => show win0_3.index (pt 3 i) 2 * 176 + 1 * r.val = 176 * i.val + r.val; rw [e2']; omega
  | ⟨3, _⟩ => show win0_3.index (pt 3 i) 3 * 1024 + 1 * l.val = l.val; rw [e3]; omega

/-- A slot's tile of the array, read back, is what its point wrote. -/
theorem arr_at (g : Fin 4) (i : Fin 2) (r : Fin 176) (l : Fin 1024) :
    ((dats m 0 c).arrAt 4 cfg0.N : FVec Ideal S4x352x1024 .f32) (ix3 g (row i r) l)
      = (outsAt0 m c (pt g i).val (pt g i).isLt : Vec Ideal S1x176x1024 .f32) (ix3 (0 : Fin 1) r l) := by
  obtain ⟨-, -, -, -, ⟨e0, e1, e2⟩⟩ := idx (pt g i)
  have h := congrFun (blocks4 m c (pt g i) (flush0_4 _)) (ix3 (0 : Fin 1) r l)
  rw [View.read_apply, flushed4] at h
  have e0' : win0_4.index (pt g i) 0 = g.val := e0.trans (by show (2 * g.val + i.val) / 2 = g.val; omega)
  have e1' : win0_4.index (pt g i) 1 = i.val := e1.trans (by show (2 * g.val + i.val) % 2 = i.val; omega)
  have he : ((cfg0.win 4).blk (pt g i)).view.emb (ix3 (0 : Fin 1) r l) = ix3 g (row i r) l := by
    funext a; apply Fin.ext
    match a with
    | ⟨0, _⟩ => show win0_4.index (pt g i) 0 * 1 + 1 * 0 = g.val; rw [e0']; omega
    | ⟨1, _⟩ => show win0_4.index (pt g i) 1 * 176 + 1 * r.val = 176 * i.val + r.val; rw [e1']; omega
    | ⟨2, _⟩ => show win0_4.index (pt g i) 2 * 1024 + 1 * l.val = l.val; rw [e2]; omega
  rw [he] at h
  exact h

/-- Each slot, entry by entry. -/
theorem kernel0 (i : Fin 2) (r : Fin 176) (l : Fin 1024) :
    ((dats m 0 c).arrAt 4 cfg0.N : FVec Ideal S4x352x1024 .f32) (ix3 (0 : Fin 4) (row i r) l) = ∑ s : Fin 8, X0 m c (ix4 s (0 : Fin 1) (row i r) l) := by
  refine (arr_at m c 0 i r l).trans ((congrFun (outsAt0_A m c (pt 0 i) (show (2*0+i.val < 2) by omega) (show ¬((2*0+i.val) / 2 % 4 = 1) by omega) (show ¬((2*0+i.val) / 2 % 4 = 2) by omega) (show ¬(6 ≤ 2*0+i.val) by omega)) (ix3 (0 : Fin 1) r l)).trans ?_)
  refine (outA c _ _ _ _ _ _ _ _ _ _ _ _ _ _ _ r l _ _ _ _).trans ?_
  exact Finset.sum_congr rfl fun s _ => blk0 m c i s r l

theorem kernel1 (i : Fin 2) (r : Fin 176) (l : Fin 1024) :
    ((dats m 0 c).arrAt 4 cfg0.N : FVec Ideal S4x352x1024 .f32) (ix3 (1 : Fin 4) (row i r) l) = ∑ s : Fin 8, X1 m c (ix4 s (0 : Fin 1) (row i r) l) := by
  refine (arr_at m c 1 i r l).trans ((congrFun (outsAt0_B m c (pt 1 i) (show ¬(2*1+i.val < 2) by omega) (show ((2*1+i.val) / 2 % 4 = 1) by omega) (show ¬((2*1+i.val) / 2 % 4 = 2) by omega) (show ¬(6 ≤ 2*1+i.val) by omega)) (ix3 (0 : Fin 1) r l)).trans ?_)
  refine (outB c _ _ _ _ _ _ _ _ _ _ _ _ _ _ _ r l _ _ _ _).trans ?_
  exact Finset.sum_congr rfl fun s _ => blk1 m c i s r l

theorem kernel2 (i : Fin 2) (r : Fin 176) (l : Fin 1024) :
    ((dats m 0 c).arrAt 4 cfg0.N : FVec Ideal S4x352x1024 .f32) (ix3 (2 : Fin 4) (row i r) l) = ∑ s : Fin 8, X2 m c (ix4 s (0 : Fin 1) (row i r) l) := by
  refine (arr_at m c 2 i r l).trans ((congrFun (outsAt0_C m c (pt 2 i) (show ¬(2*2+i.val < 2) by omega) (show ¬((2*2+i.val) / 2 % 4 = 1) by omega) (show ((2*2+i.val) / 2 % 4 = 2) by omega) (show ¬(6 ≤ 2*2+i.val) by omega)) (ix3 (0 : Fin 1) r l)).trans ?_)
  refine (outC c _ _ _ _ _ _ _ _ _ _ _ _ _ _ _ r l _ _ _ _).trans ?_
  exact Finset.sum_congr rfl fun s _ => blk2 m c i s r l

theorem kernel3 (i : Fin 2) (r : Fin 176) (l : Fin 1024) :
    ((dats m 0 c).arrAt 4 cfg0.N : FVec Ideal S4x352x1024 .f32) (ix3 (3 : Fin 4) (row i r) l) = ∑ s : Fin 8, X3 m c (ix4 s (0 : Fin 1) (row i r) l) := by
  refine (arr_at m c 3 i r l).trans ((congrFun (outsAt0_D m c (pt 3 i) (show ¬(2*3+i.val < 2) by omega) (show ¬((2*3+i.val) / 2 % 4 = 1) by omega) (show ¬((2*3+i.val) / 2 % 4 = 2) by omega) (show (6 ≤ 2*3+i.val) by omega)) (ix3 (0 : Fin 1) r l)).trans ?_)
  refine (outD c _ _ _ _ _ _ _ _ _ _ _ _ _ _ _ r l _ _ _ _).trans ?_
  exact Finset.sum_congr rfl fun s _ => blk3 m c i s r l

section Ref
open Cert.Reference24Ideal.Read
variable (x0 x1 x2 x3 : FVec Ideal S8x1x352x1024 .bf16) (t : Fin 352) (l : Fin 1024)
theorem part0 : val_main_v1 (F := Ideal) x0 (ix3 (0 : Fin 1) t l) = ∑ s : Fin 8, x0 (ix4 s (0 : Fin 1) t l) := by
  unfold val_main_v1 val_main_v0
  pointwise
  rw [show (val_main_cst (F := Ideal) (Shape.Idx.first Cert.Reference24Ideal.Gen.h_S_) : EReal) = 0 from zero_eq, zero_add]
theorem part1 : val_main_v3 (F := Ideal) x1 (ix3 (0 : Fin 1) t l) = ∑ s : Fin 8, x1 (ix4 s (0 : Fin 1) t l) := by
  unfold val_main_v3 val_main_v2
  pointwise
  rw [show (val_main_cst_0 (F := Ideal) (Shape.Idx.first Cert.Reference24Ideal.Gen.h_S_) : EReal) = 0 from zero_eq, zero_add]
theorem part2 : val_main_v5 (F := Ideal) x2 (ix3 (0 : Fin 1) t l) = ∑ s : Fin 8, x2 (ix4 s (0 : Fin 1) t l) := by
  unfold val_main_v5 val_main_v4
  pointwise
  rw [show (val_main_cst_1 (F := Ideal) (Shape.Idx.first Cert.Reference24Ideal.Gen.h_S_) : EReal) = 0 from zero_eq, zero_add]
theorem part3 : val_main_v7 (F := Ideal) x3 (ix3 (0 : Fin 1) t l) = ∑ s : Fin 8, x3 (ix4 s (0 : Fin 1) t l) := by
  unfold val_main_v7 val_main_v6
  pointwise
  rw [show (val_main_cst_2 (F := Ideal) (Shape.Idx.first Cert.Reference24Ideal.Gen.h_S_) : EReal) = 0 from zero_eq, zero_add]
end Ref

theorem value_eq : Cert.Reference24Ideal.Read.val_main_v8 (F := Ideal) (X0 m c) (X1 m c) (X2 m c) (X3 m c)
    = (dats m 0 c).arrAt 4 cfg0.N := by
  refine funext fun (j : S4x352x1024.Idx) => ?_
  obtain ⟨g, i, r, l, rfl⟩ : ∃ (g : Fin 4) (i : Fin 2) (r : Fin 176) (l : Fin 1024), j = ix3 g (row i r) l := by
    have hj : (j 1).val < 352 := (j 1).isLt
    refine ⟨j 0, ⟨(j 1).val / 176, by omega⟩, ⟨(j 1).val % 176, by omega⟩, j 2, ?_⟩
    funext a; match a with
    | ⟨0, _⟩ => rfl
    | ⟨1, _⟩ => exact Fin.ext (by show (j 1).val = 176 * ((j 1).val / 176) + (j 1).val % 176; omega)
    | ⟨2, _⟩ => rfl
  match g with
  | 0 => exact (slot0 _ _ _ _ _ (row i r) l).trans ((part0 _ (row i r) l).trans (kernel0 m c i r l).symm)
  | 1 => exact (slot1 _ _ _ _ _ (row i r) l).trans ((part1 _ (row i r) l).trans (kernel1 m c i r l).symm)
  | 2 => exact (slot2 _ _ _ _ _ (row i r) l).trans ((part2 _ (row i r) l).trans (kernel2 m c i r l).symm)
  | 3 => exact (slot3 _ _ _ _ _ (row i r) l).trans ((part3 _ (row i r) l).trans (kernel3 m c i r l).symm)

/-! ## The claims -/

/-- The reference runs on the host alone: its run keeps the arguments, and it has no semaphore. -/
theorem frame_reference : Cert.quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)

/-- The kernel's array is the reference's: the four sums. -/
theorem algebraic : Cert.algebraic_Kernel24Ideal_Reference24Ideal := by
  intro m ρ m' ρ' hpre hagree
  refine ⟨fun c => (dats m 0 c).arrAt 4 cfg0.N, Cert.Kernel24Ideal.Value.run_blocks (F := Ideal) m ρ, ?_⟩
  refine (θ_run Cert.Reference24Ideal.defs _ _).mono (fun _ h c => ?_) (Cert.Reference24Ideal.Value.run (F := Ideal) m' ρ')
  obtain ⟨e0, e1, e2, e3⟩ := hagree c
  refine ⟨(h c).1.trans ((Cert.Reference24Ideal.Read.val_main_v8_eq _ _ _ _).trans ?_), (h c).2⟩
  rw [e0, e1, e2, e3]
  exact value_eq m c

end Cert.SumDown

end
-- ==== Proof.SumIn.lean ====
/-
  The sum over the eight devices of the mixer's input projection's gradients: the kernel takes its four inputs one after another,
  writes their sums into four slots, and the columns are put in the parameter's order; the reference joins the four sums and
  takes their columns in that order.
-/
module

public import proofs.«01_k».proof.Defs
public import proofs.«01_k».proof.Proof.Gen.Kernel25Ideal.Frame
public import proofs.«01_k».proof.Proof.Gen.Reference25Ideal.Read
public import proofs.«01_k».proof.Proof.Eight

@[expose] public section

set_option maxRecDepth 16384

noncomputable section

namespace Cert.SumIn

open Idealize.ShloMosaic Idealize.SL.Sem Idealize.ShloMosaic.TcCoe Idealize.ShloMosaic.Tactic
open Cert.Kernel25Ideal Cert.Kernel25Ideal.Gen
open Cert.Eight (zero_eq hz tot tot_eq ld_at slot0 slot1 slot2 slot3)

/-! ## What a point leaves -/

section Pay
variable (b0 b1 b2 b3 b4 b5 b6 b7 : Vec Ideal S1x1x128x2048 .bf16) (r : Fin 128) (l : Fin 2048)
/-- The eight devices' entries added up, in each of the four cases. -/
theorem pay1_apply : k0_pay1 (F := Ideal) (k0_pay5 b0 b1 b2 b3 b4 b5 b6) b7 (ix3 (0 : Fin 1) r l)
    = tot b0 b1 b2 b3 b4 b5 b6 b7 r l := by
  unfold tot k0_pay1 k0_pay5
  pointwise
theorem pay2_apply : k0_pay2 (F := Ideal) (k0_pay6 b0 b1 b2 b3 b4 b5 b6) b7 (ix3 (0 : Fin 1) r l)
    = tot b0 b1 b2 b3 b4 b5 b6 b7 r l := by
  unfold tot k0_pay2 k0_pay6
  pointwise
theorem pay3_apply : k0_pay3 (F := Ideal) (k0_pay7 b0 b1 b2 b3 b4 b5 b6) b7 (ix3 (0 : Fin 1) r l)
    = tot b0 b1 b2 b3 b4 b5 b6 b7 r l := by
  unfold tot k0_pay3 k0_pay7
  pointwise
theorem pay4_apply : k0_pay4 (F := Ideal) (k0_pay8 b0 b1 b2 b3 b4 b5 b6) b7 (ix3 (0 : Fin 1) r l)
    = tot b0 b1 b2 b3 b4 b5 b6 b7 r l := by
  unfold tot k0_pay4 k0_pay8
  pointwise
end Pay

section Point
variable (c : Dev nD) (i : grid0.Coords) (arg2 : Memref sig .tc .vmem S8x1x128x2048 .bf16) (harg2 : arg2.IsWhole) (arg3 : Memref sig .tc .vmem S8x1x128x2048 .bf16) (harg3 : arg3.IsWhole) (arg4 : Memref sig .tc .vmem S8x1x128x2048 .bf16) (harg4 : arg4.IsWhole) (arg5 : Memref sig .tc .vmem S8x1x128x2048 .bf16) (harg5 : arg5.IsWhole)
  (arg6 : Memref sig .tc .vmem S1x128x2048 .f32) (harg6 : arg6.IsWhole)
  (x0 x1 x2 x3 : Vec Ideal S8x1x128x2048 .bf16) (r : Fin 128) (l : Fin 2048)

/-- Case 0: the sum of input 0's parts. -/
theorem outA (hc0 : cond0_0 i) (hc1 : ¬cond0_1 i) (hc2 : ¬cond0_2 i) (hc3 : ¬cond0_3 i) :
    out0_A_4 (F := Ideal) c i arg2 harg2 arg3 harg3 arg4 harg4 arg5 harg5 arg6 harg6 hc0 hc1 hc2 hc3 x0 x1 x2 x3 (ix3 (0 : Fin 1) r l) = ∑ s : Fin 8, x0 (ix4 s (0 : Fin 1) r l) := by
  unfold out0_A_4
  rw [View.read_writes_eq_canon _ _ _ (cover0_A_4 c i arg2 harg2 arg3 harg3 arg4 harg4 arg5 harg5 arg6 harg6 hc0 hc1 hc2 hc3 x0 x1 x2 x3)]
  unfold kernelRun0_A
  dsimp only
  sl_unfold_words
  rw [View.canon_unit_zero (S := S1x128x2048) hz]
  simp only [View.readAt_eq_ld, harg2.read_unread, harg3.read_unread, harg4.read_unread, harg5.read_unread]
  rw [pay1_apply]
  exact tot_eq _ _ _ _ _ _ _ _ x0 r l (ld_at x0 0 _ r l) (ld_at x0 1 _ r l) (ld_at x0 2 _ r l) (ld_at x0 3 _ r l) (ld_at x0 4 _ r l) (ld_at x0 5 _ r l) (ld_at x0 6 _ r l) (ld_at x0 7 _ r l)

/-- Case 1: the sum of input 1's parts. -/
theorem outB (hc0 : ¬cond0_0 i) (hc1 : cond0_1 i) (hc2 : ¬cond0_2 i) (hc3 : ¬cond0_3 i) :
    out0_B_4 (F := Ideal) c i arg2 harg2 arg3 harg3 arg4 harg4 arg5 harg5 arg6 harg6 hc0 hc1 hc2 hc3 x0 x1 x2 x3 (ix3 (0 : Fin 1) r l) = ∑ s : Fin 8, x1 (ix4 s (0 : Fin 1) r l) := by
  unfold out0_B_4
  rw [View.read_writes_eq_canon _ _ _ (cover0_B_4 c i arg2 harg2 arg3 harg3 arg4 harg4 arg5 harg5 arg6 harg6 hc0 hc1 hc2 hc3 x0 x1 x2 x3)]
  unfold kernelRun0_B
  dsimp only
  sl_unfold_words
  rw [View.canon_unit_zero (S := S1x128x2048) hz]
  simp only [View.readAt_eq_ld, harg2.read_unread, harg3.read_unread, harg4.read_unread, harg5.read_unread]
  rw [pay2_apply]
  exact tot_eq _ _ _ _ _ _ _ _ x1 r l (ld_at x1 0 _ r l) (ld_at x1 1 _ r l) (ld_at x1 2 _ r l) (ld_at x1 3 _ r l) (ld_at x1 4 _ r l) (ld_at x1 5 _ r l) (ld_at x1 6 _ r l) (ld_at x1 7 _ r l)

/-- Case 2: the sum of input 2's parts. -/
theorem outC (hc0 : ¬cond0_0 i) (hc1 : ¬cond0_1 i) (hc2 : cond0_2 i) (hc3 : ¬cond0_3 i) :
    out0_C_4 (F := Ideal) c i arg2 harg2 arg3 harg3 arg4 harg4 arg5 harg5 arg6 harg6 hc0 hc1 hc2 hc3 x0 x1 x2 x3 (ix3 (0 : Fin 1) r l) = ∑ s : Fin 8, x2 (ix4 s (0 : Fin 1) r l) := by
  unfold out0_C_4
  rw [View.read_writes_eq_canon _ _ _ (cover0_C_4 c i arg2 harg2 arg3 harg3 arg4 harg4 arg5 harg5 arg6 harg6 hc0 hc1 hc2 hc3 x0 x1 x2 x3)]
  unfold kernelRun0_C
  dsimp only
  sl_unfold_words
  rw [View.canon_unit_zero (S := S1x128x2048) hz]
  simp only [View.readAt_eq_ld, harg2.read_unread, harg3.read_unread, harg4.read_unread, harg5.read_unread]
  rw [pay3_apply]
  exact tot_eq _ _ _ _ _ _ _ _ x2 r l (ld_at x2 0 _ r l) (ld_at x2 1 _ r l) (ld_at x2 2 _ r l) (ld_at x2 3 _ r l) (ld_at x2 4 _ r l) (ld_at x2 5 _ r l) (ld_at x2 6 _ r l) (ld_at x2 7 _ r l)

/-- Case 3: the sum of input 3's parts. -/
theorem outD (hc0 : ¬cond0_0 i) (hc1 : ¬cond0_1 i) (hc2 : ¬cond0_2 i) (hc3 : cond0_3 i) :
    out0_D_4 (F := Ideal) c i arg2 harg2 arg3 harg3 arg4 harg4 arg5 harg5 arg6 harg6 hc0 hc1 hc2 hc3 x0 x1 x2 x3 (ix3 (0 : Fin 1) r l) = ∑ s : Fin 8, x3 (ix4 s (0 : Fin 1) r l) := by
  unfold out0_D_4
  rw [View.read_writes_eq_canon _ _ _ (cover0_D_4 c i arg2 harg2 arg3 harg3 arg4 harg4 arg5 harg5 arg6 harg6 hc0 hc1 hc2 hc3 x0 x1 x2 x3)]
  unfold kernelRun0_D
  dsimp only
  sl_unfold_words
  rw [View.canon_unit_zero (S := S1x128x2048) hz]
  simp only [View.readAt_eq_ld, harg2.read_unread, harg3.read_unread, harg4.read_unread, harg5.read_unread]
  rw [pay4_apply]
  exact tot_eq _ _ _ _ _ _ _ _ x3 r l (ld_at x3 0 _ r l) (ld_at x3 1 _ r l) (ld_at x3 2 _ r l) (ld_at x3 3 _ r l) (ld_at x3 4 _ r l) (ld_at x3 5 _ r l) (ld_at x3 6 _ r l) (ld_at x3 7 _ r l)

end Point

/-! ## The kernel's array -/

variable (m : (ℓ : Loc nD τ sig) → Buf (Elt Ideal) ℓ) (c : Dev nD)

/-- The arrays the kernel is given. -/
abbrev X0 : FVec Ideal S8x1x128x2048 .bf16 := m ((c : Thread nD τ).loc main_arg0)
abbrev X1 : FVec Ideal S8x1x128x2048 .bf16 := m ((c : Thread nD τ).loc main_arg1)
abbrev X2 : FVec Ideal S8x1x128x2048 .bf16 := m ((c : Thread nD τ).loc main_arg2)
abbrev X3 : FVec Ideal S8x1x128x2048 .bf16 := m ((c : Thread nD τ).loc main_arg3)

/-- The printed index maps, decided over the grid: slot by slot, each tile by tile. -/
theorem idx : ∀ t : Fin grid0.N, (win0_0.index t 0 = 0 ∧ win0_0.index t 1 = 0 ∧ (t.val = 0 → win0_0.index t 2 = 0) ∧ win0_0.index t 3 = 0) ∧ (win0_1.index t 0 = 0 ∧ win0_1.index t 1 = 0 ∧ (t.val = 1 → win0_1.index t 2 = 0) ∧ win0_1.index t 3 = 0) ∧ (win0_2.index t 0 = 0 ∧ win0_2.index t 1 = 0 ∧ (t.val = 2 → win0_2.index t 2 = 0) ∧ win0_2.index t 3 = 0) ∧ (win0_3.index t 0 = 0 ∧ win0_3.index t 1 = 0 ∧ (t.val = 3 → win0_3.index t 2 = 0) ∧ win0_3.index t 3 = 0)
    ∧ (win0_4.index t 0 = t.val ∧ win0_4.index t 1 = 0 ∧ win0_4.index t 2 = 0) := by
  decide +kernel

/-- The grid point of a slot's tile, and a tile's row as a row of the whole. -/
abbrev pt (g : Fin 4) (i : Fin 1) : Fin cfg0.N := ⟨1 * g.val + i.val, lt_of_lt_of_eq (by omega : 1 * g.val + i.val < 4) (show 4 = cfg0.N from N_0.symm)⟩
abbrev row (i : Fin 1) (r : Fin 128) : Fin 128 := ⟨128 * i.val + r.val, by omega⟩

theorem blk0 (i : Fin 1) (s : Fin 8) (r : Fin 128) (l : Fin 2048) :
    (iblk m c 0 (pt 0 i) : Vec Ideal S8x1x128x2048 .bf16) (ix4 s (0 : Fin 1) r l) = X0 m c (ix4 s (0 : Fin 1) (row i r) l) := by
  obtain ⟨⟨e0, e1, e2, e3⟩, -⟩ := idx (pt 0 i)
  unfold iblk
  rw [View.read_apply]
  show V m c main_arg0 _ = _
  rw [V_main_arg0]
  have e2' : win0_0.index (pt 0 i) 2 = i.val := (e2 (by show 1 * 0 + i.val = 0; omega)).trans (by omega)
  congr 1; funext a; apply Fin.ext
  match a with
  | ⟨0, _⟩ => show win0_0.index (pt 0 i) 0 * 8 + 1 * s.val = s.val; rw [e0]; omega
  | ⟨1, _⟩ => show win0_0.index (pt 0 i) 1 * 1 + 1 * 0 = 0; rw [e1]
  | ⟨2, _⟩ => show win0_0.index (pt 0 i) 2 * 128 + 1 * r.val = 128 * i.val + r.val; rw [e2']; omega
  | ⟨3, _⟩ => show win0_0.index (pt 0 i) 3 * 2048 + 1 * l.val = l.val; rw [e3]; omega

theorem blk1 (i : Fin 1) (s : Fin 8) (r : Fin 128) (l : Fin 2048) :
    (iblk m c 1 (pt 1 i) : Vec Ideal S8x1x128x2048 .bf16) (ix4 s (0 : Fin 1) r l) = X1 m c (ix4 s (0 : Fin 1) (row i r) l) := by
  obtain ⟨-, ⟨e0, e1, e2, e3⟩, -⟩ := idx (pt 1 i)
  unfold iblk
  rw [View.read_apply]
  show V m c main_arg1 _ = _
  rw [V_main_arg1]
  have e2' : win0_1.index (pt 1 i) 2 = i.val := (e2 (by show 1 * 1 + i.val = 1; omega)).trans (by omega)
  congr 1; funext a; apply Fin.ext
  match a with
  | ⟨0, _⟩ => show win0_1.index (pt 1 i) 0 * 8 + 1 * s.val = s.val; rw [e0]; omega
  | ⟨1, _⟩ => show win0_1.index (pt 1 i) 1 * 1 + 1 * 0 = 0; rw [e1]
  | ⟨2, _⟩ => show win0_1.index (pt 1 i) 2 * 128 + 1 * r.val = 128 * i.val + r.val; rw [e2']; omega
  | ⟨3, _⟩ => show win0_1.index (pt 1 i) 3 * 2048 + 1 * l.val = l.val; rw [e3]; omega

theorem blk2 (i : Fin 1) (s : Fin 8) (r : Fin 128) (l : Fin 2048) :
    (iblk m c 2 (pt 2 i) : Vec Ideal S8x1x128x2048 .bf16) (ix4 s (0 : Fin 1) r l) = X2 m c (ix4 s (0 : Fin 1) (row i r) l) := by
  obtain ⟨-, -, ⟨e0, e1, e2, e3⟩, -⟩ := idx (pt 2 i)
  unfold iblk
  rw [View.read_apply]
  show V m c main_arg2 _ = _
  rw [V_main_arg2]
  have e2' : win0_2.index (pt 2 i) 2 = i.val := (e2 (by show 1 * 2 + i.val = 2; omega)).trans (by omega)
  congr 1; funext a; apply Fin.ext
  match a with
  | ⟨0, _⟩ => show win0_2.index (pt 2 i) 0 * 8 + 1 * s.val = s.val; rw [e0]; omega
  | ⟨1, _⟩ => show win0_2.index (pt 2 i) 1 * 1 + 1 * 0 = 0; rw [e1]
  | ⟨2, _⟩ => show win0_2.index (pt 2 i) 2 * 128 + 1 * r.val = 128 * i.val + r.val; rw [e2']; omega
  | ⟨3, _⟩ => show win0_2.index (pt 2 i) 3 * 2048 + 1 * l.val = l.val; rw [e3]; omega

theorem blk3 (i : Fin 1) (s : Fin 8) (r : Fin 128) (l : Fin 2048) :
    (iblk m c 3 (pt 3 i) : Vec Ideal S8x1x128x2048 .bf16) (ix4 s (0 : Fin 1) r l) = X3 m c (ix4 s (0 : Fin 1) (row i r) l) := by
  obtain ⟨-, -, -, ⟨e0, e1, e2, e3⟩, -⟩ := idx (pt 3 i)
  unfold iblk
  rw [View.read_apply]
  show V m c main_arg3 _ = _
  rw [V_main_arg3]
  have e2' : win0_3.index (pt 3 i) 2 = i.val := (e2 (by show 1 * 3 + i.val = 3; omega)).trans (by omega)
  congr 1; funext a; apply Fin.ext
  match a with
  | ⟨0, _⟩ => show win0_3.index (pt 3 i) 0 * 8 + 1 * s.val = s.val; rw [e0]; omega
  | ⟨1, _⟩ => show win0_3.index (pt 3 i) 1 * 1 + 1 * 0 = 0; rw [e1]
  | ⟨2, _⟩ => show win0_3.index (pt 3 i) 2 * 128 + 1 * r.val = 128 * i.val + r.val; rw [e2']; omega
  | ⟨3, _⟩ => show win0_3.index (pt 3 i) 3 * 2048 + 1 * l.val = l.val; rw [e3]; omega

/-- Two points write two tiles, so a tile, read back, is what its point wrote. -/
theorem inj4 : ∀ t t' : Fin grid0.N, win0_4.index t = win0_4.index t' → t = t' := by decide +kernel
theorem tile4 (t : Fin cfg0.N) : ((cfg0.win 4).blk t).view.read (Elt Ideal) ((dats m 0 c).arrAt 4 cfg0.N)
    = (cfg0.win 4).cut (grid0.coords t) (outsAt0 m c t.val t.isLt) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4]

/-- A slot's tile of the array, read back, is what its point wrote. -/
theorem arr_at (g : Fin 4) (i : Fin 1) (r : Fin 128) (l : Fin 2048) :
    ((dats m 0 c).arrAt 4 cfg0.N : FVec Ideal S4x128x2048 .f32) (ix3 g (row i r) l)
      = (outsAt0 m c (pt g i).val (pt g i).isLt : Vec Ideal S1x128x2048 .f32) (ix3 (0 : Fin 1) r l) := by
  obtain ⟨-, -, -, -, ⟨e0, e1, e2⟩⟩ := idx (pt g i)
  have h := congrFun (tile4 m c (pt g i)) (ix3 (0 : Fin 1) r l)
  rw [View.read_apply] at h
  have e0' : win0_4.index (pt g i) 0 = g.val := e0.trans (by show 1 * g.val + i.val = g.val; omega)
  have e1' : win0_4.index (pt g i) 1 = i.val := e1.trans (by omega)
  have he : ((cfg0.win 4).blk (pt g i)).view.emb (ix3 (0 : Fin 1) r l) = ix3 g (row i r) l := by
    funext a; apply Fin.ext
    match a with
    | ⟨0, _⟩ => show win0_4.index (pt g i) 0 * 1 + 1 * 0 = g.val; rw [e0']; omega
    | ⟨1, _⟩ => show win0_4.index (pt g i) 1 * 128 + 1 * r.val = 128 * i.val + r.val; rw [e1']; omega
    | ⟨2, _⟩ => show win0_4.index (pt g i) 2 * 2048 + 1 * l.val = l.val; rw [e2]; omega
  rw [he] at h
  exact h

/-- Each slot, entry by entry. -/
theorem kernel0 (i : Fin 1) (r : Fin 128) (l : Fin 2048) :
    ((dats m 0 c).arrAt 4 cfg0.N : FVec Ideal S4x128x2048 .f32) (ix3 (0 : Fin 4) (row i r) l) = ∑ s : Fin 8, X0 m c (ix4 s (0 : Fin 1) (row i r) l) := by
  refine (arr_at m c 0 i r l).trans ((congrFun (outsAt0_A m c (pt 0 i) (show ((1*0+i.val) % 4 = 0) by omega) (show ¬((1*0+i.val) % 4 = 1) by omega) (show ¬((1*0+i.val) % 4 = 2) by omega) (show ¬((1*0+i.val) % 4 = 3) by omega)) (ix3 (0 : Fin 1) r l)).trans ?_)
  refine (outA c _ _ _ _ _ _ _ _ _ _ _ _ _ _ _ r l _ _ _ _).trans ?_
  exact Finset.sum_congr rfl fun s _ => blk0 m c i s r l

theorem kernel1 (i : Fin 1) (r : Fin 128) (l : Fin 2048) :
    ((dats m 0 c).arrAt 4 cfg0.N : FVec Ideal S4x128x2048 .f32) (ix3 (1 : Fin 4) (row i r) l) = ∑ s : Fin 8, X1 m c (ix4 s (0 : Fin 1) (row i r) l) := by
  refine (arr_at m c 1 i r l).trans ((congrFun (outsAt0_B m c (pt 1 i) (show ¬((1*1+i.val) % 4 = 0) by omega) (show ((1*1+i.val) % 4 = 1) by omega) (show ¬((1*1+i.val) % 4 = 2) by omega) (show ¬((1*1+i.val) % 4 = 3) by omega)) (ix3 (0 : Fin 1) r l)).trans ?_)
  refine (outB c _ _ _ _ _ _ _ _ _ _ _ _ _ _ _ r l _ _ _ _).trans ?_
  exact Finset.sum_congr rfl fun s _ => blk1 m c i s r l

theorem kernel2 (i : Fin 1) (r : Fin 128) (l : Fin 2048) :
    ((dats m 0 c).arrAt 4 cfg0.N : FVec Ideal S4x128x2048 .f32) (ix3 (2 : Fin 4) (row i r) l) = ∑ s : Fin 8, X2 m c (ix4 s (0 : Fin 1) (row i r) l) := by
  refine (arr_at m c 2 i r l).trans ((congrFun (outsAt0_C m c (pt 2 i) (show ¬((1*2+i.val) % 4 = 0) by omega) (show ¬((1*2+i.val) % 4 = 1) by omega) (show ((1*2+i.val) % 4 = 2) by omega) (show ¬((1*2+i.val) % 4 = 3) by omega)) (ix3 (0 : Fin 1) r l)).trans ?_)
  refine (outC c _ _ _ _ _ _ _ _ _ _ _ _ _ _ _ r l _ _ _ _).trans ?_
  exact Finset.sum_congr rfl fun s _ => blk2 m c i s r l

theorem kernel3 (i : Fin 1) (r : Fin 128) (l : Fin 2048) :
    ((dats m 0 c).arrAt 4 cfg0.N : FVec Ideal S4x128x2048 .f32) (ix3 (3 : Fin 4) (row i r) l) = ∑ s : Fin 8, X3 m c (ix4 s (0 : Fin 1) (row i r) l) := by
  refine (arr_at m c 3 i r l).trans ((congrFun (outsAt0_D m c (pt 3 i) (show ¬((1*3+i.val) % 4 = 0) by omega) (show ¬((1*3+i.val) % 4 = 1) by omega) (show ¬((1*3+i.val) % 4 = 2) by omega) (show ((1*3+i.val) % 4 = 3) by omega)) (ix3 (0 : Fin 1) r l)).trans ?_)
  refine (outD c _ _ _ _ _ _ _ _ _ _ _ _ _ _ _ r l _ _ _ _).trans ?_
  exact Finset.sum_congr rfl fun s _ => blk3 m c i s r l

section Ref
open Cert.Reference25Ideal.Read
variable (x0 x1 x2 x3 : FVec Ideal S8x1x128x2048 .bf16) (t : Fin 128) (l : Fin 2048)
theorem part0 : val_main_v1 (F := Ideal) x0 (ix3 (0 : Fin 1) t l) = ∑ s : Fin 8, x0 (ix4 s (0 : Fin 1) t l) := by
  unfold val_main_v1 val_main_v0
  pointwise
  rw [show (val_main_cst (F := Ideal) (Shape.Idx.first Cert.Reference25Ideal.Gen.h_S_) : EReal) = 0 from zero_eq, zero_add]
theorem part1 : val_main_v3 (F := Ideal) x1 (ix3 (0 : Fin 1) t l) = ∑ s : Fin 8, x1 (ix4 s (0 : Fin 1) t l) := by
  unfold val_main_v3 val_main_v2
  pointwise
  rw [show (val_main_cst_0 (F := Ideal) (Shape.Idx.first Cert.Reference25Ideal.Gen.h_S_) : EReal) = 0 from zero_eq, zero_add]
theorem part2 : val_main_v5 (F := Ideal) x2 (ix3 (0 : Fin 1) t l) = ∑ s : Fin 8, x2 (ix4 s (0 : Fin 1) t l) := by
  unfold val_main_v5 val_main_v4
  pointwise
  rw [show (val_main_cst_1 (F := Ideal) (Shape.Idx.first Cert.Reference25Ideal.Gen.h_S_) : EReal) = 0 from zero_eq, zero_add]
theorem part3 : val_main_v7 (F := Ideal) x3 (ix3 (0 : Fin 1) t l) = ∑ s : Fin 8, x3 (ix4 s (0 : Fin 1) t l) := by
  unfold val_main_v7 val_main_v6
  pointwise
  rw [show (val_main_cst_2 (F := Ideal) (Shape.Idx.first Cert.Reference25Ideal.Gen.h_S_) : EReal) = 0 from zero_eq, zero_add]
end Ref

theorem value_eq : Cert.Reference25Ideal.Read.val_main_v8 (F := Ideal) (X0 m c) (X1 m c) (X2 m c) (X3 m c)
    = (dats m 0 c).arrAt 4 cfg0.N := by
  refine funext fun (j : S4x128x2048.Idx) => ?_
  obtain ⟨g, i, r, l, rfl⟩ : ∃ (g : Fin 4) (i : Fin 1) (r : Fin 128) (l : Fin 2048), j = ix3 g (row i r) l := by
    have hj : (j 1).val < 128 := (j 1).isLt
    refine ⟨j 0, ⟨(j 1).val / 128, by omega⟩, ⟨(j 1).val % 128, by omega⟩, j 2, ?_⟩
    funext a; match a with
    | ⟨0, _⟩ => rfl
    | ⟨1, _⟩ => exact Fin.ext (by show (j 1).val = 128 * ((j 1).val / 128) + (j 1).val % 128; omega)
    | ⟨2, _⟩ => rfl
  match g with
  | 0 => exact (slot0 _ _ _ _ _ (row i r) l).trans ((part0 _ (row i r) l).trans (kernel0 m c i r l).symm)
  | 1 => exact (slot1 _ _ _ _ _ (row i r) l).trans ((part1 _ (row i r) l).trans (kernel1 m c i r l).symm)
  | 2 => exact (slot2 _ _ _ _ _ (row i r) l).trans ((part2 _ (row i r) l).trans (kernel2 m c i r l).symm)
  | 3 => exact (slot3 _ _ _ _ _ (row i r) l).trans ((part3 _ (row i r) l).trans (kernel3 m c i r l).symm)

/-! ## The columns in the parameter's order -/

/-- The four column ranges the kernel's side puts side by side are the reference's three. -/
theorem columns (y : FVec Ideal S4x128x2048 .f32) :
    (concatenate S4x128x1932 2 [⟨S4x128x1280, extractStridedSlice S4x128x1280 ![0, 0, 0] y slices_S4x128x2048_S4x128x1280_0_0_0⟩, ⟨S4x128x384, extractStridedSlice S4x128x384 ![0, 0, 1536] y slices_S4x128x2048_S4x128x384_0_0_1536⟩, ⟨S4x128x12, extractStridedSlice S4x128x12 ![0, 0, 1920] y slices_S4x128x2048_S4x128x12_0_0_1920⟩, ⟨S4x128x256, extractStridedSlice S4x128x256 ![0, 0, 1280] y slices_S4x128x2048_S4x128x256_0_0_1280⟩] concatenates_S4x128x1280_S4x128x384_S4x128x12_S4x128x256_S4x128x1932_d2 : FVec Ideal S4x128x1932 .f32)
      = concatenate S4x128x1932 2 [⟨S4x128x1280, extractStridedSlice S4x128x1280 ![0, 0, 0] y Cert.Reference25Ideal.Gen.slices_S4x128x2048_S4x128x1280_0_0_0⟩, ⟨Cert.Reference25Ideal.S4x128x396, extractStridedSlice Cert.Reference25Ideal.S4x128x396 ![0, 0, 1536] y Cert.Reference25Ideal.Gen.slices_S4x128x2048_S4x128x396_0_0_1536⟩, ⟨S4x128x256, extractStridedSlice S4x128x256 ![0, 0, 1280] y Cert.Reference25Ideal.Gen.slices_S4x128x2048_S4x128x256_0_0_1280⟩] Cert.Reference25Ideal.Gen.concatenates_S4x128x1280_S4x128x396_S4x128x256_S4x128x1932_d2 := by
  refine funext fun (j : S4x128x1932.Idx) => ?_
  have hj : (j 2).val < 1932 := (j 2).isLt
  by_cases h1 : (j 2).val < 1280
  · refine ((concatenate_apply_piece (t := S4x128x1932) 2 _ _ j 0 (by show 0 < 4; decide) S4x128x1280 _ rfl rfl 0 rfl (ix3 (j 0) (j 1) ⟨(j 2).val - 0, by omega⟩)
      (fun b hb => match b with | ⟨0, _⟩ => rfl | ⟨1, _⟩ => rfl | ⟨2, _⟩ => absurd rfl hb) (by show 0 + ((j 2).val - 0) = (j 2).val; omega)).trans
      (extractStridedSlice_apply ![0, 0, 0] y _ (ix3 (j 0) (j 1) ⟨(j 2).val - 0, by omega⟩) (ix3 (j 0) (j 1) ⟨(j 2).val - 0 + 0, by omega⟩) (fun a => match a with
        | ⟨0, _⟩ => by show (j 0).val = 0 + (j 0).val; omega
        | ⟨1, _⟩ => by show (j 1).val = 0 + (j 1).val; omega
        | ⟨2, _⟩ => by show (j 2).val - 0 + 0 = 0 + ((j 2).val - 0); omega))).trans (Eq.trans rfl ((concatenate_apply_piece (t := S4x128x1932) 2 _ _ j 0 (by show 0 < 3; decide) S4x128x1280 _ rfl rfl 0 rfl (ix3 (j 0) (j 1) ⟨(j 2).val - 0, by omega⟩)
      (fun b hb => match b with | ⟨0, _⟩ => rfl | ⟨1, _⟩ => rfl | ⟨2, _⟩ => absurd rfl hb) (by show 0 + ((j 2).val - 0) = (j 2).val; omega)).trans
      (extractStridedSlice_apply ![0, 0, 0] y _ (ix3 (j 0) (j 1) ⟨(j 2).val - 0, by omega⟩) (ix3 (j 0) (j 1) ⟨(j 2).val - 0 + 0, by omega⟩) (fun a => match a with
        | ⟨0, _⟩ => by show (j 0).val = 0 + (j 0).val; omega
        | ⟨1, _⟩ => by show (j 1).val = 0 + (j 1).val; omega
        | ⟨2, _⟩ => by show (j 2).val - 0 + 0 = 0 + ((j 2).val - 0); omega))).symm)
  by_cases h2 : (j 2).val < 1664
  · refine ((concatenate_apply_piece (t := S4x128x1932) 2 _ _ j 1 (by show 1 < 4; decide) S4x128x384 _ rfl rfl 1280 rfl (ix3 (j 0) (j 1) ⟨(j 2).val - 1280, by omega⟩)
      (fun b hb => match b with | ⟨0, _⟩ => rfl | ⟨1, _⟩ => rfl | ⟨2, _⟩ => absurd rfl hb) (by show 1280 + ((j 2).val - 1280) = (j 2).val; omega)).trans
      (extractStridedSlice_apply ![0, 0, 1536] y _ (ix3 (j 0) (j 1) ⟨(j 2).val - 1280, by omega⟩) (ix3 (j 0) (j 1) ⟨(j 2).val - 1280 + 1536, by omega⟩) (fun a => match a with
        | ⟨0, _⟩ => by show (j 0).val = 0 + (j 0).val; omega
        | ⟨1, _⟩ => by show (j 1).val = 0 + (j 1).val; omega
        | ⟨2, _⟩ => by show (j 2).val - 1280 + 1536 = 1536 + ((j 2).val - 1280); omega))).trans (Eq.trans rfl ((concatenate_apply_piece (t := S4x128x1932) 2 _ _ j 1 (by show 1 < 3; decide) Cert.Reference25Ideal.S4x128x396 _ rfl rfl 1280 rfl (ix3 (j 0) (j 1) ⟨(j 2).val - 1280, by omega⟩)
      (fun b hb => match b with | ⟨0, _⟩ => rfl | ⟨1, _⟩ => rfl | ⟨2, _⟩ => absurd rfl hb) (by show 1280 + ((j 2).val - 1280) = (j 2).val; omega)).trans
      (extractStridedSlice_apply ![0, 0, 1536] y _ (ix3 (j 0) (j 1) ⟨(j 2).val - 1280, by omega⟩) (ix3 (j 0) (j 1) ⟨(j 2).val - 1280 + 1536, by omega⟩) (fun a => match a with
        | ⟨0, _⟩ => by show (j 0).val = 0 + (j 0).val; omega
        | ⟨1, _⟩ => by show (j 1).val = 0 + (j 1).val; omega
        | ⟨2, _⟩ => by show (j 2).val - 1280 + 1536 = 1536 + ((j 2).val - 1280); omega))).symm)
  by_cases h3 : (j 2).val < 1676
  · refine ((concatenate_apply_piece (t := S4x128x1932) 2 _ _ j 2 (by show 2 < 4; decide) S4x128x12 _ rfl rfl 1664 rfl (ix3 (j 0) (j 1) ⟨(j 2).val - 1664, by omega⟩)
      (fun b hb => match b with | ⟨0, _⟩ => rfl | ⟨1, _⟩ => rfl | ⟨2, _⟩ => absurd rfl hb) (by show 1664 + ((j 2).val - 1664) = (j 2).val; omega)).trans
      (extractStridedSlice_apply ![0, 0, 1920] y _ (ix3 (j 0) (j 1) ⟨(j 2).val - 1664, by omega⟩) (ix3 (j 0) (j 1) ⟨(j 2).val - 1664 + 1920, by omega⟩) (fun a => match a with
        | ⟨0, _⟩ => by show (j 0).val = 0 + (j 0).val; omega
        | ⟨1, _⟩ => by show (j 1).val = 0 + (j 1).val; omega
        | ⟨2, _⟩ => by show (j 2).val - 1664 + 1920 = 1920 + ((j 2).val - 1664); omega))).trans (Eq.trans ?_ ((concatenate_apply_piece (t := S4x128x1932) 2 _ _ j 1 (by show 1 < 3; decide) Cert.Reference25Ideal.S4x128x396 _ rfl rfl 1280 rfl (ix3 (j 0) (j 1) ⟨(j 2).val - 1280, by omega⟩)
      (fun b hb => match b with | ⟨0, _⟩ => rfl | ⟨1, _⟩ => rfl | ⟨2, _⟩ => absurd rfl hb) (by show 1280 + ((j 2).val - 1280) = (j 2).val; omega)).trans
      (extractStridedSlice_apply ![0, 0, 1536] y _ (ix3 (j 0) (j 1) ⟨(j 2).val - 1280, by omega⟩) (ix3 (j 0) (j 1) ⟨(j 2).val - 1280 + 1536, by omega⟩) (fun a => match a with
        | ⟨0, _⟩ => by show (j 0).val = 0 + (j 0).val; omega
        | ⟨1, _⟩ => by show (j 1).val = 0 + (j 1).val; omega
        | ⟨2, _⟩ => by show (j 2).val - 1280 + 1536 = 1536 + ((j 2).val - 1280); omega))).symm)
    congr 1; funext a; apply Fin.ext
    match a with
    | ⟨0, _⟩ => rfl
    | ⟨1, _⟩ => rfl
    | ⟨2, _⟩ => show (j 2).val - 1664 + 1920 = (j 2).val - 1280 + 1536; omega
  · refine ((concatenate_apply_piece (t := S4x128x1932) 2 _ _ j 3 (by show 3 < 4; decide) S4x128x256 _ rfl rfl 1676 rfl (ix3 (j 0) (j 1) ⟨(j 2).val - 1676, by omega⟩)
      (fun b hb => match b with | ⟨0, _⟩ => rfl | ⟨1, _⟩ => rfl | ⟨2, _⟩ => absurd rfl hb) (by show 1676 + ((j 2).val - 1676) = (j 2).val; omega)).trans
      (extractStridedSlice_apply ![0, 0, 1280] y _ (ix3 (j 0) (j 1) ⟨(j 2).val - 1676, by omega⟩) (ix3 (j 0) (j 1) ⟨(j 2).val - 1676 + 1280, by omega⟩) (fun a => match a with
        | ⟨0, _⟩ => by show (j 0).val = 0 + (j 0).val; omega
        | ⟨1, _⟩ => by show (j 1).val = 0 + (j 1).val; omega
        | ⟨2, _⟩ => by show (j 2).val - 1676 + 1280 = 1280 + ((j 2).val - 1676); omega))).trans (Eq.trans rfl ((concatenate_apply_piece (t := S4x128x1932) 2 _ _ j 2 (by show 2 < 3; decide) S4x128x256 _ rfl rfl 1676 rfl (ix3 (j 0) (j 1) ⟨(j 2).val - 1676, by omega⟩)
      (fun b hb => match b with | ⟨0, _⟩ => rfl | ⟨1, _⟩ => rfl | ⟨2, _⟩ => absurd rfl hb) (by show 1676 + ((j 2).val - 1676) = (j 2).val; omega)).trans
      (extractStridedSlice_apply ![0, 0, 1280] y _ (ix3 (j 0) (j 1) ⟨(j 2).val - 1676, by omega⟩) (ix3 (j 0) (j 1) ⟨(j 2).val - 1676 + 1280, by omega⟩) (fun a => match a with
        | ⟨0, _⟩ => by show (j 0).val = 0 + (j 0).val; omega
        | ⟨1, _⟩ => by show (j 1).val = 0 + (j 1).val; omega
        | ⟨2, _⟩ => by show (j 2).val - 1676 + 1280 = 1280 + ((j 2).val - 1676); omega))).symm)

/-- The contents of every buffer when the region ends: its arrays as written, the rest as found. -/
abbrev ended : Valuation τ sig (Elt Ideal) :=
  Pipeline.withArrays (cfgs 0).spec c (V0 m c) fun w => (dats m 0 c).arrAt w (cfgs 0).N
theorem ended4 : ended m c (Proc.devRef .tc main_v0) = (dats m 0 c).arrAt 4 cfg0.N :=
  Pipeline.withArrays_arr spec0 (by decide) c (V0 m c) (fun w => (dats m 0 c).arrAt w (cfgs 0).N) 4

theorem res : Pipeline.afterTail₀ cfgs (dats m) 0 (V0 m) [hostOps1] c main_v5
    = Cert.Reference25Ideal.Read.val_main_v12 (F := Ideal) (X0 m c) (X1 m c) (X2 m c) (X3 m c) := by
  show StableHlo.after hostOps1 (ended m c) (Proc.devRef .tc main_v5) = _
  unfold Cert.Reference25Ideal.Read.val_main_v12 Cert.Reference25Ideal.Read.val_main_v9 Cert.Reference25Ideal.Read.val_main_v10 Cert.Reference25Ideal.Read.val_main_v11
  have h4 := (ended4 m c).trans (value_eq m c).symm
  generalize Cert.Reference25Ideal.Read.val_main_v8 (F := Ideal) (X0 m c) (X1 m c) (X2 m c) (X3 m c) = y at *
  generalize ended m c = W at *
  after_reads_simp
  subst h4
  exact columns _

/-! ## The claims -/

/-- The reference runs on the host alone: its run keeps the arguments, and it has no semaphore. -/
theorem frame_reference : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

/-- The kernel's array is the reference's: the four sums, their columns in the parameter's order. -/
theorem algebraic : Cert.algebraic_Kernel25Ideal_Reference25Ideal := by
  intro m ρ m' ρ' hpre hagree
  refine ⟨fun c => (Cert.Reference25Ideal.Read.val_main_v12 (F := Ideal) (X0 m c) (X1 m c) (X2 m c) (X3 m c) : FVec Ideal S4x128x1932 .f32), ?_, ?_⟩
  · refine (θ_run defs _ _).mono (fun r h c => ?_) (run_main (F := Ideal) m ρ)
    exact ⟨((h c).2 main_v5 (Pipeline.mem_restRefs_of main_v5 (by decide) (by decide))).trans (res m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩
  refine (θ_run Cert.Reference25Ideal.defs _ _).mono (fun _ h c => ?_) (Cert.Reference25Ideal.Value.run (F := Ideal) m' ρ')
  obtain ⟨e0, e1, e2, e3⟩ := hagree c
  refine ⟨(h c).1.trans ((Cert.Reference25Ideal.Read.val_main_v12_eq _ _ _ _).trans ?_), (h c).2⟩
  rw [e0, e1, e2, e3]

end Cert.SumIn

end
-- ==== Proof.SumOut.lean ====
/-
  The sum over the eight devices of the mixer's output projection's gradients: the kernel takes its four inputs one after another,
  tile by tile of 128 rows, and writes their sums into four slots; the reference joins the four sums.
-/
module

public import proofs.«01_k».proof.Defs
public import proofs.«01_k».proof.Proof.Gen.Kernel26Ideal.Value
public import proofs.«01_k».proof.Proof.Gen.Reference26Ideal.Read
public import proofs.«01_k».proof.Proof.Eight

@[expose] public section

set_option maxRecDepth 16384

noncomputable section

namespace Cert.SumOut

open Idealize.ShloMosaic Idealize.SL.Sem Idealize.ShloMosaic.TcCoe Idealize.ShloMosaic.Tactic
open Cert.Kernel26Ideal Cert.Kernel26Ideal.Gen Cert.Kernel26Ideal.Value
open Cert.Eight (zero_eq hz tot tot_eq ld_at slot0 slot1 slot2 slot3)

/-! ## What a point leaves -/

section Pay
variable (b0 b1 b2 b3 b4 b5 b6 b7 : Vec Ideal S1x1x128x1024 .bf16) (r : Fin 128) (l : Fin 1024)
/-- The eight devices' entries added up, in each of the four cases. -/
theorem pay1_apply : k0_pay1 (F := Ideal) (k0_pay5 b0 b1 b2 b3 b4 b5 b6) b7 (ix3 (0 : Fin 1) r l)
    = tot b0 b1 b2 b3 b4 b5 b6 b7 r l := by
  unfold tot k0_pay1 k0_pay5
  pointwise
theorem pay2_apply : k0_pay2 (F := Ideal) (k0_pay6 b0 b1 b2 b3 b4 b5 b6) b7 (ix3 (0 : Fin 1) r l)
    = tot b0 b1 b2 b3 b4 b5 b6 b7 r l := by
  unfold tot k0_pay2 k0_pay6
  pointwise
theorem pay3_apply : k0_pay3 (F := Ideal) (k0_pay7 b0 b1 b2 b3 b4 b5 b6) b7 (ix3 (0 : Fin 1) r l)
    = tot b0 b1 b2 b3 b4 b5 b6 b7 r l := by
  unfold tot k0_pay3 k0_pay7
  pointwise
theorem pay4_apply : k0_pay4 (F := Ideal) (k0_pay8 b0 b1 b2 b3 b4 b5 b6) b7 (ix3 (0 : Fin 1) r l)
    = tot b0 b1 b2 b3 b4 b5 b6 b7 r l := by
  unfold tot k0_pay4 k0_pay8
  pointwise
end Pay

section Point
variable (c : Dev nD) (i : grid0.Coords) (arg2 : Memref sig .tc .vmem S8x1x128x1024 .bf16) (harg2 : arg2.IsWhole) (arg3 : Memref sig .tc .vmem S8x1x128x1024 .bf16) (harg3 : arg3.IsWhole) (arg4 : Memref sig .tc .vmem S8x1x128x1024 .bf16) (harg4 : arg4.IsWhole) (arg5 : Memref sig .tc .vmem S8x1x128x1024 .bf16) (harg5 : arg5.IsWhole)
  (arg6 : Memref sig .tc .vmem S1x128x1024 .f32) (harg6 : arg6.IsWhole)
  (x0 x1 x2 x3 : Vec Ideal S8x1x128x1024 .bf16) (r : Fin 128) (l : Fin 1024)

/-- Case 0: the sum of input 0's parts. -/
theorem outA (hc0 : cond0_0 i) (hc1 : ¬cond0_1 i) (hc2 : ¬cond0_2 i) (hc3 : ¬cond0_3 i) :
    out0_A_4 (F := Ideal) c i arg2 harg2 arg3 harg3 arg4 harg4 arg5 harg5 arg6 harg6 hc0 hc1 hc2 hc3 x0 x1 x2 x3 (ix3 (0 : Fin 1) r l) = ∑ s : Fin 8, x0 (ix4 s (0 : Fin 1) r l) := by
  unfold out0_A_4
  rw [View.read_writes_eq_canon _ _ _ (cover0_A_4 c i arg2 harg2 arg3 harg3 arg4 harg4 arg5 harg5 arg6 harg6 hc0 hc1 hc2 hc3 x0 x1 x2 x3)]
  unfold kernelRun0_A
  dsimp only
  sl_unfold_words
  rw [View.canon_unit_zero (S := S1x128x1024) hz]
  simp only [View.readAt_eq_ld, harg2.read_unread, harg3.read_unread, harg4.read_unread, harg5.read_unread]
  rw [pay1_apply]
  exact tot_eq _ _ _ _ _ _ _ _ x0 r l (ld_at x0 0 _ r l) (ld_at x0 1 _ r l) (ld_at x0 2 _ r l) (ld_at x0 3 _ r l) (ld_at x0 4 _ r l) (ld_at x0 5 _ r l) (ld_at x0 6 _ r l) (ld_at x0 7 _ r l)

/-- Case 1: the sum of input 1's parts. -/
theorem outB (hc0 : ¬cond0_0 i) (hc1 : cond0_1 i) (hc2 : ¬cond0_2 i) (hc3 : ¬cond0_3 i) :
    out0_B_4 (F := Ideal) c i arg2 harg2 arg3 harg3 arg4 harg4 arg5 harg5 arg6 harg6 hc0 hc1 hc2 hc3 x0 x1 x2 x3 (ix3 (0 : Fin 1) r l) = ∑ s : Fin 8, x1 (ix4 s (0 : Fin 1) r l) := by
  unfold out0_B_4
  rw [View.read_writes_eq_canon _ _ _ (cover0_B_4 c i arg2 harg2 arg3 harg3 arg4 harg4 arg5 harg5 arg6 harg6 hc0 hc1 hc2 hc3 x0 x1 x2 x3)]
  unfold kernelRun0_B
  dsimp only
  sl_unfold_words
  rw [View.canon_unit_zero (S := S1x128x1024) hz]
  simp only [View.readAt_eq_ld, harg2.read_unread, harg3.read_unread, harg4.read_unread, harg5.read_unread]
  rw [pay2_apply]
  exact tot_eq _ _ _ _ _ _ _ _ x1 r l (ld_at x1 0 _ r l) (ld_at x1 1 _ r l) (ld_at x1 2 _ r l) (ld_at x1 3 _ r l) (ld_at x1 4 _ r l) (ld_at x1 5 _ r l) (ld_at x1 6 _ r l) (ld_at x1 7 _ r l)

/-- Case 2: the sum of input 2's parts. -/
theorem outC (hc0 : ¬cond0_0 i) (hc1 : ¬cond0_1 i) (hc2 : cond0_2 i) (hc3 : ¬cond0_3 i) :
    out0_C_4 (F := Ideal) c i arg2 harg2 arg3 harg3 arg4 harg4 arg5 harg5 arg6 harg6 hc0 hc1 hc2 hc3 x0 x1 x2 x3 (ix3 (0 : Fin 1) r l) = ∑ s : Fin 8, x2 (ix4 s (0 : Fin 1) r l) := by
  unfold out0_C_4
  rw [View.read_writes_eq_canon _ _ _ (cover0_C_4 c i arg2 harg2 arg3 harg3 arg4 harg4 arg5 harg5 arg6 harg6 hc0 hc1 hc2 hc3 x0 x1 x2 x3)]
  unfold kernelRun0_C
  dsimp only
  sl_unfold_words
  rw [View.canon_unit_zero (S := S1x128x1024) hz]
  simp only [View.readAt_eq_ld, harg2.read_unread, harg3.read_unread, harg4.read_unread, harg5.read_unread]
  rw [pay3_apply]
  exact tot_eq _ _ _ _ _ _ _ _ x2 r l (ld_at x2 0 _ r l) (ld_at x2 1 _ r l) (ld_at x2 2 _ r l) (ld_at x2 3 _ r l) (ld_at x2 4 _ r l) (ld_at x2 5 _ r l) (ld_at x2 6 _ r l) (ld_at x2 7 _ r l)

/-- Case 3: the sum of input 3's parts. -/
theorem outD (hc0 : ¬cond0_0 i) (hc1 : ¬cond0_1 i) (hc2 : ¬cond0_2 i) (hc3 : cond0_3 i) :
    out0_D_4 (F := Ideal) c i arg2 harg2 arg3 harg3 arg4 harg4 arg5 harg5 arg6 harg6 hc0 hc1 hc2 hc3 x0 x1 x2 x3 (ix3 (0 : Fin 1) r l) = ∑ s : Fin 8, x3 (ix4 s (0 : Fin 1) r l) := by
  unfold out0_D_4
  rw [View.read_writes_eq_canon _ _ _ (cover0_D_4 c i arg2 harg2 arg3 harg3 arg4 harg4 arg5 harg5 arg6 harg6 hc0 hc1 hc2 hc3 x0 x1 x2 x3)]
  unfold kernelRun0_D
  dsimp only
  sl_unfold_words
  rw [View.canon_unit_zero (S := S1x128x1024) hz]
  simp only [View.readAt_eq_ld, harg2.read_unread, harg3.read_unread, harg4.read_unread, harg5.read_unread]
  rw [pay4_apply]
  exact tot_eq _ _ _ _ _ _ _ _ x3 r l (ld_at x3 0 _ r l) (ld_at x3 1 _ r l) (ld_at x3 2 _ r l) (ld_at x3 3 _ r l) (ld_at x3 4 _ r l) (ld_at x3 5 _ r l) (ld_at x3 6 _ r l) (ld_at x3 7 _ r l)

end Point

/-! ## The kernel's array -/

variable (m : (ℓ : Loc nD τ sig) → Buf (Elt Ideal) ℓ) (c : Dev nD)

/-- The arrays the kernel is given. -/
abbrev X0 : FVec Ideal S8x1x128x1024 .bf16 := m ((c : Thread nD τ).loc main_arg0)
abbrev X1 : FVec Ideal S8x1x128x1024 .bf16 := m ((c : Thread nD τ).loc main_arg1)
abbrev X2 : FVec Ideal S8x1x128x1024 .bf16 := m ((c : Thread nD τ).loc main_arg2)
abbrev X3 : FVec Ideal S8x1x128x1024 .bf16 := m ((c : Thread nD τ).loc main_arg3)

/-- The printed index maps, decided over the grid: slot by slot, each tile by tile. -/
theorem idx : ∀ t : Fin grid0.N, (win0_0.index t 0 = 0 ∧ win0_0.index t 1 = 0 ∧ (t.val = 0 → win0_0.index t 2 = 0) ∧ win0_0.index t 3 = 0) ∧ (win0_1.index t 0 = 0 ∧ win0_1.index t 1 = 0 ∧ (t.val = 1 → win0_1.index t 2 = 0) ∧ win0_1.index t 3 = 0) ∧ (win0_2.index t 0 = 0 ∧ win0_2.index t 1 = 0 ∧ (t.val = 2 → win0_2.index t 2 = 0) ∧ win0_2.index t 3 = 0) ∧ (win0_3.index t 0 = 0 ∧ win0_3.index t 1 = 0 ∧ (t.val = 3 → win0_3.index t 2 = 0) ∧ win0_3.index t 3 = 0)
    ∧ (win0_4.index t 0 = t.val ∧ win0_4.index t 1 = 0 ∧ win0_4.index t 2 = 0) := by
  decide +kernel

/-- The grid point of a slot's tile, and a tile's row as a row of the whole. -/
abbrev pt (g : Fin 4) (i : Fin 1) : Fin cfg0.N := ⟨1 * g.val + i.val, lt_of_lt_of_eq (by omega : 1 * g.val + i.val < 4) (show 4 = cfg0.N from N_0.symm)⟩
abbrev row (i : Fin 1) (r : Fin 128) : Fin 128 := ⟨128 * i.val + r.val, by omega⟩

theorem blk0 (i : Fin 1) (s : Fin 8) (r : Fin 128) (l : Fin 1024) :
    (iblk m c 0 (pt 0 i) : Vec Ideal S8x1x128x1024 .bf16) (ix4 s (0 : Fin 1) r l) = X0 m c (ix4 s (0 : Fin 1) (row i r) l) := by
  obtain ⟨⟨e0, e1, e2, e3⟩, -⟩ := idx (pt 0 i)
  unfold iblk
  rw [View.read_apply]
  show V m c main_arg0 _ = _
  rw [V_main_arg0]
  have e2' : win0_0.index (pt 0 i) 2 = i.val := (e2 (by show 1 * 0 + i.val = 0; omega)).trans (by omega)
  congr 1; funext a; apply Fin.ext
  match a with
  | ⟨0, _⟩ => show win0_0.index (pt 0 i) 0 * 8 + 1 * s.val = s.val; rw [e0]; omega
  | ⟨1, _⟩ => show win0_0.index (pt 0 i) 1 * 1 + 1 * 0 = 0; rw [e1]
  | ⟨2, _⟩ => show win0_0.index (pt 0 i) 2 * 128 + 1 * r.val = 128 * i.val + r.val; rw [e2']; omega
  | ⟨3, _⟩ => show win0_0.index (pt 0 i) 3 * 1024 + 1 * l.val = l.val; rw [e3]; omega

theorem blk1 (i : Fin 1) (s : Fin 8) (r : Fin 128) (l : Fin 1024) :
    (iblk m c 1 (pt 1 i) : Vec Ideal S8x1x128x1024 .bf16) (ix4 s (0 : Fin 1) r l) = X1 m c (ix4 s (0 : Fin 1) (row i r) l) := by
  obtain ⟨-, ⟨e0, e1, e2, e3⟩, -⟩ := idx (pt 1 i)
  unfold iblk
  rw [View.read_apply]
  show V m c main_arg1 _ = _
  rw [V_main_arg1]
  have e2' : win0_1.index (pt 1 i) 2 = i.val := (e2 (by show 1 * 1 + i.val = 1; omega)).trans (by omega)
  congr 1; funext a; apply Fin.ext
  match a with
  | ⟨0, _⟩ => show win0_1.index (pt 1 i) 0 * 8 + 1 * s.val = s.val; rw [e0]; omega
  | ⟨1, _⟩ => show win0_1.index (pt 1 i) 1 * 1 + 1 * 0 = 0; rw [e1]
  | ⟨2, _⟩ => show win0_1.index (pt 1 i) 2 * 128 + 1 * r.val = 128 * i.val + r.val; rw [e2']; omega
  | ⟨3, _⟩ => show win0_1.index (pt 1 i) 3 * 1024 + 1 * l.val = l.val; rw [e3]; omega

theorem blk2 (i : Fin 1) (s : Fin 8) (r : Fin 128) (l : Fin 1024) :
    (iblk m c 2 (pt 2 i) : Vec Ideal S8x1x128x1024 .bf16) (ix4 s (0 : Fin 1) r l) = X2 m c (ix4 s (0 : Fin 1) (row i r) l) := by
  obtain ⟨-, -, ⟨e0, e1, e2, e3⟩, -⟩ := idx (pt 2 i)
  unfold iblk
  rw [View.read_apply]
  show V m c main_arg2 _ = _
  rw [V_main_arg2]
  have e2' : win0_2.index (pt 2 i) 2 = i.val := (e2 (by show 1 * 2 + i.val = 2; omega)).trans (by omega)
  congr 1; funext a; apply Fin.ext
  match a with
  | ⟨0, _⟩ => show win0_2.index (pt 2 i) 0 * 8 + 1 * s.val = s.val; rw [e0]; omega
  | ⟨1, _⟩ => show win0_2.index (pt 2 i) 1 * 1 + 1 * 0 = 0; rw [e1]
  | ⟨2, _⟩ => show win0_2.index (pt 2 i) 2 * 128 + 1 * r.val = 128 * i.val + r.val; rw [e2']; omega
  | ⟨3, _⟩ => show win0_2.index (pt 2 i) 3 * 1024 + 1 * l.val = l.val; rw [e3]; omega

theorem blk3 (i : Fin 1) (s : Fin 8) (r : Fin 128) (l : Fin 1024) :
    (iblk m c 3 (pt 3 i) : Vec Ideal S8x1x128x1024 .bf16) (ix4 s (0 : Fin 1) r l) = X3 m c (ix4 s (0 : Fin 1) (row i r) l) := by
  obtain ⟨-, -, -, ⟨e0, e1, e2, e3⟩, -⟩ := idx (pt 3 i)
  unfold iblk
  rw [View.read_apply]
  show V m c main_arg3 _ = _
  rw [V_main_arg3]
  have e2' : win0_3.index (pt 3 i) 2 = i.val := (e2 (by show 1 * 3 + i.val = 3; omega)).trans (by omega)
  congr 1; funext a; apply Fin.ext
  match a with
  | ⟨0, _⟩ => show win0_3.index (pt 3 i) 0 * 8 + 1 * s.val = s.val; rw [e0]; omega
  | ⟨1, _⟩ => show win0_3.index (pt 3 i) 1 * 1 + 1 * 0 = 0; rw [e1]
  | ⟨2, _⟩ => show win0_3.index (pt 3 i) 2 * 128 + 1 * r.val = 128 * i.val + r.val; rw [e2']; omega
  | ⟨3, _⟩ => show win0_3.index (pt 3 i) 3 * 1024 + 1 * l.val = l.val; rw [e3]; omega

/-- A slot's tile of the array, read back, is what its point wrote. -/
theorem arr_at (g : Fin 4) (i : Fin 1) (r : Fin 128) (l : Fin 1024) :
    ((dats m 0 c).arrAt 4 cfg0.N : FVec Ideal S4x128x1024 .f32) (ix3 g (row i r) l)
      = (outsAt0 m c (pt g i).val (pt g i).isLt : Vec Ideal S1x128x1024 .f32) (ix3 (0 : Fin 1) r l) := by
  obtain ⟨-, -, -, -, ⟨e0, e1, e2⟩⟩ := idx (pt g i)
  have h := congrFun (blocks4 m c (pt g i) (flush0_4 _)) (ix3 (0 : Fin 1) r l)
  rw [View.read_apply, flushed4] at h
  have e0' : win0_4.index (pt g i) 0 = g.val := e0.trans (by show 1 * g.val + i.val = g.val; omega)
  have e1' : win0_4.index (pt g i) 1 = i.val := e1.trans (by omega)
  have he : ((cfg0.win 4).blk (pt g i)).view.emb (ix3 (0 : Fin 1) r l) = ix3 g (row i r) l := by
    funext a; apply Fin.ext
    match a with
    | ⟨0, _⟩ => show win0_4.index (pt g i) 0 * 1 + 1 * 0 = g.val; rw [e0']; omega
    | ⟨1, _⟩ => show win0_4.index (pt g i) 1 * 128 + 1 * r.val = 128 * i.val + r.val; rw [e1']; omega
    | ⟨2, _⟩ => show win0_4.index (pt g i) 2 * 1024 + 1 * l.val = l.val; rw [e2]; omega
  rw [he] at h
  exact h

/-- Each slot, entry by entry. -/
theorem kernel0 (i : Fin 1) (r : Fin 128) (l : Fin 1024) :
    ((dats m 0 c).arrAt 4 cfg0.N : FVec Ideal S4x128x1024 .f32) (ix3 (0 : Fin 4) (row i r) l) = ∑ s : Fin 8, X0 m c (ix4 s (0 : Fin 1) (row i r) l) := by
  refine (arr_at m c 0 i r l).trans ((congrFun (outsAt0_A m c (pt 0 i) (show ((1*0+i.val) % 4 = 0) by omega) (show ¬((1*0+i.val) % 4 = 1) by omega) (show ¬((1*0+i.val) % 4 = 2) by omega) (show ¬((1*0+i.val) % 4 = 3) by omega)) (ix3 (0 : Fin 1) r l)).trans ?_)
  refine (outA c _ _ _ _ _ _ _ _ _ _ _ _ _ _ _ r l _ _ _ _).trans ?_
  exact Finset.sum_congr rfl fun s _ => blk0 m c i s r l

theorem kernel1 (i : Fin 1) (r : Fin 128) (l : Fin 1024) :
    ((dats m 0 c).arrAt 4 cfg0.N : FVec Ideal S4x128x1024 .f32) (ix3 (1 : Fin 4) (row i r) l) = ∑ s : Fin 8, X1 m c (ix4 s (0 : Fin 1) (row i r) l) := by
  refine (arr_at m c 1 i r l).trans ((congrFun (outsAt0_B m c (pt 1 i) (show ¬((1*1+i.val) % 4 = 0) by omega) (show ((1*1+i.val) % 4 = 1) by omega) (show ¬((1*1+i.val) % 4 = 2) by omega) (show ¬((1*1+i.val) % 4 = 3) by omega)) (ix3 (0 : Fin 1) r l)).trans ?_)
  refine (outB c _ _ _ _ _ _ _ _ _ _ _ _ _ _ _ r l _ _ _ _).trans ?_
  exact Finset.sum_congr rfl fun s _ => blk1 m c i s r l

theorem kernel2 (i : Fin 1) (r : Fin 128) (l : Fin 1024) :
    ((dats m 0 c).arrAt 4 cfg0.N : FVec Ideal S4x128x1024 .f32) (ix3 (2 : Fin 4) (row i r) l) = ∑ s : Fin 8, X2 m c (ix4 s (0 : Fin 1) (row i r) l) := by
  refine (arr_at m c 2 i r l).trans ((congrFun (outsAt0_C m c (pt 2 i) (show ¬((1*2+i.val) % 4 = 0) by omega) (show ¬((1*2+i.val) % 4 = 1) by omega) (show ((1*2+i.val) % 4 = 2) by omega) (show ¬((1*2+i.val) % 4 = 3) by omega)) (ix3 (0 : Fin 1) r l)).trans ?_)
  refine (outC c _ _ _ _ _ _ _ _ _ _ _ _ _ _ _ r l _ _ _ _).trans ?_
  exact Finset.sum_congr rfl fun s _ => blk2 m c i s r l

theorem kernel3 (i : Fin 1) (r : Fin 128) (l : Fin 1024) :
    ((dats m 0 c).arrAt 4 cfg0.N : FVec Ideal S4x128x1024 .f32) (ix3 (3 : Fin 4) (row i r) l) = ∑ s : Fin 8, X3 m c (ix4 s (0 : Fin 1) (row i r) l) := by
  refine (arr_at m c 3 i r l).trans ((congrFun (outsAt0_D m c (pt 3 i) (show ¬((1*3+i.val) % 4 = 0) by omega) (show ¬((1*3+i.val) % 4 = 1) by omega) (show ¬((1*3+i.val) % 4 = 2) by omega) (show ((1*3+i.val) % 4 = 3) by omega)) (ix3 (0 : Fin 1) r l)).trans ?_)
  refine (outD c _ _ _ _ _ _ _ _ _ _ _ _ _ _ _ r l _ _ _ _).trans ?_
  exact Finset.sum_congr rfl fun s _ => blk3 m c i s r l

section Ref
open Cert.Reference26Ideal.Read
variable (x0 x1 x2 x3 : FVec Ideal S8x1x128x1024 .bf16) (t : Fin 128) (l : Fin 1024)
theorem part0 : val_main_v1 (F := Ideal) x0 (ix3 (0 : Fin 1) t l) = ∑ s : Fin 8, x0 (ix4 s (0 : Fin 1) t l) := by
  unfold val_main_v1 val_main_v0
  pointwise
  rw [show (val_main_cst (F := Ideal) (Shape.Idx.first Cert.Reference26Ideal.Gen.h_S_) : EReal) = 0 from zero_eq, zero_add]
theorem part1 : val_main_v3 (F := Ideal) x1 (ix3 (0 : Fin 1) t l) = ∑ s : Fin 8, x1 (ix4 s (0 : Fin 1) t l) := by
  unfold val_main_v3 val_main_v2
  pointwise
  rw [show (val_main_cst_0 (F := Ideal) (Shape.Idx.first Cert.Reference26Ideal.Gen.h_S_) : EReal) = 0 from zero_eq, zero_add]
theorem part2 : val_main_v5 (F := Ideal) x2 (ix3 (0 : Fin 1) t l) = ∑ s : Fin 8, x2 (ix4 s (0 : Fin 1) t l) := by
  unfold val_main_v5 val_main_v4
  pointwise
  rw [show (val_main_cst_1 (F := Ideal) (Shape.Idx.first Cert.Reference26Ideal.Gen.h_S_) : EReal) = 0 from zero_eq, zero_add]
theorem part3 : val_main_v7 (F := Ideal) x3 (ix3 (0 : Fin 1) t l) = ∑ s : Fin 8, x3 (ix4 s (0 : Fin 1) t l) := by
  unfold val_main_v7 val_main_v6
  pointwise
  rw [show (val_main_cst_2 (F := Ideal) (Shape.Idx.first Cert.Reference26Ideal.Gen.h_S_) : EReal) = 0 from zero_eq, zero_add]
end Ref

theorem value_eq : Cert.Reference26Ideal.Read.val_main_v8 (F := Ideal) (X0 m c) (X1 m c) (X2 m c) (X3 m c)
    = (dats m 0 c).arrAt 4 cfg0.N := by
  refine funext fun (j : S4x128x1024.Idx) => ?_
  obtain ⟨g, i, r, l, rfl⟩ : ∃ (g : Fin 4) (i : Fin 1) (r : Fin 128) (l : Fin 1024), j = ix3 g (row i r) l := by
    have hj : (j 1).val < 128 := (j 1).isLt
    refine ⟨j 0, ⟨(j 1).val / 128, by omega⟩, ⟨(j 1).val % 128, by omega⟩, j 2, ?_⟩
    funext a; match a with
    | ⟨0, _⟩ => rfl
    | ⟨1, _⟩ => exact Fin.ext (by show (j 1).val = 128 * ((j 1).val / 128) + (j 1).val % 128; omega)
    | ⟨2, _⟩ => rfl
  match g with
  | 0 => exact (slot0 _ _ _ _ _ (row i r) l).trans ((part0 _ (row i r) l).trans (kernel0 m c i r l).symm)
  | 1 => exact (slot1 _ _ _ _ _ (row i r) l).trans ((part1 _ (row i r) l).trans (kernel1 m c i r l).symm)
  | 2 => exact (slot2 _ _ _ _ _ (row i r) l).trans ((part2 _ (row i r) l).trans (kernel2 m c i r l).symm)
  | 3 => exact (slot3 _ _ _ _ _ (row i r) l).trans ((part3 _ (row i r) l).trans (kernel3 m c i r l).symm)

/-! ## The claims -/

/-- The reference runs on the host alone: its run keeps the arguments, and it has no semaphore. -/
theorem frame_reference : Cert.quiescent_Reference26Ideal := fun m ρ _ =>
  (θ_run Cert.Reference26Ideal.defs _ _).mono (fun r h => ⟨fun c => (h c).2, Idealize.ShloMosaic.sem_eq_zero_of_no_sems (by decide) r.2⟩)
    (Cert.Reference26Ideal.Value.run (F := Ideal) m ρ)

/-- The kernel's array is the reference's: the four sums. -/
theorem algebraic : Cert.algebraic_Kernel26Ideal_Reference26Ideal := by
  intro m ρ m' ρ' hpre hagree
  refine ⟨fun c => (dats m 0 c).arrAt 4 cfg0.N, Cert.Kernel26Ideal.Value.run_blocks (F := Ideal) m ρ, ?_⟩
  refine (θ_run Cert.Reference26Ideal.defs _ _).mono (fun _ h c => ?_) (Cert.Reference26Ideal.Value.run (F := Ideal) m' ρ')
  obtain ⟨e0, e1, e2, e3⟩ := hagree c
  refine ⟨(h c).1.trans ((Cert.Reference26Ideal.Read.val_main_v8_eq _ _ _ _).trans ?_), (h c).2⟩
  rw [e0, e1, e2, e3]
  exact value_eq m c

end Cert.SumOut

end
-- ==== Proof.SumCmp.lean ====
/-
  The sum over the eight devices of the compressing networks' first layers' gradients: the kernel takes its four inputs one after another,
  tile by tile of 256 rows, and writes their sums into four slots; the reference joins the four sums.
-/
module

public import proofs.«01_k».proof.Defs
public import proofs.«01_k».proof.Proof.Gen.Kernel27Ideal.Value
public import proofs.«01_k».proof.Proof.Gen.Reference27Ideal.Read
public import proofs.«01_k».proof.Proof.Eight

@[expose] public section

set_option maxRecDepth 16384

noncomputable section

namespace Cert.SumCmp

open Idealize.ShloMosaic Idealize.SL.Sem Idealize.ShloMosaic.TcCoe Idealize.ShloMosaic.Tactic
open Cert.Kernel27Ideal Cert.Kernel27Ideal.Gen Cert.Kernel27Ideal.Value
open Cert.Eight (zero_eq hz tot tot_eq ld_at slot0 slot1 slot2 slot3)

/-! ## What a point leaves -/

section Pay
variable (b0 b1 b2 b3 b4 b5 b6 b7 : Vec Ideal S1x1x256x64 .bf16) (r : Fin 256) (l : Fin 64)
/-- The eight devices' entries added up, in each of the four cases. -/
theorem pay1_apply : k0_pay1 (F := Ideal) (k0_pay5 b0 b1 b2 b3 b4 b5 b6) b7 (ix3 (0 : Fin 1) r l)
    = tot b0 b1 b2 b3 b4 b5 b6 b7 r l := by
  unfold tot k0_pay1 k0_pay5
  pointwise
theorem pay2_apply : k0_pay2 (F := Ideal) (k0_pay6 b0 b1 b2 b3 b4 b5 b6) b7 (ix3 (0 : Fin 1) r l)
    = tot b0 b1 b2 b3 b4 b5 b6 b7 r l := by
  unfold tot k0_pay2 k0_pay6
  pointwise
theorem pay3_apply : k0_pay3 (F := Ideal) (k0_pay7 b0 b1 b2 b3 b4 b5 b6) b7 (ix3 (0 : Fin 1) r l)
    = tot b0 b1 b2 b3 b4 b5 b6 b7 r l := by
  unfold tot k0_pay3 k0_pay7
  pointwise
theorem pay4_apply : k0_pay4 (F := Ideal) (k0_pay8 b0 b1 b2 b3 b4 b5 b6) b7 (ix3 (0 : Fin 1) r l)
    = tot b0 b1 b2 b3 b4 b5 b6 b7 r l := by
  unfold tot k0_pay4 k0_pay8
  pointwise
end Pay

section Point
variable (c : Dev nD) (i : grid0.Coords) (arg2 : Memref sig .tc .vmem S8x1x256x64 .bf16) (harg2 : arg2.IsWhole) (arg3 : Memref sig .tc .vmem S8x1x256x64 .bf16) (harg3 : arg3.IsWhole) (arg4 : Memref sig .tc .vmem S8x1x256x64 .bf16) (harg4 : arg4.IsWhole) (arg5 : Memref sig .tc .vmem S8x1x256x64 .bf16) (harg5 : arg5.IsWhole)
  (arg6 : Memref sig .tc .vmem S1x256x64 .f32) (harg6 : arg6.IsWhole)
  (x0 x1 x2 x3 : Vec Ideal S8x1x256x64 .bf16) (r : Fin 256) (l : Fin 64)

/-- Case 0: the sum of input 0's parts. -/
theorem outA (hc0 : cond0_0 i) (hc1 : ¬cond0_1 i) (hc2 : ¬cond0_2 i) (hc3 : ¬cond0_3 i) :
    out0_A_4 (F := Ideal) c i arg2 harg2 arg3 harg3 arg4 harg4 arg5 harg5 arg6 harg6 hc0 hc1 hc2 hc3 x0 x1 x2 x3 (ix3 (0 : Fin 1) r l) = ∑ s : Fin 8, x0 (ix4 s (0 : Fin 1) r l) := by
  unfold out0_A_4
  rw [View.read_writes_eq_canon _ _ _ (cover0_A_4 c i arg2 harg2 arg3 harg3 arg4 harg4 arg5 harg5 arg6 harg6 hc0 hc1 hc2 hc3 x0 x1 x2 x3)]
  unfold kernelRun0_A
  dsimp only
  sl_unfold_words
  rw [View.canon_unit_zero (S := S1x256x64) hz]
  simp only [View.readAt_eq_ld, harg2.read_unread, harg3.read_unread, harg4.read_unread, harg5.read_unread]
  rw [pay1_apply]
  exact tot_eq _ _ _ _ _ _ _ _ x0 r l (ld_at x0 0 _ r l) (ld_at x0 1 _ r l) (ld_at x0 2 _ r l) (ld_at x0 3 _ r l) (ld_at x0 4 _ r l) (ld_at x0 5 _ r l) (ld_at x0 6 _ r l) (ld_at x0 7 _ r l)

/-- Case 1: the sum of input 1's parts. -/
theorem outB (hc0 : ¬cond0_0 i) (hc1 : cond0_1 i) (hc2 : ¬cond0_2 i) (hc3 : ¬cond0_3 i) :
    out0_B_4 (F := Ideal) c i arg2 harg2 arg3 harg3 arg4 harg4 arg5 harg5 arg6 harg6 hc0 hc1 hc2 hc3 x0 x1 x2 x3 (ix3 (0 : Fin 1) r l) = ∑ s : Fin 8, x1 (ix4 s (0 : Fin 1) r l) := by
  unfold out0_B_4
  rw [View.read_writes_eq_canon _ _ _ (cover0_B_4 c i arg2 harg2 arg3 harg3 arg4 harg4 arg5 harg5 arg6 harg6 hc0 hc1 hc2 hc3 x0 x1 x2 x3)]
  unfold kernelRun0_B
  dsimp only
  sl_unfold_words
  rw [View.canon_unit_zero (S := S1x256x64) hz]
  simp only [View.readAt_eq_ld, harg2.read_unread, harg3.read_unread, harg4.read_unread, harg5.read_unread]
  rw [pay2_apply]
  exact tot_eq _ _ _ _ _ _ _ _ x1 r l (ld_at x1 0 _ r l) (ld_at x1 1 _ r l) (ld_at x1 2 _ r l) (ld_at x1 3 _ r l) (ld_at x1 4 _ r l) (ld_at x1 5 _ r l) (ld_at x1 6 _ r l) (ld_at x1 7 _ r l)

/-- Case 2: the sum of input 2's parts. -/
theorem outC (hc0 : ¬cond0_0 i) (hc1 : ¬cond0_1 i) (hc2 : cond0_2 i) (hc3 : ¬cond0_3 i) :
    out0_C_4 (F := Ideal) c i arg2 harg2 arg3 harg3 arg4 harg4 arg5 harg5 arg6 harg6 hc0 hc1 hc2 hc3 x0 x1 x2 x3 (ix3 (0 : Fin 1) r l) = ∑ s : Fin 8, x2 (ix4 s (0 : Fin 1) r l) := by
  unfold out0_C_4
  rw [View.read_writes_eq_canon _ _ _ (cover0_C_4 c i arg2 harg2 arg3 harg3 arg4 harg4 arg5 harg5 arg6 harg6 hc0 hc1 hc2 hc3 x0 x1 x2 x3)]
  unfold kernelRun0_C
  dsimp only
  sl_unfold_words
  rw [View.canon_unit_zero (S := S1x256x64) hz]
  simp only [View.readAt_eq_ld, harg2.read_unread, harg3.read_unread, harg4.read_unread, harg5.read_unread]
  rw [pay3_apply]
  exact tot_eq _ _ _ _ _ _ _ _ x2 r l (ld_at x2 0 _ r l) (ld_at x2 1 _ r l) (ld_at x2 2 _ r l) (ld_at x2 3 _ r l) (ld_at x2 4 _ r l) (ld_at x2 5 _ r l) (ld_at x2 6 _ r l) (ld_at x2 7 _ r l)

/-- Case 3: the sum of input 3's parts. -/
theorem outD (hc0 : ¬cond0_0 i) (hc1 : ¬cond0_1 i) (hc2 : ¬cond0_2 i) (hc3 : cond0_3 i) :
    out0_D_4 (F := Ideal) c i arg2 harg2 arg3 harg3 arg4 harg4 arg5 harg5 arg6 harg6 hc0 hc1 hc2 hc3 x0 x1 x2 x3 (ix3 (0 : Fin 1) r l) = ∑ s : Fin 8, x3 (ix4 s (0 : Fin 1) r l) := by
  unfold out0_D_4
  rw [View.read_writes_eq_canon _ _ _ (cover0_D_4 c i arg2 harg2 arg3 harg3 arg4 harg4 arg5 harg5 arg6 harg6 hc0 hc1 hc2 hc3 x0 x1 x2 x3)]
  unfold kernelRun0_D
  dsimp only
  sl_unfold_words
  rw [View.canon_unit_zero (S := S1x256x64) hz]
  simp only [View.readAt_eq_ld, harg2.read_unread, harg3.read_unread, harg4.read_unread, harg5.read_unread]
  rw [pay4_apply]
  exact tot_eq _ _ _ _ _ _ _ _ x3 r l (ld_at x3 0 _ r l) (ld_at x3 1 _ r l) (ld_at x3 2 _ r l) (ld_at x3 3 _ r l) (ld_at x3 4 _ r l) (ld_at x3 5 _ r l) (ld_at x3 6 _ r l) (ld_at x3 7 _ r l)

end Point

/-! ## The kernel's array -/

variable (m : (ℓ : Loc nD τ sig) → Buf (Elt Ideal) ℓ) (c : Dev nD)

/-- The arrays the kernel is given. -/
abbrev X0 : FVec Ideal S8x1x256x64 .bf16 := m ((c : Thread nD τ).loc main_arg0)
abbrev X1 : FVec Ideal S8x1x256x64 .bf16 := m ((c : Thread nD τ).loc main_arg1)
abbrev X2 : FVec Ideal S8x1x256x64 .bf16 := m ((c : Thread nD τ).loc main_arg2)
abbrev X3 : FVec Ideal S8x1x256x64 .bf16 := m ((c : Thread nD τ).loc main_arg3)

/-- The printed index maps, decided over the grid: slot by slot, each tile by tile. -/
theorem idx : ∀ t : Fin grid0.N, (win0_0.index t 0 = 0 ∧ win0_0.index t 1 = 0 ∧ (t.val = 0 → win0_0.index t 2 = 0) ∧ win0_0.index t 3 = 0) ∧ (win0_1.index t 0 = 0 ∧ win0_1.index t 1 = 0 ∧ (t.val = 1 → win0_1.index t 2 = 0) ∧ win0_1.index t 3 = 0) ∧ (win0_2.index t 0 = 0 ∧ win0_2.index t 1 = 0 ∧ (t.val = 2 → win0_2.index t 2 = 0) ∧ win0_2.index t 3 = 0) ∧ (win0_3.index t 0 = 0 ∧ win0_3.index t 1 = 0 ∧ (t.val = 3 → win0_3.index t 2 = 0) ∧ win0_3.index t 3 = 0)
    ∧ (win0_4.index t 0 = t.val ∧ win0_4.index t 1 = 0 ∧ win0_4.index t 2 = 0) := by
  decide +kernel

/-- The grid point of a slot's tile, and a tile's row as a row of the whole. -/
abbrev pt (g : Fin 4) (i : Fin 1) : Fin cfg0.N := ⟨1 * g.val + i.val, lt_of_lt_of_eq (by omega : 1 * g.val + i.val < 4) (show 4 = cfg0.N from N_0.symm)⟩
abbrev row (i : Fin 1) (r : Fin 256) : Fin 256 := ⟨256 * i.val + r.val, by omega⟩

theorem blk0 (i : Fin 1) (s : Fin 8) (r : Fin 256) (l : Fin 64) :
    (iblk m c 0 (pt 0 i) : Vec Ideal S8x1x256x64 .bf16) (ix4 s (0 : Fin 1) r l) = X0 m c (ix4 s (0 : Fin 1) (row i r) l) := by
  obtain ⟨⟨e0, e1, e2, e3⟩, -⟩ := idx (pt 0 i)
  unfold iblk
  rw [View.read_apply]
  show V m c main_arg0 _ = _
  rw [V_main_arg0]
  have e2' : win0_0.index (pt 0 i) 2 = i.val := (e2 (by show 1 * 0 + i.val = 0; omega)).trans (by omega)
  congr 1; funext a; apply Fin.ext
  match a with
  | ⟨0, _⟩ => show win0_0.index (pt 0 i) 0 * 8 + 1 * s.val = s.val; rw [e0]; omega
  | ⟨1, _⟩ => show win0_0.index (pt 0 i) 1 * 1 + 1 * 0 = 0; rw [e1]
  | ⟨2, _⟩ => show win0_0.index (pt 0 i) 2 * 256 + 1 * r.val = 256 * i.val + r.val; rw [e2']; omega
  | ⟨3, _⟩ => show win0_0.index (pt 0 i) 3 * 64 + 1 * l.val = l.val; rw [e3]; omega

theorem blk1 (i : Fin 1) (s : Fin 8) (r : Fin 256) (l : Fin 64) :
    (iblk m c 1 (pt 1 i) : Vec Ideal S8x1x256x64 .bf16) (ix4 s (0 : Fin 1) r l) = X1 m c (ix4 s (0 : Fin 1) (row i r) l) := by
  obtain ⟨-, ⟨e0, e1, e2, e3⟩, -⟩ := idx (pt 1 i)
  unfold iblk
  rw [View.read_apply]
  show V m c main_arg1 _ = _
  rw [V_main_arg1]
  have e2' : win0_1.index (pt 1 i) 2 = i.val := (e2 (by show 1 * 1 + i.val = 1; omega)).trans (by omega)
  congr 1; funext a; apply Fin.ext
  match a with
  | ⟨0, _⟩ => show win0_1.index (pt 1 i) 0 * 8 + 1 * s.val = s.val; rw [e0]; omega
  | ⟨1, _⟩ => show win0_1.index (pt 1 i) 1 * 1 + 1 * 0 = 0; rw [e1]
  | ⟨2, _⟩ => show win0_1.index (pt 1 i) 2 * 256 + 1 * r.val = 256 * i.val + r.val; rw [e2']; omega
  | ⟨3, _⟩ => show win0_1.index (pt 1 i) 3 * 64 + 1 * l.val = l.val; rw [e3]; omega

theorem blk2 (i : Fin 1) (s : Fin 8) (r : Fin 256) (l : Fin 64) :
    (iblk m c 2 (pt 2 i) : Vec Ideal S8x1x256x64 .bf16) (ix4 s (0 : Fin 1) r l) = X2 m c (ix4 s (0 : Fin 1) (row i r) l) := by
  obtain ⟨-, -, ⟨e0, e1, e2, e3⟩, -⟩ := idx (pt 2 i)
  unfold iblk
  rw [View.read_apply]
  show V m c main_arg2 _ = _
  rw [V_main_arg2]
  have e2' : win0_2.index (pt 2 i) 2 = i.val := (e2 (by show 1 * 2 + i.val = 2; omega)).trans (by omega)
  congr 1; funext a; apply Fin.ext
  match a with
  | ⟨0, _⟩ => show win0_2.index (pt 2 i) 0 * 8 + 1 * s.val = s.val; rw [e0]; omega
  | ⟨1, _⟩ => show win0_2.index (pt 2 i) 1 * 1 + 1 * 0 = 0; rw [e1]
  | ⟨2, _⟩ => show win0_2.index (pt 2 i) 2 * 256 + 1 * r.val = 256 * i.val + r.val; rw [e2']; omega
  | ⟨3, _⟩ => show win0_2.index (pt 2 i) 3 * 64 + 1 * l.val = l.val; rw [e3]; omega

theorem blk3 (i : Fin 1) (s : Fin 8) (r : Fin 256) (l : Fin 64) :
    (iblk m c 3 (pt 3 i) : Vec Ideal S8x1x256x64 .bf16) (ix4 s (0 : Fin 1) r l) = X3 m c (ix4 s (0 : Fin 1) (row i r) l) := by
  obtain ⟨-, -, -, ⟨e0, e1, e2, e3⟩, -⟩ := idx (pt 3 i)
  unfold iblk
  rw [View.read_apply]
  show V m c main_arg3 _ = _
  rw [V_main_arg3]
  have e2' : win0_3.index (pt 3 i) 2 = i.val := (e2 (by show 1 * 3 + i.val = 3; omega)).trans (by omega)
  congr 1; funext a; apply Fin.ext
  match a with
  | ⟨0, _⟩ => show win0_3.index (pt 3 i) 0 * 8 + 1 * s.val = s.val; rw [e0]; omega
  | ⟨1, _⟩ => show win0_3.index (pt 3 i) 1 * 1 + 1 * 0 = 0; rw [e1]
  | ⟨2, _⟩ => show win0_3.index (pt 3 i) 2 * 256 + 1 * r.val = 256 * i.val + r.val; rw [e2']; omega
  | ⟨3, _⟩ => show win0_3.index (pt 3 i) 3 * 64 + 1 * l.val = l.val; rw [e3]; omega

/-- A slot's tile of the array, read back, is what its point wrote. -/
theorem arr_at (g : Fin 4) (i : Fin 1) (r : Fin 256) (l : Fin 64) :
    ((dats m 0 c).arrAt 4 cfg0.N : FVec Ideal S4x256x64 .f32) (ix3 g (row i r) l)
      = (outsAt0 m c (pt g i).val (pt g i).isLt : Vec Ideal S1x256x64 .f32) (ix3 (0 : Fin 1) r l) := by
  obtain ⟨-, -, -, -, ⟨e0, e1, e2⟩⟩ := idx (pt g i)
  have h := congrFun (blocks4 m c (pt g i) (flush0_4 _)) (ix3 (0 : Fin 1) r l)
  rw [View.read_apply, flushed4] at h
  have e0' : win0_4.index (pt g i) 0 = g.val := e0.trans (by show 1 * g.val + i.val = g.val; omega)
  have e1' : win0_4.index (pt g i) 1 = i.val := e1.trans (by omega)
  have he : ((cfg0.win 4).blk (pt g i)).view.emb (ix3 (0 : Fin 1) r l) = ix3 g (row i r) l := by
    funext a; apply Fin.ext
    match a with
    | ⟨0, _⟩ => show win0_4.index (pt g i) 0 * 1 + 1 * 0 = g.val; rw [e0']; omega
    | ⟨1, _⟩ => show win0_4.index (pt g i) 1 * 256 + 1 * r.val = 256 * i.val + r.val; rw [e1']; omega
    | ⟨2, _⟩ => show win0_4.index (pt g i) 2 * 64 + 1 * l.val = l.val; rw [e2]; omega
  rw [he] at h
  exact h

/-- Each slot, entry by entry. -/
theorem kernel0 (i : Fin 1) (r : Fin 256) (l : Fin 64) :
    ((dats m 0 c).arrAt 4 cfg0.N : FVec Ideal S4x256x64 .f32) (ix3 (0 : Fin 4) (row i r) l) = ∑ s : Fin 8, X0 m c (ix4 s (0 : Fin 1) (row i r) l) := by
  refine (arr_at m c 0 i r l).trans ((congrFun (outsAt0_A m c (pt 0 i) (show ((1*0+i.val) % 4 = 0) by omega) (show ¬((1*0+i.val) % 4 = 1) by omega) (show ¬((1*0+i.val) % 4 = 2) by omega) (show ¬((1*0+i.val) % 4 = 3) by omega)) (ix3 (0 : Fin 1) r l)).trans ?_)
  refine (outA c _ _ _ _ _ _ _ _ _ _ _ _ _ _ _ r l _ _ _ _).trans ?_
  exact Finset.sum_congr rfl fun s _ => blk0 m c i s r l

theorem kernel1 (i : Fin 1) (r : Fin 256) (l : Fin 64) :
    ((dats m 0 c).arrAt 4 cfg0.N : FVec Ideal S4x256x64 .f32) (ix3 (1 : Fin 4) (row i r) l) = ∑ s : Fin 8, X1 m c (ix4 s (0 : Fin 1) (row i r) l) := by
  refine (arr_at m c 1 i r l).trans ((congrFun (outsAt0_B m c (pt 1 i) (show ¬((1*1+i.val) % 4 = 0) by omega) (show ((1*1+i.val) % 4 = 1) by omega) (show ¬((1*1+i.val) % 4 = 2) by omega) (show ¬((1*1+i.val) % 4 = 3) by omega)) (ix3 (0 : Fin 1) r l)).trans ?_)
  refine (outB c _ _ _ _ _ _ _ _ _ _ _ _ _ _ _ r l _ _ _ _).trans ?_
  exact Finset.sum_congr rfl fun s _ => blk1 m c i s r l

theorem kernel2 (i : Fin 1) (r : Fin 256) (l : Fin 64) :
    ((dats m 0 c).arrAt 4 cfg0.N : FVec Ideal S4x256x64 .f32) (ix3 (2 : Fin 4) (row i r) l) = ∑ s : Fin 8, X2 m c (ix4 s (0 : Fin 1) (row i r) l) := by
  refine (arr_at m c 2 i r l).trans ((congrFun (outsAt0_C m c (pt 2 i) (show ¬((1*2+i.val) % 4 = 0) by omega) (show ¬((1*2+i.val) % 4 = 1) by omega) (show ((1*2+i.val) % 4 = 2) by omega) (show ¬((1*2+i.val) % 4 = 3) by omega)) (ix3 (0 : Fin 1) r l)).trans ?_)
  refine (outC c _ _ _ _ _ _ _ _ _ _ _ _ _ _ _ r l _ _ _ _).trans ?_
  exact Finset.sum_congr rfl fun s _ => blk2 m c i s r l

theorem kernel3 (i : Fin 1) (r : Fin 256) (l : Fin 64) :
    ((dats m 0 c).arrAt 4 cfg0.N : FVec Ideal S4x256x64 .f32) (ix3 (3 : Fin 4) (row i r) l) = ∑ s : Fin 8, X3 m c (ix4 s (0 : Fin 1) (row i r) l) := by
  refine (arr_at m c 3 i r l).trans ((congrFun (outsAt0_D m c (pt 3 i) (show ¬((1*3+i.val) % 4 = 0) by omega) (show ¬((1*3+i.val) % 4 = 1) by omega) (show ¬((1*3+i.val) % 4 = 2) by omega) (show ((1*3+i.val) % 4 = 3) by omega)) (ix3 (0 : Fin 1) r l)).trans ?_)
  refine (outD c _ _ _ _ _ _ _ _ _ _ _ _ _ _ _ r l _ _ _ _).trans ?_
  exact Finset.sum_congr rfl fun s _ => blk3 m c i s r l

section Ref
open Cert.Reference27Ideal.Read
variable (x0 x1 x2 x3 : FVec Ideal S8x1x256x64 .bf16) (t : Fin 256) (l : Fin 64)
theorem part0 : val_main_v1 (F := Ideal) x0 (ix3 (0 : Fin 1) t l) = ∑ s : Fin 8, x0 (ix4 s (0 : Fin 1) t l) := by
  unfold val_main_v1 val_main_v0
  pointwise
  rw [show (val_main_cst (F := Ideal) (Shape.Idx.first Cert.Reference27Ideal.Gen.h_S_) : EReal) = 0 from zero_eq, zero_add]
theorem part1 : val_main_v3 (F := Ideal) x1 (ix3 (0 : Fin 1) t l) = ∑ s : Fin 8, x1 (ix4 s (0 : Fin 1) t l) := by
  unfold val_main_v3 val_main_v2
  pointwise
  rw [show (val_main_cst_0 (F := Ideal) (Shape.Idx.first Cert.Reference27Ideal.Gen.h_S_) : EReal) = 0 from zero_eq, zero_add]
theorem part2 : val_main_v5 (F := Ideal) x2 (ix3 (0 : Fin 1) t l) = ∑ s : Fin 8, x2 (ix4 s (0 : Fin 1) t l) := by
  unfold val_main_v5 val_main_v4
  pointwise
  rw [show (val_main_cst_1 (F := Ideal) (Shape.Idx.first Cert.Reference27Ideal.Gen.h_S_) : EReal) = 0 from zero_eq, zero_add]
theorem part3 : val_main_v7 (F := Ideal) x3 (ix3 (0 : Fin 1) t l) = ∑ s : Fin 8, x3 (ix4 s (0 : Fin 1) t l) := by
  unfold val_main_v7 val_main_v6
  pointwise
  rw [show (val_main_cst_2 (F := Ideal) (Shape.Idx.first Cert.Reference27Ideal.Gen.h_S_) : EReal) = 0 from zero_eq, zero_add]
end Ref

theorem value_eq : Cert.Reference27Ideal.Read.val_main_v8 (F := Ideal) (X0 m c) (X1 m c) (X2 m c) (X3 m c)
    = (dats m 0 c).arrAt 4 cfg0.N := by
  refine funext fun (j : S4x256x64.Idx) => ?_
  obtain ⟨g, i, r, l, rfl⟩ : ∃ (g : Fin 4) (i : Fin 1) (r : Fin 256) (l : Fin 64), j = ix3 g (row i r) l := by
    have hj : (j 1).val < 256 := (j 1).isLt
    refine ⟨j 0, ⟨(j 1).val / 256, by omega⟩, ⟨(j 1).val % 256, by omega⟩, j 2, ?_⟩
    funext a; match a with
    | ⟨0, _⟩ => rfl
    | ⟨1, _⟩ => exact Fin.ext (by show (j 1).val = 256 * ((j 1).val / 256) + (j 1).val % 256; omega)
    | ⟨2, _⟩ => rfl
  match g with
  | 0 => exact (slot0 _ _ _ _ _ (row i r) l).trans ((part0 _ (row i r) l).trans (kernel0 m c i r l).symm)
  | 1 => exact (slot1 _ _ _ _ _ (row i r) l).trans ((part1 _ (row i r) l).trans (kernel1 m c i r l).symm)
  | 2 => exact (slot2 _ _ _ _ _ (row i r) l).trans ((part2 _ (row i r) l).trans (kernel2 m c i r l).symm)
  | 3 => exact (slot3 _ _ _ _ _ (row i r) l).trans ((part3 _ (row i r) l).trans (kernel3 m c i r l).symm)

/-! ## The claims -/

/-- The reference runs on the host alone: its run keeps the arguments, and it has no semaphore. -/
theorem frame_reference : Cert.quiescent_Reference27Ideal := fun m ρ _ =>
  (θ_run Cert.Reference27Ideal.defs _ _).mono (fun r h => ⟨fun c => (h c).2, Idealize.ShloMosaic.sem_eq_zero_of_no_sems (by decide) r.2⟩)
    (Cert.Reference27Ideal.Value.run (F := Ideal) m ρ)

/-- The kernel's array is the reference's: the four sums. -/
theorem algebraic : Cert.algebraic_Kernel27Ideal_Reference27Ideal := by
  intro m ρ m' ρ' hpre hagree
  refine ⟨fun c => (dats m 0 c).arrAt 4 cfg0.N, Cert.Kernel27Ideal.Value.run_blocks (F := Ideal) m ρ, ?_⟩
  refine (θ_run Cert.Reference27Ideal.defs _ _).mono (fun _ h c => ?_) (Cert.Reference27Ideal.Value.run (F := Ideal) m' ρ')
  obtain ⟨e0, e1, e2, e3⟩ := hagree c
  refine ⟨(h c).1.trans ((Cert.Reference27Ideal.Read.val_main_v8_eq _ _ _ _).trans ?_), (h c).2⟩
  rw [e0, e1, e2, e3]
  exact value_eq m c

end Cert.SumCmp

end
-- ==== Proof.SumCv.lean ====
/-
  The sum over the eight devices of the pointwise convolution's gradients: the kernel takes its four inputs one after another,
  tile by tile of 32 rows, and writes their sums into four slots; the reference joins the four sums.
-/
module

public import proofs.«01_k».proof.Defs
public import proofs.«01_k».proof.Proof.Gen.Kernel28Ideal.Value
public import proofs.«01_k».proof.Proof.Gen.Reference28Ideal.Read
public import proofs.«01_k».proof.Proof.Eight

@[expose] public section

set_option maxRecDepth 16384

noncomputable section

namespace Cert.SumCv

open Idealize.ShloMosaic Idealize.SL.Sem Idealize.ShloMosaic.TcCoe Idealize.ShloMosaic.Tactic
open Cert.Kernel28Ideal Cert.Kernel28Ideal.Gen Cert.Kernel28Ideal.Value
open Cert.Eight (zero_eq hz tot tot_eq ld_at slot0 slot1 slot2 slot3)

/-! ## What a point leaves -/

section Pay
variable (b0 b1 b2 b3 b4 b5 b6 b7 : Vec Ideal S1x1x32x256 .bf16) (r : Fin 32) (l : Fin 256)
/-- The eight devices' entries added up, in each of the four cases. -/
theorem pay1_apply : k0_pay1 (F := Ideal) (k0_pay5 b0 b1 b2 b3 b4 b5 b6) b7 (ix3 (0 : Fin 1) r l)
    = tot b0 b1 b2 b3 b4 b5 b6 b7 r l := by
  unfold tot k0_pay1 k0_pay5
  pointwise
theorem pay2_apply : k0_pay2 (F := Ideal) (k0_pay6 b0 b1 b2 b3 b4 b5 b6) b7 (ix3 (0 : Fin 1) r l)
    = tot b0 b1 b2 b3 b4 b5 b6 b7 r l := by
  unfold tot k0_pay2 k0_pay6
  pointwise
theorem pay3_apply : k0_pay3 (F := Ideal) (k0_pay7 b0 b1 b2 b3 b4 b5 b6) b7 (ix3 (0 : Fin 1) r l)
    = tot b0 b1 b2 b3 b4 b5 b6 b7 r l := by
  unfold tot k0_pay3 k0_pay7
  pointwise
theorem pay4_apply : k0_pay4 (F := Ideal) (k0_pay8 b0 b1 b2 b3 b4 b5 b6) b7 (ix3 (0 : Fin 1) r l)
    = tot b0 b1 b2 b3 b4 b5 b6 b7 r l := by
  unfold tot k0_pay4 k0_pay8
  pointwise
end Pay

section Point
variable (c : Dev nD) (i : grid0.Coords) (arg2 : Memref sig .tc .vmem S8x1x32x256 .bf16) (harg2 : arg2.IsWhole) (arg3 : Memref sig .tc .vmem S8x1x32x256 .bf16) (harg3 : arg3.IsWhole) (arg4 : Memref sig .tc .vmem S8x1x32x256 .bf16) (harg4 : arg4.IsWhole) (arg5 : Memref sig .tc .vmem S8x1x32x256 .bf16) (harg5 : arg5.IsWhole)
  (arg6 : Memref sig .tc .vmem S1x32x256 .f32) (harg6 : arg6.IsWhole)
  (x0 x1 x2 x3 : Vec Ideal S8x1x32x256 .bf16) (r : Fin 32) (l : Fin 256)

/-- Case 0: the sum of input 0's parts. -/
theorem outA (hc0 : cond0_0 i) (hc1 : ¬cond0_1 i) (hc2 : ¬cond0_2 i) (hc3 : ¬cond0_3 i) :
    out0_A_4 (F := Ideal) c i arg2 harg2 arg3 harg3 arg4 harg4 arg5 harg5 arg6 harg6 hc0 hc1 hc2 hc3 x0 x1 x2 x3 (ix3 (0 : Fin 1) r l) = ∑ s : Fin 8, x0 (ix4 s (0 : Fin 1) r l) := by
  unfold out0_A_4
  rw [View.read_writes_eq_canon _ _ _ (cover0_A_4 c i arg2 harg2 arg3 harg3 arg4 harg4 arg5 harg5 arg6 harg6 hc0 hc1 hc2 hc3 x0 x1 x2 x3)]
  unfold kernelRun0_A
  dsimp only
  sl_unfold_words
  rw [View.canon_unit_zero (S := S1x32x256) hz]
  simp only [View.readAt_eq_ld, harg2.read_unread, harg3.read_unread, harg4.read_unread, harg5.read_unread]
  rw [pay1_apply]
  exact tot_eq _ _ _ _ _ _ _ _ x0 r l (ld_at x0 0 _ r l) (ld_at x0 1 _ r l) (ld_at x0 2 _ r l) (ld_at x0 3 _ r l) (ld_at x0 4 _ r l) (ld_at x0 5 _ r l) (ld_at x0 6 _ r l) (ld_at x0 7 _ r l)

/-- Case 1: the sum of input 1's parts. -/
theorem outB (hc0 : ¬cond0_0 i) (hc1 : cond0_1 i) (hc2 : ¬cond0_2 i) (hc3 : ¬cond0_3 i) :
    out0_B_4 (F := Ideal) c i arg2 harg2 arg3 harg3 arg4 harg4 arg5 harg5 arg6 harg6 hc0 hc1 hc2 hc3 x0 x1 x2 x3 (ix3 (0 : Fin 1) r l) = ∑ s : Fin 8, x1 (ix4 s (0 : Fin 1) r l) := by
  unfold out0_B_4
  rw [View.read_writes_eq_canon _ _ _ (cover0_B_4 c i arg2 harg2 arg3 harg3 arg4 harg4 arg5 harg5 arg6 harg6 hc0 hc1 hc2 hc3 x0 x1 x2 x3)]
  unfold kernelRun0_B
  dsimp only
  sl_unfold_words
  rw [View.canon_unit_zero (S := S1x32x256) hz]
  simp only [View.readAt_eq_ld, harg2.read_unread, harg3.read_unread, harg4.read_unread, harg5.read_unread]
  rw [pay2_apply]
  exact tot_eq _ _ _ _ _ _ _ _ x1 r l (ld_at x1 0 _ r l) (ld_at x1 1 _ r l) (ld_at x1 2 _ r l) (ld_at x1 3 _ r l) (ld_at x1 4 _ r l) (ld_at x1 5 _ r l) (ld_at x1 6 _ r l) (ld_at x1 7 _ r l)

/-- Case 2: the sum of input 2's parts. -/
theorem outC (hc0 : ¬cond0_0 i) (hc1 : ¬cond0_1 i) (hc2 : cond0_2 i) (hc3 : ¬cond0_3 i) :
    out0_C_4 (F := Ideal) c i arg2 harg2 arg3 harg3 arg4 harg4 arg5 harg5 arg6 harg6 hc0 hc1 hc2 hc3 x0 x1 x2 x3 (ix3 (0 : Fin 1) r l) = ∑ s : Fin 8, x2 (ix4 s (0 : Fin 1) r l) := by
  unfold out0_C_4
  rw [View.read_writes_eq_canon _ _ _ (cover0_C_4 c i arg2 harg2 arg3 harg3 arg4 harg4 arg5 harg5 arg6 harg6 hc0 hc1 hc2 hc3 x0 x1 x2 x3)]
  unfold kernelRun0_C
  dsimp only
  sl_unfold_words
  rw [View.canon_unit_zero (S := S1x32x256) hz]
  simp only [View.readAt_eq_ld, harg2.read_unread, harg3.read_unread, harg4.read_unread, harg5.read_unread]
  rw [pay3_apply]
  exact tot_eq _ _ _ _ _ _ _ _ x2 r l (ld_at x2 0 _ r l) (ld_at x2 1 _ r l) (ld_at x2 2 _ r l) (ld_at x2 3 _ r l) (ld_at x2 4 _ r l) (ld_at x2 5 _ r l) (ld_at x2 6 _ r l) (ld_at x2 7 _ r l)

/-- Case 3: the sum of input 3's parts. -/
theorem outD (hc0 : ¬cond0_0 i) (hc1 : ¬cond0_1 i) (hc2 : ¬cond0_2 i) (hc3 : cond0_3 i) :
    out0_D_4 (F := Ideal) c i arg2 harg2 arg3 harg3 arg4 harg4 arg5 harg5 arg6 harg6 hc0 hc1 hc2 hc3 x0 x1 x2 x3 (ix3 (0 : Fin 1) r l) = ∑ s : Fin 8, x3 (ix4 s (0 : Fin 1) r l) := by
  unfold out0_D_4
  rw [View.read_writes_eq_canon _ _ _ (cover0_D_4 c i arg2 harg2 arg3 harg3 arg4 harg4 arg5 harg5 arg6 harg6 hc0 hc1 hc2 hc3 x0 x1 x2 x3)]
  unfold kernelRun0_D
  dsimp only
  sl_unfold_words
  rw [View.canon_unit_zero (S := S1x32x256) hz]
  simp only [View.readAt_eq_ld, harg2.read_unread, harg3.read_unread, harg4.read_unread, harg5.read_unread]
  rw [pay4_apply]
  exact tot_eq _ _ _ _ _ _ _ _ x3 r l (ld_at x3 0 _ r l) (ld_at x3 1 _ r l) (ld_at x3 2 _ r l) (ld_at x3 3 _ r l) (ld_at x3 4 _ r l) (ld_at x3 5 _ r l) (ld_at x3 6 _ r l) (ld_at x3 7 _ r l)

end Point

/-! ## The kernel's array -/

variable (m : (ℓ : Loc nD τ sig) → Buf (Elt Ideal) ℓ) (c : Dev nD)

/-- The arrays the kernel is given. -/
abbrev X0 : FVec Ideal S8x1x32x256 .bf16 := m ((c : Thread nD τ).loc main_arg0)
abbrev X1 : FVec Ideal S8x1x32x256 .bf16 := m ((c : Thread nD τ).loc main_arg1)
abbrev X2 : FVec Ideal S8x1x32x256 .bf16 := m ((c : Thread nD τ).loc main_arg2)
abbrev X3 : FVec Ideal S8x1x32x256 .bf16 := m ((c : Thread nD τ).loc main_arg3)

/-- The printed index maps, decided over the grid: slot by slot, each tile by tile. -/
theorem idx : ∀ t : Fin grid0.N, (win0_0.index t 0 = 0 ∧ win0_0.index t 1 = 0 ∧ (t.val = 0 → win0_0.index t 2 = 0) ∧ win0_0.index t 3 = 0) ∧ (win0_1.index t 0 = 0 ∧ win0_1.index t 1 = 0 ∧ (t.val = 1 → win0_1.index t 2 = 0) ∧ win0_1.index t 3 = 0) ∧ (win0_2.index t 0 = 0 ∧ win0_2.index t 1 = 0 ∧ (t.val = 2 → win0_2.index t 2 = 0) ∧ win0_2.index t 3 = 0) ∧ (win0_3.index t 0 = 0 ∧ win0_3.index t 1 = 0 ∧ (t.val = 3 → win0_3.index t 2 = 0) ∧ win0_3.index t 3 = 0)
    ∧ (win0_4.index t 0 = t.val ∧ win0_4.index t 1 = 0 ∧ win0_4.index t 2 = 0) := by
  decide +kernel

/-- The grid point of a slot's tile, and a tile's row as a row of the whole. -/
abbrev pt (g : Fin 4) (i : Fin 1) : Fin cfg0.N := ⟨1 * g.val + i.val, lt_of_lt_of_eq (by omega : 1 * g.val + i.val < 4) (show 4 = cfg0.N from N_0.symm)⟩
abbrev row (i : Fin 1) (r : Fin 32) : Fin 32 := ⟨32 * i.val + r.val, by omega⟩

theorem blk0 (i : Fin 1) (s : Fin 8) (r : Fin 32) (l : Fin 256) :
    (iblk m c 0 (pt 0 i) : Vec Ideal S8x1x32x256 .bf16) (ix4 s (0 : Fin 1) r l) = X0 m c (ix4 s (0 : Fin 1) (row i r) l) := by
  obtain ⟨⟨e0, e1, e2, e3⟩, -⟩ := idx (pt 0 i)
  unfold iblk
  rw [View.read_apply]
  show V m c main_arg0 _ = _
  rw [V_main_arg0]
  have e2' : win0_0.index (pt 0 i) 2 = i.val := (e2 (by show 1 * 0 + i.val = 0; omega)).trans (by omega)
  congr 1; funext a; apply Fin.ext
  match a with
  | ⟨0, _⟩ => show win0_0.index (pt 0 i) 0 * 8 + 1 * s.val = s.val; rw [e0]; omega
  | ⟨1, _⟩ => show win0_0.index (pt 0 i) 1 * 1 + 1 * 0 = 0; rw [e1]
  | ⟨2, _⟩ => show win0_0.index (pt 0 i) 2 * 32 + 1 * r.val = 32 * i.val + r.val; rw [e2']; omega
  | ⟨3, _⟩ => show win0_0.index (pt 0 i) 3 * 256 + 1 * l.val = l.val; rw [e3]; omega

theorem blk1 (i : Fin 1) (s : Fin 8) (r : Fin 32) (l : Fin 256) :
    (iblk m c 1 (pt 1 i) : Vec Ideal S8x1x32x256 .bf16) (ix4 s (0 : Fin 1) r l) = X1 m c (ix4 s (0 : Fin 1) (row i r) l) := by
  obtain ⟨-, ⟨e0, e1, e2, e3⟩, -⟩ := idx (pt 1 i)
  unfold iblk
  rw [View.read_apply]
  show V m c main_arg1 _ = _
  rw [V_main_arg1]
  have e2' : win0_1.index (pt 1 i) 2 = i.val := (e2 (by show 1 * 1 + i.val = 1; omega)).trans (by omega)
  congr 1; funext a; apply Fin.ext
  match a with
  | ⟨0, _⟩ => show win0_1.index (pt 1 i) 0 * 8 + 1 * s.val = s.val; rw [e0]; omega
  | ⟨1, _⟩ => show win0_1.index (pt 1 i) 1 * 1 + 1 * 0 = 0; rw [e1]
  | ⟨2, _⟩ => show win0_1.index (pt 1 i) 2 * 32 + 1 * r.val = 32 * i.val + r.val; rw [e2']; omega
  | ⟨3, _⟩ => show win0_1.index (pt 1 i) 3 * 256 + 1 * l.val = l.val; rw [e3]; omega

theorem blk2 (i : Fin 1) (s : Fin 8) (r : Fin 32) (l : Fin 256) :
    (iblk m c 2 (pt 2 i) : Vec Ideal S8x1x32x256 .bf16) (ix4 s (0 : Fin 1) r l) = X2 m c (ix4 s (0 : Fin 1) (row i r) l) := by
  obtain ⟨-, -, ⟨e0, e1, e2, e3⟩, -⟩ := idx (pt 2 i)
  unfold iblk
  rw [View.read_apply]
  show V m c main_arg2 _ = _
  rw [V_main_arg2]
  have e2' : win0_2.index (pt 2 i) 2 = i.val := (e2 (by show 1 * 2 + i.val = 2; omega)).trans (by omega)
  congr 1; funext a; apply Fin.ext
  match a with
  | ⟨0, _⟩ => show win0_2.index (pt 2 i) 0 * 8 + 1 * s.val = s.val; rw [e0]; omega
  | ⟨1, _⟩ => show win0_2.index (pt 2 i) 1 * 1 + 1 * 0 = 0; rw [e1]
  | ⟨2, _⟩ => show win0_2.index (pt 2 i) 2 * 32 + 1 * r.val = 32 * i.val + r.val; rw [e2']; omega
  | ⟨3, _⟩ => show win0_2.index (pt 2 i) 3 * 256 + 1 * l.val = l.val; rw [e3]; omega

theorem blk3 (i : Fin 1) (s : Fin 8) (r : Fin 32) (l : Fin 256) :
    (iblk m c 3 (pt 3 i) : Vec Ideal S8x1x32x256 .bf16) (ix4 s (0 : Fin 1) r l) = X3 m c (ix4 s (0 : Fin 1) (row i r) l) := by
  obtain ⟨-, -, -, ⟨e0, e1, e2, e3⟩, -⟩ := idx (pt 3 i)
  unfold iblk
  rw [View.read_apply]
  show V m c main_arg3 _ = _
  rw [V_main_arg3]
  have e2' : win0_3.index (pt 3 i) 2 = i.val := (e2 (by show 1 * 3 + i.val = 3; omega)).trans (by omega)
  congr 1; funext a; apply Fin.ext
  match a with
  | ⟨0, _⟩ => show win0_3.index (pt 3 i) 0 * 8 + 1 * s.val = s.val; rw [e0]; omega
  | ⟨1, _⟩ => show win0_3.index (pt 3 i) 1 * 1 + 1 * 0 = 0; rw [e1]
  | ⟨2, _⟩ => show win0_3.index (pt 3 i) 2 * 32 + 1 * r.val = 32 * i.val + r.val; rw [e2']; omega
  | ⟨3, _⟩ => show win0_3.index (pt 3 i) 3 * 256 + 1 * l.val = l.val; rw [e3]; omega

/-- A slot's tile of the array, read back, is what its point wrote. -/
theorem arr_at (g : Fin 4) (i : Fin 1) (r : Fin 32) (l : Fin 256) :
    ((dats m 0 c).arrAt 4 cfg0.N : FVec Ideal S4x32x256 .f32) (ix3 g (row i r) l)
      = (outsAt0 m c (pt g i).val (pt g i).isLt : Vec Ideal S1x32x256 .f32) (ix3 (0 : Fin 1) r l) := by
  obtain ⟨-, -, -, -, ⟨e0, e1, e2⟩⟩ := idx (pt g i)
  have h := congrFun (blocks4 m c (pt g i) (flush0_4 _)) (ix3 (0 : Fin 1) r l)
  rw [View.read_apply, flushed4] at h
  have e0' : win0_4.index (pt g i) 0 = g.val := e0.trans (by show 1 * g.val + i.val = g.val; omega)
  have e1' : win0_4.index (pt g i) 1 = i.val := e1.trans (by omega)
  have he : ((cfg0.win 4).blk (pt g i)).view.emb (ix3 (0 : Fin 1) r l) = ix3 g (row i r) l := by
    funext a; apply Fin.ext
    match a with
    | ⟨0, _⟩ => show win0_4.index (pt g i) 0 * 1 + 1 * 0 = g.val; rw [e0']; omega
    | ⟨1, _⟩ => show win0_4.index (pt g i) 1 * 32 + 1 * r.val = 32 * i.val + r.val; rw [e1']; omega
    | ⟨2, _⟩ => show win0_4.index (pt g i) 2 * 256 + 1 * l.val = l.val; rw [e2]; omega
  rw [he] at h
  exact h

/-- Each slot, entry by entry. -/
theorem kernel0 (i : Fin 1) (r : Fin 32) (l : Fin 256) :
    ((dats m 0 c).arrAt 4 cfg0.N : FVec Ideal S4x32x256 .f32) (ix3 (0 : Fin 4) (row i r) l) = ∑ s : Fin 8, X0 m c (ix4 s (0 : Fin 1) (row i r) l) := by
  refine (arr_at m c 0 i r l).trans ((congrFun (outsAt0_A m c (pt 0 i) (show ((1*0+i.val) % 4 = 0) by omega) (show ¬((1*0+i.val) % 4 = 1) by omega) (show ¬((1*0+i.val) % 4 = 2) by omega) (show ¬((1*0+i.val) % 4 = 3) by omega)) (ix3 (0 : Fin 1) r l)).trans ?_)
  refine (outA c _ _ _ _ _ _ _ _ _ _ _ _ _ _ _ r l _ _ _ _).trans ?_
  exact Finset.sum_congr rfl fun s _ => blk0 m c i s r l

theorem kernel1 (i : Fin 1) (r : Fin 32) (l : Fin 256) :
    ((dats m 0 c).arrAt 4 cfg0.N : FVec Ideal S4x32x256 .f32) (ix3 (1 : Fin 4) (row i r) l) = ∑ s : Fin 8, X1 m c (ix4 s (0 : Fin 1) (row i r) l) := by
  refine (arr_at m c 1 i r l).trans ((congrFun (outsAt0_B m c (pt 1 i) (show ¬((1*1+i.val) % 4 = 0) by omega) (show ((1*1+i.val) % 4 = 1) by omega) (show ¬((1*1+i.val) % 4 = 2) by omega) (show ¬((1*1+i.val) % 4 = 3) by omega)) (ix3 (0 : Fin 1) r l)).trans ?_)
  refine (outB c _ _ _ _ _ _ _ _ _ _ _ _ _ _ _ r l _ _ _ _).trans ?_
  exact Finset.sum_congr rfl fun s _ => blk1 m c i s r l

theorem kernel2 (i : Fin 1) (r : Fin 32) (l : Fin 256) :
    ((dats m 0 c).arrAt 4 cfg0.N : FVec Ideal S4x32x256 .f32) (ix3 (2 : Fin 4) (row i r) l) = ∑ s : Fin 8, X2 m c (ix4 s (0 : Fin 1) (row i r) l) := by
  refine (arr_at m c 2 i r l).trans ((congrFun (outsAt0_C m c (pt 2 i) (show ¬((1*2+i.val) % 4 = 0) by omega) (show ¬((1*2+i.val) % 4 = 1) by omega) (show ((1*2+i.val) % 4 = 2) by omega) (show ¬((1*2+i.val) % 4 = 3) by omega)) (ix3 (0 : Fin 1) r l)).trans ?_)
  refine (outC c _ _ _ _ _ _ _ _ _ _ _ _ _ _ _ r l _ _ _ _).trans ?_
  exact Finset.sum_congr rfl fun s _ => blk2 m c i s r l

theorem kernel3 (i : Fin 1) (r : Fin 32) (l : Fin 256) :
    ((dats m 0 c).arrAt 4 cfg0.N : FVec Ideal S4x32x256 .f32) (ix3 (3 : Fin 4) (row i r) l) = ∑ s : Fin 8, X3 m c (ix4 s (0 : Fin 1) (row i r) l) := by
  refine (arr_at m c 3 i r l).trans ((congrFun (outsAt0_D m c (pt 3 i) (show ¬((1*3+i.val) % 4 = 0) by omega) (show ¬((1*3+i.val) % 4 = 1) by omega) (show ¬((1*3+i.val) % 4 = 2) by omega) (show ((1*3+i.val) % 4 = 3) by omega)) (ix3 (0 : Fin 1) r l)).trans ?_)
  refine (outD c _ _ _ _ _ _ _ _ _ _ _ _ _ _ _ r l _ _ _ _).trans ?_
  exact Finset.sum_congr rfl fun s _ => blk3 m c i s r l

section Ref
open Cert.Reference28Ideal.Read
variable (x0 x1 x2 x3 : FVec Ideal S8x1x32x256 .bf16) (t : Fin 32) (l : Fin 256)
theorem part0 : val_main_v1 (F := Ideal) x0 (ix3 (0 : Fin 1) t l) = ∑ s : Fin 8, x0 (ix4 s (0 : Fin 1) t l) := by
  unfold val_main_v1 val_main_v0
  pointwise
  rw [show (val_main_cst (F := Ideal) (Shape.Idx.first Cert.Reference28Ideal.Gen.h_S_) : EReal) = 0 from zero_eq, zero_add]
theorem part1 : val_main_v3 (F := Ideal) x1 (ix3 (0 : Fin 1) t l) = ∑ s : Fin 8, x1 (ix4 s (0 : Fin 1) t l) := by
  unfold val_main_v3 val_main_v2
  pointwise
  rw [show (val_main_cst_0 (F := Ideal) (Shape.Idx.first Cert.Reference28Ideal.Gen.h_S_) : EReal) = 0 from zero_eq, zero_add]
theorem part2 : val_main_v5 (F := Ideal) x2 (ix3 (0 : Fin 1) t l) = ∑ s : Fin 8, x2 (ix4 s (0 : Fin 1) t l) := by
  unfold val_main_v5 val_main_v4
  pointwise
  rw [show (val_main_cst_1 (F := Ideal) (Shape.Idx.first Cert.Reference28Ideal.Gen.h_S_) : EReal) = 0 from zero_eq, zero_add]
theorem part3 : val_main_v7 (F := Ideal) x3 (ix3 (0 : Fin 1) t l) = ∑ s : Fin 8, x3 (ix4 s (0 : Fin 1) t l) := by
  unfold val_main_v7 val_main_v6
  pointwise
  rw [show (val_main_cst_2 (F := Ideal) (Shape.Idx.first Cert.Reference28Ideal.Gen.h_S_) : EReal) = 0 from zero_eq, zero_add]
end Ref

theorem value_eq : Cert.Reference28Ideal.Read.val_main_v8 (F := Ideal) (X0 m c) (X1 m c) (X2 m c) (X3 m c)
    = (dats m 0 c).arrAt 4 cfg0.N := by
  refine funext fun (j : S4x32x256.Idx) => ?_
  obtain ⟨g, i, r, l, rfl⟩ : ∃ (g : Fin 4) (i : Fin 1) (r : Fin 32) (l : Fin 256), j = ix3 g (row i r) l := by
    have hj : (j 1).val < 32 := (j 1).isLt
    refine ⟨j 0, ⟨(j 1).val / 32, by omega⟩, ⟨(j 1).val % 32, by omega⟩, j 2, ?_⟩
    funext a; match a with
    | ⟨0, _⟩ => rfl
    | ⟨1, _⟩ => exact Fin.ext (by show (j 1).val = 32 * ((j 1).val / 32) + (j 1).val % 32; omega)
    | ⟨2, _⟩ => rfl
  match g with
  | 0 => exact (slot0 _ _ _ _ _ (row i r) l).trans ((part0 _ (row i r) l).trans (kernel0 m c i r l).symm)
  | 1 => exact (slot1 _ _ _ _ _ (row i r) l).trans ((part1 _ (row i r) l).trans (kernel1 m c i r l).symm)
  | 2 => exact (slot2 _ _ _ _ _ (row i r) l).trans ((part2 _ (row i r) l).trans (kernel2 m c i r l).symm)
  | 3 => exact (slot3 _ _ _ _ _ (row i r) l).trans ((part3 _ (row i r) l).trans (kernel3 m c i r l).symm)

/-! ## The claims -/

/-- The reference runs on the host alone: its run keeps the arguments, and it has no semaphore. -/
theorem frame_reference : Cert.quiescent_Reference28Ideal := fun m ρ _ =>
  (θ_run Cert.Reference28Ideal.defs _ _).mono (fun r h => ⟨fun c => (h c).2, Idealize.ShloMosaic.sem_eq_zero_of_no_sems (by decide) r.2⟩)
    (Cert.Reference28Ideal.Value.run (F := Ideal) m ρ)

/-- The kernel's array is the reference's: the four sums. -/
theorem algebraic : Cert.algebraic_Kernel28Ideal_Reference28Ideal := by
  intro m ρ m' ρ' hpre hagree
  refine ⟨fun c => (dats m 0 c).arrAt 4 cfg0.N, Cert.Kernel28Ideal.Value.run_blocks (F := Ideal) m ρ, ?_⟩
  refine (θ_run Cert.Reference28Ideal.defs _ _).mono (fun _ h c => ?_) (Cert.Reference28Ideal.Value.run (F := Ideal) m' ρ')
  obtain ⟨e0, e1, e2, e3⟩ := hagree c
  refine ⟨(h c).1.trans ((Cert.Reference28Ideal.Read.val_main_v8_eq _ _ _ _).trans ?_), (h c).2⟩
  rw [e0, e1, e2, e3]
  exact value_eq m c

end Cert.SumCv

end
-- ==== Proof.SumSmall.lean ====
/-
  The sum over the eight devices of the packed small parameters' gradients: the kernel takes its four inputs one after another,
  tile by tile of 256 rows, and writes their sums into four slots; the sums, layer by
  layer, are cut into the small parameters' gradients. The reference adds up each layer's parts and cuts the sums.
-/
module

public import proofs.«01_k».proof.Defs
public import proofs.«01_k».proof.Proof.Gen.Kernel29Ideal.Frame
public import proofs.«01_k».proof.Proof.Gen.Reference29Ideal.Read
public import proofs.«01_k».proof.Proof.Eight

@[expose] public section

set_option maxRecDepth 16384

noncomputable section

namespace Cert.SumSmall

open Idealize.ShloMosaic Idealize.SL.Sem Idealize.ShloMosaic.TcCoe Idealize.ShloMosaic.Tactic
open Cert.Kernel29Ideal Cert.Kernel29Ideal.Gen
open Cert.Eight (zero_eq hz tot tot_eq ld_at)

/-! ## What a point leaves -/

section Pay
variable (b0 b1 b2 b3 b4 b5 b6 b7 : Vec Ideal S1x1x256x128 .f32) (r : Fin 256) (l : Fin 128)
/-- The eight devices' entries added up, in each of the four cases. -/
theorem pay1_apply : k0_pay1 (F := Ideal) (k0_pay5 b0 b1 b2 b3 b4 b5 b6 b7) (ix3 (0 : Fin 1) r l)
    = tot b0 b1 b2 b3 b4 b5 b6 b7 r l := by
  unfold tot k0_pay1 k0_pay5
  pointwise
theorem pay2_apply : k0_pay2 (F := Ideal) (k0_pay6 b0 b1 b2 b3 b4 b5 b6 b7) (ix3 (0 : Fin 1) r l)
    = tot b0 b1 b2 b3 b4 b5 b6 b7 r l := by
  unfold tot k0_pay2 k0_pay6
  pointwise
theorem pay3_apply : k0_pay3 (F := Ideal) (k0_pay7 b0 b1 b2 b3 b4 b5 b6 b7) (ix3 (0 : Fin 1) r l)
    = tot b0 b1 b2 b3 b4 b5 b6 b7 r l := by
  unfold tot k0_pay3 k0_pay7
  pointwise
theorem pay4_apply : k0_pay4 (F := Ideal) (k0_pay8 b0 b1 b2 b3 b4 b5 b6 b7) (ix3 (0 : Fin 1) r l)
    = tot b0 b1 b2 b3 b4 b5 b6 b7 r l := by
  unfold tot k0_pay4 k0_pay8
  pointwise
end Pay

section Point
variable (c : Dev nD) (i : grid0.Coords) (arg2 : Memref sig .tc .vmem S8x1x256x128 .f32) (harg2 : arg2.IsWhole) (arg3 : Memref sig .tc .vmem S8x1x256x128 .f32) (harg3 : arg3.IsWhole) (arg4 : Memref sig .tc .vmem S8x1x256x128 .f32) (harg4 : arg4.IsWhole) (arg5 : Memref sig .tc .vmem S8x1x256x128 .f32) (harg5 : arg5.IsWhole)
  (arg6 : Memref sig .tc .vmem S1x256x128 .f32) (harg6 : arg6.IsWhole)
  (x0 x1 x2 x3 : Vec Ideal S8x1x256x128 .f32) (r : Fin 256) (l : Fin 128)

/-- Case 0: the sum of input 0's parts. -/
theorem outA (hc0 : cond0_0 i) (hc1 : ¬cond0_1 i) (hc2 : ¬cond0_2 i) (hc3 : ¬cond0_3 i) :
    out0_A_4 (F := Ideal) c i arg2 harg2 arg3 harg3 arg4 harg4 arg5 harg5 arg6 harg6 hc0 hc1 hc2 hc3 x0 x1 x2 x3 (ix3 (0 : Fin 1) r l) = ∑ s : Fin 8, x0 (ix4 s (0 : Fin 1) r l) := by
  unfold out0_A_4
  rw [View.read_writes_eq_canon _ _ _ (cover0_A_4 c i arg2 harg2 arg3 harg3 arg4 harg4 arg5 harg5 arg6 harg6 hc0 hc1 hc2 hc3 x0 x1 x2 x3)]
  unfold kernelRun0_A
  dsimp only
  sl_unfold_words
  rw [View.canon_unit_zero (S := S1x256x128) hz]
  simp only [View.readAt_eq_ld, harg2.read_unread, harg3.read_unread, harg4.read_unread, harg5.read_unread]
  rw [pay1_apply]
  exact tot_eq _ _ _ _ _ _ _ _ x0 r l (ld_at x0 0 _ r l) (ld_at x0 1 _ r l) (ld_at x0 2 _ r l) (ld_at x0 3 _ r l) (ld_at x0 4 _ r l) (ld_at x0 5 _ r l) (ld_at x0 6 _ r l) (ld_at x0 7 _ r l)

/-- Case 1: the sum of input 1's parts. -/
theorem outB (hc0 : ¬cond0_0 i) (hc1 : cond0_1 i) (hc2 : ¬cond0_2 i) (hc3 : ¬cond0_3 i) :
    out0_B_4 (F := Ideal) c i arg2 harg2 arg3 harg3 arg4 harg4 arg5 harg5 arg6 harg6 hc0 hc1 hc2 hc3 x0 x1 x2 x3 (ix3 (0 : Fin 1) r l) = ∑ s : Fin 8, x1 (ix4 s (0 : Fin 1) r l) := by
  unfold out0_B_4
  rw [View.read_writes_eq_canon _ _ _ (cover0_B_4 c i arg2 harg2 arg3 harg3 arg4 harg4 arg5 harg5 arg6 harg6 hc0 hc1 hc2 hc3 x0 x1 x2 x3)]
  unfold kernelRun0_B
  dsimp only
  sl_unfold_words
  rw [View.canon_unit_zero (S := S1x256x128) hz]
  simp only [View.readAt_eq_ld, harg2.read_unread, harg3.read_unread, harg4.read_unread, harg5.read_unread]
  rw [pay2_apply]
  exact tot_eq _ _ _ _ _ _ _ _ x1 r l (ld_at x1 0 _ r l) (ld_at x1 1 _ r l) (ld_at x1 2 _ r l) (ld_at x1 3 _ r l) (ld_at x1 4 _ r l) (ld_at x1 5 _ r l) (ld_at x1 6 _ r l) (ld_at x1 7 _ r l)

/-- Case 2: the sum of input 2's parts. -/
theorem outC (hc0 : ¬cond0_0 i) (hc1 : ¬cond0_1 i) (hc2 : cond0_2 i) (hc3 : ¬cond0_3 i) :
    out0_C_4 (F := Ideal) c i arg2 harg2 arg3 harg3 arg4 harg4 arg5 harg5 arg6 harg6 hc0 hc1 hc2 hc3 x0 x1 x2 x3 (ix3 (0 : Fin 1) r l) = ∑ s : Fin 8, x2 (ix4 s (0 : Fin 1) r l) := by
  unfold out0_C_4
  rw [View.read_writes_eq_canon _ _ _ (cover0_C_4 c i arg2 harg2 arg3 harg3 arg4 harg4 arg5 harg5 arg6 harg6 hc0 hc1 hc2 hc3 x0 x1 x2 x3)]
  unfold kernelRun0_C
  dsimp only
  sl_unfold_words
  rw [View.canon_unit_zero (S := S1x256x128) hz]
  simp only [View.readAt_eq_ld, harg2.read_unread, harg3.read_unread, harg4.read_unread, harg5.read_unread]
  rw [pay3_apply]
  exact tot_eq _ _ _ _ _ _ _ _ x2 r l (ld_at x2 0 _ r l) (ld_at x2 1 _ r l) (ld_at x2 2 _ r l) (ld_at x2 3 _ r l) (ld_at x2 4 _ r l) (ld_at x2 5 _ r l) (ld_at x2 6 _ r l) (ld_at x2 7 _ r l)

/-- Case 3: the sum of input 3's parts. -/
theorem outD (hc0 : ¬cond0_0 i) (hc1 : ¬cond0_1 i) (hc2 : ¬cond0_2 i) (hc3 : cond0_3 i) :
    out0_D_4 (F := Ideal) c i arg2 harg2 arg3 harg3 arg4 harg4 arg5 harg5 arg6 harg6 hc0 hc1 hc2 hc3 x0 x1 x2 x3 (ix3 (0 : Fin 1) r l) = ∑ s : Fin 8, x3 (ix4 s (0 : Fin 1) r l) := by
  unfold out0_D_4
  rw [View.read_writes_eq_canon _ _ _ (cover0_D_4 c i arg2 harg2 arg3 harg3 arg4 harg4 arg5 harg5 arg6 harg6 hc0 hc1 hc2 hc3 x0 x1 x2 x3)]
  unfold kernelRun0_D
  dsimp only
  sl_unfold_words
  rw [View.canon_unit_zero (S := S1x256x128) hz]
  simp only [View.readAt_eq_ld, harg2.read_unread, harg3.read_unread, harg4.read_unread, harg5.read_unread]
  rw [pay4_apply]
  exact tot_eq _ _ _ _ _ _ _ _ x3 r l (ld_at x3 0 _ r l) (ld_at x3 1 _ r l) (ld_at x3 2 _ r l) (ld_at x3 3 _ r l) (ld_at x3 4 _ r l) (ld_at x3 5 _ r l) (ld_at x3 6 _ r l) (ld_at x3 7 _ r l)

end Point

/-! ## The kernel's array -/

variable (m : (ℓ : Loc nD τ sig) → Buf (Elt Ideal) ℓ) (c : Dev nD)

/-- The arrays the kernel is given. -/
abbrev X0 : FVec Ideal S8x1x1024x128 .f32 := m ((c : Thread nD τ).loc main_arg0)
abbrev X1 : FVec Ideal S8x1x1024x128 .f32 := m ((c : Thread nD τ).loc main_arg1)
abbrev X2 : FVec Ideal S8x1x1024x128 .f32 := m ((c : Thread nD τ).loc main_arg2)
abbrev X3 : FVec Ideal S8x1x1024x128 .f32 := m ((c : Thread nD τ).loc main_arg3)
/-- The device's number. -/
abbrev X4 : (⟨S_, .i32⟩ : BufTy).Contents (Elt Ideal) := m ((c : Thread nD τ).loc main_arg4)

/-- The printed index maps, decided over the grid: slot by slot, each tile by tile. -/
theorem idx : ∀ t : Fin grid0.N, (win0_0.index t 0 = 0 ∧ win0_0.index t 1 = 0 ∧ (t.val / 4 = 0 → win0_0.index t 2 = t.val % 4) ∧ win0_0.index t 3 = 0) ∧ (win0_1.index t 0 = 0 ∧ win0_1.index t 1 = 0 ∧ (t.val / 4 = 1 → win0_1.index t 2 = t.val % 4) ∧ win0_1.index t 3 = 0) ∧ (win0_2.index t 0 = 0 ∧ win0_2.index t 1 = 0 ∧ (t.val / 4 = 2 → win0_2.index t 2 = t.val % 4) ∧ win0_2.index t 3 = 0) ∧ (win0_3.index t 0 = 0 ∧ win0_3.index t 1 = 0 ∧ (t.val / 4 = 3 → win0_3.index t 2 = t.val % 4) ∧ win0_3.index t 3 = 0)
    ∧ (win0_4.index t 0 = t.val / 4 ∧ win0_4.index t 1 = t.val % 4 ∧ win0_4.index t 2 = 0) := by
  decide +kernel

/-- The grid point of a slot's tile, and a tile's row as a row of the whole. -/
abbrev pt (g : Fin 4) (i : Fin 4) : Fin cfg0.N := ⟨4 * g.val + i.val, lt_of_lt_of_eq (by omega : 4 * g.val + i.val < 16) (show 16 = cfg0.N from N_0.symm)⟩
abbrev row (i : Fin 4) (r : Fin 256) : Fin 1024 := ⟨256 * i.val + r.val, by omega⟩

theorem blk0 (i : Fin 4) (s : Fin 8) (r : Fin 256) (l : Fin 128) :
    (iblk m c 0 (pt 0 i) : Vec Ideal S8x1x256x128 .f32) (ix4 s (0 : Fin 1) r l) = X0 m c (ix4 s (0 : Fin 1) (row i r) l) := by
  obtain ⟨⟨e0, e1, e2, e3⟩, -⟩ := idx (pt 0 i)
  unfold iblk
  rw [View.read_apply]
  show V m c main_arg0 _ = _
  rw [V_main_arg0]
  have e2' : win0_0.index (pt 0 i) 2 = i.val := (e2 (by show (4 * 0 + i.val) / 4 = 0; omega)).trans (by show (4 * 0 + i.val) % 4 = i.val; omega)
  congr 1; funext a; apply Fin.ext
  match a with
  | ⟨0, _⟩ => show win0_0.index (pt 0 i) 0 * 8 + 1 * s.val = s.val; rw [e0]; omega
  | ⟨1, _⟩ => show win0_0.index (pt 0 i) 1 * 1 + 1 * 0 = 0; rw [e1]
  | ⟨2, _⟩ => show win0_0.index (pt 0 i) 2 * 256 + 1 * r.val = 256 * i.val + r.val; rw [e2']; omega
  | ⟨3, _⟩ => show win0_0.index (pt 0 i) 3 * 128 + 1 * l.val = l.val; rw [e3]; omega

theorem blk1 (i : Fin 4) (s : Fin 8) (r : Fin 256) (l : Fin 128) :
    (iblk m c 1 (pt 1 i) : Vec Ideal S8x1x256x128 .f32) (ix4 s (0 : Fin 1) r l) = X1 m c (ix4 s (0 : Fin 1) (row i r) l) := by
  obtain ⟨-, ⟨e0, e1, e2, e3⟩, -⟩ := idx (pt 1 i)
  unfold iblk
  rw [View.read_apply]
  show V m c main_arg1 _ = _
  rw [V_main_arg1]
  have e2' : win0_1.index (pt 1 i) 2 = i.val := (e2 (by show (4 * 1 + i.val) / 4 = 1; omega)).trans (by show (4 * 1 + i.val) % 4 = i.val; omega)
  congr 1; funext a; apply Fin.ext
  match a with
  | ⟨0, _⟩ => show win0_1.index (pt 1 i) 0 * 8 + 1 * s.val = s.val; rw [e0]; omega
  | ⟨1, _⟩ => show win0_1.index (pt 1 i) 1 * 1 + 1 * 0 = 0; rw [e1]
  | ⟨2, _⟩ => show win0_1.index (pt 1 i) 2 * 256 + 1 * r.val = 256 * i.val + r.val; rw [e2']; omega
  | ⟨3, _⟩ => show win0_1.index (pt 1 i) 3 * 128 + 1 * l.val = l.val; rw [e3]; omega

theorem blk2 (i : Fin 4) (s : Fin 8) (r : Fin 256) (l : Fin 128) :
    (iblk m c 2 (pt 2 i) : Vec Ideal S8x1x256x128 .f32) (ix4 s (0 : Fin 1) r l) = X2 m c (ix4 s (0 : Fin 1) (row i r) l) := by
  obtain ⟨-, -, ⟨e0, e1, e2, e3⟩, -⟩ := idx (pt 2 i)
  unfold iblk
  rw [View.read_apply]
  show V m c main_arg2 _ = _
  rw [V_main_arg2]
  have e2' : win0_2.index (pt 2 i) 2 = i.val := (e2 (by show (4 * 2 + i.val) / 4 = 2; omega)).trans (by show (4 * 2 + i.val) % 4 = i.val; omega)
  congr 1; funext a; apply Fin.ext
  match a with
  | ⟨0, _⟩ => show win0_2.index (pt 2 i) 0 * 8 + 1 * s.val = s.val; rw [e0]; omega
  | ⟨1, _⟩ => show win0_2.index (pt 2 i) 1 * 1 + 1 * 0 = 0; rw [e1]
  | ⟨2, _⟩ => show win0_2.index (pt 2 i) 2 * 256 + 1 * r.val = 256 * i.val + r.val; rw [e2']; omega
  | ⟨3, _⟩ => show win0_2.index (pt 2 i) 3 * 128 + 1 * l.val = l.val; rw [e3]; omega

theorem blk3 (i : Fin 4) (s : Fin 8) (r : Fin 256) (l : Fin 128) :
    (iblk m c 3 (pt 3 i) : Vec Ideal S8x1x256x128 .f32) (ix4 s (0 : Fin 1) r l) = X3 m c (ix4 s (0 : Fin 1) (row i r) l) := by
  obtain ⟨-, -, -, ⟨e0, e1, e2, e3⟩, -⟩ := idx (pt 3 i)
  unfold iblk
  rw [View.read_apply]
  show V m c main_arg3 _ = _
  rw [V_main_arg3]
  have e2' : win0_3.index (pt 3 i) 2 = i.val := (e2 (by show (4 * 3 + i.val) / 4 = 3; omega)).trans (by show (4 * 3 + i.val) % 4 = i.val; omega)
  congr 1; funext a; apply Fin.ext
  match a with
  | ⟨0, _⟩ => show win0_3.index (pt 3 i) 0 * 8 + 1 * s.val = s.val; rw [e0]; omega
  | ⟨1, _⟩ => show win0_3.index (pt 3 i) 1 * 1 + 1 * 0 = 0; rw [e1]
  | ⟨2, _⟩ => show win0_3.index (pt 3 i) 2 * 256 + 1 * r.val = 256 * i.val + r.val; rw [e2']; omega
  | ⟨3, _⟩ => show win0_3.index (pt 3 i) 3 * 128 + 1 * l.val = l.val; rw [e3]; omega

/-- Two points write two tiles, so a tile, read back, is what its point wrote. -/
theorem inj4 : ∀ t t' : Fin grid0.N, win0_4.index t = win0_4.index t' → t = t' := by decide +kernel
theorem tile4 (t : Fin cfg0.N) : ((cfg0.win 4).blk t).view.read (Elt Ideal) ((dats m 0 c).arrAt 4 cfg0.N)
    = (cfg0.win 4).cut (grid0.coords t) (outsAt0 m c t.val t.isLt) := by
  refine ((dats m 0 c).read_blk_arrAt_eq_flushed 4 (fun s s' _ _ hne => (cfg0.win 4).disjoint_blk fun h => hne (inj4 s s' h)) cfg0.N t t.isLt (flush0_4 t)).trans ?_
  show (cfg0.win 4).cut (grid0.coords t) ((dats m 0 c).after 4 t) = _
  rw [after0_4]

/-- A slot's tile of the array, read back, is what its point wrote. -/
theorem arr_at (g : Fin 4) (i : Fin 4) (r : Fin 256) (l : Fin 128) :
    ((dats m 0 c).arrAt 4 cfg0.N : FVec Ideal S4x1024x128 .f32) (ix3 g (row i r) l)
      = (outsAt0 m c (pt g i).val (pt g i).isLt : Vec Ideal S1x256x128 .f32) (ix3 (0 : Fin 1) r l) := by
  obtain ⟨-, -, -, -, ⟨e0, e1, e2⟩⟩ := idx (pt g i)
  have h := congrFun (tile4 m c (pt g i)) (ix3 (0 : Fin 1) r l)
  rw [View.read_apply] at h
  have e0' : win0_4.index (pt g i) 0 = g.val := e0.trans (by show (4 * g.val + i.val) / 4 = g.val; omega)
  have e1' : win0_4.index (pt g i) 1 = i.val := e1.trans (by show (4 * g.val + i.val) % 4 = i.val; omega)
  have he : ((cfg0.win 4).blk (pt g i)).view.emb (ix3 (0 : Fin 1) r l) = ix3 g (row i r) l := by
    funext a; apply Fin.ext
    match a with
    | ⟨0, _⟩ => show win0_4.index (pt g i) 0 * 1 + 1 * 0 = g.val; rw [e0']; omega
    | ⟨1, _⟩ => show win0_4.index (pt g i) 1 * 256 + 1 * r.val = 256 * i.val + r.val; rw [e1']; omega
    | ⟨2, _⟩ => show win0_4.index (pt g i) 2 * 128 + 1 * l.val = l.val; rw [e2]; omega
  rw [he] at h
  exact h

/-- Each slot, entry by entry. -/
theorem kernel0 (i : Fin 4) (r : Fin 256) (l : Fin 128) :
    ((dats m 0 c).arrAt 4 cfg0.N : FVec Ideal S4x1024x128 .f32) (ix3 (0 : Fin 4) (row i r) l) = ∑ s : Fin 8, X0 m c (ix4 s (0 : Fin 1) (row i r) l) := by
  refine (arr_at m c 0 i r l).trans ((congrFun (outsAt0_A m c (pt 0 i) (show (4*0+i.val < 4) by omega) (show ¬((4*0+i.val) / 4 % 4 = 1) by omega) (show ¬((4*0+i.val) / 4 % 4 = 2) by omega) (show ¬(12 ≤ 4*0+i.val) by omega)) (ix3 (0 : Fin 1) r l)).trans ?_)
  refine (outA c _ _ _ _ _ _ _ _ _ _ _ _ _ _ _ r l _ _ _ _).trans ?_
  exact Finset.sum_congr rfl fun s _ => blk0 m c i s r l

theorem kernel1 (i : Fin 4) (r : Fin 256) (l : Fin 128) :
    ((dats m 0 c).arrAt 4 cfg0.N : FVec Ideal S4x1024x128 .f32) (ix3 (1 : Fin 4) (row i r) l) = ∑ s : Fin 8, X1 m c (ix4 s (0 : Fin 1) (row i r) l) := by
  refine (arr_at m c 1 i r l).trans ((congrFun (outsAt0_B m c (pt 1 i) (show ¬(4*1+i.val < 4) by omega) (show ((4*1+i.val) / 4 % 4 = 1) by omega) (show ¬((4*1+i.val) / 4 % 4 = 2) by omega) (show ¬(12 ≤ 4*1+i.val) by omega)) (ix3 (0 : Fin 1) r l)).trans ?_)
  refine (outB c _ _ _ _ _ _ _ _ _ _ _ _ _ _ _ r l _ _ _ _).trans ?_
  exact Finset.sum_congr rfl fun s _ => blk1 m c i s r l

theorem kernel2 (i : Fin 4) (r : Fin 256) (l : Fin 128) :
    ((dats m 0 c).arrAt 4 cfg0.N : FVec Ideal S4x1024x128 .f32) (ix3 (2 : Fin 4) (row i r) l) = ∑ s : Fin 8, X2 m c (ix4 s (0 : Fin 1) (row i r) l) := by
  refine (arr_at m c 2 i r l).trans ((congrFun (outsAt0_C m c (pt 2 i) (show ¬(4*2+i.val < 4) by omega) (show ¬((4*2+i.val) / 4 % 4 = 1) by omega) (show ((4*2+i.val) / 4 % 4 = 2) by omega) (show ¬(12 ≤ 4*2+i.val) by omega)) (ix3 (0 : Fin 1) r l)).trans ?_)
  refine (outC c _ _ _ _ _ _ _ _ _ _ _ _ _ _ _ r l _ _ _ _).trans ?_
  exact Finset.sum_congr rfl fun s _ => blk2 m c i s r l

theorem kernel3 (i : Fin 4) (r : Fin 256) (l : Fin 128) :
    ((dats m 0 c).arrAt 4 cfg0.N : FVec Ideal S4x1024x128 .f32) (ix3 (3 : Fin 4) (row i r) l) = ∑ s : Fin 8, X3 m c (ix4 s (0 : Fin 1) (row i r) l) := by
  refine (arr_at m c 3 i r l).trans ((congrFun (outsAt0_D m c (pt 3 i) (show ¬(4*3+i.val < 4) by omega) (show ¬((4*3+i.val) / 4 % 4 = 1) by omega) (show ¬((4*3+i.val) / 4 % 4 = 2) by omega) (show (12 ≤ 4*3+i.val) by omega)) (ix3 (0 : Fin 1) r l)).trans ?_)
  refine (outD c _ _ _ _ _ _ _ _ _ _ _ _ _ _ _ r l _ _ _ _).trans ?_
  exact Finset.sum_congr rfl fun s _ => blk3 m c i s r l

section Ref
open Cert.Reference29Ideal.Read
variable (x : FVec Ideal S8x1x1024x128 .f32) (t : Fin 1024) (l : Fin 128)
/-- The reference's sums, layer by layer. -/
theorem part0 : val_main_v0 (F := Ideal) x (ix3 (0 : Fin 1) t l) = ∑ s : Fin 8, x (ix4 s (0 : Fin 1) t l) := by
  unfold val_main_v0
  pointwise
  rw [show (val_main_cst (F := Ideal) (Shape.Idx.first Cert.Reference29Ideal.Gen.h_S_) : EReal) = 0 from zero_eq, zero_add]
theorem part1 : val_main_v2 (F := Ideal) x (ix3 (0 : Fin 1) t l) = ∑ s : Fin 8, x (ix4 s (0 : Fin 1) t l) := by
  unfold val_main_v2
  pointwise
  rw [show (val_main_cst_0 (F := Ideal) (Shape.Idx.first Cert.Reference29Ideal.Gen.h_S_) : EReal) = 0 from zero_eq, zero_add]
theorem part2 : val_main_v4 (F := Ideal) x (ix3 (0 : Fin 1) t l) = ∑ s : Fin 8, x (ix4 s (0 : Fin 1) t l) := by
  unfold val_main_v4
  pointwise
  rw [show (val_main_cst_1 (F := Ideal) (Shape.Idx.first Cert.Reference29Ideal.Gen.h_S_) : EReal) = 0 from zero_eq, zero_add]
theorem part3 : val_main_v6 (F := Ideal) x (ix3 (0 : Fin 1) t l) = ∑ s : Fin 8, x (ix4 s (0 : Fin 1) t l) := by
  unfold val_main_v6
  pointwise
  rw [show (val_main_cst_2 (F := Ideal) (Shape.Idx.first Cert.Reference29Ideal.Gen.h_S_) : EReal) = 0 from zero_eq, zero_add]
end Ref

theorem rows (j : S1x1024x128.Idx) : ∃ (i : Fin 4) (r : Fin 256) (l : Fin 128), j = ix3 (0 : Fin 1) (row i r) l := by
  have hj : (j 1).val < 1024 := (j 1).isLt
  refine ⟨⟨(j 1).val / 256, by omega⟩, ⟨(j 1).val % 256, by omega⟩, j 2, ?_⟩
  funext a; match a with
  | ⟨0, _⟩ => exact Subsingleton.elim (α := Fin 1) _ _
  | ⟨1, _⟩ => exact Fin.ext (by show (j 1).val = 256 * ((j 1).val / 256) + (j 1).val % 256; omega)
  | ⟨2, _⟩ => rfl

/-- A slot of the kernel's array, flattened, is the layer's sum, flattened. -/
theorem slot0 : (shapeCast S131072 (shapeCast S1024x128 (extractStridedSlice S1x1024x128 ![0, 0, 0] ((dats m 0 c).arrAt 4 cfg0.N : FVec Ideal S4x1024x128 .f32)
      slices_S4x1024x128_S1x1024x128_0_0_0) shapeCasts_S1x1024x128_S1024x128) shapeCasts_S1024x128_S131072 : FVec Ideal S131072 .f32)
    = Cert.Reference29Ideal.Read.val_main_v1 (F := Ideal) (X0 m c) := by
  rw [shapeCast_comp]
  unfold Cert.Reference29Ideal.Read.val_main_v1
  refine congrArg (fun y => shapeCast S131072 y _) (funext fun (j : S1x1024x128.Idx) => ?_)
  obtain ⟨i, r, l, rfl⟩ := rows j
  refine (extractStridedSlice_apply ![0, 0, 0] _ _ (ix3 (0 : Fin 1) (row i r) l) (ix3 (0 : Fin 4) (row i r) l) (fun a => match a with
    | ⟨0, _⟩ => rfl
    | ⟨1, _⟩ => (Nat.zero_add _).symm
    | ⟨2, _⟩ => (Nat.zero_add _).symm)).trans ?_
  exact (kernel0 m c i r l).trans (part0 _ (row i r) l).symm
theorem slot1 : (shapeCast S131072 (shapeCast S1024x128 (extractStridedSlice S1x1024x128 ![1, 0, 0] ((dats m 0 c).arrAt 4 cfg0.N : FVec Ideal S4x1024x128 .f32)
      slices_S4x1024x128_S1x1024x128_1_0_0) shapeCasts_S1x1024x128_S1024x128) shapeCasts_S1024x128_S131072 : FVec Ideal S131072 .f32)
    = Cert.Reference29Ideal.Read.val_main_v3 (F := Ideal) (X1 m c) := by
  rw [shapeCast_comp]
  unfold Cert.Reference29Ideal.Read.val_main_v3
  refine congrArg (fun y => shapeCast S131072 y _) (funext fun (j : S1x1024x128.Idx) => ?_)
  obtain ⟨i, r, l, rfl⟩ := rows j
  refine (extractStridedSlice_apply ![1, 0, 0] _ _ (ix3 (0 : Fin 1) (row i r) l) (ix3 (1 : Fin 4) (row i r) l) (fun a => match a with
    | ⟨0, _⟩ => rfl
    | ⟨1, _⟩ => (Nat.zero_add _).symm
    | ⟨2, _⟩ => (Nat.zero_add _).symm)).trans ?_
  exact (kernel1 m c i r l).trans (part1 _ (row i r) l).symm
theorem slot2 : (shapeCast S131072 (shapeCast S1024x128 (extractStridedSlice S1x1024x128 ![2, 0, 0] ((dats m 0 c).arrAt 4 cfg0.N : FVec Ideal S4x1024x128 .f32)
      slices_S4x1024x128_S1x1024x128_2_0_0) shapeCasts_S1x1024x128_S1024x128) shapeCasts_S1024x128_S131072 : FVec Ideal S131072 .f32)
    = Cert.Reference29Ideal.Read.val_main_v5 (F := Ideal) (X2 m c) := by
  rw [shapeCast_comp]
  unfold Cert.Reference29Ideal.Read.val_main_v5
  refine congrArg (fun y => shapeCast S131072 y _) (funext fun (j : S1x1024x128.Idx) => ?_)
  obtain ⟨i, r, l, rfl⟩ := rows j
  refine (extractStridedSlice_apply ![2, 0, 0] _ _ (ix3 (0 : Fin 1) (row i r) l) (ix3 (2 : Fin 4) (row i r) l) (fun a => match a with
    | ⟨0, _⟩ => rfl
    | ⟨1, _⟩ => (Nat.zero_add _).symm
    | ⟨2, _⟩ => (Nat.zero_add _).symm)).trans ?_
  exact (kernel2 m c i r l).trans (part2 _ (row i r) l).symm
theorem slot3 : (shapeCast S131072 (shapeCast S1024x128 (extractStridedSlice S1x1024x128 ![3, 0, 0] ((dats m 0 c).arrAt 4 cfg0.N : FVec Ideal S4x1024x128 .f32)
      slices_S4x1024x128_S1x1024x128_3_0_0) shapeCasts_S1x1024x128_S1024x128) shapeCasts_S1024x128_S131072 : FVec Ideal S131072 .f32)
    = Cert.Reference29Ideal.Read.val_main_v7 (F := Ideal) (X3 m c) := by
  rw [shapeCast_comp]
  unfold Cert.Reference29Ideal.Read.val_main_v7
  refine congrArg (fun y => shapeCast S131072 y _) (funext fun (j : S1x1024x128.Idx) => ?_)
  obtain ⟨i, r, l, rfl⟩ := rows j
  refine (extractStridedSlice_apply ![3, 0, 0] _ _ (ix3 (0 : Fin 1) (row i r) l) (ix3 (3 : Fin 4) (row i r) l) (fun a => match a with
    | ⟨0, _⟩ => rfl
    | ⟨1, _⟩ => (Nat.zero_add _).symm
    | ⟨2, _⟩ => (Nat.zero_add _).symm)).trans ?_
  exact (kernel3 m c i r l).trans (part3 _ (row i r) l).symm

/-! ## The gradients, each at its own shape -/

/-- The contents of every buffer when the region ends: its arrays as written, the rest as found. -/
abbrev ended : Valuation τ sig (Elt Ideal) :=
  Pipeline.withArrays (cfgs 0).spec c (V0 m c) fun w => (dats m 0 c).arrAt w (cfgs 0).N
theorem ended4 : ended m c (Proc.devRef .tc main_v0) = (dats m 0 c).arrAt 4 cfg0.N :=
  Pipeline.withArrays_arr spec0 (by decide) c (V0 m c) (fun w => (dats m 0 c).arrAt w (cfgs 0).N) 4

section Results
open Cert.Reference29Ideal.Read
set_option maxHeartbeats 4000000 in
theorem res0 : Pipeline.afterTail₀ cfgs (dats m) 0 (V0 m) [hostOps1] c main_v162 = val_main_v21 (F := Ideal) (X0 m c) (X1 m c) (X2 m c) (X3 m c) := by
  show StableHlo.after hostOps1 (ended m c) (Proc.devRef .tc main_v162) = _
  unfold val_main_v21 val_main_v20 val_main_v19 val_main_v18 val_main_v17 val_main_v16 val_main_v15 val_main_v14 val_main_v13 val_main_v12 val_main_v11 val_main_v10 val_main_v9 val_main_v8
  rw [← slot0 m c, ← slot1 m c, ← slot2 m c, ← slot3 m c, ← ended4 m c]
  generalize ended m c = W
  after_reads_simp
  rfl
set_option maxHeartbeats 4000000 in
theorem res1 : Pipeline.afterTail₀ cfgs (dats m) 0 (V0 m) [hostOps1] c main_v168 = val_main_v35 (F := Ideal) (X0 m c) (X1 m c) (X2 m c) (X3 m c) := by
  show StableHlo.after hostOps1 (ended m c) (Proc.devRef .tc main_v168) = _
  unfold val_main_v35 val_main_v34 val_main_v33 val_main_v32 val_main_v31 val_main_v30 val_main_v29 val_main_v28 val_main_v27 val_main_v26 val_main_v25 val_main_v24 val_main_v23 val_main_v22
  rw [← slot0 m c, ← slot1 m c, ← slot2 m c, ← slot3 m c, ← ended4 m c]
  generalize ended m c = W
  after_reads_simp
  rfl
set_option maxHeartbeats 4000000 in
theorem res2 : Pipeline.afterTail₀ cfgs (dats m) 0 (V0 m) [hostOps1] c main_v174 = val_main_v49 (F := Ideal) (X0 m c) (X1 m c) (X2 m c) (X3 m c) := by
  show StableHlo.after hostOps1 (ended m c) (Proc.devRef .tc main_v174) = _
  unfold val_main_v49 val_main_v48 val_main_v47 val_main_v46 val_main_v45 val_main_v44 val_main_v43 val_main_v42 val_main_v41 val_main_v40 val_main_v39 val_main_v38 val_main_v37 val_main_v36
  rw [← slot0 m c, ← slot1 m c, ← slot2 m c, ← slot3 m c, ← ended4 m c]
  generalize ended m c = W
  after_reads_simp
  rfl
set_option maxHeartbeats 4000000 in
theorem res3 : Pipeline.afterTail₀ cfgs (dats m) 0 (V0 m) [hostOps1] c main_v180 = val_main_v63 (F := Ideal) (X0 m c) (X1 m c) (X2 m c) (X3 m c) := by
  show StableHlo.after hostOps1 (ended m c) (Proc.devRef .tc main_v180) = _
  unfold val_main_v63 val_main_v62 val_main_v61 val_main_v60 val_main_v59 val_main_v58 val_main_v57 val_main_v56 val_main_v55 val_main_v54 val_main_v53 val_main_v52 val_main_v51 val_main_v50
  rw [← slot0 m c, ← slot1 m c, ← slot2 m c, ← slot3 m c, ← ended4 m c]
  generalize ended m c = W
  after_reads_simp
  rfl
set_option maxHeartbeats 4000000 in
theorem res4 : Pipeline.afterTail₀ cfgs (dats m) 0 (V0 m) [hostOps1] c main_v186 = val_main_v77 (F := Ideal) (X0 m c) (X1 m c) (X2 m c) (X3 m c) := by
  show StableHlo.after hostOps1 (ended m c) (Proc.devRef .tc main_v186) = _
  unfold val_main_v77 val_main_v76 val_main_v75 val_main_v74 val_main_v73 val_main_v72 val_main_v71 val_main_v70 val_main_v69 val_main_v68 val_main_v67 val_main_v66 val_main_v65 val_main_v64
  rw [← slot0 m c, ← slot1 m c, ← slot2 m c, ← slot3 m c, ← ended4 m c]
  generalize ended m c = W
  after_reads_simp
  rfl
set_option maxHeartbeats 4000000 in
theorem res5 : Pipeline.afterTail₀ cfgs (dats m) 0 (V0 m) [hostOps1] c main_v191 = val_main_v90 (F := Ideal) (X0 m c) (X1 m c) (X2 m c) (X3 m c) := by
  show StableHlo.after hostOps1 (ended m c) (Proc.devRef .tc main_v191) = _
  unfold val_main_v90 val_main_v89 val_main_v88 val_main_v87 val_main_v86 val_main_v85 val_main_v84 val_main_v83 val_main_v82 val_main_v81 val_main_v80 val_main_v79 val_main_v78
  rw [← slot0 m c, ← slot1 m c, ← slot2 m c, ← slot3 m c, ← ended4 m c]
  generalize ended m c = W
  after_reads_simp
  rfl
set_option maxHeartbeats 4000000 in
theorem res6 : Pipeline.afterTail₀ cfgs (dats m) 0 (V0 m) [hostOps1] c main_v196 = val_main_v103 (F := Ideal) (X0 m c) (X1 m c) (X2 m c) (X3 m c) := by
  show StableHlo.after hostOps1 (ended m c) (Proc.devRef .tc main_v196) = _
  unfold val_main_v103 val_main_v102 val_main_v101 val_main_v100 val_main_v99 val_main_v98 val_main_v97 val_main_v96 val_main_v95 val_main_v94 val_main_v93 val_main_v92 val_main_v91
  rw [← slot0 m c, ← slot1 m c, ← slot2 m c, ← slot3 m c, ← ended4 m c]
  generalize ended m c = W
  after_reads_simp
  rfl
set_option maxHeartbeats 4000000 in
theorem res7 : Pipeline.afterTail₀ cfgs (dats m) 0 (V0 m) [hostOps1] c main_v201 = val_main_v116 (F := Ideal) (X0 m c) (X1 m c) (X2 m c) (X3 m c) := by
  show StableHlo.after hostOps1 (ended m c) (Proc.devRef .tc main_v201) = _
  unfold val_main_v116 val_main_v115 val_main_v114 val_main_v113 val_main_v112 val_main_v111 val_main_v110 val_main_v109 val_main_v108 val_main_v107 val_main_v106 val_main_v105 val_main_v104
  rw [← slot0 m c, ← slot1 m c, ← slot2 m c, ← slot3 m c, ← ended4 m c]
  generalize ended m c = W
  after_reads_simp
  rfl
/-- The device's number when the region ends is the one given. -/
theorem ended_arg4 : ended m c (Proc.devRef .tc main_arg4) = X4 m c :=
  (Pipeline.withArrays_of_ne _ c (V0 m c) _ main_arg4 (by exact (by decide : ∀ w, Pipeline.arrRef spec0 w ≠ main_arg4))).trans (V_main_arg4 m c)
set_option maxHeartbeats 4000000 in
/-- The device's own columns of the eighth gradient. -/
theorem res7d : Pipeline.afterTail₀ cfgs (dats m) 0 (V0 m) [hostOps1] c main_v263 = val_main_v258 (F := Ideal) (X0 m c) (X1 m c) (X2 m c) (X3 m c) (X4 m c) := by
  show StableHlo.after hostOps1 (ended m c) (Proc.devRef .tc main_v263) = _
  unfold val_main_v258 val_main_v257 val_main_v256 val_main_v255 val_main_v254
  rw [← res7 m c, ← ended_arg4 m c]
  show _ = Host.dynamicSlice S4x31x32 (StableHlo.after hostOps1 (ended m c) (Proc.devRef .tc main_v201)) _ _
  generalize ended m c = W
  after_reads_simp [StableHlo.unaryIndexed_result_read, StableHlo.indexContents_cons, StableHlo.indexContents_empty]
  rfl
set_option maxHeartbeats 4000000 in
theorem res8 : Pipeline.afterTail₀ cfgs (dats m) 0 (V0 m) [hostOps1] c main_v207 = val_main_v130 (F := Ideal) (X0 m c) (X1 m c) (X2 m c) (X3 m c) := by
  show StableHlo.after hostOps1 (ended m c) (Proc.devRef .tc main_v207) = _
  unfold val_main_v130 val_main_v129 val_main_v128 val_main_v127 val_main_v126 val_main_v125 val_main_v124 val_main_v123 val_main_v122 val_main_v121 val_main_v120 val_main_v119 val_main_v118 val_main_v117
  rw [← slot0 m c, ← slot1 m c, ← slot2 m c, ← slot3 m c, ← ended4 m c]
  generalize ended m c = W
  after_reads_simp
  rfl
set_option maxHeartbeats 4000000 in
theorem res9 : Pipeline.afterTail₀ cfgs (dats m) 0 (V0 m) [hostOps1] c main_v213 = val_main_v144 (F := Ideal) (X0 m c) (X1 m c) (X2 m c) (X3 m c) := by
  show StableHlo.after hostOps1 (ended m c) (Proc.devRef .tc main_v213) = _
  unfold val_main_v144 val_main_v143 val_main_v142 val_main_v141 val_main_v140 val_main_v139 val_main_v138 val_main_v137 val_main_v136 val_main_v135 val_main_v134 val_main_v133 val_main_v132 val_main_v131
  rw [← slot0 m c, ← slot1 m c, ← slot2 m c, ← slot3 m c, ← ended4 m c]
  generalize ended m c = W
  after_reads_simp
  rfl
set_option maxHeartbeats 4000000 in
theorem res10 : Pipeline.afterTail₀ cfgs (dats m) 0 (V0 m) [hostOps1] c main_v219 = val_main_v158 (F := Ideal) (X0 m c) (X1 m c) (X2 m c) (X3 m c) := by
  show StableHlo.after hostOps1 (ended m c) (Proc.devRef .tc main_v219) = _
  unfold val_main_v158 val_main_v157 val_main_v156 val_main_v155 val_main_v154 val_main_v153 val_main_v152 val_main_v151 val_main_v150 val_main_v149 val_main_v148 val_main_v147 val_main_v146 val_main_v145
  rw [← slot0 m c, ← slot1 m c, ← slot2 m c, ← slot3 m c, ← ended4 m c]
  generalize ended m c = W
  after_reads_simp
  rfl
set_option maxHeartbeats 4000000 in
theorem res11 : Pipeline.afterTail₀ cfgs (dats m) 0 (V0 m) [hostOps1] c main_v225 = val_main_v172 (F := Ideal) (X0 m c) (X1 m c) (X2 m c) (X3 m c) := by
  show StableHlo.after hostOps1 (ended m c) (Proc.devRef .tc main_v225) = _
  unfold val_main_v172 val_main_v171 val_main_v170 val_main_v169 val_main_v168 val_main_v167 val_main_v166 val_main_v165 val_main_v164 val_main_v163 val_main_v162 val_main_v161 val_main_v160 val_main_v159
  rw [← slot0 m c, ← slot1 m c, ← slot2 m c, ← slot3 m c, ← ended4 m c]
  generalize ended m c = W
  after_reads_simp
  rfl
set_option maxHeartbeats 4000000 in
theorem res12 : Pipeline.afterTail₀ cfgs (dats m) 0 (V0 m) [hostOps1] c main_v231 = val_main_v186 (F := Ideal) (X0 m c) (X1 m c) (X2 m c) (X3 m c) := by
  show StableHlo.after hostOps1 (ended m c) (Proc.devRef .tc main_v231) = _
  unfold val_main_v186 val_main_v185 val_main_v184 val_main_v183 val_main_v182 val_main_v181 val_main_v180 val_main_v179 val_main_v178 val_main_v177 val_main_v176 val_main_v175 val_main_v174 val_main_v173
  rw [← slot0 m c, ← slot1 m c, ← slot2 m c, ← slot3 m c, ← ended4 m c]
  generalize ended m c = W
  after_reads_simp
  rfl
set_option maxHeartbeats 4000000 in
theorem res13 : Pipeline.afterTail₀ cfgs (dats m) 0 (V0 m) [hostOps1] c main_v237 = val_main_v200 (F := Ideal) (X0 m c) (X1 m c) (X2 m c) (X3 m c) := by
  show StableHlo.after hostOps1 (ended m c) (Proc.devRef .tc main_v237) = _
  unfold val_main_v200 val_main_v199 val_main_v198 val_main_v197 val_main_v196 val_main_v195 val_main_v194 val_main_v193 val_main_v192 val_main_v191 val_main_v190 val_main_v189 val_main_v188 val_main_v187
  rw [← slot0 m c, ← slot1 m c, ← slot2 m c, ← slot3 m c, ← ended4 m c]
  generalize ended m c = W
  after_reads_simp
  rfl
set_option maxHeartbeats 4000000 in
theorem res14 : Pipeline.afterTail₀ cfgs (dats m) 0 (V0 m) [hostOps1] c main_v242 = val_main_v213 (F := Ideal) (X0 m c) (X1 m c) (X2 m c) (X3 m c) := by
  show StableHlo.after hostOps1 (ended m c) (Proc.devRef .tc main_v242) = _
  unfold val_main_v213 val_main_v212 val_main_v211 val_main_v210 val_main_v209 val_main_v208 val_main_v207 val_main_v206 val_main_v205 val_main_v204 val_main_v203 val_main_v202 val_main_v201
  rw [← slot0 m c, ← slot1 m c, ← slot2 m c, ← slot3 m c, ← ended4 m c]
  generalize ended m c = W
  after_reads_simp
  rfl
set_option maxHeartbeats 4000000 in
theorem res15 : Pipeline.afterTail₀ cfgs (dats m) 0 (V0 m) [hostOps1] c main_v247 = val_main_v226 (F := Ideal) (X0 m c) (X1 m c) (X2 m c) (X3 m c) := by
  show StableHlo.after hostOps1 (ended m c) (Proc.devRef .tc main_v247) = _
  unfold val_main_v226 val_main_v225 val_main_v224 val_main_v223 val_main_v222 val_main_v221 val_main_v220 val_main_v219 val_main_v218 val_main_v217 val_main_v216 val_main_v215 val_main_v214
  rw [← slot0 m c, ← slot1 m c, ← slot2 m c, ← slot3 m c, ← ended4 m c]
  generalize ended m c = W
  after_reads_simp
  rfl
set_option maxHeartbeats 4000000 in
theorem res16 : Pipeline.afterTail₀ cfgs (dats m) 0 (V0 m) [hostOps1] c main_v252 = val_main_v239 (F := Ideal) (X0 m c) (X1 m c) (X2 m c) (X3 m c) := by
  show StableHlo.after hostOps1 (ended m c) (Proc.devRef .tc main_v252) = _
  unfold val_main_v239 val_main_v238 val_main_v237 val_main_v236 val_main_v235 val_main_v234 val_main_v233 val_main_v232 val_main_v231 val_main_v230 val_main_v229 val_main_v228 val_main_v227
  rw [← slot0 m c, ← slot1 m c, ← slot2 m c, ← slot3 m c, ← ended4 m c]
  generalize ended m c = W
  after_reads_simp
  rfl
set_option maxHeartbeats 4000000 in
theorem res17 : Pipeline.afterTail₀ cfgs (dats m) 0 (V0 m) [hostOps1] c main_v258 = val_main_v253 (F := Ideal) (X0 m c) (X1 m c) (X2 m c) (X3 m c) := by
  show StableHlo.after hostOps1 (ended m c) (Proc.devRef .tc main_v258) = _
  unfold val_main_v253 val_main_v252 val_main_v251 val_main_v250 val_main_v249 val_main_v248 val_main_v247 val_main_v246 val_main_v245 val_main_v244 val_main_v243 val_main_v242 val_main_v241 val_main_v240
  rw [← slot0 m c, ← slot1 m c, ← slot2 m c, ← slot3 m c, ← ended4 m c]
  generalize ended m c = W
  after_reads_simp
  rfl
end Results

/-! ## The claims -/

/-- The reference runs on the host alone: its run keeps the arguments, and it has no semaphore. -/
theorem frame_reference : Cert.quiescent_Reference29Ideal := fun m ρ _ =>
  (θ_run Cert.Reference29Ideal.defs _ _).mono (fun r h => ⟨fun c => (h c).2.2.2.2.2.2.2.2.2.2.2.2.2.2.2.2.2.2, Idealize.ShloMosaic.sem_eq_zero_of_no_sems (by decide) r.2⟩)
    (Cert.Reference29Ideal.Value.run (F := Ideal) m ρ)

section Last
open Cert.Reference29Ideal.Read
/-- The eighteen gradients are the reference's. -/
theorem algebraic : Cert.algebraic_Kernel29Ideal_Reference29Ideal := by
  intro m ρ m' ρ' hpre hagree
  refine ⟨fun c => val_main_v21 (F := Ideal) (X0 m c) (X1 m c) (X2 m c) (X3 m c),
    fun c => val_main_v35 (F := Ideal) (X0 m c) (X1 m c) (X2 m c) (X3 m c),
    fun c => val_main_v49 (F := Ideal) (X0 m c) (X1 m c) (X2 m c) (X3 m c),
    fun c => val_main_v63 (F := Ideal) (X0 m c) (X1 m c) (X2 m c) (X3 m c),
    fun c => val_main_v77 (F := Ideal) (X0 m c) (X1 m c) (X2 m c) (X3 m c),
    fun c => val_main_v90 (F := Ideal) (X0 m c) (X1 m c) (X2 m c) (X3 m c),
    fun c => val_main_v103 (F := Ideal) (X0 m c) (X1 m c) (X2 m c) (X3 m c),
    fun c => val_main_v258 (F := Ideal) (X0 m c) (X1 m c) (X2 m c) (X3 m c) (X4 m c),
    fun c => val_main_v130 (F := Ideal) (X0 m c) (X1 m c) (X2 m c) (X3 m c),
    fun c => val_main_v144 (F := Ideal) (X0 m c) (X1 m c) (X2 m c) (X3 m c),
    fun c => val_main_v158 (F := Ideal) (X0 m c) (X1 m c) (X2 m c) (X3 m c),
    fun c => val_main_v172 (F := Ideal) (X0 m c) (X1 m c) (X2 m c) (X3 m c),
    fun c => val_main_v186 (F := Ideal) (X0 m c) (X1 m c) (X2 m c) (X3 m c),
    fun c => val_main_v200 (F := Ideal) (X0 m c) (X1 m c) (X2 m c) (X3 m c),
    fun c => val_main_v213 (F := Ideal) (X0 m c) (X1 m c) (X2 m c) (X3 m c),
    fun c => val_main_v226 (F := Ideal) (X0 m c) (X1 m c) (X2 m c) (X3 m c),
    fun c => val_main_v239 (F := Ideal) (X0 m c) (X1 m c) (X2 m c) (X3 m c),
    fun c => val_main_v253 (F := Ideal) (X0 m c) (X1 m c) (X2 m c) (X3 m c), ?_, ?_⟩
  · refine (θ_run defs _ _).mono (fun r h c => ?_) (run_main (F := Ideal) m ρ)
    exact ⟨((h c).2 main_v162 (Pipeline.mem_restRefs_of main_v162 (by decide) (by decide))).trans (res0 m c),
      ((h c).2 main_v168 (Pipeline.mem_restRefs_of main_v168 (by decide) (by decide))).trans (res1 m c),
      ((h c).2 main_v174 (Pipeline.mem_restRefs_of main_v174 (by decide) (by decide))).trans (res2 m c),
      ((h c).2 main_v180 (Pipeline.mem_restRefs_of main_v180 (by decide) (by decide))).trans (res3 m c),
      ((h c).2 main_v186 (Pipeline.mem_restRefs_of main_v186 (by decide) (by decide))).trans (res4 m c),
      ((h c).2 main_v191 (Pipeline.mem_restRefs_of main_v191 (by decide) (by decide))).trans (res5 m c),
      ((h c).2 main_v196 (Pipeline.mem_restRefs_of main_v196 (by decide) (by decide))).trans (res6 m c),
      ((h c).2 main_v263 (Pipeline.mem_restRefs_of main_v263 (by decide) (by decide))).trans (res7d m c),
      ((h c).2 main_v207 (Pipeline.mem_restRefs_of main_v207 (by decide) (by decide))).trans (res8 m c),
      ((h c).2 main_v213 (Pipeline.mem_restRefs_of main_v213 (by decide) (by decide))).trans (res9 m c),
      ((h c).2 main_v219 (Pipeline.mem_restRefs_of main_v219 (by decide) (by decide))).trans (res10 m c),
      ((h c).2 main_v225 (Pipeline.mem_restRefs_of main_v225 (by decide) (by decide))).trans (res11 m c),
      ((h c).2 main_v231 (Pipeline.mem_restRefs_of main_v231 (by decide) (by decide))).trans (res12 m c),
      ((h c).2 main_v237 (Pipeline.mem_restRefs_of main_v237 (by decide) (by decide))).trans (res13 m c),
      ((h c).2 main_v242 (Pipeline.mem_restRefs_of main_v242 (by decide) (by decide))).trans (res14 m c),
      ((h c).2 main_v247 (Pipeline.mem_restRefs_of main_v247 (by decide) (by decide))).trans (res15 m c),
      ((h c).2 main_v252 (Pipeline.mem_restRefs_of main_v252 (by decide) (by decide))).trans (res16 m c),
      ((h c).2 main_v258 (Pipeline.mem_restRefs_of main_v258 (by decide) (by decide))).trans (res17 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩
  · refine (θ_run Cert.Reference29Ideal.defs _ _).mono (fun _ h c => ?_) (Cert.Reference29Ideal.Value.run (F := Ideal) m' ρ')
    have e : ∀ {α : Type} (f : FVec Ideal S8x1x1024x128 .f32 → FVec Ideal S8x1x1024x128 .f32 → FVec Ideal S8x1x1024x128 .f32 → FVec Ideal S8x1x1024x128 .f32 → α),
        f (StableHlo.launchContents m' c (Proc.devRef .tc Cert.Reference29Ideal.main_arg0)) (StableHlo.launchContents m' c (Proc.devRef .tc Cert.Reference29Ideal.main_arg1))
          (StableHlo.launchContents m' c (Proc.devRef .tc Cert.Reference29Ideal.main_arg2)) (StableHlo.launchContents m' c (Proc.devRef .tc Cert.Reference29Ideal.main_arg3))
        = f (X0 m c) (X1 m c) (X2 m c) (X3 m c) := fun f => by
      obtain ⟨e0, e1, e2, e3, -⟩ := hagree c
      rw [show StableHlo.launchContents m' c (Proc.devRef .tc Cert.Reference29Ideal.main_arg0) = X0 m c from e0,
        show StableHlo.launchContents m' c (Proc.devRef .tc Cert.Reference29Ideal.main_arg1) = X1 m c from e1,
        show StableHlo.launchContents m' c (Proc.devRef .tc Cert.Reference29Ideal.main_arg2) = X2 m c from e2,
        show StableHlo.launchContents m' c (Proc.devRef .tc Cert.Reference29Ideal.main_arg3) = X3 m c from e3]
    refine ⟨(h c).1.trans ((val_main_v21_eq (StableHlo.launchContents m' c)).trans (e (val_main_v21 (F := Ideal)))),
      (h c).2.1.trans ((val_main_v35_eq (StableHlo.launchContents m' c)).trans (e (val_main_v35 (F := Ideal)))),
      (h c).2.2.1.trans ((val_main_v49_eq (StableHlo.launchContents m' c)).trans (e (val_main_v49 (F := Ideal)))),
      (h c).2.2.2.1.trans ((val_main_v63_eq (StableHlo.launchContents m' c)).trans (e (val_main_v63 (F := Ideal)))),
      (h c).2.2.2.2.1.trans ((val_main_v77_eq (StableHlo.launchContents m' c)).trans (e (val_main_v77 (F := Ideal)))),
      (h c).2.2.2.2.2.1.trans ((val_main_v90_eq (StableHlo.launchContents m' c)).trans (e (val_main_v90 (F := Ideal)))),
      (h c).2.2.2.2.2.2.1.trans ((val_main_v103_eq (StableHlo.launchContents m' c)).trans (e (val_main_v103 (F := Ideal)))),
      (h c).2.2.2.2.2.2.2.1.trans ((val_main_v258_eq (StableHlo.launchContents m' c)).trans ((e (fun a b c' d => val_main_v258 (F := Ideal) a b c' d _)).trans
        (congrArg (val_main_v258 (F := Ideal) (X0 m c) (X1 m c) (X2 m c) (X3 m c)) (show StableHlo.launchContents m' c (Proc.devRef .tc Cert.Reference29Ideal.main_arg4) = X4 m c from (hagree c).2.2.2.2)))),
      (h c).2.2.2.2.2.2.2.2.1.trans ((val_main_v130_eq (StableHlo.launchContents m' c)).trans (e (val_main_v130 (F := Ideal)))),
      (h c).2.2.2.2.2.2.2.2.2.1.trans ((val_main_v144_eq (StableHlo.launchContents m' c)).trans (e (val_main_v144 (F := Ideal)))),
      (h c).2.2.2.2.2.2.2.2.2.2.1.trans ((val_main_v158_eq (StableHlo.launchContents m' c)).trans (e (val_main_v158 (F := Ideal)))),
      (h c).2.2.2.2.2.2.2.2.2.2.2.1.trans ((val_main_v172_eq (StableHlo.launchContents m' c)).trans (e (val_main_v172 (F := Ideal)))),
      (h c).2.2.2.2.2.2.2.2.2.2.2.2.1.trans ((val_main_v186_eq (StableHlo.launchContents m' c)).trans (e (val_main_v186 (F := Ideal)))),
      (h c).2.2.2.2.2.2.2.2.2.2.2.2.2.1.trans ((val_main_v200_eq (StableHlo.launchContents m' c)).trans (e (val_main_v200 (F := Ideal)))),
      (h c).2.2.2.2.2.2.2.2.2.2.2.2.2.2.1.trans ((val_main_v213_eq (StableHlo.launchContents m' c)).trans (e (val_main_v213 (F := Ideal)))),
      (h c).2.2.2.2.2.2.2.2.2.2.2.2.2.2.2.1.trans ((val_main_v226_eq (StableHlo.launchContents m' c)).trans (e (val_main_v226 (F := Ideal)))),
      (h c).2.2.2.2.2.2.2.2.2.2.2.2.2.2.2.2.1.trans ((val_main_v239_eq (StableHlo.launchContents m' c)).trans (e (val_main_v239 (F := Ideal)))),
      (h c).2.2.2.2.2.2.2.2.2.2.2.2.2.2.2.2.2.1.trans ((val_main_v253_eq (StableHlo.launchContents m' c)).trans (e (val_main_v253 (F := Ideal)))), (h c).2.2.2.2.2.2.2.2.2.2.2.2.2.2.2.2.2.2⟩
end Last

end Cert.SumSmall

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Join
public import proofs.«01_k».proof.Proof.DownDx
public import proofs.«01_k».proof.Proof.DownDw
public import proofs.«01_k».proof.Proof.GuDx
public import proofs.«01_k».proof.Proof.GuDw
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.InDx
public import proofs.«01_k».proof.Proof.Gen.Kernel6.Frame
public import proofs.«01_k».proof.Proof.Gen.Kernel6Ideal.Frame
public import proofs.«01_k».proof.Proof.InDw
public import proofs.«01_k».proof.Proof.Gen.Kernel7.Frame
public import proofs.«01_k».proof.Proof.Gen.Kernel7Ideal.Frame
public import proofs.«01_k».proof.Proof.OutDx
public import proofs.«01_k».proof.Proof.Gen.Kernel8.Frame
public import proofs.«01_k».proof.Proof.Gen.Kernel8Ideal.Frame
public import proofs.«01_k».proof.Proof.OutDw
public import proofs.«01_k».proof.Proof.Gen.Kernel9.Frame
public import proofs.«01_k».proof.Proof.Gen.Kernel9Ideal.Frame
public import proofs.«01_k».proof.Proof.UpFwd
public import proofs.«01_k».proof.Proof.Gen.Kernel10.Frame
public import proofs.«01_k».proof.Proof.Gen.Kernel10Ideal.Frame
public import proofs.«01_k».proof.Proof.DownFwd
public import proofs.«01_k».proof.Proof.Gen.Kernel11.Frame
public import proofs.«01_k».proof.Proof.Gen.Kernel11Ideal.Frame
public import proofs.«01_k».proof.Proof.InFwd
public import proofs.«01_k».proof.Proof.Gen.Kernel12.Frame
public import proofs.«01_k».proof.Proof.Gen.Kernel12Ideal.Frame
public import proofs.«01_k».proof.Proof.OutFwd
public import proofs.«01_k».proof.Proof.Gen.Kernel13.Frame
public import proofs.«01_k».proof.Proof.Gen.Kernel13Ideal.Frame
public import proofs.«01_k».proof.Proof.RmsPre
public import proofs.«01_k».proof.Proof.Gen.Kernel14.Frame
public import proofs.«01_k».proof.Proof.Gen.Kernel14Ideal.Frame
public import proofs.«01_k».proof.Proof.RmsPost
public import proofs.«01_k».proof.Proof.Gen.Kernel15.Frame
public import proofs.«01_k».proof.Proof.Gen.Kernel15Ideal.Frame
public import proofs.«01_k».proof.Proof.AdamGu
public import proofs.«01_k».proof.Proof.Gen.Kernel16.Frame
public import proofs.«01_k».proof.Proof.Gen.Kernel16Ideal.Frame
public import proofs.«01_k».proof.Proof.AdamDown
public import proofs.«01_k».proof.Proof.Gen.Kernel17.Frame
public import proofs.«01_k».proof.Proof.Gen.Kernel17Ideal.Frame
public import proofs.«01_k».proof.Proof.AdamIn
public import proofs.«01_k».proof.Proof.Gen.Kernel18.Frame
public import proofs.«01_k».proof.Proof.Gen.Kernel18Ideal.Frame
public import proofs.«01_k».proof.Proof.AdamOut
public import proofs.«01_k».proof.Proof.Gen.Kernel19.Frame
public import proofs.«01_k».proof.Proof.Gen.Kernel19Ideal.Frame
public import proofs.«01_k».proof.Proof.AdamCmp
public import proofs.«01_k».proof.Proof.Gen.Kernel20.Frame
public import proofs.«01_k».proof.Proof.Gen.Kernel20Ideal.Frame
public import proofs.«01_k».proof.Proof.AdamPw
public import proofs.«01_k».proof.Proof.Gen.Kernel21.Frame
public import proofs.«01_k».proof.Proof.Gen.Kernel21Ideal.Frame
public import proofs.«01_k».proof.Proof.AdamSmall
public import proofs.«01_k».proof.Proof.Gen.Kernel22.Frame
public import proofs.«01_k».proof.Proof.Gen.Kernel22Ideal.Frame
public import proofs.«01_k».proof.Proof.SumGu
public import proofs.«01_k».proof.Proof.Gen.Kernel23.Frame
public import proofs.«01_k».proof.Proof.Gen.Kernel23Ideal.Frame
public import proofs.«01_k».proof.Proof.SumDown
public import proofs.«01_k».proof.Proof.Gen.Kernel24.Frame
public import proofs.«01_k».proof.Proof.Gen.Kernel24Ideal.Frame
public import proofs.«01_k».proof.Proof.SumIn
public import proofs.«01_k».proof.Proof.Gen.Kernel25.Frame
public import proofs.«01_k».proof.Proof.Gen.Kernel25Ideal.Frame
public import proofs.«01_k».proof.Proof.SumOut
public import proofs.«01_k».proof.Proof.Gen.Kernel26.Frame
public import proofs.«01_k».proof.Proof.Gen.Kernel26Ideal.Frame
public import proofs.«01_k».proof.Proof.SumCmp
public import proofs.«01_k».proof.Proof.Gen.Kernel27.Frame
public import proofs.«01_k».proof.Proof.Gen.Kernel27Ideal.Frame
public import proofs.«01_k».proof.Proof.SumCv
public import proofs.«01_k».proof.Proof.Gen.Kernel28.Frame
public import proofs.«01_k».proof.Proof.Gen.Kernel28Ideal.Frame
public import proofs.«01_k».proof.Proof.SumSmall
public import proofs.«01_k».proof.Proof.Gen.Kernel29.Frame
public import proofs.«01_k».proof.Proof.Gen.Kernel29Ideal.Frame
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs on the host alone: its run keeps the arguments, and it has no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The masking constant is named −∞. -/
theorem preserves : Cert.preserves_Kernel_KernelIdeal :=
  IdealRules.named_const.statement Cert.KernelIdeal.κ "mask" .f32 0xF149F2CA#32 ⊥ rfl

theorem frame_reference_finite : Cert.quiescent_ReferenceIdeal_pre_finite := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel's three arrays are the reference's: the gradients of the queries, of the keys and of the values. -/
theorem algebraic : Cert.algebraic_KernelIdeal_ReferenceIdeal_pre_finite := by
  intro m ρ m' ρ' hpre hagree
  refine ⟨fun c => Cert.KernelIdeal.Value.G4 m c, fun c => Cert.KernelIdeal.Value.G5 m c, fun c => Cert.KernelIdeal.Value.G6 m c,
    Cert.KernelIdeal.Value.run (F := Ideal) m ρ, ?_⟩
  refine (θ_run Cert.ReferenceIdeal.defs _ _).mono (fun _ h c => ?_) (Cert.ReferenceIdeal.Value.run (F := Ideal) m' ρ')
  obtain ⟨e0, e1, e2, e3⟩ := hagree c
  obtain ⟨hq, hk⟩ := CmpGrad.pre_real _ _ _ _ (hpre c)
  refine ⟨(h c).1.trans ?_, (h c).2.1.trans ?_, (h c).2.2.1.trans ?_, (h c).2.2.2⟩
  · rw [Cert.ReferenceIdeal.Read.val_main_v82_eq, e0, e1, e2, e3]
    exact CmpGrad.dq_eq m c hq hk
  · rw [Cert.ReferenceIdeal.Read.val_main_v79_eq, e0, e1, e2, e3]
    exact CmpGrad.dk_eq m c hq hk
  · rw [Cert.ReferenceIdeal.Read.val_main_v78_eq, e0, e1, e3]
    exact CmpGrad.dv_eq m c hq hk

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, CmpGrad.pre_facts, DownDx.pre_facts,
  fun m ρ _ => Cert.Kernel.Gen.frame m ρ, fun m ρ _ => Cert.KernelIdeal.Gen.frame m ρ, fun m ρ _ => Cert.KernelIdeal.Gen.frame m ρ,
  frame_reference, frame_reference_finite,
  fun m ρ _ => Cert.Kernel2.Gen.frame m ρ, fun m ρ _ => Cert.Kernel2Ideal.Gen.frame m ρ, fun m ρ _ => Cert.Kernel2Ideal.Gen.frame m ρ,
  DownDx.frame_reference, DownDx.frame_reference_tame,
  fun m ρ _ => Cert.Kernel3.Gen.frame m ρ, fun m ρ _ => Cert.Kernel3Ideal.Gen.frame m ρ, DownDw.frame_reference,
  fun m ρ _ => Cert.Kernel4.Gen.frame m ρ, fun m ρ _ => Cert.Kernel4Ideal.Gen.frame m ρ, GuDx.frame_reference,
  fun m ρ _ => Cert.Kernel5.Gen.frame m ρ, fun m ρ _ => Cert.Kernel5Ideal.Gen.frame m ρ, GuDw.frame_reference,
  fun m ρ _ => Cert.Kernel6.Gen.frame m ρ, fun m ρ _ => Cert.Kernel6Ideal.Gen.frame m ρ, InDx.frame_reference,
  fun m ρ _ => Cert.Kernel7.Gen.frame m ρ, fun m ρ _ => Cert.Kernel7Ideal.Gen.frame m ρ, InDw.frame_reference,
  fun m ρ _ => Cert.Kernel8.Gen.frame m ρ, fun m ρ _ => Cert.Kernel8Ideal.Gen.frame m ρ, OutDx.frame_reference,
  fun m ρ _ => Cert.Kernel9.Gen.frame m ρ, fun m ρ _ => Cert.Kernel9Ideal.Gen.frame m ρ, OutDw.frame_reference,
  fun m ρ _ => Cert.Kernel10.Gen.frame m ρ, fun m ρ _ => Cert.Kernel10Ideal.Gen.frame m ρ, UpFwd.frame_reference,
  fun m ρ _ => Cert.Kernel11.Gen.frame m ρ, fun m ρ _ => Cert.Kernel11Ideal.Gen.frame m ρ, DownFwd.frame_reference,
  fun m ρ _ => Cert.Kernel12.Gen.frame m ρ, fun m ρ _ => Cert.Kernel12Ideal.Gen.frame m ρ, InFwd.frame_reference,
  fun m ρ _ => Cert.Kernel13.Gen.frame m ρ, fun m ρ _ => Cert.Kernel13Ideal.Gen.frame m ρ, OutFwd.frame_reference,
  fun m ρ _ => Cert.Kernel14.Gen.frame m ρ, fun m ρ _ => Cert.Kernel14Ideal.Gen.frame m ρ, RmsPre.frame_reference,
  fun m ρ _ => Cert.Kernel15.Gen.frame m ρ, fun m ρ _ => Cert.Kernel15Ideal.Gen.frame m ρ, RmsPost.frame_reference,
  fun m ρ _ => Cert.Kernel16.Gen.frame m ρ, fun m ρ _ => Cert.Kernel16Ideal.Gen.frame m ρ, AdamGu.frame_reference,
  fun m ρ _ => Cert.Kernel17.Gen.frame m ρ, fun m ρ _ => Cert.Kernel17Ideal.Gen.frame m ρ, AdamDown.frame_reference,
  fun m ρ _ => Cert.Kernel18.Gen.frame m ρ, fun m ρ _ => Cert.Kernel18Ideal.Gen.frame m ρ, AdamIn.frame_reference,
  fun m ρ _ => Cert.Kernel19.Gen.frame m ρ, fun m ρ _ => Cert.Kernel19Ideal.Gen.frame m ρ, AdamOut.frame_reference,
  fun m ρ _ => Cert.Kernel20.Gen.frame m ρ, fun m ρ _ => Cert.Kernel20Ideal.Gen.frame m ρ, AdamCmp.frame_reference,
  fun m ρ _ => Cert.Kernel21.Gen.frame m ρ, fun m ρ _ => Cert.Kernel21Ideal.Gen.frame m ρ, AdamPw.frame_reference,
  fun m ρ _ => Cert.Kernel22.Gen.frame m ρ, fun m ρ _ => Cert.Kernel22Ideal.Gen.frame m ρ, AdamSmall.frame_reference,
  fun m ρ _ => Cert.Kernel23.Gen.frame m ρ, fun m ρ _ => Cert.Kernel23Ideal.Gen.frame m ρ, SumGu.frame_reference,
  fun m ρ _ => Cert.Kernel24.Gen.frame m ρ, fun m ρ _ => Cert.Kernel24Ideal.Gen.frame m ρ, SumDown.frame_reference,
  fun m ρ _ => Cert.Kernel25.Gen.frame m ρ, fun m ρ _ => Cert.Kernel25Ideal.Gen.frame m ρ, SumIn.frame_reference,
  fun m ρ _ => Cert.Kernel26.Gen.frame m ρ, fun m ρ _ => Cert.Kernel26Ideal.Gen.frame m ρ, SumOut.frame_reference,
  fun m ρ _ => Cert.Kernel27.Gen.frame m ρ, fun m ρ _ => Cert.Kernel27Ideal.Gen.frame m ρ, SumCmp.frame_reference,
  fun m ρ _ => Cert.Kernel28.Gen.frame m ρ, fun m ρ _ => Cert.Kernel28Ideal.Gen.frame m ρ, SumCv.frame_reference,
  fun m ρ _ => Cert.Kernel29.Gen.frame m ρ, fun m ρ _ => Cert.Kernel29Ideal.Gen.frame m ρ, SumSmall.frame_reference,
  preserves, algebraic, trivial, DownDx.algebraic, trivial, DownDw.algebraic, trivial, GuDx.algebraic, trivial, GuDw.algebraic, trivial, InDx.algebraic, trivial, InDw.algebraic, trivial, OutDx.algebraic, trivial, OutDw.algebraic, trivial, UpFwd.algebraic, trivial, DownFwd.algebraic, trivial, InFwd.algebraic, trivial, OutFwd.algebraic, trivial, RmsPre.algebraic, trivial, RmsPost.algebraic, trivial, AdamGu.algebraic, trivial, AdamDown.algebraic, trivial, AdamIn.algebraic, trivial, AdamOut.algebraic, trivial, AdamCmp.algebraic, trivial, AdamPw.algebraic, trivial, AdamSmall.algebraic, trivial, SumGu.algebraic, trivial, SumDown.algebraic, trivial, SumIn.algebraic, trivial, SumOut.algebraic, trivial, SumCmp.algebraic, trivial, SumCv.algebraic, trivial, SumSmall.algebraic⟩

end Cert.Proof

end
